-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_Moe [hPre_tables_in_range : Cert.Pre_tables_in_range.Facts] (m : (ℓ : Loc Cert.Moe.nD Cert.Moe.τ Cert.Moe.sig) → Buf (Elt Bits) ℓ) : Prop :=
  ∀ c : Dev Cert.Moe.nD,
    (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7)) (m ((c.tc : Thread Cert.Moe.nD Cert.Moe.τ).loc Cert.Moe.main_arg8))).1 = (fun _ => 1#1)
    ∧ (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7)) (m ((c.tc : Thread Cert.Moe.nD Cert.Moe.τ).loc Cert.Moe.main_arg8))).2.1 = (fun _ => 1#1)
    ∧ (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7)) (m ((c.tc : Thread Cert.Moe.nD Cert.Moe.τ).loc Cert.Moe.main_arg8))).2.2 = (fun _ => 1#1)

def Pre_MoeIdeal [hPre_tables_in_range : Cert.Pre_tables_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8))).1 = (fun _ => 1#1)
    ∧ (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8))).2.1 = (fun _ => 1#1)
    ∧ (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8))).2.2 = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_tables_in_range [hPre_tables_in_range : Cert.Pre_tables_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_tables_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8))).1 = (fun _ => 1#1)
    ∧ (Cert.Pre_tables_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8))).2.1 = (fun _ => 1#1)
    ∧ (Cert.Pre_tables_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8))).2.2 = (fun _ => 1#1)

def Pre_Cmb [hPre_slots_in_range : Cert.Pre_slots_in_range.Facts] (m : (ℓ : Loc Cert.Cmb.nD Cert.Cmb.τ Cert.Cmb.sig) → Buf (Elt Bits) ℓ) : Prop :=
  ∀ c : Dev Cert.Cmb.nD,
    (Cert.Pre_slots_in_range.fn (F := Bits) (m ((c.tc : Thread Cert.Cmb.nD Cert.Cmb.τ).loc Cert.Cmb.main_arg0)) (m ((c.tc : Thread Cert.Cmb.nD Cert.Cmb.τ).loc Cert.Cmb.main_arg1)) (m ((c.tc : Thread Cert.Cmb.nD Cert.Cmb.τ).loc Cert.Cmb.main_arg2)) (m ((c.tc : Thread Cert.Cmb.nD Cert.Cmb.τ).loc Cert.Cmb.main_arg3)) (m ((c.tc : Thread Cert.Cmb.nD Cert.Cmb.τ).loc Cert.Cmb.main_arg4)) (m ((c.tc : Thread Cert.Cmb.nD Cert.Cmb.τ).loc Cert.Cmb.main_arg5)) (m ((c.tc : Thread Cert.Cmb.nD Cert.Cmb.τ).loc Cert.Cmb.main_arg6))) = (fun _ => 1#1)

def Pre_CmbIdeal [hPre_slots_in_range : Cert.Pre_slots_in_range.Facts] (m : (ℓ : Loc Cert.CmbIdeal.nD Cert.CmbIdeal.τ Cert.CmbIdeal.sig) → Buf (Elt Ideal) ℓ) : Prop :=
  ∀ c : Dev Cert.CmbIdeal.nD,
    (Cert.Pre_slots_in_range.fn (F := Ideal) (m ((c.tc : Thread Cert.CmbIdeal.nD Cert.CmbIdeal.τ).loc Cert.CmbIdeal.main_arg0)) (m ((c.tc : Thread Cert.CmbIdeal.nD Cert.CmbIdeal.τ).loc Cert.CmbIdeal.main_arg1)) (m ((c.tc : Thread Cert.CmbIdeal.nD Cert.CmbIdeal.τ).loc Cert.CmbIdeal.main_arg2)) (m ((c.tc : Thread Cert.CmbIdeal.nD Cert.CmbIdeal.τ).loc Cert.CmbIdeal.main_arg3)) (m ((c.tc : Thread Cert.CmbIdeal.nD Cert.CmbIdeal.τ).loc Cert.CmbIdeal.main_arg4)) (m ((c.tc : Thread Cert.CmbIdeal.nD Cert.CmbIdeal.τ).loc Cert.CmbIdeal.main_arg5)) (m ((c.tc : Thread Cert.CmbIdeal.nD Cert.CmbIdeal.τ).loc Cert.CmbIdeal.main_arg6))) = (fun _ => 1#1)

def Pre_CmbRefIdeal (m : (ℓ : Loc Cert.CmbRefIdeal.nD Cert.CmbRefIdeal.τ Cert.CmbRefIdeal.sig) → Buf (Elt Ideal) ℓ) : Prop :=
  True

def Pre_CmbRefIdeal_slots_in_range [hPre_slots_in_range : Cert.Pre_slots_in_range.Facts] (m : (ℓ : Loc Cert.CmbRefIdeal.nD Cert.CmbRefIdeal.τ Cert.CmbRefIdeal.sig) → Buf (Elt Ideal) ℓ) : Prop :=
  ∀ c : Dev Cert.CmbRefIdeal.nD,
    (Cert.Pre_slots_in_range.fn (F := Ideal) (m ((c.tc : Thread Cert.CmbRefIdeal.nD Cert.CmbRefIdeal.τ).loc Cert.CmbRefIdeal.main_arg0)) (m ((c.tc : Thread Cert.CmbRefIdeal.nD Cert.CmbRefIdeal.τ).loc Cert.CmbRefIdeal.main_arg1)) (m ((c.tc : Thread Cert.CmbRefIdeal.nD Cert.CmbRefIdeal.τ).loc Cert.CmbRefIdeal.main_arg2)) (m ((c.tc : Thread Cert.CmbRefIdeal.nD Cert.CmbRefIdeal.τ).loc Cert.CmbRefIdeal.main_arg3)) (m ((c.tc : Thread Cert.CmbRefIdeal.nD Cert.CmbRefIdeal.τ).loc Cert.CmbRefIdeal.main_arg4)) (m ((c.tc : Thread Cert.CmbRefIdeal.nD Cert.CmbRefIdeal.τ).loc Cert.CmbRefIdeal.main_arg5)) (m ((c.tc : Thread Cert.CmbRefIdeal.nD Cert.CmbRefIdeal.τ).loc Cert.CmbRefIdeal.main_arg6))) = (fun _ => 1#1)

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3))
      ∧ r.2.sem = fun _ => 0)

def quiescent_Moe [hMoe : Cert.Moe.Facts] [hPre_tables_in_range : Cert.Pre_tables_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8))
      ∧ r.2.sem = fun _ => 0)

def quiescent_MoeIdeal [hMoeIdeal : Cert.MoeIdeal.Facts] [hPre_tables_in_range : Cert.Pre_tables_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
      ∧ r.2.sem = fun _ => 0)

def quiescent_MoeRefIdeal_pre_tables_in_range [hMoeRefIdeal : Cert.MoeRefIdeal.Facts] [hPre_tables_in_range : Cert.Pre_tables_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_tables_in_range m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
      ∧ r.2.sem = fun _ => 0)

def quiescent_Cmb [hCmb : Cert.Cmb.Facts] [hPre_slots_in_range : Cert.Pre_slots_in_range.Facts] : Prop :=
  ∀ (m : (ℓ : Loc Cert.Cmb.nD Cert.Cmb.τ Cert.Cmb.sig) → Buf (Elt Bits) ℓ) (g : Dev Cert.Cmb.nD → PrngReg), Pre_Cmb m →
    θ_run (Cert.Cmb.defs (F := Bits)) (onTc (τ := Cert.Cmb.τ) (Cert.Cmb.main (F := Bits))) ⟨m, fun _ => 0, g⟩ (fun r => (∀ c : Dev Cert.Cmb.nD,
      r.2.mem ((c.tc : Thread Cert.Cmb.nD Cert.Cmb.τ).loc Cert.Cmb.main_arg0) = m ((c.tc : Thread Cert.Cmb.nD Cert.Cmb.τ).loc Cert.Cmb.main_arg0)
      ∧ r.2.mem ((c.tc : Thread Cert.Cmb.nD Cert.Cmb.τ).loc Cert.Cmb.main_arg1) = m ((c.tc : Thread Cert.Cmb.nD Cert.Cmb.τ).loc Cert.Cmb.main_arg1)
      ∧ r.2.mem ((c.tc : Thread Cert.Cmb.nD Cert.Cmb.τ).loc Cert.Cmb.main_arg2) = m ((c.tc : Thread Cert.Cmb.nD Cert.Cmb.τ).loc Cert.Cmb.main_arg2)
      ∧ r.2.mem ((c.tc : Thread Cert.Cmb.nD Cert.Cmb.τ).loc Cert.Cmb.main_arg3) = m ((c.tc : Thread Cert.Cmb.nD Cert.Cmb.τ).loc Cert.Cmb.main_arg3)
      ∧ r.2.mem ((c.tc : Thread Cert.Cmb.nD Cert.Cmb.τ).loc Cert.Cmb.main_arg4) = m ((c.tc : Thread Cert.Cmb.nD Cert.Cmb.τ).loc Cert.Cmb.main_arg4)
      ∧ r.2.mem ((c.tc : Thread Cert.Cmb.nD Cert.Cmb.τ).loc Cert.Cmb.main_arg5) = m ((c.tc : Thread Cert.Cmb.nD Cert.Cmb.τ).loc Cert.Cmb.main_arg5)
      ∧ r.2.mem ((c.tc : Thread Cert.Cmb.nD Cert.Cmb.τ).loc Cert.Cmb.main_arg6) = m ((c.tc : Thread Cert.Cmb.nD Cert.Cmb.τ).loc Cert.Cmb.main_arg6))
      ∧ r.2.sem = fun _ => 0)

def quiescent_CmbIdeal [hCmbIdeal : Cert.CmbIdeal.Facts] [hPre_slots_in_range : Cert.Pre_slots_in_range.Facts] : Prop :=
  ∀ (m : (ℓ : Loc Cert.CmbIdeal.nD Cert.CmbIdeal.τ Cert.CmbIdeal.sig) → Buf (Elt Ideal) ℓ) (g : Dev Cert.CmbIdeal.nD → PrngReg), Pre_CmbIdeal m →
    θ_run (Cert.CmbIdeal.defs (F := Ideal)) (onTc (τ := Cert.CmbIdeal.τ) (Cert.CmbIdeal.main (F := Ideal))) ⟨m, fun _ => 0, g⟩ (fun r => (∀ c : Dev Cert.CmbIdeal.nD,
      r.2.mem ((c.tc : Thread Cert.CmbIdeal.nD Cert.CmbIdeal.τ).loc Cert.CmbIdeal.main_arg0) = m ((c.tc : Thread Cert.CmbIdeal.nD Cert.CmbIdeal.τ).loc Cert.CmbIdeal.main_arg0)
      ∧ r.2.mem ((c.tc : Thread Cert.CmbIdeal.nD Cert.CmbIdeal.τ).loc Cert.CmbIdeal.main_arg1) = m ((c.tc : Thread Cert.CmbIdeal.nD Cert.CmbIdeal.τ).loc Cert.CmbIdeal.main_arg1)
      ∧ r.2.mem ((c.tc : Thread Cert.CmbIdeal.nD Cert.CmbIdeal.τ).loc Cert.CmbIdeal.main_arg2) = m ((c.tc : Thread Cert.CmbIdeal.nD Cert.CmbIdeal.τ).loc Cert.CmbIdeal.main_arg2)
      ∧ r.2.mem ((c.tc : Thread Cert.CmbIdeal.nD Cert.CmbIdeal.τ).loc Cert.CmbIdeal.main_arg3) = m ((c.tc : Thread Cert.CmbIdeal.nD Cert.CmbIdeal.τ).loc Cert.CmbIdeal.main_arg3)
      ∧ r.2.mem ((c.tc : Thread Cert.CmbIdeal.nD Cert.CmbIdeal.τ).loc Cert.CmbIdeal.main_arg4) = m ((c.tc : Thread Cert.CmbIdeal.nD Cert.CmbIdeal.τ).loc Cert.CmbIdeal.main_arg4)
      ∧ r.2.mem ((c.tc : Thread Cert.CmbIdeal.nD Cert.CmbIdeal.τ).loc Cert.CmbIdeal.main_arg5) = m ((c.tc : Thread Cert.CmbIdeal.nD Cert.CmbIdeal.τ).loc Cert.CmbIdeal.main_arg5)
      ∧ r.2.mem ((c.tc : Thread Cert.CmbIdeal.nD Cert.CmbIdeal.τ).loc Cert.CmbIdeal.main_arg6) = m ((c.tc : Thread Cert.CmbIdeal.nD Cert.CmbIdeal.τ).loc Cert.CmbIdeal.main_arg6))
      ∧ r.2.sem = fun _ => 0)

def quiescent_CmbRefIdeal [hCmbRefIdeal : Cert.CmbRefIdeal.Facts] : Prop :=
  ∀ (m : (ℓ : Loc Cert.CmbRefIdeal.nD Cert.CmbRefIdeal.τ Cert.CmbRefIdeal.sig) → Buf (Elt Ideal) ℓ) (g : Dev Cert.CmbRefIdeal.nD → PrngReg), Pre_CmbRefIdeal m →
    θ_run (Cert.CmbRefIdeal.defs (F := Ideal)) (onTc (τ := Cert.CmbRefIdeal.τ) (Cert.CmbRefIdeal.main (F := Ideal))) ⟨m, fun _ => 0, g⟩ (fun r => (∀ c : Dev Cert.CmbRefIdeal.nD,
      r.2.mem ((c.tc : Thread Cert.CmbRefIdeal.nD Cert.CmbRefIdeal.τ).loc Cert.CmbRefIdeal.main_arg0) = m ((c.tc : Thread Cert.CmbRefIdeal.nD Cert.CmbRefIdeal.τ).loc Cert.CmbRefIdeal.main_arg0)
      ∧ r.2.mem ((c.tc : Thread Cert.CmbRefIdeal.nD Cert.CmbRefIdeal.τ).loc Cert.CmbRefIdeal.main_arg1) = m ((c.tc : Thread Cert.CmbRefIdeal.nD Cert.CmbRefIdeal.τ).loc Cert.CmbRefIdeal.main_arg1)
      ∧ r.2.mem ((c.tc : Thread Cert.CmbRefIdeal.nD Cert.CmbRefIdeal.τ).loc Cert.CmbRefIdeal.main_arg2) = m ((c.tc : Thread Cert.CmbRefIdeal.nD Cert.CmbRefIdeal.τ).loc Cert.CmbRefIdeal.main_arg2)
      ∧ r.2.mem ((c.tc : Thread Cert.CmbRefIdeal.nD Cert.CmbRefIdeal.τ).loc Cert.CmbRefIdeal.main_arg3) = m ((c.tc : Thread Cert.CmbRefIdeal.nD Cert.CmbRefIdeal.τ).loc Cert.CmbRefIdeal.main_arg3)
      ∧ r.2.mem ((c.tc : Thread Cert.CmbRefIdeal.nD Cert.CmbRefIdeal.τ).loc Cert.CmbRefIdeal.main_arg4) = m ((c.tc : Thread Cert.CmbRefIdeal.nD Cert.CmbRefIdeal.τ).loc Cert.CmbRefIdeal.main_arg4)
      ∧ r.2.mem ((c.tc : Thread Cert.CmbRefIdeal.nD Cert.CmbRefIdeal.τ).loc Cert.CmbRefIdeal.main_arg5) = m ((c.tc : Thread Cert.CmbRefIdeal.nD Cert.CmbRefIdeal.τ).loc Cert.CmbRefIdeal.main_arg5)
      ∧ r.2.mem ((c.tc : Thread Cert.CmbRefIdeal.nD Cert.CmbRefIdeal.τ).loc Cert.CmbRefIdeal.main_arg6) = m ((c.tc : Thread Cert.CmbRefIdeal.nD Cert.CmbRefIdeal.τ).loc Cert.CmbRefIdeal.main_arg6))
      ∧ r.2.sem = fun _ => 0)

def quiescent_CmbRefIdeal_pre_slots_in_range [hCmbRefIdeal : Cert.CmbRefIdeal.Facts] [hPre_slots_in_range : Cert.Pre_slots_in_range.Facts] : Prop :=
  ∀ (m : (ℓ : Loc Cert.CmbRefIdeal.nD Cert.CmbRefIdeal.τ Cert.CmbRefIdeal.sig) → Buf (Elt Ideal) ℓ) (g : Dev Cert.CmbRefIdeal.nD → PrngReg), Pre_CmbRefIdeal_slots_in_range m →
    θ_run (Cert.CmbRefIdeal.defs (F := Ideal)) (onTc (τ := Cert.CmbRefIdeal.τ) (Cert.CmbRefIdeal.main (F := Ideal))) ⟨m, fun _ => 0, g⟩ (fun r => (∀ c : Dev Cert.CmbRefIdeal.nD,
      r.2.mem ((c.tc : Thread Cert.CmbRefIdeal.nD Cert.CmbRefIdeal.τ).loc Cert.CmbRefIdeal.main_arg0) = m ((c.tc : Thread Cert.CmbRefIdeal.nD Cert.CmbRefIdeal.τ).loc Cert.CmbRefIdeal.main_arg0)
      ∧ r.2.mem ((c.tc : Thread Cert.CmbRefIdeal.nD Cert.CmbRefIdeal.τ).loc Cert.CmbRefIdeal.main_arg1) = m ((c.tc : Thread Cert.CmbRefIdeal.nD Cert.CmbRefIdeal.τ).loc Cert.CmbRefIdeal.main_arg1)
      ∧ r.2.mem ((c.tc : Thread Cert.CmbRefIdeal.nD Cert.CmbRefIdeal.τ).loc Cert.CmbRefIdeal.main_arg2) = m ((c.tc : Thread Cert.CmbRefIdeal.nD Cert.CmbRefIdeal.τ).loc Cert.CmbRefIdeal.main_arg2)
      ∧ r.2.mem ((c.tc : Thread Cert.CmbRefIdeal.nD Cert.CmbRefIdeal.τ).loc Cert.CmbRefIdeal.main_arg3) = m ((c.tc : Thread Cert.CmbRefIdeal.nD Cert.CmbRefIdeal.τ).loc Cert.CmbRefIdeal.main_arg3)
      ∧ r.2.mem ((c.tc : Thread Cert.CmbRefIdeal.nD Cert.CmbRefIdeal.τ).loc Cert.CmbRefIdeal.main_arg4) = m ((c.tc : Thread Cert.CmbRefIdeal.nD Cert.CmbRefIdeal.τ).loc Cert.CmbRefIdeal.main_arg4)
      ∧ r.2.mem ((c.tc : Thread Cert.CmbRefIdeal.nD Cert.CmbRefIdeal.τ).loc Cert.CmbRefIdeal.main_arg5) = m ((c.tc : Thread Cert.CmbRefIdeal.nD Cert.CmbRefIdeal.τ).loc Cert.CmbRefIdeal.main_arg5)
      ∧ r.2.mem ((c.tc : Thread Cert.CmbRefIdeal.nD Cert.CmbRefIdeal.τ).loc Cert.CmbRefIdeal.main_arg6) = m ((c.tc : Thread Cert.CmbRefIdeal.nD Cert.CmbRefIdeal.τ).loc Cert.CmbRefIdeal.main_arg6))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5))
      ∧ r.2.sem = fun _ => 0)

def preserves_Ret_RetIdeal : Prop :=
  IdealRules.named_const.Statement Cert.RetIdeal.κ "lg0" .f32 0xBD020AEC#32 ((Real.log (31 / 32) : ℝ) : EReal)
  ∧ IdealRules.named_const.Statement Cert.RetIdeal.κ "decay0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.RetIdeal.κ "lg1" .f32 0xBC8102B3#32 ((Real.log (63 / 64) : ℝ) : EReal)
  ∧ IdealRules.named_const.Statement Cert.RetIdeal.κ "decay1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.RetIdeal.κ "lg2" .f32 0xBC0080AC#32 ((Real.log (127 / 128) : ℝ) : EReal)
  ∧ IdealRules.named_const.Statement Cert.RetIdeal.κ "decay2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.RetIdeal.κ "lg3" .f32 0xBB80402B#32 ((Real.log (255 / 256) : ℝ) : EReal)
  ∧ IdealRules.named_const.Statement Cert.RetIdeal.κ "decay3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)) →
    ∃ (v0 : (c : Dev Cert.RetIdeal.nD) → Buf (Elt Ideal) ((c.tc : Thread Cert.RetIdeal.nD Cert.RetIdeal.τ).loc Cert.RetIdeal.main_v1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v1) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v87) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)) →
    ∃ (v0 : (c : Dev Cert.InOddIdeal.nD) → Buf (Elt Ideal) ((c.tc : Thread Cert.InOddIdeal.nD Cert.InOddIdeal.τ).loc Cert.InOddIdeal.main_v2)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v2) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v14) = v0 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)) →
    ∃ (v0 : (c : Dev Cert.InEvenIdeal.nD) → Buf (Elt Ideal) ((c.tc : Thread Cert.InEvenIdeal.nD Cert.InEvenIdeal.τ).loc Cert.InEvenIdeal.main_v2)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v2) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v14) = v0 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2))

def preserves_OutOdd_OutOddIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)) →
    ∃ (v0 : (c : Dev Cert.OutOddIdeal.nD) → Buf (Elt Ideal) ((c.tc : Thread Cert.OutOddIdeal.nD Cert.OutOddIdeal.τ).loc Cert.OutOddIdeal.main_v1)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v1) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v2) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)) →
    ∃ (v0 : (c : Dev Cert.OutEvenIdeal.nD) → Buf (Elt Ideal) ((c.tc : Thread Cert.OutEvenIdeal.nD Cert.OutEvenIdeal.τ).loc Cert.OutEvenIdeal.main_v4)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v4) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v4) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3))

def preserves_Moe_MoeIdeal : Prop :=
  True

def algebraic_MoeIdeal_MoeRefIdeal [hMoeIdeal : Cert.MoeIdeal.Facts] [hMoeRefIdeal : Cert.MoeRefIdeal.Facts] [hPre_tables_in_range : Cert.Pre_tables_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)) →
    ∃ (v0 : (c : Dev Cert.MoeIdeal.nD) → Buf (Elt Ideal) ((c.tc : Thread Cert.MoeIdeal.nD Cert.MoeIdeal.τ).loc Cert.MoeIdeal.main_v6)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v6) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v48) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8))

def preserves_Cmb_CmbIdeal : Prop :=
  True

def algebraic_CmbIdeal_CmbRefIdeal [hCmbIdeal : Cert.CmbIdeal.Facts] [hCmbRefIdeal : Cert.CmbRefIdeal.Facts] [hPre_slots_in_range : Cert.Pre_slots_in_range.Facts] : Prop :=
  ∀ (m : (ℓ : Loc Cert.CmbIdeal.nD Cert.CmbIdeal.τ Cert.CmbIdeal.sig) → Buf (Elt Ideal) ℓ) (g : Dev Cert.CmbIdeal.nD → PrngReg)
    (m' : (ℓ : Loc Cert.CmbRefIdeal.nD Cert.CmbRefIdeal.τ Cert.CmbRefIdeal.sig) → Buf (Elt Ideal) ℓ) (g' : Dev Cert.CmbRefIdeal.nD → PrngReg), Pre_CmbIdeal m →
    (∀ c : Dev Cert.CmbIdeal.nD,
      m' ((c.tc : Thread Cert.CmbRefIdeal.nD Cert.CmbRefIdeal.τ).loc Cert.CmbRefIdeal.main_arg0) = m ((c.tc : Thread Cert.CmbIdeal.nD Cert.CmbIdeal.τ).loc Cert.CmbIdeal.main_arg0)
      ∧ m' ((c.tc : Thread Cert.CmbRefIdeal.nD Cert.CmbRefIdeal.τ).loc Cert.CmbRefIdeal.main_arg1) = m ((c.tc : Thread Cert.CmbIdeal.nD Cert.CmbIdeal.τ).loc Cert.CmbIdeal.main_arg1)
      ∧ m' ((c.tc : Thread Cert.CmbRefIdeal.nD Cert.CmbRefIdeal.τ).loc Cert.CmbRefIdeal.main_arg2) = m ((c.tc : Thread Cert.CmbIdeal.nD Cert.CmbIdeal.τ).loc Cert.CmbIdeal.main_arg2)
      ∧ m' ((c.tc : Thread Cert.CmbRefIdeal.nD Cert.CmbRefIdeal.τ).loc Cert.CmbRefIdeal.main_arg3) = m ((c.tc : Thread Cert.CmbIdeal.nD Cert.CmbIdeal.τ).loc Cert.CmbIdeal.main_arg3)
      ∧ m' ((c.tc : Thread Cert.CmbRefIdeal.nD Cert.CmbRefIdeal.τ).loc Cert.CmbRefIdeal.main_arg4) = m ((c.tc : Thread Cert.CmbIdeal.nD Cert.CmbIdeal.τ).loc Cert.CmbIdeal.main_arg4)
      ∧ m' ((c.tc : Thread Cert.CmbRefIdeal.nD Cert.CmbRefIdeal.τ).loc Cert.CmbRefIdeal.main_arg5) = m ((c.tc : Thread Cert.CmbIdeal.nD Cert.CmbIdeal.τ).loc Cert.CmbIdeal.main_arg5)
      ∧ m' ((c.tc : Thread Cert.CmbRefIdeal.nD Cert.CmbRefIdeal.τ).loc Cert.CmbRefIdeal.main_arg6) = m ((c.tc : Thread Cert.CmbIdeal.nD Cert.CmbIdeal.τ).loc Cert.CmbIdeal.main_arg6)) →
    ∃ (v0 : (c : Dev Cert.CmbIdeal.nD) → Buf (Elt Ideal) ((c.tc : Thread Cert.CmbIdeal.nD Cert.CmbIdeal.τ).loc Cert.CmbIdeal.main_v5)),
      θ_run (Cert.CmbIdeal.defs (F := Ideal)) (onTc (τ := Cert.CmbIdeal.τ) (Cert.CmbIdeal.main (F := Ideal))) ⟨m, fun _ => 0, g⟩ (fun r => ∀ c : Dev Cert.CmbIdeal.nD,
          r.2.mem ((c.tc : Thread Cert.CmbIdeal.nD Cert.CmbIdeal.τ).loc Cert.CmbIdeal.main_v5) = v0 c
          ∧ r.2.mem ((c.tc : Thread Cert.CmbIdeal.nD Cert.CmbIdeal.τ).loc Cert.CmbIdeal.main_arg0) = m ((c.tc : Thread Cert.CmbIdeal.nD Cert.CmbIdeal.τ).loc Cert.CmbIdeal.main_arg0)
          ∧ r.2.mem ((c.tc : Thread Cert.CmbIdeal.nD Cert.CmbIdeal.τ).loc Cert.CmbIdeal.main_arg1) = m ((c.tc : Thread Cert.CmbIdeal.nD Cert.CmbIdeal.τ).loc Cert.CmbIdeal.main_arg1)
          ∧ r.2.mem ((c.tc : Thread Cert.CmbIdeal.nD Cert.CmbIdeal.τ).loc Cert.CmbIdeal.main_arg2) = m ((c.tc : Thread Cert.CmbIdeal.nD Cert.CmbIdeal.τ).loc Cert.CmbIdeal.main_arg2)
          ∧ r.2.mem ((c.tc : Thread Cert.CmbIdeal.nD Cert.CmbIdeal.τ).loc Cert.CmbIdeal.main_arg3) = m ((c.tc : Thread Cert.CmbIdeal.nD Cert.CmbIdeal.τ).loc Cert.CmbIdeal.main_arg3)
          ∧ r.2.mem ((c.tc : Thread Cert.CmbIdeal.nD Cert.CmbIdeal.τ).loc Cert.CmbIdeal.main_arg4) = m ((c.tc : Thread Cert.CmbIdeal.nD Cert.CmbIdeal.τ).loc Cert.CmbIdeal.main_arg4)
          ∧ r.2.mem ((c.tc : Thread Cert.CmbIdeal.nD Cert.CmbIdeal.τ).loc Cert.CmbIdeal.main_arg5) = m ((c.tc : Thread Cert.CmbIdeal.nD Cert.CmbIdeal.τ).loc Cert.CmbIdeal.main_arg5)
          ∧ r.2.mem ((c.tc : Thread Cert.CmbIdeal.nD Cert.CmbIdeal.τ).loc Cert.CmbIdeal.main_arg6) = m ((c.tc : Thread Cert.CmbIdeal.nD Cert.CmbIdeal.τ).loc Cert.CmbIdeal.main_arg6))
      ∧ θ_run (Cert.CmbRefIdeal.defs (F := Ideal)) (onTc (τ := Cert.CmbRefIdeal.τ) (Cert.CmbRefIdeal.main (F := Ideal))) ⟨m', fun _ => 0, g'⟩ (fun r => ∀ c : Dev Cert.CmbRefIdeal.nD,
          r.2.mem ((c.tc : Thread Cert.CmbRefIdeal.nD Cert.CmbRefIdeal.τ).loc Cert.CmbRefIdeal.main_v26) = v0 c
          ∧ r.2.mem ((c.tc : Thread Cert.CmbRefIdeal.nD Cert.CmbRefIdeal.τ).loc Cert.CmbRefIdeal.main_arg0) = m' ((c.tc : Thread Cert.CmbRefIdeal.nD Cert.CmbRefIdeal.τ).loc Cert.CmbRefIdeal.main_arg0)
          ∧ r.2.mem ((c.tc : Thread Cert.CmbRefIdeal.nD Cert.CmbRefIdeal.τ).loc Cert.CmbRefIdeal.main_arg1) = m' ((c.tc : Thread Cert.CmbRefIdeal.nD Cert.CmbRefIdeal.τ).loc Cert.CmbRefIdeal.main_arg1)
          ∧ r.2.mem ((c.tc : Thread Cert.CmbRefIdeal.nD Cert.CmbRefIdeal.τ).loc Cert.CmbRefIdeal.main_arg2) = m' ((c.tc : Thread Cert.CmbRefIdeal.nD Cert.CmbRefIdeal.τ).loc Cert.CmbRefIdeal.main_arg2)
          ∧ r.2.mem ((c.tc : Thread Cert.CmbRefIdeal.nD Cert.CmbRefIdeal.τ).loc Cert.CmbRefIdeal.main_arg3) = m' ((c.tc : Thread Cert.CmbRefIdeal.nD Cert.CmbRefIdeal.τ).loc Cert.CmbRefIdeal.main_arg3)
          ∧ r.2.mem ((c.tc : Thread Cert.CmbRefIdeal.nD Cert.CmbRefIdeal.τ).loc Cert.CmbRefIdeal.main_arg4) = m' ((c.tc : Thread Cert.CmbRefIdeal.nD Cert.CmbRefIdeal.τ).loc Cert.CmbRefIdeal.main_arg4)
          ∧ r.2.mem ((c.tc : Thread Cert.CmbRefIdeal.nD Cert.CmbRefIdeal.τ).loc Cert.CmbRefIdeal.main_arg5) = m' ((c.tc : Thread Cert.CmbRefIdeal.nD Cert.CmbRefIdeal.τ).loc Cert.CmbRefIdeal.main_arg5)
          ∧ r.2.mem ((c.tc : Thread Cert.CmbRefIdeal.nD Cert.CmbRefIdeal.τ).loc Cert.CmbRefIdeal.main_arg6) = m' ((c.tc : Thread Cert.CmbRefIdeal.nD Cert.CmbRefIdeal.τ).loc Cert.CmbRefIdeal.main_arg6))

def preserves_Cmp_CmpIdeal : Prop :=
  True

def algebraic_CmpIdeal_CmpRefIdeal [hCmpIdeal : Cert.CmpIdeal.Facts] [hCmpRefIdeal : Cert.CmpRefIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)
      ∧ m' ((c.tc : Thread Cert.CmpRefIdeal.nD Cert.CmpRefIdeal.τ).loc Cert.CmpRefIdeal.main_arg5) = m ((c.tc : Thread Cert.CmpIdeal.nD Cert.CmpIdeal.τ).loc Cert.CmpIdeal.main_arg5)) →
    ∃ (v0 : (c : Dev Cert.CmpIdeal.nD) → Buf (Elt Ideal) ((c.tc : Thread Cert.CmpIdeal.nD Cert.CmpIdeal.τ).loc Cert.CmpIdeal.main_v45_0)) (v1 : (c : Dev Cert.CmpIdeal.nD) → Buf (Elt Ideal) ((c.tc : Thread Cert.CmpIdeal.nD Cert.CmpIdeal.τ).loc Cert.CmpIdeal.main_v45_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v45_0) = v0 c
          ∧ r.2.mem ((c.tc : Thread Cert.CmpIdeal.nD Cert.CmpIdeal.τ).loc Cert.CmpIdeal.main_v45_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
          ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v58) = v0 c
          ∧ r.2.mem ((c.tc : Thread Cert.CmpRefIdeal.nD Cert.CmpRefIdeal.τ).loc Cert.CmpRefIdeal.main_v60) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4)
          ∧ r.2.mem ((c.tc : Thread Cert.CmpRefIdeal.nD Cert.CmpRefIdeal.τ).loc Cert.CmpRefIdeal.main_arg5) = m' ((c.tc : Thread Cert.CmpRefIdeal.nD Cert.CmpRefIdeal.τ).loc Cert.CmpRefIdeal.main_arg5))

def Claim : Prop :=
  ∃ (hRet : Cert.Ret.Facts) (hRetIdeal : Cert.RetIdeal.Facts) (hRetRefIdeal : Cert.RetRefIdeal.Facts) (hInOdd : Cert.InOdd.Facts) (hInOddIdeal : Cert.InOddIdeal.Facts) (hInOddRefIdeal : Cert.InOddRefIdeal.Facts) (hInEven : Cert.InEven.Facts) (hInEvenIdeal : Cert.InEvenIdeal.Facts) (hInEvenRefIdeal : Cert.InEvenRefIdeal.Facts) (hOutOdd : Cert.OutOdd.Facts) (hOutOddIdeal : Cert.OutOddIdeal.Facts) (hOutOddRefIdeal : Cert.OutOddRefIdeal.Facts) (hOutEven : Cert.OutEven.Facts) (hOutEvenIdeal : Cert.OutEvenIdeal.Facts) (hOutEvenRefIdeal : Cert.OutEvenRefIdeal.Facts) (hMoe : Cert.Moe.Facts) (hMoeIdeal : Cert.MoeIdeal.Facts) (hMoeRefIdeal : Cert.MoeRefIdeal.Facts) (hCmb : Cert.Cmb.Facts) (hCmbIdeal : Cert.CmbIdeal.Facts) (hCmbRefIdeal : Cert.CmbRefIdeal.Facts) (hCmp : Cert.Cmp.Facts) (hCmpIdeal : Cert.CmpIdeal.Facts) (hCmpRefIdeal : Cert.CmpRefIdeal.Facts) (hPre_tables_in_range : Cert.Pre_tables_in_range.Facts) (hPre_slots_in_range : Cert.Pre_slots_in_range.Facts),
    quiescent_Ret (hRet := hRet)
    ∧ quiescent_RetIdeal (hRetIdeal := hRetIdeal)
    ∧ quiescent_RetRefIdeal (hRetRefIdeal := hRetRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_OutOdd (hOutOdd := hOutOdd)
    ∧ quiescent_OutOddIdeal (hOutOddIdeal := hOutOddIdeal)
    ∧ quiescent_OutOddRefIdeal (hOutOddRefIdeal := hOutOddRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_Moe (hMoe := hMoe) (hPre_tables_in_range := hPre_tables_in_range)
    ∧ quiescent_MoeIdeal (hMoeIdeal := hMoeIdeal) (hPre_tables_in_range := hPre_tables_in_range)
    ∧ quiescent_MoeRefIdeal (hMoeRefIdeal := hMoeRefIdeal)
    ∧ quiescent_MoeRefIdeal_pre_tables_in_range (hMoeRefIdeal := hMoeRefIdeal) (hPre_tables_in_range := hPre_tables_in_range)
    ∧ quiescent_Cmb (hCmb := hCmb) (hPre_slots_in_range := hPre_slots_in_range)
    ∧ quiescent_CmbIdeal (hCmbIdeal := hCmbIdeal) (hPre_slots_in_range := hPre_slots_in_range)
    ∧ quiescent_CmbRefIdeal (hCmbRefIdeal := hCmbRefIdeal)
    ∧ quiescent_CmbRefIdeal_pre_slots_in_range (hCmbRefIdeal := hCmbRefIdeal) (hPre_slots_in_range := hPre_slots_in_range)
    ∧ quiescent_Cmp (hCmp := hCmp)
    ∧ quiescent_CmpIdeal (hCmpIdeal := hCmpIdeal)
    ∧ quiescent_CmpRefIdeal (hCmpRefIdeal := hCmpRefIdeal)
    ∧ preserves_Ret_RetIdeal
    ∧ algebraic_RetIdeal_RetRefIdeal (hRetIdeal := hRetIdeal) (hRetRefIdeal := hRetRefIdeal)
    ∧ preserves_InOdd_InOddIdeal
    ∧ algebraic_InOddIdeal_InOddRefIdeal (hInOddIdeal := hInOddIdeal) (hInOddRefIdeal := hInOddRefIdeal)
    ∧ preserves_InEven_InEvenIdeal
    ∧ algebraic_InEvenIdeal_InEvenRefIdeal (hInEvenIdeal := hInEvenIdeal) (hInEvenRefIdeal := hInEvenRefIdeal)
    ∧ preserves_OutOdd_OutOddIdeal
    ∧ algebraic_OutOddIdeal_OutOddRefIdeal (hOutOddIdeal := hOutOddIdeal) (hOutOddRefIdeal := hOutOddRefIdeal)
    ∧ preserves_OutEven_OutEvenIdeal
    ∧ algebraic_OutEvenIdeal_OutEvenRefIdeal (hOutEvenIdeal := hOutEvenIdeal) (hOutEvenRefIdeal := hOutEvenRefIdeal)
    ∧ preserves_Moe_MoeIdeal
    ∧ algebraic_MoeIdeal_MoeRefIdeal (hMoeIdeal := hMoeIdeal) (hMoeRefIdeal := hMoeRefIdeal) (hPre_tables_in_range := hPre_tables_in_range)
    ∧ preserves_Cmb_CmbIdeal
    ∧ algebraic_CmbIdeal_CmbRefIdeal (hCmbIdeal := hCmbIdeal) (hCmbRefIdeal := hCmbRefIdeal) (hPre_slots_in_range := hPre_slots_in_range)
    ∧ preserves_Cmp_CmpIdeal
    ∧ algebraic_CmpIdeal_CmpRefIdeal (hCmpIdeal := hCmpIdeal) (hCmpRefIdeal := hCmpRefIdeal)
-- ==== Pre_slots_in_range.lean ====
abbrev S32768x4 : Shape := ⟨2, ![32768, 4]⟩
abbrev S147456x1024 : Shape := ⟨2, ![147456, 1024]⟩
abbrev S32768x1024 : Shape := ⟨2, ![32768, 1024]⟩
abbrev S32768x128 : Shape := ⟨2, ![32768, 128]⟩
abbrev S32768x256 : Shape := ⟨2, ![32768, 256]⟩
abbrev S1024x1024 : Shape := ⟨2, ![1024, 1024]⟩
abbrev S256x1024 : Shape := ⟨2, ![256, 1024]⟩
abbrev S_ : Shape := ⟨0, ![]⟩

class Facts : Prop where
  bcast_S_S32768x4 : S_.BroadcastsInDim S32768x4 (![] : Fin 0 → Fin S32768x4.rank)

variable [Facts]

def fn {F : FTy → Type} [FloatOps F] (main_arg0 : IVec S32768x4 32) (main_arg1 : FVec F S147456x1024 .f32) (main_arg2 : FVec F S32768x1024 .f32) (main_arg3 : FVec F S32768x128 .f32) (main_arg4 : FVec F S32768x256 .f32) (main_arg5 : FVec F S1024x1024 .f32) (main_arg6 : FVec F S256x1024 .f32) : IVec S32768x4 1 :=
  let main_c : IVec S_ 32 := constantI S_ 32 0#32
  let main_v0 : IVec S32768x4 32 := broadcastInDim S32768x4 ![] bcast_S_S32768x4 main_c
  let main_v1 : IVec S32768x4 1 := cmpi .sge main_arg0 main_v0
  let main_c_0 : IVec S_ 32 := constantI S_ 32 147456#32
  let main_v2 : IVec S32768x4 32 := broadcastInDim S32768x4 ![] bcast_S_S32768x4 main_c_0
  let main_v3 : IVec S32768x4 1 := cmpi .slt main_arg0 main_v2
  let main_v4 : IVec S32768x4 1 := andi main_v1 main_v3
  main_v4
-- ==== Pre_tables_in_range.lean ====
abbrev S288 : Shape := ⟨1, ![288]⟩
abbrev S1 : Shape := ⟨1, ![1]⟩
abbrev S288x512 : Shape := ⟨2, ![288, 512]⟩
abbrev S32768x1024 : Shape := ⟨2, ![32768, 1024]⟩
abbrev S1024 : Shape := ⟨1, ![1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S288 : S_.BroadcastsInDim S288 (![] : Fin 0 → Fin S288.rank)
  bcast_S_S1 : S_.BroadcastsInDim S1 (![] : Fin 0 → Fin S1.rank)
  bcast_S_S288x512 : S_.BroadcastsInDim S288x512 (![] : Fin 0 → Fin S288x512.rank)

variable [Facts]

def fn {F : FTy → Type} [FloatOps F] (main_arg0 : IVec S288 32) (main_arg1 : IVec S1 32) (main_arg2 : IVec S288x512 32) (main_arg3 : FVec F S32768x1024 .f32) (main_arg4 : FVec F S1024 .f32) (main_arg5 : FVec F S32x1024x2048 .f32) (main_arg6 : FVec F S32x2048 .f32) (main_arg7 : FVec F S32x1024x1024 .f32) (main_arg8 : FVec F S32x1024 .f32) : IVec S288 1 × IVec S1 1 × IVec S288x512 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 288#32
  let main_v7 : IVec S1 32 := broadcastInDim S1 ![] bcast_S_S1 main_c_2
  let main_v8 : IVec S1 1 := cmpi .sle main_arg1 main_v7
  let main_v9 : IVec S1 1 := andi main_v6 main_v8
  let main_c_3 : IVec S_ 32 := constantI S_ 32 0#32
  let main_v10 : IVec S288x512 32 := broadcastInDim S288x512 ![] bcast_S_S288x512 main_c_3
  let main_v11 : IVec S288x512 1 := cmpi .sge main_arg2 main_v10
  let main_c_4 : IVec S_ 32 := constantI S_ 32 32768#32
  let main_v12 : IVec S288x512 32 := broadcastInDim S288x512 ![] bcast_S_S288x512 main_c_4
  let main_v13 : IVec S288x512 1 := cmpi .slt main_arg2 main_v12
  let main_v14 : IVec S288x512 1 := andi main_v11 main_v13
  (main_v4, main_v9, main_v14)
-- ==== Ret.lean ====
abbrev S16x2048x6144 : Shape := ⟨3, ![16, 2048, 6144]⟩
abbrev S512 : Shape := ⟨1, ![512]⟩
abbrev S1x512 : Shape := ⟨2, ![1, 512]⟩
abbrev S16x2048x2048 : Shape := ⟨3, ![16, 2048, 2048]⟩
abbrev S1x128x1024 : Shape := ⟨3, ![1, 128, 1024]⟩
abbrev S1x128x2048 : Shape := ⟨3, ![1, 128, 2048]⟩
abbrev S4x256x512 : Shape := ⟨3, ![4, 256, 512]⟩
abbrev S128x128 : Shape := ⟨2, ![128, 128]⟩
abbrev S128x1 : Shape := ⟨2, ![128, 1]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩
abbrev S1x256x512 : Shape := ⟨3, ![1, 256, 512]⟩
abbrev S256x512 : Shape := ⟨2, ![256, 512]⟩
abbrev S128 : Shape := ⟨1, ![128]⟩

abbrev nBuf : Space → Nat
  | .hbm => 4
  | .vmem => 12
  | .smem => 0
  | _ => 0

abbrev bufTy : (tb : Table) → Fin (tcTables nBuf tb) → BufTy
  | .hbm, ⟨0, _⟩ => ⟨S16x2048x6144, .bf16⟩
  | .hbm, ⟨1, _⟩ => ⟨S512, .f32⟩
  | .hbm, ⟨2, _⟩ => ⟨S1x512, .f32⟩
  | .hbm, ⟨3, _⟩ => ⟨S16x2048x2048, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x512, .f32⟩
  | .local _ .vmem, ⟨9, _⟩ => ⟨S1x128x2048, .bf16⟩
  | .local _ .vmem, ⟨10, _⟩ => ⟨S1x128x2048, .bf16⟩
  | .local _ .vmem, ⟨11, _⟩ => ⟨S4x256x512, .f32⟩
  | _, _ => ⟨S16x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RetIdeal.lean ====
variable {F : FTy → Type} [FloatOps F] [Named F]
def κ : String → Option EReal := fun
  | "decay0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "decay1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "decay2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "decay3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | _ => none
-- ==== RetRefIdeal.lean ====
abbrev S16x2048x6144 : Shape := ⟨3, ![16, 2048, 6144]⟩
abbrev S512 : Shape := ⟨1, ![512]⟩
abbrev S16x2048x1024 : Shape := ⟨3, ![16, 2048, 1024]⟩
abbrev S16x2048x4x256 : Shape := ⟨4, ![16, 2048, 4, 256]⟩
abbrev S_ : Shape := ⟨0, ![]⟩
abbrev S16x2048x2048 : Shape := ⟨3, ![16, 2048, 2048]⟩
abbrev S16x2048x4x512 : Shape := ⟨4, ![16, 2048, 4, 512]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S16x4x256x512 : Shape := ⟨4, ![16, 4, 256, 512]⟩
abbrev S16x16x128x4x256 : Shape := ⟨5, ![16, 16, 128, 4, 256]⟩
abbrev S16x16x4x128x256 : Shape := ⟨5, ![16, 16, 4, 128, 256]⟩
abbrev S16x16x128x4x512 : Shape := ⟨5, ![16, 16, 128, 4, 512]⟩
abbrev S16x16x4x128x512 : Shape := ⟨5, ![16, 16, 4, 128, 512]⟩
abbrev S1x16x4x128x256 : Shape := ⟨5, ![1, 16, 4, 128, 256]⟩
abbrev S16x4x128x256 : Shape := ⟨4, ![16, 4, 128, 256]⟩
abbrev S1x16x4x128x512 : Shape := ⟨5, ![1, 16, 4, 128, 512]⟩
abbrev S16x4x128x512 : Shape := ⟨4, ![16, 4, 128, 512]⟩
abbrev S16x4x128x128 : Shape := ⟨4, ![16, 4, 128, 128]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S16x2048x4 : Shape := ⟨3, ![16, 2048, 4]⟩
abbrev S16x2048x4x1 : Shape := ⟨4, ![16, 2048, 4, 1]⟩
abbrev S1x1x1x512 : Shape := ⟨4, ![1, 1, 1, 512]⟩

abbrev nBuf : Space → Nat
  | .hbm => 172
  | .vmem => 0
  | .smem => 0
  | _ => 0

abbrev hbmTy0_0 (i : Nat) : BufTy := match i % 128 with
  | 0 => ⟨S16x2048x6144, .bf16⟩
  | 1 => ⟨S512, .f32⟩
  | 2 => ⟨S16x2048x1024, .bf16⟩
  | 3 => ⟨S16x2048x1024, .f32⟩
  | 4 => ⟨S16x2048x4x256, .f32⟩
  | 5 => ⟨S16x2048x1024, .bf16⟩
  | 6 => ⟨S16x2048x1024, .f32⟩
  | 7 => ⟨S16x2048x4x256, .f32⟩
  | 8 => ⟨S_, .f32⟩
  | 9 => ⟨S16x2048x4x256, .f32⟩
  | 10 => ⟨S16x2048x4x256, .f32⟩
  | 11 => ⟨S16x2048x2048, .bf16⟩
  | 12 => ⟨S16x2048x2048, .f32⟩
  | 13 => ⟨S16x2048x4x512, .f32⟩
  | 14 => ⟨S4, .f32⟩
  | 15 => ⟨S_, .f32⟩
  | 16 => ⟨S4, .f32⟩
  | 17 => ⟨S4, .f32⟩
  | 18 => ⟨S_, .f32⟩
  | 19 => ⟨S4, .f32⟩
  | 20 => ⟨S4, .f32⟩
  | 21 => ⟨S_, .f32⟩
  | 22 => ⟨S4, .f32⟩
  | 23 => ⟨S4, .f32⟩
  | 24 => ⟨S4, .f32⟩
  | 25 => ⟨S128, .f32⟩
  | 26 => ⟨S128x1, .f32⟩
  | 27 => ⟨S1x128, .f32⟩
  | 28 => ⟨S128x128, .f32⟩
  | 29 => ⟨S128x128, .f32⟩
  | 30 => ⟨S128x128, .f32⟩
  | 31 => ⟨S_, .f32⟩
  | 32 => ⟨S128x128, .f32⟩
  | 33 => ⟨S128x128, .i1⟩
  | 34 => ⟨S4x1x1, .f32⟩
  | 35 => ⟨S_, .f32⟩
  | 36 => ⟨S128x128, .f32⟩
  | 37 => ⟨S128x128, .f32⟩
  | 38 => ⟨S1x128x128, .f32⟩
  | 39 => ⟨S4x128x128, .f32⟩
  | 40 => ⟨S4x128x128, .f32⟩
  | 41 => ⟨S4x128x128, .f32⟩
  | 42 => ⟨S4x128x128, .f32⟩
  | 43 => ⟨S_, .f32⟩
  | 44 => ⟨S_, .f32⟩
  | 45 => ⟨S4x128x128, .i1⟩
  | 46 => ⟨S4x128x128, .f32⟩
  | 47 => ⟨S4x128x128, .f32⟩
  | 48 => ⟨S4x1, .f32⟩
  | 49 => ⟨S_, .f32⟩
  | 50 => ⟨S128, .f32⟩
  | 51 => ⟨S128, .f32⟩
  | 52 => ⟨S1x128, .f32⟩
  | 53 => ⟨S4x128, .f32⟩
  | 54 => ⟨S4x128, .f32⟩
  | 55 => ⟨S4x128, .f32⟩
  | 56 => ⟨S4x128, .f32⟩
  | 57 => ⟨S4x128x1, .f32⟩
  | 58 => ⟨S4x1, .f32⟩
  | 59 => ⟨S_, .f32⟩
  | 60 => ⟨S128, .f32⟩
  | 61 => ⟨S128, .f32⟩
  | 62 => ⟨S1x128, .f32⟩
  | 63 => ⟨S4x128, .f32⟩
  | 64 => ⟨S4x128, .f32⟩
  | 65 => ⟨S4x128, .f32⟩
  | 66 => ⟨S4x128, .f32⟩
  | 67 => ⟨S4x128x1, .f32⟩
  | 68 => ⟨S_, .f32⟩
  | 69 => ⟨S4, .f32⟩
  | 70 => ⟨S4, .f32⟩
  | 71 => ⟨S4, .f32⟩
  | 72 => ⟨S4x1x1, .f32⟩
  | 73 => ⟨S_, .f32⟩
  | 74 => ⟨S16x4x256x512, .f32⟩
  | 75 => ⟨S16x16x128x4x256, .f32⟩
  | 76 => ⟨S16x16x4x128x256, .f32⟩
  | 77 => ⟨S16x16x128x4x256, .f32⟩
  | 78 => ⟨S16x16x4x128x256, .f32⟩
  | 79 => ⟨S16x16x128x4x512, .f32⟩
  | 80 => ⟨S16x16x4x128x512, .f32⟩
  | 81 => ⟨S_, .f32⟩
  | 82 => ⟨S16x16x4x128x512, .f32⟩
  | 83 => ⟨S_, .i32⟩
  | 84 => ⟨S16x16x4x128x256, .f32⟩
  | 85 => ⟨S16x16x4x128x256, .f32⟩
  | 86 => ⟨S16x16x4x128x512, .f32⟩
  | 87 => ⟨S4x128x128, .f32⟩
  | 88 => ⟨S4x128x1, .f32⟩
  | 89 => ⟨S4x1x1, .f32⟩
  | 90 => ⟨S4x128x1, .f32⟩
  | 91 => ⟨S_, .i32⟩
  | 92 => ⟨S16x4x256x512, .f32⟩
  | 93 => ⟨S16x16x4x128x512, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S1x16x4x128x256, .f32⟩
  | 101 => ⟨S16x4x128x256, .f32⟩
  | 102 => ⟨S_, .i32⟩
  | 103 => ⟨S_, .i32⟩
  | 104 => ⟨S_, .i32⟩
  | 105 => ⟨S_, .i32⟩
  | 106 => ⟨S1x16x4x128x256, .f32⟩
  | 107 => ⟨S16x4x128x256, .f32⟩
  | 108 => ⟨S_, .i32⟩
  | 109 => ⟨S_, .i32⟩
  | 110 => ⟨S_, .i32⟩
  | 111 => ⟨S_, .i32⟩
  | 112 => ⟨S1x16x4x128x512, .f32⟩
  | 113 => ⟨S16x4x128x512, .f32⟩
  | 114 => ⟨S16x4x128x128, .f32⟩
  | 115 => ⟨S1x4x128x128, .f32⟩
  | 116 => ⟨S16x4x128x128, .f32⟩
  | 117 => ⟨S16x4x128x128, .f32⟩
  | 118 => ⟨S16x4x128x512, .f32⟩
  | 119 => ⟨S1x4x128x1, .f32⟩
  | 120 => ⟨S16x4x128x256, .f32⟩
  | 121 => ⟨S16x4x128x256, .f32⟩
  | 122 => ⟨S16x4x128x512, .f32⟩
  | 123 => ⟨S16x4x128x512, .f32⟩
  | 124 => ⟨S1x4x1x1, .f32⟩
  | 125 => ⟨S16x4x256x512, .f32⟩
  | 126 => ⟨S16x4x256x512, .f32⟩
  | 127 => ⟨S1x4x128x1, .f32⟩
  | _ => ⟨S16x2048x6144, .bf16⟩

abbrev hbmTy0_1 (i : Nat) : BufTy := match i % 128 with
  | 0 => ⟨S16x4x128x256, .f32⟩
  | 1 => ⟨S16x4x128x256, .f32⟩
  | 2 => ⟨S16x4x256x512, .f32⟩
  | 3 => ⟨S16x4x256x512, .f32⟩
  | 4 => ⟨S1x16x4x128x512, .f32⟩
  | 5 => ⟨S_, .i32⟩
  | 6 => ⟨S_, .i32⟩
  | 7 => ⟨S_, .i32⟩
  | 8 => ⟨S_, .i32⟩
  | 9 => ⟨S16x16x4x128x512, .f32⟩
  | 10 => ⟨S_, .i32⟩
  | 11 => ⟨S_, .i32⟩
  | 12 => ⟨S16x16x128x4x512, .f32⟩
  | 13 => ⟨S16x2048x4x512, .f32⟩
  | 14 => ⟨S16x2048x4x512, .f32⟩
  | 15 => ⟨S_, .f32⟩
  | 16 => ⟨S16x2048x4, .f32⟩
  | 17 => ⟨S16x2048x4x1, .f32⟩
  | 18 => ⟨S_, .f32⟩
  | 19 => ⟨S16x2048x4x1, .f32⟩
  | 20 => ⟨S16x2048x4x1, .f32⟩
  | 21 => ⟨S_, .f32⟩
  | 22 => ⟨S16x2048x4x1, .f32⟩
  | 23 => ⟨S16x2048x4x1, .f32⟩
  | 24 => ⟨S16x2048x4x1, .f32⟩
  | 25 => ⟨S16x2048x4x512, .f32⟩
  | 26 => ⟨S16x2048x4x512, .f32⟩
  | 27 => ⟨S1x1x1x512, .f32⟩
  | 28 => ⟨S16x2048x4x512, .f32⟩
  | 29 => ⟨S16x2048x4x512, .f32⟩
  | 30 => ⟨S16x2048x2048, .f32⟩
  | 31 => ⟨S16x2048x2048, .bf16⟩
  | 32 => ⟨S16x2048x2048, .f32⟩
  | 33 => ⟨S16x2048x2048, .f32⟩
  | 34 => ⟨S16x2048x2048, .f32⟩
  | 35 => ⟨S_, .f32⟩
  | 36 => ⟨S16x2048x2048, .f32⟩
  | 37 => ⟨S16x2048x2048, .f32⟩
  | 38 => ⟨S_, .f32⟩
  | 39 => ⟨S16x2048x2048, .f32⟩
  | 40 => ⟨S16x2048x2048, .f32⟩
  | 41 => ⟨S16x2048x2048, .f32⟩
  | 42 => ⟨S16x2048x2048, .f32⟩
  | 43 => ⟨S16x2048x2048, .bf16⟩
  | _ => ⟨S16x2048x6144, .bf16⟩

abbrev hbmTy (i : Nat) : BufTy := match i / 128 with
  | 0 => hbmTy0_0 i
  | 1 => hbmTy0_1 i
  | _ => ⟨S16x2048x6144, .bf16⟩

abbrev bufTy : (tb : Table) → Fin (tcTables nBuf tb) → BufTy
  | .hbm, ⟨i, _⟩ => hbmTy i
  | _, _ => ⟨S16x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_c : Ref sig .tc := ⟨.hbm, 83, rfl⟩
abbrev main_v66_0 : Ref sig .tc := ⟨.hbm, 84, rfl⟩
abbrev main_v66_1 : Ref sig .tc := ⟨.hbm, 85, rfl⟩
abbrev main_v66_2 : Ref sig .tc := ⟨.hbm, 86, rfl⟩
abbrev main_v66_3 : Ref sig .tc := ⟨.hbm, 87, rfl⟩
abbrev main_v66_4 : Ref sig .tc := ⟨.hbm, 88, rfl⟩
abbrev main_v66_5 : Ref sig .tc := ⟨.hbm, 89, rfl⟩
abbrev main_v66_6 : Ref sig .tc := ⟨.hbm, 90, rfl⟩
abbrev main_v66_7 : Ref sig .tc := ⟨.hbm, 91, rfl⟩
abbrev main_v66_8 : Ref sig .tc := ⟨.hbm, 92, rfl⟩
abbrev main_v66_9 : Ref sig .tc := ⟨.hbm, 93, rfl⟩
abbrev main_while0c_c_23 : Ref sig .tc := ⟨.hbm, 94, rfl⟩
abbrev main_while0c_v88 : Ref sig .tc := ⟨.hbm, 95, rfl⟩
abbrev main_while0b_call1_c : Ref sig .tc := ⟨.hbm, 96, rfl⟩
abbrev main_while0b_call1_c_0 : Ref sig .tc := ⟨.hbm, 97, rfl⟩
abbrev main_while0b_call1_c_1 : Ref sig .tc := ⟨.hbm, 98, rfl⟩
abbrev main_while0b_call1_c_2 : Ref sig .tc := ⟨.hbm, 99, rfl⟩
abbrev main_while0b_call1_v0 : Ref sig .tc := ⟨.hbm, 100, rfl⟩
abbrev main_while0b_v88 : Ref sig .tc := ⟨.hbm, 101, rfl⟩
abbrev main_while0b_call2_c : Ref sig .tc := ⟨.hbm, 102, rfl⟩
abbrev main_while0b_call2_c_0 : Ref sig .tc := ⟨.hbm, 103, rfl⟩
abbrev main_while0b_call2_c_1 : Ref sig .tc := ⟨.hbm, 104, rfl⟩
abbrev main_while0b_call2_c_2 : Ref sig .tc := ⟨.hbm, 105, rfl⟩
abbrev main_while0b_call2_v0 : Ref sig .tc := ⟨.hbm, 106, rfl⟩
abbrev main_while0b_v89 : Ref sig .tc := ⟨.hbm, 107, rfl⟩
abbrev main_while0b_call3_c : Ref sig .tc := ⟨.hbm, 108, rfl⟩
abbrev main_while0b_call3_c_0 : Ref sig .tc := ⟨.hbm, 109, rfl⟩
abbrev main_while0b_call3_c_1 : Ref sig .tc := ⟨.hbm, 110, rfl⟩
abbrev main_while0b_call3_c_2 : Ref sig .tc := ⟨.hbm, 111, rfl⟩
abbrev main_while0b_call3_v0 : Ref sig .tc := ⟨.hbm, 112, rfl⟩
abbrev main_while0b_v90 : Ref sig .tc := ⟨.hbm, 113, rfl⟩
abbrev main_while0b_v91 : Ref sig .tc := ⟨.hbm, 114, rfl⟩
abbrev main_while0b_v92 : Ref sig .tc := ⟨.hbm, 115, rfl⟩
abbrev main_while0b_v93 : Ref sig .tc := ⟨.hbm, 116, rfl⟩
abbrev main_while0b_v94 : Ref sig .tc := ⟨.hbm, 117, rfl⟩
abbrev main_while0b_v95 : Ref sig .tc := ⟨.hbm, 118, rfl⟩
abbrev main_while0b_v96 : Ref sig .tc := ⟨.hbm, 119, rfl⟩
abbrev main_while0b_v97 : Ref sig .tc := ⟨.hbm, 120, rfl⟩
abbrev main_while0b_v98 : Ref sig .tc := ⟨.hbm, 121, rfl⟩
abbrev main_while0b_v99 : Ref sig .tc := ⟨.hbm, 122, rfl⟩
abbrev main_while0b_v100 : Ref sig .tc := ⟨.hbm, 123, rfl⟩
abbrev main_while0b_v101 : Ref sig .tc := ⟨.hbm, 124, rfl⟩
abbrev main_while0b_v102 : Ref sig .tc := ⟨.hbm, 125, rfl⟩
abbrev main_while0b_v103 : Ref sig .tc := ⟨.hbm, 126, rfl⟩
abbrev main_while0b_v104 : Ref sig .tc := ⟨.hbm, 127, rfl⟩
abbrev main_while0b_v105 : Ref sig .tc := ⟨.hbm, 128, rfl⟩
abbrev main_while0b_v106 : Ref sig .tc := ⟨.hbm, 129, rfl⟩
abbrev main_while0b_v107 : Ref sig .tc := ⟨.hbm, 130, rfl⟩
abbrev main_while0b_v108 : Ref sig .tc := ⟨.hbm, 131, rfl⟩
abbrev main_while0b_call4_v0 : Ref sig .tc := ⟨.hbm, 132, rfl⟩
abbrev main_while0b_call4_c : Ref sig .tc := ⟨.hbm, 133, rfl⟩
abbrev main_while0b_call4_c_0 : Ref sig .tc := ⟨.hbm, 134, rfl⟩
abbrev main_while0b_call4_c_1 : Ref sig .tc := ⟨.hbm, 135, rfl⟩
abbrev main_while0b_call4_c_2 : Ref sig .tc := ⟨.hbm, 136, rfl⟩
abbrev main_while0b_v109 : Ref sig .tc := ⟨.hbm, 137, rfl⟩
abbrev main_while0b_c_23 : Ref sig .tc := ⟨.hbm, 138, rfl⟩
abbrev main_while0b_v110 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_cst_11 : Ref sig .tc := ⟨.hbm, 143, rfl⟩
abbrev main_v70 : Ref sig .tc := ⟨.hbm, 144, rfl⟩
abbrev main_v71 : Ref sig .tc := ⟨.hbm, 145, rfl⟩
abbrev main_cst_12 : Ref sig .tc := ⟨.hbm, 146, rfl⟩
abbrev main_v72 : Ref sig .tc := ⟨.hbm, 147, rfl⟩
abbrev main_v73 : Ref sig .tc := ⟨.hbm, 148, rfl⟩
abbrev main_cst_13 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_call5_v0 : Ref sig .tc := ⟨.hbm, 161, rfl⟩
abbrev main_call5_v1 : Ref sig .tc := ⟨.hbm, 162, rfl⟩
abbrev main_call5_cst : Ref sig .tc := ⟨.hbm, 163, rfl⟩
abbrev main_call5_v2 : Ref sig .tc := ⟨.hbm, 164, rfl⟩
abbrev main_call5_v3 : Ref sig .tc := ⟨.hbm, 165, rfl⟩
abbrev main_call5_cst_0 : Ref sig .tc := ⟨.hbm, 166, rfl⟩
abbrev main_call5_v4 : Ref sig .tc := ⟨.hbm, 167, rfl⟩
abbrev main_call5_v5 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩

abbrev nD : Nat := 1
abbrev τ : Topo := Topo.v7x

variable {F : FTy → Type} [FloatOps F]

abbrev main_while0_count : Scf.Loop 32 := ⟨0#32, 16#32, 1#32⟩
-- ==== InOdd.lean ====
abbrev S32768x1024 : Shape := ⟨2, ![32768, 1024]⟩
abbrev S1024 : Shape := ⟨1, ![1024]⟩
abbrev S1024x6144 : Shape := ⟨2, ![1024, 6144]⟩
abbrev S1x1024 : Shape := ⟨2, ![1, 1024]⟩
abbrev S32768x6144 : Shape := ⟨2, ![32768, 6144]⟩
abbrev S512x1024 : Shape := ⟨2, ![512, 1024]⟩
abbrev S512x6144 : Shape := ⟨2, ![512, 6144]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6144, .f32⟩
  | .hbm, ⟨3, _⟩ => ⟨S1024x6144, .bf16⟩
  | .hbm, ⟨4, _⟩ => ⟨S1x1024, .f32⟩
  | .hbm, ⟨5, _⟩ => ⟨S32768x6144, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S512x6144, .bf16⟩
  | .local _ .vmem, ⟨5, _⟩ => ⟨S512x6144, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InOddRefIdeal.lean ====
abbrev S32768x1024 : Shape := ⟨2, ![32768, 1024]⟩
abbrev S1024 : Shape := ⟨1, ![1024]⟩
abbrev S1024x6144 : Shape := ⟨2, ![1024, 6144]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x6144 : Shape := ⟨2, ![32768, 6144]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6144, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x6144, .f32⟩
  | .hbm, ⟨20, _⟩ => ⟨S32768x6144, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InEven.lean ====
abbrev S32768x1024 : Shape := ⟨2, ![32768, 1024]⟩
abbrev S1024 : Shape := ⟨1, ![1024]⟩
abbrev S1024x3072 : Shape := ⟨2, ![1024, 3072]⟩
abbrev S1x1024 : Shape := ⟨2, ![1, 1024]⟩
abbrev S32768x3072 : Shape := ⟨2, ![32768, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InEvenRefIdeal.lean ====
abbrev S32768x1024 : Shape := ⟨2, ![32768, 1024]⟩
abbrev S1024 : Shape := ⟨1, ![1024]⟩
abbrev S1024x3072 : Shape := ⟨2, ![1024, 3072]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3072 : Shape := ⟨2, ![32768, 3072]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3072, .f32⟩
  | .hbm, ⟨20, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OutOdd.lean ====
abbrev S32768x1024 : Shape := ⟨2, ![32768, 1024]⟩
abbrev S32768x2048 : Shape := ⟨2, ![32768, 2048]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S2048x1024, .f32⟩
  | .hbm, ⟨3, _⟩ => ⟨S2048x1024, .bf16⟩
  | .hbm, ⟨4, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutOddRefIdeal.lean ====
abbrev S32768x1024 : Shape := ⟨2, ![32768, 1024]⟩
abbrev S32768x2048 : Shape := ⟨2, ![32768, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S2048x1024, .f32⟩
  | .hbm, ⟨3, _⟩ => ⟨S32768x2048, .f32⟩
  | .hbm, ⟨4, _⟩ => ⟨S32768x1024, .f32⟩
  | .hbm, ⟨5, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutEven.lean ====
abbrev S32768x1024 : Shape := ⟨2, ![32768, 1024]⟩
abbrev S32768x512 : Shape := ⟨2, ![32768, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S512x1024, .f32⟩
  | .hbm, ⟨5, _⟩ => ⟨S512x1024, .bf16⟩
  | .hbm, ⟨6, _⟩ => ⟨S512x1024, .f32⟩
  | .hbm, ⟨7, _⟩ => ⟨S512x1024, .bf16⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutEvenRefIdeal.lean ====
abbrev S32768x1024 : Shape := ⟨2, ![32768, 1024]⟩
abbrev S32768x512 : Shape := ⟨2, ![32768, 512]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S32768x512, .f32⟩
  | .hbm, ⟨5, _⟩ => ⟨S32768x512, .f32⟩
  | .hbm, ⟨6, _⟩ => ⟨S32768x1024, .f32⟩
  | .hbm, ⟨7, _⟩ => ⟨S32768x1024, .f32⟩
  | .hbm, ⟨8, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Moe.lean ====
abbrev S288 : Shape := ⟨1, ![288]⟩
abbrev S1 : Shape := ⟨1, ![1]⟩
abbrev S288x512 : Shape := ⟨2, ![288, 512]⟩
abbrev S32768x1024 : Shape := ⟨2, ![32768, 1024]⟩
abbrev S1024 : Shape := ⟨1, ![1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288x1x512 : Shape := ⟨3, ![288, 1, 512]⟩
abbrev S1x1024 : Shape := ⟨2, ![1, 1024]⟩
abbrev S32x1x2048 : Shape := ⟨3, ![32, 1, 2048]⟩
abbrev S32x1x1024 : Shape := ⟨3, ![32, 1, 1024]⟩
abbrev S147456x1024 : Shape := ⟨2, ![147456, 1024]⟩
abbrev S1x1x512 : Shape := ⟨3, ![1, 1, 512]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x1024 : Shape := ⟨2, ![512, 1024]⟩
abbrev S2x512x1024 : Shape := ⟨3, ![2, 512, 1024]⟩
abbrev S2 : Shape := ⟨1, ![2]⟩
abbrev S1x1x1 : Shape := ⟨3, ![1, 1, 1]⟩
abbrev S_ : Shape := ⟨0, ![]⟩
abbrev S1x512x1024 : Shape := ⟨3, ![1, 512, 1024]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩
abbrev S1x2048 : Shape := ⟨2, ![1, 2048]⟩
abbrev S1024x1024 : Shape := ⟨2, ![1024, 1024]⟩

abbrev nBuf : Space → Nat
  | .hbm => 14
  | .vmem => 12
  | .smem => 6
  | _ => 0

abbrev bufTy : (tb : Table) → Fin (tcTables nBuf tb) → BufTy
  | .hbm, ⟨0, _⟩ => ⟨S288x512, .i32⟩
  | .hbm, ⟨1, _⟩ => ⟨S32768x1024, .f32⟩
  | .hbm, ⟨2, _⟩ => ⟨S1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S32x1024x2048, .bf16⟩
  | .hbm, ⟨8, _⟩ => ⟨S32x1024x1024, .bf16⟩
  | .hbm, ⟨9, _⟩ => ⟨S288x1x512, .i32⟩
  | .hbm, ⟨10, _⟩ => ⟨S1x1024, .f32⟩
  | .hbm, ⟨11, _⟩ => ⟨S32x1x2048, .f32⟩
  | .hbm, ⟨12, _⟩ => ⟨S32x1x1024, .f32⟩
  | .hbm, ⟨13, _⟩ => ⟨S147456x1024, .f32⟩
  | .local _ .vmem, ⟨0, _⟩ => ⟨S1x1024, .f32⟩
  | .local _ .vmem, ⟨1, _⟩ => ⟨S1x1024x2048, .bf16⟩
  | .local _ .vmem, ⟨2, _⟩ => ⟨S1x1024x2048, .bf16⟩
  | .local _ .vmem, ⟨3, _⟩ => ⟨S1x1x2048, .f32⟩
  | .local _ .vmem, ⟨4, _⟩ => ⟨S1x1x2048, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S2x512x1024, .f32⟩
  | .local _ .smem, ⟨0, _⟩ => ⟨S288, .i32⟩
  | .local _ .smem, ⟨1, _⟩ => ⟨S1, .i32⟩
  | .local _ .smem, ⟨2, _⟩ => ⟨S1x1x512, .i32⟩
  | .local _ .smem, ⟨3, _⟩ => ⟨S1x1x512, .i32⟩
  | .local _ .smem, ⟨4, _⟩ => ⟨S1x1x512, .i32⟩
  | .local _ .smem, ⟨5, _⟩ => ⟨S1x1x512, .i32⟩
  | _, _ => ⟨S288x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_arg0 : Ref sig .tc := ⟨.smem, 0, rfl⟩
abbrev main_arg1 : Ref sig .tc := ⟨.smem, 1, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_11 : BitVec 32 := 0#32
  let c256_i32 : BitVec 32 := 256#32
  let v24 : BitVec 32 := Scalar.addi c0_i32_11 c256_i32
  let c1_i32_12 : BitVec 32 := 1#32
  ⟨c0_i32_11, v24, c1_i32_12⟩
def k0_off2 (k0_t1 : Fin k0_t1_loop.trips) : Fin 3 → Nat :=
  let c0_16 : Index := 0#32
  let c0_17 : Index := 0#32
  let c2_i32_14 : BitVec 32 := 2#32
  let c0_i32_11 : BitVec 32 := 0#32
  let c1_i32_12 : BitVec 32 := 1#32
  let arg14 : BitVec 32 := Scf.iv c0_i32_11 c1_i32_12 k0_t1
  let v25 : BitVec 32 := Scalar.muli c2_i32_14 arg14
  let c0_i32_15 : BitVec 32 := 0#32
  let v26 : BitVec 32 := Scalar.addi v25 c0_i32_15
  let v27 : Index := Scalar.indexCast v26
  ![0, 0, v27.toNat]
def k0_off3 (k0_t1 : Fin k0_t1_loop.trips) : Fin 2 → Nat :=
  let c2_i32_14 : BitVec 32 := 2#32
  let c0_i32_11 : BitVec 32 := 0#32
  let c1_i32_12 : BitVec 32 := 1#32
  let arg14 : BitVec 32 := Scf.iv c0_i32_11 c1_i32_12 k0_t1
  let v25 : BitVec 32 := Scalar.muli c2_i32_14 arg14
  let c0_i32_15 : BitVec 32 := 0#32
  let v26 : BitVec 32 := Scalar.addi v25 c0_i32_15
  let c0_i32_20 : BitVec 32 := 0#32
  ![v26.toNat, 0]
def k0_off4 (v28 : BitVec 32) : Fin 2 → Nat :=
  let c0_i32_21 : BitVec 32 := 0#32
  ![v28.toNat, 0]

def k0_chk1 (i : grid0.Coords) (v28 : BitVec 32) : Prop :=
  (∀ (k0_h1 : k0_cond1 i = 1#1), ∀ a, (k0_off4 v28) a + S1x1024.size a ≤ S32768x1024.size a)
theorem k0_off4_inb : ∀ (i : grid0.Coords) (v28 : BitVec 32) (k0_hw1 : k0_chk1 i v28), ∀ (k0_h1 : k0_cond1 i = 1#1), ∀ a, (k0_off4 v28) a + S1x1024.size a ≤ S32768x1024.size a := fun i v28 k0_hw1 k0_h1 => k0_hw1 k0_h1

def k0_off5 (k0_t1 : Fin k0_t1_loop.trips) : Fin 3 → Nat :=
  let c0_24 : Index := 0#32
  let c0_25 : Index := 0#32
  let c2_i32_22 : BitVec 32 := 2#32
  let c0_i32_11 : BitVec 32 := 0#32
  let c1_i32_12 : BitVec 32 := 1#32
  let arg14 : BitVec 32 := Scf.iv c0_i32_11 c1_i32_12 k0_t1
  let v35 : BitVec 32 := Scalar.muli c2_i32_22 arg14
  let c1_i32_23 : BitVec 32 := 1#32
  let v36 : BitVec 32 := Scalar.addi v35 c1_i32_23
  let v37 : Index := Scalar.indexCast v36
  ![0, 0, v37.toNat]
def k0_off6 (k0_t1 : Fin k0_t1_loop.trips) : Fin 2 → Nat :=
  let c2_i32_22 : BitVec 32 := 2#32
  let c0_i32_11 : BitVec 32 := 0#32
  let c1_i32_12 : BitVec 32 := 1#32
  let arg14 : BitVec 32 := Scf.iv c0_i32_11 c1_i32_12 k0_t1
  let v35 : BitVec 32 := Scalar.muli c2_i32_22 arg14
  let c1_i32_23 : BitVec 32 := 1#32
  let v36 : BitVec 32 := Scalar.addi v35 c1_i32_23
  let c0_i32_28 : BitVec 32 := 0#32
  ![v36.toNat, 0]
def k0_off7 (v38 : BitVec 32) : Fin 2 → Nat :=
  let c0_i32_29 : BitVec 32 := 0#32
  ![v38.toNat, 0]

def k0_chk2 (i : grid0.Coords) (v38 : BitVec 32) : Prop :=
  (∀ (k0_h1 : k0_cond1 i = 1#1), ∀ a, (k0_off7 v38) a + S1x1024.size a ≤ S32768x1024.size a)
theorem k0_off7_inb : ∀ (i : grid0.Coords) (v38 : BitVec 32) (k0_hw2 : k0_chk2 i v38), ∀ (k0_h1 : k0_cond1 i = 1#1), ∀ a, (k0_off7 v38) a + S1x1024.size a ≤ S32768x1024.size a := fun i v38 k0_hw2 k0_h1 => k0_hw2 k0_h1

@[reducible] def k0_t2_loop : Scf.Loop 32 :=
  let c0_i32_11 : BitVec 32 := 0#32
  let c256_i32 : BitVec 32 := 256#32
  let v24 : BitVec 32 := Scalar.addi c0_i32_11 c256_i32
  let c1_i32_12 : BitVec 32 := 1#32
  ⟨c0_i32_11, v24, c1_i32_12⟩
def k0_off8 (k0_t2 : Fin k0_t2_loop.trips) : Fin 3 → Nat :=
  let c0_16 : Index := 0#32
  let c0_17 : Index := 0#32
  let c2_i32_14 : BitVec 32 := 2#32
  let c0_i32_11 : BitVec 32 := 0#32
  let c1_i32_12 : BitVec 32 := 1#32
  let arg14 : BitVec 32 := Scf.iv c0_i32_11 c1_i32_12 k0_t2
  let v25 : BitVec 32 := Scalar.muli c2_i32_14 arg14
  let c0_i32_15 : BitVec 32 := 0#32
  let v26 : BitVec 32 := Scalar.addi v25 c0_i32_15
  let v27 : Index := Scalar.indexCast v26
  ![0, 0, v27.toNat]
def k0_off9 (k0_t2 : Fin k0_t2_loop.trips) : Fin 2 → Nat :=
  let c2_i32_14 : BitVec 32 := 2#32
  let c0_i32_11 : BitVec 32 := 0#32
  let c1_i32_12 : BitVec 32 := 1#32
  let arg14 : BitVec 32 := Scf.iv c0_i32_11 c1_i32_12 k0_t2
  let v25 : BitVec 32 := Scalar.muli c2_i32_14 arg14
  let c0_i32_15 : BitVec 32 := 0#32
  let v26 : BitVec 32 := Scalar.addi v25 c0_i32_15
  let c0_i32_20 : BitVec 32 := 0#32
  ![v26.toNat, 0]
def k0_off10 (v28 : BitVec 32) : Fin 2 → Nat :=
  let c0_i32_21 : BitVec 32 := 0#32
  ![v28.toNat, 0]
def k0_cond2 (i : grid0.Coords) (v0 : BitVec 32) : BitVec 1 :=
  let arg0 : BitVec 32 := BitVec.ofNat 32 (i 0).val
  let c1_i32 : BitVec 32 := 1#32
  let v5 : BitVec 32 := Scalar.addi arg0 c1_i32
  let v6 : BitVec 1 := Scalar.cmpi .slt v5 v0
  let c2_i32_1 : BitVec 32 := 2#32
  let v7 : BitVec 32 := Scalar.remsi v5 c2_i32_1
  let c0_i32_2 : BitVec 32 := 0#32
  let v8 : BitVec 1 := Scalar.cmpi .eq v7 c0_i32_2
  let v9 : BitVec 1 := Scalar.andi v6 v8
  let v10 : BitVec 32 := Scalar.extui v9
  let c0_i32_3 : BitVec 32 := 0#32
  let v11 : BitVec 1 := Scalar.cmpi .ne v10 c0_i32_3
  v11

def k0_chk3 (i : grid0.Coords) (v0 : BitVec 32) (v28 : BitVec 32) : Prop :=
  (∀ (k0_h2 : k0_cond2 i v0 = 1#1), ∀ a, (k0_off10 v28) a + S1x1024.size a ≤ S32768x1024.size a)
theorem k0_off10_inb : ∀ (i : grid0.Coords) (v0 : BitVec 32) (v28 : BitVec 32) (k0_hw3 : k0_chk3 i v0 v28), ∀ (k0_h2 : k0_cond2 i v0 = 1#1), ∀ a, (k0_off10 v28) a + S1x1024.size a ≤ S32768x1024.size a := fun i v0 v28 k0_hw3 k0_h2 => k0_hw3 k0_h2

def k0_off11 (k0_t2 : Fin k0_t2_loop.trips) : Fin 3 → Nat :=
  let c0_24 : Index := 0#32
  let c0_25 : Index := 0#32
  let c2_i32_22 : BitVec 32 := 2#32
  let c0_i32_11 : BitVec 32 := 0#32
  let c1_i32_12 : BitVec 32 := 1#32
  let arg14 : BitVec 32 := Scf.iv c0_i32_11 c1_i32_12 k0_t2
  let v35 : BitVec 32 := Scalar.muli c2_i32_22 arg14
  let c1_i32_23 : BitVec 32 := 1#32
  let v36 : BitVec 32 := Scalar.addi v35 c1_i32_23
  let v37 : Index := Scalar.indexCast v36
  ![0, 0, v37.toNat]
def k0_off12 (k0_t2 : Fin k0_t2_loop.trips) : Fin 2 → Nat :=
  let c2_i32_22 : BitVec 32 := 2#32
  let c0_i32_11 : BitVec 32 := 0#32
  let c1_i32_12 : BitVec 32 := 1#32
  let arg14 : BitVec 32 := Scf.iv c0_i32_11 c1_i32_12 k0_t2
  let v35 : BitVec 32 := Scalar.muli c2_i32_22 arg14
  let c1_i32_23 : BitVec 32 := 1#32
  let v36 : BitVec 32 := Scalar.addi v35 c1_i32_23
  let c0_i32_28 : BitVec 32 := 0#32
  ![v36.toNat, 0]
def k0_off13 (v38 : BitVec 32) : Fin 2 → Nat :=
  let c0_i32_29 : BitVec 32 := 0#32
  ![v38.toNat, 0]

def k0_chk4 (i : grid0.Coords) (v0 : BitVec 32) (v38 : BitVec 32) : Prop :=
  (∀ (k0_h2 : k0_cond2 i v0 = 1#1), ∀ a, (k0_off13 v38) a + S1x1024.size a ≤ S32768x1024.size a)
theorem k0_off13_inb : ∀ (i : grid0.Coords) (v0 : BitVec 32) (v38 : BitVec 32) (k0_hw4 : k0_chk4 i v0 v38), ∀ (k0_h2 : k0_cond2 i v0 = 1#1), ∀ a, (k0_off13 v38) a + S1x1024.size a ≤ S32768x1024.size a := fun i v0 v38 k0_hw4 k0_h2 => k0_hw4 k0_h2

@[reducible] def k0_t3_loop : Scf.Loop 32 :=
  let c0_i32_11 : BitVec 32 := 0#32
  let c256_i32 : BitVec 32 := 256#32
  let v24 : BitVec 32 := Scalar.addi c0_i32_11 c256_i32
  let c1_i32_12 : BitVec 32 := 1#32
  ⟨c0_i32_11, v24, c1_i32_12⟩
def k0_off14 (k0_t3 : Fin k0_t3_loop.trips) : Fin 3 → Nat :=
  let c0_16 : Index := 0#32
  let c0_17 : Index := 0#32
  let c2_i32_14 : BitVec 32 := 2#32
  let c0_i32_11 : BitVec 32 := 0#32
  let c1_i32_12 : BitVec 32 := 1#32
  let arg14 : BitVec 32 := Scf.iv c0_i32_11 c1_i32_12 k0_t3
  let v25 : BitVec 32 := Scalar.muli c2_i32_14 arg14
  let c0_i32_15 : BitVec 32 := 0#32
  let v26 : BitVec 32 := Scalar.addi v25 c0_i32_15
  let v27 : Index := Scalar.indexCast v26
  ![0, 0, v27.toNat]
def k0_off15 (k0_t3 : Fin k0_t3_loop.trips) : Fin 2 → Nat :=
  let c2_i32_14 : BitVec 32 := 2#32
  let c0_i32_11 : BitVec 32 := 0#32
  let c1_i32_12 : BitVec 32 := 1#32
  let arg14 : BitVec 32 := Scf.iv c0_i32_11 c1_i32_12 k0_t3
  let v25 : BitVec 32 := Scalar.muli c2_i32_14 arg14
  let c0_i32_15 : BitVec 32 := 0#32
  let v26 : BitVec 32 := Scalar.addi v25 c0_i32_15
  let c0_i32_20 : BitVec 32 := 0#32
  ![v26.toNat, 0]
def k0_off16 (v28 : BitVec 32) : Fin 2 → Nat :=
  let c0_i32_21 : BitVec 32 := 0#32
  ![v28.toNat, 0]
def k0_cond3 (i : grid0.Coords) (v0 : BitVec 32) : BitVec 1 :=
  let arg0 : BitVec 32 := BitVec.ofNat 32 (i 0).val
  let c1_i32 : BitVec 32 := 1#32
  let v5 : BitVec 32 := Scalar.addi arg0 c1_i32
  let v12 : BitVec 1 := Scalar.cmpi .slt v5 v0
  let c2_i32_4 : BitVec 32 := 2#32
  let v13 : BitVec 32 := Scalar.remsi v5 c2_i32_4
  let c1_i32_5 : BitVec 32 := 1#32
  let v14 : BitVec 1 := Scalar.cmpi .eq v13 c1_i32_5
  let v15 : BitVec 1 := Scalar.andi v12 v14
  let v16 : BitVec 32 := Scalar.extui v15
  let c0_i32_6 : BitVec 32 := 0#32
  let v17 : BitVec 1 := Scalar.cmpi .ne v16 c0_i32_6
  v17

def k0_chk5 (i : grid0.Coords) (v0 : BitVec 32) (v28 : BitVec 32) : Prop :=
  (∀ (k0_h3 : k0_cond3 i v0 = 1#1), ∀ a, (k0_off16 v28) a + S1x1024.size a ≤ S32768x1024.size a)
theorem k0_off16_inb : ∀ (i : grid0.Coords) (v0 : BitVec 32) (v28 : BitVec 32) (k0_hw5 : k0_chk5 i v0 v28), ∀ (k0_h3 : k0_cond3 i v0 = 1#1), ∀ a, (k0_off16 v28) a + S1x1024.size a ≤ S32768x1024.size a := fun i v0 v28 k0_hw5 k0_h3 => k0_hw5 k0_h3

def k0_off17 (k0_t3 : Fin k0_t3_loop.trips) : Fin 3 → Nat :=
  let c0_24 : Index := 0#32
  let c0_25 : Index := 0#32
  let c2_i32_22 : BitVec 32 := 2#32
  let c0_i32_11 : BitVec 32 := 0#32
  let c1_i32_12 : BitVec 32 := 1#32
  let arg14 : BitVec 32 := Scf.iv c0_i32_11 c1_i32_12 k0_t3
  let v35 : BitVec 32 := Scalar.muli c2_i32_22 arg14
  let c1_i32_23 : BitVec 32 := 1#32
  let v36 : BitVec 32 := Scalar.addi v35 c1_i32_23
  let v37 : Index := Scalar.indexCast v36
  ![0, 0, v37.toNat]
def k0_off18 (k0_t3 : Fin k0_t3_loop.trips) : Fin 2 → Nat :=
  let c2_i32_22 : BitVec 32 := 2#32
  let c0_i32_11 : BitVec 32 := 0#32
  let c1_i32_12 : BitVec 32 := 1#32
  let arg14 : BitVec 32 := Scf.iv c0_i32_11 c1_i32_12 k0_t3
  let v35 : BitVec 32 := Scalar.muli c2_i32_22 arg14
  let c1_i32_23 : BitVec 32 := 1#32
  let v36 : BitVec 32 := Scalar.addi v35 c1_i32_23
  let c0_i32_28 : BitVec 32 := 0#32
  ![v36.toNat, 0]
def k0_off19 (v38 : BitVec 32) : Fin 2 → Nat :=
  let c0_i32_29 : BitVec 32 := 0#32
  ![v38.toNat, 0]

def k0_chk6 (i : grid0.Coords) (v0 : BitVec 32) (v38 : BitVec 32) : Prop :=
  (∀ (k0_h3 : k0_cond3 i v0 = 1#1), ∀ a, (k0_off19 v38) a + S1x1024.size a ≤ S32768x1024.size a)
theorem k0_off19_inb : ∀ (i : grid0.Coords) (v0 : BitVec 32) (v38 : BitVec 32) (k0_hw6 : k0_chk6 i v0 v38), ∀ (k0_h3 : k0_cond3 i v0 = 1#1), ∀ a, (k0_off19 v38) a + S1x1024.size a ≤ S32768x1024.size a := fun i v0 v38 k0_hw6 k0_h3 => k0_hw6 k0_h3

@[reducible] def k0_t4_loop : Scf.Loop 32 :=
  let c0_i32_9 : BitVec 32 := 0#32
  let c512_i32 : BitVec 32 := 512#32
  let v24 : BitVec 32 := Scalar.addi c0_i32_9 c512_i32
  let c1_i32_10 : BitVec 32 := 1#32
  ⟨c0_i32_9, v24, c1_i32_10⟩
def k0_off20 (k0_t4 : Fin k0_t4_loop.trips) : Fin 3 → Nat :=
  let c0_39 : Index := 0#32
  let c0_40 : Index := 0#32
  let c0_i32_9 : BitVec 32 := 0#32
  let c1_i32_10 : BitVec 32 := 1#32
  let arg14 : BitVec 32 := Scf.iv c0_i32_9 c1_i32_10 k0_t4
  let v74 : Index := Scalar.indexCast arg14
  ![0, 0, v74.toNat]
def k0_off21 (i : grid0.Coords) : Fin 1 → Nat :=
  let arg0 : BitVec 32 := BitVec.ofNat 32 (i 0).val
  let c2_i32 : BitVec 32 := 2#32
  let v1 : BitVec 32 := Scalar.remsi arg0 c2_i32
  ![v1.toNat]
def k0_off22 (i : grid0.Coords) : Fin 3 → Nat :=
  let arg0 : BitVec 32 := BitVec.ofNat 32 (i 0).val
  let c2_i32 : BitVec 32 := 2#32
  let v1 : BitVec 32 := Scalar.remsi arg0 c2_i32
  let c0_i32_41 : BitVec 32 := 0#32
  let c0_i32_42 : BitVec 32 := 0#32
  ![v1.toNat, 0, 0]
def k0_off23 (k0_t4 : Fin k0_t4_loop.trips) : Fin 2 → Nat :=
  let c0_i32_9 : BitVec 32 := 0#32
  let c1_i32_10 : BitVec 32 := 1#32
  let arg14 : BitVec 32 := Scf.iv c0_i32_9 c1_i32_10 k0_t4
  let c0_i32_43 : BitVec 32 := 0#32
  ![arg14.toNat, 0]
def k0_off24 (v75 : BitVec 32) : Fin 2 → Nat :=
  let c0_i32_44 : BitVec 32 := 0#32
  ![v75.toNat, 0]
def k0_cond4 (i : grid0.Coords) (v0 : BitVec 32) : BitVec 1 :=
  let arg0 : BitVec 32 := BitVec.ofNat 32 (i 0).val
  let v18 : BitVec 1 := Scalar.cmpi .slt arg0 v0
  let v19 : BitVec 32 := Scalar.extui v18
  let c0_i32_7 : BitVec 32 := 0#32
  let v20 : BitVec 1 := Scalar.cmpi .ne v19 c0_i32_7
  v20

def k0_chk7 (i : grid0.Coords) (v0 : BitVec 32) (v75 : BitVec 32) : Prop :=
  (∀ (k0_h4 : k0_cond4 i v0 = 1#1), ∀ a, (k0_off24 v75) a + S1x1024.size a ≤ S32768x1024.size a)
theorem k0_off24_inb : ∀ (i : grid0.Coords) (v0 : BitVec 32) (v75 : BitVec 32) (k0_hw7 : k0_chk7 i v0 v75), ∀ (k0_h4 : k0_cond4 i v0 = 1#1), ∀ a, (k0_off24 v75) a + S1x1024.size a ≤ S32768x1024.size a := fun i v0 v75 k0_hw7 k0_h4 => k0_hw7 k0_h4

def k0_off25 (i : grid0.Coords) : Fin 3 → Nat :=
  let arg0 : BitVec 32 := BitVec.ofNat 32 (i 0).val
  let c2_i32 : BitVec 32 := 2#32
  let v1 : BitVec 32 := Scalar.remsi arg0 c2_i32
  let v25 : Index := Scalar.indexCast v1
  let c0_12 : Index := 0#32
  let c0_13 : Index := 0#32
  ![v25.toNat, 0, 0]
def k0_cond5 (i : grid0.Coords) (v0 : BitVec 32) : BitVec 1 :=
  let arg0 : BitVec 32 := BitVec.ofNat 32 (i 0).val
  let v21 : BitVec 1 := Scalar.cmpi .sge arg0 v0
  let v22 : BitVec 32 := Scalar.extui v21
  let c0_i32_8 : BitVec 32 := 0#32
  let v23 : BitVec 1 := Scalar.cmpi .ne v22 c0_i32_8
  v23

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c287_i32 : BitVec 32 := 287#32
  let v1 : BitVec 32 := Scalar.minsi v0 c287_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MoeRefIdeal.lean ====
abbrev S288 : Shape := ⟨1, ![288]⟩
abbrev S1 : Shape := ⟨1, ![1]⟩
abbrev S288x512 : Shape := ⟨2, ![288, 512]⟩
abbrev S32768x1024 : Shape := ⟨2, ![32768, 1024]⟩
abbrev S1024 : Shape := ⟨1, ![1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S288x512x1 : Shape := ⟨3, ![288, 512, 1]⟩
abbrev S288x512x1024 : Shape := ⟨3, ![288, 512, 1024]⟩
abbrev S288x1 : Shape := ⟨2, ![288, 1]⟩
abbrev S288x1024x2048 : Shape := ⟨3, ![288, 1024, 2048]⟩
abbrev S288x512x2048 : Shape := ⟨3, ![288, 512, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩
abbrev S288x1x1 : Shape := ⟨3, ![288, 1, 1]⟩
abbrev S147456x1024 : Shape := ⟨2, ![147456, 1024]⟩

abbrev nBuf : Space → Nat
  | .hbm => 82
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S288x512, .i32⟩
  | .hbm, ⟨3, _⟩ => ⟨S32768x1024, .f32⟩
  | .hbm, ⟨4, _⟩ => ⟨S1024, .f32⟩
  | .hbm, ⟨5, _⟩ => ⟨S32x1024x2048, .f32⟩
  | .hbm, ⟨6, _⟩ => ⟨S32x2048, .f32⟩
  | .hbm, ⟨7, _⟩ => ⟨S32x1024x1024, .f32⟩
  | .hbm, ⟨8, _⟩ => ⟨S32x1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S288x512x1, .i32⟩
  | .hbm, ⟨26, _⟩ => ⟨S288x512x1024, .f32⟩
  | .hbm, ⟨27, _⟩ => ⟨S288x1, .i32⟩
  | .hbm, ⟨28, _⟩ => ⟨S288x1024x2048, .f32⟩
  | .hbm, ⟨29, _⟩ => ⟨S288x512x2048, .f32⟩
  | .hbm, ⟨30, _⟩ => ⟨S288x1, .i32⟩
  | .hbm, ⟨31, _⟩ => ⟨S288x2048, .f32⟩
  | .hbm, ⟨32, _⟩ => ⟨S288x1x2048, .f32⟩
  | .hbm, ⟨33, _⟩ => ⟨S288x512x2048, .f32⟩
  | .hbm, ⟨34, _⟩ => ⟨S288x512x2048, .f32⟩
  | .hbm, ⟨35, _⟩ => ⟨S288x512x1024, .f32⟩
  | .hbm, ⟨36, _⟩ => ⟨S288x512x1024, .f32⟩
  | .hbm, ⟨37, _⟩ => ⟨S_, .f32⟩
  | .hbm, ⟨38, _⟩ => ⟨S288x512x1024, .f32⟩
  | .hbm, ⟨39, _⟩ => ⟨S288x512x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S288x512x1024, .f32⟩
  | .hbm, ⟨44, _⟩ => ⟨S288x512x1024, .f32⟩
  | .hbm, ⟨45, _⟩ => ⟨S_, .f32⟩
  | .hbm, ⟨46, _⟩ => ⟨S288x512x1024, .f32⟩
  | .hbm, ⟨47, _⟩ => ⟨S288x512x1024, .f32⟩
  | .hbm, ⟨48, _⟩ => ⟨S_, .f32⟩
  | .hbm, ⟨49, _⟩ => ⟨S288x512x1024, .f32⟩
  | .hbm, ⟨50, _⟩ => ⟨S288x512x1024, .f32⟩
  | .hbm, ⟨51, _⟩ => ⟨S288x512x1024, .f32⟩
  | .hbm, ⟨52, _⟩ => ⟨S288x512x1024, .f32⟩
  | .hbm, ⟨53, _⟩ => ⟨S_, .f32⟩
  | .hbm, ⟨54, _⟩ => ⟨S288x512x1024, .f32⟩
  | .hbm, ⟨55, _⟩ => ⟨S288x512x1024, .f32⟩
  | .hbm, ⟨56, _⟩ => ⟨S_, .f32⟩
  | .hbm, ⟨57, _⟩ => ⟨S288x512x1024, .f32⟩
  | .hbm, ⟨58, _⟩ => ⟨S288x512x1024, .f32⟩
  | .hbm, ⟨59, _⟩ => ⟨S288x512x1024, .f32⟩
  | .hbm, ⟨60, _⟩ => ⟨S_, .f32⟩
  | .hbm, ⟨61, _⟩ => ⟨S288x512x1024, .f32⟩
  | .hbm, ⟨62, _⟩ => ⟨S288x512x1024, .f32⟩
  | .hbm, ⟨63, _⟩ => ⟨S288x512x1024, .f32⟩
  | .hbm, ⟨64, _⟩ => ⟨S288x1, .i32⟩
  | .hbm, ⟨65, _⟩ => ⟨S288x1024x1024, .f32⟩
  | .hbm, ⟨66, _⟩ => ⟨S288x512x1024, .f32⟩
  | .hbm, ⟨67, _⟩ => ⟨S288x1, .i32⟩
  | .hbm, ⟨68, _⟩ => ⟨S288x1024, .f32⟩
  | .hbm, ⟨69, _⟩ => ⟨S288x1x1024, .f32⟩
  | .hbm, ⟨70, _⟩ => ⟨S288x512x1024, .f32⟩
  | .hbm, ⟨71, _⟩ => ⟨S288x512x1024, .f32⟩
  | .hbm, ⟨72, _⟩ => ⟨S288, .i32⟩
  | .hbm, ⟨73, _⟩ => ⟨S288, .i32⟩
  | .hbm, ⟨74, _⟩ => ⟨S288, .i1⟩
  | .hbm, ⟨75, _⟩ => ⟨S288x1x1, .i1⟩
  | .hbm, ⟨76, _⟩ => ⟨S_, .f32⟩
  | .hbm, ⟨77, _⟩ => ⟨S_, .f32⟩
  | .hbm, ⟨78, _⟩ => ⟨S288x512x1024, .i1⟩
  | .hbm, ⟨79, _⟩ => ⟨S288x512x1024, .f32⟩
  | .hbm, ⟨80, _⟩ => ⟨S288x512x1024, .f32⟩
  | .hbm, ⟨81, _⟩ => ⟨S147456x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_v0 : Ref sig .tc := ⟨.hbm, 25, rfl⟩
abbrev main_v13 : Ref sig .tc := ⟨.hbm, 26, rfl⟩
abbrev main_call1_v0 : Ref sig .tc := ⟨.hbm, 27, rfl⟩
abbrev main_v14 : Ref sig .tc := ⟨.hbm, 28, rfl⟩
abbrev main_v15 : Ref sig .tc := ⟨.hbm, 29, rfl⟩
abbrev main_call2_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_cst_4 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call4_v0 : Ref sig .tc := ⟨.hbm, 64, rfl⟩
abbrev main_v37 : Ref sig .tc := ⟨.hbm, 65, rfl⟩
abbrev main_v38 : Ref sig .tc := ⟨.hbm, 66, rfl⟩
abbrev main_call5_v0 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_call6_v0 : Ref sig .tc := ⟨.hbm, 77, rfl⟩
abbrev main_call6_v1 : Ref sig .tc := ⟨.hbm, 78, rfl⟩
abbrev main_call6_v2 : Ref sig .tc := ⟨.hbm, 79, rfl⟩
abbrev main_v47 : Ref sig .tc := ⟨.hbm, 80, rfl⟩
abbrev main_v48 : Ref sig .tc := ⟨.hbm, 81, rfl⟩

abbrev nD : Nat := 1
abbrev τ : Topo := Topo.v7x

variable {F : FTy → Type} [FloatOps F]
-- ==== Cmb.lean ====
abbrev S32768x4 : Shape := ⟨2, ![32768, 4]⟩
abbrev S147456x1024 : Shape := ⟨2, ![147456, 1024]⟩
abbrev S32768x1024 : Shape := ⟨2, ![32768, 1024]⟩
abbrev S32768x128 : Shape := ⟨2, ![32768, 128]⟩
abbrev S32768x256 : Shape := ⟨2, ![32768, 256]⟩
abbrev S1024x1024 : Shape := ⟨2, ![1024, 1024]⟩
abbrev S256x1024 : Shape := ⟨2, ![256, 1024]⟩
abbrev S256x128x4 : Shape := ⟨3, ![256, 128, 4]⟩
abbrev S256x4x128 : Shape := ⟨3, ![256, 4, 128]⟩
abbrev S256x1x512 : Shape := ⟨3, ![256, 1, 512]⟩
abbrev S1x1x512 : Shape := ⟨3, ![1, 1, 512]⟩
abbrev S128x1024 : Shape := ⟨2, ![128, 1024]⟩
abbrev S128x128 : Shape := ⟨2, ![128, 128]⟩
abbrev S128x256 : Shape := ⟨2, ![128, 256]⟩
abbrev S2x512x1024 : Shape := ⟨3, ![2, 512, 1024]⟩
abbrev S2 : Shape := ⟨1, ![2]⟩
abbrev S1x1x1 : Shape := ⟨3, ![1, 1, 1]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S1x1024 : Shape := ⟨2, ![1, 1024]⟩
abbrev S128x1 : Shape := ⟨2, ![128, 1]⟩
abbrev S1x128x1024 : Shape := ⟨3, ![1, 128, 1024]⟩
abbrev S128 : Shape := ⟨1, ![128]⟩

abbrev nBuf : Space → Nat
  | .hbm => 13
  | .vmem => 11
  | .smem => 4
  | _ => 0

abbrev bufTy : (tb : Table) → Fin (tcTables nBuf tb) → BufTy
  | .hbm, ⟨0, _⟩ => ⟨S32768x4, .i32⟩
  | .hbm, ⟨1, _⟩ => ⟨S147456x1024, .f32⟩
  | .hbm, ⟨2, _⟩ => ⟨S32768x1024, .f32⟩
  | .hbm, ⟨3, _⟩ => ⟨S32768x128, .f32⟩
  | .hbm, ⟨4, _⟩ => ⟨S32768x256, .f32⟩
  | .hbm, ⟨5, _⟩ => ⟨S1024x1024, .f32⟩
  | .hbm, ⟨6, _⟩ => ⟨S256x1024, .f32⟩
  | .hbm, ⟨7, _⟩ => ⟨S256x128x4, .i32⟩
  | .hbm, ⟨8, _⟩ => ⟨S256x4x128, .i32⟩
  | .hbm, ⟨9, _⟩ => ⟨S256x1x512, .i32⟩
  | .hbm, ⟨10, _⟩ => ⟨S1024x1024, .bf16⟩
  | .hbm, ⟨11, _⟩ => ⟨S256x1024, .bf16⟩
  | .hbm, ⟨12, _⟩ => ⟨S32768x1024, .f32⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x256, .f32⟩
  | .local _ .vmem, ⟨5, _⟩ => ⟨S128x256, .f32⟩
  | .local _ .vmem, ⟨6, _⟩ => ⟨S1024x1024, .bf16⟩
  | .local _ .vmem, ⟨7, _⟩ => ⟨S256x1024, .bf16⟩
  | .local _ .vmem, ⟨8, _⟩ => ⟨S128x1024, .f32⟩
  | .local _ .vmem, ⟨9, _⟩ => ⟨S128x1024, .f32⟩
  | .local _ .vmem, ⟨10, _⟩ => ⟨S2x512x1024, .f32⟩
  | .local _ .smem, ⟨0, _⟩ => ⟨S1x1x512, .i32⟩
  | .local _ .smem, ⟨1, _⟩ => ⟨S1x1x512, .i32⟩
  | .local _ .smem, ⟨2, _⟩ => ⟨S1x1x512, .i32⟩
  | .local _ .smem, ⟨3, _⟩ => ⟨S1x1x512, .i32⟩
  | _, _ => ⟨S32768x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![256], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_33 : BitVec 32 := 0#32
  let c256_i32_34 : BitVec 32 := 256#32
  let v71 : BitVec 32 := Scalar.addi c0_i32_33 c256_i32_34
  let c1_i32_35 : BitVec 32 := 1#32
  ⟨c0_i32_33, v71, c1_i32_35⟩
def k0_off1 (k0_t1 : Fin k0_t1_loop.trips) : Fin 3 → Nat :=
  let c0_39 : Index := 0#32
  let c0_40 : Index := 0#32
  let c2_i32_37 : BitVec 32 := 2#32
  let c0_i32_33 : BitVec 32 := 0#32
  let c1_i32_35 : BitVec 32 := 1#32
  let arg12 : BitVec 32 := Scf.iv c0_i32_33 c1_i32_35 k0_t1
  let v72 : BitVec 32 := Scalar.muli c2_i32_37 arg12
  let c0_i32_38 : BitVec 32 := 0#32
  let v73 : BitVec 32 := Scalar.addi v72 c0_i32_38
  let v74 : Index := Scalar.indexCast v73
  ![0, 0, v74.toNat]
def k0_off2 (k0_t1 : Fin k0_t1_loop.trips) : Fin 2 → Nat :=
  let c2_i32_37 : BitVec 32 := 2#32
  let c0_i32_33 : BitVec 32 := 0#32
  let c1_i32_35 : BitVec 32 := 1#32
  let arg12 : BitVec 32 := Scf.iv c0_i32_33 c1_i32_35 k0_t1
  let v72 : BitVec 32 := Scalar.muli c2_i32_37 arg12
  let c0_i32_38 : BitVec 32 := 0#32
  let v73 : BitVec 32 := Scalar.addi v72 c0_i32_38
  let c0_i32_43 : BitVec 32 := 0#32
  ![v73.toNat, 0]
def k0_off3 (v75 : BitVec 32) : Fin 2 → Nat :=
  let c0_i32_44 : BitVec 32 := 0#32
  ![v75.toNat, 0]

def k0_chk1 (i : grid0.Coords) (v75 : BitVec 32) : Prop :=
  (∀ (k0_h1 : k0_cond1 i = 1#1), ∀ a, (k0_off3 v75) a + S1x1024.size a ≤ S147456x1024.size a)
theorem k0_off3_inb : ∀ (i : grid0.Coords) (v75 : BitVec 32) (k0_hw1 : k0_chk1 i v75), ∀ (k0_h1 : k0_cond1 i = 1#1), ∀ a, (k0_off3 v75) a + S1x1024.size a ≤ S147456x1024.size a := fun i v75 k0_hw1 k0_h1 => k0_hw1 k0_h1

def k0_off4 (k0_t1 : Fin k0_t1_loop.trips) : Fin 3 → Nat :=
  let c0_47 : Index := 0#32
  let c0_48 : Index := 0#32
  let c2_i32_45 : BitVec 32 := 2#32
  let c0_i32_33 : BitVec 32 := 0#32
  let c1_i32_35 : BitVec 32 := 1#32
  let arg12 : BitVec 32 := Scf.iv c0_i32_33 c1_i32_35 k0_t1
  let v82 : BitVec 32 := Scalar.muli c2_i32_45 arg12
  let c1_i32_46 : BitVec 32 := 1#32
  let v83 : BitVec 32 := Scalar.addi v82 c1_i32_46
  let v84 : Index := Scalar.indexCast v83
  ![0, 0, v84.toNat]
def k0_off5 (k0_t1 : Fin k0_t1_loop.trips) : Fin 2 → Nat :=
  let c2_i32_45 : BitVec 32 := 2#32
  let c0_i32_33 : BitVec 32 := 0#32
  let c1_i32_35 : BitVec 32 := 1#32
  let arg12 : BitVec 32 := Scf.iv c0_i32_33 c1_i32_35 k0_t1
  let v82 : BitVec 32 := Scalar.muli c2_i32_45 arg12
  let c1_i32_46 : BitVec 32 := 1#32
  let v83 : BitVec 32 := Scalar.addi v82 c1_i32_46
  let c0_i32_51 : BitVec 32 := 0#32
  ![v83.toNat, 0]
def k0_off6 (v85 : BitVec 32) : Fin 2 → Nat :=
  let c0_i32_52 : BitVec 32 := 0#32
  ![v85.toNat, 0]

def k0_chk2 (i : grid0.Coords) (v85 : BitVec 32) : Prop :=
  (∀ (k0_h1 : k0_cond1 i = 1#1), ∀ a, (k0_off6 v85) a + S1x1024.size a ≤ S147456x1024.size a)
theorem k0_off6_inb : ∀ (i : grid0.Coords) (v85 : BitVec 32) (k0_hw2 : k0_chk2 i v85), ∀ (k0_h1 : k0_cond1 i = 1#1), ∀ a, (k0_off6 v85) a + S1x1024.size a ≤ S147456x1024.size a := fun i v85 k0_hw2 k0_h1 => k0_hw2 k0_h1

def k0_cond2 (i : grid0.Coords) : BitVec 1 :=
  let arg0 : BitVec 32 := BitVec.ofNat 32 (i 0).val
  let c1_i32 : BitVec 32 := 1#32
  let v4 : BitVec 32 := Scalar.addi arg0 c1_i32
  let c256_i32 : BitVec 32 := 256#32
  let v5 : BitVec 1 := Scalar.cmpi .slt v4 c256_i32
  let c2_i32_1 : BitVec 32 := 2#32
  let v6 : BitVec 32 := Scalar.remsi v4 c2_i32_1
  let c0_i32_2 : BitVec 32 := 0#32
  let v7 : BitVec 1 := Scalar.cmpi .eq v6 c0_i32_2
  let v8 : BitVec 1 := Scalar.andi v5 v7
  let v9 : BitVec 32 := Scalar.extui v8
  let c0_i32_3 : BitVec 32 := 0#32
  let v10 : BitVec 1 := Scalar.cmpi .ne v9 c0_i32_3
  v10

@[reducible] def k0_t2_loop : Scf.Loop 32 :=
  let c0_i32_33 : BitVec 32 := 0#32
  let c256_i32_34 : BitVec 32 := 256#32
  let v71 : BitVec 32 := Scalar.addi c0_i32_33 c256_i32_34
  let c1_i32_35 : BitVec 32 := 1#32
  ⟨c0_i32_33, v71, c1_i32_35⟩
def k0_off7 (k0_t2 : Fin k0_t2_loop.trips) : Fin 3 → Nat :=
  let c0_39 : Index := 0#32
  let c0_40 : Index := 0#32
  let c2_i32_37 : BitVec 32 := 2#32
  let c0_i32_33 : BitVec 32 := 0#32
  let c1_i32_35 : BitVec 32 := 1#32
  let arg12 : BitVec 32 := Scf.iv c0_i32_33 c1_i32_35 k0_t2
  let v72 : BitVec 32 := Scalar.muli c2_i32_37 arg12
  let c0_i32_38 : BitVec 32 := 0#32
  let v73 : BitVec 32 := Scalar.addi v72 c0_i32_38
  let v74 : Index := Scalar.indexCast v73
  ![0, 0, v74.toNat]
def k0_off8 (k0_t2 : Fin k0_t2_loop.trips) : Fin 2 → Nat :=
  let c2_i32_37 : BitVec 32 := 2#32
  let c0_i32_33 : BitVec 32 := 0#32
  let c1_i32_35 : BitVec 32 := 1#32
  let arg12 : BitVec 32 := Scf.iv c0_i32_33 c1_i32_35 k0_t2
  let v72 : BitVec 32 := Scalar.muli c2_i32_37 arg12
  let c0_i32_38 : BitVec 32 := 0#32
  let v73 : BitVec 32 := Scalar.addi v72 c0_i32_38
  let c0_i32_43 : BitVec 32 := 0#32
  ![v73.toNat, 0]
def k0_off9 (v75 : BitVec 32) : Fin 2 → Nat :=
  let c0_i32_44 : BitVec 32 := 0#32
  ![v75.toNat, 0]

def k0_chk3 (i : grid0.Coords) (v75 : BitVec 32) : Prop :=
  (∀ (k0_h2 : k0_cond2 i = 1#1), ∀ a, (k0_off9 v75) a + S1x1024.size a ≤ S147456x1024.size a)
theorem k0_off9_inb : ∀ (i : grid0.Coords) (v75 : BitVec 32) (k0_hw3 : k0_chk3 i v75), ∀ (k0_h2 : k0_cond2 i = 1#1), ∀ a, (k0_off9 v75) a + S1x1024.size a ≤ S147456x1024.size a := fun i v75 k0_hw3 k0_h2 => k0_hw3 k0_h2

def k0_off10 (k0_t2 : Fin k0_t2_loop.trips) : Fin 3 → Nat :=
  let c0_47 : Index := 0#32
  let c0_48 : Index := 0#32
  let c2_i32_45 : BitVec 32 := 2#32
  let c0_i32_33 : BitVec 32 := 0#32
  let c1_i32_35 : BitVec 32 := 1#32
  let arg12 : BitVec 32 := Scf.iv c0_i32_33 c1_i32_35 k0_t2
  let v82 : BitVec 32 := Scalar.muli c2_i32_45 arg12
  let c1_i32_46 : BitVec 32 := 1#32
  let v83 : BitVec 32 := Scalar.addi v82 c1_i32_46
  let v84 : Index := Scalar.indexCast v83
  ![0, 0, v84.toNat]
def k0_off11 (k0_t2 : Fin k0_t2_loop.trips) : Fin 2 → Nat :=
  let c2_i32_45 : BitVec 32 := 2#32
  let c0_i32_33 : BitVec 32 := 0#32
  let c1_i32_35 : BitVec 32 := 1#32
  let arg12 : BitVec 32 := Scf.iv c0_i32_33 c1_i32_35 k0_t2
  let v82 : BitVec 32 := Scalar.muli c2_i32_45 arg12
  let c1_i32_46 : BitVec 32 := 1#32
  let v83 : BitVec 32 := Scalar.addi v82 c1_i32_46
  let c0_i32_51 : BitVec 32 := 0#32
  ![v83.toNat, 0]
def k0_off12 (v85 : BitVec 32) : Fin 2 → Nat :=
  let c0_i32_52 : BitVec 32 := 0#32
  ![v85.toNat, 0]

def k0_chk4 (i : grid0.Coords) (v85 : BitVec 32) : Prop :=
  (∀ (k0_h2 : k0_cond2 i = 1#1), ∀ a, (k0_off12 v85) a + S1x1024.size a ≤ S147456x1024.size a)
theorem k0_off12_inb : ∀ (i : grid0.Coords) (v85 : BitVec 32) (k0_hw4 : k0_chk4 i v85), ∀ (k0_h2 : k0_cond2 i = 1#1), ∀ a, (k0_off12 v85) a + S1x1024.size a ≤ S147456x1024.size a := fun i v85 k0_hw4 k0_h2 => k0_hw4 k0_h2

def k0_cond3 (i : grid0.Coords) : BitVec 1 :=
  let arg0 : BitVec 32 := BitVec.ofNat 32 (i 0).val
  let c1_i32 : BitVec 32 := 1#32
  let v4 : BitVec 32 := Scalar.addi arg0 c1_i32
  let c256_i32_4 : BitVec 32 := 256#32
  let v11 : BitVec 1 := Scalar.cmpi .slt v4 c256_i32_4
  let c2_i32_5 : BitVec 32 := 2#32
  let v12 : BitVec 32 := Scalar.remsi v4 c2_i32_5
  let c1_i32_6 : BitVec 32 := 1#32
  let v13 : BitVec 1 := Scalar.cmpi .eq v12 c1_i32_6
  let v14 : BitVec 1 := Scalar.andi v11 v13
  let v15 : BitVec 32 := Scalar.extui v14
  let c0_i32_7 : BitVec 32 := 0#32
  let v16 : BitVec 1 := Scalar.cmpi .ne v15 c0_i32_7
  v16

@[reducible] def k0_t3_loop : Scf.Loop 32 :=
  let c0_i32_33 : BitVec 32 := 0#32
  let c256_i32_34 : BitVec 32 := 256#32
  let v71 : BitVec 32 := Scalar.addi c0_i32_33 c256_i32_34
  let c1_i32_35 : BitVec 32 := 1#32
  ⟨c0_i32_33, v71, c1_i32_35⟩
def k0_off13 (k0_t3 : Fin k0_t3_loop.trips) : Fin 3 → Nat :=
  let c0_39 : Index := 0#32
  let c0_40 : Index := 0#32
  let c2_i32_37 : BitVec 32 := 2#32
  let c0_i32_33 : BitVec 32 := 0#32
  let c1_i32_35 : BitVec 32 := 1#32
  let arg12 : BitVec 32 := Scf.iv c0_i32_33 c1_i32_35 k0_t3
  let v72 : BitVec 32 := Scalar.muli c2_i32_37 arg12
  let c0_i32_38 : BitVec 32 := 0#32
  let v73 : BitVec 32 := Scalar.addi v72 c0_i32_38
  let v74 : Index := Scalar.indexCast v73
  ![0, 0, v74.toNat]
def k0_off14 (k0_t3 : Fin k0_t3_loop.trips) : Fin 2 → Nat :=
  let c2_i32_37 : BitVec 32 := 2#32
  let c0_i32_33 : BitVec 32 := 0#32
  let c1_i32_35 : BitVec 32 := 1#32
  let arg12 : BitVec 32 := Scf.iv c0_i32_33 c1_i32_35 k0_t3
  let v72 : BitVec 32 := Scalar.muli c2_i32_37 arg12
  let c0_i32_38 : BitVec 32 := 0#32
  let v73 : BitVec 32 := Scalar.addi v72 c0_i32_38
  let c0_i32_43 : BitVec 32 := 0#32
  ![v73.toNat, 0]
def k0_off15 (v75 : BitVec 32) : Fin 2 → Nat :=
  let c0_i32_44 : BitVec 32 := 0#32
  ![v75.toNat, 0]

def k0_chk5 (i : grid0.Coords) (v75 : BitVec 32) : Prop :=
  (∀ (k0_h3 : k0_cond3 i = 1#1), ∀ a, (k0_off15 v75) a + S1x1024.size a ≤ S147456x1024.size a)
theorem k0_off15_inb : ∀ (i : grid0.Coords) (v75 : BitVec 32) (k0_hw5 : k0_chk5 i v75), ∀ (k0_h3 : k0_cond3 i = 1#1), ∀ a, (k0_off15 v75) a + S1x1024.size a ≤ S147456x1024.size a := fun i v75 k0_hw5 k0_h3 => k0_hw5 k0_h3

def k0_off16 (k0_t3 : Fin k0_t3_loop.trips) : Fin 3 → Nat :=
  let c0_47 : Index := 0#32
  let c0_48 : Index := 0#32
  let c2_i32_45 : BitVec 32 := 2#32
  let c0_i32_33 : BitVec 32 := 0#32
  let c1_i32_35 : BitVec 32 := 1#32
  let arg12 : BitVec 32 := Scf.iv c0_i32_33 c1_i32_35 k0_t3
  let v82 : BitVec 32 := Scalar.muli c2_i32_45 arg12
  let c1_i32_46 : BitVec 32 := 1#32
  let v83 : BitVec 32 := Scalar.addi v82 c1_i32_46
  let v84 : Index := Scalar.indexCast v83
  ![0, 0, v84.toNat]
def k0_off17 (k0_t3 : Fin k0_t3_loop.trips) : Fin 2 → Nat :=
  let c2_i32_45 : BitVec 32 := 2#32
  let c0_i32_33 : BitVec 32 := 0#32
  let c1_i32_35 : BitVec 32 := 1#32
  let arg12 : BitVec 32 := Scf.iv c0_i32_33 c1_i32_35 k0_t3
  let v82 : BitVec 32 := Scalar.muli c2_i32_45 arg12
  let c1_i32_46 : BitVec 32 := 1#32
  let v83 : BitVec 32 := Scalar.addi v82 c1_i32_46
  let c0_i32_51 : BitVec 32 := 0#32
  ![v83.toNat, 0]
def k0_off18 (v85 : BitVec 32) : Fin 2 → Nat :=
  let c0_i32_52 : BitVec 32 := 0#32
  ![v85.toNat, 0]

def k0_chk6 (i : grid0.Coords) (v85 : BitVec 32) : Prop :=
  (∀ (k0_h3 : k0_cond3 i = 1#1), ∀ a, (k0_off18 v85) a + S1x1024.size a ≤ S147456x1024.size a)
theorem k0_off18_inb : ∀ (i : grid0.Coords) (v85 : BitVec 32) (k0_hw6 : k0_chk6 i v85), ∀ (k0_h3 : k0_cond3 i = 1#1), ∀ a, (k0_off18 v85) a + S1x1024.size a ≤ S147456x1024.size a := fun i v85 k0_hw6 k0_h3 => k0_hw6 k0_h3

@[reducible] def k0_t4_loop : Scf.Loop 32 :=
  let c0_i32_8 : BitVec 32 := 0#32
  let c512_i32 : BitVec 32 := 512#32
  let v17 : BitVec 32 := Scalar.addi c0_i32_8 c512_i32
  let c1_i32_9 : BitVec 32 := 1#32
  ⟨c0_i32_8, v17, c1_i32_9⟩
def k0_off19 (k0_t4 : Fin k0_t4_loop.trips) : Fin 3 → Nat :=
  let c0_31 : Index := 0#32
  let c0_32 : Index := 0#32
  let c0_i32_8 : BitVec 32 := 0#32
  let c1_i32_9 : BitVec 32 := 1#32
  let arg12 : BitVec 32 := Scf.iv c0_i32_8 c1_i32_9 k0_t4
  let v71 : Index := Scalar.indexCast arg12
  ![0, 0, v71.toNat]
def k0_off20 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off21 (i : grid0.Coords) : Fin 3 → Nat :=
  let arg0 : BitVec 32 := BitVec.ofNat 32 (i 0).val
  let c2_i32 : BitVec 32 := 2#32
  let v0 : BitVec 32 := Scalar.remsi arg0 c2_i32
  let c0_i32_33 : BitVec 32 := 0#32
  let c0_i32_34 : BitVec 32 := 0#32
  ![v0.toNat, 0, 0]
def k0_off22 (k0_t4 : Fin k0_t4_loop.trips) : Fin 2 → Nat :=
  let c0_i32_8 : BitVec 32 := 0#32
  let c1_i32_9 : BitVec 32 := 1#32
  let arg12 : BitVec 32 := Scf.iv c0_i32_8 c1_i32_9 k0_t4
  let c0_i32_35 : BitVec 32 := 0#32
  ![arg12.toNat, 0]
def k0_off23 (v72 : BitVec 32) : Fin 2 → Nat :=
  let c0_i32_36 : BitVec 32 := 0#32
  ![v72.toNat, 0]

def k0_chk7 (v72 : BitVec 32) : Prop :=
  (∀ a, (k0_off23 v72) a + S1x1024.size a ≤ S147456x1024.size a)
theorem k0_off23_inb : ∀ (v72 : BitVec 32) (k0_hw7 : k0_chk7 v72), ∀ a, (k0_off23 v72) a + S1x1024.size a ≤ S147456x1024.size a := fun v72 k0_hw7 => k0_hw7

def k0_off24 (i : grid0.Coords) : Fin 3 → Nat :=
  let arg0 : BitVec 32 := BitVec.ofNat 32 (i 0).val
  let c2_i32 : BitVec 32 := 2#32
  let v0 : BitVec 32 := Scalar.remsi arg0 c2_i32
  let v21 : Index := Scalar.indexCast v0
  let c0_14 : Index := 0#32
  let c0_15 : Index := 0#32
  ![v21.toNat, 0, 0]
def k0_off25 (i : grid0.Coords) : Fin 3 → Nat :=
  let arg0 : BitVec 32 := BitVec.ofNat 32 (i 0).val
  let c2_i32 : BitVec 32 := 2#32
  let v0 : BitVec 32 := Scalar.remsi arg0 c2_i32
  let v28 : Index := Scalar.indexCast v0
  let c128 : Index := 128#32
  let c0_16 : Index := 0#32
  ![v28.toNat, 128, 0]
def k0_off26 (i : grid0.Coords) : Fin 3 → Nat :=
  let arg0 : BitVec 32 := BitVec.ofNat 32 (i 0).val
  let c2_i32 : BitVec 32 := 2#32
  let v0 : BitVec 32 := Scalar.remsi arg0 c2_i32
  let v35 : Index := Scalar.indexCast v0
  let c256 : Index := 256#32
  let c0_17 : Index := 0#32
  ![v35.toNat, 256, 0]
def k0_off27 (i : grid0.Coords) : Fin 3 → Nat :=
  let arg0 : BitVec 32 := BitVec.ofNat 32 (i 0).val
  let c2_i32 : BitVec 32 := 2#32
  let v0 : BitVec 32 := Scalar.remsi arg0 c2_i32
  let v42 : Index := Scalar.indexCast v0
  let c384 : Index := 384#32
  let c0_18 : Index := 0#32
  ![v42.toNat, 384, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c255_i32 : BitVec 32 := 255#32
  let v1 : BitVec 32 := Scalar.minsi v0 c255_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CmbRefIdeal.lean ====
abbrev S32768x4 : Shape := ⟨2, ![32768, 4]⟩
abbrev S147456x1024 : Shape := ⟨2, ![147456, 1024]⟩
abbrev S32768x1024 : Shape := ⟨2, ![32768, 1024]⟩
abbrev S32768x128 : Shape := ⟨2, ![32768, 128]⟩
abbrev S32768x256 : Shape := ⟨2, ![32768, 256]⟩
abbrev S1024x1024 : Shape := ⟨2, ![1024, 1024]⟩
abbrev S256x1024 : Shape := ⟨2, ![256, 1024]⟩
abbrev S32768x4x1 : Shape := ⟨3, ![32768, 4, 1]⟩
abbrev S32768x4x1024 : Shape := ⟨3, ![32768, 4, 1024]⟩
abbrev S_ : Shape := ⟨0, ![]⟩
abbrev S32768 : Shape := ⟨1, ![32768]⟩
abbrev S32768x1 : Shape := ⟨2, ![32768, 1]⟩

abbrev nBuf : Space → Nat
  | .hbm => 41
  | .vmem => 0
  | .smem => 0
  | _ => 0

abbrev bufTy : (tb : Table) → Fin (tcTables nBuf tb) → BufTy
  | .hbm, ⟨0, _⟩ => ⟨S32768x4, .i32⟩
  | .hbm, ⟨1, _⟩ => ⟨S147456x1024, .f32⟩
  | .hbm, ⟨2, _⟩ => ⟨S32768x1024, .f32⟩
  | .hbm, ⟨3, _⟩ => ⟨S32768x128, .f32⟩
  | .hbm, ⟨4, _⟩ => ⟨S32768x256, .f32⟩
  | .hbm, ⟨5, _⟩ => ⟨S1024x1024, .f32⟩
  | .hbm, ⟨6, _⟩ => ⟨S256x1024, .f32⟩
  | .hbm, ⟨7, _⟩ => ⟨S32768x4x1, .i32⟩
  | .hbm, ⟨8, _⟩ => ⟨S32768x4x1024, .f32⟩
  | .hbm, ⟨9, _⟩ => ⟨S32768x4, .f32⟩
  | .hbm, ⟨10, _⟩ => ⟨S32768x4x1, .f32⟩
  | .hbm, ⟨11, _⟩ => ⟨S32768x4x1024, .f32⟩
  | .hbm, ⟨12, _⟩ => ⟨S32768x4x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | _, _ => ⟨S32768x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Cmp.lean ====
abbrev S16x2048x128 : Shape := ⟨3, ![16, 2048, 128]⟩
abbrev S2x32x64 : Shape := ⟨3, ![2, 32, 64]⟩
abbrev S2x2048x256 : Shape := ⟨3, ![2, 2048, 256]⟩
abbrev S2x256x64 : Shape := ⟨3, ![2, 256, 64]⟩
abbrev S64 : Shape := ⟨1, ![64]⟩
abbrev S2x32x64x256 : Shape := ⟨4, ![2, 32, 64, 256]⟩
abbrev S_ : Shape := ⟨0, ![]⟩
abbrev S2x16x64x256 : Shape := ⟨4, ![2, 16, 64, 256]⟩
abbrev S2x16x1x64x256 : Shape := ⟨5, ![2, 16, 1, 64, 256]⟩
abbrev S2x16x2x64x256 : Shape := ⟨5, ![2, 16, 2, 64, 256]⟩
abbrev S2x16x2x64x512 : Shape := ⟨5, ![2, 16, 2, 64, 512]⟩
abbrev S2x2048x512 : Shape := ⟨3, ![2, 2048, 512]⟩
abbrev S2x256x128 : Shape := ⟨3, ![2, 256, 128]⟩
abbrev S2x512x128 : Shape := ⟨3, ![2, 512, 128]⟩
abbrev S2x16x64 : Shape := ⟨3, ![2, 16, 64]⟩
abbrev S2x16x1x64 : Shape := ⟨4, ![2, 16, 1, 64]⟩
abbrev S1x2x1x16x1x1x1x64 : Shape := ⟨8, ![1, 2, 1, 16, 1, 1, 1, 64]⟩
abbrev S1x2x1x16x2x1x1x64 : Shape := ⟨8, ![1, 2, 1, 16, 2, 1, 1, 64]⟩
abbrev S2x16x2x64 : Shape := ⟨4, ![2, 16, 2, 64]⟩
abbrev S2x1x2048 : Shape := ⟨3, ![2, 1, 2048]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16x128x2048 : Shape := ⟨3, ![16, 128, 2048]⟩
abbrev S16x128x128 : Shape := ⟨3, ![16, 128, 128]⟩
abbrev S1x128x2048 : Shape := ⟨3, ![1, 128, 2048]⟩
abbrev S1x128x128 : Shape := ⟨3, ![1, 128, 128]⟩
abbrev S128x2048 : Shape := ⟨2, ![128, 2048]⟩
abbrev S1x1x2048 : Shape := ⟨3, ![1, 1, 2048]⟩
abbrev S1x2048 : Shape := ⟨2, ![1, 2048]⟩
abbrev S1x2048x512 : Shape := ⟨3, ![1, 2048, 512]⟩
abbrev S2048x512 : Shape := ⟨2, ![2048, 512]⟩
abbrev S128x512 : Shape := ⟨2, ![128, 512]⟩
abbrev S1x512x128 : Shape := ⟨3, ![1, 512, 128]⟩
abbrev S512x128 : Shape := ⟨2, ![512, 128]⟩
abbrev S128x128 : Shape := ⟨2, ![128, 128]⟩
abbrev S128x1 : Shape := ⟨2, ![128, 1]⟩

abbrev nBuf : Space → Nat
  | .hbm => 55
  | .vmem => 14
  | .smem => 0
  | _ => 0

abbrev bufTy : (tb : Table) → Fin (tcTables nBuf tb) → BufTy
  | .hbm, ⟨0, _⟩ => ⟨S16x2048x128, .bf16⟩
  | .hbm, ⟨1, _⟩ => ⟨S16x2048x128, .bf16⟩
  | .hbm, ⟨2, _⟩ => ⟨S2x32x64, .f32⟩
  | .hbm, ⟨3, _⟩ => ⟨S2x2048x256, .f32⟩
  | .hbm, ⟨4, _⟩ => ⟨S2x256x64, .f32⟩
  | .hbm, ⟨5, _⟩ => ⟨S64, .f32⟩
  | .hbm, ⟨6, _⟩ => ⟨S2x32x64x256, .f32⟩
  | .hbm, ⟨7, _⟩ => ⟨S_, .f32⟩
  | .hbm, ⟨8, _⟩ => ⟨S2x16x64x256, .f32⟩
  | .hbm, ⟨9, _⟩ => ⟨S2x16x64x256, .f32⟩
  | .hbm, ⟨10, _⟩ => ⟨S2x16x1x64x256, .f32⟩
  | .hbm, ⟨11, _⟩ => ⟨S2x16x1x64x256, .f32⟩
  | .hbm, ⟨12, _⟩ => ⟨S2x16x2x64x256, .f32⟩
  | .hbm, ⟨13, _⟩ => ⟨S2x16x1x64x256, .f32⟩
  | .hbm, ⟨14, _⟩ => ⟨S2x16x1x64x256, .f32⟩
  | .hbm, ⟨15, _⟩ => ⟨S2x16x2x64x256, .f32⟩
  | .hbm, ⟨16, _⟩ => ⟨S2x16x2x64x512, .f32⟩
  | .hbm, ⟨17, _⟩ => ⟨S2x2048x512, .f32⟩
  | .hbm, ⟨18, _⟩ => ⟨S2x2048x512, .bf16⟩
  | .hbm, ⟨19, _⟩ => ⟨S2x16x64x256, .f32⟩
  | .hbm, ⟨20, _⟩ => ⟨S2x16x1x64x256, .f32⟩
  | .hbm, ⟨21, _⟩ => ⟨S2x16x1x64x256, .f32⟩
  | .hbm, ⟨22, _⟩ => ⟨S2x16x2x64x256, .f32⟩
  | .hbm, ⟨23, _⟩ => ⟨S2x16x1x64x256, .f32⟩
  | .hbm, ⟨24, _⟩ => ⟨S2x16x1x64x256, .f32⟩
  | .hbm, ⟨25, _⟩ => ⟨S2x16x2x64x256, .f32⟩
  | .hbm, ⟨26, _⟩ => ⟨S2x16x2x64x512, .f32⟩
  | .hbm, ⟨27, _⟩ => ⟨S2x2048x512, .f32⟩
  | .hbm, ⟨28, _⟩ => ⟨S2x2048x512, .bf16⟩
  | .hbm, ⟨29, _⟩ => ⟨S_, .f32⟩
  | .hbm, ⟨30, _⟩ => ⟨S2x256x64, .f32⟩
  | .hbm, ⟨31, _⟩ => ⟨S2x256x128, .f32⟩
  | .hbm, ⟨32, _⟩ => ⟨S2x256x128, .f32⟩
  | .hbm, ⟨33, _⟩ => ⟨S2x512x128, .f32⟩
  | .hbm, ⟨34, _⟩ => ⟨S2x512x128, .bf16⟩
  | .hbm, ⟨35, _⟩ => ⟨S2x16x64, .f32⟩
  | .hbm, ⟨36, _⟩ => ⟨S2x16x1x64, .f32⟩
  | .hbm, ⟨37, _⟩ => ⟨S1x2x1x16x1x1x1x64, .f32⟩
  | .hbm, ⟨38, _⟩ => ⟨S1x2x1x16x2x1x1x64, .f32⟩
  | .hbm, ⟨39, _⟩ => ⟨S2x16x2x64, .f32⟩
  | .hbm, ⟨40, _⟩ => ⟨S2x1x2048, .f32⟩
  | .hbm, ⟨41, _⟩ => ⟨S2x16x64, .f32⟩
  | .hbm, ⟨42, _⟩ => ⟨S2x16x1x64, .f32⟩
  | .hbm, ⟨43, _⟩ => ⟨S1x2x1x16x1x1x1x64, .f32⟩
  | .hbm, ⟨44, _⟩ => ⟨S1x2x1x16x2x1x1x64, .f32⟩
  | .hbm, ⟨45, _⟩ => ⟨S2x16x2x64, .f32⟩
  | .hbm, ⟨46, _⟩ => ⟨S2x1x2048, .f32⟩
  | .hbm, ⟨47, _⟩ => ⟨S1x64, .f32⟩
  | .hbm, ⟨48, _⟩ => ⟨S2x64, .f32⟩
  | .hbm, ⟨49, _⟩ => ⟨S128, .f32⟩
  | .hbm, ⟨50, _⟩ => ⟨S1x128, .f32⟩
  | .hbm, ⟨51, _⟩ => ⟨S16x128x2048, .bf16⟩
  | .hbm, ⟨52, _⟩ => ⟨S16x128x2048, .bf16⟩
  | .hbm, ⟨53, _⟩ => ⟨S16x128x128, .bf16⟩
  | .hbm, ⟨54, _⟩ => ⟨S16x128x128, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S2x1x2048, .f32⟩
  | .local _ .vmem, ⟨5, _⟩ => ⟨S2x1x2048, .f32⟩
  | .local _ .vmem, ⟨6, _⟩ => ⟨S2x2048x512, .bf16⟩
  | .local _ .vmem, ⟨7, _⟩ => ⟨S2x2048x512, .bf16⟩
  | .local _ .vmem, ⟨8, _⟩ => ⟨S2x512x128, .bf16⟩
  | .local _ .vmem, ⟨9, _⟩ => ⟨S1x128, .f32⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | _, _ => ⟨S16x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45_0 : Ref sig .tc := ⟨.hbm, 53, rfl⟩
abbrev main_v45_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CmpRefIdeal.lean ====
abbrev S16x2048x128 : Shape := ⟨3, ![16, 2048, 128]⟩
abbrev S2x32x64 : Shape := ⟨3, ![2, 32, 64]⟩
abbrev S2x2048x256 : Shape := ⟨3, ![2, 2048, 256]⟩
abbrev S2x256x64 : Shape := ⟨3, ![2, 256, 64]⟩
abbrev S64 : Shape := ⟨1, ![64]⟩
abbrev S128 : Shape := ⟨1, ![128]⟩
abbrev S128x1 : Shape := ⟨2, ![128, 1]⟩
abbrev S_ : Shape := ⟨0, ![]⟩
abbrev S32 : Shape := ⟨1, ![32]⟩
abbrev S1x32 : Shape := ⟨2, ![1, 32]⟩
abbrev S128x32 : Shape := ⟨2, ![128, 32]⟩
abbrev S1x32x64 : Shape := ⟨3, ![1, 32, 64]⟩
abbrev S32x64 : Shape := ⟨2, ![32, 64]⟩
abbrev S1x2048x256 : Shape := ⟨3, ![1, 2048, 256]⟩
abbrev S2048x256 : Shape := ⟨2, ![2048, 256]⟩
abbrev S1x256x64 : Shape := ⟨3, ![1, 256, 64]⟩
abbrev S256x64 : Shape := ⟨2, ![256, 64]⟩
abbrev S16x2048x2x64 : Shape := ⟨4, ![16, 2048, 2, 64]⟩
abbrev S128x32x1 : Shape := ⟨3, ![128, 32, 1]⟩
abbrev S16x128x32x2x64 : Shape := ⟨5, ![16, 128, 32, 2, 64]⟩
abbrev S1x1x32x1x64 : Shape := ⟨5, ![1, 1, 32, 1, 64]⟩
abbrev S16x128x2x32x64 : Shape := ⟨5, ![16, 128, 2, 32, 64]⟩
abbrev S16x128x2x2048 : Shape := ⟨4, ![16, 128, 2, 2048]⟩
abbrev S16x128x2x256 : Shape := ⟨4, ![16, 128, 2, 256]⟩
abbrev S16x128x2x64 : Shape := ⟨4, ![16, 128, 2, 64]⟩
abbrev S16x128x2 : Shape := ⟨3, ![16, 128, 2]⟩
abbrev S16x128x2x1 : Shape := ⟨4, ![16, 128, 2, 1]⟩
abbrev S1x1x1x64 : Shape := ⟨4, ![1, 1, 1, 64]⟩
abbrev S16x128x128 : Shape := ⟨3, ![16, 128, 128]⟩

abbrev nBuf : Space → Nat
  | .hbm => 110
  | .vmem => 0
  | .smem => 0
  | _ => 0

abbrev bufTy : (tb : Table) → Fin (tcTables nBuf tb) → BufTy
  | .hbm, ⟨0, _⟩ => ⟨S16x2048x128, .bf16⟩
  | .hbm, ⟨1, _⟩ => ⟨S16x2048x128, .bf16⟩
  | .hbm, ⟨2, _⟩ => ⟨S2x32x64, .f32⟩
  | .hbm, ⟨3, _⟩ => ⟨S2x2048x256, .f32⟩
  | .hbm, ⟨4, _⟩ => ⟨S2x256x64, .f32⟩
  | .hbm, ⟨5, _⟩ => ⟨S64, .f32⟩
  | .hbm, ⟨6, _⟩ => ⟨S128, .i32⟩
  | .hbm, ⟨7, _⟩ => ⟨S128x1, .i32⟩
  | .hbm, ⟨8, _⟩ => ⟨S_, .i32⟩
  | .hbm, ⟨9, _⟩ => ⟨S128x1, .i32⟩
  | .hbm, ⟨10, _⟩ => ⟨S128x1, .i32⟩
  | .hbm, ⟨11, _⟩ => ⟨S32, .i32⟩
  | .hbm, ⟨12, _⟩ => ⟨S1x32, .i32⟩
  | .hbm, ⟨13, _⟩ => ⟨S128x32, .i32⟩
  | .hbm, ⟨14, _⟩ => ⟨S128x32, .i32⟩
  | .hbm, ⟨15, _⟩ => ⟨S128x32, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S128x32, .i32⟩
  | .hbm, ⟨23, _⟩ => ⟨S128x32, .i32⟩
  | .hbm, ⟨24, _⟩ => ⟨S_, .i32⟩
  | .hbm, ⟨25, _⟩ => ⟨S128x32, .i32⟩
  | .hbm, ⟨26, _⟩ => ⟨S128x32, .i1⟩
  | .hbm, ⟨27, _⟩ => ⟨S_, .i32⟩
  | .hbm, ⟨28, _⟩ => ⟨S128x32, .i32⟩
  | .hbm, ⟨29, _⟩ => ⟨S128x32, .i1⟩
  | .hbm, ⟨30, _⟩ => ⟨S_, .i32⟩
  | .hbm, ⟨31, _⟩ => ⟨S_, .i1⟩
  | .hbm, ⟨32, _⟩ => ⟨S128x32, .i1⟩
  | .hbm, ⟨33, _⟩ => ⟨S128x32, .i1⟩
  | .hbm, ⟨34, _⟩ => ⟨S128x32, .i1⟩
  | .hbm, ⟨35, _⟩ => ⟨S128x32, .i32⟩
  | .hbm, ⟨36, _⟩ => ⟨S128x32, .i32⟩
  | .hbm, ⟨37, _⟩ => ⟨S128x32, .i32⟩
  | .hbm, ⟨38, _⟩ => ⟨S1x32x64, .f32⟩
  | .hbm, ⟨39, _⟩ => ⟨S32x64, .f32⟩
  | .hbm, ⟨40, _⟩ => ⟨S1x2048x256, .f32⟩
  | .hbm, ⟨41, _⟩ => ⟨S2048x256, .f32⟩
  | .hbm, ⟨42, _⟩ => ⟨S1x256x64, .f32⟩
  | .hbm, ⟨43, _⟩ => ⟨S256x64, .f32⟩
  | .hbm, ⟨44, _⟩ => ⟨S16x2048x128, .f32⟩
  | .hbm, ⟨45, _⟩ => ⟨S16x2048x2x64, .f32⟩
  | .hbm, ⟨46, _⟩ => ⟨S128x32x1, .i32⟩
  | .hbm, ⟨47, _⟩ => ⟨S16x128x32x2x64, .f32⟩
  | .hbm, ⟨48, _⟩ => ⟨S1x1x32x1x64, .f32⟩
  | .hbm, ⟨49, _⟩ => ⟨S16x128x32x2x64, .f32⟩
  | .hbm, ⟨50, _⟩ => ⟨S16x128x32x2x64, .f32⟩
  | .hbm, ⟨51, _⟩ => ⟨S16x128x2x32x64, .f32⟩
  | .hbm, ⟨52, _⟩ => ⟨S16x128x2x2048, .f32⟩
  | .hbm, ⟨53, _⟩ => ⟨S16x128x2x256, .f32⟩
  | .hbm, ⟨54, _⟩ => ⟨S16x128x2x256, .f32⟩
  | .hbm, ⟨55, _⟩ => ⟨S16x128x2x256, .f32⟩
  | .hbm, ⟨56, _⟩ => ⟨S_, .f32⟩
  | .hbm, ⟨57, _⟩ => ⟨S16x128x2x256, .f32⟩
  | .hbm, ⟨58, _⟩ => ⟨S16x128x2x256, .f32⟩
  | .hbm, ⟨59, _⟩ => ⟨S_, .f32⟩
  | .hbm, ⟨60, _⟩ => ⟨S16x128x2x256, .f32⟩
  | .hbm, ⟨61, _⟩ => ⟨S16x128x2x256, .f32⟩
  | .hbm, ⟨62, _⟩ => ⟨S16x128x2x256, .f32⟩
  | .hbm, ⟨63, _⟩ => ⟨S16x128x2x64, .f32⟩
  | .hbm, ⟨64, _⟩ => ⟨S16x128x2x64, .f32⟩
  | .hbm, ⟨65, _⟩ => ⟨S_, .f32⟩
  | .hbm, ⟨66, _⟩ => ⟨S16x128x2, .f32⟩
  | .hbm, ⟨67, _⟩ => ⟨S16x128x2x1, .f32⟩
  | .hbm, ⟨68, _⟩ => ⟨S_, .f32⟩
  | .hbm, ⟨69, _⟩ => ⟨S16x128x2x1, .f32⟩
  | .hbm, ⟨70, _⟩ => ⟨S16x128x2x1, .f32⟩
  | .hbm, ⟨71, _⟩ => ⟨S_, .f32⟩
  | .hbm, ⟨72, _⟩ => ⟨S16x128x2x1, .f32⟩
  | .hbm, ⟨73, _⟩ => ⟨S16x128x2x1, .f32⟩
  | .hbm, ⟨74, _⟩ => ⟨S16x128x2x1, .f32⟩
  | .hbm, ⟨75, _⟩ => ⟨S16x128x2x64, .f32⟩
  | .hbm, ⟨76, _⟩ => ⟨S16x128x2x64, .f32⟩
  | .hbm, ⟨77, _⟩ => ⟨S1x1x1x64, .f32⟩
  | .hbm, ⟨78, _⟩ => ⟨S16x128x2x64, .f32⟩
  | .hbm, ⟨79, _⟩ => ⟨S16x128x2x64, .f32⟩
  | .hbm, ⟨80, _⟩ => ⟨S1x32x64, .f32⟩
  | .hbm, ⟨81, _⟩ => ⟨S32x64, .f32⟩
  | .hbm, ⟨82, _⟩ => ⟨S1x2048x256, .f32⟩
  | .hbm, ⟨83, _⟩ => ⟨S2048x256, .f32⟩
  | .hbm, ⟨84, _⟩ => ⟨S1x256x64, .f32⟩
  | .hbm, ⟨85, _⟩ => ⟨S256x64, .f32⟩
  | .hbm, ⟨86, _⟩ => ⟨S16x2048x128, .f32⟩
  | .hbm, ⟨87, _⟩ => ⟨S16x2048x2x64, .f32⟩
  | .hbm, ⟨88, _⟩ => ⟨S128x32x1, .i32⟩
  | .hbm, ⟨89, _⟩ => ⟨S16x128x32x2x64, .f32⟩
  | .hbm, ⟨90, _⟩ => ⟨S1x1x32x1x64, .f32⟩
  | .hbm, ⟨91, _⟩ => ⟨S16x128x32x2x64, .f32⟩
  | .hbm, ⟨92, _⟩ => ⟨S16x128x32x2x64, .f32⟩
  | .hbm, ⟨93, _⟩ => ⟨S16x128x2x32x64, .f32⟩
  | .hbm, ⟨94, _⟩ => ⟨S16x128x2x2048, .f32⟩
  | .hbm, ⟨95, _⟩ => ⟨S16x128x2x256, .f32⟩
  | .hbm, ⟨96, _⟩ => ⟨S16x128x2x256, .f32⟩
  | .hbm, ⟨97, _⟩ => ⟨S16x128x2x256, .f32⟩
  | .hbm, ⟨98, _⟩ => ⟨S_, .f32⟩
  | .hbm, ⟨99, _⟩ => ⟨S16x128x2x256, .f32⟩
  | .hbm, ⟨100, _⟩ => ⟨S16x128x2x256, .f32⟩
  | .hbm, ⟨101, _⟩ => ⟨S_, .f32⟩
  | .hbm, ⟨102, _⟩ => ⟨S16x128x2x256, .f32⟩
  | .hbm, ⟨103, _⟩ => ⟨S16x128x2x256, .f32⟩
  | .hbm, ⟨104, _⟩ => ⟨S16x128x2x256, .f32⟩
  | .hbm, ⟨105, _⟩ => ⟨S16x128x2x64, .f32⟩
  | .hbm, ⟨106, _⟩ => ⟨S16x128x128, .f32⟩
  | .hbm, ⟨107, _⟩ => ⟨S16x128x128, .bf16⟩
  | .hbm, ⟨108, _⟩ => ⟨S16x128x128, .f32⟩
  | .hbm, ⟨109, _⟩ => ⟨S16x128x128, .bf16⟩
  | _, _ => ⟨S16x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_call1_v0 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_call2_v0 : Ref sig .tc := ⟨.hbm, 54, rfl⟩
abbrev main_call2_v1 : Ref sig .tc := ⟨.hbm, 55, rfl⟩
abbrev main_call2_cst : Ref sig .tc := ⟨.hbm, 56, rfl⟩
abbrev main_call2_v2 : Ref sig .tc := ⟨.hbm, 57, rfl⟩
abbrev main_call2_v3 : Ref sig .tc := ⟨.hbm, 58, rfl⟩
abbrev main_call2_cst_0 : Ref sig .tc := ⟨.hbm, 59, rfl⟩
abbrev main_call2_v4 : Ref sig .tc := ⟨.hbm, 60, rfl⟩
abbrev main_call2_v5 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst : Ref sig .tc := ⟨.hbm, 65, rfl⟩
abbrev main_v28 : Ref sig .tc := ⟨.hbm, 66, rfl⟩
abbrev main_v29 : Ref sig .tc := ⟨.hbm, 67, rfl⟩
abbrev main_cst_1 : Ref sig .tc := ⟨.hbm, 68, rfl⟩
abbrev main_v30 : Ref sig .tc := ⟨.hbm, 69, rfl⟩
abbrev main_v31 : Ref sig .tc := ⟨.hbm, 70, rfl⟩
abbrev main_cst_2 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_call3_v0 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_call4_v0 : Ref sig .tc := ⟨.hbm, 96, rfl⟩
abbrev main_call4_v1 : Ref sig .tc := ⟨.hbm, 97, rfl⟩
abbrev main_call4_cst : Ref sig .tc := ⟨.hbm, 98, rfl⟩
abbrev main_call4_v2 : Ref sig .tc := ⟨.hbm, 99, rfl⟩
abbrev main_call4_v3 : Ref sig .tc := ⟨.hbm, 100, rfl⟩
abbrev main_call4_cst_0 : Ref sig .tc := ⟨.hbm, 101, rfl⟩
abbrev main_call4_v4 : Ref sig .tc := ⟨.hbm, 102, rfl⟩
abbrev main_call4_v5 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩

abbrev nD : Nat := 1
abbrev τ : Topo := Topo.v7x

variable {F : FTy → Type} [FloatOps F]
-- ==== Proof.RetMath.lean ====
/-
  The retention, written as plain formulas: what one head does to one chunk of 128 positions, the state it carries
  from chunk to chunk, and the whole result array. Both programs are compared with these formulas.
-/
module

public import Idealize.ShloMosaic.Lib.ValueIdx
public import Idealize.ShloMosaic.PureOps.Ideal.Laws

@[expose] public section

set_option maxRecDepth 16384

noncomputable section

namespace Cert.Proof.RetMath

open Idealize.ShloMosaic Idealize.ShloMosaic.ValueIdx

/-- The decay of head `h`, `1 - 2^(-5-h)`. -/
def gam : Fin 4 → ℝ := ![31 / 32, 63 / 64, 127 / 128, 255 / 256]

/-- Its logarithm. -/
def lg (h : Fin 4) : EReal := ((Real.log (gam h) : ℝ) : EReal)

/-- The decay over one whole chunk. -/
def dec (h : Fin 4) : EReal := ((gam h ^ 128 : ℝ) : EReal)

/-- The decay between two positions of a chunk, zero above the diagonal. -/
def inner (L : EReal) (r e : Fin 128) : EReal :=
  if e ≤ r then Ideal.exp (L * (((r.val : ℝ) - (e.val : ℝ) : ℝ) : EReal)) else 0

/-- The decay from before the chunk to position `r`. -/
def xi (L : EReal) (r : Fin 128) : EReal := Ideal.exp (L * (((r.val : ℝ) + 1 : ℝ) : EReal))

/-- The decay from position `r` to the chunk's end. -/
def zeta (L : EReal) (r : Fin 128) : EReal := Ideal.exp (L * ((127 - (r.val : ℝ) : ℝ) : EReal))

/-- The state after a chunk, from the state before it and the chunk's keys and values. -/
def next (L D : EReal) (k : Fin 128 → Fin 256 → EReal) (v : Fin 128 → Fin 512 → EReal)
    (s : Fin 256 → Fin 512 → EReal) (d : Fin 256) (f : Fin 512) : EReal :=
  D * s d f + ∑ e : Fin 128, (k e d * zeta L e) * v e f

/-- The rows of a chunk: the decayed attention inside the chunk plus what the state contributes. -/
def rows (L : EReal) (q k : Fin 128 → Fin 256 → EReal) (v : Fin 128 → Fin 512 → EReal)
    (s : Fin 256 → Fin 512 → EReal) (r : Fin 128) (f : Fin 512) : EReal :=
  (∑ e : Fin 128, ((∑ d : Fin 256, q r d * k e d) * inner L r e) * v e f)
    + ∑ d : Fin 256, (q r d * xi L r) * s d f

/-- One row normalised by its mean square, scaled, and gated. -/
def gated (y g og : Fin 512 → EReal) (f : Fin 512) : EReal :=
  (g f * Ideal.logistic (g f))
    * ((y f * Ideal.rsqrt (Ideal.div (∑ l, y l * y l) (Ideal.ofBits .f32 0x44000000#32) + Ideal.ofBits .f32 0x358637BD#32)) * og f)

/-- The factor of the keys, `256^(-1/2)`. -/
def kscale : EReal := Ideal.ofBits .f32 0x3D800000#32

/-- The entry of the projections at batch row `b`, chunk `n`, position `r` of the chunk, column `col`. -/
def at' (z : (⟨3, ![16, 2048, 6144]⟩ : Shape).Idx → EReal) (b n : Fin 16) (r : Fin 128) (col : Fin 6144) : EReal :=
  z (ix3 b ⟨n.val * 128 + r.val, by omega⟩ col)

/-- Queries, keys (scaled), values and gates of one head in one chunk. -/
def qs (z : (⟨3, ![16, 2048, 6144]⟩ : Shape).Idx → EReal) (b n : Fin 16) (h : Fin 4) (r : Fin 128) (d : Fin 256) : EReal :=
  at' z b n r ⟨h.val * 256 + d.val, by omega⟩
@[inherit_doc qs]
def ks (z : (⟨3, ![16, 2048, 6144]⟩ : Shape).Idx → EReal) (b n : Fin 16) (h : Fin 4) (r : Fin 128) (d : Fin 256) : EReal :=
  at' z b n r ⟨1024 + h.val * 256 + d.val, by omega⟩ * kscale
@[inherit_doc qs]
def vs (z : (⟨3, ![16, 2048, 6144]⟩ : Shape).Idx → EReal) (b n : Fin 16) (h : Fin 4) (r : Fin 128) (f : Fin 512) : EReal :=
  at' z b n r ⟨2048 + h.val * 512 + f.val, by omega⟩
@[inherit_doc qs]
def gs (z : (⟨3, ![16, 2048, 6144]⟩ : Shape).Idx → EReal) (b n : Fin 16) (h : Fin 4) (r : Fin 128) (f : Fin 512) : EReal :=
  at' z b n r ⟨4096 + h.val * 512 + f.val, by omega⟩

/-- The state before chunk `n` (of a chunk past the last, the state after the last). -/
def state (z : (⟨3, ![16, 2048, 6144]⟩ : Shape).Idx → EReal) (b : Fin 16) (h : Fin 4) :
    ℕ → Fin 256 → Fin 512 → EReal
  | 0 => fun _ _ => 0
  | n + 1 => if hn : n < 16 then next (lg h) (dec h) (ks z b ⟨n, hn⟩ h) (vs z b ⟨n, hn⟩ h) (state z b h n)
      else state z b h n

theorem state_succ (z : (⟨3, ![16, 2048, 6144]⟩ : Shape).Idx → EReal) (b : Fin 16) (h : Fin 4) (n : Fin 16) :
    state z b h (n.val + 1) = next (lg h) (dec h) (ks z b n h) (vs z b n h) (state z b h n.val) := by
  rw [state, dif_pos n.isLt]

/-- The rows of head `h` in chunk `n`. -/
def ys (z : (⟨3, ![16, 2048, 6144]⟩ : Shape).Idx → EReal) (b n : Fin 16) (h : Fin 4) : Fin 128 → Fin 512 → EReal :=
  rows (lg h) (qs z b n h) (ks z b n h) (vs z b n h) (state z b h n.val)

/-- The result of head `h` in chunk `n`. -/
def outs (z : (⟨3, ![16, 2048, 6144]⟩ : Shape).Idx → EReal) (og : Fin 512 → EReal) (b n : Fin 16) (h : Fin 4)
    (r : Fin 128) : Fin 512 → EReal :=
  gated (ys z b n h r) (gs z b n h r) og

/-- The whole result array. -/
def out (z : (⟨3, ![16, 2048, 6144]⟩ : Shape).Idx → EReal) (og : Fin 512 → EReal) :
    (⟨3, ![16, 2048, 2048]⟩ : Shape).Idx → EReal := fun i =>
  outs z og (i 0) ⟨(i 1).val / 128, by have h : (i 1).val < 2048 := (i 1).isLt; omega⟩
    ⟨(i 2).val / 512, by have h : (i 2).val < 2048 := (i 2).isLt; omega⟩
    ⟨(i 1).val % 128, Nat.mod_lt _ (by norm_num)⟩ ⟨(i 2).val % 512, Nat.mod_lt _ (by norm_num)⟩

end Cert.Proof.RetMath

end
-- ==== Proof.RetHead.lean ====
/-
  One head of one grid point of the retention kernel: the tables of decays it builds from the head's logarithm, the
  rows it stores and the state it leaves, entry by entry, as the formulas of RetMath.
-/
module

public import proofs.«01_k».proof.Proof.Gen.RetIdeal.Value
public import proofs.«01_k».proof.Proof.RetMath
public import Idealize.ShloMosaic.Lib.MatmulPlain

@[expose] public section

set_option maxRecDepth 16384

noncomputable section

namespace Cert.RetIdeal.Rows

open Cert.RetIdeal Cert.RetIdeal.Gen Idealize.ShloMosaic Idealize.ShloMosaic.TcCoe Idealize.SL.Sem
open Idealize.ShloMosaic.ValueIdx
open Cert.Proof

/-! ## The tables -/

/-- The difference of two positions, as the words compute it. -/
theorem word_sub : ∀ r e : Fin 128, ((BitVec.ofNat 32 r.val - BitVec.ofNat 32 e.val : BitVec 32).toInt) = (r.val : ℤ) - (e.val : ℤ) := by
  intro r e
  have hr := r.isLt
  have he := e.isLt
  rw [BitVec.toInt_sub, BitVec.toInt_ofNat', BitVec.toInt_ofNat']
  simp only [Int.bmod]
  split <;> omega

/-- The difference of two positions. -/
theorem rel_apply (r e : Fin 128) :
    (k0_pay3 (F := Ideal) : S128x128.Idx → EReal) (ix2 r e) = (((r.val : ℝ) - (e.val : ℝ) : ℝ) : EReal) := by
  have h : (k0_pay3 (F := Ideal) : S128x128.Idx → EReal) (ix2 r e)
      = (((BitVec.ofNat 32 r.val - BitVec.ofNat 32 e.val : BitVec 32).toInt : ℝ) : EReal) := by
    show (((BitVec.ofNat 32 (0 * 128 + r.val) - BitVec.ofNat 32 (0 * 128 + e.val) : BitVec 32).toInt : ℝ) : EReal) = _
    rw [Nat.zero_mul, Nat.zero_add, Nat.zero_add]
  rw [h, word_sub]
  push_cast
  rfl

/-- A position. -/
theorem pos_apply (r : Fin 128) (z : Fin 1) :
    (k0_pay4 (F := Ideal) : S128x1.Idx → EReal) (ix2 r z) = ((r.val : ℝ) : EReal) := by
  have h : (k0_pay4 (F := Ideal) : S128x1.Idx → EReal) (ix2 r z)
      = (((BitVec.ofNat 32 r.val : BitVec 32).toInt : ℝ) : EReal) := by
    show (((BitVec.ofNat 32 (0 * 128 + r.val) : BitVec 32).toInt : ℝ) : EReal) = _
    rw [Nat.zero_mul, Nat.zero_add]
  have e : (BitVec.ofNat 32 r.val : BitVec 32).toInt = (r.val : ℤ) := by
    have hr := r.isLt
    rw [BitVec.toInt_ofNat']
    simp only [Int.bmod]
    split <;> omega
  rw [h, e]
  push_cast
  rfl

/-- The table of decays inside a chunk, from the logarithm `L`. -/
def innerT (L : EReal) : S128x128.Idx → EReal :=
  select (cmpf (F := Ideal) (φ := .f32) .oge (k0_pay3 (F := Ideal)) (broadcast S128x128 (Scalar.ofBits (F := Ideal) .f32 0x00000000#32)))
    (exp (F := Ideal) (φ := .f32) (mulf (F := Ideal) (φ := .f32) (broadcast S128x128 (L : Ideal .f32)) (maximumf (F := Ideal) (φ := .f32) (k0_pay3 (F := Ideal)) (broadcast S128x128 (Scalar.ofBits (F := Ideal) .f32 0x00000000#32)))))
    (broadcast S128x128 (Scalar.ofBits (F := Ideal) .f32 0x00000000#32))

/-- The decays from before the chunk. -/
def xiT (L : EReal) : S128x1.Idx → EReal :=
  exp (F := Ideal) (φ := .f32) (mulf (F := Ideal) (φ := .f32) (broadcast S128x1 (L : Ideal .f32)) (addf (F := Ideal) (φ := .f32) (k0_pay4 (F := Ideal)) (broadcast S128x1 (Scalar.ofBits (F := Ideal) .f32 0x3F800000#32))))

/-- The decays to the chunk's end. -/
def zetaT (L : EReal) : S128x1.Idx → EReal :=
  exp (F := Ideal) (φ := .f32) (mulf (F := Ideal) (φ := .f32) (broadcast S128x1 (L : Ideal .f32)) (subf (F := Ideal) (φ := .f32) (broadcast S128x1 (Scalar.ofBits (F := Ideal) .f32 0x42FE0000#32)) (k0_pay4 (F := Ideal))))

theorem innerT_apply (L : EReal) (r e : Fin 128) : innerT L (ix2 r e) = RetMath.inner L r e := by
  have h0 : Ideal.ofBits .f32 0x00000000#32 = 0 := Ideal.ofBits_zero_f32
  have h : innerT L (ix2 r e) = Scalar.select (Ideal.cmp .oge ((k0_pay3 (F := Ideal) : S128x128.Idx → EReal) (ix2 r e)) (Ideal.ofBits .f32 0x00000000#32))
      (Ideal.exp (L * max ((k0_pay3 (F := Ideal) : S128x128.Idx → EReal) (ix2 r e)) (Ideal.ofBits .f32 0x00000000#32))) (Ideal.ofBits .f32 0x00000000#32) := rfl
  have hsel (p : Prop) [Decidable p] (a b : EReal) : Scalar.select (BitVec.ofBool (decide p)) a b = if p then a else b := by
    by_cases hp : p <;> simp [hp, Scalar.select]
  rw [h, h0, rel_apply, show Ideal.cmp .oge (((r.val : ℝ) - (e.val : ℝ) : ℝ) : EReal) 0 = BitVec.ofBool (decide ((0 : EReal) ≤ (((r.val : ℝ) - (e.val : ℝ) : ℝ) : EReal))) from rfl, hsel]
  unfold RetMath.inner
  by_cases hre : e ≤ r
  · have hle : (e.val : ℝ) ≤ (r.val : ℝ) := by exact_mod_cast hre
    have h1 : (0 : EReal) ≤ (((r.val : ℝ) - (e.val : ℝ) : ℝ) : EReal) := by
      exact_mod_cast sub_nonneg.mpr hle
    rw [if_pos h1, if_pos hre, max_eq_left h1]
  · have hlt : (r.val : ℝ) < (e.val : ℝ) := by exact_mod_cast not_le.mp hre
    have h1 : ¬ (0 : EReal) ≤ (((r.val : ℝ) - (e.val : ℝ) : ℝ) : EReal) := by
      rw [not_le]
      exact_mod_cast sub_neg.mpr hlt
    rw [if_neg h1, if_neg hre]

theorem ofBits_one : Ideal.ofBits .f32 0x3F800000#32 = ((1 : ℝ) : EReal) := by
  simp [Ideal.ofBits, Ideal.ieee, -EReal.coe_mul]; norm_num

theorem ofBits_last : Ideal.ofBits .f32 0x42FE0000#32 = ((127 : ℝ) : EReal) := by
  simp [Ideal.ofBits, Ideal.ieee, -EReal.coe_mul]; norm_num

theorem xiT_apply (L : EReal) (r : Fin 128) (z : Fin 1) : xiT L (ix2 r z) = RetMath.xi L r := by
  have h : xiT L (ix2 r z) = Ideal.exp (L * ((k0_pay4 (F := Ideal) : S128x1.Idx → EReal) (ix2 r z) + Ideal.ofBits .f32 0x3F800000#32)) := rfl
  rw [h, pos_apply, ofBits_one, ← EReal.coe_add]
  rfl

theorem zetaT_apply (L : EReal) (r : Fin 128) (z : Fin 1) : zetaT L (ix2 r z) = RetMath.zeta L r := by
  have h : zetaT L (ix2 r z) = Ideal.exp (L * (Ideal.ofBits .f32 0x42FE0000#32 - (k0_pay4 (F := Ideal) : S128x1.Idx → EReal) (ix2 r z))) := rfl
  rw [h, pos_apply, ofBits_last, ← EReal.coe_sub]
  rfl

/-! ## The products -/

/-- `AᵀB`: the product contracting the rows of both factors. -/
theorem matmul_rows_apply (A : S128x256.Idx → EReal) (B : S128x512.Idx → EReal) (acc : S256x512.Idx → EReal) (d : Fin 256) (f : Fin 512) :
    (matmul (F := Ideal) (φ₁ := .bf16) (φ₂ := .bf16) dot_S128x256_S128x512_S256x512_0_0_1_1_n_n none A B acc : S256x512.Idx → EReal) (ix2 d f)
      = acc (ix2 d f) + ∑ e : Fin 128, A (ix2 e d) * B (ix2 e f) := by
  refine (Ideal.matmul_apply (φ₁ := .bf16) (φ₂ := .bf16) dot_S128x256_S128x512_S256x512_0_0_1_1_n_n none A B acc (ix2 d f)).trans ?_
  refine congrArg (acc (ix2 d f) + ·) ?_
  rw [← Equiv.sum_comp (contrEquiv1 dot_S128x256_S128x512_S256x512_0_0_1_1_n_n 128 rfl rfl).symm]
  refine Finset.sum_congr rfl fun e _ => ?_
  have hk := contrEquiv1_symm_val dot_S128x256_S128x512_S256x512_0_0_1_1_n_n 128 rfl rfl e
  refine congrArg₂ (· * ·) (congrArg A (Shape.idx_ext₂ ?_ ?_)) (congrArg B (Shape.idx_ext₂ ?_ ?_))
  · exact hk
  · rfl
  · exact hk
  · rfl

/-! ## One head -/

/-- A block's one slab, read without its unit axis. -/
theorem slab_apply {a b : ℕ} (x : (⟨3, ![1, a, b]⟩ : Shape).Idx → EReal) (h : (⟨3, ![1, a, b]⟩ : Shape).ShapeCasts ⟨2, ![a, b]⟩) (r : Fin a) (d : Fin b) :
    shapeCast ⟨2, ![a, b]⟩ x h (ix2 r d) = x (ix3 (0 : Fin 1) r d) := by
  refine shapeCast_apply _ _ (ix2 r d) (ix3 (0 : Fin 1) r d) ?_
  rw [Shape.rowMajor_val_two, Shape.rowMajor_val_three]
  show (0 * a + r.val) * b + d.val = r.val * b + d.val
  rw [Nat.zero_mul, Nat.zero_add]

theorem unslab_apply {a b : ℕ} (x : (⟨2, ![a, b]⟩ : Shape).Idx → EReal) (h : (⟨2, ![a, b]⟩ : Shape).ShapeCasts ⟨3, ![1, a, b]⟩) (z : Fin 1) (r : Fin a) (d : Fin b) :
    shapeCast ⟨3, ![1, a, b]⟩ x h (ix3 z r d) = x (ix2 r d) := by
  obtain rfl : z = 0 := Subsingleton.elim _ _
  refine shapeCast_apply _ _ (ix3 (0 : Fin 1) r d) (ix2 r d) ?_
  rw [Shape.rowMajor_val_two, Shape.rowMajor_val_three]
  show r.val * b + d.val = (0 * a + r.val) * b + d.val
  rw [Nat.zero_mul, Nat.zero_add]

/-- The rows a head computes before normalising. -/
def headRows (INNER : S128x128.Idx → EReal) (XI : S128x1.Idx → EReal) (q k : S1x128x256.Idx → EReal) (v : S1x128x512.Idx → EReal)
    (st : S1x256x512.Idx → EReal) : S128x512.Idx → EReal :=
  addf (F := Ideal) (φ := .f32)
    (matmul (F := Ideal) (φ₁ := .bf16) (φ₂ := .bf16) dot_S128x128_S128x512_S128x512_1_0_0_1_n_n none
      (mulf (F := Ideal) (φ := .f32)
        (matmul (F := Ideal) (φ₁ := .bf16) (φ₂ := .bf16) dot_S128x256_S128x256_S128x128_1_1_0_0_n_n none (k0_pay8 (F := Ideal) q) (k0_pay9 (F := Ideal) k) (constant (F := Ideal) S128x128 .f32 0x00000000#32))
        INNER)
      (k0_pay10 (F := Ideal) v) (constant (F := Ideal) S128x512 .f32 0x00000000#32))
    (matmul (F := Ideal) (φ₁ := .bf16) (φ₂ := .bf16) dot_S128x256_S256x512_S128x512_1_0_0_1_n_n none
      (mulf (F := Ideal) (φ := .f32) (k0_pay8 (F := Ideal) q) (broadcastTo S128x256 XI broadcasts_S128x1_S128x256))
      (k0_pay11 (F := Ideal) st) (constant (F := Ideal) S128x512 .f32 0x00000000#32))

/-- What a head stores of its rows. -/
def headOut (INNER : S128x128.Idx → EReal) (XI : S128x1.Idx → EReal) (q k : S1x128x256.Idx → EReal) (v : S1x128x512.Idx → EReal)
    (st : S1x256x512.Idx → EReal) (og : S1x512.Idx → EReal) (g : S1x128x512.Idx → EReal) : S1x128x512.Idx → EReal :=
  k0_pay15 (F := Ideal) (k0_pay13 (F := Ideal) INNER XI (k0_pay8 (F := Ideal) q) (k0_pay9 (F := Ideal) k) (k0_pay10 (F := Ideal) v) st og) (k0_pay14 (F := Ideal) g)

/-- The state a head leaves. -/
def headState (D : EReal) (ZETA : S128x1.Idx → EReal) (k : S1x128x256.Idx → EReal) (v : S1x128x512.Idx → EReal)
    (st : S1x256x512.Idx → EReal) : S1x256x512.Idx → EReal :=
  shapeCast S1x256x512 (addf (F := Ideal) (φ := .f32) (mulf (F := Ideal) (φ := .f32) (broadcast S256x512 (D : Ideal .f32)) (k0_pay11 (F := Ideal) st))
    (matmul (F := Ideal) (φ₁ := .bf16) (φ₂ := .bf16) dot_S128x256_S128x512_S256x512_0_0_1_1_n_n none
      (mulf (F := Ideal) (φ := .f32) (k0_pay9 (F := Ideal) k) (broadcastTo S128x256 ZETA broadcasts_S128x1_S128x256))
      (k0_pay10 (F := Ideal) v) (constant (F := Ideal) S256x512 .f32 0x00000000#32)) : S256x512.Idx → EReal) shapeCasts_S256x512_S1x256x512

section
variable (q k : S1x128x256.Idx → EReal) (v : S1x128x512.Idx → EReal) (st : S1x256x512.Idx → EReal) (og : S1x512.Idx → EReal)
  (g : S1x128x512.Idx → EReal)

theorem q_apply (r : Fin 128) (d : Fin 256) : (k0_pay8 (F := Ideal) q : S128x256.Idx → EReal) (ix2 r d) = q (ix3 (0 : Fin 1) r d) :=
  slab_apply q _ r d

theorem k_apply (r : Fin 128) (d : Fin 256) :
    (k0_pay9 (F := Ideal) k : S128x256.Idx → EReal) (ix2 r d) = k (ix3 (0 : Fin 1) r d) * RetMath.kscale :=
  congrArg (· * RetMath.kscale) (slab_apply k shapeCasts_S1x128x256_S128x256 r d)

theorem v_apply (r : Fin 128) (d : Fin 512) : (k0_pay10 (F := Ideal) v : S128x512.Idx → EReal) (ix2 r d) = v (ix3 (0 : Fin 1) r d) :=
  slab_apply v _ r d

theorem st_apply (d : Fin 256) (f : Fin 512) : (k0_pay11 (F := Ideal) st : S256x512.Idx → EReal) (ix2 d f) = st (ix3 (0 : Fin 1) d f) :=
  slab_apply st _ d f

theorem column_apply (x : S128x1.Idx → EReal) (r : Fin 128) (d : Fin 256) :
    (broadcastTo S128x256 x broadcasts_S128x1_S128x256 : S128x256.Idx → EReal) (ix2 r d) = x (ix2 r (0 : Fin 1)) := by
  refine broadcastTo_apply _ _ (ix2 r d) (ix2 r (0 : Fin 1)) fun a => ?_
  fin_cases a <;> rfl

/-- The state a head leaves, entry by entry. -/
theorem headState_apply (L D : EReal) (z : Fin 1) (d : Fin 256) (f : Fin 512) :
    headState D (zetaT L) k v st (ix3 z d f)
      = RetMath.next L D (fun r d => k (ix3 (0 : Fin 1) r d) * RetMath.kscale) (fun r f => v (ix3 (0 : Fin 1) r f))
          (fun d f => st (ix3 (0 : Fin 1) d f)) d f := by
  refine (unslab_apply _ _ z d f).trans ?_
  refine congrArg₂ (· + ·) (congrArg (D * ·) (st_apply st d f)) ?_
  refine (matmul_rows_apply _ _ _ d f).trans ?_
  rw [show (constant (F := Ideal) S256x512 .f32 0x00000000#32 : S256x512.Idx → EReal) (ix2 d f) = 0 from Ideal.ofBits_zero_f32, zero_add]
  refine Finset.sum_congr rfl fun e _ => congrArg₂ (· * ·) (congrArg₂ (· * ·) (k_apply k e d) ?_) (v_apply v e f)
  rw [column_apply, zetaT_apply]

/-- The rows a head computes, entry by entry. -/
theorem headRows_apply (L : EReal) (r : Fin 128) (f : Fin 512) :
    headRows (innerT L) (xiT L) q k v st (ix2 r f)
      = RetMath.rows L (fun r d => q (ix3 (0 : Fin 1) r d)) (fun r d => k (ix3 (0 : Fin 1) r d) * RetMath.kscale)
          (fun r f => v (ix3 (0 : Fin 1) r f)) (fun d f => st (ix3 (0 : Fin 1) d f)) r f := by
  refine congrArg₂ (· + ·) ?_ ?_
  · refine (Ideal.matmul_plain_apply (M := 128) (K := 128) (N := 512) (φ₁ := .bf16) (φ₂ := .bf16) none _ _ _ r f).trans ?_
    rw [show (constant (F := Ideal) S128x512 .f32 0x00000000#32 : S128x512.Idx → EReal) (ix2 r f) = 0 from Ideal.ofBits_zero_f32, zero_add]
    refine Finset.sum_congr rfl fun e _ => congrArg₂ (· * ·) (congrArg₂ (· * ·) ?_ (innerT_apply L r e)) (v_apply v e f)
    refine (Ideal.matmul_transposedRhs_apply (M := 128) (K := 256) (N := 128) (φ₁ := .bf16) (φ₂ := .bf16) none _ _ _ r e).trans ?_
    rw [show (constant (F := Ideal) S128x128 .f32 0x00000000#32 : S128x128.Idx → EReal) (ix2 r e) = 0 from Ideal.ofBits_zero_f32, zero_add]
    exact Finset.sum_congr rfl fun d _ => congrArg₂ (· * ·) (q_apply q r d) (k_apply k e d)
  · refine (Ideal.matmul_plain_apply (M := 128) (K := 256) (N := 512) (φ₁ := .bf16) (φ₂ := .bf16) none _ _ _ r f).trans ?_
    rw [show (constant (F := Ideal) S128x512 .f32 0x00000000#32 : S128x512.Idx → EReal) (ix2 r f) = 0 from Ideal.ofBits_zero_f32, zero_add]
    refine Finset.sum_congr rfl fun d _ => congrArg₂ (· * ·) (congrArg₂ (· * ·) (q_apply q r d) ?_) (st_apply st d f)
    rw [column_apply, xiT_apply]

/-- The sum of a row, as the reduction over the second axis takes it. -/
theorem row_sum (w : S128x512.Idx → EReal) (r : Fin 128) :
    (multiReduction (F := Ideal) (φ := .f32) .add [1] S128 w 0x00000000#32 reduces_S128x512_S128 (.inl rfl) rfl : S128.Idx → EReal) (ix1 r)
      = ∑ l : Fin 512, w (ix2 r l) := by
  refine (Ideal.multiReduction_add_single w _ reduces_S128x512_S128 (.inl rfl) rfl (ix1 r)).trans ?_
  refine Finset.sum_congr rfl fun l _ => congrArg w ?_
  exact Shape.idx_ext₂ rfl rfl

/-- What a head stores: its rows, normalised and gated. -/
theorem headOut_rows (INNER : S128x128.Idx → EReal) (XI : S128x1.Idx → EReal) (z : Fin 1) (r : Fin 128) (f : Fin 512) :
    headOut INNER XI q k v st og g (ix3 z r f)
      = RetMath.gated (fun l => headRows INNER XI q k v st (ix2 r l)) (fun l => g (ix3 (0 : Fin 1) r l)) (fun l => og (ix2 (0 : Fin 1) l)) f := by
  unfold headOut k0_pay15
  refine (unslab_apply _ shapeCasts_S128x512_S1x128x512 z r f).trans ?_
  have hg : (k0_pay14 (F := Ideal) g : S128x512.Idx → EReal) (ix2 r f) = g (ix3 (0 : Fin 1) r f) := slab_apply g _ r f
  refine congrArg₂ (· * ·) (congrArg (fun x => x * Ideal.logistic x) hg) ?_
  refine congrArg₂ (· * ·) (congrArg (headRows INNER XI q k v st (ix2 r f) * ·) ?_) ?_
  · refine (broadcastTo_apply _ _ (ix2 r f) (ix2 r (0 : Fin 1)) fun a => ?_).trans ?_
    · fin_cases a <;> rfl
    · refine congrArg (fun z => Ideal.rsqrt (Ideal.div z (Ideal.ofBits .f32 0x44000000#32) + Ideal.ofBits .f32 0x358637BD#32)) ?_
      refine (shapeCast_apply _ _ (ix2 r (0 : Fin 1)) (ix1 r) ?_).trans (row_sum _ r)
      rw [Shape.rowMajor_val_one, Shape.rowMajor_val_two]
      show r.val = r.val * 1 + 0
      omega
  · refine (broadcastTo_apply _ _ (ix2 r f) (ix2 (0 : Fin 1) f) fun a => ?_).trans ?_
    · fin_cases a <;> rfl
    · rw [shapeCast_self]

/-- What a head stores, entry by entry. -/
theorem headOut_apply (L : EReal) (z : Fin 1) (r : Fin 128) (f : Fin 512) :
    headOut (innerT L) (xiT L) q k v st og g (ix3 z r f)
      = RetMath.gated (RetMath.rows L (fun r d => q (ix3 (0 : Fin 1) r d)) (fun r d => k (ix3 (0 : Fin 1) r d) * RetMath.kscale)
          (fun r f => v (ix3 (0 : Fin 1) r f)) (fun d f => st (ix3 (0 : Fin 1) d f)) r)
          (fun l => g (ix3 (0 : Fin 1) r l)) (fun l => og (ix2 (0 : Fin 1) l)) f := by
  rw [headOut_rows]
  exact congrArg (fun y => RetMath.gated y (fun l => g (ix3 (0 : Fin 1) r l)) (fun l => og (ix2 (0 : Fin 1) l)) f)
    (funext fun l => headRows_apply q k v st L r l)
end

end Cert.RetIdeal.Rows
-- ==== Proof.RetBody.lean ====
/-
  One grid point of the retention kernel: the four heads' stores together, as one function of the staged blocks and
  the states carried in.
-/
module

public import proofs.«01_k».proof.Proof.RetHead

@[expose] public section

set_option maxRecDepth 16384

noncomputable section

namespace Cert.RetIdeal.Rows

open Cert.RetIdeal Cert.RetIdeal.Gen Idealize.ShloMosaic Idealize.ShloMosaic.TcCoe Idealize.SL.Sem
open Idealize.ShloMosaic.ValueIdx
open Cert.Proof

/-! ## The named constants -/

theorem named_lg0 : Named.named (F := Ideal) κ "lg0" (φ := .f32) 0xBD020AEC#32 = RetMath.lg 0 := rfl
theorem named_lg1 : Named.named (F := Ideal) κ "lg1" (φ := .f32) 0xBC8102B3#32 = RetMath.lg 1 := rfl
theorem named_lg2 : Named.named (F := Ideal) κ "lg2" (φ := .f32) 0xBC0080AC#32 = RetMath.lg 2 := rfl
theorem named_lg3 : Named.named (F := Ideal) κ "lg3" (φ := .f32) 0xBB80402B#32 = RetMath.lg 3 := rfl

theorem named_dec0 : Named.named (F := Ideal) κ "decay0" (φ := .f32) 0x3C8CC36A#32 = RetMath.dec 0 := by
  show ((_ : ℝ) : EReal) = (((31 / 32 : ℝ) ^ 128 : ℝ) : EReal)
  exact congrArg _ (by norm_num)
theorem named_dec1 : Named.named (F := Ideal) κ "decay1" (φ := .f32) 0x3E08698E#32 = RetMath.dec 1 := by
  show ((_ : ℝ) : EReal) = (((63 / 64 : ℝ) ^ 128 : ℝ) : EReal)
  exact congrArg _ (by norm_num)
theorem named_dec2 : Named.named (F := Ideal) κ "decay2" (φ := .f32) 0x3EBB9DB9#32 = RetMath.dec 2 := by
  show ((_ : ℝ) : EReal) = (((127 / 128 : ℝ) ^ 128 : ℝ) : EReal)
  exact congrArg _ (by norm_num)
theorem named_dec3 : Named.named (F := Ideal) κ "decay3" (φ := .f32) 0x3F1B1EB1#32 = RetMath.dec 3 := by
  show ((_ : ℝ) : EReal) = (((255 / 256 : ℝ) ^ 128 : ℝ) : EReal)
  exact congrArg _ (by norm_num)

/-! ## The four heads' stores are one head's, at four logarithms -/

section
variable (q k : S1x128x256.Idx → EReal) (v : S1x128x512.Idx → EReal) (st : S1x256x512.Idx → EReal) (og : S1x512.Idx → EReal)
  (g : S1x128x512.Idx → EReal)

theorem head0 : k0_pay15 (F := Ideal) (k0_pay13 (k0_pay5 (F := Ideal)) (k0_pay6 (F := Ideal)) (k0_pay8 q) (k0_pay9 k) (k0_pay10 v) st og) (k0_pay14 g)
    = headOut (innerT (RetMath.lg 0)) (xiT (RetMath.lg 0)) q k v st og g := by
  rw [← named_lg0]; rfl
theorem head1 : k0_pay27 (F := Ideal) (k0_pay24 (k0_pay16 (F := Ideal) k0_pay3) (k0_pay17 (F := Ideal) k0_pay4) (k0_pay19 q) (k0_pay20 k) (k0_pay21 v) st og) (k0_pay25 g) (k0_pay26 g)
    = headOut (innerT (RetMath.lg 1)) (xiT (RetMath.lg 1)) q k v st og g := by
  rw [← named_lg1]; rfl
theorem head2 : k0_pay37 (F := Ideal) (k0_pay36 (k0_pay28 (F := Ideal) k0_pay3) (k0_pay29 (F := Ideal) k0_pay4) (k0_pay31 q) (k0_pay32 k) (k0_pay33 v) st og g)
    = headOut (innerT (RetMath.lg 2)) (xiT (RetMath.lg 2)) q k v st og g := by
  rw [← named_lg2]; rfl
theorem head3 : k0_pay1 (F := Ideal) (k0_pay47 (k0_pay38 (F := Ideal) k0_pay3) (k0_pay39 (F := Ideal) k0_pay4) (k0_pay41 q) (k0_pay43 v) (k0_pay44 st) (k0_pay45 k) og g)
    = headOut (innerT (RetMath.lg 3)) (xiT (RetMath.lg 3)) q k v st og g := by
  rw [← named_lg3]; rfl

theorem state0 : k0_pay12 (F := Ideal) (k0_pay7 (F := Ideal)) (k0_pay9 k) (k0_pay10 v) st = headState (RetMath.dec 0) (zetaT (RetMath.lg 0)) k v st := by
  rw [← named_lg0, ← named_dec0]; rfl
theorem state1 : k0_pay23 (F := Ideal) (k0_pay18 (F := Ideal) k0_pay4) (k0_pay20 k) (k0_pay21 v) st = headState (RetMath.dec 1) (zetaT (RetMath.lg 1)) k v st := by
  rw [← named_lg1, ← named_dec1]; rfl
theorem state2 : k0_pay35 (F := Ideal) (k0_pay30 (F := Ideal) k0_pay4) (k0_pay32 k) (k0_pay33 v) st = headState (RetMath.dec 2) (zetaT (RetMath.lg 2)) k v st := by
  rw [← named_lg2, ← named_dec2]; rfl
theorem state3 : k0_pay46 (F := Ideal) (k0_pay40 (F := Ideal) k0_pay4) (k0_pay42 k) (k0_pay43 v) (k0_pay44 st) = headState (RetMath.dec 3) (zetaT (RetMath.lg 3)) k v st := by
  rw [← named_lg3, ← named_dec3]; rfl
end

/-! ## The point's results as functions of the staged blocks -/

section
variable (x0 x1 : S1x128x1024.Idx → EReal) (x2 x3 : S1x128x2048.Idx → EReal) (x4 : S1x512.Idx → EReal)
  (s : Fin 4 → Fin 256 → Fin 512 → EReal)

/-- Queries of head `h` in the staged block. -/
def bq (h : Fin 4) (r : Fin 128) (d : Fin 256) : EReal := x0 (ix3 (0 : Fin 1) r ⟨h.val * 256 + d.val, by omega⟩)
/-- Keys of head `h` in the staged block, scaled. -/
def bk (h : Fin 4) (r : Fin 128) (d : Fin 256) : EReal := x1 (ix3 (0 : Fin 1) r ⟨h.val * 256 + d.val, by omega⟩) * RetMath.kscale
/-- Values (or gates) of head `h` in the staged block. -/
def bv (h : Fin 4) (r : Fin 128) (f : Fin 512) : EReal := x2 (ix3 (0 : Fin 1) r ⟨h.val * 512 + f.val, by omega⟩)

/-- What head `h` stores. -/
def bout (h : Fin 4) (r : Fin 128) (f : Fin 512) : EReal :=
  RetMath.gated (RetMath.rows (RetMath.lg h) (bq x0 h) (bk x1 h) (bv x2 h) (s h) r) (bv x3 h r) (fun l => x4 (ix2 (0 : Fin 1) l)) f

/-- The state head `h` leaves. -/
def bstate (h : Fin 4) : Fin 256 → Fin 512 → EReal :=
  RetMath.next (RetMath.lg h) (RetMath.dec h) (bk x1 h) (bv x2 h) (s h)

/-- The whole block the point stores. -/
def blockOut : S1x128x2048.Idx → EReal := fun y =>
  bout x0 x1 x2 x3 x4 s ⟨(y 2).val / 512, by have h : (y 2).val < 2048 := (y 2).isLt; omega⟩ (y 1)
    ⟨(y 2).val % 512, Nat.mod_lt _ (by norm_num)⟩

/-- All the states the point leaves. -/
def blockState : S4x256x512.Idx → EReal := fun y => bstate x1 x2 s (y 0) (y 1) (y 2)

theorem slice_qk (x : S1x128x1024.Idx → EReal) (h : Fin 4) (o : ℕ) (ho : o = h.val * 256)
    (inb : ∀ a, (![0, 0, o] : Fin 3 → ℕ) a + S1x128x256.size a ≤ S1x128x1024.size a) (r : Fin 128) (d : Fin 256) :
    (View.ld (Val := Elt Ideal) (e' := .bf16) x (Rect.unit (s := S1x128x1024) ![0, 0, o] S1x128x256.size inb) : S1x128x256.Idx → EReal) (ix3 (0 : Fin 1) r d)
      = x (ix3 (0 : Fin 1) r ⟨h.val * 256 + d.val, by omega⟩) := by
  subst ho
  refine congrArg x (funext fun a => Fin.ext ?_)
  fin_cases a
  · rfl
  · show 0 + 1 * r.val = r.val; omega
  · show h.val * 256 + 1 * d.val = h.val * 256 + d.val; omega

theorem slice_v (x : S1x128x2048.Idx → EReal) (h : Fin 4) (o : ℕ) (ho : o = h.val * 512)
    (inb : ∀ a, (![0, 0, o] : Fin 3 → ℕ) a + S1x128x512.size a ≤ S1x128x2048.size a) (r : Fin 128) (f : Fin 512) :
    (View.ld (Val := Elt Ideal) (e' := .bf16) x (Rect.unit (s := S1x128x2048) ![0, 0, o] S1x128x512.size inb) : S1x128x512.Idx → EReal) (ix3 (0 : Fin 1) r f)
      = x (ix3 (0 : Fin 1) r ⟨h.val * 512 + f.val, by omega⟩) := by
  subst ho
  refine congrArg x (funext fun a => Fin.ext ?_)
  fin_cases a
  · rfl
  · show 0 + 1 * r.val = r.val; omega
  · show h.val * 512 + 1 * f.val = h.val * 512 + f.val; omega

theorem slice_st (x : S4x256x512.Idx → EReal) (h : Fin 4) (o : ℕ) (ho : o = h.val)
    (inb : ∀ a, (![o, 0, 0] : Fin 3 → ℕ) a + S1x256x512.size a ≤ S4x256x512.size a) (d : Fin 256) (f : Fin 512) :
    (View.ld (Val := Elt Ideal) (e' := .f32) x (Rect.unit (s := S4x256x512) ![o, 0, 0] S1x256x512.size inb) : S1x256x512.Idx → EReal) (ix3 (0 : Fin 1) d f)
      = x (ix3 h d f) := by
  subst ho
  refine congrArg x (funext fun a => Fin.ext ?_)
  fin_cases a
  · show h.val + 1 * 0 = h.val; omega
  · show 0 + 1 * d.val = d.val; omega
  · show 0 + 1 * f.val = f.val; omega

theorem head_congr (L : EReal) (r : Fin 128) (og : Fin 512 → EReal) (f : Fin 512) {q q' k k' : Fin 128 → Fin 256 → EReal}
    {v v' : Fin 128 → Fin 512 → EReal} {t t' : Fin 256 → Fin 512 → EReal} {g g' : Fin 512 → EReal} (hq : q = q') (hk : k = k')
    (hv : v = v') (ht : t = t') (hg : g = g') :
    RetMath.gated (RetMath.rows L q k v t r) g og f = RetMath.gated (RetMath.rows L q' k' v' t' r) g' og f := by
  subst hq hk hv ht hg; rfl

theorem next_congr (L D : EReal) (d : Fin 256) (f : Fin 512) {k k' : Fin 128 → Fin 256 → EReal}
    {v v' : Fin 128 → Fin 512 → EReal} {t t' : Fin 256 → Fin 512 → EReal} (hk : k = k') (hv : v = v') (ht : t = t') :
    RetMath.next L D k v t d f = RetMath.next L D k' v' t' d f := by
  subst hk hv ht; rfl

/-- The store of head `h` is the part of the whole block its columns name. -/
theorem out_piece (h : Fin 4) (o p : ℕ) (ho : o = h.val * 256) (hp : p = h.val * 512)
    (iq : ∀ a, (![0, 0, o] : Fin 3 → ℕ) a + S1x128x256.size a ≤ S1x128x1024.size a)
    (iv : ∀ a, (![0, 0, p] : Fin 3 → ℕ) a + S1x128x512.size a ≤ S1x128x2048.size a)
    (st : S1x256x512.Idx → EReal) (hst : ∀ d f, st (ix3 (0 : Fin 1) d f) = s h d f) (x : S1x128x512.Idx) :
    headOut (innerT (RetMath.lg h)) (xiT (RetMath.lg h))
        (View.ld (Val := Elt Ideal) (e' := .bf16) x0 (Rect.unit (s := S1x128x1024) ![0, 0, o] S1x128x256.size iq))
        (View.ld (Val := Elt Ideal) (e' := .bf16) x1 (Rect.unit (s := S1x128x1024) ![0, 0, o] S1x128x256.size iq))
        (View.ld (Val := Elt Ideal) (e' := .bf16) x2 (Rect.unit (s := S1x128x2048) ![0, 0, p] S1x128x512.size iv)) st x4
        (View.ld (Val := Elt Ideal) (e' := .bf16) x3 (Rect.unit (s := S1x128x2048) ![0, 0, p] S1x128x512.size iv)) x
      = blockOut x0 x1 x2 x3 x4 s ((Rect.unit (s := S1x128x2048) ![0, 0, p] S1x128x512.size iv).emb x) := by
  obtain ⟨r, f, rfl⟩ : ∃ (r : Fin 128) (f : Fin 512), x = ix3 (0 : Fin 1) r f :=
    ⟨x 1, x 2, funext fun a => by fin_cases a <;> first | rfl | exact Subsingleton.elim (α := Fin 1) _ _⟩
  rw [headOut_apply]
  have hf := f.isLt
  have e1 : ((Rect.unit (s := S1x128x2048) ![0, 0, p] S1x128x512.size iv).emb (ix3 (0 : Fin 1) r f) 1) = r :=
    Fin.ext (show 0 + 1 * r.val = r.val by omega)
  have e2 : ((Rect.unit (s := S1x128x2048) ![0, 0, p] S1x128x512.size iv).emb (ix3 (0 : Fin 1) r f) 2).val = h.val * 512 + f.val := by
    show p + 1 * f.val = _; omega
  refine Eq.trans (b := bout x0 x1 x2 x3 x4 s h r f) ?_ ?_
  · exact head_congr _ _ _ _ (funext fun r => funext fun d => slice_qk x0 h o ho iq r d)
      (funext fun r => funext fun d => congrArg (· * RetMath.kscale) (slice_qk x1 h o ho iq r d))
      (funext fun r => funext fun d => slice_v x2 h p hp iv r d) (funext fun d => funext fun f => hst d f)
      (funext fun l => slice_v x3 h p hp iv r l)
  · unfold blockOut
    rw [e1]
    refine congrArg₂ (fun h f => bout x0 x1 x2 x3 x4 s h r f) (Fin.ext ?_) (Fin.ext ?_)
    · show h.val = _ / 512
      rw [e2]; omega
    · show f.val = _ % 512
      rw [e2]; omega

/-- The state head `h` leaves is its slab of all the states. -/
theorem state_piece (h : Fin 4) (o p u : ℕ) (ho : o = h.val * 256) (hp : p = h.val * 512) (hu : u = h.val)
    (iq : ∀ a, (![0, 0, o] : Fin 3 → ℕ) a + S1x128x256.size a ≤ S1x128x1024.size a)
    (iv : ∀ a, (![0, 0, p] : Fin 3 → ℕ) a + S1x128x512.size a ≤ S1x128x2048.size a)
    (is : ∀ a, (![u, 0, 0] : Fin 3 → ℕ) a + S1x256x512.size a ≤ S4x256x512.size a)
    (st : S1x256x512.Idx → EReal) (hst : ∀ d f, st (ix3 (0 : Fin 1) d f) = s h d f) (x : S1x256x512.Idx) :
    headState (RetMath.dec h) (zetaT (RetMath.lg h))
        (View.ld (Val := Elt Ideal) (e' := .bf16) x1 (Rect.unit (s := S1x128x1024) ![0, 0, o] S1x128x256.size iq))
        (View.ld (Val := Elt Ideal) (e' := .bf16) x2 (Rect.unit (s := S1x128x2048) ![0, 0, p] S1x128x512.size iv)) st x
      = blockState x1 x2 s ((Rect.unit (s := S4x256x512) ![u, 0, 0] S1x256x512.size is).emb x) := by
  obtain ⟨d, f, rfl⟩ : ∃ (d : Fin 256) (f : Fin 512), x = ix3 (0 : Fin 1) d f :=
    ⟨x 1, x 2, funext fun a => by fin_cases a <;> first | rfl | exact Subsingleton.elim (α := Fin 1) _ _⟩
  rw [headState_apply]
  have e0 : ((Rect.unit (s := S4x256x512) ![u, 0, 0] S1x256x512.size is).emb (ix3 (0 : Fin 1) d f) 0) = h :=
    Fin.ext (show u + 1 * 0 = h.val by omega)
  have e1 : ((Rect.unit (s := S4x256x512) ![u, 0, 0] S1x256x512.size is).emb (ix3 (0 : Fin 1) d f) 1) = d :=
    Fin.ext (show 0 + 1 * d.val = d.val by omega)
  have e2 : ((Rect.unit (s := S4x256x512) ![u, 0, 0] S1x256x512.size is).emb (ix3 (0 : Fin 1) d f) 2) = f :=
    Fin.ext (show 0 + 1 * f.val = f.val by omega)
  unfold blockState
  rw [e0, e1, e2]
  exact next_congr _ _ _ _ (funext fun r => funext fun d => congrArg (· * RetMath.kscale) (slice_qk x1 h o ho iq r d))
    (funext fun r => funext fun d => slice_v x2 h p hp iv r d) (funext fun d => funext fun f => hst d f)
end

end Cert.RetIdeal.Rows
-- ==== Proof.RetCase.lean ====
/-
  What the retention kernel's body leaves at a grid point, in both of its cases: at a batch row's first chunk the
  states start at zero, later they are the states the chunk before left.
-/
module

public import proofs.«01_k».proof.Proof.RetBody
public import Idealize.ShloMosaic.Lib.Pipeline.ReadBack

@[expose] public section

set_option maxRecDepth 16384

noncomputable section

namespace Cert.RetIdeal.Rows

open Cert.RetIdeal Cert.RetIdeal.Gen Idealize.ShloMosaic Idealize.ShloMosaic.TcCoe Idealize.SL.Sem
open Idealize.ShloMosaic.ValueIdx
open Cert.Proof

theorem zeros2 : (![0, 0] : Fin 2 → Nat) = fun _ => 0 := funext fun a => by fin_cases a <;> rfl

section
variable (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x2048 .bf16) (harg4 : arg4.IsWhole) (arg5 : Memref sig .tc .vmem S1x128x2048 .bf16) (harg5 : arg5.IsWhole) (arg6 : Memref sig .tc .vmem S1x512 .f32) (harg6 : arg6.IsWhole) (arg7 : Memref sig .tc .vmem S1x128x2048 .bf16) (harg7 : arg7.IsWhole) (arg8 : Memref sig .tc .vmem S4x256x512 .f32) (harg8 : arg8.IsWhole)
  (x0 x1 : S1x128x1024.Idx → EReal) (x2 x3 : S1x128x2048.Idx → EReal) (x4 : S1x512.Idx → EReal)

/-- Later chunks: the block stored. -/
theorem out_B (hc0 : ¬cond0_0 i) (xs : S4x256x512.Idx → EReal) :
    (out0_B_5 (F := Ideal) c i arg2 harg2 arg3 harg3 arg4 harg4 arg5 harg5 arg6 harg6 arg7 harg7 arg8 harg8 hc0 x0 x1 x2 x3 x4 xs : S1x128x2048.Idx → EReal)
      = blockOut x0 x1 x2 x3 x4 (fun h d f => xs (ix3 h d f)) := by
  unfold out0_B_5
  rw [View.read_writes_eq_canon _ _ _ (cover0_B_5 (F := Ideal) c i arg2 harg2 arg3 harg3 arg4 harg4 arg5 harg5 arg6 harg6 arg7 harg7 arg8 harg8 hc0 x0 x1 x2 x3 x4 xs)]
  funext y
  refine View.canon_apply_of_pieces (Val := Elt Ideal) (e := .bf16) (blockOut x0 x1 x2 x3 x4 (fun h d f => xs (ix3 h d f))) _ ?_ y
    (cover0_B_5 (F := Ideal) c i arg2 harg2 arg3 harg3 arg4 harg4 arg5 harg5 arg6 harg6 arg7 harg7 arg8 harg8 hc0 x0 x1 x2 x3 x4 xs y)
  unfold kernelRun0_B
  dsimp only
  sl_unfold_words
  simp only [View.readAt_eq_ld, harg2.read_unread, harg3.read_unread, harg4.read_unread, harg5.read_unread, harg6.read_unread, harg8.read_unread]
  rw [View.ld_unit_zero zeros2]
  intro p hp
  simp only [List.mem_cons, List.not_mem_nil, or_false] at hp
  rcases hp with rfl | rfl | rfl | rfl
  · refine fun x => (congrFun (head3 _ _ _ _ _ _) x).trans ?_
    exact out_piece x0 x1 x2 x3 x4 _ 3 768 1536 rfl rfl _ _ _ (slice_st xs 3 3 rfl _) x
  · refine fun x => (congrFun (head2 _ _ _ _ _ _) x).trans ?_
    exact out_piece x0 x1 x2 x3 x4 _ 2 512 1024 rfl rfl _ _ _ (slice_st xs 2 2 rfl _) x
  · refine fun x => (congrFun (head1 _ _ _ _ _ _) x).trans ?_
    exact out_piece x0 x1 x2 x3 x4 _ 1 256 512 rfl rfl _ _ _ (slice_st xs 1 1 rfl _) x
  · refine fun x => (congrFun (head0 _ _ _ _ _ _) x).trans ?_
    exact out_piece x0 x1 x2 x3 x4 _ 0 0 0 rfl rfl _ _ _ (slice_st xs 0 0 rfl _) x

/-- Later chunks: the states left. -/
theorem sout_B (hc0 : ¬cond0_0 i) (xs : S4x256x512.Idx → EReal) :
    (sout0_B_0 (F := Ideal) c i arg2 harg2 arg3 harg3 arg4 harg4 arg5 harg5 arg6 harg6 arg7 harg7 arg8 harg8 hc0 x0 x1 x2 x3 x4 xs : S4x256x512.Idx → EReal)
      = blockState x1 x2 (fun h d f => xs (ix3 h d f)) := by
  unfold sout0_B_0
  rw [View.read_writes_eq_canon _ _ _ (scover0_B_0 (F := Ideal) c i arg2 harg2 arg3 harg3 arg4 harg4 arg5 harg5 arg6 harg6 arg7 harg7 arg8 harg8 hc0 x0 x1 x2 x3 x4 xs)]
  funext y
  refine View.canon_apply_of_pieces (Val := Elt Ideal) (e := .f32) (blockState x1 x2 (fun h d f => xs (ix3 h d f))) _ ?_ y
    (scover0_B_0 (F := Ideal) c i arg2 harg2 arg3 harg3 arg4 harg4 arg5 harg5 arg6 harg6 arg7 harg7 arg8 harg8 hc0 x0 x1 x2 x3 x4 xs y)
  unfold kernelRun0_B
  dsimp only
  sl_unfold_words
  simp only [View.readAt_eq_ld, harg2.read_unread, harg3.read_unread, harg4.read_unread, harg5.read_unread, harg6.read_unread, harg8.read_unread]
  intro p hp
  simp only [List.mem_cons, List.not_mem_nil, or_false] at hp
  rcases hp with rfl | rfl | rfl | rfl
  · refine fun x => (congrFun (state3 _ _ _) x).trans ?_
    exact state_piece x1 x2 _ 3 768 1536 3 rfl rfl rfl _ _ inb_S4x256x512_S1x256x512_3_0_0 _ (slice_st xs 3 3 rfl _) x
  · refine fun x => (congrFun (state2 _ _ _) x).trans ?_
    exact state_piece x1 x2 _ 2 512 1024 2 rfl rfl rfl _ _ inb_S4x256x512_S1x256x512_2_0_0 _ (slice_st xs 2 2 rfl _) x
  · refine fun x => (congrFun (state1 _ _ _) x).trans ?_
    exact state_piece x1 x2 _ 1 256 512 1 rfl rfl rfl _ _ inb_S4x256x512_S1x256x512_1_0_0 _ (slice_st xs 1 1 rfl _) x
  · refine fun x => (congrFun (state0 _ _ _) x).trans ?_
    exact state_piece x1 x2 _ 0 0 0 0 rfl rfl rfl _ _ inb_S4x256x512_S1x256x512_0_0_0 _ (slice_st xs 0 0 rfl _) x

theorem zero_apply (y : S4x256x512.Idx) : (k0_pay2 (F := Ideal) : S4x256x512.Idx → EReal) y = 0 := by
  unfold k0_pay2
  rw [shapeCast_self]
  exact Ideal.ofBits_zero_f32

theorem slice_zero (h : Fin 4) (o : ℕ) (ho : o = h.val)
    (inb : ∀ a, (![o, 0, 0] : Fin 3 → ℕ) a + S1x256x512.size a ≤ S4x256x512.size a) (d : Fin 256) (f : Fin 512) :
    (View.ld (Val := Elt Ideal) (e' := .f32) (k0_pay2 (F := Ideal)) (Rect.unit (s := S4x256x512) ![o, 0, 0] S1x256x512.size inb) : S1x256x512.Idx → EReal) (ix3 (0 : Fin 1) d f)
      = 0 :=
  (slice_st (k0_pay2 (F := Ideal)) h o ho inb d f).trans (zero_apply _)

/-- First chunk: the block stored. -/
theorem out_A (hc0 : cond0_0 i) :
    (out0_A_5 (F := Ideal) c i arg2 harg2 arg3 harg3 arg4 harg4 arg5 harg5 arg6 harg6 arg7 harg7 arg8 harg8 hc0 x0 x1 x2 x3 x4 : S1x128x2048.Idx → EReal)
      = blockOut x0 x1 x2 x3 x4 (fun _ _ _ => 0) := by
  unfold out0_A_5
  rw [View.read_writes_eq_canon _ _ _ (cover0_A_5 (F := Ideal) c i arg2 harg2 arg3 harg3 arg4 harg4 arg5 harg5 arg6 harg6 arg7 harg7 arg8 harg8 hc0 x0 x1 x2 x3 x4)]
  funext y
  refine View.canon_apply_of_pieces (Val := Elt Ideal) (e := .bf16) (blockOut x0 x1 x2 x3 x4 (fun _ _ _ => 0)) _ ?_ y
    (cover0_A_5 (F := Ideal) c i arg2 harg2 arg3 harg3 arg4 harg4 arg5 harg5 arg6 harg6 arg7 harg7 arg8 harg8 hc0 x0 x1 x2 x3 x4 y)
  unfold kernelRun0_A
  dsimp only
  sl_unfold_words
  simp (discharger := first | rfl | decide) only [↓View.readCov_skip, ↓View.readCov_fill, View.readAt_eq_ld, harg2.read_unread, harg3.read_unread, harg4.read_unread, harg5.read_unread, harg6.read_unread]
  rw [View.ld_unit_zero zeros2]
  intro p hp
  simp only [List.mem_cons, List.not_mem_nil, or_false] at hp
  rcases hp with rfl | rfl | rfl | rfl
  · refine fun x => (congrFun (head3 _ _ _ _ _ _) x).trans ?_
    exact out_piece x0 x1 x2 x3 x4 _ 3 768 1536 rfl rfl _ _ _ (slice_zero 3 3 rfl _) x
  · refine fun x => (congrFun (head2 _ _ _ _ _ _) x).trans ?_
    exact out_piece x0 x1 x2 x3 x4 _ 2 512 1024 rfl rfl _ _ _ (slice_zero 2 2 rfl _) x
  · refine fun x => (congrFun (head1 _ _ _ _ _ _) x).trans ?_
    exact out_piece x0 x1 x2 x3 x4 _ 1 256 512 rfl rfl _ _ _ (slice_zero 1 1 rfl _) x
  · refine fun x => (congrFun (head0 _ _ _ _ _ _) x).trans ?_
    exact out_piece x0 x1 x2 x3 x4 _ 0 0 0 rfl rfl _ _ _ (slice_zero 0 0 rfl _) x

/-- First chunk: the states left. -/
theorem sout_A (hc0 : cond0_0 i) :
    (sout0_A_0 (F := Ideal) c i arg2 harg2 arg3 harg3 arg4 harg4 arg5 harg5 arg6 harg6 arg7 harg7 arg8 harg8 hc0 x0 x1 x2 x3 x4 : S4x256x512.Idx → EReal)
      = blockState x1 x2 (fun _ _ _ => 0) := by
  unfold sout0_A_0
  rw [View.read_writes_eq_canon _ _ _ (scover0_A_0 (F := Ideal) c i arg2 harg2 arg3 harg3 arg4 harg4 arg5 harg5 arg6 harg6 arg7 harg7 arg8 harg8 hc0 x0 x1 x2 x3 x4)]
  unfold kernelRun0_A
  dsimp only
  sl_unfold_words
  simp (discharger := first | rfl | decide) only [↓View.readCov_skip, ↓View.readCov_fill, View.readAt_eq_ld, harg2.read_unread, harg3.read_unread, harg4.read_unread, harg5.read_unread, harg6.read_unread]
  funext y
  refine View.canon_append_of_pieces (Val := Elt Ideal) (e := .f32) (blockState x1 x2 (fun _ _ _ => 0)) [⟨Rect.unit ![0, 0, 0] S4x256x512.size inb_S4x256x512_S4x256x512_0_0_0, (k0_pay2 (F := Ideal))⟩]
    [_, _, _, _] ?_ y (View.cover_of_tiledL (s := S4x256x512) [_, _, _, _] S1x256x512.size (by sl_kernel_rfl) y)
  intro p hp
  simp only [List.mem_cons, List.not_mem_nil, or_false] at hp
  rcases hp with rfl | rfl | rfl | rfl
  · refine fun x => (congrFun (state3 _ _ _) x).trans ?_
    exact state_piece x1 x2 _ 3 768 1536 3 rfl rfl rfl _ _ inb_S4x256x512_S1x256x512_3_0_0 _ (slice_zero 3 3 rfl _) x
  · refine fun x => (congrFun (state2 _ _ _) x).trans ?_
    exact state_piece x1 x2 _ 2 512 1024 2 rfl rfl rfl _ _ inb_S4x256x512_S1x256x512_2_0_0 _ (slice_zero 2 2 rfl _) x
  · refine fun x => (congrFun (state1 _ _ _) x).trans ?_
    exact state_piece x1 x2 _ 1 256 512 1 rfl rfl rfl _ _ inb_S4x256x512_S1x256x512_1_0_0 _ (slice_zero 1 1 rfl _) x
  · refine fun x => (congrFun (state0 _ _ _) x).trans ?_
    exact state_piece x1 x2 _ 0 0 0 0 rfl rfl rfl _ _ inb_S4x256x512_S1x256x512_0_0_0 _ (slice_zero 0 0 rfl _) x
end

end Cert.RetIdeal.Rows
-- ==== Proof.RetArr.lean ====
/-
  The retention kernel's whole result array: chunk by chunk the carried states are those of the formulas, and each
  grid point writes back its chunk of the result.
-/
module

public import proofs.«01_k».proof.Proof.RetCase

@[expose] public section

set_option maxRecDepth 16384

noncomputable section

namespace Cert.RetIdeal.Rows

open Cert.RetIdeal Cert.RetIdeal.Gen Idealize.ShloMosaic Idealize.ShloMosaic.TcCoe Idealize.SL.Sem
open Idealize.ShloMosaic.ValueIdx
open Idealize.ShloMosaic.Pipeline (Dat)
open Cert.Proof

variable (m : (ℓ : Loc nD τ sig) → Buf (Elt Ideal) ℓ) (ρ : Dev nD → PrngReg)

/-- The projections as launched. -/
abbrev argZ (c : Dev nD) : S16x2048x6144.Idx → EReal := m ((c : Thread nD τ).loc main_arg0)
/-- The gain of the output norm as launched. -/
abbrev argG (c : Dev nD) : S512.Idx → EReal := m ((c : Thread nD τ).loc main_arg1)

/-- The gain, position by position. -/
abbrev gain (c : Dev nD) : Fin 512 → EReal := fun l => argG m c (ix1 l)

/-- The gain the region finds is the argument as one row. -/
theorem V_gain (c : Dev nD) (z : Fin 1) (k : Fin 512) :
    (V m c main_v0 : S1x512.Idx → EReal) (ix2 z k) = argG m c (ix1 k) := by
  have e : V m c main_v0 = (shapeCast S1x512 (argG m c) shapeCasts_S512_S1x512 : S1x512.Idx → EReal) := by
    show StableHlo.after hostOps0 (fun b => m (c, b)) _ = _
    after_results
    rfl
  rw [e]
  refine (shapeCast_addUnit_apply ![512] (argG m c) _ _).trans (congrArg (argG m c) (funext fun a => ?_))
  fin_cases a
  rfl

/-- Where each window's block sits: batch row `t / 16`, chunk `t % 16`, and its part of the columns. -/
theorem places : ∀ t : Fin cfg0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = t.val % 16 ∧ win0_1.index t (2 : Fin 3) = 1)
    ∧ (win0_2.index t (0 : Fin 3) = t.val / 16 ∧ win0_2.index t (1 : Fin 3) = t.val % 16 ∧ win0_2.index t (2 : Fin 3) = 1)
    ∧ (win0_3.index t (0 : Fin 3) = t.val / 16 ∧ win0_3.index t (1 : Fin 3) = t.val % 16 ∧ win0_3.index t (2 : Fin 3) = 2)
    ∧ (win0_4.index t (0 : Fin 2) = 0 ∧ win0_4.index t (1 : Fin 2) = 0)
    ∧ (win0_5.index t (0 : Fin 3) = t.val / 16 ∧ win0_5.index t (1 : Fin 3) = t.val % 16 ∧ win0_5.index t (2 : Fin 3) = 0) :=
  (by decide +kernel : ∀ t : Fin grid0.N, _)

/-- The batch row of a grid point. -/
def row (t : Fin cfg0.N) : Fin 16 := ⟨t.val / 16, by have h := lt_of_lt_of_eq t.isLt (show cfg0.N = 256 from N_0); omega⟩
/-- The chunk of a grid point. -/
def chunk (t : Fin cfg0.N) : Fin 16 := ⟨t.val % 16, Nat.mod_lt _ (by norm_num)⟩

theorem block_q (c : Dev nD) (t : Fin cfg0.N) (r : Fin 128) (k : Fin 1024) :
    (iblk m c 0 t : S1x128x1024.Idx → EReal) (ix3 (0 : Fin 1) r k)
      = RetMath.at' (argZ m c) (row t) (chunk t) r ⟨k.val, by omega⟩ := by
  obtain ⟨⟨e0, e1, e2⟩, -⟩ := places t
  show (V m c main_arg0 : S16x2048x6144.Idx → EReal) (((cfg0.win 0).blk t).view.emb (ix3 (0 : Fin 1) r k)) = _
  rw [V_main_arg0]
  refine congrArg (argZ m c) (funext fun a => Fin.ext ?_)
  match a with
  | ⟨0, _⟩ => show win0_0.index t (0 : Fin 3) * 1 + 1 * 0 = t.val / 16; rw [e0]; omega
  | ⟨1, _⟩ => show win0_0.index t (1 : Fin 3) * 128 + 1 * r.val = t.val % 16 * 128 + r.val; rw [e1]; omega
  | ⟨2, _⟩ => show win0_0.index t (2 : Fin 3) * 1024 + 1 * k.val = k.val; rw [e2]; omega

theorem block_k (c : Dev nD) (t : Fin cfg0.N) (r : Fin 128) (k : Fin 1024) :
    (iblk m c 1 t : S1x128x1024.Idx → EReal) (ix3 (0 : Fin 1) r k)
      = RetMath.at' (argZ m c) (row t) (chunk t) r ⟨1024 + k.val, by omega⟩ := by
  obtain ⟨-, ⟨e0, e1, e2⟩, -⟩ := places t
  show (V m c main_arg0 : S16x2048x6144.Idx → EReal) (((cfg0.win 1).blk t).view.emb (ix3 (0 : Fin 1) r k)) = _
  rw [V_main_arg0]
  refine congrArg (argZ m c) (funext fun a => Fin.ext ?_)
  match a with
  | ⟨0, _⟩ => show win0_1.index t (0 : Fin 3) * 1 + 1 * 0 = t.val / 16; rw [e0]; omega
  | ⟨1, _⟩ => show win0_1.index t (1 : Fin 3) * 128 + 1 * r.val = t.val % 16 * 128 + r.val; rw [e1]; omega
  | ⟨2, _⟩ => show win0_1.index t (2 : Fin 3) * 1024 + 1 * k.val = 1024 + k.val; rw [e2]; omega

theorem block_v (c : Dev nD) (t : Fin cfg0.N) (r : Fin 128) (k : Fin 2048) :
    (iblk m c 2 t : S1x128x2048.Idx → EReal) (ix3 (0 : Fin 1) r k)
      = RetMath.at' (argZ m c) (row t) (chunk t) r ⟨2048 + k.val, by omega⟩ := by
  obtain ⟨-, -, ⟨e0, e1, e2⟩, -⟩ := places t
  show (V m c main_arg0 : S16x2048x6144.Idx → EReal) (((cfg0.win 2).blk t).view.emb (ix3 (0 : Fin 1) r k)) = _
  rw [V_main_arg0]
  refine congrArg (argZ m c) (funext fun a => Fin.ext ?_)
  match a with
  | ⟨0, _⟩ => show win0_2.index t (0 : Fin 3) * 1 + 1 * 0 = t.val / 16; rw [e0]; omega
  | ⟨1, _⟩ => show win0_2.index t (1 : Fin 3) * 128 + 1 * r.val = t.val % 16 * 128 + r.val; rw [e1]; omega
  | ⟨2, _⟩ => show win0_2.index t (2 : Fin 3) * 2048 + 1 * k.val = 2048 + k.val; rw [e2]; omega

theorem block_g (c : Dev nD) (t : Fin cfg0.N) (r : Fin 128) (k : Fin 2048) :
    (iblk m c 3 t : S1x128x2048.Idx → EReal) (ix3 (0 : Fin 1) r k)
      = RetMath.at' (argZ m c) (row t) (chunk t) r ⟨4096 + k.val, by omega⟩ := by
  obtain ⟨-, -, -, ⟨e0, e1, e2⟩, -⟩ := places t
  show (V m c main_arg0 : S16x2048x6144.Idx → EReal) (((cfg0.win 3).blk t).view.emb (ix3 (0 : Fin 1) r k)) = _
  rw [V_main_arg0]
  refine congrArg (argZ m c) (funext fun a => Fin.ext ?_)
  match a with
  | ⟨0, _⟩ => show win0_3.index t (0 : Fin 3) * 1 + 1 * 0 = t.val / 16; rw [e0]; omega
  | ⟨1, _⟩ => show win0_3.index t (1 : Fin 3) * 128 + 1 * r.val = t.val % 16 * 128 + r.val; rw [e1]; omega
  | ⟨2, _⟩ => show win0_3.index t (2 : Fin 3) * 2048 + 1 * k.val = 4096 + k.val; rw [e2]; omega

theorem block_gain (c : Dev nD) (t : Fin cfg0.N) (k : Fin 512) :
    (iblk m c 4 t : S1x512.Idx → EReal) (ix2 (0 : Fin 1) k) = gain m c k := by
  obtain ⟨-, -, -, -, ⟨e0, e1⟩, -⟩ := places t
  show _ = argG m c (ix1 k)
  rw [← V_gain m c (0 : Fin 1) k]
  show (V m c main_v0 : S1x512.Idx → EReal) (((cfg0.win 4).blk t).view.emb (ix2 (0 : Fin 1) k)) = _
  refine congrArg (V m c main_v0 : S1x512.Idx → EReal) (Shape.idx_ext₂ ?_ ?_)
  · show win0_4.index t (0 : Fin 2) * 1 + 1 * (0 : Fin 1).val = (0 : Fin 1).val
    rw [e0]; rfl
  · show win0_4.index t (1 : Fin 2) * 512 + 1 * k.val = k.val
    rw [e1]; omega

/-- The staged queries, keys, values and gates of a head are the head's in the point's chunk. -/
theorem heads_q (c : Dev nD) (t : Fin cfg0.N) (h : Fin 4) : bq (iblk m c 0 t) h = RetMath.qs (argZ m c) (row t) (chunk t) h :=
  funext fun r => funext fun _ => block_q m c t r _
theorem heads_k (c : Dev nD) (t : Fin cfg0.N) (h : Fin 4) : bk (iblk m c 1 t) h = RetMath.ks (argZ m c) (row t) (chunk t) h :=
  funext fun r => funext fun d => congrArg (· * RetMath.kscale) ((block_k m c t r _).trans
    (congrArg (RetMath.at' (argZ m c) (row t) (chunk t) r) (Fin.ext (Nat.add_assoc 1024 (h.val * 256) d.val).symm)))
theorem heads_v (c : Dev nD) (t : Fin cfg0.N) (h : Fin 4) : bv (iblk m c 2 t) h = RetMath.vs (argZ m c) (row t) (chunk t) h :=
  funext fun r => funext fun d => (block_v m c t r _).trans
    (congrArg (RetMath.at' (argZ m c) (row t) (chunk t) r) (Fin.ext (Nat.add_assoc 2048 (h.val * 512) d.val).symm))
theorem heads_g (c : Dev nD) (t : Fin cfg0.N) (h : Fin 4) : bv (iblk m c 3 t) h = RetMath.gs (argZ m c) (row t) (chunk t) h :=
  funext fun r => funext fun d => (block_g m c t r _).trans
    (congrArg (RetMath.at' (argZ m c) (row t) (chunk t) r) (Fin.ext (Nat.add_assoc 4096 (h.val * 512) d.val).symm))

/-- The states before the chunk of point `t`. -/
def before (c : Dev nD) (t : Fin cfg0.N) : Fin 4 → Fin 256 → Fin 512 → EReal :=
  fun h => RetMath.state (argZ m c) (row t) h (chunk t).val

/-- What a grid point stores, from the right states. -/
theorem point_out (c : Dev nD) (t : Fin cfg0.N) (h : Fin 4) (r : Fin 128) (f : Fin 512) :
    bout (iblk m c 0 t) (iblk m c 1 t) (iblk m c 2 t) (iblk m c 3 t) (iblk m c 4 t) (before m c t) h r f
      = RetMath.outs (argZ m c) (gain m c) (row t) (chunk t) h r f := by
  unfold bout
  rw [heads_q, heads_k, heads_v, heads_g, show (fun l => (iblk m c 4 t : S1x512.Idx → EReal) (ix2 (0 : Fin 1) l)) = gain m c from
    funext fun l => block_gain m c t l]
  rfl

/-- The states a grid point leaves, from the right states. -/
theorem point_state (c : Dev nD) (t : Fin cfg0.N) (h : Fin 4) :
    bstate (iblk m c 1 t) (iblk m c 2 t) (before m c t) h
      = RetMath.state (argZ m c) (row t) h ((chunk t).val + 1) := by
  unfold bstate
  rw [heads_k, heads_v, RetMath.state_succ]
  rfl

/-- The first chunk of a batch row starts from zero states. -/
theorem left_A (c : Dev nD) (t : Fin cfg0.N) (h0 : t.val % 16 = 0) :
    outsAt0 m c t.val t.isLt
      = (blockOut (iblk m c 0 t) (iblk m c 1 t) (iblk m c 2 t) (iblk m c 3 t) (iblk m c 4 t) (fun _ _ _ => 0),
        blockState (iblk m c 1 t) (iblk m c 2 t) (fun _ _ _ => 0)) := by
  have h := outsAt0_A m c t h0
  rw [out_A, sout_A] at h
  exact h

/-- A later chunk starts from the states that the chunk before it left. -/
theorem left_B (c : Dev nD) (t : Fin cfg0.N) (h0 : ¬ t.val % 16 = 0) :
    outsAt0 m c t.val t.isLt
      = (blockOut (iblk m c 0 t) (iblk m c 1 t) (iblk m c 2 t) (iblk m c 3 t) (iblk m c 4 t)
          (fun h d f => (outsAt0 m c (t.val - 1) (lt_of_le_of_lt (Nat.sub_le _ _) t.isLt)).2 (ix3 h d f)),
        blockState (iblk m c 1 t) (iblk m c 2 t)
          (fun h d f => (outsAt0 m c (t.val - 1) (lt_of_le_of_lt (Nat.sub_le _ _) t.isLt)).2 (ix3 h d f))) := by
  have h := outsAt0_B m c t h0
  rw [out_B, sout_B] at h
  exact h

/-- What every grid point leaves: its chunk of the result, and the states after the chunk. -/
theorem left_eq (c : Dev nD) : ∀ (n : ℕ) (hn : n < cfg0.N),
    outsAt0 m c n hn
      = (blockOut (iblk m c 0 ⟨n, hn⟩) (iblk m c 1 ⟨n, hn⟩) (iblk m c 2 ⟨n, hn⟩) (iblk m c 3 ⟨n, hn⟩) (iblk m c 4 ⟨n, hn⟩) (before m c ⟨n, hn⟩),
        blockState (iblk m c 1 ⟨n, hn⟩) (iblk m c 2 ⟨n, hn⟩) (before m c ⟨n, hn⟩)) := by
  intro n
  induction n with
  | zero =>
    intro hn
    rw [show before m c ⟨0, hn⟩ = fun _ _ _ => 0 from rfl]
    exact left_A m c ⟨0, hn⟩ rfl
  | succ n ih =>
    intro hn
    by_cases h0 : (n + 1) % 16 = 0
    · have hz : before m c ⟨n + 1, hn⟩ = fun _ _ _ => 0 := by
        funext h
        unfold before
        rw [show (chunk (⟨n + 1, hn⟩ : Fin cfg0.N)).val = 0 from h0]
        rfl
      rw [hz]
      exact left_A m c ⟨n + 1, hn⟩ h0
    · have hb : before m c ⟨n + 1, hn⟩
          = fun h d f => (outsAt0 m c n (Nat.lt_of_succ_lt hn)).2 (ix3 h d f) := by
        funext h d f
        rw [ih]
        refine Eq.symm ((congrFun (congrFun (point_state m c ⟨n, Nat.lt_of_succ_lt hn⟩ h) d) f).trans ?_)
        have e1 : (row (⟨n, Nat.lt_of_succ_lt hn⟩ : Fin cfg0.N)) = row (⟨n + 1, hn⟩ : Fin cfg0.N) :=
          Fin.ext (by show n / 16 = (n + 1) / 16; omega)
        have e2 : (chunk (⟨n, Nat.lt_of_succ_lt hn⟩ : Fin cfg0.N)).val + 1 = (chunk (⟨n + 1, hn⟩ : Fin cfg0.N)).val := by
          show n % 16 + 1 = (n + 1) % 16; omega
        rw [e1, e2]
        rfl
      rw [hb]
      exact left_B m c ⟨n + 1, hn⟩ h0

/-- Point `t` writes back its chunk of the result. -/
theorem flushed_eq (c : Dev nD) (t : Fin cfg0.N) :
    (dats m 0 c).flushed 5 t = (win0_5.blk t).view.read (Elt Ideal) (RetMath.out (argZ m c) (gain m c)) := by
  rw [Value.flushed5]
  funext y
  obtain ⟨r, j, rfl⟩ : ∃ (r : Fin 128) (j : Fin 2048), y = ix3 (0 : Fin 1) r j :=
    ⟨y 1, y 2, funext fun a => by fin_cases a <;> first | rfl | exact Subsingleton.elim (α := Fin 1) _ _⟩
  obtain ⟨-, -, -, -, -, e0, e1, e2⟩ := places t
  have hN : t.val < 256 := lt_of_lt_of_eq t.isLt N_0
  have hr := r.isLt
  show ((outsAt0 m c t.val t.isLt).1 : S1x128x2048.Idx → EReal) (ix3 (0 : Fin 1) r j)
    = RetMath.out (argZ m c) (gain m c) ((win0_5.blk t).view.emb (ix3 (0 : Fin 1) r j))
  have hi : ((win0_5.blk t).view.emb (ix3 (0 : Fin 1) r j) : S16x2048x2048.Idx)
      = ix3 (row t) (⟨(chunk t).val * 128 + r.val, by have := (chunk t).isLt; omega⟩ : Fin 2048) j := by
    funext a
    apply Fin.ext
    match a with
    | ⟨0, _⟩ => show win0_5.index t (0 : Fin 3) * 1 + 1 * 0 = t.val / 16; rw [e0]; omega
    | ⟨1, _⟩ => show win0_5.index t (1 : Fin 3) * 128 + 1 * r.val = t.val % 16 * 128 + r.val; rw [e1]; omega
    | ⟨2, _⟩ => show win0_5.index t (2 : Fin 3) * 2048 + 1 * j.val = j.val; rw [e2]; omega
  rw [hi, left_eq]
  refine (point_out m c t _ r _).trans ?_
  unfold RetMath.out
  have hc : (⟨((chunk t).val * 128 + r.val) / 128, by have := (chunk t).isLt; omega⟩ : Fin 16) = chunk t :=
    Fin.ext (by show ((chunk t).val * 128 + r.val) / 128 = (chunk t).val; omega)
  have hm : (⟨((chunk t).val * 128 + r.val) % 128, Nat.mod_lt _ (by norm_num)⟩ : Fin 128) = r :=
    Fin.ext (by show ((chunk t).val * 128 + r.val) % 128 = r.val; omega)
  show _ = RetMath.outs (argZ m c) (gain m c) (row t) ⟨((chunk t).val * 128 + r.val) / 128, _⟩ _ ⟨((chunk t).val * 128 + r.val) % 128, _⟩ _
  rw [hc, hm]

/-- The result array after the run. -/
theorem final (c : Dev nD) : (dats m 0 c).arrAt 5 cfg0.N = RetMath.out (argZ m c) (gain m c) :=
  (dats m 0 c).arrAt_eq_of_cover 5 (RetMath.out (argZ m c) (gain m c)) (fun t _ => flushed_eq m c t) fun i =>
    (Value.covered_iff5 i).2 (by
      have h0 : (i 0).val < 16 := (i 0).isLt
      have h1 : (i 1).val < 2048 := (i 1).isLt
      have h2 : (i 2).val < 2048 := (i 2).isLt
      omega)

/-- The run: the result is the retention of the arguments, which stay as they were. -/
theorem run : θ_run defs (onTc (τ := τ) (main (F := Ideal))) ⟨m, fun _ => 0, ρ⟩ fun r => ∀ c : Dev nD,
      r.2.mem ((c : Thread nD τ).loc main_v1) = RetMath.out (argZ m c) (gain m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.RetIdeal.Rows
-- ==== Proof.RetRefTerms.lean ====
/-
  The arrays that the reference's scan starts from, as its host operations write them: the decays and the chunked
  queries, keys and values, each read entry by entry as the formulas name it.
-/
module

public import proofs.«01_k».proof.Proof.RetMath
public import proofs.«01_k».proof.Proof.Gen.RetRefIdeal.Run
public import Idealize.ShloMosaic.Lib.StackMember

@[expose] public section

set_option maxRecDepth 16384

noncomputable section

namespace Cert.RetRefIdeal.Terms

open Idealize.ShloMosaic Idealize.ShloMosaic.TcCoe Idealize.SL.Sem Idealize.ShloMosaic.ValueIdx
open Cert.RetRefIdeal Cert.RetRefIdeal.Facts₀
open Cert.Proof

theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_minus_five : Ideal.ofBits .f32 0xC0A00000#32 = ((-5 : ℝ) : EReal) := by
  simp [Ideal.ofBits, Ideal.ieee, -EReal.coe_mul]; norm_num
theorem ofBits_last : Ideal.ofBits .f32 0x42FE0000#32 = ((127 : ℝ) : EReal) := by
  simp [Ideal.ofBits, Ideal.ieee, -EReal.coe_mul]; norm_num
theorem ofBits_chunk : Ideal.ofBits .f32 0x43000000#32 = ((128 : ℝ) : EReal) := by
  simp [Ideal.ofBits, Ideal.ieee, -EReal.coe_mul]; norm_num

/-- A position as a word, read signed. -/
theorem word_val {n : ℕ} (hn : n ≤ 128) (r : Fin n) : (BitVec.ofNat 32 r.val).toInt = (r.val : ℤ) := by
  have hr := r.isLt
  rw [BitVec.toInt_eq_toNat_of_lt (by rw [BitVec.toNat_ofNat]; omega), BitVec.toNat_ofNat]
  omega

/-! ## The decays -/

/-- The logarithms of the decays. -/
abbrev lgT : S4.Idx → EReal :=
  Host.log (F := Ideal) (φ := .f32) (subf (F := Ideal) (φ := .f32) (broadcastInDim S4 ![] bcast_S_S4 (constant (F := Ideal) S_ .f32 0x3F800000#32))
    (Host.powf (F := Ideal) (φ := .f32) (broadcastInDim S4 ![] bcast_S_S4 (constant (F := Ideal) S_ .f32 0x40000000#32))
      (subf (F := Ideal) (φ := .f32) (broadcastInDim S4 ![] bcast_S_S4 (constant (F := Ideal) S_ .f32 0xC0A00000#32))
        (sitofp (F := Ideal) .f32 (iotaInDim S4 32 0)))))

/-- `1 - 2^(-5-h)` is the decay of head `h`. -/
theorem one_sub_pow (h : Fin 4) : (1 : ℝ) - Real.rpow 2 (-5 - (h.val : ℝ)) = RetMath.gam h := by
  have e : Real.rpow 2 (-5 - (h.val : ℝ)) = ((2 : ℝ) ^ (5 + h.val))⁻¹ := by
    show (2 : ℝ) ^ (-5 - (h.val : ℝ)) = _
    rw [show (-5 - (h.val : ℝ)) = -((5 + h.val : ℕ) : ℝ) by push_cast; ring, Real.rpow_neg (by norm_num), Real.rpow_natCast]
  rw [e]
  fin_cases h <;> norm_num [RetMath.gam]

theorem gam_pos (h : Fin 4) : 0 < RetMath.gam h := by
  fin_cases h <;> norm_num [RetMath.gam]

/-- They are the logarithms of the formulas. -/
theorem lgT_apply (h : Fin 4) : lgT (ix1 h) = RetMath.lg h := by
  have e : lgT (ix1 h) = Ideal.log (Ideal.ofBits .f32 0x3F800000#32 - Ideal.pow (Ideal.ofBits .f32 0x40000000#32)
      (Ideal.ofBits .f32 0xC0A00000#32 - (((BitVec.ofNat 32 h.val).toInt : ℝ) : EReal))) := rfl
  rw [e, word_val (by norm_num) h, ofBits_one, ofBits_two, ofBits_minus_five, Int.cast_natCast, ← EReal.coe_sub, Ideal.pow_coe_coe,
    ← EReal.coe_sub, one_sub_pow, Ideal.log_coe, if_neg (not_le.mpr (gam_pos h))]
  rfl

/-- The positions of a chunk. -/
abbrev posT : S128.Idx → EReal := sitofp (F := Ideal) .f32 (iotaInDim S128 32 0)

theorem posT_apply (r : Fin 128) : posT (ix1 r) = ((r.val : ℝ) : EReal) := by
  have e : posT (ix1 r) = (((BitVec.ofNat 32 r.val).toInt : ℝ) : EReal) := rfl
  rw [e, word_val le_rfl r, Int.cast_natCast]

/-- The differences of positions. -/
abbrev relT : S128x128.Idx → EReal :=
  subf (F := Ideal) (φ := .f32) (broadcastInDim S128x128 ![0, 1] bcast_S128x1_S128x128_0_1 (broadcastInDim S128x1 ![0] bcast_S128_S128x1_0 posT))
    (broadcastInDim S128x128 ![0, 1] bcast_S1x128_S128x128_0_1 (broadcastInDim S1x128 ![1] bcast_S128_S1x128_1 posT))

theorem relT_apply (r e : Fin 128) : relT (ix2 r e) = (((r.val : ℝ) - (e.val : ℝ) : ℝ) : EReal) := by
  rw [EReal.coe_sub, ← posT_apply, ← posT_apply]
  refine congrArg₂ (· - ·) ?_ ?_
  · refine (broadcastInDim_apply _ _ _ (ix2 r e) (ix2 r (0 : Fin 1)) fun a => ?_).trans (broadcastInDim_apply _ _ posT _ (ix1 r) fun a => ?_)
    · fin_cases a <;> rfl
    · fin_cases a; rfl
  · refine (broadcastInDim_apply _ _ _ (ix2 r e) (ix2 (0 : Fin 1) e) fun a => ?_).trans (broadcastInDim_apply _ _ posT _ (ix1 e) fun a => ?_)
    · fin_cases a <;> rfl
    · fin_cases a; rfl

/-- The decays between positions. -/
abbrev innerT : S4x128x128.Idx → EReal :=
  select (broadcastInDim S4x128x128 ![1, 2] bcast_S128x128_S4x128x128_1_2
      (cmpf (F := Ideal) (φ := .f32) .oge relT (broadcastInDim S128x128 ![] bcast_S_S128x128 (constant (F := Ideal) S_ .f32 0x00000000#32))))
    (Host.exp (F := Ideal) (φ := .f32) (mulf (F := Ideal) (φ := .f32)
      (broadcastInDim S4x128x128 ![0, 1, 2] bcast_S4x1x1_S4x128x128_0_1_2 (broadcastInDim S4x1x1 ![0] bcast_S4_S4x1x1_0 lgT))
      (broadcastInDim S4x128x128 ![0, 1, 2] bcast_S1x128x128_S4x128x128_0_1_2 (broadcastInDim S1x128x128 ![1, 2] bcast_S128x128_S1x128x128_1_2
        (maximumf (F := Ideal) (φ := .f32) relT (broadcastInDim S128x128 ![] bcast_S_S128x128 (constant (F := Ideal) S_ .f32 0x00000000#32)))))))
    (broadcastInDim S4x128x128 ![] bcast_S_S4x128x128 (constant (F := Ideal) S_ .f32 0x00000000#32))

theorem innerT_apply (h : Fin 4) (r e : Fin 128) : innerT (ix3 h r e) = RetMath.inner (RetMath.lg h) r e := by
  have h0 : Ideal.ofBits .f32 0x00000000#32 = 0 := Ideal.ofBits_zero_f32
  have hm : (broadcastInDim S4x128x128 ![1, 2] bcast_S128x128_S4x128x128_1_2
      (cmpf (F := Ideal) (φ := .f32) .oge relT (broadcastInDim S128x128 ![] bcast_S_S128x128 (constant (F := Ideal) S_ .f32 0x00000000#32)))) (ix3 h r e)
      = Ideal.cmp .oge (relT (ix2 r e)) (Ideal.ofBits .f32 0x00000000#32) :=
    broadcastInDim_apply _ _ _ _ (ix2 r e) fun a => by fin_cases a <;> rfl
  have hl : (broadcastInDim S4x128x128 ![0, 1, 2] bcast_S4x1x1_S4x128x128_0_1_2 (broadcastInDim S4x1x1 ![0] bcast_S4_S4x1x1_0 lgT)) (ix3 h r e)
      = RetMath.lg h :=
    (broadcastInDim_apply _ _ _ _ (ix3 h (0 : Fin 1) (0 : Fin 1)) fun a => by fin_cases a <;> rfl).trans
      ((broadcastInDim_apply _ _ lgT _ (ix1 h) fun a => by fin_cases a; rfl).trans (lgT_apply h))
  have hr : (broadcastInDim S4x128x128 ![0, 1, 2] bcast_S1x128x128_S4x128x128_0_1_2 (broadcastInDim S1x128x128 ![1, 2] bcast_S128x128_S1x128x128_1_2
        (maximumf (F := Ideal) (φ := .f32) relT (broadcastInDim S128x128 ![] bcast_S_S128x128 (constant (F := Ideal) S_ .f32 0x00000000#32))))) (ix3 h r e)
      = max (relT (ix2 r e)) (Ideal.ofBits .f32 0x00000000#32) :=
    (broadcastInDim_apply _ _ _ _ (ix3 (0 : Fin 1) r e) fun a => by fin_cases a <;> rfl).trans
      (broadcastInDim_apply _ _ _ _ (ix2 r e) fun a => by fin_cases a <;> rfl)
  have hs : innerT (ix3 h r e) = Scalar.select (Ideal.cmp .oge (relT (ix2 r e)) (Ideal.ofBits .f32 0x00000000#32))
      (Ideal.exp (RetMath.lg h * max (relT (ix2 r e)) (Ideal.ofBits .f32 0x00000000#32))) (Ideal.ofBits .f32 0x00000000#32) := by
    refine congr (congrArg₂ Scalar.select hm ?_) rfl
    exact congrArg Ideal.exp (congrArg₂ (· * ·) hl hr)
  have hsel (p : Prop) [Decidable p] (a b : EReal) : Scalar.select (BitVec.ofBool (decide p)) a b = if p then a else b := by
    by_cases hp : p <;> simp [hp, Scalar.select]
  rw [hs, h0, relT_apply, show Ideal.cmp .oge (((r.val : ℝ) - (e.val : ℝ) : ℝ) : EReal) 0
    = BitVec.ofBool (decide ((0 : EReal) ≤ (((r.val : ℝ) - (e.val : ℝ) : ℝ) : EReal))) from rfl, hsel]
  unfold RetMath.inner
  by_cases hre : e ≤ r
  · have hle : (e.val : ℝ) ≤ (r.val : ℝ) := by exact_mod_cast hre
    have h1 : (0 : EReal) ≤ (((r.val : ℝ) - (e.val : ℝ) : ℝ) : EReal) := by exact_mod_cast sub_nonneg.mpr hle
    rw [if_pos h1, if_pos hre, max_eq_left h1]
  · have hlt : (r.val : ℝ) < (e.val : ℝ) := by exact_mod_cast not_le.mp hre
    have h1 : ¬ (0 : EReal) ≤ (((r.val : ℝ) - (e.val : ℝ) : ℝ) : EReal) := by
      rw [not_le]; exact_mod_cast sub_neg.mpr hlt
    rw [if_neg h1, if_neg hre]

/-- A product of the logarithms with one number per position, exponentiated, as a column per head. -/
abbrev columnT (p : S128.Idx → EReal) : S4x128x1.Idx → EReal :=
  broadcastInDim S4x128x1 ![0, 1] bcast_S4x128_S4x128x1_0_1 (Host.exp (F := Ideal) (φ := .f32) (mulf (F := Ideal) (φ := .f32)
    (broadcastInDim S4x128 ![0, 1] bcast_S4x1_S4x128_0_1 (broadcastInDim S4x1 ![0] bcast_S4_S4x1_0 lgT))
    (broadcastInDim S4x128 ![0, 1] bcast_S1x128_S4x128_0_1 (broadcastInDim S1x128 ![1] bcast_S128_S1x128_1 p))))

theorem columnT_apply (p : S128.Idx → EReal) (h : Fin 4) (r : Fin 128) (z : Fin 1) :
    columnT p (ix3 h r z) = Ideal.exp (RetMath.lg h * p (ix1 r)) := by
  refine (broadcastInDim_apply _ _ _ _ (ix2 h r) fun a => by fin_cases a <;> rfl).trans ?_
  refine congrArg Ideal.exp (congrArg₂ (· * ·) ?_ ?_)
  · exact (broadcastInDim_apply _ _ _ _ (ix2 h (0 : Fin 1)) fun a => by fin_cases a <;> rfl).trans
      ((broadcastInDim_apply _ _ lgT _ (ix1 h) fun a => by fin_cases a; rfl).trans (lgT_apply h))
  · exact (broadcastInDim_apply _ _ _ _ (ix2 (0 : Fin 1) r) fun a => by fin_cases a <;> rfl).trans
      (broadcastInDim_apply _ _ p _ (ix1 r) fun a => by fin_cases a; rfl)

/-- The decays from before the chunk. -/
abbrev xiT : S4x128x1.Idx → EReal :=
  columnT (addf (F := Ideal) (φ := .f32) posT (broadcastInDim S128 ![] bcast_S_S128 (constant (F := Ideal) S_ .f32 0x3F800000#32)))
theorem xiT_apply (h : Fin 4) (r : Fin 128) (z : Fin 1) : xiT (ix3 h r z) = RetMath.xi (RetMath.lg h) r := by
  refine (columnT_apply _ h r z).trans ?_
  refine congrArg (fun x => Ideal.exp (RetMath.lg h * x)) ?_
  show posT (ix1 r) + Ideal.ofBits .f32 0x3F800000#32 = _
  rw [posT_apply, ofBits_one, ← EReal.coe_add]

/-- The decays to the chunk's end. -/
abbrev zetaT : S4x128x1.Idx → EReal :=
  columnT (subf (F := Ideal) (φ := .f32) (broadcastInDim S128 ![] bcast_S_S128 (constant (F := Ideal) S_ .f32 0x42FE0000#32)) posT)
theorem zetaT_apply (h : Fin 4) (r : Fin 128) (z : Fin 1) : zetaT (ix3 h r z) = RetMath.zeta (RetMath.lg h) r := by
  refine (columnT_apply _ h r z).trans ?_
  refine congrArg (fun x => Ideal.exp (RetMath.lg h * x)) ?_
  show Ideal.ofBits .f32 0x42FE0000#32 - posT (ix1 r) = _
  rw [posT_apply, ofBits_last, ← EReal.coe_sub]

/-- The decays over a whole chunk. -/
abbrev decT : S4x1x1.Idx → EReal :=
  broadcastInDim S4x1x1 ![0] bcast_S4_S4x1x1_0 (Host.exp (F := Ideal) (φ := .f32) (mulf (F := Ideal) (φ := .f32) lgT
    (broadcastInDim S4 ![] bcast_S_S4 (constant (F := Ideal) S_ .f32 0x43000000#32))))
theorem decT_apply (h : Fin 4) (y z : Fin 1) : decT (ix3 h y z) = RetMath.dec h := by
  refine (broadcastInDim_apply _ _ _ _ (ix1 h) fun a => by fin_cases a; rfl).trans ?_
  show Ideal.exp (lgT (ix1 h) * Ideal.ofBits .f32 0x43000000#32) = _
  rw [lgT_apply, ofBits_chunk]
  unfold RetMath.lg RetMath.dec
  rw [← EReal.coe_mul]
  show ((Real.exp (Real.log (RetMath.gam h) * 128) : ℝ) : EReal) = _
  rw [← Real.rpow_def_of_pos (gam_pos h), show (128 : ℝ) = ((128 : ℕ) : ℝ) by norm_num, Real.rpow_natCast]

/-! ## The chunks -/

/-- Queries or keys, cut into chunks and heads. -/
abbrev chunk256 (x : S16x2048x4x256.Idx → EReal) : S16x16x4x128x256.Idx → EReal :=
  transpose S16x16x4x128x256 [1, 0, 3, 2, 4] (shapeCast S16x16x128x4x256 x shapeCasts_S16x2048x4x256_S16x16x128x4x256)
    transposes_S16x16x128x4x256_S16x16x4x128x256_1_0_3_2_4
/-- Values, cut into chunks and heads. -/
abbrev chunk512 (x : S16x2048x4x512.Idx → EReal) : S16x16x4x128x512.Idx → EReal :=
  transpose S16x16x4x128x512 [1, 0, 3, 2, 4] (shapeCast S16x16x128x4x512 x shapeCasts_S16x2048x4x512_S16x16x128x4x512)
    transposes_S16x16x128x4x512_S16x16x4x128x512_1_0_3_2_4

theorem chunk256_apply (x : S16x2048x4x256.Idx → EReal) (n b : Fin 16) (h : Fin 4) (r : Fin 128) (d : Fin 256) :
    chunk256 x (ix5 n b h r d) = x (ix4 b ⟨n.val * 128 + r.val, by omega⟩ h d) := by
  refine (transpose_apply _ _ _ (ix5 n b h r d) (ix5 b n r h d) fun a => by fin_cases a <;> rfl).trans ?_
  refine shapeCast_apply x _ _ _ ?_
  rw [Shape.rowMajor_val_four, Shape.rowMajor_val_five]
  show ((b.val * 2048 + (n.val * 128 + r.val)) * 4 + h.val) * 256 + d.val
    = (((b.val * 16 + n.val) * 128 + r.val) * 4 + h.val) * 256 + d.val
  omega

theorem chunk512_apply (x : S16x2048x4x512.Idx → EReal) (n b : Fin 16) (h : Fin 4) (r : Fin 128) (d : Fin 512) :
    chunk512 x (ix5 n b h r d) = x (ix4 b ⟨n.val * 128 + r.val, by omega⟩ h d) := by
  refine (transpose_apply _ _ _ (ix5 n b h r d) (ix5 b n r h d) fun a => by fin_cases a <;> rfl).trans ?_
  refine shapeCast_apply x _ _ _ ?_
  rw [Shape.rowMajor_val_four, Shape.rowMajor_val_five]
  show ((b.val * 2048 + (n.val * 128 + r.val)) * 4 + h.val) * 512 + d.val
    = (((b.val * 16 + n.val) * 128 + r.val) * 4 + h.val) * 512 + d.val
  omega

/-- The queries of the projections `z`. -/
abbrev qT (z : S16x2048x6144.Idx → EReal) : S16x16x4x128x256.Idx → EReal :=
  chunk256 (shapeCast S16x2048x4x256 (extf (F := Ideal) (φ := .bf16) .f32 (extractStridedSlice S16x2048x1024 ![0, 0, 0] z
    slices_S16x2048x6144_S16x2048x1024_0_0_0) bitsLt_bf16_f32) shapeCasts_S16x2048x1024_S16x2048x4x256)
/-- The keys, scaled. -/
abbrev kT (z : S16x2048x6144.Idx → EReal) : S16x16x4x128x256.Idx → EReal :=
  chunk256 (mulf (F := Ideal) (φ := .f32) (shapeCast S16x2048x4x256 (extf (F := Ideal) (φ := .bf16) .f32 (extractStridedSlice S16x2048x1024 ![0, 0, 1024] z
    slices_S16x2048x6144_S16x2048x1024_0_0_1024) bitsLt_bf16_f32) shapeCasts_S16x2048x1024_S16x2048x4x256)
    (broadcastInDim S16x2048x4x256 ![] bcast_S_S16x2048x4x256 (constant (F := Ideal) S_ .f32 0x3D800000#32)))
/-- The values. -/
abbrev vT (z : S16x2048x6144.Idx → EReal) : S16x16x4x128x512.Idx → EReal :=
  chunk512 (shapeCast S16x2048x4x512 (extf (F := Ideal) (φ := .bf16) .f32 (extractStridedSlice S16x2048x2048 ![0, 0, 2048] z
    slices_S16x2048x6144_S16x2048x2048_0_0_2048) bitsLt_bf16_f32) shapeCasts_S16x2048x2048_S16x2048x4x512)

theorem heads256_apply (x : S16x2048x1024.Idx → EReal) (b : Fin 16) (s : Fin 2048) (h : Fin 4) (d : Fin 256) :
    (shapeCast S16x2048x4x256 x shapeCasts_S16x2048x1024_S16x2048x4x256 : S16x2048x4x256.Idx → EReal) (ix4 b s h d)
      = x (ix3 b s ⟨h.val * 256 + d.val, by omega⟩) := by
  refine shapeCast_apply x _ _ _ ?_
  rw [Shape.rowMajor_val_four, Shape.rowMajor_val_three]
  show (b.val * 2048 + s.val) * 1024 + (h.val * 256 + d.val) = ((b.val * 2048 + s.val) * 4 + h.val) * 256 + d.val
  omega

theorem heads512_apply (x : S16x2048x2048.Idx → EReal) (b : Fin 16) (s : Fin 2048) (h : Fin 4) (d : Fin 512) :
    (shapeCast S16x2048x4x512 x shapeCasts_S16x2048x2048_S16x2048x4x512 : S16x2048x4x512.Idx → EReal) (ix4 b s h d)
      = x (ix3 b s ⟨h.val * 512 + d.val, by omega⟩) := by
  refine shapeCast_apply x _ _ _ ?_
  rw [Shape.rowMajor_val_four, Shape.rowMajor_val_three]
  show (b.val * 2048 + s.val) * 2048 + (h.val * 512 + d.val) = ((b.val * 2048 + s.val) * 4 + h.val) * 512 + d.val
  omega

theorem qT_apply (z : S16x2048x6144.Idx → EReal) (n b : Fin 16) (h : Fin 4) (r : Fin 128) (d : Fin 256) :
    qT z (ix5 n b h r d) = RetMath.qs z b n h r d := by
  refine (chunk256_apply _ n b h r d).trans ((heads256_apply _ b _ h d).trans ?_)
  refine extractStridedSlice_apply ![0, 0, 0] z slices_S16x2048x6144_S16x2048x1024_0_0_0 _ _ fun a => ?_
  fin_cases a <;> exact (Nat.zero_add _).symm

theorem kT_apply (z : S16x2048x6144.Idx → EReal) (n b : Fin 16) (h : Fin 4) (r : Fin 128) (d : Fin 256) :
    kT z (ix5 n b h r d) = RetMath.ks z b n h r d := by
  refine (chunk256_apply _ n b h r d).trans (congrArg (· * RetMath.kscale) ((heads256_apply _ b _ h d).trans ?_))
  refine extractStridedSlice_apply ![0, 0, 1024] z slices_S16x2048x6144_S16x2048x1024_0_0_1024 _ _ fun a => ?_
  fin_cases a
  · exact (Nat.zero_add _).symm
  · exact (Nat.zero_add _).symm
  · exact Nat.add_assoc 1024 _ _

theorem vT_apply (z : S16x2048x6144.Idx → EReal) (n b : Fin 16) (h : Fin 4) (r : Fin 128) (f : Fin 512) :
    vT z (ix5 n b h r f) = RetMath.vs z b n h r f := by
  refine (chunk512_apply _ n b h r f).trans ((heads512_apply _ b _ h f).trans ?_)
  refine extractStridedSlice_apply ![0, 0, 2048] z slices_S16x2048x6144_S16x2048x2048_0_0_2048 _ _ fun a => ?_
  fin_cases a
  · exact (Nat.zero_add _).symm
  · exact (Nat.zero_add _).symm
  · exact Nat.add_assoc 2048 _ _

end Cert.RetRefIdeal.Terms

end
-- ==== Proof.RetRefScan.lean ====
/-
  One step of the reference's scan, entry by entry: the chunk it takes, the rows it stores and the states it leaves.
-/
module

public import proofs.«01_k».proof.Proof.RetRefTerms
public import Idealize.ShloMosaic.Lib.DynamicIndex

@[expose] public section

set_option maxRecDepth 16384

noncomputable section

namespace Cert.RetRefIdeal.Terms

open Idealize.ShloMosaic Idealize.ShloMosaic.TcCoe Idealize.SL.Sem Idealize.ShloMosaic.ValueIdx
open Cert.RetRefIdeal Cert.RetRefIdeal.Facts₀
open Cert.Proof

/-! ## The products, over batch row and head -/

/-- Queries with keys. -/
theorem dot_qk (A B : S16x4x128x256.Idx → EReal) (b : Fin 16) (h : Fin 4) (r e : Fin 128) :
    (Host.dotGeneral (F := Ideal) (φ₁ := .f32) (φ₂ := .f32) dot_S16x4x128x256_S16x4x128x256_S16x4x128x128_3_3_2_2_01_01 none A B
      : S16x4x128x128.Idx → EReal) (ix4 b h r e) = ∑ d : Fin 256, A (ix4 b h r d) * B (ix4 b h e d) := by
  refine (Ideal.dotGeneral_apply (φ₁ := .f32) (φ₂ := .f32) dot_S16x4x128x256_S16x4x128x256_S16x4x128x128_3_3_2_2_01_01 none _ A B (ix4 b h r e)).trans ?_
  rw [← Equiv.sum_comp (contrEquiv1 dot_S16x4x128x256_S16x4x128x256_S16x4x128x128_3_3_2_2_01_01 256 rfl rfl).symm]
  refine Finset.sum_congr rfl fun k _ => ?_
  have hk := contrEquiv1_symm_val dot_S16x4x128x256_S16x4x128x256_S16x4x128x128_3_3_2_2_01_01 256 rfl rfl k
  refine congrArg₂ (· * ·) (congrArg A (funext fun a => Fin.ext ?_)) (congrArg B (funext fun a => Fin.ext ?_))
  · match a with
    | ⟨0, _⟩ => rfl
    | ⟨1, _⟩ => rfl
    | ⟨2, _⟩ => rfl
    | ⟨3, _⟩ => exact hk
  · match a with
    | ⟨0, _⟩ => rfl
    | ⟨1, _⟩ => rfl
    | ⟨2, _⟩ => rfl
    | ⟨3, _⟩ => exact hk

/-- Attention with values. -/
theorem dot_av (A : S16x4x128x128.Idx → EReal) (B : S16x4x128x512.Idx → EReal) (b : Fin 16) (h : Fin 4) (r : Fin 128) (f : Fin 512) :
    (Host.dotGeneral (F := Ideal) (φ₁ := .f32) (φ₂ := .f32) dot_S16x4x128x128_S16x4x128x512_S16x4x128x512_3_2_2_3_01_01 none A B
      : S16x4x128x512.Idx → EReal) (ix4 b h r f) = ∑ e : Fin 128, A (ix4 b h r e) * B (ix4 b h e f) := by
  refine (Ideal.dotGeneral_apply (φ₁ := .f32) (φ₂ := .f32) dot_S16x4x128x128_S16x4x128x512_S16x4x128x512_3_2_2_3_01_01 none _ A B (ix4 b h r f)).trans ?_
  rw [← Equiv.sum_comp (contrEquiv1 dot_S16x4x128x128_S16x4x128x512_S16x4x128x512_3_2_2_3_01_01 128 rfl rfl).symm]
  refine Finset.sum_congr rfl fun k _ => ?_
  have hk := contrEquiv1_symm_val dot_S16x4x128x128_S16x4x128x512_S16x4x128x512_3_2_2_3_01_01 128 rfl rfl k
  refine congrArg₂ (· * ·) (congrArg A (funext fun a => Fin.ext ?_)) (congrArg B (funext fun a => Fin.ext ?_))
  · match a with
    | ⟨0, _⟩ => rfl
    | ⟨1, _⟩ => rfl
    | ⟨2, _⟩ => rfl
    | ⟨3, _⟩ => exact hk
  · match a with
    | ⟨0, _⟩ => rfl
    | ⟨1, _⟩ => rfl
    | ⟨2, _⟩ => exact hk
    | ⟨3, _⟩ => rfl

/-- Queries with states. -/
theorem dot_qs (A : S16x4x128x256.Idx → EReal) (B : S16x4x256x512.Idx → EReal) (b : Fin 16) (h : Fin 4) (r : Fin 128) (f : Fin 512) :
    (Host.dotGeneral (F := Ideal) (φ₁ := .f32) (φ₂ := .f32) dot_S16x4x128x256_S16x4x256x512_S16x4x128x512_3_2_2_3_01_01 none A B
      : S16x4x128x512.Idx → EReal) (ix4 b h r f) = ∑ d : Fin 256, A (ix4 b h r d) * B (ix4 b h d f) := by
  refine (Ideal.dotGeneral_apply (φ₁ := .f32) (φ₂ := .f32) dot_S16x4x128x256_S16x4x256x512_S16x4x128x512_3_2_2_3_01_01 none _ A B (ix4 b h r f)).trans ?_
  rw [← Equiv.sum_comp (contrEquiv1 dot_S16x4x128x256_S16x4x256x512_S16x4x128x512_3_2_2_3_01_01 256 rfl rfl).symm]
  refine Finset.sum_congr rfl fun k _ => ?_
  have hk := contrEquiv1_symm_val dot_S16x4x128x256_S16x4x256x512_S16x4x128x512_3_2_2_3_01_01 256 rfl rfl k
  refine congrArg₂ (· * ·) (congrArg A (funext fun a => Fin.ext ?_)) (congrArg B (funext fun a => Fin.ext ?_))
  · match a with
    | ⟨0, _⟩ => rfl
    | ⟨1, _⟩ => rfl
    | ⟨2, _⟩ => rfl
    | ⟨3, _⟩ => exact hk
  · match a with
    | ⟨0, _⟩ => rfl
    | ⟨1, _⟩ => rfl
    | ⟨2, _⟩ => exact hk
    | ⟨3, _⟩ => rfl

/-- Keys with values. -/
theorem dot_kv (A : S16x4x128x256.Idx → EReal) (B : S16x4x128x512.Idx → EReal) (b : Fin 16) (h : Fin 4) (d : Fin 256) (f : Fin 512) :
    (Host.dotGeneral (F := Ideal) (φ₁ := .f32) (φ₂ := .f32) dot_S16x4x128x256_S16x4x128x512_S16x4x256x512_2_2_3_3_01_01 none A B
      : S16x4x256x512.Idx → EReal) (ix4 b h d f) = ∑ e : Fin 128, A (ix4 b h e d) * B (ix4 b h e f) := by
  refine (Ideal.dotGeneral_apply (φ₁ := .f32) (φ₂ := .f32) dot_S16x4x128x256_S16x4x128x512_S16x4x256x512_2_2_3_3_01_01 none _ A B (ix4 b h d f)).trans ?_
  rw [← Equiv.sum_comp (contrEquiv1 dot_S16x4x128x256_S16x4x128x512_S16x4x256x512_2_2_3_3_01_01 128 rfl rfl).symm]
  refine Finset.sum_congr rfl fun k _ => ?_
  have hk := contrEquiv1_symm_val dot_S16x4x128x256_S16x4x128x512_S16x4x256x512_2_2_3_3_01_01 128 rfl rfl k
  refine congrArg₂ (· * ·) (congrArg A (funext fun a => Fin.ext ?_)) (congrArg B (funext fun a => Fin.ext ?_))
  · match a with
    | ⟨0, _⟩ => rfl
    | ⟨1, _⟩ => rfl
    | ⟨2, _⟩ => exact hk
    | ⟨3, _⟩ => rfl
  · match a with
    | ⟨0, _⟩ => rfl
    | ⟨1, _⟩ => rfl
    | ⟨2, _⟩ => exact hk
    | ⟨3, _⟩ => rfl

/-! ## The chunk of a step -/

/-- The starts of a step's slices, from the counter. -/
abbrev starts (ctr : S_.Idx → BitVec 32) : Fin 5 → Int := fun k =>
  ((![ctr, constantI S_ 32 0#32, constantI S_ 32 0#32, constantI S_ 32 0#32, constantI S_ 32 0#32] : Fin 5 → S_.Idx → BitVec 32) k
    (Shape.Idx.first h_S_)).toInt

/-- At counter `n` they are `n` and zeros. -/
theorem starts_eq (n : ℕ) (hn : n < 16) (ctr : S_.Idx → BitVec 32) (hc : ctr = fun _ => BitVec.ofNat 32 n) (a : Fin 5) :
    starts ctr a = ((![n, 0, 0, 0, 0] : Fin 5 → ℕ) a : Int) := by
  subst hc
  fin_cases a
  · exact toInt_ofNat_of_lt (by omega)
  all_goals rfl

/-- The slice of chunk `n`, for queries and keys. -/
theorem take256 (n : Fin 16) (ctr : S_.Idx → BitVec 32) (hc : ctr = fun _ => BitVec.ofNat 32 n.val) (x : S16x16x4x128x256.Idx → EReal)
    (b : Fin 16) (h : Fin 4) (r : Fin 128) (d : Fin 256) :
    (shapeCast S16x4x128x256 (Host.dynamicSlice S1x16x4x128x256 x (starts ctr) sliceFits_S16x16x4x128x256_S1x16x4x128x256)
      shapeCasts_S1x16x4x128x256_S16x4x128x256 : S16x4x128x256.Idx → EReal) (ix4 b h r d) = x (ix5 n b h r d) := by
  have hn := n.isLt
  refine (shapeCast_apply _ _ _ (ix5 (0 : Fin 1) b h r d) ?_).trans ?_
  · rw [Shape.rowMajor_val_four, Shape.rowMajor_val_five]
    show (((0 * 16 + b.val) * 4 + h.val) * 128 + r.val) * 256 + d.val = ((b.val * 4 + h.val) * 128 + r.val) * 256 + d.val
    omega
  · rw [Host.dynamicSlice_eq_extractStridedSlice S1x16x4x128x256 x (starts ctr) ![n.val, 0, 0, 0, 0] sliceFits_S16x16x4x128x256_S1x16x4x128x256
      ⟨rfl, fun a => by fin_cases a <;> simp <;> omega⟩ (starts_eq n.val hn ctr hc)]
    refine extractStridedSlice_apply _ x _ _ _ fun a => ?_
    fin_cases a
    · rfl
    all_goals exact (Nat.zero_add _).symm

/-- The slice of chunk `n`, for values. -/
theorem take512 (n : Fin 16) (ctr : S_.Idx → BitVec 32) (hc : ctr = fun _ => BitVec.ofNat 32 n.val) (x : S16x16x4x128x512.Idx → EReal)
    (b : Fin 16) (h : Fin 4) (r : Fin 128) (f : Fin 512) :
    (shapeCast S16x4x128x512 (Host.dynamicSlice S1x16x4x128x512 x (starts ctr) sliceFits_S16x16x4x128x512_S1x16x4x128x512)
      shapeCasts_S1x16x4x128x512_S16x4x128x512 : S16x4x128x512.Idx → EReal) (ix4 b h r f) = x (ix5 n b h r f) := by
  have hn := n.isLt
  refine (shapeCast_apply _ _ _ (ix5 (0 : Fin 1) b h r f) ?_).trans ?_
  · rw [Shape.rowMajor_val_four, Shape.rowMajor_val_five]
    show (((0 * 16 + b.val) * 4 + h.val) * 128 + r.val) * 512 + f.val = ((b.val * 4 + h.val) * 128 + r.val) * 512 + f.val
    omega
  · rw [Host.dynamicSlice_eq_extractStridedSlice S1x16x4x128x512 x (starts ctr) ![n.val, 0, 0, 0, 0] sliceFits_S16x16x4x128x512_S1x16x4x128x512
      ⟨rfl, fun a => by fin_cases a <;> simp <;> omega⟩ (starts_eq n.val hn ctr hc)]
    refine extractStridedSlice_apply _ x _ _ _ fun a => ?_
    fin_cases a
    · rfl
    all_goals exact (Nat.zero_add _).symm

/-- The update of chunk `n`: that chunk takes the rows `y`, the others keep theirs. -/
theorem put512 (n : Fin 16) (ctr : S_.Idx → BitVec 32) (hc : ctr = fun _ => BitVec.ofNat 32 n.val) (x : S16x16x4x128x512.Idx → EReal)
    (y : S16x4x128x512.Idx → EReal) (k b : Fin 16) (h : Fin 4) (r : Fin 128) (f : Fin 512) :
    (Host.dynamicUpdateSlice x (broadcastInDim S1x16x4x128x512 ![1, 2, 3, 4] bcast_S16x4x128x512_S1x16x4x128x512_1_2_3_4 y) (starts ctr)
      updateFits_S16x16x4x128x512_S1x16x4x128x512 : S16x16x4x128x512.Idx → EReal) (ix5 k b h r f)
      = if k = n then y (ix4 b h r f) else x (ix5 k b h r f) := by
  have hn := n.isLt
  rw [Host.dynamicUpdateSlice_eq_updateSlice x _ (starts ctr) updateFits_S16x16x4x128x512_S1x16x4x128x512 ![n.val, 0, 0, 0, 0]
    (fun a => by
      rw [starts_eq n.val hn ctr hc a]
      fin_cases a
      · show (min (max ((n.val : ℕ) : Int) 0) ((15 : ℕ) : Int)).toNat = n.val
        omega
      all_goals rfl)
    ⟨rfl, fun a => by fin_cases a <;> simp <;> omega⟩]
  unfold updateSlice
  by_cases hk : k = n
  · subst hk
    rw [if_pos rfl, dif_pos]
    · refine broadcastInDim_apply _ _ y _ (ix4 b h r f) fun a => ?_
      fin_cases a <;> rfl
    · intro a
      fin_cases a
      · exact ⟨le_rfl, Nat.lt_succ_self _⟩
      · exact ⟨Nat.zero_le _, by show b.val < 0 + 16; omega⟩
      · exact ⟨Nat.zero_le _, by show h.val < 0 + 4; omega⟩
      · exact ⟨Nat.zero_le _, by show r.val < 0 + 128; omega⟩
      · exact ⟨Nat.zero_le _, by show f.val < 0 + 512; omega⟩
  · rw [if_neg hk, dif_neg]
    intro hall
    have h0 := hall 0
    have h1 : n.val ≤ k.val := h0.1
    have h2 : k.val < n.val + 1 := h0.2
    exact hk (Fin.ext (by omega))

/-! ## The step -/

/-- A per-head column spread over the batch and the head's width. -/
theorem spread_column (x : S4x128x1.Idx → EReal) (b : Fin 16) (h : Fin 4) (r : Fin 128) (d : Fin 256) :
    (broadcastInDim S16x4x128x256 ![0, 1, 2, 3] bcast_S1x4x128x1_S16x4x128x256_0_1_2_3
      (broadcastInDim S1x4x128x1 ![1, 2, 3] bcast_S4x128x1_S1x4x128x1_1_2_3 x) : S16x4x128x256.Idx → EReal) (ix4 b h r d)
      = x (ix3 h r (0 : Fin 1)) :=
  (broadcastInDim_apply _ _ _ _ (ix4 (0 : Fin 1) h r (0 : Fin 1)) fun a => by fin_cases a <;> rfl).trans
    (broadcastInDim_apply _ _ x _ (ix3 h r (0 : Fin 1)) fun a => by fin_cases a <;> rfl)

theorem spread_inner (x : S4x128x128.Idx → EReal) (b : Fin 16) (h : Fin 4) (r e : Fin 128) :
    (broadcastInDim S16x4x128x128 ![0, 1, 2, 3] bcast_S1x4x128x128_S16x4x128x128_0_1_2_3
      (broadcastInDim S1x4x128x128 ![1, 2, 3] bcast_S4x128x128_S1x4x128x128_1_2_3 x) : S16x4x128x128.Idx → EReal) (ix4 b h r e)
      = x (ix3 h r e) :=
  (broadcastInDim_apply _ _ _ _ (ix4 (0 : Fin 1) h r e) fun a => by fin_cases a <;> rfl).trans
    (broadcastInDim_apply _ _ x _ (ix3 h r e) fun a => by fin_cases a <;> rfl)

theorem spread_scalar (x : S4x1x1.Idx → EReal) (b : Fin 16) (h : Fin 4) (d : Fin 256) (f : Fin 512) :
    (broadcastInDim S16x4x256x512 ![0, 1, 2, 3] bcast_S1x4x1x1_S16x4x256x512_0_1_2_3
      (broadcastInDim S1x4x1x1 ![1, 2, 3] bcast_S4x1x1_S1x4x1x1_1_2_3 x) : S16x4x256x512.Idx → EReal) (ix4 b h d f)
      = x (ix3 h (0 : Fin 1) (0 : Fin 1)) :=
  (broadcastInDim_apply _ _ _ _ (ix4 (0 : Fin 1) h (0 : Fin 1) (0 : Fin 1)) fun a => by fin_cases a <;> rfl).trans
    (broadcastInDim_apply _ _ x _ (ix3 h (0 : Fin 1) (0 : Fin 1)) fun a => by fin_cases a <;> rfl)

/-- What the scan carries before chunk `n`: the counter, the chunked arguments, the decays, the states, and the rows
    of the chunks before. -/
structure Carried (z : S16x2048x6144.Idx → EReal) (n : ℕ) (V : Valuation τ sig (Elt Ideal)) : Prop where
  q : (V (Proc.devRef .tc main_v66_0) : S16x16x4x128x256.Idx → EReal) = qT z
  k : (V (Proc.devRef .tc main_v66_1) : S16x16x4x128x256.Idx → EReal) = kT z
  v : (V (Proc.devRef .tc main_v66_2) : S16x16x4x128x512.Idx → EReal) = vT z
  inner : (V (Proc.devRef .tc main_v66_3) : S4x128x128.Idx → EReal) = innerT
  xi : (V (Proc.devRef .tc main_v66_4) : S4x128x1.Idx → EReal) = xiT
  dec : (V (Proc.devRef .tc main_v66_5) : S4x1x1.Idx → EReal) = decT
  zeta : (V (Proc.devRef .tc main_v66_6) : S4x128x1.Idx → EReal) = zetaT
  ctr : (V (Proc.devRef .tc main_v66_7) : S_.Idx → BitVec 32) = fun _ => BitVec.ofNat 32 n
  st : ∀ (b : Fin 16) (h : Fin 4) (d : Fin 256) (f : Fin 512),
    (V (Proc.devRef .tc main_v66_8) : S16x4x256x512.Idx → EReal) (ix4 b h d f) = RetMath.state z b h n d f
  ys : ∀ (k b : Fin 16) (h : Fin 4) (r : Fin 128) (f : Fin 512), k.val < n →
    (V (Proc.devRef .tc main_v66_9) : S16x16x4x128x512.Idx → EReal) (ix5 k b h r f) = RetMath.ys z b k h r f

section
variable {z : S16x2048x6144.Idx → EReal} {n : Fin 16} {V : Valuation τ sig (Elt Ideal)} (C : Carried z n.val V)
include C

theorem q_at (b : Fin 16) (h : Fin 4) (r : Fin 128) (d : Fin 256) :
    (Value.res_main_while0b_v88 V : S16x4x128x256.Idx → EReal) (ix4 b h r d) = RetMath.qs z b n h r d := by
  refine (take256 n _ C.ctr _ b h r d).trans ?_
  exact (congrFun C.q _).trans (qT_apply z n b h r d)

theorem k_at (b : Fin 16) (h : Fin 4) (r : Fin 128) (d : Fin 256) :
    (Value.res_main_while0b_v89 V : S16x4x128x256.Idx → EReal) (ix4 b h r d) = RetMath.ks z b n h r d := by
  refine (take256 n _ C.ctr _ b h r d).trans ?_
  exact (congrFun C.k _).trans (kT_apply z n b h r d)

theorem v_at (b : Fin 16) (h : Fin 4) (r : Fin 128) (f : Fin 512) :
    (Value.res_main_while0b_v90 V : S16x4x128x512.Idx → EReal) (ix4 b h r f) = RetMath.vs z b n h r f := by
  refine (take512 n _ C.ctr _ b h r f).trans ?_
  exact (congrFun C.v _).trans (vT_apply z n b h r f)

/-- The states a step leaves. -/
theorem step_state (b : Fin 16) (h : Fin 4) (d : Fin 256) (f : Fin 512) :
    (Value.step_main_v66_8 V : S16x4x256x512.Idx → EReal) (ix4 b h d f) = RetMath.state z b h (n.val + 1) d f := by
  rw [RetMath.state_succ]
  refine congrArg₂ (· + ·) (congrArg₂ (· * ·) ?_ (C.st b h d f)) ?_
  · exact (spread_scalar _ b h d f).trans ((congrFun C.dec _).trans (decT_apply h 0 0))
  · refine (dot_kv _ _ b h d f).trans (Finset.sum_congr rfl fun e _ => congrArg₂ (· * ·) (congrArg₂ (· * ·) (k_at C b h e d) ?_) (v_at C b h e f))
    exact (spread_column _ b h e d).trans ((congrFun C.zeta _).trans (zetaT_apply h e 0))

/-- The rows a step stores, and those it keeps. -/
theorem step_rows (k b : Fin 16) (h : Fin 4) (r : Fin 128) (f : Fin 512) (hk : k.val < n.val + 1) :
    (Value.step_main_v66_9 V : S16x16x4x128x512.Idx → EReal) (ix5 k b h r f) = RetMath.ys z b k h r f := by
  refine (put512 n _ C.ctr _ _ k b h r f).trans ?_
  by_cases hkn : k = n
  · rw [if_pos hkn, hkn]
    refine congrArg₂ (· + ·) ?_ ?_
    · refine (dot_av _ _ b h r f).trans (Finset.sum_congr rfl fun e _ => congrArg₂ (· * ·) (congrArg₂ (· * ·) ?_ ?_) (v_at C b h e f))
      · exact (dot_qk _ _ b h r e).trans (Finset.sum_congr rfl fun d _ => congrArg₂ (· * ·) (q_at C b h r d) (k_at C b h e d))
      · exact (spread_inner _ b h r e).trans ((congrFun C.inner _).trans (innerT_apply h r e))
    · refine (dot_qs _ _ b h r f).trans (Finset.sum_congr rfl fun d _ => congrArg₂ (· * ·) (congrArg₂ (· * ·) (q_at C b h r d) ?_) (C.st b h d f))
      exact (spread_column _ b h r d).trans ((congrFun C.xi _).trans (xiT_apply h r 0))
  · rw [if_neg hkn]
    exact C.ys k b h r f (by have : k.val ≠ n.val := fun e => hkn (Fin.ext e); omega)

/-- One step carries on. -/
theorem Carried.step : Carried z (n.val + 1) (Value.STEP V) where
  q := (Value.STEP_main_v66_0 V).trans C.q
  k := (Value.STEP_main_v66_1 V).trans C.k
  v := (Value.STEP_main_v66_2 V).trans C.v
  inner := (Value.STEP_main_v66_3 V).trans C.inner
  xi := (Value.STEP_main_v66_4 V).trans C.xi
  dec := (Value.STEP_main_v66_5 V).trans C.dec
  zeta := (Value.STEP_main_v66_6 V).trans C.zeta
  ctr := (Value.STEP_main_v66_7 V).trans (
    (congrArg (fun x : S_.Idx → BitVec 32 => addi x (constantI S_ 32 1#32)) C.ctr).trans
      (funext fun _ => (BitVec.ofNat_add n.val 1).symm))
  st b h d f := (congrFun (Value.STEP_main_v66_8 V) _).trans (step_state C b h d f)
  ys k b h r f hk := (congrFun (Value.STEP_main_v66_9 V) _).trans (step_rows C k b h r f hk)

end

/-- All the steps. -/
theorem Carried.iterate {z : S16x2048x6144.Idx → EReal} {V : Valuation τ sig (Elt Ideal)} (C : Carried z 0 V) :
    ∀ n : ℕ, n ≤ 16 → Carried z n (Value.STEP^[n] V)
  | 0, _ => C
  | n + 1, hn => by
    rw [Function.iterate_succ_apply']
    exact Carried.step (n := ⟨n, hn⟩) (Carried.iterate C n (by omega))

end Cert.RetRefIdeal.Terms

end
-- ==== Proof.RetRefArr.lean ====
/-
  The reference's whole result array: what its scan starts from, what the host operations after the scan make of its
  rows, and that this is the retention of the formulas.
-/
module

public import proofs.«01_k».proof.Proof.RetRefScan

@[expose] public section

set_option maxRecDepth 16384

noncomputable section

namespace Cert.RetRefIdeal.Terms

open Idealize.ShloMosaic Idealize.ShloMosaic.TcCoe Idealize.SL.Sem Idealize.ShloMosaic.ValueIdx
open Idealize.ShloMosaic.StableHlo
open Cert.RetRefIdeal Cert.RetRefIdeal.Facts₀
open Cert.Proof

variable (m : (ℓ : Loc nD τ sig) → Buf (Elt Ideal) ℓ) (ρ : Dev nD → PrngReg)

/-- The projections as launched. -/
abbrev argZ (c : Dev nD) : S16x2048x6144.Idx → EReal := m ((c : Thread nD τ).loc main_arg0)
/-- The gain of the output norm as launched. -/
abbrev argG (c : Dev nD) : S512.Idx → EReal := m ((c : Thread nD τ).loc main_arg1)

/-- The contents before the scan. -/
abbrev entry (c : Dev nD) : Valuation τ sig (Elt Ideal) := entryContents Value.preI m c

theorem entry_q (c : Dev nD) : (entry m c (Proc.devRef .tc main_v66_0) : S16x16x4x128x256.Idx → EReal) = qT (argZ m c) := by
  simp only [entry, entryContents, Value.preI, afterL_cons, afterL_nil]
  after_results
  rfl
theorem entry_k (c : Dev nD) : (entry m c (Proc.devRef .tc main_v66_1) : S16x16x4x128x256.Idx → EReal) = kT (argZ m c) := by
  simp only [entry, entryContents, Value.preI, afterL_cons, afterL_nil]
  after_results
  rfl
theorem entry_v (c : Dev nD) : (entry m c (Proc.devRef .tc main_v66_2) : S16x16x4x128x512.Idx → EReal) = vT (argZ m c) := by
  simp only [entry, entryContents, Value.preI, afterL_cons, afterL_nil]
  after_results
  rfl
theorem entry_inner (c : Dev nD) : (entry m c (Proc.devRef .tc main_v66_3) : S4x128x128.Idx → EReal) = innerT := by
  simp only [entry, entryContents, Value.preI, afterL_cons, afterL_nil]
  after_results
  rfl
theorem entry_xi (c : Dev nD) : (entry m c (Proc.devRef .tc main_v66_4) : S4x128x1.Idx → EReal) = xiT := by
  simp only [entry, entryContents, Value.preI, afterL_cons, afterL_nil]
  after_results
  rfl
theorem entry_dec (c : Dev nD) : (entry m c (Proc.devRef .tc main_v66_5) : S4x1x1.Idx → EReal) = decT := by
  simp only [entry, entryContents, Value.preI, afterL_cons, afterL_nil]
  after_results
  rfl
theorem entry_zeta (c : Dev nD) : (entry m c (Proc.devRef .tc main_v66_6) : S4x128x1.Idx → EReal) = zetaT := by
  simp only [entry, entryContents, Value.preI, afterL_cons, afterL_nil]
  after_results
  rfl
theorem entry_state (c : Dev nD) (i : S16x4x256x512.Idx) : (entry m c (Proc.devRef .tc main_v66_8) : S16x4x256x512.Idx → EReal) i = (0 : EReal) := by
  have e : (entry m c (Proc.devRef .tc main_v66_8) : S16x4x256x512.Idx → EReal)
      = broadcastInDim S16x4x256x512 ![] bcast_S_S16x4x256x512 (constant (F := Ideal) S_ .f32 0x00000000#32) := by
    simp only [entry, entryContents, Value.preI, afterL_cons, afterL_nil]
    after_results
    rfl
  rw [e]
  exact Ideal.ofBits_zero_f32

/-- What the scan starts from. -/
theorem entry_carried (c : Dev nD) : Carried (argZ m c) 0 (entry m c) where
  q := entry_q m c
  k := entry_k m c
  v := entry_v m c
  inner := entry_inner m c
  xi := entry_xi m c
  dec := entry_dec m c
  zeta := entry_zeta m c
  ctr := Value.ctr_entry m c
  st b h d f := entry_state m c _
  ys k b h r f hk := absurd hk (Nat.not_lt_zero _)

/-- The contents after the scan. -/
abbrev done (c : Dev nD) : Valuation τ sig (Elt Ideal) := Value.STEP^[16] (entry m c)

theorem done_carried (c : Dev nD) : Carried (argZ m c) 16 (done m c) := (entry_carried m c).iterate 16 le_rfl

/-! ## After the scan -/

/-- The rows put back in the order of positions and heads. -/
abbrev unchunk (y : S16x16x4x128x512.Idx → EReal) : S16x2048x4x512.Idx → EReal :=
  shapeCast S16x2048x4x512 (transpose S16x16x128x4x512 [1, 0, 3, 2, 4] y transposes_S16x16x4x128x512_S16x16x128x4x512_1_0_3_2_4)
    shapeCasts_S16x16x128x4x512_S16x2048x4x512

theorem unchunk_apply (y : S16x16x4x128x512.Idx → EReal) (b n : Fin 16) (r : Fin 128) (h : Fin 4) (f : Fin 512) :
    unchunk y (ix4 b ⟨n.val * 128 + r.val, by omega⟩ h f) = y (ix5 n b h r f) := by
  refine (shapeCast_apply _ _ _ (ix5 b n r h f) ?_).trans (transpose_apply _ y _ _ (ix5 n b h r f) fun a => by fin_cases a <;> rfl)
  rw [Shape.rowMajor_val_four, Shape.rowMajor_val_five]
  show (((b.val * 16 + n.val) * 128 + r.val) * 4 + h.val) * 512 + f.val
    = ((b.val * 2048 + (n.val * 128 + r.val)) * 4 + h.val) * 512 + f.val
  omega

/-- The rows normalised by their mean squares and scaled. -/
abbrev normT (u : S16x2048x4x512.Idx → EReal) (g : S512.Idx → EReal) : S16x2048x4x512.Idx → EReal :=
  mulf (F := Ideal) (φ := .f32) (mulf (F := Ideal) (φ := .f32) u (broadcastInDim S16x2048x4x512 ![0, 1, 2, 3] bcast_S16x2048x4x1_S16x2048x4x512_0_1_2_3
      (Host.rsqrt (F := Ideal) (φ := .f32) (addf (F := Ideal) (φ := .f32) (Host.divf (F := Ideal) (φ := .f32)
        (broadcastInDim S16x2048x4x1 ![0, 1, 2] bcast_S16x2048x4_S16x2048x4x1_0_1_2
          (Host.reduceAdd (F := Ideal) (φ := .f32) (mulf (F := Ideal) (φ := .f32) u u) (constant S_ .f32 0x00000000#32) reducesTo_S16x2048x4x512_S16x2048x4_d3 h_S_))
        (broadcastInDim S16x2048x4x1 ![] bcast_S_S16x2048x4x1 (constant (F := Ideal) S_ .f32 0x44000000#32)))
        (broadcastInDim S16x2048x4x1 ![] bcast_S_S16x2048x4x1 (constant (F := Ideal) S_ .f32 0x358637BD#32))))))
    (broadcastInDim S16x2048x4x512 ![0, 1, 2, 3] bcast_S1x1x1x512_S16x2048x4x512_0_1_2_3 (broadcastInDim S1x1x1x512 ![3] bcast_S512_S1x1x1x512_3 g))

theorem square_sum (v : S16x2048x4x512.Idx → EReal) (b : Fin 16) (s : Fin 2048) (h : Fin 4) :
    (Host.reduceAdd (F := Ideal) (φ := .f32) v (constant S_ .f32 0x00000000#32) reducesTo_S16x2048x4x512_S16x2048x4_d3 h_S_ : S16x2048x4.Idx → EReal) (ix3 b s h)
      = ∑ l : Fin 512, v (ix4 b s h l) := by
  refine (Ideal.hostReduceAdd_single reducesTo_S16x2048x4x512_S16x2048x4_d3 (by decide : S16x2048x4x512.Reduces [3] S16x2048x4) v _ (ix3 b s h)).trans ?_
  show Ideal.ofBits .f32 0x00000000#32 + _ = _
  rw [Ideal.ofBits_zero_f32, zero_add]
  exact Finset.sum_congr rfl fun l _ => congrArg v (funext fun a => Fin.ext (by fin_cases a <;> rfl))

theorem normT_apply (u : S16x2048x4x512.Idx → EReal) (g : S512.Idx → EReal) (b : Fin 16) (s : Fin 2048) (h : Fin 4) (f : Fin 512) :
    normT u g (ix4 b s h f)
      = (u (ix4 b s h f) * Ideal.rsqrt (Ideal.div (∑ l, u (ix4 b s h l) * u (ix4 b s h l)) (Ideal.ofBits .f32 0x44000000#32)
          + Ideal.ofBits .f32 0x358637BD#32)) * g (ix1 f) := by
  refine congrArg₂ (· * ·) (congrArg (u (ix4 b s h f) * ·) ?_) ?_
  · refine (broadcastInDim_apply _ _ _ _ (ix4 b s h (0 : Fin 1)) fun a => by fin_cases a <;> rfl).trans ?_
    refine congrArg (fun x => Ideal.rsqrt (Ideal.div x (Ideal.ofBits .f32 0x44000000#32) + Ideal.ofBits .f32 0x358637BD#32)) ?_
    exact (broadcastInDim_apply _ _ _ _ (ix3 b s h) fun a => by fin_cases a <;> rfl).trans (square_sum _ b s h)
  · exact (broadcastInDim_apply _ _ _ _ (ix4 (0 : Fin 1) (0 : Fin 1) (0 : Fin 1) f) fun a => by fin_cases a <;> rfl).trans
      (broadcastInDim_apply _ _ g _ (ix1 f) fun a => by fin_cases a; rfl)

/-- The gates. -/
abbrev gateT (z : S16x2048x6144.Idx → EReal) : S16x2048x2048.Idx → EReal :=
  extf (F := Ideal) (φ := .bf16) .f32 (extractStridedSlice S16x2048x2048 ![0, 0, 4096] z slices_S16x2048x6144_S16x2048x2048_0_0_4096) bitsLt_bf16_f32

theorem gateT_apply (z : S16x2048x6144.Idx → EReal) (b n : Fin 16) (r : Fin 128) (h : Fin 4) (f : Fin 512) :
    gateT z (ix3 b ⟨n.val * 128 + r.val, by omega⟩ ⟨h.val * 512 + f.val, by omega⟩) = RetMath.gs z b n h r f := by
  refine extractStridedSlice_apply ![0, 0, 4096] z slices_S16x2048x6144_S16x2048x2048_0_0_4096 _ _ fun a => ?_
  fin_cases a
  · exact (Nat.zero_add _).symm
  · exact (Nat.zero_add _).symm
  · exact Nat.add_assoc 4096 _ _

/-- The host operations after the scan, of the rows, the projections and the gain. -/
abbrev outT (z : S16x2048x6144.Idx → EReal) (g : S512.Idx → EReal) (y : S16x16x4x128x512.Idx → EReal) : S16x2048x2048.Idx → EReal :=
  truncf (F := Ideal) (φ := .f32) .bf16 (mulf (F := Ideal) (φ := .f32) (mulf (F := Ideal) (φ := .f32) (gateT z)
    (Host.divf (F := Ideal) (φ := .f32) (broadcastInDim S16x2048x2048 ![] bcast_S_S16x2048x2048 (constant (F := Ideal) S_ .f32 0x3F800000#32))
      (addf (F := Ideal) (φ := .f32) (broadcastInDim S16x2048x2048 ![] bcast_S_S16x2048x2048 (constant (F := Ideal) S_ .f32 0x3F800000#32))
        (Host.exp (F := Ideal) (φ := .f32) (Host.negf (F := Ideal) (φ := .f32) (gateT z))))))
    (shapeCast S16x2048x2048 (normT (unchunk y) g) shapeCasts_S16x2048x4x512_S16x2048x2048)) bitsLt_bf16_f32

theorem outT_apply (z : S16x2048x6144.Idx → EReal) (g : S512.Idx → EReal) (y : S16x16x4x128x512.Idx → EReal)
    (b n : Fin 16) (r : Fin 128) (h : Fin 4) (f : Fin 512) :
    outT z g y (ix3 b ⟨n.val * 128 + r.val, by omega⟩ ⟨h.val * 512 + f.val, by omega⟩)
      = RetMath.gated (fun l => y (ix5 n b h r l)) (RetMath.gs z b n h r) (fun l => g (ix1 l)) f := by
  have e1 : Ideal.ofBits .f32 0x3F800000#32 = 1 := by rw [ofBits_one]; rfl
  refine congrArg₂ (fun x y : EReal => x * y) ?_ ?_
  · show gateT z _ * Ideal.div (Ideal.ofBits .f32 0x3F800000#32) (Ideal.ofBits .f32 0x3F800000#32 + Ideal.exp (-(gateT z _))) = _
    rw [e1, gateT_apply]
    rfl
  · refine (shapeCast_apply _ _ _ (ix4 b (⟨n.val * 128 + r.val, by omega⟩ : Fin 2048) h f) ?_).trans ?_
    · rw [Shape.rowMajor_val_four, Shape.rowMajor_val_three]
      show ((b.val * 2048 + (n.val * 128 + r.val)) * 4 + h.val) * 512 + f.val
        = (b.val * 2048 + (n.val * 128 + r.val)) * 2048 + (h.val * 512 + f.val)
      omega
    · rw [normT_apply]
      simp only [unchunk_apply]

/-- The reference's result: the retention of the formulas. -/
theorem result (c : Dev nD) : (Value.out_main_v87 (done m c) : S16x2048x2048.Idx → EReal)
    = RetMath.out (argZ m c) fun l => argG m c (ix1 l) := by
  have e : (Value.out_main_v87 (done m c) : S16x2048x2048.Idx → EReal)
      = outT (argZ m c) (argG m c) (done m c (Proc.devRef .tc main_v66_9) : S16x16x4x128x512.Idx → EReal) := by
    unfold Value.out_main_v87
    rw [show done m c (Proc.devRef .tc main_arg0) = argZ m c from Value.iter_main_arg0 m c 16,
      show done m c (Proc.devRef .tc main_arg1) = argG m c from Value.iter_main_arg1 m c 16]
    rfl
  rw [e]
  funext i
  have h0 : (i 0).val < 16 := (i 0).isLt
  have h1 : (i 1).val < 2048 := (i 1).isLt
  have h2 : (i 2).val < 2048 := (i 2).isLt
  have hi : i = ix3 (⟨(i 0).val, h0⟩ : Fin 16)
      (⟨(⟨(i 1).val / 128, by omega⟩ : Fin 16).val * 128 + (⟨(i 1).val % 128, Nat.mod_lt _ (by norm_num)⟩ : Fin 128).val, by
        show (i 1).val / 128 * 128 + (i 1).val % 128 < 2048; omega⟩ : Fin 2048)
      (⟨(⟨(i 2).val / 512, by omega⟩ : Fin 4).val * 512 + (⟨(i 2).val % 512, Nat.mod_lt _ (by norm_num)⟩ : Fin 512).val, by
        show (i 2).val / 512 * 512 + (i 2).val % 512 < 2048; omega⟩ : Fin 2048) := by
    funext a
    apply Fin.ext
    match a with
    | ⟨0, _⟩ => rfl
    | ⟨1, _⟩ => show (i 1).val = (i 1).val / 128 * 128 + (i 1).val % 128; omega
    | ⟨2, _⟩ => show (i 2).val = (i 2).val / 512 * 512 + (i 2).val % 512; omega
  refine (congrArg (outT (argZ m c) (argG m c) _) hi).trans ((outT_apply _ _ _ _ _ _ _ _).trans ?_)
  show RetMath.gated _ _ _ _ = RetMath.outs _ _ _ _ _ _ _
  unfold RetMath.outs
  refine congrArg (fun y => RetMath.gated y _ _ _) (funext fun l => ?_)
  exact (done_carried m c).ys _ _ _ _ _ (Fin.isLt _)

/-- The run: the result is the retention of the arguments, which stay as they were. -/
theorem run : θ_run defs (onTc (τ := τ) (main (F := Ideal))) ⟨m, fun _ => 0, ρ⟩ fun r => ∀ c : Dev nD,
      r.2.mem ((c.tc : Thread nD τ).loc main_v87) = (RetMath.out (argZ m c) fun l => argG m c (ix1 l))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result m c), (h c).2⟩) (Value.run m ρ)

end Cert.RetRefIdeal.Terms

end
-- ==== Proof.Ret.lean ====
/-
  The claims about the retention: the chunked kernel and the reference's scan end with the same array, and both leave
  their arguments alone.
-/
module

public import proofs.«01_k».proof.Defs
public import proofs.«01_k».proof.Proof.RetArr
public import proofs.«01_k».proof.Proof.RetRefArr
public import proofs.«01_k».proof.Proof.Gen.Ret.Frame
public import Idealize.ShloMosaic.Lib.Quiescent

@[expose] public section

set_option maxRecDepth 16384

noncomputable section

namespace Cert.Proof.Ret

open Idealize.ShloMosaic Idealize.ShloMosaic.TcCoe Idealize.SL.Sem Idealize.ShloMosaic.ValueIdx

/-- The kernel's program terminates, leaving its arguments alone and every semaphore at zero. -/
theorem frame : Cert.quiescent_Ret := fun m ρ _ => Cert.Ret.Gen.frame m ρ
/-- So does its ideal program. -/
theorem frame_ideal : Cert.quiescent_RetIdeal := fun m ρ _ => Cert.RetIdeal.Gen.frame m ρ
/-- So does the reference, which uses no semaphore. -/
theorem frame_ref : Cert.quiescent_RetRefIdeal := fun m ρ _ =>
  (θ_run Cert.RetRefIdeal.defs _ _).mono (fun r h => ⟨fun c => (h c).2,
      Idealize.ShloMosaic.sem_eq_zero_of_no_sems (by decide) r.2⟩)
    (Cert.RetRefIdeal.Value.run (F := Ideal) m ρ)

/-- From equal arguments the two programs end with equal results: both with the retention of the formulas. -/
theorem algebraic : Cert.algebraic_RetIdeal_RetRefIdeal := by
  intro m ρ m' ρ' _ hag
  refine ⟨fun c => RetMath.out (Cert.RetIdeal.Rows.argZ m c) (Cert.RetIdeal.Rows.gain m c), Cert.RetIdeal.Rows.run m ρ, ?_⟩
  refine (θ_run Cert.RetRefIdeal.defs _ _).mono (fun _ h c => ⟨(h c).1.trans ?_, (h c).2⟩)
    (Cert.RetRefIdeal.Terms.run m' ρ')
  obtain ⟨h0, h1⟩ := hag c
  exact congrArg₂ (fun (z : (⟨3, ![16, 2048, 6144]⟩ : Shape).Idx → EReal) (g : (⟨1, ![512]⟩ : Shape).Idx → EReal) =>
    RetMath.out z fun l => g (ix1 l)) h0 h1

end Cert.Proof.Ret

end
-- ==== Proof.RetPre.lean ====
/-
  The named constants of the retention: each logarithm and each decay that the kernel writes as a rounded literal is
  named as the real number it stands for.
-/
module

public import proofs.«01_k».proof.Defs

@[expose] public section

set_option maxRecDepth 16384

noncomputable section

namespace Cert.Proof.Ret

open Idealize.ShloMosaic

/-- Each name of the ideal program's table has the value stated. -/
theorem preserves : Cert.preserves_Ret_RetIdeal :=
  ⟨IdealRules.named_const.statement _ _ _ _ _ rfl, IdealRules.named_const.statement _ _ _ _ _ rfl,
   IdealRules.named_const.statement _ _ _ _ _ rfl, IdealRules.named_const.statement _ _ _ _ _ rfl,
   IdealRules.named_const.statement _ _ _ _ _ rfl, IdealRules.named_const.statement _ _ _ _ _ rfl,
   IdealRules.named_const.statement _ _ _ _ _ rfl, IdealRules.named_const.statement _ _ _ _ _ rfl⟩

end Cert.Proof.Ret

end
-- ==== Proof.InOddArr.lean ====
/-
  The input projection of the odd layers, `rms_norm(x, g)·W`: the whole result array of the tiled kernel. Each of the
  64 grid points stages 512 rows of `x`, the scale `g` and the whole weight, normalises the rows once and writes their
  product with the weight in 12 tiles of 512 columns.
-/
module

public import proofs.«01_k».proof.Proof.Gen.InOddIdeal.Value
public import Idealize.ShloMosaic.Lib.ValueIdx
public import Idealize.ShloMosaic.Lib.MatmulPlain
public import Idealize.ShloMosaic.PureOps.Ideal.Laws

@[expose] public section

set_option maxRecDepth 16384

noncomputable section

namespace Cert.InOddIdeal.Rows

open Cert.InOddIdeal Cert.InOddIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The rows `x` as launched. -/
abbrev argX (c : Dev nD) : S32768x1024.Idx → EReal := m ((c : Thread nD τ).loc main_arg0)
/-- The scale `g` as launched. -/
abbrev argG (c : Dev nD) : S1024.Idx → EReal := m ((c : Thread nD τ).loc main_arg1)
/-- The weight as launched. -/
abbrev argW (c : Dev nD) : S1024x6144.Idx → EReal := m ((c : Thread nD τ).loc main_arg2)

/-- The factor of one row: the inverse square root of the mean of its squares plus the small constant. -/
def factor (row : Fin 1024 → EReal) : EReal :=
  Ideal.rsqrt (Ideal.div (∑ l, row l * row l) (Ideal.ofBits .f32 0x44800000#32) + Ideal.ofBits .f32 0x358637BD#32)

/-- The result array, entry by entry: the normalised and scaled row against the weight's column. -/
def proj (c : Dev nD) : S32768x6144.Idx → EReal := fun i =>
  ∑ k : Fin 1024, argX m c (ix2 (i 0) k) * factor (fun l => argX m c (ix2 (i 0) l)) * argG m c (ix1 k) * argW m c (ix2 k (i 1))

/-- The weight the region finds is the argument: at the ideal values the cast to bf16 changes nothing. -/
theorem V_weight (c : Dev nD) (i : S1024x6144.Idx) :
    (V m c main_v0 : S1024x6144.Idx → EReal) i = argW m c i := by
  have e : V m c main_v0 = (truncf (s := S1024x6144) (φ := .f32) (F := Ideal) .bf16 (m ((c : Thread nD τ).loc main_arg2)) bitsLt_bf16_f32) := by
    show StableHlo.after hostOps0 (fun b => m (c, b)) _ = _
    after_results
  rw [e]
  rfl

/-- The scale the region finds is the argument as one row. -/
theorem V_scale (c : Dev nD) (z : Fin 1) (k : Fin 1024) :
    (V m c main_v1 : S1x1024.Idx → EReal) (ix2 z k) = argG m c (ix1 k) := by
  have e : V m c main_v1 = (shapeCast S1x1024 (argG m c) shapeCasts_S1024_S1x1024 : S1x1024.Idx → EReal) := by
    show StableHlo.after hostOps0 (fun b => m (c, b)) _ = _
    after_results
    rfl
  rw [e]
  refine (shapeCast_addUnit_apply ![1024] (argG m c) _ _).trans (congrArg (argG m c) (funext fun a => ?_))
  fin_cases a
  rfl

/-- Where each window's block sits: the row windows move with the grid point, scale and weight stay. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem zeros2 : (![0, 0] : Fin 2 → Nat) = fun _ => 0 := funext fun a => by fin_cases a <;> rfl

/-- The staged rows of `x` at point `t` are rows `512 t + r` of the argument. -/
theorem rows_x (c : Dev nD) (t : Fin cfg0.N) (r : Fin 512) (k : Fin 1024) (h : t.val * 512 + r.val < 32768) :
    (iblk m c 0 t : S512x1024.Idx → EReal) (ix2 r k)
      = argX m c (ix2 ⟨t.val * 512 + r.val, h⟩ k) := by
  obtain ⟨⟨e0, e1⟩, -⟩ := places t
  show (V m c main_arg0 : S32768x1024.Idx → EReal) (((cfg0.win 0).blk t).view.emb (ix2 r k)) = _
  rw [V_main_arg0]
  refine congrArg (argX m c) (Shape.idx_ext₂ ?_ ?_)
  · show win0_0.index t (0 : Fin 2) * 512 + 1 * r.val = t.val * 512 + r.val
    rw [e0]; omega
  · show win0_0.index t (1 : Fin 2) * 1024 + 1 * k.val = k.val
    rw [e1]; omega

/-- The staged scale is the scale. -/
theorem scale (c : Dev nD) (t : Fin cfg0.N) (k : Fin 1024) :
    (iblk m c 1 t : S1x1024.Idx → EReal) (ix2 (0 : Fin 1) k) = argG m c (ix1 k) := by
  obtain ⟨-, ⟨e0, e1⟩, -⟩ := places t
  rw [← V_scale m c (0 : Fin 1) k]
  show (V m c main_v1 : S1x1024.Idx → EReal) (((cfg0.win 1).blk t).view.emb (ix2 (0 : Fin 1) k)) = _
  refine congrArg (V m c main_v1 : S1x1024.Idx → EReal) (Shape.idx_ext₂ ?_ ?_)
  · show win0_1.index t (0 : Fin 2) * 1 + 1 * (0 : Fin 1).val = (0 : Fin 1).val
    rw [e0]; rfl
  · show win0_1.index t (1 : Fin 2) * 1024 + 1 * k.val = k.val
    rw [e1]; omega

/-- The staged weight is the weight. -/
theorem weight (c : Dev nD) (t : Fin cfg0.N) (k : Fin 1024) (j : Fin 6144) :
    (iblk m c 2 t : S1024x6144.Idx → EReal) (ix2 k j)
      = argW m c (ix2 k j) := by
  obtain ⟨-, -, ⟨e0, e1⟩, -⟩ := places t
  show (V m c main_v0 : S1024x6144.Idx → EReal) (((cfg0.win 2).blk t).view.emb (ix2 k j)) = _
  rw [V_weight]
  refine congrArg (argW m c) (Shape.idx_ext₂ ?_ ?_)
  · show win0_2.index t (0 : Fin 2) * 1024 + 1 * k.val = k.val
    rw [e0]; omega
  · show win0_2.index t (1 : Fin 2) * 6144 + 1 * j.val = j.val
    rw [e1]; omega

/-- The sum of a row, as the reduction over the second axis takes it. -/
theorem row_sum (v : S512x1024.Idx → EReal) (r : Fin 512) :
    (multiReduction (F := Ideal) (φ := .f32) .add [1] S512 v 0x00000000#32 reduces_S512x1024_S512 (.inl rfl) rfl : S512.Idx → EReal) (ix1 r)
      = ∑ l : Fin 1024, v (ix2 r l) := by
  refine (Ideal.multiReduction_add_single v _ reduces_S512x1024_S512 (.inl rfl) rfl (ix1 r)).trans ?_
  refine Finset.sum_congr rfl fun l _ => congrArg v ?_
  exact Shape.idx_ext₂ rfl rfl

/-- What the body keeps of a block of rows: each entry times its row's factor times the scale. -/
theorem normed_apply (x0 : S512x1024.Idx → EReal) (x1 : S1x1024.Idx → EReal) (r : Fin 512) (k : Fin 1024) :
    (k0_pay4 (F := Ideal) x0 x1 : S512x1024.Idx → EReal) (ix2 r k)
      = x0 (ix2 r k) * factor (fun l => x0 (ix2 r l)) * x1 (ix2 (0 : Fin 1) k) := by
  unfold k0_pay4
  rw [shapeCast_self]
  refine congrArg₂ (· * ·) (congrArg (x0 (ix2 r k) * ·) ?_) ?_
  · refine (broadcastTo_apply _ _ (ix2 r k) (ix2 r (0 : Fin 1)) fun a => ?_).trans ?_
    · fin_cases a <;> rfl
    · refine congrArg (fun z => Ideal.rsqrt (Ideal.div z (Ideal.ofBits .f32 0x44800000#32) + Ideal.ofBits .f32 0x358637BD#32)) ?_
      refine (shapeCast_apply _ _ (ix2 r (0 : Fin 1)) (ix1 r) ?_).trans (row_sum _ r)
      rw [Shape.rowMajor_val_one, Shape.rowMajor_val_two]
      show r.val = r.val * 1 + 0
      omega
  · refine broadcastTo_apply x1 _ (ix2 r k) (ix2 (0 : Fin 1) k) fun a => ?_
    fin_cases a <;> rfl

/-- The product of normalised rows with the whole weight, entry by entry. -/
def prod (xn : S512x1024.Idx → EReal) (w : S1024x6144.Idx → EReal) : S512x6144.Idx → EReal := fun i =>
  ∑ k : Fin 1024, xn (ix2 (i 0) k) * w (ix2 k (i 1))

/-- One stored tile is the tile of the whole product its columns name. -/
theorem tile (xn : S512x1024.Idx → EReal) (w : S1024x6144.Idx → EReal) (o : ℕ)
    (hw : ∀ a, (![0, o] : Fin 2 → ℕ) a + S1024x512.size a ≤ S1024x6144.size a)
    (ho : ∀ a, (![0, o] : Fin 2 → ℕ) a + S512x512.size a ≤ S512x6144.size a) (x : S512x512.Idx) :
    (k0_pay1 (F := Ideal) xn (View.ld (Val := Elt Ideal) (e' := .bf16) w (Rect.unit (s := S1024x6144) ![0, o] S1024x512.size hw)) : S512x512.Idx → EReal) x
      = prod xn w ((Rect.unit (s := S512x6144) ![0, o] S512x512.size ho).emb x) := by
  obtain ⟨r, j, rfl⟩ : ∃ (r : Fin 512) (j : Fin 512), x = ix2 r j := ⟨x 0, x 1, Shape.idx_ext₂ rfl rfl⟩
  unfold k0_pay1
  rw [shapeCast_self]
  refine (Ideal.matmul_plain_apply (M := 512) (K := 1024) (N := 512) (φ₁ := .bf16) (φ₂ := .bf16) none xn _ _ r j).trans ?_
  show Ideal.ofBits .f32 0x00000000#32 + _ = _
  rw [Ideal.ofBits_zero_f32, zero_add]
  refine Finset.sum_congr rfl fun k _ => congrArg₂ (· * ·) (congrArg xn (Shape.idx_ext₂ ?_ rfl)) (congrArg w (Shape.idx_ext₂ ?_ rfl))
  · show r.val = 0 + 1 * r.val
    omega
  · show 0 + 1 * k.val = k.val
    omega

/-- The buffer the body leaves is the whole product. -/
theorem out_eq (x0 : S512x1024.Idx → EReal) (x1 : S1x1024.Idx → EReal) (x2 : S1024x6144.Idx → EReal) (y : S512x6144.Idx) :
    (out0_3 (F := Ideal) x0 x1 x2 : S512x6144.Idx → EReal) y = prod (k0_pay4 (F := Ideal) x0 x1) x2 y := by
  unfold_out out0_3
  rw [View.ld_unit_zero zeros2, View.ld_unit_zero zeros2]
  refine View.canon_apply_of_pieces (Val := Elt Ideal) (e := .bf16) (prod (k0_pay4 (F := Ideal) x0 x1) x2) _ ?_ y (cover0_3 _ _ _ _ _ _ _ _ _ _ _ _ y)
  intro p hp
  simp only [List.mem_cons, List.not_mem_nil, or_false] at hp
  rcases hp with rfl | rfl | rfl | rfl | rfl | rfl | rfl | rfl | rfl | rfl | rfl | rfl
  · exact fun x => tile _ _ _ inb_S1024x6144_S1024x512_0_5632 inb_S512x6144_S512x512_0_5632 x
  · exact fun x => tile _ _ _ inb_S1024x6144_S1024x512_0_5120 inb_S512x6144_S512x512_0_5120 x
  · exact fun x => tile _ _ _ inb_S1024x6144_S1024x512_0_4608 inb_S512x6144_S512x512_0_4608 x
  · exact fun x => tile _ _ _ inb_S1024x6144_S1024x512_0_4096 inb_S512x6144_S512x512_0_4096 x
  · exact fun x => tile _ _ _ inb_S1024x6144_S1024x512_0_3584 inb_S512x6144_S512x512_0_3584 x
  · exact fun x => tile _ _ _ inb_S1024x6144_S1024x512_0_3072 inb_S512x6144_S512x512_0_3072 x
  · exact fun x => tile _ _ _ inb_S1024x6144_S1024x512_0_2560 inb_S512x6144_S512x512_0_2560 x
  · exact fun x => tile _ _ _ inb_S1024x6144_S1024x512_0_2048 inb_S512x6144_S512x512_0_2048 x
  · exact fun x => tile _ _ _ inb_S1024x6144_S1024x512_0_1536 inb_S512x6144_S512x512_0_1536 x
  · exact fun x => tile _ _ _ inb_S1024x6144_S1024x512_0_1024 inb_S512x6144_S512x512_0_1024 x
  · exact fun x => tile _ _ _ inb_S1024x6144_S1024x512_0_512 inb_S512x6144_S512x512_0_512 x
  · exact fun x => tile _ _ _ inb_S1024x6144_S1024x512_0_0 inb_S512x6144_S512x512_0_0 x

/-- Point `t` writes back its 512 rows of the result. -/
theorem flushed_eq (c : Dev nD) (t : Fin cfg0.N) :
    (dats m 0 c).flushed 3 t = (win0_3.blk t).view.read (Elt Ideal) (proj m c) := by
  rw [Value.flushed3]
  funext y
  obtain ⟨r, j, rfl⟩ : ∃ (r : Fin 512) (j : Fin 6144), y = ix2 r j := ⟨y 0, y 1, Shape.idx_ext₂ rfl rfl⟩
  have hN : t.val < 64 := lt_of_lt_of_eq t.isLt N_0
  have hr := r.isLt
  have h : t.val * 512 + r.val < 32768 := by omega
  obtain ⟨-, -, -, ⟨e0, e1⟩⟩ := places t
  have hi : ((win0_3.blk t).view.emb (ix2 r j) : S32768x6144.Idx) = ix2 ⟨t.val * 512 + r.val, h⟩ j := by
    refine Shape.idx_ext₂ ?_ ?_
    · show win0_3.index t (0 : Fin 2) * 512 + 1 * r.val = t.val * 512 + r.val
      rw [e0]; omega
    · show win0_3.index t (1 : Fin 2) * 6144 + 1 * j.val = j.val
      rw [e1]; omega
  show (out0_3 (F := Ideal) (iblk m c 0 t) (iblk m c 1 t) (iblk m c 2 t) : S512x6144.Idx → EReal) (ix2 r j)
    = proj m c ((win0_3.blk t).view.emb (ix2 r j))
  rw [hi]
  refine (out_eq _ _ _ _).trans (Finset.sum_congr rfl fun k _ => ?_)
  refine congrArg₂ (· * ·) ((normed_apply _ _ r k).trans ?_) (weight m c t k j)
  refine congrArg₂ (· * ·) (congrArg₂ (· * ·) (rows_x m c t r k h) (congrArg factor (funext fun l => rows_x m c t r l h))) (scale m c t k)

/-- Point `t`'s block of the result is its 512 rows. -/
theorem mem_block (t : Fin cfg0.N) (i : S32768x6144.Idx) (h0 : t.val * 512 ≤ (i 0).val) (h0' : (i 0).val < t.val * 512 + 512) :
    i ∈ ((cfg0.win 3).blk t).view.set := by
  have h1 : (i 1).val < 6144 := (i 1).isLt
  obtain ⟨-, -, -, ⟨e0, e1⟩⟩ := places t
  show i ∈ ((View.whole main_v2).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [e0]; exact ⟨h0, h0'⟩
  | ⟨1, _⟩ =>
    show win0_3.index t (1 : Fin 2) * 6144 ≤ (i 1).val ∧ (i 1).val < win0_3.index t (1 : Fin 2) * 6144 + 6144
    rw [e1]; omega

/-- Every entry is written: row `i` belongs to point `i / 512`. -/
theorem cover (i : S32768x6144.Idx) :
    ∃ t : Fin cfg0.N, (cfg0.win 3).flush t = true ∧ i ∈ ((cfg0.win 3).blk t).view.set := by
  have h0 : (i 0).val < 32768 := (i 0).isLt
  have hN : cfg0.N = 64 := N_0
  have ht : (i 0).val / 512 < cfg0.N := by omega
  exact ⟨⟨(i 0).val / 512, ht⟩, flush0_3 _, mem_block _ i (by dsimp only; omega) (by dsimp only; omega)⟩

/-- The result array after the run. -/
theorem final (c : Dev nD) : (dats m 0 c).arrAt 3 cfg0.N = proj m c :=
  (dats m 0 c).arrAt_eq_of_cover 3 (proj m c) (fun t _ => flushed_eq m c t) cover

/-- The run: the result is `proj` of the arguments, which stay as they were. -/
theorem run : θ_run defs (onTc (τ := τ) (main (F := Ideal))) ⟨m, fun _ => 0, ρ⟩ fun r => ∀ c : Dev nD,
      r.2.mem ((c : Thread nD τ).loc main_v2) = proj m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.InOddIdeal.Rows

end
-- ==== Proof.InOdd.lean ====
/-
  The claims about the input projection of the odd layers: the tiled kernel and the plain `rms_norm(x, g) @ w` end
  with the same array, and both leave their arguments alone.
-/
module

public import proofs.«01_k».proof.Defs
public import proofs.«01_k».proof.Proof.InOddArr
public import proofs.«01_k».proof.Proof.Gen.InOdd.Frame
public import proofs.«01_k».proof.Proof.Gen.InOddRefIdeal.Run
public import Idealize.ShloMosaic.Lib.StackMember
public import Idealize.ShloMosaic.Lib.Quiescent

@[expose] public section

set_option maxRecDepth 16384

noncomputable section

namespace Cert.Proof.InOdd

open Idealize.ShloMosaic Idealize.ShloMosaic.TcCoe Idealize.SL.Sem Idealize.ShloMosaic.ValueIdx
open Cert.InOddRefIdeal Cert.InOddRefIdeal.Facts₀

/-- The reference's normalised rows, as its host operations write them. -/
abbrev refNormed (x : S32768x1024.Idx → EReal) (g : S1024.Idx → EReal) : S32768x1024.Idx → EReal :=
  mulf (F := Ideal) (φ := .f32) (mulf (F := Ideal) (φ := .f32) x (broadcastInDim S32768x1024 ![0, 1] bcast_S32768x1_S32768x1024_0_1
      (Host.rsqrt (F := Ideal) (φ := .f32) (addf (F := Ideal) (φ := .f32) (Host.divf (F := Ideal) (φ := .f32) (broadcastInDim S32768x1 ![0] bcast_S32768_S32768x1_0
          (Host.reduceAdd (F := Ideal) (φ := .f32) (mulf (F := Ideal) (φ := .f32) x x) (constant S_ .f32 0x00000000#32) reducesTo_S32768x1024_S32768_d1 h_S_))
        (broadcastInDim S32768x1 ![] bcast_S_S32768x1 (constant (F := Ideal) S_ .f32 0x44800000#32)))
        (broadcastInDim S32768x1 ![] bcast_S_S32768x1 (constant (F := Ideal) S_ .f32 0x358637BD#32))))))
    (broadcastInDim S32768x1024 ![0, 1] bcast_S1x1024_S32768x1024_0_1 (broadcastInDim S1x1024 ![1] bcast_S1024_S1x1024_1 g))

/-- The reference's sum along a row. -/
theorem ref_row_sum (v : S32768x1024.Idx → EReal) (r : Fin 32768) :
    (Host.reduceAdd (F := Ideal) (φ := .f32) v (constant S_ .f32 0x00000000#32) reducesTo_S32768x1024_S32768_d1 h_S_ : S32768.Idx → EReal) (ix1 r)
      = ∑ l : Fin 1024, v (ix2 r l) := by
  refine (Ideal.hostReduceAdd_single reducesTo_S32768x1024_S32768_d1 (by decide : S32768x1024.Reduces [1] S32768) v _ (ix1 r)).trans ?_
  show Ideal.ofBits .f32 0x00000000#32 + _ = _
  rw [Ideal.ofBits_zero_f32, zero_add]
  exact Finset.sum_congr rfl fun l _ => congrArg v (Shape.idx_ext₂ rfl rfl)

/-- The reference's normalised rows, entry by entry. -/
theorem refNormed_apply (x : S32768x1024.Idx → EReal) (g : S1024.Idx → EReal) (r : Fin 32768) (k : Fin 1024) :
    refNormed x g (ix2 r k)
      = x (ix2 r k) * Cert.InOddIdeal.Rows.factor (fun l => x (ix2 r l)) * g (ix1 k) := by
  refine congrArg₂ (· * ·) (congrArg (x (ix2 r k) * ·) ?_) ?_
  · refine (broadcastInDim_apply _ _ _ (ix2 r k) (ix2 r (0 : Fin 1)) fun a => ?_).trans ?_
    · fin_cases a <;> rfl
    · refine congrArg (fun z => Ideal.rsqrt (Ideal.div z (Ideal.ofBits .f32 0x44800000#32) + Ideal.ofBits .f32 0x358637BD#32)) ?_
      refine (broadcastInDim_apply _ _ _ (ix2 r (0 : Fin 1)) (ix1 r) fun a => ?_).trans (ref_row_sum _ r)
      fin_cases a; rfl
  · refine (broadcastInDim_apply _ _ _ (ix2 r k) (ix2 (0 : Fin 1) k) fun a => ?_).trans ?_
    · fin_cases a <;> rfl
    · refine broadcastInDim_apply _ _ g (ix2 (0 : Fin 1) k) (ix1 k) fun a => ?_
      fin_cases a; rfl

/-- The reference's term, entry by entry, over any three arrays. -/
theorem ref_apply (x : S32768x1024.Idx → EReal) (g : S1024.Idx → EReal) (w : S1024x6144.Idx → EReal) (i : S32768x6144.Idx) :
    (truncf (F := Ideal) (φ := .f32) .bf16 (Host.dotGeneral (F := Ideal) dot_S32768x1024_S1024x6144_S32768x6144_1_0_0_1_n_n none
        (refNormed x g) (φ₁ := .f32) (φ₂ := .f32) w) bitsLt_bf16_f32 : S32768x6144.Idx → EReal) i
      = ∑ k : Fin 1024, x (ix2 (i 0) k) * Cert.InOddIdeal.Rows.factor (fun l => x (ix2 (i 0) l)) * g (ix1 k) * w (ix2 k (i 1)) := by
  obtain ⟨r, j, rfl⟩ : ∃ (r : Fin 32768) (j : Fin 6144), i = ix2 r j := ⟨i 0, i 1, Shape.idx_ext₂ rfl rfl⟩
  refine (StackMember.dotGeneral_plain_apply (m := 32768) (n := 6144) (k := 1024) (φ₁ := .f32) (φ₂ := .f32) none (refNormed x g) w r j).trans ?_
  exact Finset.sum_congr rfl fun k _ => congrArg (· * w (ix2 k j)) (refNormed_apply x g r k)

/-- The kernel's program terminates, leaving its arguments alone and every semaphore at zero. -/
theorem frame : Cert.quiescent_InOdd := fun m ρ _ => Cert.InOdd.Gen.frame m ρ
/-- So does its ideal program. -/
theorem frame_ideal : Cert.quiescent_InOddIdeal := fun m ρ _ => Cert.InOddIdeal.Gen.frame m ρ
/-- So does the reference, which uses no semaphore. -/
theorem frame_ref : Cert.quiescent_InOddRefIdeal := fun m ρ _ =>
  (θ_run Cert.InOddRefIdeal.defs _ _).mono (fun r h => ⟨fun c => (h c).2,
      Idealize.ShloMosaic.sem_eq_zero_of_no_sems (by decide) r.2⟩)
    (Cert.InOddRefIdeal.Value.run (F := Ideal) m ρ)

/-- From equal arguments the two programs end with equal results. -/
theorem algebraic : Cert.algebraic_InOddIdeal_InOddRefIdeal := by
  intro m ρ m' ρ' _ hag
  refine ⟨fun c => Cert.InOddIdeal.Rows.proj m c, Cert.InOddIdeal.Rows.run m ρ, ?_⟩
  refine (θ_run Cert.InOddRefIdeal.defs _ _).mono (fun _ h c => ⟨(h c).1.trans ?_, (h c).2⟩)
    (Cert.InOddRefIdeal.Value.run (F := Ideal) m' ρ')
  obtain ⟨h0, h1, h2⟩ := hag c
  rw [h0, h1, h2]
  exact funext fun i => ref_apply _ _ _ i

end Cert.Proof.InOdd

end
-- ==== Proof.InEvenArr.lean ====
/-
  The input projection of the even layers, `rms_norm(x, g)·W`: the whole result array of the tiled kernel. Each of the
  64 grid points stages 512 rows of `x`, the scale `g` and the whole weight, normalises the rows once and writes their
  product with the weight in 6 tiles of 512 columns.
-/
module

public import proofs.«01_k».proof.Proof.Gen.InEvenIdeal.Value
public import Idealize.ShloMosaic.Lib.ValueIdx
public import Idealize.ShloMosaic.Lib.MatmulPlain
public import Idealize.ShloMosaic.PureOps.Ideal.Laws

@[expose] public section

set_option maxRecDepth 16384

noncomputable section

namespace Cert.InEvenIdeal.Rows

open Cert.InEvenIdeal Cert.InEvenIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The rows `x` as launched. -/
abbrev argX (c : Dev nD) : S32768x1024.Idx → EReal := m ((c : Thread nD τ).loc main_arg0)
/-- The scale `g` as launched. -/
abbrev argG (c : Dev nD) : S1024.Idx → EReal := m ((c : Thread nD τ).loc main_arg1)
/-- The weight as launched. -/
abbrev argW (c : Dev nD) : S1024x3072.Idx → EReal := m ((c : Thread nD τ).loc main_arg2)

/-- The factor of one row: the inverse square root of the mean of its squares plus the small constant. -/
def factor (row : Fin 1024 → EReal) : EReal :=
  Ideal.rsqrt (Ideal.div (∑ l, row l * row l) (Ideal.ofBits .f32 0x44800000#32) + Ideal.ofBits .f32 0x358637BD#32)

/-- The result array, entry by entry: the normalised and scaled row against the weight's column. -/
def proj (c : Dev nD) : S32768x3072.Idx → EReal := fun i =>
  ∑ k : Fin 1024, argX m c (ix2 (i 0) k) * factor (fun l => argX m c (ix2 (i 0) l)) * argG m c (ix1 k) * argW m c (ix2 k (i 1))

/-- The weight the region finds is the argument: at the ideal values the cast to bf16 changes nothing. -/
theorem V_weight (c : Dev nD) (i : S1024x3072.Idx) :
    (V m c main_v0 : S1024x3072.Idx → EReal) i = argW m c i := by
  have e : V m c main_v0 = (truncf (s := S1024x3072) (φ := .f32) (F := Ideal) .bf16 (m ((c : Thread nD τ).loc main_arg2)) bitsLt_bf16_f32) := by
    show StableHlo.after hostOps0 (fun b => m (c, b)) _ = _
    after_results
  rw [e]
  rfl

/-- The scale the region finds is the argument as one row. -/
theorem V_scale (c : Dev nD) (z : Fin 1) (k : Fin 1024) :
    (V m c main_v1 : S1x1024.Idx → EReal) (ix2 z k) = argG m c (ix1 k) := by
  have e : V m c main_v1 = (shapeCast S1x1024 (argG m c) shapeCasts_S1024_S1x1024 : S1x1024.Idx → EReal) := by
    show StableHlo.after hostOps0 (fun b => m (c, b)) _ = _
    after_results
    rfl
  rw [e]
  refine (shapeCast_addUnit_apply ![1024] (argG m c) _ _).trans (congrArg (argG m c) (funext fun a => ?_))
  fin_cases a
  rfl

/-- Where each window's block sits: the row windows move with the grid point, scale and weight stay. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem zeros2 : (![0, 0] : Fin 2 → Nat) = fun _ => 0 := funext fun a => by fin_cases a <;> rfl

/-- The staged rows of `x` at point `t` are rows `512 t + r` of the argument. -/
theorem rows_x (c : Dev nD) (t : Fin cfg0.N) (r : Fin 512) (k : Fin 1024) (h : t.val * 512 + r.val < 32768) :
    (iblk m c 0 t : S512x1024.Idx → EReal) (ix2 r k)
      = argX m c (ix2 ⟨t.val * 512 + r.val, h⟩ k) := by
  obtain ⟨⟨e0, e1⟩, -⟩ := places t
  show (V m c main_arg0 : S32768x1024.Idx → EReal) (((cfg0.win 0).blk t).view.emb (ix2 r k)) = _
  rw [V_main_arg0]
  refine congrArg (argX m c) (Shape.idx_ext₂ ?_ ?_)
  · show win0_0.index t (0 : Fin 2) * 512 + 1 * r.val = t.val * 512 + r.val
    rw [e0]; omega
  · show win0_0.index t (1 : Fin 2) * 1024 + 1 * k.val = k.val
    rw [e1]; omega

/-- The staged scale is the scale. -/
theorem scale (c : Dev nD) (t : Fin cfg0.N) (k : Fin 1024) :
    (iblk m c 1 t : S1x1024.Idx → EReal) (ix2 (0 : Fin 1) k) = argG m c (ix1 k) := by
  obtain ⟨-, ⟨e0, e1⟩, -⟩ := places t
  rw [← V_scale m c (0 : Fin 1) k]
  show (V m c main_v1 : S1x1024.Idx → EReal) (((cfg0.win 1).blk t).view.emb (ix2 (0 : Fin 1) k)) = _
  refine congrArg (V m c main_v1 : S1x1024.Idx → EReal) (Shape.idx_ext₂ ?_ ?_)
  · show win0_1.index t (0 : Fin 2) * 1 + 1 * (0 : Fin 1).val = (0 : Fin 1).val
    rw [e0]; rfl
  · show win0_1.index t (1 : Fin 2) * 1024 + 1 * k.val = k.val
    rw [e1]; omega

/-- The staged weight is the weight. -/
theorem weight (c : Dev nD) (t : Fin cfg0.N) (k : Fin 1024) (j : Fin 3072) :
    (iblk m c 2 t : S1024x3072.Idx → EReal) (ix2 k j)
      = argW m c (ix2 k j) := by
  obtain ⟨-, -, ⟨e0, e1⟩, -⟩ := places t
  show (V m c main_v0 : S1024x3072.Idx → EReal) (((cfg0.win 2).blk t).view.emb (ix2 k j)) = _
  rw [V_weight]
  refine congrArg (argW m c) (Shape.idx_ext₂ ?_ ?_)
  · show win0_2.index t (0 : Fin 2) * 1024 + 1 * k.val = k.val
    rw [e0]; omega
  · show win0_2.index t (1 : Fin 2) * 3072 + 1 * j.val = j.val
    rw [e1]; omega

/-- The sum of a row, as the reduction over the second axis takes it. -/
theorem row_sum (v : S512x1024.Idx → EReal) (r : Fin 512) :
    (multiReduction (F := Ideal) (φ := .f32) .add [1] S512 v 0x00000000#32 reduces_S512x1024_S512 (.inl rfl) rfl : S512.Idx → EReal) (ix1 r)
      = ∑ l : Fin 1024, v (ix2 r l) := by
  refine (Ideal.multiReduction_add_single v _ reduces_S512x1024_S512 (.inl rfl) rfl (ix1 r)).trans ?_
  refine Finset.sum_congr rfl fun l _ => congrArg v ?_
  exact Shape.idx_ext₂ rfl rfl

/-- What the body keeps of a block of rows: each entry times its row's factor times the scale. -/
theorem normed_apply (x0 : S512x1024.Idx → EReal) (x1 : S1x1024.Idx → EReal) (r : Fin 512) (k : Fin 1024) :
    (k0_pay4 (F := Ideal) x0 x1 : S512x1024.Idx → EReal) (ix2 r k)
      = x0 (ix2 r k) * factor (fun l => x0 (ix2 r l)) * x1 (ix2 (0 : Fin 1) k) := by
  unfold k0_pay4
  rw [shapeCast_self]
  refine congrArg₂ (· * ·) (congrArg (x0 (ix2 r k) * ·) ?_) ?_
  · refine (broadcastTo_apply _ _ (ix2 r k) (ix2 r (0 : Fin 1)) fun a => ?_).trans ?_
    · fin_cases a <;> rfl
    · refine congrArg (fun z => Ideal.rsqrt (Ideal.div z (Ideal.ofBits .f32 0x44800000#32) + Ideal.ofBits .f32 0x358637BD#32)) ?_
      refine (shapeCast_apply _ _ (ix2 r (0 : Fin 1)) (ix1 r) ?_).trans (row_sum _ r)
      rw [Shape.rowMajor_val_one, Shape.rowMajor_val_two]
      show r.val = r.val * 1 + 0
      omega
  · refine broadcastTo_apply x1 _ (ix2 r k) (ix2 (0 : Fin 1) k) fun a => ?_
    fin_cases a <;> rfl

/-- The product of normalised rows with the whole weight, entry by entry. -/
def prod (xn : S512x1024.Idx → EReal) (w : S1024x3072.Idx → EReal) : S512x3072.Idx → EReal := fun i =>
  ∑ k : Fin 1024, xn (ix2 (i 0) k) * w (ix2 k (i 1))

/-- One stored tile is the tile of the whole product its columns name. -/
theorem tile (xn : S512x1024.Idx → EReal) (w : S1024x3072.Idx → EReal) (o : ℕ)
    (hw : ∀ a, (![0, o] : Fin 2 → ℕ) a + S1024x512.size a ≤ S1024x3072.size a)
    (ho : ∀ a, (![0, o] : Fin 2 → ℕ) a + S512x512.size a ≤ S512x3072.size a) (x : S512x512.Idx) :
    (k0_pay1 (F := Ideal) xn (View.ld (Val := Elt Ideal) (e' := .bf16) w (Rect.unit (s := S1024x3072) ![0, o] S1024x512.size hw)) : S512x512.Idx → EReal) x
      = prod xn w ((Rect.unit (s := S512x3072) ![0, o] S512x512.size ho).emb x) := by
  obtain ⟨r, j, rfl⟩ : ∃ (r : Fin 512) (j : Fin 512), x = ix2 r j := ⟨x 0, x 1, Shape.idx_ext₂ rfl rfl⟩
  unfold k0_pay1
  rw [shapeCast_self]
  refine (Ideal.matmul_plain_apply (M := 512) (K := 1024) (N := 512) (φ₁ := .bf16) (φ₂ := .bf16) none xn _ _ r j).trans ?_
  show Ideal.ofBits .f32 0x00000000#32 + _ = _
  rw [Ideal.ofBits_zero_f32, zero_add]
  refine Finset.sum_congr rfl fun k _ => congrArg₂ (· * ·) (congrArg xn (Shape.idx_ext₂ ?_ rfl)) (congrArg w (Shape.idx_ext₂ ?_ rfl))
  · show r.val = 0 + 1 * r.val
    omega
  · show 0 + 1 * k.val = k.val
    omega

/-- The buffer the body leaves is the whole product. -/
theorem out_eq (x0 : S512x1024.Idx → EReal) (x1 : S1x1024.Idx → EReal) (x2 : S1024x3072.Idx → EReal) (y : S512x3072.Idx) :
    (out0_3 (F := Ideal) x0 x1 x2 : S512x3072.Idx → EReal) y = prod (k0_pay4 (F := Ideal) x0 x1) x2 y := by
  unfold_out out0_3
  rw [View.ld_unit_zero zeros2, View.ld_unit_zero zeros2]
  refine View.canon_apply_of_pieces (Val := Elt Ideal) (e := .bf16) (prod (k0_pay4 (F := Ideal) x0 x1) x2) _ ?_ y (cover0_3 _ _ _ _ _ _ y)
  intro p hp
  simp only [List.mem_cons, List.not_mem_nil, or_false] at hp
  rcases hp with rfl | rfl | rfl | rfl | rfl | rfl
  · exact fun x => tile _ _ _ inb_S1024x3072_S1024x512_0_2560 inb_S512x3072_S512x512_0_2560 x
  · exact fun x => tile _ _ _ inb_S1024x3072_S1024x512_0_2048 inb_S512x3072_S512x512_0_2048 x
  · exact fun x => tile _ _ _ inb_S1024x3072_S1024x512_0_1536 inb_S512x3072_S512x512_0_1536 x
  · exact fun x => tile _ _ _ inb_S1024x3072_S1024x512_0_1024 inb_S512x3072_S512x512_0_1024 x
  · exact fun x => tile _ _ _ inb_S1024x3072_S1024x512_0_512 inb_S512x3072_S512x512_0_512 x
  · exact fun x => tile _ _ _ inb_S1024x3072_S1024x512_0_0 inb_S512x3072_S512x512_0_0 x

/-- Point `t` writes back its 512 rows of the result. -/
theorem flushed_eq (c : Dev nD) (t : Fin cfg0.N) :
    (dats m 0 c).flushed 3 t = (win0_3.blk t).view.read (Elt Ideal) (proj m c) := by
  rw [Value.flushed3]
  funext y
  obtain ⟨r, j, rfl⟩ : ∃ (r : Fin 512) (j : Fin 3072), y = ix2 r j := ⟨y 0, y 1, Shape.idx_ext₂ rfl rfl⟩
  have hN : t.val < 64 := lt_of_lt_of_eq t.isLt N_0
  have hr := r.isLt
  have h : t.val * 512 + r.val < 32768 := by omega
  obtain ⟨-, -, -, ⟨e0, e1⟩⟩ := places t
  have hi : ((win0_3.blk t).view.emb (ix2 r j) : S32768x3072.Idx) = ix2 ⟨t.val * 512 + r.val, h⟩ j := by
    refine Shape.idx_ext₂ ?_ ?_
    · show win0_3.index t (0 : Fin 2) * 512 + 1 * r.val = t.val * 512 + r.val
      rw [e0]; omega
    · show win0_3.index t (1 : Fin 2) * 3072 + 1 * j.val = j.val
      rw [e1]; omega
  show (out0_3 (F := Ideal) (iblk m c 0 t) (iblk m c 1 t) (iblk m c 2 t) : S512x3072.Idx → EReal) (ix2 r j)
    = proj m c ((win0_3.blk t).view.emb (ix2 r j))
  rw [hi]
  refine (out_eq _ _ _ _).trans (Finset.sum_congr rfl fun k _ => ?_)
  refine congrArg₂ (· * ·) ((normed_apply _ _ r k).trans ?_) (weight m c t k j)
  refine congrArg₂ (· * ·) (congrArg₂ (· * ·) (rows_x m c t r k h) (congrArg factor (funext fun l => rows_x m c t r l h))) (scale m c t k)

/-- Point `t`'s block of the result is its 512 rows. -/
theorem mem_block (t : Fin cfg0.N) (i : S32768x3072.Idx) (h0 : t.val * 512 ≤ (i 0).val) (h0' : (i 0).val < t.val * 512 + 512) :
    i ∈ ((cfg0.win 3).blk t).view.set := by
  have h1 : (i 1).val < 3072 := (i 1).isLt
  obtain ⟨-, -, -, ⟨e0, e1⟩⟩ := places t
  show i ∈ ((View.whole main_v2).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [e0]; exact ⟨h0, h0'⟩
  | ⟨1, _⟩ =>
    show win0_3.index t (1 : Fin 2) * 3072 ≤ (i 1).val ∧ (i 1).val < win0_3.index t (1 : Fin 2) * 3072 + 3072
    rw [e1]; omega

/-- Every entry is written: row `i` belongs to point `i / 512`. -/
theorem cover (i : S32768x3072.Idx) :
    ∃ t : Fin cfg0.N, (cfg0.win 3).flush t = true ∧ i ∈ ((cfg0.win 3).blk t).view.set := by
  have h0 : (i 0).val < 32768 := (i 0).isLt
  have hN : cfg0.N = 64 := N_0
  have ht : (i 0).val / 512 < cfg0.N := by omega
  exact ⟨⟨(i 0).val / 512, ht⟩, flush0_3 _, mem_block _ i (by dsimp only; omega) (by dsimp only; omega)⟩

/-- The result array after the run. -/
theorem final (c : Dev nD) : (dats m 0 c).arrAt 3 cfg0.N = proj m c :=
  (dats m 0 c).arrAt_eq_of_cover 3 (proj m c) (fun t _ => flushed_eq m c t) cover

/-- The run: the result is `proj` of the arguments, which stay as they were. -/
theorem run : θ_run defs (onTc (τ := τ) (main (F := Ideal))) ⟨m, fun _ => 0, ρ⟩ fun r => ∀ c : Dev nD,
      r.2.mem ((c : Thread nD τ).loc main_v2) = proj m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.InEvenIdeal.Rows

end
-- ==== Proof.InEven.lean ====
/-
  The claims about the input projection of the even layers: the tiled kernel and the plain `rms_norm(x, g) @ w` end
  with the same array, and both leave their arguments alone.
-/
module

public import proofs.«01_k».proof.Defs
public import proofs.«01_k».proof.Proof.InEvenArr
public import proofs.«01_k».proof.Proof.Gen.InEven.Frame
public import proofs.«01_k».proof.Proof.Gen.InEvenRefIdeal.Run
public import Idealize.ShloMosaic.Lib.StackMember
public import Idealize.ShloMosaic.Lib.Quiescent

@[expose] public section

set_option maxRecDepth 16384

noncomputable section

namespace Cert.Proof.InEven

open Idealize.ShloMosaic Idealize.ShloMosaic.TcCoe Idealize.SL.Sem Idealize.ShloMosaic.ValueIdx
open Cert.InEvenRefIdeal Cert.InEvenRefIdeal.Facts₀

/-- The reference's normalised rows, as its host operations write them. -/
abbrev refNormed (x : S32768x1024.Idx → EReal) (g : S1024.Idx → EReal) : S32768x1024.Idx → EReal :=
  mulf (F := Ideal) (φ := .f32) (mulf (F := Ideal) (φ := .f32) x (broadcastInDim S32768x1024 ![0, 1] bcast_S32768x1_S32768x1024_0_1
      (Host.rsqrt (F := Ideal) (φ := .f32) (addf (F := Ideal) (φ := .f32) (Host.divf (F := Ideal) (φ := .f32) (broadcastInDim S32768x1 ![0] bcast_S32768_S32768x1_0
          (Host.reduceAdd (F := Ideal) (φ := .f32) (mulf (F := Ideal) (φ := .f32) x x) (constant S_ .f32 0x00000000#32) reducesTo_S32768x1024_S32768_d1 h_S_))
        (broadcastInDim S32768x1 ![] bcast_S_S32768x1 (constant (F := Ideal) S_ .f32 0x44800000#32)))
        (broadcastInDim S32768x1 ![] bcast_S_S32768x1 (constant (F := Ideal) S_ .f32 0x358637BD#32))))))
    (broadcastInDim S32768x1024 ![0, 1] bcast_S1x1024_S32768x1024_0_1 (broadcastInDim S1x1024 ![1] bcast_S1024_S1x1024_1 g))

/-- The reference's sum along a row. -/
theorem ref_row_sum (v : S32768x1024.Idx → EReal) (r : Fin 32768) :
    (Host.reduceAdd (F := Ideal) (φ := .f32) v (constant S_ .f32 0x00000000#32) reducesTo_S32768x1024_S32768_d1 h_S_ : S32768.Idx → EReal) (ix1 r)
      = ∑ l : Fin 1024, v (ix2 r l) := by
  refine (Ideal.hostReduceAdd_single reducesTo_S32768x1024_S32768_d1 (by decide : S32768x1024.Reduces [1] S32768) v _ (ix1 r)).trans ?_
  show Ideal.ofBits .f32 0x00000000#32 + _ = _
  rw [Ideal.ofBits_zero_f32, zero_add]
  exact Finset.sum_congr rfl fun l _ => congrArg v (Shape.idx_ext₂ rfl rfl)

/-- The reference's normalised rows, entry by entry. -/
theorem refNormed_apply (x : S32768x1024.Idx → EReal) (g : S1024.Idx → EReal) (r : Fin 32768) (k : Fin 1024) :
    refNormed x g (ix2 r k)
      = x (ix2 r k) * Cert.InEvenIdeal.Rows.factor (fun l => x (ix2 r l)) * g (ix1 k) := by
  refine congrArg₂ (· * ·) (congrArg (x (ix2 r k) * ·) ?_) ?_
  · refine (broadcastInDim_apply _ _ _ (ix2 r k) (ix2 r (0 : Fin 1)) fun a => ?_).trans ?_
    · fin_cases a <;> rfl
    · refine congrArg (fun z => Ideal.rsqrt (Ideal.div z (Ideal.ofBits .f32 0x44800000#32) + Ideal.ofBits .f32 0x358637BD#32)) ?_
      refine (broadcastInDim_apply _ _ _ (ix2 r (0 : Fin 1)) (ix1 r) fun a => ?_).trans (ref_row_sum _ r)
      fin_cases a; rfl
  · refine (broadcastInDim_apply _ _ _ (ix2 r k) (ix2 (0 : Fin 1) k) fun a => ?_).trans ?_
    · fin_cases a <;> rfl
    · refine broadcastInDim_apply _ _ g (ix2 (0 : Fin 1) k) (ix1 k) fun a => ?_
      fin_cases a; rfl

/-- The reference's term, entry by entry, over any three arrays. -/
theorem ref_apply (x : S32768x1024.Idx → EReal) (g : S1024.Idx → EReal) (w : S1024x3072.Idx → EReal) (i : S32768x3072.Idx) :
    (truncf (F := Ideal) (φ := .f32) .bf16 (Host.dotGeneral (F := Ideal) dot_S32768x1024_S1024x3072_S32768x3072_1_0_0_1_n_n none
        (refNormed x g) (φ₁ := .f32) (φ₂ := .f32) w) bitsLt_bf16_f32 : S32768x3072.Idx → EReal) i
      = ∑ k : Fin 1024, x (ix2 (i 0) k) * Cert.InEvenIdeal.Rows.factor (fun l => x (ix2 (i 0) l)) * g (ix1 k) * w (ix2 k (i 1)) := by
  obtain ⟨r, j, rfl⟩ : ∃ (r : Fin 32768) (j : Fin 3072), i = ix2 r j := ⟨i 0, i 1, Shape.idx_ext₂ rfl rfl⟩
  refine (StackMember.dotGeneral_plain_apply (m := 32768) (n := 3072) (k := 1024) (φ₁ := .f32) (φ₂ := .f32) none (refNormed x g) w r j).trans ?_
  exact Finset.sum_congr rfl fun k _ => congrArg (· * w (ix2 k j)) (refNormed_apply x g r k)

/-- The kernel's program terminates, leaving its arguments alone and every semaphore at zero. -/
theorem frame : Cert.quiescent_InEven := fun m ρ _ => Cert.InEven.Gen.frame m ρ
/-- So does its ideal program. -/
theorem frame_ideal : Cert.quiescent_InEvenIdeal := fun m ρ _ => Cert.InEvenIdeal.Gen.frame m ρ
/-- So does the reference, which uses no semaphore. -/
theorem frame_ref : Cert.quiescent_InEvenRefIdeal := fun m ρ _ =>
  (θ_run Cert.InEvenRefIdeal.defs _ _).mono (fun r h => ⟨fun c => (h c).2,
      Idealize.ShloMosaic.sem_eq_zero_of_no_sems (by decide) r.2⟩)
    (Cert.InEvenRefIdeal.Value.run (F := Ideal) m ρ)

/-- From equal arguments the two programs end with equal results. -/
theorem algebraic : Cert.algebraic_InEvenIdeal_InEvenRefIdeal := by
  intro m ρ m' ρ' _ hag
  refine ⟨fun c => Cert.InEvenIdeal.Rows.proj m c, Cert.InEvenIdeal.Rows.run m ρ, ?_⟩
  refine (θ_run Cert.InEvenRefIdeal.defs _ _).mono (fun _ h c => ⟨(h c).1.trans ?_, (h c).2⟩)
    (Cert.InEvenRefIdeal.Value.run (F := Ideal) m' ρ')
  obtain ⟨h0, h1, h2⟩ := hag c
  rw [h0, h1, h2]
  exact funext fun i => ref_apply _ _ _ i

end Cert.Proof.InEven

end
-- ==== Proof.OutOddArr.lean ====
/-
  The output projection of the odd layers, `h + y·W`: the whole result array of the tiled kernel. Each of the 64 grid
  points stages 512 rows of `h` and of `y` and the whole weight, and writes back those 512 rows of `h + y·W`.
-/
module

public import proofs.«01_k».proof.Proof.Gen.OutOddIdeal.Value
public import Idealize.ShloMosaic.Lib.ValueIdx
public import Idealize.ShloMosaic.Lib.MatmulPlain

@[expose] public section

set_option maxRecDepth 16384

noncomputable section

namespace Cert.OutOddIdeal.Rows

open Cert.OutOddIdeal Cert.OutOddIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The residual rows `h` as launched. -/
abbrev argH (c : Dev nD) : S32768x1024.Idx → EReal := m ((c : Thread nD τ).loc main_arg0)
/-- The rows `y` as launched. -/
abbrev argY (c : Dev nD) : S32768x2048.Idx → EReal := m ((c : Thread nD τ).loc main_arg1)
/-- The weight as launched. -/
abbrev argW (c : Dev nD) : S2048x1024.Idx → EReal := m ((c : Thread nD τ).loc main_arg2)

/-- The result array, entry by entry: the entry of `h` plus the sum over the 2048 contracted places. -/
def proj (c : Dev nD) : S32768x1024.Idx → EReal := fun i =>
  argH m c i + ∑ k : Fin 2048, argY m c (ix2 (i 0) k) * argW m c (ix2 k (i 1))

/-- The weight the region finds is the argument: at the ideal values the cast to bf16 changes nothing. -/
theorem V_weight (c : Dev nD) (i : S2048x1024.Idx) :
    (V m c main_v0 : S2048x1024.Idx → EReal) i = argW m c i := by
  have e : V m c main_v0 = (truncf (s := S2048x1024) (φ := .f32) (F := Ideal) .bf16 (m ((c : Thread nD τ).loc main_arg2)) bitsLt_bf16_f32) := by
    show StableHlo.after hostOps0 (fun b => m (c, b)) _ = _
    after_results
  rw [e]
  rfl

/-- Where each window's block sits: the row windows move with the grid point, the weight stays. -/
theorem places : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem zeros2 : (![0, 0] : Fin 2 → Nat) = fun _ => 0 := funext fun a => by fin_cases a <;> rfl

/-- The staged rows of `h` at point `t` are rows `512 t + r` of the argument. -/
theorem rows_h (c : Dev nD) (t : Fin cfg0.N) (r : Fin 512) (k : Fin 1024) (h : t.val * 512 + r.val < 32768) :
    (iblk m c 0 t : S512x1024.Idx → EReal) (ix2 r k)
      = argH m c (ix2 ⟨t.val * 512 + r.val, h⟩ k) := by
  obtain ⟨⟨e0, e1⟩, -⟩ := places t
  show (V m c main_arg0 : S32768x1024.Idx → EReal) (((cfg0.win 0).blk t).view.emb (ix2 r k)) = _
  rw [V_main_arg0]
  refine congrArg (argH m c) (Shape.idx_ext₂ ?_ ?_)
  · show win0_0.index t (0 : Fin 2) * 512 + 1 * r.val = t.val * 512 + r.val
    rw [e0]; omega
  · show win0_0.index t (1 : Fin 2) * 1024 + 1 * k.val = k.val
    rw [e1]; omega

/-- The staged rows of `y` at point `t` are rows `512 t + r` of the argument. -/
theorem rows_y (c : Dev nD) (t : Fin cfg0.N) (r : Fin 512) (k : Fin 2048) (h : t.val * 512 + r.val < 32768) :
    (iblk m c 1 t : S512x2048.Idx → EReal) (ix2 r k)
      = argY m c (ix2 ⟨t.val * 512 + r.val, h⟩ k) := by
  obtain ⟨-, ⟨e0, e1⟩, -⟩ := places t
  show (V m c main_arg1 : S32768x2048.Idx → EReal) (((cfg0.win 1).blk t).view.emb (ix2 r k)) = _
  rw [V_main_arg1]
  refine congrArg (argY m c) (Shape.idx_ext₂ ?_ ?_)
  · show win0_1.index t (0 : Fin 2) * 512 + 1 * r.val = t.val * 512 + r.val
    rw [e0]; omega
  · show win0_1.index t (1 : Fin 2) * 2048 + 1 * k.val = k.val
    rw [e1]; omega

/-- The staged weight is the weight. -/
theorem weight (c : Dev nD) (t : Fin cfg0.N) (k : Fin 2048) (j : Fin 1024) :
    (iblk m c 2 t : S2048x1024.Idx → EReal) (ix2 k j)
      = argW m c (ix2 k j) := by
  obtain ⟨-, -, ⟨e0, e1⟩, -⟩ := places t
  show (V m c main_v0 : S2048x1024.Idx → EReal) (((cfg0.win 2).blk t).view.emb (ix2 k j)) = _
  rw [V_weight]
  refine congrArg (argW m c) (Shape.idx_ext₂ ?_ ?_)
  · show win0_2.index t (0 : Fin 2) * 2048 + 1 * k.val = k.val
    rw [e0]; omega
  · show win0_2.index t (1 : Fin 2) * 1024 + 1 * j.val = j.val
    rw [e1]; omega

/-- What the body computes from its three staged blocks, entry by entry. -/
theorem pay_apply (x0 : Vec Ideal S512x1024 .f32) (x1 : Vec Ideal S512x2048 .bf16) (x2 : Vec Ideal S2048x1024 .bf16)
    (r : Fin 512) (j : Fin 1024) :
    (k0_pay1 x0 x1 x2 : S512x1024.Idx → EReal) (ix2 r j)
      = (x0 : S512x1024.Idx → EReal) (ix2 r j)
        + ∑ k : Fin 2048, (x1 : S512x2048.Idx → EReal) (ix2 r k) * (x2 : S2048x1024.Idx → EReal) (ix2 k j) := by
  unfold k0_pay1
  rw [shapeCast_self]
  refine congrArg ((x0 : S512x1024.Idx → EReal) (ix2 r j) + ·)
    ((Ideal.matmul_plain_apply (M := 512) (K := 2048) (N := 1024) none x1 x2 _ r j).trans ?_)
  show Ideal.ofBits .f32 0x00000000#32 + _ = _
  rw [Ideal.ofBits_zero_f32, zero_add]

/-- Point `t` writes back its 512 rows of the result. -/
theorem flushed_eq (c : Dev nD) (t : Fin cfg0.N) :
    (dats m 0 c).flushed 3 t = (win0_3.blk t).view.read (Elt Ideal) (proj m c) := by
  rw [Value.flushed3]
  unfold out0_3
  rw [View.canon_unit_zero zeros2, View.ld_unit_zero zeros2, View.ld_unit_zero zeros2, View.ld_unit_zero zeros2]
  funext y
  obtain ⟨r, j, rfl⟩ : ∃ (r : Fin 512) (j : Fin 1024), y = ix2 r j := ⟨y 0, y 1, Shape.idx_ext₂ rfl rfl⟩
  have hN : t.val < 64 := lt_of_lt_of_eq t.isLt N_0
  have hr := r.isLt
  have h : t.val * 512 + r.val < 32768 := by omega
  obtain ⟨-, -, -, ⟨e0, e1⟩⟩ := places t
  have hi : ((win0_3.blk t).view.emb (ix2 r j) : S32768x1024.Idx) = ix2 ⟨t.val * 512 + r.val, h⟩ j := by
    refine Shape.idx_ext₂ ?_ ?_
    · show win0_3.index t (0 : Fin 2) * 512 + 1 * r.val = t.val * 512 + r.val
      rw [e0]; omega
    · show win0_3.index t (1 : Fin 2) * 1024 + 1 * j.val = j.val
      rw [e1]; omega
  show (k0_pay1 (iblk m c 0 t) (iblk m c 1 t) (iblk m c 2 t) : S512x1024.Idx → EReal) (ix2 r j)
    = proj m c ((win0_3.blk t).view.emb (ix2 r j))
  rw [hi, pay_apply, rows_h m c t r j h]
  show _ = argH m c (ix2 ⟨t.val * 512 + r.val, h⟩ j) + _
  refine congrArg _ (Finset.sum_congr rfl fun k _ => ?_)
  rw [rows_y m c t r k h, weight]

/-- Point `t`'s block of the result is its 512 rows. -/
theorem mem_block (t : Fin cfg0.N) (i : S32768x1024.Idx) (h0 : t.val * 512 ≤ (i 0).val) (h0' : (i 0).val < t.val * 512 + 512) :
    i ∈ ((cfg0.win 3).blk t).view.set := by
  have h1 : (i 1).val < 1024 := (i 1).isLt
  obtain ⟨-, -, -, ⟨e0, e1⟩⟩ := places t
  show i ∈ ((View.whole main_v1).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [e0]; exact ⟨h0, h0'⟩
  | ⟨1, _⟩ =>
    show win0_3.index t (1 : Fin 2) * 1024 ≤ (i 1).val ∧ (i 1).val < win0_3.index t (1 : Fin 2) * 1024 + 1024
    rw [e1]; omega

/-- Every entry is written: row `i` belongs to point `i / 512`. -/
theorem cover (i : S32768x1024.Idx) :
    ∃ t : Fin cfg0.N, (cfg0.win 3).flush t = true ∧ i ∈ ((cfg0.win 3).blk t).view.set := by
  have h0 : (i 0).val < 32768 := (i 0).isLt
  have hN : cfg0.N = 64 := N_0
  have ht : (i 0).val / 512 < cfg0.N := by omega
  exact ⟨⟨(i 0).val / 512, ht⟩, flush0_3 _, mem_block _ i (by dsimp only; omega) (by dsimp only; omega)⟩

/-- The result array after the run. -/
theorem final (c : Dev nD) : (dats m 0 c).arrAt 3 cfg0.N = proj m c :=
  (dats m 0 c).arrAt_eq_of_cover 3 (proj m c) (fun t _ => flushed_eq m c t) cover

/-- The run: the result is `proj` of the arguments, which stay as they were. -/
theorem run : θ_run defs (onTc (τ := τ) (main (F := Ideal))) ⟨m, fun _ => 0, ρ⟩ fun r => ∀ c : Dev nD,
      r.2.mem ((c : Thread nD τ).loc main_v1) = proj m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.OutOddIdeal.Rows

end
-- ==== Proof.OutOdd.lean ====
/-
  The claims about the output projection of the odd layers: the tiled kernel and the plain `h + y @ W` end with the
  same array, and both leave their arguments alone.
-/
module

public import proofs.«01_k».proof.Defs
public import proofs.«01_k».proof.Proof.OutOddArr
public import proofs.«01_k».proof.Proof.Gen.OutOdd.Frame
public import proofs.«01_k».proof.Proof.Gen.OutOddRefIdeal.Run
public import Idealize.ShloMosaic.Lib.StackMember
public import Idealize.ShloMosaic.Lib.Quiescent

@[expose] public section

set_option maxRecDepth 16384

noncomputable section

namespace Cert.Proof.OutOdd

open Idealize.ShloMosaic Idealize.ShloMosaic.TcCoe Idealize.SL.Sem Idealize.ShloMosaic.ValueIdx

/-- The reference's term, entry by entry, over any three arrays. -/
theorem ref_apply (h : Cert.OutOddRefIdeal.S32768x1024.Idx → EReal) (y : Cert.OutOddRefIdeal.S32768x2048.Idx → EReal)
    (w : Cert.OutOddRefIdeal.S2048x1024.Idx → EReal) (i : Cert.OutOddRefIdeal.S32768x1024.Idx) :
    (addf (F := Ideal) (φ := .f32) h (Host.dotGeneral (F := Ideal) Cert.OutOddRefIdeal.dot_S32768x2048_S2048x1024_S32768x1024_1_0_0_1_n_n none
        (extf (F := Ideal) (φ := .bf16) .f32 y Cert.OutOddRefIdeal.Facts₀.bitsLt_bf16_f32) (φ₂ := .f32) w) : Cert.OutOddRefIdeal.S32768x1024.Idx → EReal) i
      = h i + ∑ k : Fin 2048, y (ix2 (i 0) k) * w (ix2 k (i 1)) := by
  obtain ⟨r, j, rfl⟩ : ∃ (r : Fin 32768) (j : Fin 1024), i = ix2 r j := ⟨i 0, i 1, Shape.idx_ext₂ rfl rfl⟩
  exact congrArg (h (ix2 r j) + ·) (StackMember.dotGeneral_plain_apply (m := 32768) (n := 1024) (k := 2048) none y w r j)

/-- The kernel's program terminates, leaving its arguments alone and every semaphore at zero. -/
theorem frame : Cert.quiescent_OutOdd := fun m ρ _ => Cert.OutOdd.Gen.frame m ρ
/-- So does its ideal program. -/
theorem frame_ideal : Cert.quiescent_OutOddIdeal := fun m ρ _ => Cert.OutOddIdeal.Gen.frame m ρ
/-- So does the reference, which uses no semaphore. -/
theorem frame_ref : Cert.quiescent_OutOddRefIdeal := fun m ρ _ =>
  (θ_run Cert.OutOddRefIdeal.defs _ _).mono (fun r h => ⟨fun c => (h c).2,
      Idealize.ShloMosaic.sem_eq_zero_of_no_sems (by decide) r.2⟩)
    (Cert.OutOddRefIdeal.Value.run (F := Ideal) m ρ)

/-- From equal arguments the two programs end with equal results. -/
theorem algebraic : Cert.algebraic_OutOddIdeal_OutOddRefIdeal := by
  intro m ρ m' ρ' _ hag
  refine ⟨fun c => Cert.OutOddIdeal.Rows.proj m c, Cert.OutOddIdeal.Rows.run m ρ, ?_⟩
  refine (θ_run Cert.OutOddRefIdeal.defs _ _).mono (fun _ h c => ⟨(h c).1.trans ?_, (h c).2⟩)
    (Cert.OutOddRefIdeal.Value.run (F := Ideal) m' ρ')
  obtain ⟨h0, h1, h2⟩ := hag c
  rw [h0, h1, h2]
  exact funext fun i => ref_apply _ _ _ i

end Cert.Proof.OutOdd

end
-- ==== Proof.OutEvenArr.lean ====
/-
  The output projection of the even layers, `h + [a b]·W`: the whole result array of the tiled kernel. Each of the 64
  grid points stages 512 rows of `h`, of `a` and of `b`, and the two halves of the weight, and writes back those 512 rows
  of `h + a·W₀ + b·W₁`, where `W₀` is the first 512 rows of the weight and `W₁` the other 512.
-/
module

public import proofs.«01_k».proof.Proof.Gen.OutEvenIdeal.Value
public import Idealize.ShloMosaic.Lib.ValueIdx
public import Idealize.ShloMosaic.Lib.MatmulPlain

@[expose] public section

set_option maxRecDepth 16384

noncomputable section

namespace Cert.OutEvenIdeal.Rows

open Cert.OutEvenIdeal Cert.OutEvenIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The residual rows `h` as launched. -/
abbrev argH (c : Dev nD) : S32768x1024.Idx → EReal := m ((c : Thread nD τ).loc main_arg0)
/-- The rows `a` as launched. -/
abbrev argA (c : Dev nD) : S32768x512.Idx → EReal := m ((c : Thread nD τ).loc main_arg1)
/-- The rows `b` as launched. -/
abbrev argB (c : Dev nD) : S32768x512.Idx → EReal := m ((c : Thread nD τ).loc main_arg2)
/-- The weight as launched. -/
abbrev argW (c : Dev nD) : S1024x1024.Idx → EReal := m ((c : Thread nD τ).loc main_arg3)

/-- The result array, entry by entry: the entry of `h` plus the two sums over the halves of the 1024 contracted places. -/
def proj (c : Dev nD) : S32768x1024.Idx → EReal := fun i =>
  argH m c i + ∑ k : Fin 512, argA m c (ix2 (i 0) k) * argW m c (ix2 (k.castLE (by omega)) (i 1))
    + ∑ k : Fin 512, argB m c (ix2 (i 0) k) * argW m c (ix2 (⟨512 + k.val, by omega⟩ : Fin 1024) (i 1))

/-- The first half of the weight the region finds is the argument's first 512 rows: the cast to bf16 changes nothing. -/
theorem V_upper (c : Dev nD) (k : Fin 512) (j : Fin 1024) :
    (V m c main_v1 : S512x1024.Idx → EReal) (ix2 k j) = argW m c (ix2 (k.castLE (by omega)) j) := by
  have e : V m c main_v1 = (truncf (s := S512x1024) (φ := .f32) (F := Ideal) .bf16
      (extractStridedSlice S512x1024 ![0, 0] (m ((c : Thread nD τ).loc main_arg3)) slices_S1024x1024_S512x1024_0_0) bitsLt_bf16_f32) := by
    show StableHlo.after hostOps0 (fun b => m (c, b)) _ = _
    after_results
  rw [e]
  refine congrArg (argW m c) (Shape.idx_ext₂ ?_ ?_)
  · show 0 + k.val = k.val; omega
  · show 0 + j.val = j.val; omega

/-- The second half is the argument's other 512 rows. -/
theorem V_lower (c : Dev nD) (k : Fin 512) (j : Fin 1024) :
    (V m c main_v3 : S512x1024.Idx → EReal) (ix2 k j) = argW m c (ix2 (⟨512 + k.val, by omega⟩ : Fin 1024) j) := by
  have e : V m c main_v3 = (truncf (s := S512x1024) (φ := .f32) (F := Ideal) .bf16
      (extractStridedSlice S512x1024 ![512, 0] (m ((c : Thread nD τ).loc main_arg3)) slices_S1024x1024_S512x1024_512_0) bitsLt_bf16_f32) := by
    show StableHlo.after hostOps0 (fun b => m (c, b)) _ = _
    after_results
  rw [e]
  refine congrArg (argW m c) (Shape.idx_ext₂ ?_ ?_)
  · show 512 + k.val = 512 + k.val; omega
  · show 0 + j.val = j.val; omega

/-- Where each window's block sits: the row windows move with the grid point, the two weight blocks stay. -/
theorem places : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

theorem zeros2 : (![0, 0] : Fin 2 → Nat) = fun _ => 0 := funext fun a => by fin_cases a <;> rfl

/-- The staged rows of `h` at point `t` are rows `512 t + r` of the argument. -/
theorem rows_h (c : Dev nD) (t : Fin cfg0.N) (r : Fin 512) (k : Fin 1024) (h : t.val * 512 + r.val < 32768) :
    (iblk m c 0 t : S512x1024.Idx → EReal) (ix2 r k)
      = argH m c (ix2 ⟨t.val * 512 + r.val, h⟩ k) := by
  obtain ⟨⟨e0, e1⟩, -⟩ := places t
  show (V m c main_arg0 : S32768x1024.Idx → EReal) (((cfg0.win 0).blk t).view.emb (ix2 r k)) = _
  rw [V_main_arg0]
  refine congrArg (argH m c) (Shape.idx_ext₂ ?_ ?_)
  · show win0_0.index t (0 : Fin 2) * 512 + 1 * r.val = t.val * 512 + r.val
    rw [e0]; omega
  · show win0_0.index t (1 : Fin 2) * 1024 + 1 * k.val = k.val
    rw [e1]; omega

/-- The staged rows of `a` at point `t` are rows `512 t + r` of the argument. -/
theorem rows_a (c : Dev nD) (t : Fin cfg0.N) (r : Fin 512) (k : Fin 512) (h : t.val * 512 + r.val < 32768) :
    (iblk m c 1 t : S512x512.Idx → EReal) (ix2 r k) = argA m c (ix2 ⟨t.val * 512 + r.val, h⟩ k) := by
  obtain ⟨-, ⟨e0, e1⟩, -⟩ := places t
  show (V m c main_arg1 : S32768x512.Idx → EReal) (((cfg0.win 1).blk t).view.emb (ix2 r k)) = _
  rw [V_main_arg1]
  refine congrArg (argA m c) (Shape.idx_ext₂ ?_ ?_)
  · show win0_1.index t (0 : Fin 2) * 512 + 1 * r.val = t.val * 512 + r.val
    rw [e0]; omega
  · show win0_1.index t (1 : Fin 2) * 512 + 1 * k.val = k.val
    rw [e1]; omega

/-- The staged rows of `b` at point `t` are rows `512 t + r` of the argument. -/
theorem rows_b (c : Dev nD) (t : Fin cfg0.N) (r : Fin 512) (k : Fin 512) (h : t.val * 512 + r.val < 32768) :
    (iblk m c 2 t : S512x512.Idx → EReal) (ix2 r k) = argB m c (ix2 ⟨t.val * 512 + r.val, h⟩ k) := by
  obtain ⟨-, -, ⟨e0, e1⟩, -⟩ := places t
  show (V m c main_arg2 : S32768x512.Idx → EReal) (((cfg0.win 2).blk t).view.emb (ix2 r k)) = _
  rw [V_main_arg2]
  refine congrArg (argB m c) (Shape.idx_ext₂ ?_ ?_)
  · show win0_2.index t (0 : Fin 2) * 512 + 1 * r.val = t.val * 512 + r.val
    rw [e0]; omega
  · show win0_2.index t (1 : Fin 2) * 512 + 1 * k.val = k.val
    rw [e1]; omega

/-- The staged first half of the weight. -/
theorem upper (c : Dev nD) (t : Fin cfg0.N) (k : Fin 512) (j : Fin 1024) :
    (iblk m c 3 t : S512x1024.Idx → EReal) (ix2 k j) = argW m c (ix2 (k.castLE (by omega)) j) := by
  obtain ⟨-, -, -, ⟨e0, e1⟩, -⟩ := places t
  rw [← V_upper]
  show (V m c main_v1 : S512x1024.Idx → EReal) (((cfg0.win 3).blk t).view.emb (ix2 k j)) = _
  refine congrArg (V m c main_v1 : S512x1024.Idx → EReal) (Shape.idx_ext₂ ?_ ?_)
  · show win0_3.index t (0 : Fin 2) * 512 + 1 * k.val = k.val
    rw [e0]; omega
  · show win0_3.index t (1 : Fin 2) * 1024 + 1 * j.val = j.val
    rw [e1]; omega

/-- The staged second half of the weight. -/
theorem lower (c : Dev nD) (t : Fin cfg0.N) (k : Fin 512) (j : Fin 1024) :
    (iblk m c 4 t : S512x1024.Idx → EReal) (ix2 k j) = argW m c (ix2 (⟨512 + k.val, by omega⟩ : Fin 1024) j) := by
  obtain ⟨-, -, -, -, ⟨e0, e1⟩, -⟩ := places t
  rw [← V_lower]
  show (V m c main_v3 : S512x1024.Idx → EReal) (((cfg0.win 4).blk t).view.emb (ix2 k j)) = _
  refine congrArg (V m c main_v3 : S512x1024.Idx → EReal) (Shape.idx_ext₂ ?_ ?_)
  · show win0_4.index t (0 : Fin 2) * 512 + 1 * k.val = k.val
    rw [e0]; omega
  · show win0_4.index t (1 : Fin 2) * 1024 + 1 * j.val = j.val
    rw [e1]; omega

/-- A product accumulated from zero, entry by entry. -/
theorem mm_apply (x : S512x512.Idx → EReal) (w : S512x1024.Idx → EReal) (r : Fin 512) (j : Fin 1024) :
    (FloatOps.matmul (F := Ideal) (DotDims.plain 512 512 1024) none (φ₁ := .bf16) (φ₂ := .bf16) x w
        (constant (F := Ideal) S512x1024 .f32 0x00000000#32) : S512x1024.Idx → EReal) (ix2 r j)
      = ∑ k : Fin 512, x (ix2 r k) * w (ix2 k j) := by
  refine (Ideal.matmul_plain_apply (M := 512) (K := 512) (N := 1024) none x w _ r j).trans ?_
  show Ideal.ofBits .f32 0x00000000#32 + _ = _
  rw [Ideal.ofBits_zero_f32, zero_add]

/-- What the body computes from its five staged blocks, entry by entry. -/
theorem pay_apply (x0 : Vec Ideal S512x1024 .f32) (x1 : Vec Ideal S512x512 .bf16) (x2 : Vec Ideal S512x1024 .bf16)
    (x3 : Vec Ideal S512x512 .bf16) (x4 : Vec Ideal S512x1024 .bf16) (r : Fin 512) (j : Fin 1024) :
    (k0_pay1 x0 x1 x2 x3 x4 : S512x1024.Idx → EReal) (ix2 r j)
      = (x0 : S512x1024.Idx → EReal) (ix2 r j)
        + (∑ k : Fin 512, (x1 : S512x512.Idx → EReal) (ix2 r k) * (x2 : S512x1024.Idx → EReal) (ix2 k j))
        + ∑ k : Fin 512, (x3 : S512x512.Idx → EReal) (ix2 r k) * (x4 : S512x1024.Idx → EReal) (ix2 k j) := by
  unfold k0_pay1
  rw [shapeCast_self, shapeCast_self, ← mm_apply, ← mm_apply]
  rfl

/-- Point `t` writes back its 512 rows of the result. -/
theorem flushed_eq (c : Dev nD) (t : Fin cfg0.N) :
    (dats m 0 c).flushed 5 t = (win0_5.blk t).view.read (Elt Ideal) (proj m c) := by
  rw [Value.flushed5]
  unfold out0_5
  rw [View.canon_unit_zero zeros2, View.ld_unit_zero zeros2, View.ld_unit_zero zeros2,
    View.ld_unit_zero zeros2, View.ld_unit_zero zeros2, View.ld_unit_zero zeros2]
  funext y
  obtain ⟨r, j, rfl⟩ : ∃ (r : Fin 512) (j : Fin 1024), y = ix2 r j := ⟨y 0, y 1, Shape.idx_ext₂ rfl rfl⟩
  have hN : t.val < 64 := lt_of_lt_of_eq t.isLt N_0
  have hr := r.isLt
  have h : t.val * 512 + r.val < 32768 := by omega
  obtain ⟨-, -, -, -, -, ⟨e0, e1⟩⟩ := places t
  have hi : ((win0_5.blk t).view.emb (ix2 r j) : S32768x1024.Idx) = ix2 ⟨t.val * 512 + r.val, h⟩ j := by
    refine Shape.idx_ext₂ ?_ ?_
    · show win0_5.index t (0 : Fin 2) * 512 + 1 * r.val = t.val * 512 + r.val
      rw [e0]; omega
    · show win0_5.index t (1 : Fin 2) * 1024 + 1 * j.val = j.val
      rw [e1]; omega
  show (k0_pay1 (iblk m c 0 t) (iblk m c 1 t) (iblk m c 3 t) (iblk m c 2 t) (iblk m c 4 t) : S512x1024.Idx → EReal) (ix2 r j)
    = proj m c ((win0_5.blk t).view.emb (ix2 r j))
  rw [hi, pay_apply, rows_h m c t r j h]
  show _ = argH m c (ix2 ⟨t.val * 512 + r.val, h⟩ j) + _ + _
  refine congrArg₂ (fun p q => argH m c (ix2 ⟨t.val * 512 + r.val, h⟩ j) + p + q)
    (Finset.sum_congr rfl fun k _ => ?_) (Finset.sum_congr rfl fun k _ => ?_)
  · rw [rows_a m c t r k h, upper]
  · rw [rows_b m c t r k h, lower]

/-- Point `t`'s block of the result is its 512 rows. -/
theorem mem_block (t : Fin cfg0.N) (i : S32768x1024.Idx) (h0 : t.val * 512 ≤ (i 0).val) (h0' : (i 0).val < t.val * 512 + 512) :
    i ∈ ((cfg0.win 5).blk t).view.set := by
  have h1 : (i 1).val < 1024 := (i 1).isLt
  obtain ⟨-, -, -, -, -, ⟨e0, e1⟩⟩ := places t
  show i ∈ ((View.whole main_v4).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    rw [e0]; exact ⟨h0, h0'⟩
  | ⟨1, _⟩ =>
    show win0_5.index t (1 : Fin 2) * 1024 ≤ (i 1).val ∧ (i 1).val < win0_5.index t (1 : Fin 2) * 1024 + 1024
    rw [e1]; omega

/-- Every entry is written: row `i` belongs to point `i / 512`. -/
theorem cover (i : S32768x1024.Idx) :
    ∃ t : Fin cfg0.N, (cfg0.win 5).flush t = true ∧ i ∈ ((cfg0.win 5).blk t).view.set := by
  have h0 : (i 0).val < 32768 := (i 0).isLt
  have hN : cfg0.N = 64 := N_0
  have ht : (i 0).val / 512 < cfg0.N := by omega
  exact ⟨⟨(i 0).val / 512, ht⟩, flush0_5 _, mem_block _ i (by dsimp only; omega) (by dsimp only; omega)⟩

/-- The result array after the run. -/
theorem final (c : Dev nD) : (dats m 0 c).arrAt 5 cfg0.N = proj m c :=
  (dats m 0 c).arrAt_eq_of_cover 5 (proj m c) (fun t _ => flushed_eq m c t) cover

/-- The run: the result is `proj` of the arguments, which stay as they were. -/
theorem run : θ_run defs (onTc (τ := τ) (main (F := Ideal))) ⟨m, fun _ => 0, ρ⟩ fun r => ∀ c : Dev nD,
      r.2.mem ((c : Thread nD τ).loc main_v4) = proj m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.OutEvenIdeal.Rows

end
-- ==== Proof.OutEven.lean ====
/-
  The claims about the output projection of the even layers: the tiled kernel and the plain `h + concat(a, b) @ W` end with the
  same array, and both leave their arguments alone.
-/
module

public import proofs.«01_k».proof.Defs
public import proofs.«01_k».proof.Proof.OutEvenArr
public import proofs.«01_k».proof.Proof.Gen.OutEven.Frame
public import proofs.«01_k».proof.Proof.Gen.OutEvenRefIdeal.Run
public import Idealize.ShloMosaic.Lib.StackMember
public import Idealize.ShloMosaic.Lib.Quiescent

@[expose] public section

set_option maxRecDepth 16384

noncomputable section

namespace Cert.Proof.OutEven

open Idealize.ShloMosaic Idealize.ShloMosaic.TcCoe Idealize.SL.Sem Idealize.ShloMosaic.ValueIdx

open Cert.OutEvenRefIdeal Cert.OutEvenRefIdeal.Facts₀ in
/-- The reference's term, entry by entry, over any four arrays: the sum over the 1024 contracted places is the sum over
    the first 512, where the concatenation reads `a`, plus the sum over the others, where it reads `b`. -/
theorem ref_apply (h : S32768x1024.Idx → EReal) (a b : S32768x512.Idx → EReal) (w : S1024x1024.Idx → EReal) (i : S32768x1024.Idx) :
    (addf (F := Ideal) (φ := .f32) h (Host.dotGeneral (F := Ideal) dot_S32768x1024_S1024x1024_S32768x1024_1_0_0_1_n_n none (φ₁ := .f32)
        (concatenate S32768x1024 1 [⟨S32768x512, extf (F := Ideal) (φ := .bf16) .f32 a bitsLt_bf16_f32⟩,
          ⟨S32768x512, extf (F := Ideal) (φ := .bf16) .f32 b bitsLt_bf16_f32⟩] concatenates_S32768x512_S32768x512_S32768x1024_d1)
        (φ₂ := .f32) w) : S32768x1024.Idx → EReal) i
      = h i + ∑ k : Fin 512, a (ix2 (i 0) k) * w (ix2 (k.castLE (by omega)) (i 1))
        + ∑ k : Fin 512, b (ix2 (i 0) k) * w (ix2 (⟨512 + k.val, by omega⟩ : Fin 1024) (i 1)) := by
  obtain ⟨r, j, rfl⟩ : ∃ (r : Fin 32768) (j : Fin 1024), i = ix2 r j := ⟨i 0, i 1, Shape.idx_ext₂ rfl rfl⟩
  refine (congrArg (h (ix2 r j) + ·) (StackMember.dotGeneral_plain_apply (m := 32768) (n := 1024) (k := 1024) none _ w r j)).trans ?_
  refine (congrArg (h (ix2 r j) + ·) (Fin.sum_univ_add (a := 512) (b := 512) _)).trans ?_
  rw [← add_assoc]
  refine congrArg₂ (fun p q => h (ix2 r j) + p + q) (Finset.sum_congr rfl fun k _ => ?_) (Finset.sum_congr rfl fun k _ => ?_)
  · refine congrArg₂ (· * ·) (concatenate_pair_apply_left (t := S32768x1024) (s₁ := S32768x512) (s₂ := S32768x512) 1 a b _ _ rfl (ix2 r k) ?_) ?_
    · intro d
      match d with
      | ⟨0, _⟩ => rfl
      | ⟨1, _⟩ => rfl
    · exact congrArg w (Shape.idx_ext₂ rfl rfl)
  · refine congrArg₂ (· * ·) (concatenate_pair_apply_right (t := S32768x1024) (s₁ := S32768x512) (s₂ := S32768x512) 1 a b _ _ rfl rfl (ix2 r k) ?_ ?_) ?_
    · intro d hd
      match d, hd with
      | ⟨0, _⟩, _ => rfl
      | ⟨1, _⟩, hd => exact absurd rfl hd
    · show k.val + 512 = 512 + k.val
      omega
    · exact congrArg w (Shape.idx_ext₂ rfl rfl)

/-- The kernel's program terminates, leaving its arguments alone and every semaphore at zero. -/
theorem frame : Cert.quiescent_OutEven := fun m ρ _ => Cert.OutEven.Gen.frame m ρ
/-- So does its ideal program. -/
theorem frame_ideal : Cert.quiescent_OutEvenIdeal := fun m ρ _ => Cert.OutEvenIdeal.Gen.frame m ρ
/-- So does the reference, which uses no semaphore. -/
theorem frame_ref : Cert.quiescent_OutEvenRefIdeal := fun m ρ _ =>
  (θ_run Cert.OutEvenRefIdeal.defs _ _).mono (fun r h => ⟨fun c => (h c).2,
      Idealize.ShloMosaic.sem_eq_zero_of_no_sems (by decide) r.2⟩)
    (Cert.OutEvenRefIdeal.Value.run (F := Ideal) m ρ)

/-- From equal arguments the two programs end with equal results. -/
theorem algebraic : Cert.algebraic_OutEvenIdeal_OutEvenRefIdeal := by
  intro m ρ m' ρ' _ hag
  refine ⟨fun c => Cert.OutEvenIdeal.Rows.proj m c, Cert.OutEvenIdeal.Rows.run m ρ, ?_⟩
  refine (θ_run Cert.OutEvenRefIdeal.defs _ _).mono (fun _ h c => ⟨(h c).1.trans ?_, (h c).2⟩)
    (Cert.OutEvenRefIdeal.Value.run (F := Ideal) m' ρ')
  obtain ⟨h0, h1, h2, h3⟩ := hag c
  rw [h0, h1, h2, h3]
  exact funext fun i => ref_apply _ _ _ _ i

end Cert.Proof.OutEven

end
-- ==== Proof.MoeKit.lean ====
/-
The kit of the mixture-of-experts call, written by hand because its kernel keeps row copies in flight from one
grid point to the next: what the host operations before the region leave (`V`), the prefetched tables, the block
each input window stages at a point (`iblk`), and the resources the region hands the kernel, listed one by one.
-/
module

public import proofs.«01_k».proof.Proof.Gen.Moe.Launch
public import proofs.«01_k».proof.Proof.Gen.Moe.Skeleton
public import proofs.«01_k».proof.Proof.Gen.Moe.Loops
public import Idealize.ShloMosaic.Lib.Pipeline.FrameBody
public import Idealize.ShloMosaic.Lib.Ring
public import Idealize.ShloMosaic.Lib.Batch
public import Idealize.ShloMosaic.Lib.Tactic
public import Idealize.ShloMosaic.Lib.WordCmp

@[expose] public section

set_option maxRecDepth 16384

noncomputable section

namespace Cert.Moe.Hand

open Cert.Moe Cert.Moe.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource model of the certificate: the pipeline's, over the values `F`. -/
abbrev MM (F : FTy → Type) [FloatOps F] := MT nD τ sig Unit (Elt F) ℕ (Pipeline.UD sig nD τ) ℕ

variable (m : (ℓ : Loc nD τ sig) → Buf (Elt F) ℓ) (ρ : Dev nD → PrngReg)
/-! ## @main up to the region -/

/-- Core `c`'s buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The whole program is the host operations and then the region. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The same of argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The same of argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The same of argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The same of argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The same of argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The same of argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The same of argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The same of argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (`ok0`). The frame holds
    under it; it follows from the precondition (MoeFrame.lean). -/
abbrev Ok : Prop := ok0 (F := F) (tbl m)
/-- The tables' contents with that condition, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S288 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table's buffer on core `c`: the type of its contents, and half of it held at `f`, which suffices to read; the
    pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MM F) :=
  M.view.loc (c : Thread nD τ) ↦{fullShare.right} f

/-- The tables' halves the region hands the body and takes back, table by table. -/
theorem PhiT0_eq (c : Dev nD) : (Pipeline.ΦT pre0 (tbl m) c : sProp (MM F)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every point, fetched there or not. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not. -/
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not. -/
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not. -/
theorem before0_3_of (hO : Ok m) {c : Dev nD} (dat : Dat τ (Elt F) Unit ℕ (Pipeline.UD sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not. -/
theorem before0_4_of (hO : Ok m) {c : Dev nD} (dat : Dat τ (Elt F) Unit ℕ (Pipeline.UD sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not. -/
theorem before0_5_of (hO : Ok m) {c : Dev nD} (dat : Dat τ (Elt F) Unit ℕ (Pipeline.UD sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not. -/
theorem before0_6_of (hO : Ok m) {c : Dev nD} (dat : Dat τ (Elt F) Unit ℕ (Pipeline.UD sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## What the kernel body is called with -/

/-- Each window's current staging memref at point `t`, spelled as the pipeline passes it (`bodyAt0`), and its wholeness. -/
abbrev ms0_0 (hO : Ok m) (t : Fin (cfgM m hO).N) : Memref sig .tc .smem S1x1x512 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .smem S1x1x512 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x2048 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x2048 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S512x1024 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S2x512x1024 .f32 := Memref.whole cc0_scratch0
/-- The operands left in HBM that the body copies into scratch itself, whole. -/
abbrev hbM0_0 : Memref sig .tc .hbm S32768x1024 .f32 := Memref.whole main_arg3
/-- The buffer of `M` on core `c`: the type of its contents, and the whole of it held at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MM F) :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 15, SemLoc.dma 16] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp (MM F))
      = iprop(semVal ((c : Thread nD τ), SemLoc.dma 15) 0 ∗ semVal ((c : Thread nD τ), SemLoc.dma 16) 0) := by
  rw [Pipeline.ownSems0_eq_of_list c osem0 [0, 1] (by decide) (by decide)]; rfl
/-- The HBM operands the body moves, as references: unscoped, no window's array, no table (`Pipeline.restRefsP`). -/
def H0 : Finset (Ref sig .tc) := {main_arg3}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp (MM F)) = iprop(hbPt0 c hbM0_0 (V m c main_arg3)) := by
  rw [BI.bigSep_eq_bigSepL_of_eq [main_arg3] (by decide) (by decide)]; rfl

/-- The invariant of a body with transfers of its own, `Pipeline.ΦD`, conjunct by conjunct: the scratch operands owned at
    some contents, the generator register at some state, the own cells at zero, the HBM operands at their launch
    contents. -/
theorem PhiD0_eq (c : Dev nD) :
    (Pipeline.ΦD osem0 spec0 H0 (V m) c : sProp (MM F))
      = iprop(iprop((∃ d, owns (c : Thread nD τ) scM0_0 fullShare d)) ∗ (∃ r, prngReg c r) ∗ iprop(semVal ((c : Thread nD τ), SemLoc.dma 15) 0 ∗ semVal ((c : Thread nD τ), SemLoc.dma 16) 0) ∗ iprop(hbPt0 c hbM0_0 (V m c main_arg3))) := by
  rw [Pipeline.ΦD_eq, scopedRest0_eq, ownSems00_eq, hbmPts0_eq]; simp only [scM0_0, owns_whole]; try rfl

/-- The body as the pipeline calls it at point `t`. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (Memref.whole main_arg3) (Memref.isWhole_whole _) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) cc0_scratch1

end Cert.Moe.Hand

end
-- ==== Proof.MoeRows.lean ====
/-
The row copies of the mixture-of-experts call. A block's 512 rows are copied one by one from the hidden states into
one half of the scratch, all on that half's semaphore. This module says what a half holds while it rests (`Idle`),
while its copies are being started (`Started`), while they are in flight (`Flying`) and once they have landed
(`Landed`), and proves the one step of each kind: a copy started, a copy awaited.
-/
module

public import proofs.«01_k».proof.Proof.MoeKit
public import Idealize.ShloMosaic.Lib.ValueLayout

@[expose] public section

set_option maxRecDepth 16384

noncomputable section

namespace Cert.Moe.Hand

open Cert.Moe Cert.Moe.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The scratch rows and the rows of the hidden states -/

theorem slab_inb (s : Fin 2) : ∀ a, (![s.val, 0, 0] : Fin 3 → ℕ) a + S1x512x1024.size a ≤ S2x512x1024.size a := by
  have := s.isLt
  intro a; fin_cases a
  · show s.val + 1 ≤ 2; omega
  · show 0 + 512 ≤ 512; omega
  · show 0 + 1024 ≤ 1024; omega

theorem row_inb (r : Fin 512) : ∀ a, (![r.val, 0] : Fin 2 → ℕ) a + S1x1024.size a ≤ S512x1024.size a := by
  have := r.isLt
  intro a; fin_cases a
  · show r.val + 1 ≤ 512; omega
  · show 0 + 1024 ≤ 1024; omega

theorem hrow_inb (t : Fin 32768) : ∀ a, (![t.val, 0] : Fin 2 → ℕ) a + S1x1024.size a ≤ S32768x1024.size a := by
  have := t.isLt
  intro a; fin_cases a
  · show t.val + 1 ≤ 32768; omega
  · show 0 + 1024 ≤ 1024; omega

/-- Half `s` of the scratch: the 512 rows one block's copies land in. -/
def slab (s : Fin 2) : Memref sig .tc .vmem S512x1024 .f32 :=
  (scM0_0.slice (Rect.unit (s := S2x512x1024) ![s.val, 0, 0] S1x512x1024.size (slab_inb s)) (fun _ => rfl)).squeeze S512x1024 squeezes_S1x512x1024_S512x1024

/-- Row `r` of that half, as a copy's destination. -/
def row (s : Fin 2) (r : Fin 512) : Memref sig .tc .vmem S1x1024 .f32 :=
  (slab s).slice (Rect.unit (s := S512x1024) ![r.val, 0] S1x1024.size (row_inb r)) (fun _ => rfl)

/-- Row `t` of the hidden states, as a copy's source. -/
def hrow (t : Fin 32768) : Memref sig .tc .hbm S1x1024 .f32 :=
  hbM0_0.slice (Rect.unit (s := S32768x1024) ![t.val, 0] S1x1024.size (hrow_inb t)) (fun _ => rfl)

/-- The semaphore the copies into half `s` complete on. -/
def cell (s : Fin 2) : DmaSem sig := if s = 0 then 15 else 16

theorem row_emb (s : Fin 2) (r : Fin 512) (x : S1x1024.Idx) :
    (row s r).view.emb x = (ix3 s r (x 1) : S2x512x1024.Idx) := by
  have h1 : (Rect.unit (s := S512x1024) ![r.val, 0] S1x1024.size (row_inb r)).emb x = (ix2 r (x 1) : S512x1024.Idx) := by
    have hx : (x 0).val = 0 := by have h : (x 0).val < 1 := (x 0).isLt; omega
    funext a; apply Fin.ext
    fin_cases a
    · show r.val + 1 * (x 0).val = r.val; omega
    · show 0 + 1 * (x 1).val = (x 1).val; omega
  show (slab s).view.emb ((Rect.unit (s := S512x1024) ![r.val, 0] S1x1024.size (row_inb r)).emb x) = _
  rw [h1]
  show (Rect.unit (s := S2x512x1024) ![s.val, 0, 0] S1x512x1024.size (slab_inb s)).emb
    (Shape.reshapeEquiv squeezes_S1x512x1024_S512x1024.numel_eq (ix2 r (x 1))) = _
  refine (congrArg (fun z : S1x512x1024.Idx => (Rect.unit (s := S2x512x1024) ![s.val, 0, 0] S1x512x1024.size (slab_inb s)).emb z)
    (reshapeEquiv_ix2_1ab (a := 512) (b := 1024) squeezes_S1x512x1024_S512x1024.numel_eq r (x 1))).trans ?_
  funext a; apply Fin.ext
  fin_cases a
  · show s.val + 1 * 0 = s.val; omega
  · show 0 + 1 * r.val = r.val; omega
  · show 0 + 1 * (x 1).val = (x 1).val; omega

theorem hrow_emb (t : Fin 32768) (x : S1x1024.Idx) :
    (hrow t).view.emb x = (ix2 t (x 1) : S32768x1024.Idx) := by
  show (Rect.unit (s := S32768x1024) ![t.val, 0] S1x1024.size (hrow_inb t)).emb x = _
  have hx : (x 0).val = 0 := by have h : (x 0).val < 1 := (x 0).isLt; omega
  funext a; apply Fin.ext
  fin_cases a
  · show t.val + 1 * (x 0).val = t.val; omega
  · show 0 + 1 * (x 1).val = (x 1).val; omega

/-- The elements of row `r` of half `s`. -/
def rowSet (s : Fin 2) (r : Fin 512) : Finset S2x512x1024.Idx := (row s r).view.set
/-- The elements of half `s`. -/
def slabSet (s : Fin 2) : Finset S2x512x1024.Idx := Finset.univ.biUnion (rowSet s)
/-- The elements of row `t` of the hidden states. -/
def hrowSet (t : Fin 32768) : Finset S32768x1024.Idx := (hrow t).view.set

theorem mem_rowSet (s : Fin 2) (r : Fin 512) (y : S2x512x1024.Idx) : y ∈ rowSet s r ↔ y 0 = s ∧ y 1 = r := by
  constructor
  · intro h
    obtain ⟨x, -, hx⟩ := Finset.mem_map.mp h
    have hx' := (row_emb s r x).symm.trans hx
    rw [← hx']; exact ⟨rfl, rfl⟩
  · rintro ⟨h0, h1⟩
    refine Finset.mem_map.mpr ⟨(ix2 0 (y 2) : S1x1024.Idx), Finset.mem_univ _, (row_emb s r _).trans ?_⟩
    show (ix3 s r (y 2) : S2x512x1024.Idx) = y
    rw [← h0, ← h1]; exact (eq_ix3 y).symm

theorem mem_slabSet (s : Fin 2) (y : S2x512x1024.Idx) : y ∈ slabSet s ↔ y 0 = s := by
  unfold slabSet
  simp only [Finset.mem_biUnion, Finset.mem_univ, true_and, mem_rowSet]
  exact ⟨fun ⟨_, h, _⟩ => h, fun h => ⟨y 1, h, rfl⟩⟩

theorem rowSet_disjoint (s : Fin 2) : ∀ r r' : Fin 512, r ≠ r' → Disjoint (rowSet s r) (rowSet s r') := fun r r' hne => by
  rw [Finset.disjoint_left]; intro y hy hy'; rw [mem_rowSet] at hy hy'; exact hne (hy.2.symm.trans hy'.2)

theorem slabSet_compl : (Finset.univ \ slabSet 0 : Finset S2x512x1024.Idx) = slabSet 1 := by
  ext y
  rw [Finset.mem_sdiff, mem_slabSet, mem_slabSet]
  have h : (y 0).val < 2 := (y 0).isLt
  constructor
  · rintro ⟨-, h0⟩
    apply Fin.ext
    have : (y 0).val ≠ 0 := fun hh => h0 (Fin.ext hh)
    show (y 0).val = 1; omega
  · intro h1
    exact ⟨Finset.mem_univ _, fun h0 => by rw [h0] at h1; exact absurd (congrArg Fin.val h1) (by show ¬ (0 = 1); omega)⟩

/-! ## What one half of the scratch holds -/

/-- The gathered rows as scratch contents: row `r` holds row `tk r` of the hidden states. -/
def gath (tk : Fin 512 → Fin 32768) (hc : S32768x1024.Idx → Elt F .f32) : S2x512x1024.Idx → Elt F .f32 :=
  fun y => hc (ix2 (tk (y 1)) (y 2))

theorem write_row (s : Fin 2) (r : Fin 512) (tk : Fin 512 → Fin 32768) (hc : S32768x1024.Idx → Elt F .f32)
    (fd : S2x512x1024.Idx → Elt F .f32) : ∀ y ∈ rowSet s r,
    (row s r).view.write (Elt F) fd (ReadAs.same.apply ((hrow (tk r)).view.read (Elt F) hc)) Finset.univ y = gath tk hc y := by
  intro y hy
  obtain ⟨x, -, rfl⟩ := Finset.mem_map.mp hy
  refine (View.write_emb_of_mem (v := (row s r).view) _ _ (Finset.mem_univ x)).trans ?_
  exact (congrArg hc (hrow_emb (tk r) x)).trans (congrArg (gath tk hc) (row_emb s r x)).symm

/-- The share of the hidden states half `s` reads them by. -/
def hs (s : Fin 2) : PosShare TreeShare := if s = 0 then fullShare.left else fullShare.right

abbrev scL (c : Dev nD) : Loc nD τ sig := scM0_0.view.loc (c : Thread nD τ)
abbrev hL (c : Dev nD) : Loc nD τ sig := hbM0_0.view.loc (c : Thread nD τ)

/-- What copy `r` into half `s` delivers: the row landed, and the read share of its source row back. -/
def deliv (c : Dev nD) (s : Fin 2) (tk : Fin 512 → Fin 32768) (hc : S32768x1024.Idx → Elt F .f32) (r : Fin 512) : sProp (MM F) :=
  iprop((scL c ↦[rowSet s r]{fullShare} gath tk hc) ∗ (hL c ↦[hrowSet (tk r)]{Transfers.shareTok (hs s) 512 r} hc))

instance deliv_storable (c : Dev nD) (s : Fin 2) (tk : Fin 512 → Fin 32768) (hc : S32768x1024.Idx → Elt F .f32) (r : Fin 512) :
    BI.Storable (upEmb : UEmb _ (MM F)) (deliv c s tk hc r) := by
  unfold deliv; infer_instance

/-- The units one row's copy credits. -/
def NN : ℕ := (row 0 0).view.dmaCredit

theorem row_credit (s : Fin 2) (r : Fin 512) : (row s r).view.dmaCredit = NN := rfl

theorem NN_pos : 0 < NN := View.dmaCredit_pos _ (by decide)

/-- The counters of the copies on half `s`'s semaphore: `j` issued, `u` units consumed. -/
abbrev batch (c : Dev nD) (s : Fin 2) (tk : Fin 512 → Fin 32768) (hc : S32768x1024.Idx → Elt F .f32) (j u : ℕ) : sProp (MM F) :=
  Transfers.Batch (countersEmb (U := Pipeline.UD sig nD τ)) (c : Thread nD τ) (.dma (cell s)) () NN (deliv c s tk hc) j u

/-- Half `s` at rest: its rows at some contents, its semaphore at zero, its share of the hidden states whole. -/
def Idle (c : Dev nD) (s : Fin 2) (hc : S32768x1024.Idx → Elt F .f32) : sProp (MM F) :=
  iprop((∃ f, scL c ↦[slabSet s]{fullShare} f) ∗ semVal ((c : Thread nD τ), SemLoc.dma (cell s)) 0 ∗ (hL c ↦{hs s} hc))

/-- Half `s` with `j` of a block's 512 copies started and none awaited. -/
def Started (c : Dev nD) (s : Fin 2) (tk : Fin 512 → Fin 32768) (hc : S32768x1024.Idx → Elt F .f32) (j : ℕ) : sProp (MM F) :=
  iprop(batch c s tk hc j 0
    ∗ bigSep (Transfers.pending j) (fun r : Fin 512 => iprop((∃ f, scL c ↦[rowSet s r]{fullShare} f) ∗ (hL c ↦{Transfers.shareTok (hs s) 512 r} hc)))
    ∗ bigSep (Transfers.issued j) (fun r : Fin 512 => (hL c ↦[Finset.univ \ hrowSet (tk r)]{Transfers.shareTok (hs s) 512 r} hc : sProp (MM F)))
    ∗ (hL c ↦{Transfers.shareDrop (hs s) 512} hc))

/-- Half `s` with all 512 copies started and `u` of their units awaited. -/
def Flying (c : Dev nD) (s : Fin 2) (tk : Fin 512 → Fin 32768) (hc : S32768x1024.Idx → Elt F .f32) (u : ℕ) : sProp (MM F) :=
  iprop(batch c s tk hc 512 u
    ∗ bigSep Finset.univ (fun r : Fin 512 => (hL c ↦[Finset.univ \ hrowSet (tk r)]{Transfers.shareTok (hs s) 512 r} hc : sProp (MM F)))
    ∗ (hL c ↦{Transfers.shareDrop (hs s) 512} hc))

/-- Half `s` with its block landed. -/
def Landed (c : Dev nD) (s : Fin 2) (tk : Fin 512 → Fin 32768) (hc : S32768x1024.Idx → Elt F .f32) : sProp (MM F) :=
  iprop((scL c ↦[slabSet s]{fullShare} gath tk hc) ∗ semVal ((c : Thread nD τ), SemLoc.dma (cell s)) 0 ∗ (hL c ↦{hs s} hc))

theorem landed_idle (c : Dev nD) (s : Fin 2) (tk : Fin 512 → Fin 32768) (hc : S32768x1024.Idx → Elt F .f32) :
    Landed c s tk hc ⊢ Idle c s hc := by
  unfold Landed Idle
  iintro ⟨H, Hs, Hh⟩
  isplitl [H]; · iexists _; iexact H
  isplitl [Hs]; · iexact Hs
  iexact Hh

/-- A half at rest can start a block's copies. -/
theorem start_begin (c : Dev nD) (s : Fin 2) (tk : Fin 512 → Fin 32768) (hc : S32768x1024.Idx → Elt F .f32) :
    (Idle c s hc : sProp (MM F)) ⊢ |={Set.univ}=> Started c s tk hc 0 := by
  unfold Idle Started
  iintro ⟨⟨%f, Hf⟩, Hs, Hh⟩
  imod (Transfers.batch_alloc' (Lvl := ℕ) (countersEmb (U := Pipeline.UD sig nD τ)) (c : Thread nD τ) () NN (deliv c s tk hc) (sm := .dma (cell s)) (E := Set.univ)) $$ Hs with HB
  imodintro
  isplitl [HB]; · iexact HB
  ihave Ht := (Transfers.pointsTo_toks_split (hs s) 512) $$ Hh
  icases Ht with ⟨Hd, Ht⟩
  ihave Hr := (Entails.of_eq (Ring.pointsTo_sub_blocks (ℓ := scL c) (rowSet s) (rowSet_disjoint s) (slabSet s) rfl f)) $$ Hf
  isplitl [Hr Ht]
  · rw [Transfers.pending_zero]
    iapply (show iprop(bigSep Finset.univ (fun r : Fin 512 => (iprop(∃ f, scL c ↦[rowSet s r]{fullShare} f) : sProp (MM F)))
        ∗ bigSep Finset.univ (fun r : Fin 512 => (hL c ↦{Transfers.shareTok (hs s) 512 r} hc : sProp (MM F)))) ⊢ _
      from Entails.of_eq (BI.bigSep_sep _ _ _).symm)
    isplitl [Hr]
    · iapply (show bigSep Finset.univ (fun r : Fin 512 => (scL c ↦[rowSet s r]{fullShare} f : sProp (MM F)))
          ⊢ bigSep Finset.univ (fun r : Fin 512 => (iprop(∃ f, scL c ↦[rowSet s r]{fullShare} f) : sProp (MM F)))
        from BI.bigSep_mono fun r _ => exists_intro (Φ := fun f => (scL c ↦[rowSet s r]{fullShare} f : sProp (MM F))) f) $$ Hr
    iexact Ht
  isplitr
  · rw [Transfers.issued_zero, BI.bigSep_empty]; iempintro
  iexact Hd

/-- All started is in flight. -/
theorem start_end (c : Dev nD) (s : Fin 2) (tk : Fin 512 → Fin 32768) (hc : S32768x1024.Idx → Elt F .f32) :
    (Started c s tk hc 512 : sProp (MM F)) ⊢ Flying c s tk hc 0 := by
  unfold Started Flying
  rw [Transfers.issued_all rfl]
  iintro ⟨HB, -, Hi, Hd⟩
  isplitl [HB]; · iexact HB
  isplitl [Hi]; · iexact Hi
  iexact Hd

/-- Once all units are awaited the block has landed. -/
theorem land (c : Dev nD) (s : Fin 2) (tk : Fin 512 → Fin 32768) (hc : S32768x1024.Idx → Elt F .f32) :
    (Flying c s tk hc (NN * 512) : sProp (MM F)) ⊢ |={Set.univ}=> Landed c s tk hc := by
  unfold Flying Landed
  iintro ⟨HB, Hi, Hd⟩
  imod (Transfers.batch_collect' (countersEmb (U := Pipeline.UD sig nD τ)) (c : Thread nD τ) NN_pos) $$ HB with ⟨HD, Hs⟩
  imodintro
  ihave HD' := (show bigSep Finset.univ (deliv c s tk hc)
      ⊢ iprop(bigSep Finset.univ (fun r : Fin 512 => (scL c ↦[rowSet s r]{fullShare} gath tk hc : sProp (MM F)))
        ∗ bigSep Finset.univ (fun r : Fin 512 => (hL c ↦[hrowSet (tk r)]{Transfers.shareTok (hs s) 512 r} hc : sProp (MM F))))
    from Entails.of_eq (BI.bigSep_sep _ _ _)) $$ HD
  icases HD' with ⟨Hr, Ht⟩
  isplitl [Hr]
  · iapply (Entails.of_eq (Ring.pointsTo_sub_blocks (ℓ := scL c) (rowSet s) (rowSet_disjoint s) (slabSet s) rfl (gath tk hc)).symm) $$ Hr
  isplitl [Hs]; · iexact Hs
  iapply (Transfers.pointsTo_toks_join (hs s) 512)
  isplitl [Hd]; · iexact Hd
  iapply (show iprop(bigSep Finset.univ (fun r : Fin 512 => (hL c ↦[hrowSet (tk r)]{Transfers.shareTok (hs s) 512 r} hc : sProp (MM F)))
      ∗ bigSep Finset.univ (fun r : Fin 512 => (hL c ↦[Finset.univ \ hrowSet (tk r)]{Transfers.shareTok (hs s) 512 r} hc : sProp (MM F))))
      ⊢ bigSep Finset.univ (fun r : Fin 512 => (hL c ↦{Transfers.shareTok (hs s) 512 r} hc : sProp (MM F)))
    from (Entails.of_eq (BI.bigSep_sep _ _ _).symm).trans (BI.bigSep_mono fun r _ => (pointsTo_split_subset (Finset.subset_univ _)).2))
  isplitl [Ht] <;> iassumption

/-! ## One copy started, one awaited -/

theorem ret_bind' {E : Type → Type} {α β : Type} (a : α) (k : α → Prog E β) : (Prog.ret a).bind k = k a := rfl

/-- One start, at the head of a program: copy `j` goes from pending to issued. -/
theorem wp_start {α : Type} (c : Dev nD) (s : Fin 2) (tk : Fin 512 → Fin 32768) (hc : S32768x1024.Idx → Elt F .f32) (j : ℕ) (hj : j < 512)
    {src : Memref sig .tc .hbm S1x1024 .f32} {dst : Memref sig .tc .vmem S1x1024 .f32} {sem : DmaSem sig}
    (hsrc : src = hrow (tk ⟨j, hj⟩)) (hdst : dst = row s ⟨j, hj⟩) (hsem : sem = cell s)
    {h1 : src.view.WordExact} {h2 : dst.view.WordExact} {h3 : DmaTarget.Typed (nD := nD) .hbm (SemLoc.dma sem) (.here dst : DmaTarget nD τ sig .tc .vmem S1x1024 .f32)}
    {k : PUnit → Prog (TpuEff nD τ sig (Elt F) Λ₀ .tc) α} {Q : α → sProp (MM F)} :
    (Started c s tk hc j : sProp (MM F))
      ⊢ iprop((Started c s tk hc (j + 1) -∗ wp frame (wpE (defs₀ (F := F)) Variants.none (c : Thread nD τ) none) Set.univ (k ⟨⟩) Q)
          -∗ wp frame (wpE (defs₀ (F := F)) Variants.none (c : Thread nD τ) none) Set.univ (.op (.enqueueDma src (.here dst) (.dma sem) h1 h2 h3) k) Q) := by
  subst hsrc hdst hsem
  unfold Started
  rw [Transfers.bigSep_pending_step _ j hj, Transfers.issued_succ hj, BI.bigSep_insert (Transfers.not_mem_issued hj)]
  change iprop(_ ∗ (_ ∗ _) ∗ _ ∗ _) ⊢ iprop((iprop(_ ∗ _ ∗ iprop(_ ∗ _) ∗ _) -∗ _) -∗ _)
  iintro ⟨HB, ⟨⟨⟨%fd, Hd⟩, Ht⟩, Hp⟩, Hi, Hr⟩ Hk
  ihave Hsp := (pointsTo_split_subset (Finset.subset_univ (hrowSet (tk ⟨j, hj⟩)))).1 $$ Ht
  icases Hsp with ⟨Hsrc, Hrest⟩
  iapply (Transfers.wp_dmaBatch (countersEmb (U := Pipeline.UD sig nD τ)) Variants.none (c : Thread nD τ) none
    (src := hrow (tk ⟨j, hj⟩)) (dst := row s ⟨j, hj⟩) (Sd := rowSet s ⟨j, hj⟩) (fd := fd) (fs := hc) () NN rfl subset_rfl (D := deliv c s tk hc) (j := j) (u := 0) hj (Nat.zero_le _)
    (sep_mono (Entails.of_eq (pointsTo_congr (ℓ := scL c) (q := fullShare) (write_row s ⟨j, hj⟩ tk hc fd))) .rfl)) $$ [Hsrc Hd HB]
  · isplitl [Hsrc]; · iexact Hsrc
    isplitl [Hd]; · iexact Hd
    iexact HB
  iintro HB
  iapply Hk
  isplitl [HB]; · iexact HB
  isplitl [Hp]; · iexact Hp
  isplitl [Hrest Hi]
  · isplitl [Hrest]; · iexact Hrest
    iexact Hi
  iexact Hr

/-- One wait, at the head of a program: one more row's units consumed. -/
theorem wp_await {α : Type} (c : Dev nD) (s : Fin 2) (tk : Fin 512 → Fin 32768) (hc : S32768x1024.Idx → Elt F .f32) (j : ℕ) (hj : j < 512)
    {src : Memref sig .tc .hbm S1x1024 .f32} {dst : Memref sig .tc .vmem S1x1024 .f32} {sem : DmaSem sig}
    (hdst : dst = row s ⟨j, hj⟩) (hsem : sem = cell s) {h1 : src.view.WordExact} {h2 : dst.view.WordExact}
    {k : PUnit → Prog (TpuEff nD τ sig (Elt F) Λ₀ .tc) α} {Q : α → sProp (MM F)} {W : Waits sig Unit} :
    iprop(Flying c s tk hc (NN * j) ∗ owes (c : Thread nD τ) 0 W)
      ⊢ iprop(((∃ W', Flying c s tk hc (NN * (j + 1)) ∗ owes (c : Thread nD τ) 0 W') -∗ wp frame (wpE (defs₀ (F := F)) Variants.none (c : Thread nD τ) none) Set.univ (k ⟨⟩) Q)
          -∗ wp frame (wpE (defs₀ (F := F)) Variants.none (c : Thread nD τ) none) Set.univ (.op (.waitDma2 sem src dst h1 h2) k) Q) := by
  subst hdst hsem
  unfold Flying
  iintro ⟨⟨HB, Hi, Hd⟩, HO⟩ Hk
  iapply (Transfers.wp_waitBatchMul (countersEmb (U := Pipeline.UD sig nD τ)) Variants.none (c : Thread nD τ) none () (N := NN) 1
    (by rw [row_credit, Nat.one_mul]) (D := deliv c s tk hc) (j := 512) (u := NN * j)
    (by rw [Nat.one_mul, ← Nat.mul_succ]; exact Nat.mul_le_mul_left _ hj)) $$ [HB HO]
  · isplitl [HB]; · iexact HB
    iexact HO
  iintro ⟨HB, HO⟩
  iapply Hk
  iexists _
  rw [Nat.one_mul, ← Nat.mul_succ]
  isplitr [HO]
  · isplitl [HB]; · iexact HB
    isplitl [Hi]; · iexact Hi
    iexact Hd
  iexact HO

end Cert.Moe.Hand

end
-- ==== Proof.MoeWords.lean ====
/-
The words the mixture-of-experts kernel computes: the offsets its copies and waits name, the branches it takes at a
grid point, and the memrefs and semaphores those offsets select, each in plain numbers.
-/
module

public import proofs.«01_k».proof.Proof.MoeRows

@[expose] public section

set_option maxRecDepth 16384

noncomputable section

namespace Cert.Moe.Hand

open Cert.Moe Cert.Moe.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The counted loops' offsets -/

theorem trips1 : k0_t1_loop.trips = 256 := by decide
theorem trips2 : k0_t2_loop.trips = 256 := by decide
theorem trips3 : k0_t3_loop.trips = 256 := by decide
theorem trips4 : k0_t4_loop.trips = 512 := by decide

/-- The word `2k + b` as the issuing loops compute it. -/
theorem pair_word (k b : ℕ) (hk : k < 256) (hb : b < 2) :
    (Scalar.addi (Scalar.muli 2#32 (Scf.iv 0#32 1#32 k)) (BitVec.ofNat 32 b)).toNat = 2 * k + b := by
  show (2#32 * (0#32 + BitVec.ofNat 32 k * 1#32) + BitVec.ofNat 32 b).toNat = _
  simp only [BitVec.toNat_add, BitVec.toNat_mul, BitVec.toNat_ofNat]
  omega

theorem iv_word (k : ℕ) (hk : k < 512) : (Scf.iv 0#32 1#32 k : BitVec 32).toNat = k := by
  show (0#32 + BitVec.ofNat 32 k * 1#32).toNat = _
  simp only [BitVec.toNat_add, BitVec.toNat_mul, BitVec.toNat_ofNat]
  omega

theorem off2_eq (k : Fin k0_t1_loop.trips) : k0_off2 k = ![0, 0, 2 * k.val + 0] :=
  congrArg (fun n : ℕ => (![0, 0, n] : Fin 3 → ℕ)) (pair_word k.val 0 (trips1 ▸ k.isLt) (by omega))
theorem off5_eq (k : Fin k0_t1_loop.trips) : k0_off5 k = ![0, 0, 2 * k.val + 1] :=
  congrArg (fun n : ℕ => (![0, 0, n] : Fin 3 → ℕ)) (pair_word k.val 1 (trips1 ▸ k.isLt) (by omega))
theorem off3_eq (k : Fin k0_t1_loop.trips) : k0_off3 k = ![2 * k.val + 0, 0] :=
  congrArg (fun n : ℕ => (![n, 0] : Fin 2 → ℕ)) (pair_word k.val 0 (trips1 ▸ k.isLt) (by omega))
theorem off6_eq (k : Fin k0_t1_loop.trips) : k0_off6 k = ![2 * k.val + 1, 0] :=
  congrArg (fun n : ℕ => (![n, 0] : Fin 2 → ℕ)) (pair_word k.val 1 (trips1 ▸ k.isLt) (by omega))
theorem off8_eq (k : Fin k0_t2_loop.trips) : k0_off8 k = ![0, 0, 2 * k.val + 0] :=
  congrArg (fun n : ℕ => (![0, 0, n] : Fin 3 → ℕ)) (pair_word k.val 0 (trips2 ▸ k.isLt) (by omega))
theorem off11_eq (k : Fin k0_t2_loop.trips) : k0_off11 k = ![0, 0, 2 * k.val + 1] :=
  congrArg (fun n : ℕ => (![0, 0, n] : Fin 3 → ℕ)) (pair_word k.val 1 (trips2 ▸ k.isLt) (by omega))
theorem off9_eq (k : Fin k0_t2_loop.trips) : k0_off9 k = ![2 * k.val + 0, 0] :=
  congrArg (fun n : ℕ => (![n, 0] : Fin 2 → ℕ)) (pair_word k.val 0 (trips2 ▸ k.isLt) (by omega))
theorem off12_eq (k : Fin k0_t2_loop.trips) : k0_off12 k = ![2 * k.val + 1, 0] :=
  congrArg (fun n : ℕ => (![n, 0] : Fin 2 → ℕ)) (pair_word k.val 1 (trips2 ▸ k.isLt) (by omega))
theorem off14_eq (k : Fin k0_t3_loop.trips) : k0_off14 k = ![0, 0, 2 * k.val + 0] :=
  congrArg (fun n : ℕ => (![0, 0, n] : Fin 3 → ℕ)) (pair_word k.val 0 (trips3 ▸ k.isLt) (by omega))
theorem off17_eq (k : Fin k0_t3_loop.trips) : k0_off17 k = ![0, 0, 2 * k.val + 1] :=
  congrArg (fun n : ℕ => (![0, 0, n] : Fin 3 → ℕ)) (pair_word k.val 1 (trips3 ▸ k.isLt) (by omega))
theorem off15_eq (k : Fin k0_t3_loop.trips) : k0_off15 k = ![2 * k.val + 0, 0] :=
  congrArg (fun n : ℕ => (![n, 0] : Fin 2 → ℕ)) (pair_word k.val 0 (trips3 ▸ k.isLt) (by omega))
theorem off18_eq (k : Fin k0_t3_loop.trips) : k0_off18 k = ![2 * k.val + 1, 0] :=
  congrArg (fun n : ℕ => (![n, 0] : Fin 2 → ℕ)) (pair_word k.val 1 (trips3 ▸ k.isLt) (by omega))
theorem off20_eq (k : Fin k0_t4_loop.trips) : k0_off20 k = ![0, 0, k.val] :=
  congrArg (fun n : ℕ => (![0, 0, n] : Fin 3 → ℕ)) (iv_word k.val (trips4 ▸ k.isLt))
theorem off23_eq (k : Fin k0_t4_loop.trips) : k0_off23 k = ![k.val, 0] :=
  congrArg (fun n : ℕ => (![n, 0] : Fin 2 → ℕ)) (iv_word k.val (trips4 ▸ k.isLt))

/-! ## The grid point's words -/

theorem pt_lt (i : grid0.Coords) : (i 0).val < 288 := (i 0).isLt

theorem pt_toNat (i : grid0.Coords) : (BitVec.ofNat 32 (i 0).val).toNat = (i 0).val := by
  have := pt_lt i
  rw [BitVec.toNat_ofNat]; omega

theorem pt_succ (i : grid0.Coords) : (Scalar.addi (BitVec.ofNat 32 (i 0).val) 1#32).toNat = (i 0).val + 1 := by
  have := pt_lt i
  show (BitVec.ofNat 32 (i 0).val + 1#32).toNat = _
  simp only [BitVec.toNat_add, BitVec.toNat_ofNat]; omega

theorem pt_half (i : grid0.Coords) : (Scalar.remsi (BitVec.ofNat 32 (i 0).val) 2#32).toNat = (i 0).val % 2 := by
  have := pt_lt i
  have h := IntOp.toNat_remsi .scalar (x := BitVec.ofNat 32 (i 0).val) (by rw [pt_toNat]; omega) 2 (by omega) (by omega)
  rw [pt_toNat] at h
  exact h

theorem off21_eq (i : grid0.Coords) : k0_off21 i = ![(i 0).val % 2] :=
  congrArg (fun n : ℕ => (![n] : Fin 1 → ℕ)) (pt_half i)
theorem off22_eq (i : grid0.Coords) : k0_off22 i = ![(i 0).val % 2, 0, 0] :=
  congrArg (fun n : ℕ => (![n, 0, 0] : Fin 3 → ℕ)) (pt_half i)
theorem off25_eq (i : grid0.Coords) : k0_off25 i = ![(i 0).val % 2, 0, 0] :=
  congrArg (fun n : ℕ => (![n, 0, 0] : Fin 3 → ℕ)) (pt_half i)

/-! ## The branches -/

/-- An `i1` widened and compared with zero is itself. -/
theorem ext_ne (b : BitVec 1) : Scalar.cmpi .ne (Scalar.extui b : BitVec 32) 0#32 = 1#1 ↔ b = 1#1 := by
  revert b; decide

theorem cond1_iff (i : grid0.Coords) : k0_cond1 i = 1#1 ↔ (i 0).val = 0 := by
  refine (ext_ne _).trans (IntOp.cmpi_eq.trans ?_)
  rw [← BitVec.toNat_inj, pt_toNat]; rfl

theorem lt_words {a n : BitVec 32} (ha : a.toNat < 2 ^ 31) (hn : n.toNat < 2 ^ 31) :
    Scalar.cmpi .slt a n = 1#1 ↔ a.toNat < n.toNat := by
  refine IntOp.cmpi_slt.trans ?_
  rw [BitVec.toInt_eq_toNat_of_lt (by omega), BitVec.toInt_eq_toNat_of_lt (by omega)]; omega

theorem next_half (i : grid0.Coords) (b : ℕ) (hb : b < 2) :
    Scalar.cmpi .eq (Scalar.remsi (Scalar.addi (BitVec.ofNat 32 (i 0).val) 1#32) 2#32) (BitVec.ofNat 32 b) = 1#1 ↔ ((i 0).val + 1) % 2 = b := by
  have := pt_lt i
  have h := IntOp.toNat_remsi .scalar (x := Scalar.addi (BitVec.ofNat 32 (i 0).val) 1#32) (by rw [pt_succ]; omega) 2 (by omega) (by omega)
  rw [pt_succ] at h
  refine IntOp.cmpi_eq.trans ?_
  rw [← BitVec.toNat_inj]
  have hb' : (BitVec.ofNat 32 b).toNat = b := by rw [BitVec.toNat_ofNat]; omega
  rw [hb']
  exact ⟨fun e => h.symm.trans e, fun e => h.trans e⟩

theorem cond2_iff (i : grid0.Coords) (n : BitVec 32) (hn : n.toNat < 2 ^ 31) :
    k0_cond2 i n = 1#1 ↔ (i 0).val + 1 < n.toNat ∧ ((i 0).val + 1) % 2 = 0 := by
  have := pt_lt i
  refine (ext_ne _).trans (IntOp.andi_eq_one.trans (and_congr ?_ (next_half i 0 (by omega))))
  refine (lt_words (by rw [pt_succ]; omega) hn).trans ?_
  rw [pt_succ]

theorem cond3_iff (i : grid0.Coords) (n : BitVec 32) (hn : n.toNat < 2 ^ 31) :
    k0_cond3 i n = 1#1 ↔ (i 0).val + 1 < n.toNat ∧ ((i 0).val + 1) % 2 = 1 := by
  have := pt_lt i
  refine (ext_ne _).trans (IntOp.andi_eq_one.trans (and_congr ?_ (next_half i 1 (by omega))))
  refine (lt_words (by rw [pt_succ]; omega) hn).trans ?_
  rw [pt_succ]

theorem cond4_iff (i : grid0.Coords) (n : BitVec 32) (hn : n.toNat < 2 ^ 31) :
    k0_cond4 i n = 1#1 ↔ (i 0).val < n.toNat := by
  have := pt_lt i
  refine (ext_ne _).trans ((lt_words (by rw [pt_toNat]; omega) hn).trans ?_)
  rw [pt_toNat]

theorem cond5_iff (i : grid0.Coords) (n : BitVec 32) (hn : n.toNat < 2 ^ 31) :
    k0_cond5 i n = 1#1 ↔ n.toNat ≤ (i 0).val := by
  have := pt_lt i
  refine (ext_ne _).trans (IntOp.cmpi_sge.trans ?_)
  rw [BitVec.toInt_eq_toNat_of_lt (x := n) (by omega), BitVec.toInt_eq_toNat_of_lt (x := BitVec.ofNat 32 (i 0).val) (by rw [pt_toNat]; omega), pt_toNat]; omega

/-! ## What the offsets select -/

/-- The token a table word names. -/
def tkOf (x : S1x1x512.Idx → BitVec 32) (r : Fin 512) : Fin 32768 := Fin.ofNat 32768 (x (ix3 0 0 r)).toNat

theorem tkOf_val (x : S1x1x512.Idx → BitVec 32) (hx : ∀ r : Fin 512, (x (ix3 0 0 r)).toNat < 32768) (r : Fin 512) :
    (tkOf x r).val = (x (ix3 0 0 r)).toNat := Nat.mod_eq_of_lt (hx r)

theorem hrow_of_off (t : Fin 32768) {off : Fin 2 → ℕ} (h : off = ![t.val, 0]) (hi : ∀ a, off a + S1x1024.size a ≤ S32768x1024.size a) :
    hbM0_0.slice (Rect.unit (s := S32768x1024) off S1x1024.size hi) (fun _ => rfl) = hrow t := by
  subst h; rfl

theorem row_of_off (s : Fin 2) (r : Fin 512) {off : Fin 3 → ℕ} {off' : Fin 2 → ℕ} (h : off = ![s.val, 0, 0]) (h' : off' = ![r.val, 0])
    (hi : ∀ a, off a + S1x512x1024.size a ≤ S2x512x1024.size a) (hi' : ∀ a, off' a + S1x1024.size a ≤ S512x1024.size a) :
    ((scM0_0.slice (Rect.unit (s := S2x512x1024) off S1x512x1024.size hi) (fun _ => rfl)).squeeze S512x1024 squeezes_S1x512x1024_S512x1024).slice
      (Rect.unit (s := S512x1024) off' S1x1024.size hi') (fun _ => rfl) = row s r := by
  subst h h'; rfl

theorem sem_of_off (s : Fin 2) {off : Fin 1 → ℕ} (h : off = ![s.val]) (hi : ∀ a, off a + S1.size a ≤ S2.size a) :
    ((cc0_scratch1.slice (Rect.unit (s := S2) off S1.size hi)).squeeze S_ squeezes_S1_S_).sem = cell s := by
  subst h
  have key : ∀ z : (Rect.unit (s := S2) ![s.val] S1.size hi).shape.Idx, cc0_scratch1.ix ((Rect.unit (s := S2) ![s.val] S1.size hi).emb z) = cell s := by
    intro z
    have hz : (Rect.unit (s := S2) ![s.val] S1.size hi).emb z = (ix1 s : S2.Idx) := by
      have h0 : (z 0).val < 1 := (z 0).isLt
      funext a; apply Fin.ext
      fin_cases a
      show s.val + 1 * (z 0).val = s.val; omega
    refine (congrArg cc0_scratch1.ix hz).trans ?_
    apply Fin.ext
    show 15 + (S2.rowMajor (ix1 s : S2.Idx)).val = (cell s).val
    rw [show (S2.rowMajor (ix1 s : S2.Idx)).val = s.val from Shape.rowMajor_val_one _]
    revert s; decide
  exact key _

/-- A row of 1024 at an offset below 32768 lies in the hidden states. -/
theorem row_fits {n : ℕ} (h : n < 32768) : ∀ a, (![n, 0] : Fin 2 → ℕ) a + S1x1024.size a ≤ S32768x1024.size a :=
  hrow_inb ⟨n, h⟩

/-- The one index of the unit rectangle at `![0, 0, r]`. -/
theorem word_emb (r : Fin 512) {off : Fin 3 → ℕ} (h : off = ![0, 0, r.val]) (hi : ∀ a, off a + S1x1x1.size a ≤ S1x1x512.size a)
    (z : (Rect.unit (s := S1x1x512) off S1x1x1.size hi).shape.Idx) :
    (Rect.unit (s := S1x1x512) off S1x1x1.size hi).emb z = (ix3 0 0 r : S1x1x512.Idx) := by
  subst h
  have h2 : (z 2).val = 0 := by have h : (z 2).val < 1 := (z 2).isLt; omega
  funext a; apply Fin.ext
  fin_cases a
  · have h : (z 0).val < 1 := (z 0).isLt
    show 0 + 1 * (z 0).val = 0; omega
  · have h : (z 1).val < 1 := (z 1).isLt
    show 0 + 1 * (z 1).val = 0; omega
  · show r.val + 1 * (z 2).val = r.val; omega

end Cert.Moe.Hand

end
-- ==== Proof.MoeLoops.lean ====
/-
The mixture-of-experts kernel's counted loops, one trip each: the three that start a block's row copies, two a trip,
and the one that awaits them.
-/
module

public import proofs.«01_k».proof.Proof.MoeWords

@[expose] public section

set_option maxRecDepth 16384

noncomputable section

namespace Cert.Moe.Hand

open Cert.Moe Cert.Moe.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## Loads of owned memrefs -/

/-- A load of a rectangle of an owned memref reads its contents there. -/
theorem wp_load_owns {α : Type} {cs : CoreSpace} {S : Shape} {e : EltTy} (c : Dev nD) (M : Memref sig .tc cs S e) (q : PosShare TreeShare) (x : S.Idx → Elt F e)
    (r : Rect S) {hl : M.view.LoadsAt r.toLoadRect} {k : (r.shape.Idx → Elt F e) → Prog (TpuEff nD τ sig (Elt F) Λ₀ .tc) α} {Q : α → sProp (MM F)} :
    (owns (c : Thread nD τ) M q x : sProp (MM F))
      ⊢ iprop((owns (c : Thread nD τ) M q x -∗ wp frame (wpE (defs₀ (F := F)) Variants.none (c : Thread nD τ) none) Set.univ (k fun z => x (r.emb z)) Q)
          -∗ wp frame (wpE (defs₀ (F := F)) Variants.none (c : Thread nD τ) none) Set.univ (.op (.load M r.toLoadRect hl) k) Q) := by
  unfold owns
  iintro ⟨%f, %hf, H⟩ Hk
  subst hf
  iapply (wp_load_rect Variants.none (c : Thread nD τ) none Set.univ (m := M) (r := r) (View.set_slice_subset _ r)) $$ H
  iintro H
  iapply Hk
  iexists f
  isplitr; · ipureintro; rfl
  iexact H

/-- A word loaded from an owned table window. -/
theorem wp_word {α : Type} (c : Dev nD) (M : Memref sig .tc .smem S1x1x512 .i32) (q : PosShare TreeShare) (x : Vec F S1x1x512 .i32) (r : Fin 512)
    {off : Fin 3 → ℕ} (h : off = ![0, 0, r.val]) {hi : ∀ a, off a + S1x1x1.size a ≤ S1x1x512.size a} {h1 : (Rect.unit (s := S1x1x512) off S1x1x1.size hi).shape.numel = 1}
    {hp : EltTy.i32.packing = 1}
    {k : Elt F .i32 → Prog (TpuEff nD τ sig (Elt F) Λ₀ .tc) α} {Q : α → sProp (MM F)} :
    (owns (c : Thread nD τ) M q x : sProp (MM F))
      ⊢ iprop((owns (c : Thread nD τ) M q x -∗ wp frame (wpE (defs₀ (F := F)) Variants.none (c : Thread nD τ) none) Set.univ (k (x (ix3 0 0 r))) Q)
          -∗ wp frame (wpE (defs₀ (F := F)) Variants.none (c : Thread nD τ) none) Set.univ (smemLoad M (Rect.unit (s := S1x1x512) off S1x1x1.size hi) h1 hp >>= k) Q) := by
  have e : ∀ z, x ((Rect.unit (s := S1x1x512) off S1x1x1.size hi).emb z) = x (ix3 0 0 r) := fun z => congrArg x (word_emb r h hi z)
  rw [← e (Shape.Idx.first (h1.symm ▸ Nat.one_pos))]
  exact wp_load_owns c M q x (Rect.unit (s := S1x1x512) off S1x1x1.size hi)
    (k := fun f => (Prog.ret (f (Shape.Idx.first (h1.symm ▸ Nat.one_pos)))).bind k)

section Trips

variable (c : Dev nD) (i : grid0.Coords) (arg3 : Memref sig .tc .smem S1x1x512 .i32) (harg3 : arg3.IsWhole) (arg4 : Memref sig .tc .smem S1x1x512 .i32) (harg4 : arg4.IsWhole) (arg6 : Memref sig .tc .vmem S1x1024 .f32) (harg6 : arg6.IsWhole) (arg7 : Memref sig .tc .vmem S1x1024x2048 .bf16) (harg7 : arg7.IsWhole) (arg8 : Memref sig .tc .vmem S1x1x2048 .f32) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S512x1024 .f32) (harg11 : arg11.IsWhole)
variable (x : Vec F S1x1x512 .i32) (hx : ∀ r : Fin 512, (x (ix3 0 0 r) : BitVec 32).toNat < 32768) (hc : S32768x1024.Idx → Elt F .f32)

include hx

/-! ## Starting a block's copies -/

/-- A trip of loop 1 starts two rows' copies into half 0. -/
theorem issue1 (h1 : k0_cond1 i = 1#1) (k : Fin k0_t1_loop.trips) (acc : Unit) :
    (iprop(owns (c : Thread nD τ) arg3 fullShare x ∗ Started c 0 (tkOf x) hc (2 * k.val)) : sProp (MM F))
      ⊢ wp frame (wpE (defs₀ (F := F)) Variants.none (c : Thread nD τ) none) Set.univ (k0_t1_body i tbM0_0 htbM0_0 tbM0_1 htbM0_1 arg3 harg3 arg4 harg4 (Memref.whole main_arg3) (Memref.isWhole_whole _) arg6 harg6 arg7 harg7 arg8 harg8 arg9 harg9 arg10 harg10 arg11 harg11 scM0_0 (Memref.isWhole_whole _) cc0_scratch1  h1 k acc)
          (fun _ => iprop(owns (c : Thread nD τ) arg3 fullShare x ∗ Started c 0 (tkOf x) hc (2 * (k.val + 1)))) := by
  have hk : k.val < 256 := trips1 ▸ k.isLt
  have hw : ∀ r : Fin 512, (![(x (ix3 0 0 r) : BitVec 32).toNat, 0] : Fin 2 → ℕ) = ![(tkOf x r).val, 0] := fun r => by rw [tkOf_val x hx r]
  unfold k0_t1_body
  iintro ⟨Hx, HS⟩
  iapply (wp_word c arg3 fullShare x ⟨2 * k.val, by omega⟩ (off2_eq k)) $$ Hx
  iintro Hx
  iapply (wp_assume Variants.none (c : Thread nD τ) none Set.univ (fun _ => row_fits (hx ⟨2 * k.val, by omega⟩)))
  iapply (wp_start c 0 (tkOf x) hc (2 * k.val) (by omega) (hrow_of_off _ (hw _) _) (row_of_off 0 ⟨2 * k.val, by omega⟩ rfl (off3_eq k) _ _) (sem_of_off 0 rfl _)) $$ HS
  iintro HS
  simp only [ret_bind']
  iapply (wp_word c arg3 fullShare x ⟨2 * k.val + 1, by omega⟩ (off5_eq k)) $$ Hx
  iintro Hx
  iapply (wp_assume Variants.none (c : Thread nD τ) none Set.univ (fun _ => row_fits (hx ⟨2 * k.val + 1, by omega⟩)))
  iapply (wp_start c 0 (tkOf x) hc (2 * k.val + 1) (by omega) (hrow_of_off _ (hw _) _) (row_of_off 0 ⟨2 * k.val + 1, by omega⟩ rfl (off6_eq k) _ _) (sem_of_off 0 rfl _)) $$ HS
  iintro HS
  simp only [ret_bind', wp_pure]
  imodintro
  isplitl [Hx]; · iexact Hx
  iexact HS

/-- A trip of loop 2 starts two rows' copies into half 0. -/
theorem issue2 (n : BitVec 32) (h1 : k0_cond2 i n = 1#1) (k : Fin k0_t2_loop.trips) (acc : Unit) :
    (iprop(owns (c : Thread nD τ) arg4 fullShare x ∗ Started c 0 (tkOf x) hc (2 * k.val)) : sProp (MM F))
      ⊢ wp frame (wpE (defs₀ (F := F)) Variants.none (c : Thread nD τ) none) Set.univ (k0_t2_body i tbM0_0 htbM0_0 tbM0_1 htbM0_1 arg3 harg3 arg4 harg4 (Memref.whole main_arg3) (Memref.isWhole_whole _) arg6 harg6 arg7 harg7 arg8 harg8 arg9 harg9 arg10 harg10 arg11 harg11 scM0_0 (Memref.isWhole_whole _) cc0_scratch1 n h1 k acc)
          (fun _ => iprop(owns (c : Thread nD τ) arg4 fullShare x ∗ Started c 0 (tkOf x) hc (2 * (k.val + 1)))) := by
  have hk : k.val < 256 := trips2 ▸ k.isLt
  have hw : ∀ r : Fin 512, (![(x (ix3 0 0 r) : BitVec 32).toNat, 0] : Fin 2 → ℕ) = ![(tkOf x r).val, 0] := fun r => by rw [tkOf_val x hx r]
  unfold k0_t2_body
  iintro ⟨Hx, HS⟩
  iapply (wp_word c arg4 fullShare x ⟨2 * k.val, by omega⟩ (off8_eq k)) $$ Hx
  iintro Hx
  iapply (wp_assume Variants.none (c : Thread nD τ) none Set.univ (fun _ => row_fits (hx ⟨2 * k.val, by omega⟩)))
  iapply (wp_start c 0 (tkOf x) hc (2 * k.val) (by omega) (hrow_of_off _ (hw _) _) (row_of_off 0 ⟨2 * k.val, by omega⟩ rfl (off9_eq k) _ _) (sem_of_off 0 rfl _)) $$ HS
  iintro HS
  simp only [ret_bind']
  iapply (wp_word c arg4 fullShare x ⟨2 * k.val + 1, by omega⟩ (off11_eq k)) $$ Hx
  iintro Hx
  iapply (wp_assume Variants.none (c : Thread nD τ) none Set.univ (fun _ => row_fits (hx ⟨2 * k.val + 1, by omega⟩)))
  iapply (wp_start c 0 (tkOf x) hc (2 * k.val + 1) (by omega) (hrow_of_off _ (hw _) _) (row_of_off 0 ⟨2 * k.val + 1, by omega⟩ rfl (off12_eq k) _ _) (sem_of_off 0 rfl _)) $$ HS
  iintro HS
  simp only [ret_bind', wp_pure]
  imodintro
  isplitl [Hx]; · iexact Hx
  iexact HS

/-- A trip of loop 3 starts two rows' copies into half 1. -/
theorem issue3 (n : BitVec 32) (h1 : k0_cond3 i n = 1#1) (k : Fin k0_t3_loop.trips) (acc : Unit) :
    (iprop(owns (c : Thread nD τ) arg4 fullShare x ∗ Started c 1 (tkOf x) hc (2 * k.val)) : sProp (MM F))
      ⊢ wp frame (wpE (defs₀ (F := F)) Variants.none (c : Thread nD τ) none) Set.univ (k0_t3_body i tbM0_0 htbM0_0 tbM0_1 htbM0_1 arg3 harg3 arg4 harg4 (Memref.whole main_arg3) (Memref.isWhole_whole _) arg6 harg6 arg7 harg7 arg8 harg8 arg9 harg9 arg10 harg10 arg11 harg11 scM0_0 (Memref.isWhole_whole _) cc0_scratch1 n h1 k acc)
          (fun _ => iprop(owns (c : Thread nD τ) arg4 fullShare x ∗ Started c 1 (tkOf x) hc (2 * (k.val + 1)))) := by
  have hk : k.val < 256 := trips3 ▸ k.isLt
  have hw : ∀ r : Fin 512, (![(x (ix3 0 0 r) : BitVec 32).toNat, 0] : Fin 2 → ℕ) = ![(tkOf x r).val, 0] := fun r => by rw [tkOf_val x hx r]
  unfold k0_t3_body
  iintro ⟨Hx, HS⟩
  iapply (wp_word c arg4 fullShare x ⟨2 * k.val, by omega⟩ (off14_eq k)) $$ Hx
  iintro Hx
  iapply (wp_assume Variants.none (c : Thread nD τ) none Set.univ (fun _ => row_fits (hx ⟨2 * k.val, by omega⟩)))
  iapply (wp_start c 1 (tkOf x) hc (2 * k.val) (by omega) (hrow_of_off _ (hw _) _) (row_of_off 1 ⟨2 * k.val, by omega⟩ rfl (off15_eq k) _ _) (sem_of_off 1 rfl _)) $$ HS
  iintro HS
  simp only [ret_bind']
  iapply (wp_word c arg4 fullShare x ⟨2 * k.val + 1, by omega⟩ (off17_eq k)) $$ Hx
  iintro Hx
  iapply (wp_assume Variants.none (c : Thread nD τ) none Set.univ (fun _ => row_fits (hx ⟨2 * k.val + 1, by omega⟩)))
  iapply (wp_start c 1 (tkOf x) hc (2 * k.val + 1) (by omega) (hrow_of_off _ (hw _) _) (row_of_off 1 ⟨2 * k.val + 1, by omega⟩ rfl (off18_eq k) _ _) (sem_of_off 1 rfl _)) $$ HS
  iintro HS
  simp only [ret_bind', wp_pure]
  imodintro
  isplitl [Hx]; · iexact Hx
  iexact HS

/-! ## Awaiting a block's copies -/

/-- A trip of loop 4 awaits one row. -/
theorem await4 (n : BitVec 32) (h4 : k0_cond4 i n = 1#1) (s : Fin 2) (hs : s.val = (i 0).val % 2) (k : Fin k0_t4_loop.trips) (acc : Unit) :
    (iprop(owns (c : Thread nD τ) arg3 fullShare x ∗ ∃ W, Flying c s (tkOf x) hc (NN * k.val) ∗ owes (c : Thread nD τ) 0 W) : sProp (MM F))
      ⊢ wp frame (wpE (defs₀ (F := F)) Variants.none (c : Thread nD τ) none) Set.univ (k0_t4_body i tbM0_0 htbM0_0 tbM0_1 htbM0_1 arg3 harg3 arg4 harg4 (Memref.whole main_arg3) (Memref.isWhole_whole _) arg6 harg6 arg7 harg7 arg8 harg8 arg9 harg9 arg10 harg10 arg11 harg11 scM0_0 (Memref.isWhole_whole _) cc0_scratch1 n (Scalar.remsi (BitVec.ofNat 32 (i 0).val) 2#32) h4 k acc)
          (fun _ => iprop(owns (c : Thread nD τ) arg3 fullShare x ∗ ∃ W, Flying c s (tkOf x) hc (NN * (k.val + 1)) ∗ owes (c : Thread nD τ) 0 W)) := by
  have hk : k.val < 512 := trips4 ▸ k.isLt
  unfold k0_t4_body
  iintro ⟨Hx, %W, HS, HO⟩
  iapply (wp_word c arg3 fullShare x ⟨k.val, hk⟩ (off20_eq k)) $$ Hx
  iintro Hx
  iapply (wp_assume Variants.none (c : Thread nD τ) none Set.univ (fun _ => row_fits (hx ⟨k.val, hk⟩)))
  iapply (wp_await c s (tkOf x) hc k.val hk (row_of_off s ⟨k.val, hk⟩ (by rw [hs]; exact off22_eq i) (off23_eq k) _ _) (sem_of_off s (by rw [hs]; exact off21_eq i) _)) $$ [HS HO]
  · isplitl [HS]; · iexact HS
    iexact HO
  iintro H
  simp only [ret_bind', wp_pure]
  imodintro
  isplitl [Hx]; · iexact Hx
  iexact H

end Trips

end Cert.Moe.Hand

end
-- ==== Proof.MoeBody.lean ====
/-
The mixture-of-experts kernel's body at one grid point: the block's rows are in flight when it is entered (or it
starts them, at the first point), it starts the next block's into the other half of the scratch, awaits its own, and
stores the block's output.
-/
module

public import proofs.«01_k».proof.Proof.MoeLoops

@[expose] public section

set_option maxRecDepth 16384

noncomputable section

namespace Cert.Moe.Hand

open Cert.Moe Cert.Moe.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## Whole loads and stores, and the load of a landed half -/

theorem emb_full {S : Shape} {off : Fin S.rank → ℕ} (h : ∀ a, off a = 0) (hi : ∀ a, off a + S.size a ≤ S.size a) (z : S.Idx) :
    (Rect.unit off S.size hi).emb z = z := by
  funext a; apply Fin.ext
  show off a + 1 * (z a).val = (z a).val
  rw [h]; omega

theorem wp_load_full {α : Type} {cs : CoreSpace} {S : Shape} {e : EltTy} (c : Dev nD) (M : Memref sig .tc cs S e) (q : PosShare TreeShare) (x : S.Idx → Elt F e)
    {off : Fin S.rank → ℕ} (h : ∀ a, off a = 0) {hi : ∀ a, off a + S.size a ≤ S.size a} {hl : M.view.LoadsAt (Rect.unit off S.size hi).toLoadRect}
    {k : (S.Idx → Elt F e) → Prog (TpuEff nD τ sig (Elt F) Λ₀ .tc) α} {Q : α → sProp (MM F)} :
    (owns (c : Thread nD τ) M q x : sProp (MM F))
      ⊢ iprop((owns (c : Thread nD τ) M q x -∗ wp frame (wpE (defs₀ (F := F)) Variants.none (c : Thread nD τ) none) Set.univ (k x) Q) -∗ wp frame (wpE (defs₀ (F := F)) Variants.none (c : Thread nD τ) none) Set.univ (.op (.load M (Rect.unit off S.size hi).toLoadRect hl) k) Q) :=
  (wp_load_owns c M q x (Rect.unit off S.size hi) (k := k)).trans (Entails.of_eq
    (congrArg (fun v : S.Idx → Elt F e => iprop((owns (c : Thread nD τ) M q x -∗ wp frame (wpE (defs₀ (F := F)) Variants.none (c : Thread nD τ) none) Set.univ (k v) Q)
      -∗ wp frame (wpE (defs₀ (F := F)) Variants.none (c : Thread nD τ) none) Set.univ (.op (.load M (Rect.unit off S.size hi).toLoadRect hl) k) Q))
      (funext fun z => congrArg x (emb_full h hi z))))

theorem wp_store_full {α : Type} {cs : CoreSpace} {S : Shape} {e : EltTy} (c : Dev nD) (M : Memref sig .tc cs S e) (x w : S.Idx → Elt F e)
    {off : Fin S.rank → ℕ} (h : ∀ a, off a = 0) {hi : ∀ a, off a + S.size a ≤ S.size a} {hx : (M.access (Rect.unit off S.size hi)).Stores Finset.univ}
    {hm : (Finset.univ : Finset (Rect.unit off S.size hi).shape.Idx) = Finset.univ ∨ ∀ a, (Rect.unit off S.size hi).stride a = 1}
    {k : PUnit.{1} → Prog (TpuEff nD τ sig (Elt F) Λ₀ .tc) α} {Q : α → sProp (MM F)} :
    (owns (c : Thread nD τ) M fullShare x : sProp (MM F))
      ⊢ iprop((owns (c : Thread nD τ) M fullShare w -∗ wp frame (wpE (defs₀ (F := F)) Variants.none (c : Thread nD τ) none) Set.univ (k ⟨⟩) Q) -∗ wp frame (wpE (defs₀ (F := F)) Variants.none (c : Thread nD τ) none) Set.univ (.op (.store M (Rect.unit off S.size hi) w Finset.univ hx hm) k) Q) := by
  unfold owns
  iintro ⟨%f, %hf, H⟩ Hk
  iapply (wp_store Variants.none (c : Thread nD τ) none Set.univ (m := M) (r := Rect.unit off S.size hi) (View.set_slice_subset _ _)) $$ H
  iintro H
  iapply Hk
  iexists _
  isplitr; swap; · iexact H
  ipureintro
  funext y
  have h1 := View.read_slice_write_emb (v := M.view) (Val := Elt F) (Rect.unit off S.size hi) f w (Finset.mem_univ y)
  exact (congrArg _ (emb_full h hi y).symm).trans h1

/-- A block's gathered rows, as the body loads them. -/
def Xb (tk : Fin 512 → Fin 32768) (hc : S32768x1024.Idx → Elt F .f32) : Vec F S1x512x1024 .f32 :=
  fun y => hc (ix2 (tk (y 1)) (y 2))

theorem slab_emb (s : Fin 2) {off : Fin 3 → ℕ} (h : off = ![s.val, 0, 0]) (hi : ∀ a, off a + S1x512x1024.size a ≤ S2x512x1024.size a) (z : S1x512x1024.Idx) :
    (Rect.unit (s := S2x512x1024) off S1x512x1024.size hi).emb z = (ix3 s (z 1) (z 2) : S2x512x1024.Idx) := by
  subst h
  have h0 : (z 0).val = 0 := by have h : (z 0).val < 1 := (z 0).isLt; omega
  funext a; apply Fin.ext
  fin_cases a
  · show s.val + 1 * (z 0).val = s.val; omega
  · show 0 + 1 * (z 1).val = (z 1).val; omega
  · show 0 + 1 * (z 2).val = (z 2).val; omega

theorem wp_load_slab {α : Type} (c : Dev nD) (s : Fin 2) (tk : Fin 512 → Fin 32768) (hc : S32768x1024.Idx → Elt F .f32)
    {off : Fin 3 → ℕ} (h : off = ![s.val, 0, 0]) {hi : ∀ a, off a + S1x512x1024.size a ≤ S2x512x1024.size a}
    {hl : scM0_0.view.LoadsAt (Rect.unit (s := S2x512x1024) off S1x512x1024.size hi).toLoadRect}
    {k : Vec F S1x512x1024 .f32 → Prog (TpuEff nD τ sig (Elt F) Λ₀ .tc) α} {Q : α → sProp (MM F)} :
    ((scL c ↦[slabSet s]{fullShare} gath tk hc) : sProp (MM F))
      ⊢ iprop(((scL c ↦[slabSet s]{fullShare} gath tk hc) -∗ wp frame (wpE (defs₀ (F := F)) Variants.none (c : Thread nD τ) none) Set.univ (k (Xb tk hc)) Q)
        -∗ wp frame (wpE (defs₀ (F := F)) Variants.none (c : Thread nD τ) none) Set.univ (.op (.load scM0_0 (Rect.unit (s := S2x512x1024) off S1x512x1024.size hi).toLoadRect hl) k) Q) := by
  have hS : (scM0_0.access (Rect.unit (s := S2x512x1024) off S1x512x1024.size hi)).set ⊆ slabSet s := by
    intro y hy
    obtain ⟨z, -, hz⟩ := Finset.mem_map.mp hy
    rw [mem_slabSet, ← hz]
    exact congrFun (slab_emb s h hi z) 0
  refine (wp_load_rect Variants.none (c : Thread nD τ) none Set.univ (k := k) hS).trans (Entails.of_eq
    (congrArg (fun v : Vec F S1x512x1024 .f32 => iprop(((scL c ↦[slabSet s]{fullShare} gath tk hc) -∗ wp frame (wpE (defs₀ (F := F)) Variants.none (c : Thread nD τ) none) Set.univ (k v) Q)
        -∗ wp frame (wpE (defs₀ (F := F)) Variants.none (c : Thread nD τ) none) Set.univ (.op (.load scM0_0 (Rect.unit (s := S2x512x1024) off S1x512x1024.size hi).toLoadRect hl) k) Q)) ?_))
  funext z
  exact congrArg (gath tk hc) (slab_emb s h hi z)

/-- Half `s` of the scratch: flying with the tokens `tk` if `p`, otherwise at rest. -/
def Half (c : Dev nD) (s : Fin 2) (p : Prop) [Decidable p] (tk : Fin 512 → Fin 32768) (hc : S32768x1024.Idx → Elt F .f32) : sProp (MM F) :=
  if p then Flying c s tk hc 0 else Idle c s hc

theorem half_pos (c : Dev nD) (s : Fin 2) {p : Prop} [Decidable p] (h : p) (tk : Fin 512 → Fin 32768) (hc : S32768x1024.Idx → Elt F .f32) :
    (Half c s p tk hc : sProp (MM F)) = Flying c s tk hc 0 := if_pos h
theorem half_neg (c : Dev nD) (s : Fin 2) {p : Prop} [Decidable p] (h : ¬ p) (tk : Fin 512 → Fin 32768) (hc : S32768x1024.Idx → Elt F .f32) :
    (Half c s p tk hc : sProp (MM F)) = Idle c s hc := if_neg h

section Body

variable (c : Dev nD) (i : grid0.Coords) (arg3 : Memref sig .tc .smem S1x1x512 .i32) (harg3 : arg3.IsWhole) (arg4 : Memref sig .tc .smem S1x1x512 .i32) (harg4 : arg4.IsWhole) (arg6 : Memref sig .tc .vmem S1x1024 .f32) (harg6 : arg6.IsWhole) (arg7 : Memref sig .tc .vmem S1x1024x2048 .bf16) (harg7 : arg7.IsWhole) (arg8 : Memref sig .tc .vmem S1x1x2048 .f32) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S512x1024 .f32) (harg11 : arg11.IsWhole)
variable (n : BitVec 32) (kk : PUnit.{1} → Prog (TpuEff nD τ sig (Elt F) Λ₀ .tc) PUnit.{1})

/-! ## The body, stage by stage -/

def st1 : Prog (TpuEff nD τ sig (Elt F) Λ₀ .tc) PUnit.{1} :=
  if h : k0_cond1 i = 1#1 then (k0_t1_loop.for (k0_t1_ok i h) ⟨⟩ (k0_t1_body i tbM0_0 htbM0_0 tbM0_1 htbM0_1 arg3 harg3 arg4 harg4 (Memref.whole main_arg3) (Memref.isWhole_whole _) arg6 harg6 arg7 harg7 arg8 harg8 arg9 harg9 arg10 harg10 arg11 harg11 scM0_0 (Memref.isWhole_whole _) cc0_scratch1 h)) >>= fun _ => kk ⟨⟩ else kk ⟨⟩

def st2 : Prog (TpuEff nD τ sig (Elt F) Λ₀ .tc) PUnit.{1} :=
  if h : k0_cond2 i n = 1#1 then (k0_t2_loop.for k0_t2_ok ⟨⟩ (k0_t2_body i tbM0_0 htbM0_0 tbM0_1 htbM0_1 arg3 harg3 arg4 harg4 (Memref.whole main_arg3) (Memref.isWhole_whole _) arg6 harg6 arg7 harg7 arg8 harg8 arg9 harg9 arg10 harg10 arg11 harg11 scM0_0 (Memref.isWhole_whole _) cc0_scratch1 n h)) >>= fun _ => kk ⟨⟩ else kk ⟨⟩

def st3 : Prog (TpuEff nD τ sig (Elt F) Λ₀ .tc) PUnit.{1} :=
  if h : k0_cond3 i n = 1#1 then (k0_t3_loop.for k0_t3_ok ⟨⟩ (k0_t3_body i tbM0_0 htbM0_0 tbM0_1 htbM0_1 arg3 harg3 arg4 harg4 (Memref.whole main_arg3) (Memref.isWhole_whole _) arg6 harg6 arg7 harg7 arg8 harg8 arg9 harg9 arg10 harg10 arg11 harg11 scM0_0 (Memref.isWhole_whole _) cc0_scratch1 n h)) >>= fun _ => kk ⟨⟩ else kk ⟨⟩

def st4 : Prog (TpuEff nD τ sig (Elt F) Λ₀ .tc) PUnit.{1} :=
  if h : k0_cond4 i n = 1#1 then
    (k0_part1 i tbM0_0 htbM0_0 tbM0_1 htbM0_1 arg3 harg3 arg4 harg4 (Memref.whole main_arg3) (Memref.isWhole_whole _) arg6 harg6 arg7 harg7 arg8 harg8 arg9 harg9 arg10 harg10 arg11 harg11 scM0_0 (Memref.isWhole_whole _) cc0_scratch1 n (Scalar.remsi (BitVec.ofNat 32 (i 0).val) 2#32) h) >>= fun p =>
      match p with
      | ⟨v52, ⟨v57, v60⟩⟩ => do
        let v66 : Vec F S1x1024x1024 .bf16 ← Prog.lift (.load arg9 (Rect.unit (s := S1x1024x1024) ![0, 0, 0] S1x1024x1024.size inb_S1x1024x1024_S1x1024x1024_0_0_0).toLoadRect (View.loadsAt_vmem h_S1x1024x1024))
        let v69 : Vec F S1x1x1024 .f32 ← Prog.lift (.load arg10 (Rect.unit (s := S1x1x1024) ![0, 0, 0] S1x1x1024.size inb_S1x1x1024_S1x1x1024_0_0_0).toLoadRect (View.loadsAt_vmem h_S1x1x1024))
        let _ : Vec F S512x1024 .f32 ← Prog.lift (.load arg11 (Rect.unit (s := S512x1024) ![0, 0] S512x1024.size inb_S512x1024_S512x1024_0_0).toLoadRect (View.loadsAt_vmem h_S512x1024))
        Prog.lift (.store arg11 (Rect.unit (s := S512x1024) ![0, 0] S512x1024.size inb_S512x1024_S512x1024_0_0) (k0_pay1 v52 v57 v60 v66 v69) Finset.univ (View.stores_vmem_bits_univ h_S512x1024 rfl) (.inl rfl))
        kk ⟨⟩
  else kk ⟨⟩

def st5 : Prog (TpuEff nD τ sig (Elt F) Λ₀ .tc) PUnit.{1} :=
  if h : k0_cond5 i n = 1#1 then do
    let _ : Vec F S512x1024 .f32 ← Prog.lift (.load arg11 (Rect.unit (s := S512x1024) ![0, 0] S512x1024.size inb_S512x1024_S512x1024_0_0).toLoadRect (View.loadsAt_vmem h_S512x1024))
    Prog.lift (.store arg11 (Rect.unit (s := S512x1024) ![0, 0] S512x1024.size inb_S512x1024_S512x1024_0_0) (k0_pay2 (F := F)) Finset.univ (View.stores_vmem_bits_univ h_S512x1024 rfl) (.inl rfl))
    kk ⟨⟩
  else kk ⟨⟩

/-- The body is the load of the number of used blocks, then the five stages. -/
theorem body_stages : cc0_moe_experts (F := F) i tbM0_0 htbM0_0 tbM0_1 htbM0_1 arg3 harg3 arg4 harg4 (Memref.whole main_arg3) (Memref.isWhole_whole _) arg6 harg6 arg7 harg7 arg8 harg8 arg9 harg9 arg10 harg10 arg11 harg11 scM0_0 (Memref.isWhole_whole _) cc0_scratch1
    = (smemLoad tbM0_1 (Rect.unit (s := S1) ![0] S1.size inb_S1_S1_0) numel1_S1 rfl >>= fun n => st1 (F := F) i arg3 harg3 arg4 harg4 arg6 harg6 arg7 harg7 arg8 harg8 arg9 harg9 arg10 harg10 arg11 harg11 (fun _ => st2 i arg3 harg3 arg4 harg4 arg6 harg6 arg7 harg7 arg8 harg8 arg9 harg9 arg10 harg10 arg11 harg11 n (fun _ => st3 i arg3 harg3 arg4 harg4 arg6 harg6 arg7 harg7 arg8 harg8 arg9 harg9 arg10 harg10 arg11 harg11 n (fun _ =>
        st4 i arg3 harg3 arg4 harg4 arg6 harg6 arg7 harg7 arg8 harg8 arg9 harg9 arg10 harg10 arg11 harg11 n (fun _ => st5 i arg11 n (fun _ => pure ⟨⟩)))))) := rfl

variable (x0 x1 : Vec F S1x1x512 .i32) (hc : S32768x1024.Idx → Elt F .f32) {Q : PUnit.{1} → sProp (MM F)}

/-- Loop 1 puts half 0's copies in flight. -/
theorem issues1 (x : Vec F S1x1x512 .i32) (hx : ∀ r : Fin 512, (x (ix3 0 0 r) : BitVec 32).toNat < 32768) (h : k0_cond1 i = 1#1) :
    (iprop(owns (c : Thread nD τ) arg3 fullShare x ∗ Idle c 0 hc) : sProp (MM F))
      ⊢ iprop((iprop(owns (c : Thread nD τ) arg3 fullShare x ∗ Flying c 0 (tkOf x) hc 0) -∗ wp frame (wpE (defs₀ (F := F)) Variants.none (c : Thread nD τ) none) Set.univ (kk ⟨⟩) Q)
        -∗ wp frame (wpE (defs₀ (F := F)) Variants.none (c : Thread nD τ) none) Set.univ ((k0_t1_loop.for (k0_t1_ok i h) ⟨⟩ (k0_t1_body i tbM0_0 htbM0_0 tbM0_1 htbM0_1 arg3 harg3 arg4 harg4 (Memref.whole main_arg3) (Memref.isWhole_whole _) arg6 harg6 arg7 harg7 arg8 harg8 arg9 harg9 arg10 harg10 arg11 harg11 scM0_0 (Memref.isWhole_whole _) cc0_scratch1 h)) >>= fun _ => kk ⟨⟩) Q) := by
  iintro ⟨Hx, HI⟩ Hk
  imod (start_begin c 0 (tkOf x) hc) $$ HI with HS
  iapply (Scf.wp_for_bind _ _ _ _ _ _ _ _ _ (fun k _ => iprop(owns (c : Thread nD τ) arg3 fullShare x ∗ Started c 0 (tkOf x) hc (2 * k)))
    (fun k acc => issue1 c i arg3 harg3 arg4 harg4 arg6 harg6 arg7 harg7 arg8 harg8 arg9 harg9 arg10 harg10 arg11 harg11 x hx hc h k acc)) $$ [Hx HS]
  · isplitl [Hx]; · iexact Hx
    iexact HS
  iintro %acc ⟨Hx, HS⟩
  iapply Hk
  isplitl [Hx]; · iexact Hx
  iapply (start_end c 0 (tkOf x) hc)
  iexact HS

/-- Loop 2 puts half 0's copies in flight. -/
theorem issues2 (x : Vec F S1x1x512 .i32) (hx : ∀ r : Fin 512, (x (ix3 0 0 r) : BitVec 32).toNat < 32768) (h : k0_cond2 i n = 1#1) :
    (iprop(owns (c : Thread nD τ) arg4 fullShare x ∗ Idle c 0 hc) : sProp (MM F))
      ⊢ iprop((iprop(owns (c : Thread nD τ) arg4 fullShare x ∗ Flying c 0 (tkOf x) hc 0) -∗ wp frame (wpE (defs₀ (F := F)) Variants.none (c : Thread nD τ) none) Set.univ (kk ⟨⟩) Q)
        -∗ wp frame (wpE (defs₀ (F := F)) Variants.none (c : Thread nD τ) none) Set.univ ((k0_t2_loop.for k0_t2_ok ⟨⟩ (k0_t2_body i tbM0_0 htbM0_0 tbM0_1 htbM0_1 arg3 harg3 arg4 harg4 (Memref.whole main_arg3) (Memref.isWhole_whole _) arg6 harg6 arg7 harg7 arg8 harg8 arg9 harg9 arg10 harg10 arg11 harg11 scM0_0 (Memref.isWhole_whole _) cc0_scratch1 n h)) >>= fun _ => kk ⟨⟩) Q) := by
  iintro ⟨Hx, HI⟩ Hk
  imod (start_begin c 0 (tkOf x) hc) $$ HI with HS
  iapply (Scf.wp_for_bind _ _ _ _ _ _ _ _ _ (fun k _ => iprop(owns (c : Thread nD τ) arg4 fullShare x ∗ Started c 0 (tkOf x) hc (2 * k)))
    (fun k acc => issue2 c i arg3 harg3 arg4 harg4 arg6 harg6 arg7 harg7 arg8 harg8 arg9 harg9 arg10 harg10 arg11 harg11 x hx hc n h k acc)) $$ [Hx HS]
  · isplitl [Hx]; · iexact Hx
    iexact HS
  iintro %acc ⟨Hx, HS⟩
  iapply Hk
  isplitl [Hx]; · iexact Hx
  iapply (start_end c 0 (tkOf x) hc)
  iexact HS

/-- Loop 3 puts half 1's copies in flight. -/
theorem issues3 (x : Vec F S1x1x512 .i32) (hx : ∀ r : Fin 512, (x (ix3 0 0 r) : BitVec 32).toNat < 32768) (h : k0_cond3 i n = 1#1) :
    (iprop(owns (c : Thread nD τ) arg4 fullShare x ∗ Idle c 1 hc) : sProp (MM F))
      ⊢ iprop((iprop(owns (c : Thread nD τ) arg4 fullShare x ∗ Flying c 1 (tkOf x) hc 0) -∗ wp frame (wpE (defs₀ (F := F)) Variants.none (c : Thread nD τ) none) Set.univ (kk ⟨⟩) Q)
        -∗ wp frame (wpE (defs₀ (F := F)) Variants.none (c : Thread nD τ) none) Set.univ ((k0_t3_loop.for k0_t3_ok ⟨⟩ (k0_t3_body i tbM0_0 htbM0_0 tbM0_1 htbM0_1 arg3 harg3 arg4 harg4 (Memref.whole main_arg3) (Memref.isWhole_whole _) arg6 harg6 arg7 harg7 arg8 harg8 arg9 harg9 arg10 harg10 arg11 harg11 scM0_0 (Memref.isWhole_whole _) cc0_scratch1 n h)) >>= fun _ => kk ⟨⟩) Q) := by
  iintro ⟨Hx, HI⟩ Hk
  imod (start_begin c 1 (tkOf x) hc) $$ HI with HS
  iapply (Scf.wp_for_bind _ _ _ _ _ _ _ _ _ (fun k _ => iprop(owns (c : Thread nD τ) arg4 fullShare x ∗ Started c 1 (tkOf x) hc (2 * k)))
    (fun k acc => issue3 c i arg3 harg3 arg4 harg4 arg6 harg6 arg7 harg7 arg8 harg8 arg9 harg9 arg10 harg10 arg11 harg11 x hx hc n h k acc)) $$ [Hx HS]
  · isplitl [Hx]; · iexact Hx
    iexact HS
  iintro %acc ⟨Hx, HS⟩
  iapply Hk
  isplitl [Hx]; · iexact Hx
  iapply (start_end c 1 (tkOf x) hc)
  iexact HS

/-- After the first stage the block's copies are in flight, if the block is used. -/
theorem wp_st1 (s : Fin 2) (hs : s.val = (i 0).val % 2) (hn1 : 1 ≤ n.toNat)
    (hx : ∀ r : Fin 512, (x0 (ix3 0 0 r) : BitVec 32).toNat < 32768) :
    (iprop(owns (c : Thread nD τ) arg3 fullShare x0 ∗ Half c s (1 ≤ (i 0).val ∧ (i 0).val < n.toNat) (tkOf x0) hc) : sProp (MM F))
      ⊢ iprop((iprop(owns (c : Thread nD τ) arg3 fullShare x0 ∗ Half c s ((i 0).val < n.toNat) (tkOf x0) hc) -∗ wp frame (wpE (defs₀ (F := F)) Variants.none (c : Thread nD τ) none) Set.univ (kk ⟨⟩) Q)
        -∗ wp frame (wpE (defs₀ (F := F)) Variants.none (c : Thread nD τ) none) Set.univ (st1 i arg3 harg3 arg4 harg4 arg6 harg6 arg7 harg7 arg8 harg8 arg9 harg9 arg10 harg10 arg11 harg11 kk) Q) := by
  unfold st1
  by_cases h : k0_cond1 i = 1#1
  · have h0 := (cond1_iff i).mp h
    obtain rfl : s = 0 := Fin.ext (by rw [hs, h0]; rfl)
    rw [dif_pos h, half_neg c 0 (by omega), half_pos c 0 (show (i 0).val < n.toNat by omega)]
    exact issues1 c i arg3 harg3 arg4 harg4 arg6 harg6 arg7 harg7 arg8 harg8 arg9 harg9 arg10 harg10 arg11 harg11 kk hc x0 hx h
  · have h0 : (i 0).val ≠ 0 := fun e => h ((cond1_iff i).mpr e)
    rw [dif_neg h]
    have e : (Half c s (1 ≤ (i 0).val ∧ (i 0).val < n.toNat) (tkOf x0) hc : sProp (MM F)) = Half c s ((i 0).val < n.toNat) (tkOf x0) hc := by
      by_cases hl : (i 0).val < n.toNat
      · rw [half_pos c s hl, half_pos c s ⟨by omega, hl⟩]
      · rw [half_neg c s hl, half_neg c s (fun hh => hl hh.2)]
    rw [e]
    iintro H Hk
    iapply Hk
    iexact H

/-- After the next two stages the next block's copies are in flight, if that block is used. -/
theorem wp_st23 (s : Fin 2) (hs : s.val = ((i 0).val + 1) % 2) (hn : n.toNat < 2 ^ 31)
    (hx : ∀ r : Fin 512, (x1 (ix3 0 0 r) : BitVec 32).toNat < 32768) :
    (iprop(owns (c : Thread nD τ) arg4 fullShare x1 ∗ Idle c s hc) : sProp (MM F))
      ⊢ iprop((iprop(owns (c : Thread nD τ) arg4 fullShare x1 ∗ Half c s ((i 0).val + 1 < n.toNat) (tkOf x1) hc) -∗ wp frame (wpE (defs₀ (F := F)) Variants.none (c : Thread nD τ) none) Set.univ (kk ⟨⟩) Q)
        -∗ wp frame (wpE (defs₀ (F := F)) Variants.none (c : Thread nD τ) none) Set.univ (st2 i arg3 harg3 arg4 harg4 arg6 harg6 arg7 harg7 arg8 harg8 arg9 harg9 arg10 harg10 arg11 harg11 n (fun _ => st3 i arg3 harg3 arg4 harg4 arg6 harg6 arg7 harg7 arg8 harg8 arg9 harg9 arg10 harg10 arg11 harg11 n kk)) Q) := by
  unfold st2 st3
  by_cases hl : (i 0).val + 1 < n.toNat
  · rw [half_pos c s hl]
    rcases Nat.mod_two_eq_zero_or_one ((i 0).val + 1) with hm | hm
    · have h2 : k0_cond2 i n = 1#1 := (cond2_iff i n hn).mpr ⟨hl, hm⟩
      have h3 : ¬ k0_cond3 i n = 1#1 := fun e => by have := ((cond3_iff i n hn).mp e).2; omega
      obtain rfl : s = 0 := Fin.ext (by rw [hs, hm]; rfl)
      rw [dif_pos h2, dif_neg h3]
      exact issues2 c i arg3 harg3 arg4 harg4 arg6 harg6 arg7 harg7 arg8 harg8 arg9 harg9 arg10 harg10 arg11 harg11 n kk hc x1 hx h2
    · have h3 : k0_cond3 i n = 1#1 := (cond3_iff i n hn).mpr ⟨hl, hm⟩
      have h2 : ¬ k0_cond2 i n = 1#1 := fun e => by have := ((cond2_iff i n hn).mp e).2; omega
      obtain rfl : s = 1 := Fin.ext (by rw [hs, hm]; rfl)
      rw [dif_neg h2, dif_pos h3]
      exact issues3 c i arg3 harg3 arg4 harg4 arg6 harg6 arg7 harg7 arg8 harg8 arg9 harg9 arg10 harg10 arg11 harg11 n kk hc x1 hx h3
  · have h2 : ¬ k0_cond2 i n = 1#1 := fun e => hl ((cond2_iff i n hn).mp e).1
    have h3 : ¬ k0_cond3 i n = 1#1 := fun e => hl ((cond3_iff i n hn).mp e).1
    rw [half_neg c s hl, dif_neg h2, dif_neg h3]
    iintro H Hk
    iapply Hk
    iexact H

variable (x2 : Vec F S1x1024 .f32) (x3 : Vec F S1x1024x2048 .bf16) (x4 : Vec F S1x1x2048 .f32) (x5 : Vec F S1x1024x1024 .bf16) (x6 : Vec F S1x1x1024 .f32)

/-- A used block's output, from its gathered rows and its expert's arrays. -/
def outB (X : Vec F S1x512x1024 .f32) : Vec F S512x1024 .f32 :=
  k0_pay1 (k0_pay4 X x2 x3 x4) (k0_pay5 X x2 x3 x4) (k0_pay6 X x2 x3 x4) x5 x6

/-- The wait loop and the first loads: the block's rows land, and the half is at rest again. -/
theorem wp_part1 (s : Fin 2) (hs : s.val = (i 0).val % 2) (h : k0_cond4 i n = 1#1)
    (hx : ∀ r : Fin 512, (x0 (ix3 0 0 r) : BitVec 32).toNat < 32768)
    {R : (Σ' (v52 : FVec F S512x1024 .f32) (v57 : FVec F S512x1024 .f32), FVec F S512x1024 .f32) → sProp (MM F)} :
    (iprop(owns (c : Thread nD τ) arg3 fullShare x0 ∗ Flying c s (tkOf x0) hc 0 ∗ owns (c : Thread nD τ) arg6 fullShare x2 ∗ owns (c : Thread nD τ) arg7 fullShare x3 ∗ owns (c : Thread nD τ) arg8 fullShare x4 ∗ (∃ W, owes (c : Thread nD τ) 0 W)) : sProp (MM F))
      ⊢ iprop((iprop(owns (c : Thread nD τ) arg3 fullShare x0 ∗ Idle c s hc ∗ owns (c : Thread nD τ) arg6 fullShare x2 ∗ owns (c : Thread nD τ) arg7 fullShare x3 ∗ owns (c : Thread nD τ) arg8 fullShare x4 ∗ (∃ W, owes (c : Thread nD τ) 0 W))
          -∗ R ⟨k0_pay4 (Xb (tkOf x0) hc) x2 x3 x4, k0_pay5 (Xb (tkOf x0) hc) x2 x3 x4, k0_pay6 (Xb (tkOf x0) hc) x2 x3 x4⟩)
        -∗ wp frame (wpE (defs₀ (F := F)) Variants.none (c : Thread nD τ) none) Set.univ (k0_part1 i tbM0_0 htbM0_0 tbM0_1 htbM0_1 arg3 harg3 arg4 harg4 (Memref.whole main_arg3) (Memref.isWhole_whole _) arg6 harg6 arg7 harg7 arg8 harg8 arg9 harg9 arg10 harg10 arg11 harg11 scM0_0 (Memref.isWhole_whole _) cc0_scratch1 n (Scalar.remsi (BitVec.ofNat 32 (i 0).val) 2#32) h) R) := by
  rw [k0_part1_eq_skeleton]
  unfold k0_part1_skel
  iintro ⟨H3, HS, H6, H7, H8, %W, HO⟩ Hk
  iapply (Scf.wp_for_bind _ _ _ _ _ _ _ _ _ (fun k _ => iprop(owns (c : Thread nD τ) arg3 fullShare x0 ∗ ∃ W, Flying c s (tkOf x0) hc (NN * k) ∗ owes (c : Thread nD τ) 0 W))
    (fun k acc => await4 c i arg3 harg3 arg4 harg4 arg6 harg6 arg7 harg7 arg8 harg8 arg9 harg9 arg10 harg10 arg11 harg11 x0 hx hc n h s hs k acc)) $$ [H3 HS HO]
  · isplitl [H3]; · iexact H3
    iexists W
    isplitl [HS]; · iexact HS
    iexact HO
  iintro %acc ⟨H3, %W', HS, HO⟩
  imod (show (Flying c s (tkOf x0) hc (NN * k0_t4_loop.trips) : sProp (MM F)) ⊢ _ from land c s (tkOf x0) hc) $$ HS with HL
  unfold Landed
  icases HL with ⟨HS, Hq, Hh⟩
  iapply (wp_load_slab c s (tkOf x0) hc (by rw [hs]; exact off25_eq i)) $$ HS
  iintro HS
  iapply (wp_load_full c arg6 fullShare x2 (by decide)) $$ H6
  iintro H6
  iapply (wp_load_full c arg7 fullShare x3 (by decide)) $$ H7
  iintro H7
  iapply (wp_load_full c arg8 fullShare x4 (by decide)) $$ H8
  iintro H8
  simp only [ret_bind', wp_pure]
  imodintro
  iapply Hk
  isplitl [H3]; · iexact H3
  isplitl [HS Hq Hh]
  · iapply (landed_idle c s (tkOf x0) hc)
    unfold Landed
    isplitl [HS]; · iexact HS
    isplitl [Hq]; · iexact Hq
    iexact Hh
  isplitl [H6]; · iexact H6
  isplitl [H7]; · iexact H7
  isplitl [H8]; · iexact H8
  iexists _; iexact HO

/-- The last two stages leave the block's output, and the half at rest. -/
theorem wp_st45 (s : Fin 2) (hs : s.val = (i 0).val % 2) (hn : n.toNat < 2 ^ 31)
    (hx : ∀ r : Fin 512, (x0 (ix3 0 0 r) : BitVec 32).toNat < 32768) :
    (iprop(owns (c : Thread nD τ) arg3 fullShare x0 ∗ Half c s ((i 0).val < n.toNat) (tkOf x0) hc ∗ owns (c : Thread nD τ) arg6 fullShare x2 ∗ owns (c : Thread nD τ) arg7 fullShare x3 ∗ owns (c : Thread nD τ) arg8 fullShare x4
          ∗ owns (c : Thread nD τ) arg9 fullShare x5 ∗ owns (c : Thread nD τ) arg10 fullShare x6 ∗ (∃ d, owns (c : Thread nD τ) arg11 fullShare d) ∗ (∃ W, owes (c : Thread nD τ) 0 W)) : sProp (MM F))
      ⊢ iprop((iprop(owns (c : Thread nD τ) arg3 fullShare x0 ∗ Idle c s hc ∗ owns (c : Thread nD τ) arg6 fullShare x2 ∗ owns (c : Thread nD τ) arg7 fullShare x3 ∗ owns (c : Thread nD τ) arg8 fullShare x4
          ∗ owns (c : Thread nD τ) arg9 fullShare x5 ∗ owns (c : Thread nD τ) arg10 fullShare x6
          ∗ owns (c : Thread nD τ) arg11 fullShare (if (i 0).val < n.toNat then outB x2 x3 x4 x5 x6 (Xb (tkOf x0) hc) else k0_pay2) ∗ (∃ W, owes (c : Thread nD τ) 0 W)) -∗ wp frame (wpE (defs₀ (F := F)) Variants.none (c : Thread nD τ) none) Set.univ (kk ⟨⟩) Q)
        -∗ wp frame (wpE (defs₀ (F := F)) Variants.none (c : Thread nD τ) none) Set.univ (st4 i arg3 harg3 arg4 harg4 arg6 harg6 arg7 harg7 arg8 harg8 arg9 harg9 arg10 harg10 arg11 harg11 n (fun _ => st5 i arg11 n kk)) Q) := by
  unfold st4 st5
  by_cases hl : (i 0).val < n.toNat
  · have h4 : k0_cond4 i n = 1#1 := (cond4_iff i n hn).mpr hl
    have h5 : ¬ k0_cond5 i n = 1#1 := fun e => by have := (cond5_iff i n hn).mp e; omega
    rw [dif_pos h4, dif_neg h5, half_pos c s hl, if_pos hl, wp_bind]
    iintro ⟨H3, HS, H6, H7, H8, H9, H10, ⟨%d, H11⟩, HO⟩ Hk
    iapply (wp_part1 c i arg3 harg3 arg4 harg4 arg6 harg6 arg7 harg7 arg8 harg8 arg9 harg9 arg10 harg10 arg11 harg11 n x0 hc x2 x3 x4 s hs h4 hx) $$ [H3 HS H6 H7 H8 HO]
    · isplitl [H3]; · iexact H3
      isplitl [HS]; · iexact HS
      isplitl [H6]; · iexact H6
      isplitl [H7]; · iexact H7
      isplitl [H8]; · iexact H8
      iexact HO
    iintro ⟨H3, HS, H6, H7, H8, HO⟩
    iapply (wp_load_full c arg9 fullShare x5 (by decide)) $$ H9
    iintro H9
    iapply (wp_load_full c arg10 fullShare x6 (by decide)) $$ H10
    iintro H10
    iapply (wp_load_full c arg11 fullShare d (by decide)) $$ H11
    iintro H11
    iapply (wp_store_full c arg11 d _ (by decide)) $$ H11
    iintro H11
    simp only [ret_bind']
    iapply Hk
    isplitl [H3]; · iexact H3
    isplitl [HS]; · iexact HS
    isplitl [H6]; · iexact H6
    isplitl [H7]; · iexact H7
    isplitl [H8]; · iexact H8
    isplitl [H9]; · iexact H9
    isplitl [H10]; · iexact H10
    isplitl [H11]; · iexact H11
    iexact HO
  · have h4 : ¬ k0_cond4 i n = 1#1 := fun e => hl ((cond4_iff i n hn).mp e)
    have h5 : k0_cond5 i n = 1#1 := (cond5_iff i n hn).mpr (by omega)
    rw [dif_neg h4, dif_pos h5, half_neg c s hl, if_neg hl]
    iintro ⟨H3, HS, H6, H7, H8, H9, H10, ⟨%d, H11⟩, HO⟩ Hk
    iapply (wp_load_full c arg11 fullShare d (by decide)) $$ H11
    iintro H11
    iapply (wp_store_full c arg11 d _ (by decide)) $$ H11
    iintro H11
    simp only [ret_bind']
    iapply Hk
    isplitl [H3]; · iexact H3
    isplitl [HS]; · iexact HS
    isplitl [H6]; · iexact H6
    isplitl [H7]; · iexact H7
    isplitl [H8]; · iexact H8
    isplitl [H9]; · iexact H9
    isplitl [H10]; · iexact H10
    isplitl [H11]; · iexact H11
    iexact HO

/-- The body at one grid point. -/
theorem wp_body (xn : Vec F S1 .i32) (q : PosShare TreeShare) (s s' : Fin 2) (hs : s.val = (i 0).val % 2) (hs' : s'.val = ((i 0).val + 1) % 2)
    (hn : (xn (ix1 0) : BitVec 32).toNat < 2 ^ 31) (hn1 : 1 ≤ (xn (ix1 0) : BitVec 32).toNat)
    (hx0 : ∀ r : Fin 512, (x0 (ix3 0 0 r) : BitVec 32).toNat < 32768) (hx1 : ∀ r : Fin 512, (x1 (ix3 0 0 r) : BitVec 32).toNat < 32768) :
    (iprop(owns (c : Thread nD τ) tbM0_1 q xn ∗ owns (c : Thread nD τ) arg3 fullShare x0 ∗ owns (c : Thread nD τ) arg4 fullShare x1
          ∗ owns (c : Thread nD τ) arg6 fullShare x2 ∗ owns (c : Thread nD τ) arg7 fullShare x3 ∗ owns (c : Thread nD τ) arg8 fullShare x4
          ∗ owns (c : Thread nD τ) arg9 fullShare x5 ∗ owns (c : Thread nD τ) arg10 fullShare x6 ∗ (∃ d, owns (c : Thread nD τ) arg11 fullShare d) ∗ (∃ W, owes (c : Thread nD τ) 0 W)
          ∗ Half c s (1 ≤ (i 0).val ∧ (i 0).val < (xn (ix1 0) : BitVec 32).toNat) (tkOf x0) hc ∗ Idle c s' hc) : sProp (MM F))
      ⊢ iprop((iprop(owns (c : Thread nD τ) tbM0_1 q xn ∗ owns (c : Thread nD τ) arg3 fullShare x0 ∗ owns (c : Thread nD τ) arg4 fullShare x1
          ∗ owns (c : Thread nD τ) arg6 fullShare x2 ∗ owns (c : Thread nD τ) arg7 fullShare x3 ∗ owns (c : Thread nD τ) arg8 fullShare x4
          ∗ owns (c : Thread nD τ) arg9 fullShare x5 ∗ owns (c : Thread nD τ) arg10 fullShare x6
          ∗ owns (c : Thread nD τ) arg11 fullShare (if (i 0).val < (xn (ix1 0) : BitVec 32).toNat then outB x2 x3 x4 x5 x6 (Xb (tkOf x0) hc) else k0_pay2) ∗ (∃ W, owes (c : Thread nD τ) 0 W)
          ∗ Half c s' ((i 0).val + 1 < (xn (ix1 0) : BitVec 32).toNat) (tkOf x1) hc ∗ Idle c s hc) -∗ Q ⟨⟩)
        -∗ wp frame (wpE (defs₀ (F := F)) Variants.none (c : Thread nD τ) none) Set.univ (cc0_moe_experts (F := F) i tbM0_0 htbM0_0 tbM0_1 htbM0_1 arg3 harg3 arg4 harg4 (Memref.whole main_arg3) (Memref.isWhole_whole _) arg6 harg6 arg7 harg7 arg8 harg8 arg9 harg9 arg10 harg10 arg11 harg11 scM0_0 (Memref.isWhole_whole _) cc0_scratch1) Q) := by
  rw [body_stages]
  iintro ⟨Hn, H3, H4, H6, H7, H8, H9, H10, H11, HO, HS, HS'⟩ Hk
  iapply (wp_load_full c tbM0_1 q xn (by decide)
    (k := fun f => (Prog.ret (f (Shape.Idx.first (numel1_S1.symm ▸ Nat.one_pos)))).bind _)) $$ Hn
  iintro Hn
  rw [ret_bind', show (Shape.Idx.first (numel1_S1.symm ▸ Nat.one_pos) : S1.Idx) = ix1 0 from by
    funext a; fin_cases a; exact Subsingleton.elim (α := Fin 1) _ _]
  iapply (wp_st1 c i arg3 harg3 arg4 harg4 arg6 harg6 arg7 harg7 arg8 harg8 arg9 harg9 arg10 harg10 arg11 harg11 (xn (ix1 0)) _ x0 hc s hs hn1 hx0) $$ [H3 HS]
  · isplitl [H3]; · iexact H3
    iexact HS
  iintro ⟨H3, HS⟩
  iapply (wp_st23 c i arg3 harg3 arg4 harg4 arg6 harg6 arg7 harg7 arg8 harg8 arg9 harg9 arg10 harg10 arg11 harg11 (xn (ix1 0)) _ x1 hc s' hs' hn hx1) $$ [H4 HS']
  · isplitl [H4]; · iexact H4
    iexact HS'
  iintro ⟨H4, HS'⟩
  iapply (wp_st45 c i arg3 harg3 arg4 harg4 arg6 harg6 arg7 harg7 arg8 harg8 arg9 harg9 arg10 harg10 arg11 harg11 (xn (ix1 0)) _ x0 hc x2 x3 x4 x5 x6 s hs hn hx0) $$ [H3 HS H6 H7 H8 H9 H10 H11 HO]
  · isplitl [H3]; · iexact H3
    isplitl [HS]; · iexact HS
    isplitl [H6]; · iexact H6
    isplitl [H7]; · iexact H7
    isplitl [H8]; · iexact H8
    isplitl [H9]; · iexact H9
    isplitl [H10]; · iexact H10
    isplitl [H11]; · iexact H11
    iexact HO
  iintro ⟨H3, HS, H6, H7, H8, H9, H10, H11, HO⟩
  simp only [wp_pure]
  imodintro
  iapply Hk
  isplitl [Hn]; · iexact Hn
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [HO]; · iexact HO
  isplitl [HS']; · iexact HS'
  iexact HS

end Body

end Cert.Moe.Hand

end
-- ==== Proof.MoeRun.lean ====
/-
The run of the mixture-of-experts call: what is in flight between the grid points (`Phi`), the body's triple at a
point of the grid, the launch, and the frame.
-/
module

public import proofs.«01_k».proof.Proof.MoeBody
public import Idealize.ShloMosaic.Lib.Claim

@[expose] public section

set_option maxRecDepth 16384

noncomputable section

namespace Cert.Moe.Hand

open Cert.Moe Cert.Moe.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

variable (m : (ℓ : Loc nD τ sig) → Buf (Elt F) ℓ) (ρ : Dev nD → PrngReg)

/-! ## The words the kernel reads -/

/-- The number of used blocks. -/
def used : ℕ := (tbl m 1 (ix1 0) : BitVec 32).toNat

/-- The words of block `b`, laid out as the kernel stages them. -/
def words (c : Dev nD) (b : Fin 288) : S1x1x512.Idx → BitVec 32 := fun y => (V m c main_v2 : S288x1x512.Idx → BitVec 32) (ix3 b 0 (y 2))

/-- The tokens block `b` (modulo 288) gathers. -/
def tok (c : Dev nD) (b : ℕ) : Fin 512 → Fin 32768 := tkOf (words m c (Fin.ofNat 288 b))

/-- What the run asks of the launch memory: each block's expert within range, at least one block used and at most all
    of them, and each row's token within range. -/
structure Good : Prop where
  ok : Ok m
  pos : 1 ≤ used m
  le : used m ≤ 288
  tok : ∀ (c : Dev nD) (b : Fin 288) (r : Fin 512), (words m c b (ix3 0 0 r)).toNat < 32768

theorem N_288 : grid0.N = 288 := by decide

theorem coord (hO : Ok m) (t : Fin (cfgM m hO).N) : (grid0.coords t 0).val = t.val := by
  have hN : (cfgM m hO).N = 288 := N_288
  have h := Pipeline.Grid.coords_val (G := grid0) t 0 (S := 1) (B := 288) (by decide) rfl
  have ht := t.isLt
  rw [h]; omega

/-- Window 0 stages the point's own words. -/
theorem iblk0_words (hO : Ok m) (c : Dev nD) (t : Fin (cfgM m hO).N) (r : Fin 512) :
    (iblk m hO c 0 t : S1x1x512.Idx → BitVec 32) (ix3 0 0 r) = words m c (Fin.ofNat 288 t.val) (ix3 0 0 r) := by
  have hN : (cfgM m hO).N = 288 := N_288
  have ht := t.isLt
  show (V m c main_v2 : S288x1x512.Idx → BitVec 32) ((((cfgM m hO).win 0).blk t).view.emb (ix3 0 0 r)) = (V m c main_v2 : S288x1x512.Idx → BitVec 32) (ix3 (Fin.ofNat 288 t.val) 0 r)
  refine congrArg (V m c main_v2 : S288x1x512.Idx → BitVec 32) ?_
  have h0 : (BitVec.ofNat 32 (grid0.coords t 0).val).toNat = t.val := by rw [pt_toNat, coord m hO t]
  funext a; apply Fin.ext
  match a with
  | ⟨0, _⟩ => show (BitVec.ofNat 32 (grid0.coords t 0).val).toNat * 1 + 1 * 0 = t.val % 288; rw [h0]; omega
  | ⟨1, _⟩ => show 0 * 1 + 1 * 0 = 0; omega
  | ⟨2, _⟩ => show 0 * 512 + 1 * r.val = r.val; omega

/-- Window 1 stages the next point's words, the last point's at the last point. -/
theorem next_index (i : grid0.Coords) : cc0_transform_1 i 0 = min ((i 0).val + 1) 287 := by
  have hi := pt_lt i
  show (Scalar.minsi (Scalar.addi (BitVec.ofNat 32 (i 0).val) 1#32) 287#32).toNat = _
  have hs : Scalar.addi (BitVec.ofNat 32 (i 0).val) 1#32 = BitVec.ofNat 32 ((i 0).val + 1) := by
    apply BitVec.eq_of_toNat_eq
    show ((BitVec.ofNat 32 (i 0).val) + 1#32).toNat = _
    rw [BitVec.toNat_add, BitVec.toNat_ofNat, BitVec.toNat_ofNat, BitVec.toNat_ofNat]; omega
  rw [hs]
  generalize hk : (i 0).val + 1 = k
  have : k ≤ 288 := by omega
  clear hs hk hi
  have hall : ∀ k : Fin 289, (Scalar.minsi (BitVec.ofNat 32 k.val) 287#32).toNat = min k.val 287 := by decide
  exact hall ⟨k, by omega⟩

theorem iblk1_words (hO : Ok m) (c : Dev nD) (t : Fin (cfgM m hO).N) (r : Fin 512) :
    (iblk m hO c 1 t : S1x1x512.Idx → BitVec 32) (ix3 0 0 r) = words m c (Fin.ofNat 288 (min (t.val + 1) 287)) (ix3 0 0 r) := by
  have hN : (cfgM m hO).N = 288 := N_288
  have ht := t.isLt
  show (V m c main_v2 : S288x1x512.Idx → BitVec 32) ((((cfgM m hO).win 1).blk t).view.emb (ix3 0 0 r)) = (V m c main_v2 : S288x1x512.Idx → BitVec 32) (ix3 (Fin.ofNat 288 (min (t.val + 1) 287)) 0 r)
  refine congrArg (V m c main_v2 : S288x1x512.Idx → BitVec 32) ?_
  have h0 : cc0_transform_1 (grid0.coords t) 0 = min (t.val + 1) 287 := by rw [next_index, coord m hO t]
  funext a; apply Fin.ext
  match a with
  | ⟨0, _⟩ => show cc0_transform_1 (grid0.coords t) 0 * 1 + 1 * 0 = min (t.val + 1) 287 % 288; rw [h0]; omega
  | ⟨1, _⟩ => show 0 * 1 + 1 * 0 = 0; omega
  | ⟨2, _⟩ => show 0 * 512 + 1 * r.val = r.val; omega

theorem tkOf_congr {x y : S1x1x512.Idx → BitVec 32} (h : ∀ r : Fin 512, x (ix3 0 0 r) = y (ix3 0 0 r)) : tkOf x = tkOf y :=
  funext fun r => congrArg (fun w : BitVec 32 => Fin.ofNat 32768 w.toNat) (h r)

/-! ## The pipeline's proof data -/

/-- Between the points: the generator register, the tables, one half of the scratch in flight with the coming block's
    rows (if that block is used and a point has started them), the other at rest. -/
def Phi (c : Dev nD) (t : ℕ) : sProp (MM F) :=
  iprop((∃ r, prngReg c r) ∗ Pipeline.ΦT pre0 (tbl m) c
    ∗ Half c ⟨t % 2, Nat.mod_lt _ Nat.two_pos⟩ (1 ≤ t ∧ t < used m) (tok m c t) (V m c main_arg3)
    ∗ Idle c ⟨(t + 1) % 2, Nat.mod_lt _ Nat.two_pos⟩ (V m c main_arg3))

/-- What point `t` leaves in the output's staging buffer. -/
def outAt (hO : Ok m) (c : Dev nD) (t : Fin (cfgM m hO).N) : Vec F S512x1024 .f32 :=
  if t.val < used m then outB (iblk m hO c 2 t) (iblk m hO c 3 t) (iblk m hO c 4 t) (iblk m hO c 5 t) (iblk m hO c 6 t) (Xb (tok m c t.val) (V m c main_arg3)) else k0_pay2

/-- The arrays as the region finds them; after the body each input's buffer at its block and the output's at what the
    body leaves; the invariant `Phi`; nothing owed. -/
def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt m hO c t
  Φ t := Phi m c t.val
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

theorem Phi_castSucc (hO : Ok m) (c : Dev nD) (t : Fin (cfgM m hO).N) : (dats m hO 0 c).Φ t.castSucc = Phi m c t.val := by
  dsimp only [dats]; exact congrArg (Phi m c) (Fin.val_castSucc t)
theorem Phi_succ (hO : Ok m) (c : Dev nD) (t : Fin (cfgM m hO).N) : (dats m hO 0 c).Φ t.succ = Phi m c (t.val + 1) := by
  dsimp only [dats]; exact congrArg (Phi m c) (Fin.val_succ t)

/-! ## The body obligation -/

/-- What the body is called with at point `t`. -/
def bodyPre (hO : Ok m) (c : Dev nD) (t : Fin (cfgM m hO).N) : sProp (MM F) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp (MM F) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

theorem half_congr (c : Dev nD) {s s' : Fin 2} {p p' : Prop} [Decidable p] [Decidable p'] {tk tk' : Fin 512 → Fin 32768} (hc : S32768x1024.Idx → Elt F .f32)
    (hs : s = s') (hp : p ↔ p') (ht : p → tk = tk') : (Half c s p tk hc : sProp (MM F)) = Half c s' p' tk' hc := by
  subst hs
  by_cases h : p
  · rw [half_pos c s h, half_pos c s (hp.mp h), ht h]
  · rw [half_neg c s h, half_neg c s (fun h' => h (hp.mpr h'))]

/-- The table of the number of used blocks, as the body holds it. -/
theorem table_owns (c : Dev nD) :
    ((tbPt0 c tbM0_1 (tbl m 1) : sProp (MM F)) ⊢ owns (c : Thread nD τ) tbM0_1 fullShare.right (tbl m 1 : Vec F S1 .i32))
      ∧ ((owns (c : Thread nD τ) tbM0_1 fullShare.right (tbl m 1 : Vec F S1 .i32) : sProp (MM F)) ⊢ tbPt0 c tbM0_1 (tbl m 1)) :=
  ⟨Entails.of_eq (owns_whole (c : Thread nD τ) main_arg1 _ _).symm, Entails.of_eq (owns_whole (c : Thread nD τ) main_arg1 _ _)⟩

set_option maxHeartbeats 800000 in
/-- The body at any point of the grid. -/
theorem sound_body (hG : Good m) (c : Dev nD) (t : Fin (cfgM m hG.ok).N) :
    bodyPre m hG.ok c t ⊢ wp frame (wpE (defs₀ (F := F)) Variants.none c none) Set.univ (bodyAt0 (adm m hG.ok) t) (fun _ => bodyPost m hG.ok c t) := by
  have hN : (cfgM m hG.ok).N = 288 := N_288
  have ht := t.isLt
  have hct := coord m hG.ok t
  have hle := hG.le
  have e0 : tkOf (iblk m hG.ok c 0 t : S1x1x512.Idx → BitVec 32) = tok m c t.val := tkOf_congr fun r => iblk0_words m hG.ok c t r
  unfold bodyPre bodyPost bodyAt0
  simp only [before0_0, before0_1, before0_2, before0_3, before0_4, before0_5, before0_6]
  rw [Phi_castSucc, Phi_succ, after0_0, after0_1, after0_2, after0_3, after0_4, after0_5, after0_6, after0_7]
  unfold Phi Dat.owesAt Pipeline.owesWithin
  rw [PhiT0_eq, show (dats m hG.ok 0 c).owed t.castSucc = 0 from rfl, show (dats m hG.ok 0 c).owed t.succ = 0 from rfl]
  iintro ⟨⟨Hg, ⟨HT0, HT1⟩, HS, HS'⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (wp_body c (grid0.coords t) _ _ _ _ _ _ _ _ _ _ _ _ _ _ _ _ (iblk m hG.ok c 0 t) (iblk m hG.ok c 1 t) (V m c main_arg3)
    (iblk m hG.ok c 2 t) (iblk m hG.ok c 3 t) (iblk m hG.ok c 4 t) (iblk m hG.ok c 5 t) (iblk m hG.ok c 6 t) (tbl m 1) fullShare.right
    ⟨t.val % 2, Nat.mod_lt _ Nat.two_pos⟩ ⟨(t.val + 1) % 2, Nat.mod_lt _ Nat.two_pos⟩ (by rw [hct]) (by rw [hct])
    (lt_of_le_of_lt hle (by norm_num)) hG.pos
    (fun r => (congrArg BitVec.toNat (iblk0_words m hG.ok c t r)).trans_lt (hG.tok c _ r))
    (fun r => (congrArg BitVec.toNat (iblk1_words m hG.ok c t r)).trans_lt (hG.tok c _ r))) $$ [HT1 H0 H1 H2 H3 H4 H5 H6 H7 HW HS HS']
  · isplitl [HT1]
    · iapply (table_owns m c).1 $$ HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HW]; · iexists _; iexact HW
    isplitl [HS]
    · iapply (Entails.of_eq (half_congr c (V m c main_arg3) rfl (by rw [hct]; exact Iff.rfl) (fun _ => e0.symm))) $$ HS
    iexact HS'
  iintro ⟨HT1, H0, H1, H2, H3, H4, H5, H6, H7, ⟨%W', HW'⟩, HS', HS⟩
  isplitl [Hg HT0 HT1 HS HS']
  · isplitl [Hg]; · iexact Hg
    isplitl [HT0 HT1]
    · isplitl [HT0]; · iexact HT0
      iapply (table_owns m c).2 $$ HT1
    isplitl [HS']
    · iapply (Entails.of_eq (half_congr c (V m c main_arg3) rfl (by rw [hct]; exact ⟨fun h => ⟨by omega, h⟩, fun h => h.2⟩)
        (fun h => (tkOf_congr fun r => iblk1_words m hG.ok c t r).trans (by
          rw [hct] at h
          have h' : t.val + 1 < used m := h
          unfold tok; rw [Nat.min_eq_left (by omega)])))) $$ HS'
    rw [show (⟨(t.val + 1 + 1) % 2, Nat.mod_lt _ Nat.two_pos⟩ : Fin 2) = ⟨t.val % 2, Nat.mod_lt _ Nat.two_pos⟩ from Fin.ext (by show (t.val + 1 + 1) % 2 = t.val % 2; omega)]
    iexact HS
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  unfold outAt
  rw [hct, e0]
  iexact H7

/-- The body table's row at point `t`'s slots is the body. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The result's block is written back at every point. -/
theorem flush7 (hO : Ok m) (t : Fin (cfgM m hO).N) : ((cfgM m hO).win 7).flush t = true :=
  (Pipeline.Window.flush_reads ((cfgM m hO).win 7) rfl 0 (show 1 < grid0.bound 0 by decide) (show grid0.fixedAfter reads0_7 0 = true by decide)
    (Pipeline.Window.sep_of_coord cc0_transform_8 0 0 (fun _ => rfl) (by decide)) (P := 1) (m := 0) (show grid0.stride 0 = 1 by decide) rfl t).mpr (Nat.mod_one _)

/-- The body obligation, at every point. -/
theorem body_obligation (hG : Good m) (c : Dev nD) : BodyObligation (dats (F := F) m hG.ok 0 c) (defs₀ (F := F)) Variants.none () Set.univ := fun t => by
  rw [bigSep_W0, bigSep_W0, defs₀_row m hG.ok]
  refine triple_restated (sound_body m hG c t) rfl .rfl fun _ => ?_
  iterate 9 refine sep_mono .rfl ?_
  dsimp only
  have hf : (pcfg0.win (adm m hG.ok) 7).flush t = true := flush7 m hG.ok t
  split
  · split
    · rename_i h
      exact absurd (hf.symm.trans h) (by decide)
    · exact Entails.of_eq rfl
  · exact Entails.of_eq rfl

/-! ## Into and out of the region -/

/-- The scratch split into its halves, the hidden states' share dealt between them. -/
theorem phi_in (hG : Good m) (c : Dev nD) :
    (iprop(Pipeline.ΦD osem0 spec0 H0 (V m) c ∗ Pipeline.ΦT pre0 (tbl m) c) : sProp (MM F)) ⊢ Phi m c 0 := by
  rw [PhiD0_eq]
  unfold Phi
  rw [half_neg c _ (show ¬ (1 ≤ 0 ∧ 0 < used m) by omega)]
  show _ ⊢ iprop(_ ∗ _ ∗ Idle c 0 (V m c main_arg3) ∗ Idle c 1 (V m c main_arg3))
  simp only [owns_whole]
  unfold Idle
  iintro ⟨⟨⟨%d, Hd⟩, Hg, ⟨Hq0, Hq1⟩, Hh⟩, HT⟩
  ihave Hd' := (pointsTo_split_subset (ℓ := scL c) (Finset.subset_univ (slabSet 0))).1 $$ Hd
  icases Hd' with ⟨Hd0, Hd1⟩
  ihave Hh' := (pointsTo_share (ℓ := hL c) (PosShare.mem_left_op_right fullShare)).1 $$ Hh
  icases Hh' with ⟨Hh0, Hh1⟩
  isplitl [Hg]; · iexact Hg
  isplitl [HT]; · iexact HT
  isplitl [Hd0 Hq0 Hh0]
  · isplitl [Hd0]; · iexists _; iexact Hd0
    isplitl [Hq0]; · iexact Hq0
    iexact Hh0
  rw [slabSet_compl]
  isplitl [Hd1]; · iexists _; iexact Hd1
  isplitl [Hq1]; · iexact Hq1
  iexact Hh1

/-- The halves joined again after the last point, where both are at rest. -/
theorem phi_out (hG : Good m) (c : Dev nD) :
    (Phi m c 288 : sProp (MM F)) ⊢ Pipeline.ΦD osem0 spec0 H0 (V m) c := by
  rw [PhiD0_eq]
  unfold Phi
  have hle := hG.le
  rw [half_neg c _ (show ¬ (1 ≤ 288 ∧ 288 < used m) by omega)]
  show iprop(_ ∗ _ ∗ Idle c 0 (V m c main_arg3) ∗ Idle c 1 (V m c main_arg3)) ⊢ _
  simp only [owns_whole]
  unfold Idle
  iintro ⟨Hg, HT, ⟨⟨%f0, Hd0⟩, Hq0, Hh0⟩, ⟨⟨%f1, Hd1⟩, Hq1, Hh1⟩⟩
  isplitl [Hd0 Hd1]
  · iexists (fun y => if y ∈ slabSet 0 then f0 y else f1 y)
    iapply (pointsTo_split_subset (ℓ := scL c) (Finset.subset_univ (slabSet 0))).2
    rw [slabSet_compl]
    isplitl [Hd0]
    · iapply (Entails.of_eq (pointsTo_congr (ℓ := scL c) (q := fullShare) (fun y hy => (if_pos hy).symm))) $$ Hd0
    · iapply (Entails.of_eq (pointsTo_congr (ℓ := scL c) (q := fullShare) (fun y hy => (if_neg (by rw [← slabSet_compl] at hy; exact (Finset.mem_sdiff.mp hy).2)).symm))) $$ Hd1
  isplitl [Hg]; · iexact Hg
  isplitl [Hq0 Hq1]
  · isplitl [Hq0]; · iexact Hq0
    iexact Hq1
  iapply (pointsTo_share (ℓ := hL c) (PosShare.mem_left_op_right fullShare)).2
  isplitl [Hh0]; · iexact Hh0
  iexact Hh1

/-! ## The run and the frame -/

set_option backward.isDefEq.respectTransparency.types false in
/-- The launch: every array of the pipeline at what the proof data computes, every other unscoped buffer as the region
    found it, every counter at zero. -/
theorem run_main_quiescent (hG : Good m) : θ_run defs (onTc (τ := τ) (main (F := F))) (s₀ m ρ) (fun r => (Pipeline.FramePost (Pipeline.pin pcfgs fun _ => adm m hG.ok) (dats m hG.ok) 0 (V m)) r ∧ r.2.sem = fun _ => 0) :=
  Pipeline.θ_run_frameP_dma_shared (Q' := _) pcfgs (fun _ => adm m hG.ok) (dats m hG.ok) (0 : Fin 1) launch₀0 osem0 defs₀ Variants.none ownSemFacts0 H0 H0_sub m ρ main
    (hbody := fun c => (body_obligation m hG c).loose) (hq := fun _ _ _ => rfl)
    (howed := fun _ _ => rfl) (V := V m) (hmain := hmain m Variants.none) (hA := A_eq m hG.ok) (hpf := V_pre m) (hin := phi_in m hG) (hout := phi_out m hG)

theorem run_main (hG : Good m) : θ_run defs (onTc (τ := τ) (main (F := F))) (s₀ m ρ) (Pipeline.FramePost (Pipeline.pin pcfgs fun _ => adm m hG.ok) (dats m hG.ok) 0 (V m)) :=
  (θ_run defs _ _).mono (fun _ h => h.1) (run_main_quiescent m ρ hG)

/-- The arguments end unchanged. -/
theorem unchanged (hG : Good m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) (run_main m ρ hG)

/-- The frame. -/
theorem frame_run (hG : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hG) ((θ_run defs _ _).mono (fun _ h => h.2) (run_main_quiescent m ρ hG))

/-- The result array and the arguments after the run. -/
theorem run_result (hG : Good m) : θ_run defs (onTc (τ := τ) (main (F := F))) ⟨m, fun _ => 0, ρ⟩ (fun r => ∀ c : Dev nD,
      r.2.mem ((c.tc : Thread nD τ).loc main_v6) = (dats m hG.ok 0 c).arrAt 7 (cfgM m hG.ok).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h.1 c).1 7, h.2 c⟩) (θ_run_and (run_main m ρ hG) (unchanged m ρ hG))

end Cert.Moe.Hand

end
-- ==== Proof.MoePre.lean ====
/-
The arrays the launch prepares from the arguments, entry by entry, and what the run asks of the launch memory read off
bounds on the three integer arguments: experts below 32, from one to all 288 blocks used, tokens below 32768.
-/
module

public import proofs.«01_k».proof.Proof.MoeRun
public import Idealize.ShloMosaic.Lib.Affine

@[expose] public section

set_option maxRecDepth 16384

noncomputable section

namespace Cert.Moe.Hand

open Cert.Moe Cert.Moe.Gen
open Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The experts of the blocks, as launched. -/
abbrev argE (c : Dev nD) : S288.Idx → BitVec 32 := m ((c : Thread nD τ).loc main_arg0)
/-- The number of used blocks, as launched. -/
abbrev argU (c : Dev nD) : S1.Idx → BitVec 32 := m ((c : Thread nD τ).loc main_arg1)
/-- The tokens of the blocks' rows, as launched. -/
abbrev argT (c : Dev nD) : S288x512.Idx → BitVec 32 := m ((c : Thread nD τ).loc main_arg2)

/-- The staged form of the tokens has a unit axis between the block and the row. -/
theorem V_tokens (c : Dev nD) (b : Fin 288) (r : Fin 512) :
    (V m c main_v2 : S288x1x512.Idx → BitVec 32) (ix3 b 0 r) = argT m c (ix2 b r) := by
  have e : V m c main_v2 = (shapeCast S288x1x512 (argT m c) shapeCasts_S288x512_S288x1x512 : S288x1x512.Idx → BitVec 32) := by
    show StableHlo.after hostOps0 (fun b => m (c, b)) _ = _
    after_results
    rfl
  rw [e]
  refine shapeCast_apply _ _ (ix3 b (0 : Fin 1) r) (ix2 b r) ?_
  rw [Shape.rowMajor_val_two, Shape.rowMajor_val_three]
  show b.val * 512 + r.val = (b.val * 1 + 0) * 512 + r.val
  omega

/-- The number of used blocks is the argument's word. -/
theorem used_eq (c : Dev nD) : used m = (argU m c (ix1 0)).toNat := by
  obtain rfl : c = 0 := Subsingleton.elim _ _
  show (V m (0 : Dev nD) main_arg1 (ix1 0) : BitVec 32).toNat = _
  rw [V_main_arg1]

/-- A block's words are the argument's row. -/
theorem words_eq (c : Dev nD) (b : Fin 288) (r : Fin 512) : words m c b (ix3 0 0 r) = argT m c (ix2 b r) := V_tokens m c b r

/-- The word every window with a table-driven index reads at a grid point: the block's expert. -/
theorem word_at (c : Dev nD) (i : grid0.Coords) :
    (Pipeline.Prefetch.Contents.at (tbl m) 0 (Rect.unit (s := S288) ![(Scalar.indexCast (BitVec.ofNat 32 (i 0).val)).toNat] S1.size (k0_off1_inb i)) numel1_S1 : BitVec 32)
      = argE m c (ix1 (i 0)) := by
  obtain rfl : c = 0 := Subsingleton.elim _ _
  show (V m (0 : Dev nD) main_arg0 _ : BitVec 32) = _
  rw [V_main_arg0]
  refine congrArg (argE m 0) ?_
  funext a; apply Fin.ext
  match a with
  | ⟨0, _⟩ =>
    show (BitVec.ofNat 32 (i 0).val).toNat + 1 * _ = (i 0).val
    rw [pt_toNat]
    exact Nat.add_eq_left.2 ((Nat.one_mul _).trans (Nat.lt_one_iff.1 (Fin.isLt _)))

/-- The bounds give what the run asks. -/
theorem good_of (c : Dev nD) (hE : ∀ b : Fin 288, (argE m c (ix1 b)).toNat < 32)
    (hU : 1 ≤ (argU m c (ix1 0)).toNat) (hU' : (argU m c (ix1 0)).toNat ≤ 288)
    (hT : ∀ (b : Fin 288) (r : Fin 512), (argT m c (ix2 b r)).toNat < 32768) : Good m where
  ok := by
    refine ⟨fun i => ⟨fun a => ?_, .inr (Affine.block_words_rows (by decide) rfl)⟩, fun i => ⟨fun a => ?_, .inl rfl⟩,
      fun i => ⟨fun a => ?_, .inr (Affine.block_words_rows (by decide) rfl)⟩, fun i => ⟨fun a => ?_, .inl rfl⟩⟩
    all_goals
      have h := hE (i 0)
      rw [← word_at m c i] at h
      match a with
      | ⟨0, _⟩ => exact (Nat.mul_one _).le.trans h
      | ⟨1, _⟩ => exact Nat.le_refl _
      | ⟨2, _⟩ => exact Nat.le_refl _
  pos := by rw [used_eq m c]; exact hU
  le := by rw [used_eq m c]; exact hU'
  tok := fun c' b r => by
    obtain rfl : c' = c := Subsingleton.elim _ _
    rw [words_eq]; exact hT b r

end Cert.Moe.Hand
-- ==== Proof.MoeFrame.lean ====
/-
The experts: the precondition read as bounds on the three integer arguments, and the frames of the three programs.
-/
module

public import proofs.«01_k».proof.Defs
public import proofs.«01_k».proof.Proof.MoePre
public import proofs.«01_k».proof.Proof.Gen.MoeIdeal
public import proofs.«01_k».proof.Proof.Gen.MoeRefIdeal.Run
public import proofs.«01_k».proof.Proof.Gen.Pre_tables_in_range
public import Idealize.ShloMosaic.Lib.Affine
public import Idealize.ShloMosaic.Lib.Quiescent

@[expose] public section

set_option maxRecDepth 16384

noncomputable section

namespace Cert.Proof.Moe

open Idealize.ShloMosaic Idealize.ShloMosaic.TcCoe Idealize.SL.Sem Idealize.ShloMosaic.ValueIdx

section
open Cert.Pre_tables_in_range

/-- A word at least 0 and below a bound, both compared as signed numbers, is below it as a natural number. -/
theorem below {x : BitVec 32} {n : ℕ} (hn : n < 2 ^ 31)
    (h : IntOp.andi (IntOp.cmpi .sge x 0#32) (IntOp.cmpi .slt x (BitVec.ofNat 32 n)) = 1#1) : x.toNat < n := by
  obtain ⟨h0, h1⟩ := IntOp.andi_eq_one.1 h
  have a := IntOp.cmpi_sge.1 h0
  have b := IntOp.cmpi_slt.1 h1
  have hx := x.isLt
  simp only [BitVec.toInt, BitVec.toNat_ofNat] at a b
  omega

/-- A word from 1 to a bound. -/
theorem between {x : BitVec 32} {n : ℕ} (hn : n < 2 ^ 31)
    (h : IntOp.andi (IntOp.cmpi .sge x 1#32) (IntOp.cmpi .sle x (BitVec.ofNat 32 n)) = 1#1) : 1 ≤ x.toNat ∧ x.toNat ≤ n := by
  obtain ⟨h0, h1⟩ := IntOp.andi_eq_one.1 h
  have a := IntOp.cmpi_sge.1 h0
  have b := IntOp.cmpi_sle.1 h1
  have hx := x.isLt
  simp only [BitVec.toInt, BitVec.toNat_ofNat] at a b
  omega

/-- What the precondition's three tables of ones say. -/
theorem bounds {F : FTy → Type} [FloatOps F] (a0 : IVec S288 32) (a1 : IVec S1 32) (a2 : IVec S288x512 32) (a3 : FVec F S32768x1024 .f32)
    (a4 : FVec F S1024 .f32) (a5 : FVec F S32x1024x2048 .f32) (a6 : FVec F S32x2048 .f32) (a7 : FVec F S32x1024x1024 .f32) (a8 : FVec F S32x1024 .f32)
    (h : (fn (F := F) a0 a1 a2 a3 a4 a5 a6 a7 a8).1 = (fun _ => 1#1) ∧ (fn (F := F) a0 a1 a2 a3 a4 a5 a6 a7 a8).2.1 = (fun _ => 1#1)
      ∧ (fn (F := F) a0 a1 a2 a3 a4 a5 a6 a7 a8).2.2 = (fun _ => 1#1)) :
    (∀ b : Fin 288, (a0 (ix1 b)).toNat < 32) ∧ (1 ≤ (a1 (ix1 0)).toNat ∧ (a1 (ix1 0)).toNat ≤ 288)
      ∧ ∀ (b : Fin 288) (r : Fin 512), (a2 (ix2 b r)).toNat < 32768 :=
  ⟨fun b => below (by norm_num) (congrFun h.1 (ix1 b)), between (by norm_num) (congrFun h.2.1 (ix1 0)),
    fun b r => below (by norm_num) (congrFun h.2.2 (ix2 b r))⟩
end

/-- The precondition gives what the kernel's run asks. -/
theorem good (m : (ℓ : Loc Cert.Moe.nD Cert.Moe.τ Cert.Moe.sig) → Buf (Elt Bits) ℓ) (h : Cert.Pre_Moe m) : Cert.Moe.Hand.Good m :=
  let b := bounds _ _ _ _ _ _ _ _ _ (h 0)
  Cert.Moe.Hand.good_of m 0 b.1 b.2.1.1 b.2.1.2 b.2.2
/-- The same of the ideal program, whose memory is the same. -/
theorem good_ideal (m : (ℓ : Loc Cert.MoeIdeal.nD Cert.MoeIdeal.τ Cert.MoeIdeal.sig) → Buf (Elt Ideal) ℓ) (h : Cert.Pre_MoeIdeal m) : Cert.Moe.Hand.Good (F := Ideal) m :=
  let b := bounds _ _ _ _ _ _ _ _ _ (h 0)
  Cert.Moe.Hand.good_of (F := Ideal) m 0 b.1 b.2.1.1 b.2.1.2 b.2.2

/-- The kernel's program terminates, leaving its arguments alone and every semaphore at zero. -/
theorem frame : Cert.quiescent_Moe := fun m ρ h => Cert.Moe.Hand.frame_run m ρ (good m h)

set_option maxRecDepth 65536 in
set_option maxHeartbeats 10000000 in
/-- The ideal program is the kernel's program at the extended reals. -/
theorem main_eq : Cert.MoeIdeal.main (F := Ideal) = Cert.Moe.main (F := Ideal) := rfl

section
open Cert.Moe
variable (i : grid0.Coords) (arg1 : Memref sig .tc .smem S288 .i32) (harg1 : arg1.IsWhole) (arg2 : Memref sig .tc .smem S1 .i32) (harg2 : arg2.IsWhole) (arg3 : Memref sig .tc .smem S1x1x512 .i32) (harg3 : arg3.IsWhole) (arg4 : Memref sig .tc .smem S1x1x512 .i32) (harg4 : arg4.IsWhole) (arg5 : Memref sig .tc .hbm S32768x1024 .f32) (harg5 : arg5.IsWhole) (arg6 : Memref sig .tc .vmem S1x1024 .f32) (harg6 : arg6.IsWhole) (arg7 : Memref sig .tc .vmem S1x1024x2048 .bf16) (harg7 : arg7.IsWhole) (arg8 : Memref sig .tc .vmem S1x1x2048 .f32) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S512x1024 .f32) (harg11 : arg11.IsWhole) (arg12 : Memref sig .tc .vmem S2x512x1024 .f32) (harg12 : arg12.IsWhole) (arg13 : DmaSems sig S2)
set_option maxRecDepth 65536 in
set_option maxHeartbeats 4000000 in
/-- The first part of the ideal body is the kernel body's at the extended reals. -/
theorem part_eq (v0 : BitVec 32) (v1 : BitVec 32) (h : k0_cond4 i v0 = 1#1) :
    Cert.MoeIdeal.k0_part1 (F := Ideal) i arg1 harg1 arg2 harg2 arg3 harg3 arg4 harg4 arg5 harg5 arg6 harg6 arg7 harg7 arg8 harg8 arg9 harg9 arg10 harg10 arg11 harg11 arg12 harg12 arg13 v0 v1 h
  = Cert.Moe.k0_part1 (F := Ideal) i arg1 harg1 arg2 harg2 arg3 harg3 arg4 harg4 arg5 harg5 arg6 harg6 arg7 harg7 arg8 harg8 arg9 harg9 arg10 harg10 arg11 harg11 arg12 harg12 arg13 v0 v1 h := by
  delta Cert.MoeIdeal.k0_part1 Cert.Moe.k0_part1
  rfl
set_option maxRecDepth 65536 in
set_option maxHeartbeats 4000000 in
/-- So is the whole body. -/
theorem kernel_eq : Cert.MoeIdeal.cc0_moe_experts (F := Ideal) i arg1 harg1 arg2 harg2 arg3 harg3 arg4 harg4 arg5 harg5 arg6 harg6 arg7 harg7 arg8 harg8 arg9 harg9 arg10 harg10 arg11 harg11 arg12 harg12 arg13
  = Cert.Moe.cc0_moe_experts (F := Ideal) i arg1 harg1 arg2 harg2 arg3 harg3 arg4 harg4 arg5 harg5 arg6 harg6 arg7 harg7 arg8 harg8 arg9 harg9 arg10 harg10 arg11 harg11 arg12 harg12 arg13 := by
  delta Cert.MoeIdeal.cc0_moe_experts Cert.Moe.cc0_moe_experts
  simp only [part_eq]
  rfl
end
set_option maxRecDepth 65536 in
set_option maxHeartbeats 4000000 in
/-- So is the table of bodies. -/
theorem defs₀_eq : Cert.MoeIdeal.defs₀ (F := Ideal) = Cert.Moe.defs₀ (F := Ideal) := by
  delta Cert.MoeIdeal.defs₀ Cert.Moe.defs₀
  refine congrArg Defs.onTc (funext fun l => ?_)
  match l with
  | ⟨0, _⟩ =>
    funext x
    obtain ⟨t, s⟩ := x
    exact kernel_eq _ _ _ _ _ _ _ _ _ _ _ _ _ _ _ _ _ _ _ _ _ _ _ _ _ _
set_option maxRecDepth 65536 in
set_option maxHeartbeats 4000000 in
/-- And so is the table of the regions' bodies. -/
theorem defs_eq : Cert.MoeIdeal.defs (F := Ideal) = Cert.Moe.defs (F := Ideal) := by
  delta Cert.MoeIdeal.defs Cert.Moe.defs
  exact congrArg (Pipeline.defs Cert.Moe.pcfgs) defs₀_eq

/-- What holds of the kernel's run at the extended reals holds of the ideal program's run. -/
theorem transfer (s : MemSt Cert.Moe.nD Cert.Moe.τ Cert.Moe.sig (Elt Ideal)) (Q : _ → Prop)
    (h : θ_run (Cert.Moe.defs (F := Ideal)) (onTc (τ := Cert.Moe.τ) (Cert.Moe.main (F := Ideal))) s Q) :
    θ_run (Cert.MoeIdeal.defs (F := Ideal)) (onTc (τ := Cert.MoeIdeal.τ) (Cert.MoeIdeal.main (F := Ideal))) s Q :=
  Eq.mpr (congrArg₂ (fun d p => θ_run d (onTc (τ := Cert.Moe.τ) p) s Q) defs_eq main_eq) h

/-- The ideal program terminates, leaving its arguments alone and every semaphore at zero. -/
theorem frame_ideal : Cert.quiescent_MoeIdeal := fun m ρ h => transfer _ _ (Cert.Moe.Hand.frame_run (F := Ideal) m ρ (good_ideal m h))
/-- So does the reference, which uses no semaphore. -/
theorem frame_ref : Cert.quiescent_MoeRefIdeal := fun m ρ _ =>
  (θ_run Cert.MoeRefIdeal.defs _ _).mono (fun r h => ⟨fun c => (h c).2,
      Idealize.ShloMosaic.sem_eq_zero_of_no_sems (by decide) r.2⟩)
    (Cert.MoeRefIdeal.Value.run (F := Ideal) m ρ)
/-- In particular from the memories the precondition admits. -/
theorem frame_ref_pre : Cert.quiescent_MoeRefIdeal_pre_tables_in_range := fun m ρ _ => frame_ref m ρ trivial

end Cert.Proof.Moe

end
-- ==== Proof.MoeMath.lean ====
/-
  The experts' layer as functions of rows and matrices: the norm of a row, the gate product with its bias, the capped
  activation, the second product with its bias, and the whole result array built from the tables.
-/
module

public import proofs.«01_k».proof.Proof.InOddArr
public import proofs.«01_k».proof.Proof.Gen.Moe

@[expose] public section

set_option maxRecDepth 16384

noncomputable section

namespace Cert.Proof.Moe

open Idealize.ShloMosaic Idealize.ShloMosaic.ValueIdx
open Cert.Moe
open Cert.InOddIdeal.Rows (factor)

/-- A row normalised and scaled. -/
def normed (x g : Fin 1024 → EReal) (k : Fin 1024) : EReal := x k * factor x * g k

/-- The first product: the normalised row against a column of the expert's first weight, plus the bias. -/
def gate (x g : Fin 1024 → EReal) (w : Fin 1024 → Fin 2048 → EReal) (b : Fin 2048 → EReal) (j : Fin 2048) : EReal :=
  (∑ k : Fin 1024, normed x g k * w k j) + b j

/-- The first half of the gates, capped above at 7. -/
def low (z : Fin 2048 → EReal) (j : Fin 1024) : EReal := min (z (j.castLE (by omega))) (Ideal.ofBits .f32 0x40E00000#32)

/-- The second half, capped on both sides. -/
def high (z : Fin 2048 → EReal) (j : Fin 1024) : EReal :=
  min (Ideal.ofBits .f32 0x40E00000#32) (max (Ideal.ofBits .f32 0xC0E00000#32) (z ⟨1024 + j.val, by omega⟩))

/-- The activation: the first half times its logistic weight times the second half plus one. -/
def act (z : Fin 2048 → EReal) (j : Fin 1024) : EReal :=
  low z j * Ideal.logistic (Ideal.ofBits .f32 0x3FD9DB23#32 * low z j) * (high z j + Ideal.ofBits .f32 0x3F800000#32)

/-- One row through one expert. -/
def expert (x g : Fin 1024 → EReal) (w : Fin 1024 → Fin 2048 → EReal) (b : Fin 2048 → EReal)
    (w' : Fin 1024 → Fin 1024 → EReal) (b' : Fin 1024 → EReal) (j : Fin 1024) : EReal :=
  (∑ k : Fin 1024, act (gate x g w b) k * w' k j) + b' j

/-- Entry `j` of row `r` of block `b`: the token's row through the block's expert. -/
def rowOut (e : S288.Idx → BitVec 32) (tk : S288x512.Idx → BitVec 32) (h : S32768x1024.Idx → EReal) (g : S1024.Idx → EReal)
    (w : S32x1024x2048.Idx → EReal) (bw : S32x2048.Idx → EReal) (w' : S32x1024x1024.Idx → EReal) (bw' : S32x1024.Idx → EReal)
    (b : Fin 288) (r : Fin 512) (j : Fin 1024) : EReal :=
  expert (fun k => h (ix2 (Fin.ofNat 32768 (tk (ix2 b r)).toNat) k)) (fun k => g (ix1 k))
    (fun k j => w (ix3 (Fin.ofNat 32 (e (ix1 b)).toNat) k j)) (fun j => bw (ix2 (Fin.ofNat 32 (e (ix1 b)).toNat) j))
    (fun k j => w' (ix3 (Fin.ofNat 32 (e (ix1 b)).toNat) k j)) (fun j => bw' (ix2 (Fin.ofNat 32 (e (ix1 b)).toNat) j)) j

/-- The whole result: the used blocks' rows, zero in the others. -/
def layer (e : S288.Idx → BitVec 32) (u : S1.Idx → BitVec 32) (tk : S288x512.Idx → BitVec 32) (h : S32768x1024.Idx → EReal) (g : S1024.Idx → EReal)
    (w : S32x1024x2048.Idx → EReal) (bw : S32x2048.Idx → EReal) (w' : S32x1024x1024.Idx → EReal) (bw' : S32x1024.Idx → EReal) :
    S147456x1024.Idx → EReal := fun i =>
  if (i 0).val / 512 < (u (ix1 0)).toNat then
    rowOut e tk h g w bw w' bw' ⟨(i 0).val / 512, by have h : (i 0).val < 147456 := (i 0).isLt; omega⟩ ⟨(i 0).val % 512, Nat.mod_lt _ (by norm_num)⟩ (i 1)
  else Ideal.ofBits .f32 0x00000000#32

end Cert.Proof.Moe

end
-- ==== Proof.MoePay.lean ====
/-
  What the experts' kernel computes from its staged blocks, entry by entry: the gathered rows through one expert.
-/
module

public import proofs.«01_k».proof.Proof.MoeMath
public import proofs.«01_k».proof.Proof.MoeBody
public import Idealize.ShloMosaic.Lib.MatmulPlain
public import Idealize.ShloMosaic.PureOps.Ideal.Laws

@[expose] public section

set_option maxRecDepth 16384

noncomputable section

namespace Cert.Moe.Hand

open Cert.Moe Cert.Moe.Gen
open Idealize.ShloMosaic Idealize.ShloMosaic.ValueIdx
open Cert.Proof.Moe
open Cert.InOddIdeal.Rows (factor row_sum)

/-- The staged rows without their unit axis. -/
theorem rows_cast (X : S1x512x1024.Idx → EReal) (r : Fin 512) (k : Fin 1024) :
    (shapeCast S512x1024 X shapeCasts_S1x512x1024_S512x1024 : S512x1024.Idx → EReal) (ix2 r k) = X (ix3 (0 : Fin 1) r k) := by
  refine shapeCast_apply _ _ (ix2 r k) (ix3 (0 : Fin 1) r k) ?_
  rw [Shape.rowMajor_val_three, Shape.rowMajor_val_two]
  show (0 * 512 + r.val) * 1024 + k.val = r.val * 1024 + k.val
  omega

/-- The first weight without its unit axis. -/
theorem gate_cast (w : S1x1024x2048.Idx → EReal) (k : Fin 1024) (j : Fin 2048) :
    (shapeCast S1024x2048 w shapeCasts_S1x1024x2048_S1024x2048 : S1024x2048.Idx → EReal) (ix2 k j) = w (ix3 (0 : Fin 1) k j) := by
  refine shapeCast_apply _ _ (ix2 k j) (ix3 (0 : Fin 1) k j) ?_
  rw [Shape.rowMajor_val_three, Shape.rowMajor_val_two]
  show (0 * 1024 + k.val) * 2048 + j.val = k.val * 2048 + j.val
  omega

/-- The second weight without its unit axis. -/
theorem down_cast (w : S1x1024x1024.Idx → EReal) (k : Fin 1024) (j : Fin 1024) :
    (shapeCast S1024x1024 w shapeCasts_S1x1024x1024_S1024x1024 : S1024x1024.Idx → EReal) (ix2 k j) = w (ix3 (0 : Fin 1) k j) := by
  refine shapeCast_apply _ _ (ix2 k j) (ix3 (0 : Fin 1) k j) ?_
  rw [Shape.rowMajor_val_three, Shape.rowMajor_val_two]
  show (0 * 1024 + k.val) * 1024 + j.val = k.val * 1024 + j.val
  omega

/-- The first bias spread over the rows. -/
theorem gate_bias (b : S1x1x2048.Idx → EReal) (r : Fin 512) (j : Fin 2048) :
    (broadcastTo S512x2048 (shapeCast S1x2048 b shapeCasts_S1x1x2048_S1x2048) broadcasts_S1x2048_S512x2048 : S512x2048.Idx → EReal) (ix2 r j)
      = b (ix3 (0 : Fin 1) (0 : Fin 1) j) := by
  refine (broadcastTo_apply _ _ (ix2 r j) (ix2 (0 : Fin 1) j) fun a => by fin_cases a <;> rfl).trans ?_
  refine shapeCast_apply _ _ (ix2 (0 : Fin 1) j) (ix3 (0 : Fin 1) (0 : Fin 1) j) ?_
  rw [Shape.rowMajor_val_three, Shape.rowMajor_val_two]
  show (0 * 1 + 0) * 2048 + j.val = 0 * 2048 + j.val
  omega

/-- The second bias spread over the rows. -/
theorem down_bias (b : S1x1x1024.Idx → EReal) (r : Fin 512) (j : Fin 1024) :
    (broadcastTo S512x1024 (shapeCast S1x1024 b shapeCasts_S1x1x1024_S1x1024) broadcasts_S1x1024_S512x1024 : S512x1024.Idx → EReal) (ix2 r j)
      = b (ix3 (0 : Fin 1) (0 : Fin 1) j) := by
  refine (broadcastTo_apply _ _ (ix2 r j) (ix2 (0 : Fin 1) j) fun a => by fin_cases a <;> rfl).trans ?_
  refine shapeCast_apply _ _ (ix2 (0 : Fin 1) j) (ix3 (0 : Fin 1) (0 : Fin 1) j) ?_
  rw [Shape.rowMajor_val_three, Shape.rowMajor_val_two]
  show (0 * 1 + 0) * 1024 + j.val = 0 * 1024 + j.val
  omega

/-- The normalised rows, as the body writes them. -/
abbrev kNormed (X : S1x512x1024.Idx → EReal) (g : S1x1024.Idx → EReal) : S512x1024.Idx → EReal :=
  mulf (F := Ideal) (φ := .f32)
    (mulf (F := Ideal) (φ := .f32) (shapeCast S512x1024 X shapeCasts_S1x512x1024_S512x1024)
      (broadcastTo S512x1024 (rsqrt (F := Ideal) (φ := .f32) (addf (F := Ideal) (φ := .f32)
        (divf (F := Ideal) (φ := .f32) (shapeCast S512x1 (multiReduction (F := Ideal) (φ := .f32) .add [1] S512
            (mulf (F := Ideal) (φ := .f32) (shapeCast S512x1024 X shapeCasts_S1x512x1024_S512x1024) (shapeCast S512x1024 X shapeCasts_S1x512x1024_S512x1024))
            0x00000000#32 reduces_S512x1024_S512 (.inl rfl) rfl) shapeCasts_S512_S512x1)
          (broadcast S512x1 (Scalar.ofBits (F := Ideal) .f32 0x44800000#32)))
        (broadcast S512x1 (Scalar.ofBits (F := Ideal) .f32 0x358637BD#32)))) broadcasts_S512x1_S512x1024))
    (broadcastTo S512x1024 (shapeCast S1x1024 g shapeCasts_S1x1024_S1x1024) broadcasts_S1x1024_S512x1024)

theorem kNormed_apply (X : S1x512x1024.Idx → EReal) (g : S1x1024.Idx → EReal) (r : Fin 512) (k : Fin 1024) :
    kNormed X g (ix2 r k) = normed (fun k => X (ix3 (0 : Fin 1) r k)) (fun k => g (ix2 (0 : Fin 1) k)) k := by
  refine congrArg₂ (· * ·) (congrArg₂ (· * ·) (rows_cast X r k) ?_) ?_
  · refine (broadcastTo_apply _ _ (ix2 r k) (ix2 r (0 : Fin 1)) fun a => by fin_cases a <;> rfl).trans ?_
    refine congrArg (fun z => Ideal.rsqrt (Ideal.div z (Ideal.ofBits .f32 0x44800000#32) + Ideal.ofBits .f32 0x358637BD#32)) ?_
    refine (shapeCast_apply _ _ (ix2 r (0 : Fin 1)) (ix1 r) ?_).trans ((row_sum _ r).trans ?_)
    · rw [Shape.rowMajor_val_one, Shape.rowMajor_val_two]
      show r.val = r.val * 1 + 0
      omega
    · exact Finset.sum_congr rfl fun l _ => congrArg₂ (· * ·) (rows_cast X r l) (rows_cast X r l)
  · rw [shapeCast_self]
    exact broadcastTo_apply g _ (ix2 r k) (ix2 (0 : Fin 1) k) fun a => by fin_cases a <;> rfl

/-- The gates of the staged rows. -/
theorem pay3_apply (X : S1x512x1024.Idx → EReal) (g : S1x1024.Idx → EReal) (w : S1x1024x2048.Idx → EReal) (b : S1x1x2048.Idx → EReal)
    (r : Fin 512) (j : Fin 2048) :
    (k0_pay3 (F := Ideal) X g w b : S512x2048.Idx → EReal) (ix2 r j)
      = gate (fun k => X (ix3 (0 : Fin 1) r k)) (fun k => g (ix2 (0 : Fin 1) k)) (fun k j => w (ix3 (0 : Fin 1) k j)) (fun j => b (ix3 (0 : Fin 1) (0 : Fin 1) j)) j := by
  unfold k0_pay3
  refine congrArg₂ (· + ·) ?_ (gate_bias b r j)
  refine (Ideal.matmul_plain_apply (M := 512) (K := 1024) (N := 2048) (φ₁ := .bf16) (φ₂ := .bf16) none (kNormed X g)
    (shapeCast S1024x2048 w shapeCasts_S1x1024x2048_S1024x2048) _ r j).trans ?_
  show Ideal.ofBits .f32 0x00000000#32 + _ = _
  rw [Ideal.ofBits_zero_f32, zero_add]
  exact Finset.sum_congr rfl fun k _ => congrArg₂ (· * ·) (kNormed_apply X g r k) (gate_cast w k j)

section
variable (X : S1x512x1024.Idx → EReal) (g : S1x1024.Idx → EReal) (w : S1x1024x2048.Idx → EReal) (b : S1x1x2048.Idx → EReal)

/-- The gates of one staged row. -/
abbrev gates (r : Fin 512) : Fin 2048 → EReal :=
  gate (fun k => X (ix3 (0 : Fin 1) r k)) (fun k => g (ix2 (0 : Fin 1) k)) (fun k j => w (ix3 (0 : Fin 1) k j)) (fun j => b (ix3 (0 : Fin 1) (0 : Fin 1) j))

theorem pay4_apply (r : Fin 512) (j : Fin 1024) :
    (k0_pay4 (F := Ideal) X g w b : S512x1024.Idx → EReal) (ix2 r j) = low (gates X g w b r) j := by
  unfold k0_pay4
  refine congrArg (min · (Ideal.ofBits .f32 0x40E00000#32)) ?_
  refine (extractStridedSlice_apply _ _ _ (ix2 r j) (ix2 r (j.castLE (by omega))) fun a => ?_).trans (pay3_apply X g w b r _)
  match a with
  | ⟨0, _⟩ => exact (Nat.zero_add _).symm
  | ⟨1, _⟩ => exact (Nat.zero_add _).symm

theorem pay5_apply (r : Fin 512) (j : Fin 1024) :
    (k0_pay5 (F := Ideal) X g w b : S512x1024.Idx → EReal) (ix2 r j) = high (gates X g w b r) j := by
  unfold k0_pay5
  refine congrArg (fun y => min (Ideal.ofBits .f32 0x40E00000#32) (max (Ideal.ofBits .f32 0xC0E00000#32) y)) ?_
  refine (extractStridedSlice_apply _ _ _ (ix2 r j) (ix2 r (⟨1024 + j.val, by omega⟩ : Fin 2048)) fun a => ?_).trans (pay3_apply X g w b r _)
  match a with
  | ⟨0, _⟩ => exact (Nat.zero_add _).symm
  | ⟨1, _⟩ => rfl

theorem pay6_apply (r : Fin 512) (j : Fin 1024) :
    (k0_pay6 (F := Ideal) X g w b : S512x1024.Idx → EReal) (ix2 r j) = Ideal.logistic (Ideal.ofBits .f32 0x3FD9DB23#32 * low (gates X g w b r) j) := by
  unfold k0_pay6
  exact congrArg (fun y => Ideal.logistic (Ideal.ofBits .f32 0x3FD9DB23#32 * y)) (pay4_apply X g w b r j)

/-- The block the body stores: each staged row through the expert. -/
theorem outB_apply (w' : S1x1024x1024.Idx → EReal) (b' : S1x1x1024.Idx → EReal) (r : Fin 512) (j : Fin 1024) :
    (outB (F := Ideal) g w b w' b' X : S512x1024.Idx → EReal) (ix2 r j)
      = expert (fun k => X (ix3 (0 : Fin 1) r k)) (fun k => g (ix2 (0 : Fin 1) k)) (fun k j => w (ix3 (0 : Fin 1) k j)) (fun j => b (ix3 (0 : Fin 1) (0 : Fin 1) j))
        (fun k j => w' (ix3 (0 : Fin 1) k j)) (fun j => b' (ix3 (0 : Fin 1) (0 : Fin 1) j)) j := by
  unfold outB k0_pay1
  refine congrArg₂ (· + ·) ?_ (down_bias b' r j)
  refine (Ideal.matmul_plain_apply (M := 512) (K := 1024) (N := 1024) (φ₁ := .bf16) (φ₂ := .bf16) none _
    (shapeCast S1024x1024 w' shapeCasts_S1x1024x1024_S1024x1024) _ r j).trans ?_
  show Ideal.ofBits .f32 0x00000000#32 + _ = _
  rw [Ideal.ofBits_zero_f32, zero_add]
  refine Finset.sum_congr rfl fun k _ => congrArg₂ (· * ·) ?_ (down_cast w' k j)
  exact congrArg₂ (· * ·) (congrArg₂ (· * ·) (pay4_apply X g w b r k) (pay6_apply X g w b r k))
    (congrArg (· + Ideal.ofBits .f32 0x3F800000#32) (pay5_apply X g w b r k))
end

end Cert.Moe.Hand

end
-- ==== Proof.MoeArr.lean ====
/-
  The experts' result array: each staged block read off its argument, what a grid point writes back, and the whole array
  after the run.
-/
module

public import proofs.«01_k».proof.Proof.MoePay
public import proofs.«01_k».proof.Proof.MoePre

@[expose] public section

set_option maxRecDepth 16384

noncomputable section

namespace Cert.Moe.Hand

open Cert.Moe Cert.Moe.Gen
open Idealize.ShloMosaic Idealize.ShloMosaic.TcCoe Idealize.SL.Sem
open Idealize.ShloMosaic.ValueIdx
open Idealize.ShloMosaic.Pipeline (Dat)
open Cert.Proof.Moe

variable (m : (ℓ : Loc nD τ sig) → Buf (Elt Ideal) ℓ) (ρ : Dev nD → PrngReg)

/-- The hidden states as launched. -/
abbrev argH (c : Dev nD) : S32768x1024.Idx → EReal := m ((c : Thread nD τ).loc main_arg3)
/-- The scale of the norm as launched. -/
abbrev argG (c : Dev nD) : S1024.Idx → EReal := m ((c : Thread nD τ).loc main_arg4)
/-- The first weights as launched. -/
abbrev argW (c : Dev nD) : S32x1024x2048.Idx → EReal := m ((c : Thread nD τ).loc main_arg5)
/-- The first biases as launched. -/
abbrev argB (c : Dev nD) : S32x2048.Idx → EReal := m ((c : Thread nD τ).loc main_arg6)
/-- The second weights as launched. -/
abbrev argW' (c : Dev nD) : S32x1024x1024.Idx → EReal := m ((c : Thread nD τ).loc main_arg7)
/-- The second biases as launched. -/
abbrev argB' (c : Dev nD) : S32x1024.Idx → EReal := m ((c : Thread nD τ).loc main_arg8)

/-- The result array of the arguments as launched. -/
abbrev res (c : Dev nD) : S147456x1024.Idx → EReal :=
  layer (argE m c) (argU m c) (argT m c) (argH m c) (argG m c) (argW m c) (argB m c) (argW' m c) (argB' m c)

/-! ## The arrays the launch prepares -/

theorem V_gate (c : Dev nD) (i : S32x1024x2048.Idx) : (V m c main_v0 : S32x1024x2048.Idx → EReal) i = argW m c i := by
  have e : V m c main_v0 = (truncf (s := S32x1024x2048) (φ := .f32) (F := Ideal) .bf16 (m ((c : Thread nD τ).loc main_arg5)) bitsLt_bf16_f32) := by
    show StableHlo.after hostOps0 (fun b => m (c, b)) _ = _
    after_results
  rw [e]
  rfl

theorem V_down (c : Dev nD) (i : S32x1024x1024.Idx) : (V m c main_v1 : S32x1024x1024.Idx → EReal) i = argW' m c i := by
  have e : V m c main_v1 = (truncf (s := S32x1024x1024) (φ := .f32) (F := Ideal) .bf16 (m ((c : Thread nD τ).loc main_arg7)) bitsLt_bf16_f32) := by
    show StableHlo.after hostOps0 (fun b => m (c, b)) _ = _
    after_results
  rw [e]
  rfl

theorem V_scale (c : Dev nD) (k : Fin 1024) : (V m c main_v3 : S1x1024.Idx → EReal) (ix2 (0 : Fin 1) k) = argG m c (ix1 k) := by
  have e : V m c main_v3 = (shapeCast S1x1024 (argG m c) shapeCasts_S1024_S1x1024 : S1x1024.Idx → EReal) := by
    show StableHlo.after hostOps0 (fun b => m (c, b)) _ = _
    after_results
    rfl
  rw [e]
  refine shapeCast_apply _ _ (ix2 (0 : Fin 1) k) (ix1 k) ?_
  rw [Shape.rowMajor_val_one, Shape.rowMajor_val_two]
  show k.val = 0 * 1024 + k.val
  omega

theorem V_gate_bias (c : Dev nD) (e : Fin 32) (j : Fin 2048) :
    (V m c main_v4 : S32x1x2048.Idx → EReal) (ix3 e (0 : Fin 1) j) = argB m c (ix2 e j) := by
  have h : V m c main_v4 = (shapeCast S32x1x2048 (argB m c) shapeCasts_S32x2048_S32x1x2048 : S32x1x2048.Idx → EReal) := by
    show StableHlo.after hostOps0 (fun b => m (c, b)) _ = _
    after_results
    rfl
  rw [h]
  refine shapeCast_apply _ _ (ix3 e (0 : Fin 1) j) (ix2 e j) ?_
  rw [Shape.rowMajor_val_two, Shape.rowMajor_val_three]
  show e.val * 2048 + j.val = (e.val * 1 + 0) * 2048 + j.val
  omega

theorem V_down_bias (c : Dev nD) (e : Fin 32) (j : Fin 1024) :
    (V m c main_v5 : S32x1x1024.Idx → EReal) (ix3 e (0 : Fin 1) j) = argB' m c (ix2 e j) := by
  have h : V m c main_v5 = (shapeCast S32x1x1024 (argB' m c) shapeCasts_S32x1024_S32x1x1024 : S32x1x1024.Idx → EReal) := by
    show StableHlo.after hostOps0 (fun b => m (c, b)) _ = _
    after_results
    rfl
  rw [h]
  refine shapeCast_apply _ _ (ix3 e (0 : Fin 1) j) (ix2 e j) ?_
  rw [Shape.rowMajor_val_two, Shape.rowMajor_val_three]
  show e.val * 1024 + j.val = (e.val * 1 + 0) * 1024 + j.val
  omega

/-! ## The staged blocks -/

section
variable (hO : Ok m) (c : Dev nD) (t : Fin (cfgM m hO).N)

/-- The grid point as a block. -/
abbrev blockOf : Fin 288 := ⟨t.val, lt_of_lt_of_eq t.isLt (N_288 : (cfgM m hO).N = 288)⟩
/-- The expert of the block. -/
abbrev exOf : Fin 32 := Fin.ofNat 32 (argE m c (ix1 (blockOf m hO t))).toNat

/-- The word the weights' windows read is the block's expert. -/
theorem expert_index (hE : ∀ b : Fin 288, (argE m c (ix1 b)).toNat < 32) :
    cc0_transform_4 k0_off1_inb numel1_S1 (tbl m) (grid0.coords t) 0 = (exOf m hO c t).val := by
  show (Pipeline.Prefetch.Contents.at (tbl m) 0 (Rect.unit (s := S288) ![(Scalar.indexCast (BitVec.ofNat 32 (grid0.coords t 0).val)).toNat] S1.size (k0_off1_inb (grid0.coords t))) numel1_S1 : BitVec 32).toNat = _
  rw [word_at m c (grid0.coords t)]
  have e : (grid0.coords t 0 : Fin 288) = blockOf m hO t := Fin.ext (coord m hO t)
  refine (congrArg (fun b : Fin 288 => (argE m c (ix1 b)).toNat) e).trans ?_
  exact (Nat.mod_eq_of_lt (hE _)).symm

theorem stage_scale (k : Fin 1024) : (iblk m hO c 2 t : S1x1024.Idx → EReal) (ix2 (0 : Fin 1) k) = argG m c (ix1 k) := by
  rw [← V_scale m c k]
  show (V m c main_v3 : S1x1024.Idx → EReal) ((((cfgM m hO).win 2).blk t).view.emb (ix2 (0 : Fin 1) k)) = _
  refine congrArg (V m c main_v3 : S1x1024.Idx → EReal) (Shape.idx_ext₂ ?_ ?_)
  · show 0 * 1 + 1 * 0 = 0; rfl
  · show 0 * 1024 + 1 * k.val = k.val; omega

theorem stage_gate (hE : ∀ b : Fin 288, (argE m c (ix1 b)).toNat < 32) (k : Fin 1024) (j : Fin 2048) :
    (iblk m hO c 3 t : S1x1024x2048.Idx → EReal) (ix3 (0 : Fin 1) k j) = argW m c (ix3 (exOf m hO c t) k j) := by
  rw [← V_gate m c]
  show (V m c main_v0 : S32x1024x2048.Idx → EReal) ((((cfgM m hO).win 3).blk t).view.emb (ix3 (0 : Fin 1) k j)) = _
  refine congrArg (V m c main_v0 : S32x1024x2048.Idx → EReal) (funext fun a => Fin.ext ?_)
  match a with
  | ⟨0, _⟩ =>
    show cc0_transform_4 k0_off1_inb numel1_S1 (tbl m) (grid0.coords t) 0 * 1 + 1 * 0 = (exOf m hO c t).val
    rw [expert_index m hO c t hE]; omega
  | ⟨1, _⟩ => show 0 * 1024 + 1 * k.val = k.val; omega
  | ⟨2, _⟩ => show 0 * 2048 + 1 * j.val = j.val; omega

theorem stage_gate_bias (hE : ∀ b : Fin 288, (argE m c (ix1 b)).toNat < 32) (j : Fin 2048) :
    (iblk m hO c 4 t : S1x1x2048.Idx → EReal) (ix3 (0 : Fin 1) (0 : Fin 1) j) = argB m c (ix2 (exOf m hO c t) j) := by
  rw [← V_gate_bias m c]
  show (V m c main_v4 : S32x1x2048.Idx → EReal) ((((cfgM m hO).win 4).blk t).view.emb (ix3 (0 : Fin 1) (0 : Fin 1) j)) = _
  refine congrArg (V m c main_v4 : S32x1x2048.Idx → EReal) (funext fun a => Fin.ext ?_)
  match a with
  | ⟨0, _⟩ =>
    show cc0_transform_4 k0_off1_inb numel1_S1 (tbl m) (grid0.coords t) 0 * 1 + 1 * 0 = (exOf m hO c t).val
    rw [expert_index m hO c t hE]; omega
  | ⟨1, _⟩ => show 0 * 1 + 1 * 0 = 0; omega
  | ⟨2, _⟩ => show 0 * 2048 + 1 * j.val = j.val; omega

theorem stage_down (hE : ∀ b : Fin 288, (argE m c (ix1 b)).toNat < 32) (k : Fin 1024) (j : Fin 1024) :
    (iblk m hO c 5 t : S1x1024x1024.Idx → EReal) (ix3 (0 : Fin 1) k j) = argW' m c (ix3 (exOf m hO c t) k j) := by
  rw [← V_down m c]
  show (V m c main_v1 : S32x1024x1024.Idx → EReal) ((((cfgM m hO).win 5).blk t).view.emb (ix3 (0 : Fin 1) k j)) = _
  refine congrArg (V m c main_v1 : S32x1024x1024.Idx → EReal) (funext fun a => Fin.ext ?_)
  match a with
  | ⟨0, _⟩ =>
    show cc0_transform_4 k0_off1_inb numel1_S1 (tbl m) (grid0.coords t) 0 * 1 + 1 * 0 = (exOf m hO c t).val
    rw [expert_index m hO c t hE]; omega
  | ⟨1, _⟩ => show 0 * 1024 + 1 * k.val = k.val; omega
  | ⟨2, _⟩ => show 0 * 1024 + 1 * j.val = j.val; omega

theorem stage_down_bias (hE : ∀ b : Fin 288, (argE m c (ix1 b)).toNat < 32) (j : Fin 1024) :
    (iblk m hO c 6 t : S1x1x1024.Idx → EReal) (ix3 (0 : Fin 1) (0 : Fin 1) j) = argB' m c (ix2 (exOf m hO c t) j) := by
  rw [← V_down_bias m c]
  show (V m c main_v5 : S32x1x1024.Idx → EReal) ((((cfgM m hO).win 6).blk t).view.emb (ix3 (0 : Fin 1) (0 : Fin 1) j)) = _
  refine congrArg (V m c main_v5 : S32x1x1024.Idx → EReal) (funext fun a => Fin.ext ?_)
  match a with
  | ⟨0, _⟩ =>
    show cc0_transform_4 k0_off1_inb numel1_S1 (tbl m) (grid0.coords t) 0 * 1 + 1 * 0 = (exOf m hO c t).val
    rw [expert_index m hO c t hE]; omega
  | ⟨1, _⟩ => show 0 * 1 + 1 * 0 = 0; omega
  | ⟨2, _⟩ => show 0 * 1024 + 1 * j.val = j.val; omega

/-- The gathered rows are the hidden states' rows the tokens name. -/
theorem gathered (r : Fin 512) (k : Fin 1024) :
    (Xb (F := Ideal) (tok m c t.val) (V m c main_arg3) : S1x512x1024.Idx → EReal) (ix3 (0 : Fin 1) r k)
      = argH m c (ix2 (Fin.ofNat 32768 (argT m c (ix2 (blockOf m hO t) r)).toNat) k) := by
  have hN : (cfgM m hO).N = 288 := N_288
  have ht := t.isLt
  have e : (Fin.ofNat 288 t.val : Fin 288) = blockOf m hO t := Fin.ext (Nat.mod_eq_of_lt (by omega))
  show (V m c main_arg3 : S32768x1024.Idx → EReal) (ix2 (Fin.ofNat 32768 (words m c (Fin.ofNat 288 t.val) (ix3 0 0 r)).toNat) k) = _
  rw [words_eq, V_main_arg3, e]

/-- What a grid point leaves in the output's staging buffer. -/
theorem outAt_apply (hE : ∀ b : Fin 288, (argE m c (ix1 b)).toNat < 32) (r : Fin 512) (j : Fin 1024) :
    (outAt m hO c t : S512x1024.Idx → EReal) (ix2 r j)
      = if t.val < (argU m c (ix1 0)).toNat then
          rowOut (argE m c) (argT m c) (argH m c) (argG m c) (argW m c) (argB m c) (argW' m c) (argB' m c) (blockOf m hO t) r j
        else Ideal.ofBits .f32 0x00000000#32 := by
  unfold outAt
  rw [used_eq m c]
  by_cases h : t.val < (argU m c (ix1 0)).toNat
  · rw [if_pos h, if_pos h]
    refine (outB_apply _ _ _ _ _ _ r j).trans ?_
    unfold rowOut
    rw [funext (gathered m hO c t r), funext (stage_scale m hO c t), funext fun k => funext (stage_gate m hO c t hE k),
      funext (stage_gate_bias m hO c t hE), funext fun k => funext (stage_down m hO c t hE k), funext (stage_down_bias m hO c t hE)]
  · rw [if_neg h, if_neg h]
    rfl
end

/-! ## The whole array -/

section
variable (hO : Ok m) (c : Dev nD)

/-- Where the result's block sits. -/
theorem out_place (t : Fin (cfgM m hO).N) : cc0_transform_8 (grid0.coords t) 0 = t.val := by
  show (BitVec.ofNat 32 (grid0.coords t 0).val).toNat = t.val
  rw [pt_toNat, coord m hO t]

/-- A grid point writes back its 512 rows of the result. -/
theorem flushed_eq (hE : ∀ b : Fin 288, (argE m c (ix1 b)).toNat < 32) (t : Fin (cfgM m hO).N) :
    (dats m hO 0 c).flushed 7 t = (((cfgM m hO).win 7).blk t).view.read (Elt Ideal) (res m c) := by
  show ((cfgM m hO).win 7).cut ((cfgM m hO).grid.coords t) ((dats m hO 0 c).after 7 t) = _
  rw [after0_7]
  refine funext (fun y : S512x1024.Idx => ?_)
  obtain ⟨r, j, rfl⟩ : ∃ (r : Fin 512) (j : Fin 1024), y = ix2 r j := ⟨y 0, y 1, Shape.idx_ext₂ rfl rfl⟩
  have hN : t.val < 288 := lt_of_lt_of_eq t.isLt (N_288 : (cfgM m hO).N = 288)
  have hr := r.isLt
  have h : t.val * 512 + r.val < 147456 := by omega
  have hi : ((((cfgM m hO).win 7).blk t).view.emb (ix2 r j) : S147456x1024.Idx) = ix2 ⟨t.val * 512 + r.val, h⟩ j := by
    refine Shape.idx_ext₂ ?_ ?_
    · show cc0_transform_8 (grid0.coords t) 0 * 512 + 1 * r.val = t.val * 512 + r.val
      rw [out_place m hO t]; omega
    · show 0 * 1024 + 1 * j.val = j.val
      omega
  show (outAt m hO c t : S512x1024.Idx → EReal) (ix2 r j) = res m c ((((cfgM m hO).win 7).blk t).view.emb (ix2 r j))
  rw [hi, outAt_apply m hO c t hE]
  have hd : (t.val * 512 + r.val) / 512 = t.val := by omega
  have hm : (t.val * 512 + r.val) % 512 = r.val := by omega
  show _ = if (t.val * 512 + r.val) / 512 < (argU m c (ix1 0)).toNat then
      rowOut (argE m c) (argT m c) (argH m c) (argG m c) (argW m c) (argB m c) (argW' m c) (argB' m c)
        ⟨(t.val * 512 + r.val) / 512, by omega⟩ ⟨(t.val * 512 + r.val) % 512, Nat.mod_lt _ (by norm_num)⟩ j
    else Ideal.ofBits .f32 0x00000000#32
  have eb : (⟨(t.val * 512 + r.val) / 512, by omega⟩ : Fin 288) = blockOf m hO t := Fin.ext hd
  have er : (⟨(t.val * 512 + r.val) % 512, Nat.mod_lt _ (by norm_num)⟩ : Fin 512) = r := Fin.ext hm
  rw [eb, er, hd]

/-- The point's block of the result is its 512 rows. -/
theorem mem_block (t : Fin (cfgM m hO).N) (i : S147456x1024.Idx) (h0 : t.val * 512 ≤ (i 0).val) (h0' : (i 0).val < t.val * 512 + 512) :
    i ∈ (((cfgM m hO).win 7).blk t).view.set := by
  have h1 : (i 1).val < 1024 := (i 1).isLt
  show i ∈ ((View.whole main_v6).slice (((cfgM m hO).win 7).rect t)).set
  refine Eq.mpr (congrArg (fun S => i ∈ S) (View.set_slice_whole main_v6 (((cfgM m hO).win 7).rect t))) ?_
  refine Rect.mem_set_unit.mpr fun a => ?_
  match a with
  | ⟨0, _⟩ =>
    show cc0_transform_8 (grid0.coords t) 0 * 512 ≤ (i 0).val ∧ (i 0).val < cc0_transform_8 (grid0.coords t) 0 * 512 + 512
    rw [out_place m hO t]; exact ⟨h0, h0'⟩
  | ⟨1, _⟩ =>
    show 0 * 1024 ≤ (i 1).val ∧ (i 1).val < 0 * 1024 + 1024
    omega

/-- Every entry is written: row `i` belongs to block `i / 512`. -/
theorem cover (i : S147456x1024.Idx) :
    ∃ t : Fin (cfgM m hO).N, ((cfgM m hO).win 7).flush t = true ∧ i ∈ (((cfgM m hO).win 7).blk t).view.set := by
  have h0 : (i 0).val < 147456 := (i 0).isLt
  have hN : (cfgM m hO).N = 288 := N_288
  have ht : (i 0).val / 512 < (cfgM m hO).N := by omega
  exact ⟨⟨(i 0).val / 512, ht⟩, flush7 m hO _, mem_block m hO _ i (by dsimp only; omega) (by dsimp only; omega)⟩

/-- The result array after the run. -/
theorem final (hE : ∀ b : Fin 288, (argE m c (ix1 b)).toNat < 32) : (dats m hO 0 c).arrAt 7 (cfgM m hO).N = res m c :=
  (dats m hO 0 c).arrAt_eq_of_cover 7 (res m c) (fun t _ => flushed_eq m hO c hE t) (cover m hO)
end

/-- The run: the result is the layer of the arguments, which stay as they were. -/
theorem run (hG : Good m) (hE : ∀ (c : Dev nD) (b : Fin 288), (argE m c (ix1 b)).toNat < 32) :
    θ_run defs (onTc (τ := τ) (main (F := Ideal))) ⟨m, fun _ => 0, ρ⟩ fun r => ∀ c : Dev nD,
      r.2.mem ((c.tc : Thread nD τ).loc main_v6) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (final m hG.ok c (hE c)), (h c).2⟩) (run_result m ρ hG)

end Cert.Moe.Hand

end
-- ==== Proof.MoeGather.lean ====
/-
  Three gathers along the first axis of an array, read at an entry: rows named by a table with two axes, and whole
  matrices and whole vectors named by a table with one axis. A start index is read signed and clamped into the array;
  where it names a member, the gather reads that member.
-/
module

public import Idealize.ShloMosaic.Lib.ValueIdx

@[expose] public section

set_option maxRecDepth 16384

noncomputable section

namespace Cert.Proof.Moe

open Idealize.ShloMosaic Idealize.ShloMosaic.ValueIdx

variable {α : Type}

/-- A 32-bit word below `2 ^ 31` is the same number read signed. -/
theorem signed_of_lt {x : BitVec 32} {n : ℕ} (hn : n ≤ 2 ^ 31) (h : x.toNat < n) : x.toInt.toNat = x.toNat := by
  rw [BitVec.toInt_eq_toNat_cond, if_pos (by omega)]
  rfl

/-- The dimension numbers of the rows' gather. -/
abbrev rowsDims (N C R B : ℕ) (wf : GatherDims.WF ⟨2, ![N, C]⟩ ⟨3, ![R, B, 1]⟩ ⟨3, ![R, B, C]⟩ [2] [0] [] [0] [] 2 ![1, C]) :
    GatherDims ⟨2, ![N, C]⟩ ⟨3, ![R, B, 1]⟩ ⟨3, ![R, B, C]⟩ where
  offsetDims := [2]
  collapsedSliceDims := [0]
  operandBatchingDims := []
  startIndicesBatchingDims := []
  startIndexMap := [0]
  indexVectorDim := 2
  sliceSizes := ![1, C]
  wf := wf

/-- Entry `(b, r, k)` of the gathered rows is entry `k` of the row the table names at `(b, r)`. -/
theorem gather_rows {N C R B : ℕ} (wf : GatherDims.WF ⟨2, ![N, C]⟩ ⟨3, ![R, B, 1]⟩ ⟨3, ![R, B, C]⟩ [2] [0] [] [0] [] 2 ![1, C])
    (x : (⟨2, ![N, C]⟩ : Shape).Idx → α) (idx : IVec ⟨3, ![R, B, 1]⟩ 32) (b : Fin R) (r : Fin B) (k : Fin C) (n : Fin N)
    (hn : (idx (ix3 b r (0 : Fin 1))).toInt.toNat = n.val) :
    Host.gather (rowsDims N C R B wf) x idx (ix3 b r k) = x (ix2 n k) := by
  unfold Host.gather
  congr 1
  funext a
  refine Fin.ext ?_
  show (rowsDims N C R B wf).start (ix3 b r k) idx a + (rowsDims N C R B wf).batchCoord (ix3 b r k) a
      + (rowsDims N C R B wf).offCoord (ix3 b r k) a = _
  rw [GatherDims.batchCoord_eq_zero _ _ _ List.not_mem_nil, Nat.add_zero]
  have h : a = 0 ∨ a = 1 := by
    match a with
    | ⟨0, _⟩ => exact Or.inl rfl
    | ⟨1, _⟩ => exact Or.inr rfl
  rcases h with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowsDims N C R B wf).startIndexMap from List.mem_singleton.mpr rfl)]
    have hsi : (rowsDims N C R B wf).siIdx (ix3 b r k) ⟨List.idxOf (0 : Fin 2) (rowsDims N C R B wf).startIndexMap,
        List.idxOf_lt_length_iff.2 (List.mem_singleton.mpr rfl)⟩ = ix3 b r (0 : Fin 1) := by
      funext a; refine Fin.ext ?_
      match a with
      | ⟨0, _⟩ => rfl
      | ⟨1, _⟩ => rfl
      | ⟨2, _⟩ => rfl
    refine (congrArg (fun z => min (idx z).toInt.toNat (N - 1)) hsi).trans ?_
    dsimp only
    rw [hn]
    have := n.isLt
    show min n.val (N - 1) = n.val
    omega
  · unfold GatherDims.start
    rw [dif_neg (fun h => absurd (List.mem_singleton.mp h) (by decide : (1 : Fin 2) ≠ 0)), Nat.zero_add]
    unfold GatherDims.offCoord
    rw [dif_pos ((GatherDims.mem_sKept _ _).mpr ⟨fun h => absurd (List.mem_singleton.mp h) (by decide : (1 : Fin 2) ≠ 0), List.not_mem_nil⟩)]
    rfl

/-- The dimension numbers of the matrices' gather. -/
abbrev matsDims (N K C B : ℕ) (wf : GatherDims.WF ⟨3, ![N, K, C]⟩ ⟨2, ![B, 1]⟩ ⟨3, ![B, K, C]⟩ [1, 2] [0] [] [0] [] 1 ![1, K, C]) :
    GatherDims ⟨3, ![N, K, C]⟩ ⟨2, ![B, 1]⟩ ⟨3, ![B, K, C]⟩ where
  offsetDims := [1, 2]
  collapsedSliceDims := [0]
  operandBatchingDims := []
  startIndicesBatchingDims := []
  startIndexMap := [0]
  indexVectorDim := 1
  sliceSizes := ![1, K, C]
  wf := wf

/-- Entry `(b, k, j)` of the gathered matrices is entry `(k, j)` of the matrix the table names at `b`. -/
theorem gather_mats {N K C B : ℕ} (wf : GatherDims.WF ⟨3, ![N, K, C]⟩ ⟨2, ![B, 1]⟩ ⟨3, ![B, K, C]⟩ [1, 2] [0] [] [0] [] 1 ![1, K, C])
    (x : (⟨3, ![N, K, C]⟩ : Shape).Idx → α) (idx : IVec ⟨2, ![B, 1]⟩ 32) (b : Fin B) (k : Fin K) (j : Fin C) (n : Fin N)
    (hn : (idx (ix2 b (0 : Fin 1))).toInt.toNat = n.val) :
    Host.gather (matsDims N K C B wf) x idx (ix3 b k j) = x (ix3 n k j) := by
  unfold Host.gather
  congr 1
  funext a
  refine Fin.ext ?_
  show (matsDims N K C B wf).start (ix3 b k j) idx a + (matsDims N K C B wf).batchCoord (ix3 b k j) a
      + (matsDims N K C B wf).offCoord (ix3 b k j) a = _
  rw [GatherDims.batchCoord_eq_zero _ _ _ List.not_mem_nil, Nat.add_zero]
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (matsDims N K C B wf).startIndexMap from List.mem_singleton.mpr rfl)]
    have hsi : (matsDims N K C B wf).siIdx (ix3 b k j) ⟨List.idxOf (0 : Fin 3) (matsDims N K C B wf).startIndexMap,
        List.idxOf_lt_length_iff.2 (List.mem_singleton.mpr rfl)⟩ = ix2 b (0 : Fin 1) := by
      funext a; refine Fin.ext ?_
      match a with
      | ⟨0, _⟩ => rfl
      | ⟨1, _⟩ => rfl
    refine (congrArg (fun z => min (idx z).toInt.toNat (N - 1)) hsi).trans ?_
    dsimp only
    rw [hn]
    have := n.isLt
    show min n.val (N - 1) = n.val
    omega
  · unfold GatherDims.start
    rw [dif_neg (fun h => absurd (List.mem_singleton.mp h) (by decide : (1 : Fin 3) ≠ 0)), Nat.zero_add]
    unfold GatherDims.offCoord
    rw [dif_pos ((GatherDims.mem_sKept _ _).mpr ⟨fun h => absurd (List.mem_singleton.mp h) (by decide : (1 : Fin 3) ≠ 0), List.not_mem_nil⟩)]
    rfl
  · unfold GatherDims.start
    rw [dif_neg (fun h => absurd (List.mem_singleton.mp h) (by decide : (2 : Fin 3) ≠ 0)), Nat.zero_add]
    unfold GatherDims.offCoord
    rw [dif_pos ((GatherDims.mem_sKept _ _).mpr ⟨fun h => absurd (List.mem_singleton.mp h) (by decide : (2 : Fin 3) ≠ 0), List.not_mem_nil⟩)]
    rfl

/-- The dimension numbers of the vectors' gather. -/
abbrev vecsDims (N C B : ℕ) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Entry `(b, j)` of the gathered vectors is entry `j` of the vector the table names at `b`. -/
theorem gather_vecs {N C B : ℕ} (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ 32) (b : Fin B) (j : Fin C) (n : Fin N)
    (hn : (idx (ix2 b (0 : Fin 1))).toInt.toNat = n.val) :
    Host.gather (vecsDims N C B wf) x idx (ix2 b j) = x (ix2 n j) := by
  unfold Host.gather
  congr 1
  funext a
  refine Fin.ext ?_
  show (vecsDims N C B wf).start (ix2 b j) idx a + (vecsDims N C B wf).batchCoord (ix2 b j) a
      + (vecsDims N C B wf).offCoord (ix2 b j) a = _
  rw [GatherDims.batchCoord_eq_zero _ _ _ List.not_mem_nil, Nat.add_zero]
  have h : a = 0 ∨ a = 1 := by
    match a with
    | ⟨0, _⟩ => exact Or.inl rfl
    | ⟨1, _⟩ => exact Or.inr rfl
  rcases h with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (vecsDims N C B wf).startIndexMap from List.mem_singleton.mpr rfl)]
    have hsi : (vecsDims N C B wf).siIdx (ix2 b j) ⟨List.idxOf (0 : Fin 2) (vecsDims N C B wf).startIndexMap,
        List.idxOf_lt_length_iff.2 (List.mem_singleton.mpr rfl)⟩ = ix2 b (0 : Fin 1) := by
      funext a; refine Fin.ext ?_
      match a with
      | ⟨0, _⟩ => rfl
      | ⟨1, _⟩ => rfl
    refine (congrArg (fun z => min (idx z).toInt.toNat (N - 1)) hsi).trans ?_
    dsimp only
    rw [hn]
    have := n.isLt
    show min n.val (N - 1) = n.val
    omega
  · unfold GatherDims.start
    rw [dif_neg (fun h => absurd (List.mem_singleton.mp h) (by decide : (1 : Fin 2) ≠ 0)), Nat.zero_add]
    unfold GatherDims.offCoord
    rw [dif_pos ((GatherDims.mem_sKept _ _).mpr ⟨fun h => absurd (List.mem_singleton.mp h) (by decide : (1 : Fin 2) ≠ 0), List.not_mem_nil⟩)]
    rfl

end Cert.Proof.Moe

end
-- ==== Proof.MoeRefArr.lean ====
/-
  The experts' reference, entry by entry: every block's rows gathered after the norm, the blocks' weights gathered by
  expert, two stacked products with the activation between, and zero in the unused blocks.
-/
module

public import proofs.«01_k».proof.Proof.MoeGather
public import proofs.«01_k».proof.Proof.MoeMath
public import proofs.«01_k».proof.Proof.InOdd
public import proofs.«01_k».proof.Proof.Gen.MoeRefIdeal
public import Idealize.ShloMosaic.Lib.StackMember
public import Idealize.ShloMosaic.Lib.IdealHost

@[expose] public section

set_option maxRecDepth 16384

noncomputable section

namespace Cert.Proof.Moe

open Idealize.ShloMosaic Idealize.ShloMosaic.TcCoe Idealize.SL.Sem Idealize.ShloMosaic.ValueIdx
open Cert.MoeRefIdeal Cert.MoeRefIdeal.Facts₀

variable (e : S288.Idx → BitVec 32) (u : S1.Idx → BitVec 32) (tk : S288x512.Idx → BitVec 32)
  (h : S32768x1024.Idx → EReal) (g : S1024.Idx → EReal) (w : S32x1024x2048.Idx → EReal) (bw : S32x2048.Idx → EReal)
  (w' : S32x1024x1024.Idx → EReal) (bw' : S32x1024.Idx → EReal)

/-- The experts' table as a column. -/
abbrev colE : S288x1.Idx → BitVec 32 := broadcastInDim S288x1 ![0] bcast_S288_S288x1_0 e
/-- The tokens' table with a unit axis. -/
abbrev colT : S288x512x1.Idx → BitVec 32 := broadcastInDim S288x512x1 ![0, 1] bcast_S288x512_S288x512x1_0_1 tk

theorem colE_apply (b : Fin 288) : colE e (ix2 b (0 : Fin 1)) = e (ix1 b) :=
  broadcastInDim_apply _ _ e (ix2 b (0 : Fin 1)) (ix1 b) fun a => by fin_cases a; rfl
theorem colT_apply (b : Fin 288) (r : Fin 512) : colT tk (ix3 b r (0 : Fin 1)) = tk (ix2 b r) :=
  broadcastInDim_apply _ _ tk (ix3 b r (0 : Fin 1)) (ix2 b r) fun a => by fin_cases a <;> rfl

/-- A block's expert as a member of the stack. -/
abbrev ex (b : Fin 288) : Fin 32 := Fin.ofNat 32 (e (ix1 b)).toNat
/-- A row's token as a row of the hidden states. -/
abbrev tkn (b : Fin 288) (r : Fin 512) : Fin 32768 := Fin.ofNat 32768 (tk (ix2 b r)).toNat

theorem names_expert (hE : ∀ b : Fin 288, (e (ix1 b)).toNat < 32) (b : Fin 288) :
    (colE e (ix2 b (0 : Fin 1))).toInt.toNat = (ex e b).val := by
  rw [colE_apply, signed_of_lt (by norm_num) (hE b)]
  exact (Nat.mod_eq_of_lt (hE b)).symm
theorem names_token (hT : ∀ (b : Fin 288) (r : Fin 512), (tk (ix2 b r)).toNat < 32768) (b : Fin 288) (r : Fin 512) :
    (colT tk (ix3 b r (0 : Fin 1))).toInt.toNat = (tkn tk b r).val := by
  rw [colT_apply, signed_of_lt (by norm_num) (hT b r)]
  exact (Nat.mod_eq_of_lt (hT b r)).symm

/-- The first stacked product with its bias. -/
abbrev refGate : S288x512x2048.Idx → EReal :=
  addf (F := Ideal) (φ := .f32) (Host.dotGeneral (F := Ideal) dot_S288x512x1024_S288x1024x2048_S288x512x2048_2_1_1_2_0_0 none
      (Host.gather gather_S32768x1024_S288x512x1_S288x512x1024_2_0_n_n_0_2_11024 (InOdd.refNormed h g) (colT tk)) (φ₁ := .f32) (φ₂ := .f32)
      (Host.gather gather_S32x1024x2048_S288x1_S288x1024x2048_12_0_n_n_0_1_110242048 w (colE e)))
    (broadcastInDim S288x512x2048 ![0, 1, 2] bcast_S288x1x2048_S288x512x2048_0_1_2 (broadcastInDim S288x1x2048 ![0, 2] bcast_S288x2048_S288x1x2048_0_2
      (Host.gather gather_S32x2048_S288x1_S288x2048_1_0_n_n_0_1_12048 bw (colE e))))

theorem refGate_apply (hE : ∀ b : Fin 288, (e (ix1 b)).toNat < 32) (hT : ∀ (b : Fin 288) (r : Fin 512), (tk (ix2 b r)).toNat < 32768)
    (b : Fin 288) (r : Fin 512) (j : Fin 2048) :
    refGate e tk h g w bw (ix3 b r j)
      = gate (fun k => h (ix2 (tkn tk b r) k)) (fun k => g (ix1 k)) (fun k j => w (ix3 (ex e b) k j)) (fun j => bw (ix2 (ex e b) j)) j := by
  refine congrArg₂ (· + ·) ?_ ?_
  · refine (StackMember.dotGeneral_stack_apply (G := 288) (m := 512) (k := 1024) (n := 2048) (φ₁ := .f32) (φ₂ := .f32) _ none _ _ b r j).trans ?_
    exact Finset.sum_congr rfl fun k _ => congrArg₂ (· * ·)
      ((gather_rows _ _ _ b r k (tkn tk b r) (names_token tk hT b r)).trans (InOdd.refNormed_apply h g (tkn tk b r) k))
      (gather_mats _ w _ b k j (ex e b) (names_expert e hE b))
  · refine (broadcastInDim_apply _ _ _ (ix3 b r j) (ix3 b (0 : Fin 1) j) fun a => by fin_cases a <;> rfl).trans ?_
    refine (broadcastInDim_apply _ _ _ (ix3 b (0 : Fin 1) j) (ix2 b j) fun a => by fin_cases a <;> rfl).trans ?_
    exact gather_vecs _ bw _ b j (ex e b) (names_expert e hE b)

/-- A number in every place of the activations. -/
abbrev everywhere (x : BitVec 32) : S288x512x1024.Idx → EReal :=
  broadcastInDim S288x512x1024 ![] bcast_S_S288x512x1024 (constant (F := Ideal) S_ .f32 x)

/-- The capped first half of the gates. -/
abbrev refLow (z : S288x512x2048.Idx → EReal) : S288x512x1024.Idx → EReal :=
  minimumf (F := Ideal) (φ := .f32) (extractStridedSlice S288x512x1024 ![0, 0, 0] z slices_S288x512x2048_S288x512x1024_0_0_0) (everywhere 0x40E00000#32)

/-- The activation. -/
abbrev refAct (z : S288x512x2048.Idx → EReal) : S288x512x1024.Idx → EReal :=
  mulf (F := Ideal) (φ := .f32) (mulf (F := Ideal) (φ := .f32) (refLow z)
      (Host.divf (F := Ideal) (φ := .f32) (everywhere 0x3F800000#32) (addf (F := Ideal) (φ := .f32) (everywhere 0x3F800000#32)
        (Host.exp (F := Ideal) (φ := .f32) (Host.negf (F := Ideal) (φ := .f32) (mulf (F := Ideal) (φ := .f32) (everywhere 0x3FD9DB23#32) (refLow z)))))))
    (addf (F := Ideal) (φ := .f32) (minimumf (F := Ideal) (φ := .f32) (everywhere 0x40E00000#32)
        (maximumf (F := Ideal) (φ := .f32) (everywhere 0xC0E00000#32)
          (extractStridedSlice S288x512x1024 ![0, 0, 1024] z slices_S288x512x2048_S288x512x1024_0_0_1024)))
      (everywhere 0x3F800000#32))

theorem refLow_apply (z : S288x512x2048.Idx → EReal) (b : Fin 288) (r : Fin 512) (j : Fin 1024) :
    refLow z (ix3 b r j) = low (fun j => z (ix3 b r j)) j := by
  refine congrArg (min · (Ideal.ofBits .f32 0x40E00000#32)) ?_
  refine extractStridedSlice_apply _ z _ (ix3 b r j) (ix3 b r (j.castLE (by omega))) fun a => ?_
  match a with
  | ⟨0, _⟩ => exact (Nat.zero_add _).symm
  | ⟨1, _⟩ => exact (Nat.zero_add _).symm
  | ⟨2, _⟩ => exact (Nat.zero_add _).symm

theorem refAct_apply (z : S288x512x2048.Idx → EReal) (b : Fin 288) (r : Fin 512) (j : Fin 1024) :
    refAct z (ix3 b r j) = act (fun j => z (ix3 b r j)) j := by
  refine congrArg₂ (· * ·) (congrArg₂ (· * ·) (refLow_apply z b r j) ?_) (congrArg (· + Ideal.ofBits .f32 0x3F800000#32) ?_)
  · show Ideal.div (Ideal.ofBits .f32 0x3F800000#32) (Ideal.ofBits .f32 0x3F800000#32 + Ideal.exp (-(Ideal.ofBits .f32 0x3FD9DB23#32 * refLow z (ix3 b r j)))) = _
    rw [refLow_apply, Ideal.ofBits_one_f32]
    rfl
  · refine congrArg (fun y => min (Ideal.ofBits .f32 0x40E00000#32) (max (Ideal.ofBits .f32 0xC0E00000#32) y)) ?_
    refine extractStridedSlice_apply _ z _ (ix3 b r j) (ix3 b r (⟨1024 + j.val, by omega⟩ : Fin 2048)) fun a => ?_
    match a with
    | ⟨0, _⟩ => exact (Nat.zero_add _).symm
    | ⟨1, _⟩ => exact (Nat.zero_add _).symm
    | ⟨2, _⟩ => rfl

/-- The second stacked product with its bias. -/
abbrev refRows (a : S288x512x1024.Idx → EReal) : S288x512x1024.Idx → EReal :=
  addf (F := Ideal) (φ := .f32) (Host.dotGeneral (F := Ideal) dot_S288x512x1024_S288x1024x1024_S288x512x1024_2_1_1_2_0_0 none
      a (φ₁ := .f32) (φ₂ := .f32)
      (Host.gather gather_S32x1024x1024_S288x1_S288x1024x1024_12_0_n_n_0_1_110241024 w' (colE e)))
    (broadcastInDim S288x512x1024 ![0, 1, 2] bcast_S288x1x1024_S288x512x1024_0_1_2 (broadcastInDim S288x1x1024 ![0, 2] bcast_S288x1024_S288x1x1024_0_2
      (Host.gather gather_S32x1024_S288x1_S288x1024_1_0_n_n_0_1_11024 bw' (colE e))))

theorem refRows_apply (hE : ∀ b : Fin 288, (e (ix1 b)).toNat < 32) (a : S288x512x1024.Idx → EReal) (b : Fin 288) (r : Fin 512) (j : Fin 1024) :
    refRows e w' bw' a (ix3 b r j) = (∑ k : Fin 1024, a (ix3 b r k) * w' (ix3 (ex e b) k j)) + bw' (ix2 (ex e b) j) := by
  refine congrArg₂ (· + ·) ?_ ?_
  · refine (StackMember.dotGeneral_stack_apply (G := 288) (m := 512) (k := 1024) (n := 1024) (φ₁ := .f32) (φ₂ := .f32) _ none _ _ b r j).trans ?_
    exact Finset.sum_congr rfl fun k _ => congrArg (a (ix3 b r k) * ·) (gather_mats _ w' _ b k j (ex e b) (names_expert e hE b))
  · refine (broadcastInDim_apply _ _ _ (ix3 b r j) (ix3 b (0 : Fin 1) j) fun a => by fin_cases a <;> rfl).trans ?_
    refine (broadcastInDim_apply _ _ _ (ix3 b (0 : Fin 1) j) (ix2 b j) fun a => by fin_cases a <;> rfl).trans ?_
    exact gather_vecs _ bw' _ b j (ex e b) (names_expert e hE b)

/-- Whether a block is used, at every place of its rows. -/
abbrev refUsed : S288x512x1024.Idx → BitVec 1 :=
  broadcastInDim S288x512x1024 ![0, 1, 2] bcast_S288x1x1_S288x512x1024_0_1_2 (broadcastInDim S288x1x1 ![0] bcast_S288_S288x1x1_0
    (cmpi .slt (iotaInDim S288 32 0) (broadcastInDim S288 ![0] bcast_S1_S288_0 u)))

theorem refUsed_apply (b : Fin 288) (r : Fin 512) (j : Fin 1024) :
    refUsed u (ix3 b r j) = IntOp.cmpi .slt (BitVec.ofNat 32 b.val) (u (ix1 0)) := by
  refine (broadcastInDim_apply _ _ _ (ix3 b r j) (ix3 b (0 : Fin 1) (0 : Fin 1)) fun a => by fin_cases a <;> rfl).trans ?_
  refine (broadcastInDim_apply _ _ _ (ix3 b (0 : Fin 1) (0 : Fin 1)) (ix1 b) fun a => by fin_cases a; rfl).trans ?_
  refine congrArg (IntOp.cmpi .slt (BitVec.ofNat 32 b.val)) ?_
  exact broadcastInDim_apply _ _ u (ix1 b) (ix1 0) fun a => by fin_cases a; rfl

/-- The reference's whole term. -/
abbrev refTerm : S147456x1024.Idx → EReal :=
  shapeCast S147456x1024 (select (refUsed u) (refRows e w' bw' (refAct (refGate e tk h g w bw))) (everywhere 0x00000000#32)) shapeCasts_S288x512x1024_S147456x1024

theorem ref_apply (hE : ∀ b : Fin 288, (e (ix1 b)).toNat < 32) (hU : (u (ix1 0)).toNat ≤ 288)
    (hT : ∀ (b : Fin 288) (r : Fin 512), (tk (ix2 b r)).toNat < 32768) (i : S147456x1024.Idx) :
    refTerm e u tk h g w bw w' bw' i = layer e u tk h g w bw w' bw' i := by
  have h0 : (i 0).val < 147456 := (i 0).isLt
  have h1 : (i 1).val < 1024 := (i 1).isLt
  have hb : (i 0).val / 512 < 288 := by omega
  refine (shapeCast_apply _ _ i (ix3 (⟨(i 0).val / 512, hb⟩ : Fin 288) (⟨(i 0).val % 512, Nat.mod_lt _ (by norm_num)⟩ : Fin 512) (⟨(i 1).val, h1⟩ : Fin 1024)) ?_).trans ?_
  · rw [Shape.rowMajor_val_three, Shape.rowMajor_val_two]
    show ((i 0).val / 512 * 512 + (i 0).val % 512) * 1024 + (i 1).val = (i 0).val * 1024 + (i 1).val
    omega
  · rw [select_apply, refUsed_apply]
    unfold layer
    by_cases hu : (i 0).val / 512 < (u (ix1 0)).toNat
    · have hc : IntOp.cmpi .slt (BitVec.ofNat 32 ((i 0).val / 512)) (u (ix1 0)) = 1#1 := by
        refine IntOp.cmpi_slt.2 ?_
        rw [BitVec.toInt_eq_toNat_cond, BitVec.toInt_eq_toNat_cond, BitVec.toNat_ofNat, Nat.mod_eq_of_lt (by omega), if_pos (by omega), if_pos (by omega)]
        omega
      rw [if_pos hu, hc]
      show refRows e w' bw' (refAct (refGate e tk h g w bw)) _ = _
      rw [refRows_apply e w' bw' hE]
      unfold rowOut expert
      refine congrArg (· + bw' (ix2 (ex e ⟨(i 0).val / 512, hb⟩) (i 1))) (Finset.sum_congr rfl fun k _ => ?_)
      refine congrArg (· * w' (ix3 (ex e ⟨(i 0).val / 512, hb⟩) k (i 1))) ?_
      rw [refAct_apply]
      exact congrArg (act · k) (funext fun j => refGate_apply e tk h g w bw hE hT _ _ j)
    · have hc : IntOp.cmpi .slt (BitVec.ofNat 32 ((i 0).val / 512)) (u (ix1 0)) ≠ 1#1 := by
        intro hc
        have hc := IntOp.cmpi_slt.1 hc
        rw [BitVec.toInt_eq_toNat_cond, BitVec.toInt_eq_toNat_cond, BitVec.toNat_ofNat, Nat.mod_eq_of_lt (by omega), if_pos (by omega), if_pos (by omega)] at hc
        omega
      rw [if_neg hu]
      exact if_neg hc

end Cert.Proof.Moe

end
-- ==== Proof.Moe.lean ====
/-
  The claim about the experts: from equal arguments the kernel that gathers rows block by block and the reference that
  gathers whole stacks end with the same array.
-/
module

public import proofs.«01_k».proof.Proof.MoeFrame
public import proofs.«01_k».proof.Proof.MoeArr
public import proofs.«01_k».proof.Proof.MoeRefArr

@[expose] public section

set_option maxRecDepth 16384

noncomputable section

namespace Cert.Proof.Moe

open Idealize.ShloMosaic Idealize.ShloMosaic.TcCoe Idealize.SL.Sem Idealize.ShloMosaic.ValueIdx
open Cert.Moe.Hand (argE argU argT)

/-- What the precondition says of the integer arguments. -/
theorem bounds_ideal (m : (ℓ : Loc Cert.MoeIdeal.nD Cert.MoeIdeal.τ Cert.MoeIdeal.sig) → Buf (Elt Ideal) ℓ) (h : Cert.Pre_MoeIdeal m) (c : Dev Cert.MoeIdeal.nD) :
    (∀ b : Fin 288, (argE m c (ix1 b)).toNat < 32) ∧ (1 ≤ (argU m c (ix1 0)).toNat ∧ (argU m c (ix1 0)).toNat ≤ 288)
      ∧ ∀ (b : Fin 288) (r : Fin 512), (argT m c (ix2 b r)).toNat < 32768 :=
  bounds _ _ _ _ _ _ _ _ _ (h c)

/-- From equal arguments the two programs end with equal results. -/
theorem algebraic : Cert.algebraic_MoeIdeal_MoeRefIdeal := by
  intro m ρ m' ρ' hp hag
  refine ⟨fun c => Cert.Moe.Hand.res m c, transfer _ _ (Cert.Moe.Hand.run m ρ (good_ideal m hp) (fun c => (bounds_ideal m hp c).1)), ?_⟩
  refine (θ_run Cert.MoeRefIdeal.defs _ _).mono (fun _ h c => ⟨(h c).1.trans ?_, (h c).2⟩)
    (Cert.MoeRefIdeal.Value.run (F := Ideal) m' ρ')
  obtain ⟨h0, h1, h2, h3, h4, h5, h6, h7, h8⟩ := hag c
  obtain ⟨hE, ⟨-, hU⟩, hT⟩ := bounds_ideal m hp c
  unfold Cert.MoeRefIdeal.Value.res_main_v48
  rw [h0, h1, h2, h3, h4, h5, h6, h7, h8]
  exact funext fun i => ref_apply _ _ _ _ _ _ _ _ _ hE hU hT i

end Cert.Proof.Moe

end
-- ==== Proof.CmbKit.lean ====
/-
The kit of the call that combines the experts' rows, written by hand because its kernel keeps row copies in flight from one
grid point to the next: what the host operations before the region leave (`V`), the block each input window stages at a point (`iblk`), and the resources the region hands the kernel, listed one by one.
-/
module

public import proofs.«01_k».proof.Proof.Gen.Cmb.Launch
public import proofs.«01_k».proof.Proof.Gen.Cmb.Skeleton
public import proofs.«01_k».proof.Proof.Gen.Cmb.Loops
public import Idealize.ShloMosaic.Lib.Pipeline.FrameBody
public import Idealize.ShloMosaic.Lib.Ring
public import Idealize.ShloMosaic.Lib.Batch
public import Idealize.ShloMosaic.Lib.Tactic
public import Idealize.ShloMosaic.Lib.WordCmp

@[expose] public section

set_option maxRecDepth 16384

noncomputable section

namespace Cert.Cmb.Hand

open Cert.Cmb Cert.Cmb.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource model of the certificate: the pipeline's, over the values `F`. -/
abbrev MM (F : FTy → Type) [FloatOps F] := MT nD τ sig Unit (Elt F) ℕ (Pipeline.UD sig nD τ) ℕ

variable (m : (ℓ : Loc nD τ sig) → Buf (Elt F) ℓ) (ρ : Dev nD → PrngReg)
/-! ## @main up to the region -/

/-- Core `c`'s buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The whole program is the host operations and then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The same of argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The same of argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The same of argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The same of argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The same of argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The same of argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## What the kernel body is called with -/

/-- Each window's current staging memref at point `t`, spelled as the pipeline passes it (`bodyAt0`), and its wholeness. -/
abbrev ms0_0 (t : Fin cfg0.N) : Memref sig .tc .smem S1x1x512 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1024 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2x512x1024 .f32 := Memref.whole cc0_scratch0
/-- The operands left in HBM that the body copies into scratch itself, whole. -/
abbrev hbM0_0 : Memref sig .tc .hbm S147456x1024 .f32 := Memref.whole main_arg1
/-- The buffer of `M` on core `c`: the type of its contents, and the whole of it held at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MM F) :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 14, SemLoc.dma 15] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp (MM F))
      = iprop(semVal ((c : Thread nD τ), SemLoc.dma 14) 0 ∗ semVal ((c : Thread nD τ), SemLoc.dma 15) 0) := by
  rw [Pipeline.ownSems0_eq_of_list c osem0 [0, 1] (by decide) (by decide)]; rfl
/-- The HBM operands the body moves, as references: unscoped, no window's array (`Pipeline.restRefs`). -/
def H0 : Finset (Ref sig .tc) := {main_arg1}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp (MM F)) = iprop(hbPt0 c hbM0_0 (V m c main_arg1)) := by
  rw [BI.bigSep_eq_bigSepL_of_eq [main_arg1] (by decide) (by decide)]; rfl

/-- The invariant of a body with transfers of its own, `Pipeline.ΦD`, conjunct by conjunct: the scratch operands owned at
    some contents, the generator register at some state, the own cells at zero, the HBM operands at their launch
    contents. -/
theorem PhiD0_eq (c : Dev nD) :
    (Pipeline.ΦD osem0 spec0 H0 (V m) c : sProp (MM F))
      = iprop(iprop((∃ d, owns (c : Thread nD τ) scM0_0 fullShare d)) ∗ (∃ r, prngReg c r) ∗ iprop(semVal ((c : Thread nD τ), SemLoc.dma 14) 0 ∗ semVal ((c : Thread nD τ), SemLoc.dma 15) 0) ∗ iprop(hbPt0 c hbM0_0 (V m c main_arg1))) := by
  rw [Pipeline.ΦD_eq, scopedRest0_eq, ownSems00_eq, hbmPts0_eq]; simp only [scM0_0, owns_whole]; try rfl

/-- The body as the pipeline calls it at point `t`. -/
abbrev bodyAt0 (t : Fin cfg0.N) : Prog (TpuEff nD τ sig (Elt F) Λ₀ .tc) PUnit :=
  cc0_combine_ple (grid0.coords t) (win0_0.stage (cfg0.slots t 0)) (hstage0_0 ((cfg0.slots t 0).cast nbuf0_0)) (win0_1.stage (cfg0.slots t 1)) (hstage0_1 ((cfg0.slots t 1).cast nbuf0_1)) (Memref.whole main_arg1) (Memref.isWhole_whole _) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) cc0_scratch1

end Cert.Cmb.Hand

end
-- ==== Proof.CmbRows.lean ====
/-
The row copies of the call that combines the experts' rows. A block's 512 rows are copied one by one from the experts' rows into
one half of the scratch, all on that half's semaphore. This module says what a half holds while it rests (`Idle`),
while its copies are being started (`Started`), while they are in flight (`Flying`) and once they have landed
(`Landed`), and proves the one step of each kind: a copy started, a copy awaited.
-/
module

public import proofs.«01_k».proof.Proof.CmbKit
public import Idealize.ShloMosaic.Lib.ValueLayout

@[expose] public section

set_option maxRecDepth 16384

noncomputable section

namespace Cert.Cmb.Hand

open Cert.Cmb Cert.Cmb.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The scratch rows and the rows of the experts' rows -/

theorem slab_inb (s : Fin 2) : ∀ a, (![s.val, 0, 0] : Fin 3 → ℕ) a + S1x512x1024.size a ≤ S2x512x1024.size a := by
  have := s.isLt
  intro a; fin_cases a
  · show s.val + 1 ≤ 2; omega
  · show 0 + 512 ≤ 512; omega
  · show 0 + 1024 ≤ 1024; omega

theorem row_inb (r : Fin 512) : ∀ a, (![r.val, 0] : Fin 2 → ℕ) a + S1x1024.size a ≤ S512x1024.size a := by
  have := r.isLt
  intro a; fin_cases a
  · show r.val + 1 ≤ 512; omega
  · show 0 + 1024 ≤ 1024; omega

theorem hrow_inb (t : Fin 147456) : ∀ a, (![t.val, 0] : Fin 2 → ℕ) a + S1x1024.size a ≤ S147456x1024.size a := by
  have := t.isLt
  intro a; fin_cases a
  · show t.val + 1 ≤ 147456; omega
  · show 0 + 1024 ≤ 1024; omega

/-- Half `s` of the scratch: the 512 rows one block's copies land in. -/
def slab (s : Fin 2) : Memref sig .tc .vmem S512x1024 .f32 :=
  (scM0_0.slice (Rect.unit (s := S2x512x1024) ![s.val, 0, 0] S1x512x1024.size (slab_inb s)) (fun _ => rfl)).squeeze S512x1024 squeezes_S1x512x1024_S512x1024

/-- Row `r` of that half, as a copy's destination. -/
def row (s : Fin 2) (r : Fin 512) : Memref sig .tc .vmem S1x1024 .f32 :=
  (slab s).slice (Rect.unit (s := S512x1024) ![r.val, 0] S1x1024.size (row_inb r)) (fun _ => rfl)

/-- Row `t` of the experts' rows, as a copy's source. -/
def hrow (t : Fin 147456) : Memref sig .tc .hbm S1x1024 .f32 :=
  hbM0_0.slice (Rect.unit (s := S147456x1024) ![t.val, 0] S1x1024.size (hrow_inb t)) (fun _ => rfl)

/-- The semaphore the copies into half `s` complete on. -/
def cell (s : Fin 2) : DmaSem sig := if s = 0 then 14 else 15

theorem row_emb (s : Fin 2) (r : Fin 512) (x : S1x1024.Idx) :
    (row s r).view.emb x = (ix3 s r (x 1) : S2x512x1024.Idx) := by
  have h1 : (Rect.unit (s := S512x1024) ![r.val, 0] S1x1024.size (row_inb r)).emb x = (ix2 r (x 1) : S512x1024.Idx) := by
    have hx : (x 0).val = 0 := by have h : (x 0).val < 1 := (x 0).isLt; omega
    funext a; apply Fin.ext
    fin_cases a
    · show r.val + 1 * (x 0).val = r.val; omega
    · show 0 + 1 * (x 1).val = (x 1).val; omega
  show (slab s).view.emb ((Rect.unit (s := S512x1024) ![r.val, 0] S1x1024.size (row_inb r)).emb x) = _
  rw [h1]
  show (Rect.unit (s := S2x512x1024) ![s.val, 0, 0] S1x512x1024.size (slab_inb s)).emb
    (Shape.reshapeEquiv squeezes_S1x512x1024_S512x1024.numel_eq (ix2 r (x 1))) = _
  refine (congrArg (fun z : S1x512x1024.Idx => (Rect.unit (s := S2x512x1024) ![s.val, 0, 0] S1x512x1024.size (slab_inb s)).emb z)
    (reshapeEquiv_ix2_1ab (a := 512) (b := 1024) squeezes_S1x512x1024_S512x1024.numel_eq r (x 1))).trans ?_
  funext a; apply Fin.ext
  fin_cases a
  · show s.val + 1 * 0 = s.val; omega
  · show 0 + 1 * r.val = r.val; omega
  · show 0 + 1 * (x 1).val = (x 1).val; omega

theorem hrow_emb (t : Fin 147456) (x : S1x1024.Idx) :
    (hrow t).view.emb x = (ix2 t (x 1) : S147456x1024.Idx) := by
  show (Rect.unit (s := S147456x1024) ![t.val, 0] S1x1024.size (hrow_inb t)).emb x = _
  have hx : (x 0).val = 0 := by have h : (x 0).val < 1 := (x 0).isLt; omega
  funext a; apply Fin.ext
  fin_cases a
  · show t.val + 1 * (x 0).val = t.val; omega
  · show 0 + 1 * (x 1).val = (x 1).val; omega

/-- The elements of row `r` of half `s`. -/
def rowSet (s : Fin 2) (r : Fin 512) : Finset S2x512x1024.Idx := (row s r).view.set
/-- The elements of half `s`. -/
def slabSet (s : Fin 2) : Finset S2x512x1024.Idx := Finset.univ.biUnion (rowSet s)
/-- The elements of row `t` of the experts' rows. -/
def hrowSet (t : Fin 147456) : Finset S147456x1024.Idx := (hrow t).view.set

theorem mem_rowSet (s : Fin 2) (r : Fin 512) (y : S2x512x1024.Idx) : y ∈ rowSet s r ↔ y 0 = s ∧ y 1 = r := by
  constructor
  · intro h
    obtain ⟨x, -, hx⟩ := Finset.mem_map.mp h
    have hx' := (row_emb s r x).symm.trans hx
    rw [← hx']; exact ⟨rfl, rfl⟩
  · rintro ⟨h0, h1⟩
    refine Finset.mem_map.mpr ⟨(ix2 0 (y 2) : S1x1024.Idx), Finset.mem_univ _, (row_emb s r _).trans ?_⟩
    show (ix3 s r (y 2) : S2x512x1024.Idx) = y
    rw [← h0, ← h1]; exact (eq_ix3 y).symm

theorem mem_slabSet (s : Fin 2) (y : S2x512x1024.Idx) : y ∈ slabSet s ↔ y 0 = s := by
  unfold slabSet
  simp only [Finset.mem_biUnion, Finset.mem_univ, true_and, mem_rowSet]
  exact ⟨fun ⟨_, h, _⟩ => h, fun h => ⟨y 1, h, rfl⟩⟩

theorem rowSet_disjoint (s : Fin 2) : ∀ r r' : Fin 512, r ≠ r' → Disjoint (rowSet s r) (rowSet s r') := fun r r' hne => by
  rw [Finset.disjoint_left]; intro y hy hy'; rw [mem_rowSet] at hy hy'; exact hne (hy.2.symm.trans hy'.2)

theorem slabSet_compl : (Finset.univ \ slabSet 0 : Finset S2x512x1024.Idx) = slabSet 1 := by
  ext y
  rw [Finset.mem_sdiff, mem_slabSet, mem_slabSet]
  have h : (y 0).val < 2 := (y 0).isLt
  constructor
  · rintro ⟨-, h0⟩
    apply Fin.ext
    have : (y 0).val ≠ 0 := fun hh => h0 (Fin.ext hh)
    show (y 0).val = 1; omega
  · intro h1
    exact ⟨Finset.mem_univ _, fun h0 => by rw [h0] at h1; exact absurd (congrArg Fin.val h1) (by show ¬ (0 = 1); omega)⟩

/-! ## What one half of the scratch holds -/

/-- The gathered rows as scratch contents: row `r` holds row `tk r` of the experts' rows. -/
def gath (tk : Fin 512 → Fin 147456) (hc : S147456x1024.Idx → Elt F .f32) : S2x512x1024.Idx → Elt F .f32 :=
  fun y => hc (ix2 (tk (y 1)) (y 2))

theorem write_row (s : Fin 2) (r : Fin 512) (tk : Fin 512 → Fin 147456) (hc : S147456x1024.Idx → Elt F .f32)
    (fd : S2x512x1024.Idx → Elt F .f32) : ∀ y ∈ rowSet s r,
    (row s r).view.write (Elt F) fd (ReadAs.same.apply ((hrow (tk r)).view.read (Elt F) hc)) Finset.univ y = gath tk hc y := by
  intro y hy
  obtain ⟨x, -, rfl⟩ := Finset.mem_map.mp hy
  refine (View.write_emb_of_mem (v := (row s r).view) _ _ (Finset.mem_univ x)).trans ?_
  exact (congrArg hc (hrow_emb (tk r) x)).trans (congrArg (gath tk hc) (row_emb s r x)).symm

/-- The share of the experts' rows half `s` reads them by. -/
def hs (s : Fin 2) : PosShare TreeShare := if s = 0 then fullShare.left else fullShare.right

abbrev scL (c : Dev nD) : Loc nD τ sig := scM0_0.view.loc (c : Thread nD τ)
abbrev hL (c : Dev nD) : Loc nD τ sig := hbM0_0.view.loc (c : Thread nD τ)

/-- What copy `r` into half `s` delivers: the row landed, and the read share of its source row back. -/
def deliv (c : Dev nD) (s : Fin 2) (tk : Fin 512 → Fin 147456) (hc : S147456x1024.Idx → Elt F .f32) (r : Fin 512) : sProp (MM F) :=
  iprop((scL c ↦[rowSet s r]{fullShare} gath tk hc) ∗ (hL c ↦[hrowSet (tk r)]{Transfers.shareTok (hs s) 512 r} hc))

instance deliv_storable (c : Dev nD) (s : Fin 2) (tk : Fin 512 → Fin 147456) (hc : S147456x1024.Idx → Elt F .f32) (r : Fin 512) :
    BI.Storable (upEmb : UEmb _ (MM F)) (deliv c s tk hc r) := by
  unfold deliv; infer_instance

/-- The units one row's copy credits. -/
def NN : ℕ := (row 0 0).view.dmaCredit

theorem row_credit (s : Fin 2) (r : Fin 512) : (row s r).view.dmaCredit = NN := rfl

theorem NN_pos : 0 < NN := View.dmaCredit_pos _ (by decide)

/-- The counters of the copies on half `s`'s semaphore: `j` issued, `u` units consumed. -/
abbrev batch (c : Dev nD) (s : Fin 2) (tk : Fin 512 → Fin 147456) (hc : S147456x1024.Idx → Elt F .f32) (j u : ℕ) : sProp (MM F) :=
  Transfers.Batch (countersEmb (U := Pipeline.UD sig nD τ)) (c : Thread nD τ) (.dma (cell s)) () NN (deliv c s tk hc) j u

/-- Half `s` at rest: its rows at some contents, its semaphore at zero, its share of the experts' rows whole. -/
def Idle (c : Dev nD) (s : Fin 2) (hc : S147456x1024.Idx → Elt F .f32) : sProp (MM F) :=
  iprop((∃ f, scL c ↦[slabSet s]{fullShare} f) ∗ semVal ((c : Thread nD τ), SemLoc.dma (cell s)) 0 ∗ (hL c ↦{hs s} hc))

/-- Half `s` with `j` of a block's 512 copies started and none awaited. -/
def Started (c : Dev nD) (s : Fin 2) (tk : Fin 512 → Fin 147456) (hc : S147456x1024.Idx → Elt F .f32) (j : ℕ) : sProp (MM F) :=
  iprop(batch c s tk hc j 0
    ∗ bigSep (Transfers.pending j) (fun r : Fin 512 => iprop((∃ f, scL c ↦[rowSet s r]{fullShare} f) ∗ (hL c ↦{Transfers.shareTok (hs s) 512 r} hc)))
    ∗ bigSep (Transfers.issued j) (fun r : Fin 512 => (hL c ↦[Finset.univ \ hrowSet (tk r)]{Transfers.shareTok (hs s) 512 r} hc : sProp (MM F)))
    ∗ (hL c ↦{Transfers.shareDrop (hs s) 512} hc))

/-- Half `s` with all 512 copies started and `u` of their units awaited. -/
def Flying (c : Dev nD) (s : Fin 2) (tk : Fin 512 → Fin 147456) (hc : S147456x1024.Idx → Elt F .f32) (u : ℕ) : sProp (MM F) :=
  iprop(batch c s tk hc 512 u
    ∗ bigSep Finset.univ (fun r : Fin 512 => (hL c ↦[Finset.univ \ hrowSet (tk r)]{Transfers.shareTok (hs s) 512 r} hc : sProp (MM F)))
    ∗ (hL c ↦{Transfers.shareDrop (hs s) 512} hc))

/-- Half `s` with its block landed. -/
def Landed (c : Dev nD) (s : Fin 2) (tk : Fin 512 → Fin 147456) (hc : S147456x1024.Idx → Elt F .f32) : sProp (MM F) :=
  iprop((scL c ↦[slabSet s]{fullShare} gath tk hc) ∗ semVal ((c : Thread nD τ), SemLoc.dma (cell s)) 0 ∗ (hL c ↦{hs s} hc))

theorem landed_idle (c : Dev nD) (s : Fin 2) (tk : Fin 512 → Fin 147456) (hc : S147456x1024.Idx → Elt F .f32) :
    Landed c s tk hc ⊢ Idle c s hc := by
  unfold Landed Idle
  iintro ⟨H, Hs, Hh⟩
  isplitl [H]; · iexists _; iexact H
  isplitl [Hs]; · iexact Hs
  iexact Hh

/-- A half at rest can start a block's copies. -/
theorem start_begin (c : Dev nD) (s : Fin 2) (tk : Fin 512 → Fin 147456) (hc : S147456x1024.Idx → Elt F .f32) :
    (Idle c s hc : sProp (MM F)) ⊢ |={Set.univ}=> Started c s tk hc 0 := by
  unfold Idle Started
  iintro ⟨⟨%f, Hf⟩, Hs, Hh⟩
  imod (Transfers.batch_alloc' (Lvl := ℕ) (countersEmb (U := Pipeline.UD sig nD τ)) (c : Thread nD τ) () NN (deliv c s tk hc) (sm := .dma (cell s)) (E := Set.univ)) $$ Hs with HB
  imodintro
  isplitl [HB]; · iexact HB
  ihave Ht := (Transfers.pointsTo_toks_split (hs s) 512) $$ Hh
  icases Ht with ⟨Hd, Ht⟩
  ihave Hr := (Entails.of_eq (Ring.pointsTo_sub_blocks (ℓ := scL c) (rowSet s) (rowSet_disjoint s) (slabSet s) rfl f)) $$ Hf
  isplitl [Hr Ht]
  · rw [Transfers.pending_zero]
    iapply (show iprop(bigSep Finset.univ (fun r : Fin 512 => (iprop(∃ f, scL c ↦[rowSet s r]{fullShare} f) : sProp (MM F)))
        ∗ bigSep Finset.univ (fun r : Fin 512 => (hL c ↦{Transfers.shareTok (hs s) 512 r} hc : sProp (MM F)))) ⊢ _
      from Entails.of_eq (BI.bigSep_sep _ _ _).symm)
    isplitl [Hr]
    · iapply (show bigSep Finset.univ (fun r : Fin 512 => (scL c ↦[rowSet s r]{fullShare} f : sProp (MM F)))
          ⊢ bigSep Finset.univ (fun r : Fin 512 => (iprop(∃ f, scL c ↦[rowSet s r]{fullShare} f) : sProp (MM F)))
        from BI.bigSep_mono fun r _ => exists_intro (Φ := fun f => (scL c ↦[rowSet s r]{fullShare} f : sProp (MM F))) f) $$ Hr
    iexact Ht
  isplitr
  · rw [Transfers.issued_zero, BI.bigSep_empty]; iempintro
  iexact Hd

/-- All started is in flight. -/
theorem start_end (c : Dev nD) (s : Fin 2) (tk : Fin 512 → Fin 147456) (hc : S147456x1024.Idx → Elt F .f32) :
    (Started c s tk hc 512 : sProp (MM F)) ⊢ Flying c s tk hc 0 := by
  unfold Started Flying
  rw [Transfers.issued_all rfl]
  iintro ⟨HB, -, Hi, Hd⟩
  isplitl [HB]; · iexact HB
  isplitl [Hi]; · iexact Hi
  iexact Hd

/-- Once all units are awaited the block has landed. -/
theorem land (c : Dev nD) (s : Fin 2) (tk : Fin 512 → Fin 147456) (hc : S147456x1024.Idx → Elt F .f32) :
    (Flying c s tk hc (NN * 512) : sProp (MM F)) ⊢ |={Set.univ}=> Landed c s tk hc := by
  unfold Flying Landed
  iintro ⟨HB, Hi, Hd⟩
  imod (Transfers.batch_collect' (countersEmb (U := Pipeline.UD sig nD τ)) (c : Thread nD τ) NN_pos) $$ HB with ⟨HD, Hs⟩
  imodintro
  ihave HD' := (show bigSep Finset.univ (deliv c s tk hc)
      ⊢ iprop(bigSep Finset.univ (fun r : Fin 512 => (scL c ↦[rowSet s r]{fullShare} gath tk hc : sProp (MM F)))
        ∗ bigSep Finset.univ (fun r : Fin 512 => (hL c ↦[hrowSet (tk r)]{Transfers.shareTok (hs s) 512 r} hc : sProp (MM F))))
    from Entails.of_eq (BI.bigSep_sep _ _ _)) $$ HD
  icases HD' with ⟨Hr, Ht⟩
  isplitl [Hr]
  · iapply (Entails.of_eq (Ring.pointsTo_sub_blocks (ℓ := scL c) (rowSet s) (rowSet_disjoint s) (slabSet s) rfl (gath tk hc)).symm) $$ Hr
  isplitl [Hs]; · iexact Hs
  iapply (Transfers.pointsTo_toks_join (hs s) 512)
  isplitl [Hd]; · iexact Hd
  iapply (show iprop(bigSep Finset.univ (fun r : Fin 512 => (hL c ↦[hrowSet (tk r)]{Transfers.shareTok (hs s) 512 r} hc : sProp (MM F)))
      ∗ bigSep Finset.univ (fun r : Fin 512 => (hL c ↦[Finset.univ \ hrowSet (tk r)]{Transfers.shareTok (hs s) 512 r} hc : sProp (MM F))))
      ⊢ bigSep Finset.univ (fun r : Fin 512 => (hL c ↦{Transfers.shareTok (hs s) 512 r} hc : sProp (MM F)))
    from (Entails.of_eq (BI.bigSep_sep _ _ _).symm).trans (BI.bigSep_mono fun r _ => (pointsTo_split_subset (Finset.subset_univ _)).2))
  isplitl [Ht] <;> iassumption

/-! ## One copy started, one awaited -/

theorem ret_bind' {E : Type → Type} {α β : Type} (a : α) (k : α → Prog E β) : (Prog.ret a).bind k = k a := rfl

/-- One start, at the head of a program: copy `j` goes from pending to issued. -/
theorem wp_start {α : Type} (c : Dev nD) (s : Fin 2) (tk : Fin 512 → Fin 147456) (hc : S147456x1024.Idx → Elt F .f32) (j : ℕ) (hj : j < 512)
    {src : Memref sig .tc .hbm S1x1024 .f32} {dst : Memref sig .tc .vmem S1x1024 .f32} {sem : DmaSem sig}
    (hsrc : src = hrow (tk ⟨j, hj⟩)) (hdst : dst = row s ⟨j, hj⟩) (hsem : sem = cell s)
    {h1 : src.view.WordExact} {h2 : dst.view.WordExact} {h3 : DmaTarget.Typed (nD := nD) .hbm (SemLoc.dma sem) (.here dst : DmaTarget nD τ sig .tc .vmem S1x1024 .f32)}
    {k : PUnit → Prog (TpuEff nD τ sig (Elt F) Λ₀ .tc) α} {Q : α → sProp (MM F)} :
    (Started c s tk hc j : sProp (MM F))
      ⊢ iprop((Started c s tk hc (j + 1) -∗ wp frame (wpE (defs₀ (F := F)) Variants.none (c : Thread nD τ) none) Set.univ (k ⟨⟩) Q)
          -∗ wp frame (wpE (defs₀ (F := F)) Variants.none (c : Thread nD τ) none) Set.univ (.op (.enqueueDma src (.here dst) (.dma sem) h1 h2 h3) k) Q) := by
  subst hsrc hdst hsem
  unfold Started
  rw [Transfers.bigSep_pending_step _ j hj, Transfers.issued_succ hj, BI.bigSep_insert (Transfers.not_mem_issued hj)]
  change iprop(_ ∗ (_ ∗ _) ∗ _ ∗ _) ⊢ iprop((iprop(_ ∗ _ ∗ iprop(_ ∗ _) ∗ _) -∗ _) -∗ _)
  iintro ⟨HB, ⟨⟨⟨%fd, Hd⟩, Ht⟩, Hp⟩, Hi, Hr⟩ Hk
  ihave Hsp := (pointsTo_split_subset (Finset.subset_univ (hrowSet (tk ⟨j, hj⟩)))).1 $$ Ht
  icases Hsp with ⟨Hsrc, Hrest⟩
  iapply (Transfers.wp_dmaBatch (countersEmb (U := Pipeline.UD sig nD τ)) Variants.none (c : Thread nD τ) none
    (src := hrow (tk ⟨j, hj⟩)) (dst := row s ⟨j, hj⟩) (Sd := rowSet s ⟨j, hj⟩) (fd := fd) (fs := hc) () NN rfl subset_rfl (D := deliv c s tk hc) (j := j) (u := 0) hj (Nat.zero_le _)
    (sep_mono (Entails.of_eq (pointsTo_congr (ℓ := scL c) (q := fullShare) (write_row s ⟨j, hj⟩ tk hc fd))) .rfl)) $$ [Hsrc Hd HB]
  · isplitl [Hsrc]; · iexact Hsrc
    isplitl [Hd]; · iexact Hd
    iexact HB
  iintro HB
  iapply Hk
  isplitl [HB]; · iexact HB
  isplitl [Hp]; · iexact Hp
  isplitl [Hrest Hi]
  · isplitl [Hrest]; · iexact Hrest
    iexact Hi
  iexact Hr

/-- One wait, at the head of a program: one more row's units consumed. -/
theorem wp_await {α : Type} (c : Dev nD) (s : Fin 2) (tk : Fin 512 → Fin 147456) (hc : S147456x1024.Idx → Elt F .f32) (j : ℕ) (hj : j < 512)
    {src : Memref sig .tc .hbm S1x1024 .f32} {dst : Memref sig .tc .vmem S1x1024 .f32} {sem : DmaSem sig}
    (hdst : dst = row s ⟨j, hj⟩) (hsem : sem = cell s) {h1 : src.view.WordExact} {h2 : dst.view.WordExact}
    {k : PUnit → Prog (TpuEff nD τ sig (Elt F) Λ₀ .tc) α} {Q : α → sProp (MM F)} {W : Waits sig Unit} :
    iprop(Flying c s tk hc (NN * j) ∗ owes (c : Thread nD τ) 0 W)
      ⊢ iprop(((∃ W', Flying c s tk hc (NN * (j + 1)) ∗ owes (c : Thread nD τ) 0 W') -∗ wp frame (wpE (defs₀ (F := F)) Variants.none (c : Thread nD τ) none) Set.univ (k ⟨⟩) Q)
          -∗ wp frame (wpE (defs₀ (F := F)) Variants.none (c : Thread nD τ) none) Set.univ (.op (.waitDma2 sem src dst h1 h2) k) Q) := by
  subst hdst hsem
  unfold Flying
  iintro ⟨⟨HB, Hi, Hd⟩, HO⟩ Hk
  iapply (Transfers.wp_waitBatchMul (countersEmb (U := Pipeline.UD sig nD τ)) Variants.none (c : Thread nD τ) none () (N := NN) 1
    (by rw [row_credit, Nat.one_mul]) (D := deliv c s tk hc) (j := 512) (u := NN * j)
    (by rw [Nat.one_mul, ← Nat.mul_succ]; exact Nat.mul_le_mul_left _ hj)) $$ [HB HO]
  · isplitl [HB]; · iexact HB
    iexact HO
  iintro ⟨HB, HO⟩
  iapply Hk
  iexists _
  rw [Nat.one_mul, ← Nat.mul_succ]
  isplitr [HO]
  · isplitl [HB]; · iexact HB
    isplitl [Hi]; · iexact Hi
    iexact Hd
  iexact HO

end Cert.Cmb.Hand

end
-- ==== Proof.CmbWords.lean ====
/-
The words the combining kernel computes: the offsets its copies and waits name, the branches it takes at a
grid point, and the memrefs and semaphores those offsets select, each in plain numbers.
-/
module

public import proofs.«01_k».proof.Proof.CmbRows

@[expose] public section

set_option maxRecDepth 16384

noncomputable section

namespace Cert.Cmb.Hand

open Cert.Cmb Cert.Cmb.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The counted loops' offsets -/

theorem trips1 : k0_t1_loop.trips = 256 := by decide
theorem trips2 : k0_t2_loop.trips = 256 := by decide
theorem trips3 : k0_t3_loop.trips = 256 := by decide
theorem trips4 : k0_t4_loop.trips = 512 := by decide

/-- The word `2k + b` as the issuing loops compute it. -/
theorem pair_word (k b : ℕ) (hk : k < 256) (hb : b < 2) :
    (Scalar.addi (Scalar.muli 2#32 (Scf.iv 0#32 1#32 k)) (BitVec.ofNat 32 b)).toNat = 2 * k + b := by
  show (2#32 * (0#32 + BitVec.ofNat 32 k * 1#32) + BitVec.ofNat 32 b).toNat = _
  simp only [BitVec.toNat_add, BitVec.toNat_mul, BitVec.toNat_ofNat]
  omega

theorem iv_word (k : ℕ) (hk : k < 512) : (Scf.iv 0#32 1#32 k : BitVec 32).toNat = k := by
  show (0#32 + BitVec.ofNat 32 k * 1#32).toNat = _
  simp only [BitVec.toNat_add, BitVec.toNat_mul, BitVec.toNat_ofNat]
  omega

theorem off1_eq (k : Fin k0_t1_loop.trips) : k0_off1 k = ![0, 0, 2 * k.val + 0] :=
  congrArg (fun n : ℕ => (![0, 0, n] : Fin 3 → ℕ)) (pair_word k.val 0 (trips1 ▸ k.isLt) (by omega))
theorem off4_eq (k : Fin k0_t1_loop.trips) : k0_off4 k = ![0, 0, 2 * k.val + 1] :=
  congrArg (fun n : ℕ => (![0, 0, n] : Fin 3 → ℕ)) (pair_word k.val 1 (trips1 ▸ k.isLt) (by omega))
theorem off2_eq (k : Fin k0_t1_loop.trips) : k0_off2 k = ![2 * k.val + 0, 0] :=
  congrArg (fun n : ℕ => (![n, 0] : Fin 2 → ℕ)) (pair_word k.val 0 (trips1 ▸ k.isLt) (by omega))
theorem off5_eq (k : Fin k0_t1_loop.trips) : k0_off5 k = ![2 * k.val + 1, 0] :=
  congrArg (fun n : ℕ => (![n, 0] : Fin 2 → ℕ)) (pair_word k.val 1 (trips1 ▸ k.isLt) (by omega))
theorem off7_eq (k : Fin k0_t2_loop.trips) : k0_off7 k = ![0, 0, 2 * k.val + 0] :=
  congrArg (fun n : ℕ => (![0, 0, n] : Fin 3 → ℕ)) (pair_word k.val 0 (trips2 ▸ k.isLt) (by omega))
theorem off10_eq (k : Fin k0_t2_loop.trips) : k0_off10 k = ![0, 0, 2 * k.val + 1] :=
  congrArg (fun n : ℕ => (![0, 0, n] : Fin 3 → ℕ)) (pair_word k.val 1 (trips2 ▸ k.isLt) (by omega))
theorem off8_eq (k : Fin k0_t2_loop.trips) : k0_off8 k = ![2 * k.val + 0, 0] :=
  congrArg (fun n : ℕ => (![n, 0] : Fin 2 → ℕ)) (pair_word k.val 0 (trips2 ▸ k.isLt) (by omega))
theorem off11_eq (k : Fin k0_t2_loop.trips) : k0_off11 k = ![2 * k.val + 1, 0] :=
  congrArg (fun n : ℕ => (![n, 0] : Fin 2 → ℕ)) (pair_word k.val 1 (trips2 ▸ k.isLt) (by omega))
theorem off13_eq (k : Fin k0_t3_loop.trips) : k0_off13 k = ![0, 0, 2 * k.val + 0] :=
  congrArg (fun n : ℕ => (![0, 0, n] : Fin 3 → ℕ)) (pair_word k.val 0 (trips3 ▸ k.isLt) (by omega))
theorem off16_eq (k : Fin k0_t3_loop.trips) : k0_off16 k = ![0, 0, 2 * k.val + 1] :=
  congrArg (fun n : ℕ => (![0, 0, n] : Fin 3 → ℕ)) (pair_word k.val 1 (trips3 ▸ k.isLt) (by omega))
theorem off14_eq (k : Fin k0_t3_loop.trips) : k0_off14 k = ![2 * k.val + 0, 0] :=
  congrArg (fun n : ℕ => (![n, 0] : Fin 2 → ℕ)) (pair_word k.val 0 (trips3 ▸ k.isLt) (by omega))
theorem off17_eq (k : Fin k0_t3_loop.trips) : k0_off17 k = ![2 * k.val + 1, 0] :=
  congrArg (fun n : ℕ => (![n, 0] : Fin 2 → ℕ)) (pair_word k.val 1 (trips3 ▸ k.isLt) (by omega))
theorem off19_eq (k : Fin k0_t4_loop.trips) : k0_off19 k = ![0, 0, k.val] :=
  congrArg (fun n : ℕ => (![0, 0, n] : Fin 3 → ℕ)) (iv_word k.val (trips4 ▸ k.isLt))
theorem off22_eq (k : Fin k0_t4_loop.trips) : k0_off22 k = ![k.val, 0] :=
  congrArg (fun n : ℕ => (![n, 0] : Fin 2 → ℕ)) (iv_word k.val (trips4 ▸ k.isLt))

/-! ## The grid point's words -/

theorem pt_lt (i : grid0.Coords) : (i 0).val < 256 := (i 0).isLt

theorem pt_toNat (i : grid0.Coords) : (BitVec.ofNat 32 (i 0).val).toNat = (i 0).val := by
  have := pt_lt i
  rw [BitVec.toNat_ofNat]; omega

theorem pt_succ (i : grid0.Coords) : (Scalar.addi (BitVec.ofNat 32 (i 0).val) 1#32).toNat = (i 0).val + 1 := by
  have := pt_lt i
  show (BitVec.ofNat 32 (i 0).val + 1#32).toNat = _
  simp only [BitVec.toNat_add, BitVec.toNat_ofNat]; omega

theorem pt_half (i : grid0.Coords) : (Scalar.remsi (BitVec.ofNat 32 (i 0).val) 2#32).toNat = (i 0).val % 2 := by
  have := pt_lt i
  have h := IntOp.toNat_remsi .scalar (x := BitVec.ofNat 32 (i 0).val) (by rw [pt_toNat]; omega) 2 (by omega) (by omega)
  rw [pt_toNat] at h
  exact h

theorem off20_eq (i : grid0.Coords) : k0_off20 i = ![(i 0).val % 2] :=
  congrArg (fun n : ℕ => (![n] : Fin 1 → ℕ)) (pt_half i)
theorem off21_eq (i : grid0.Coords) : k0_off21 i = ![(i 0).val % 2, 0, 0] :=
  congrArg (fun n : ℕ => (![n, 0, 0] : Fin 3 → ℕ)) (pt_half i)
theorem off24_eq (i : grid0.Coords) : k0_off24 i = ![(i 0).val % 2, 0, 0] :=
  congrArg (fun n : ℕ => (![n, 0, 0] : Fin 3 → ℕ)) (pt_half i)

theorem off25_eq (i : grid0.Coords) : k0_off25 i = ![(i 0).val % 2, 128, 0] :=
  congrArg (fun n : ℕ => (![n, 128, 0] : Fin 3 → ℕ)) (pt_half i)
theorem off26_eq (i : grid0.Coords) : k0_off26 i = ![(i 0).val % 2, 256, 0] :=
  congrArg (fun n : ℕ => (![n, 256, 0] : Fin 3 → ℕ)) (pt_half i)
theorem off27_eq (i : grid0.Coords) : k0_off27 i = ![(i 0).val % 2, 384, 0] :=
  congrArg (fun n : ℕ => (![n, 384, 0] : Fin 3 → ℕ)) (pt_half i)

/-! ## The branches -/

/-- An `i1` widened and compared with zero is itself. -/
theorem ext_ne (b : BitVec 1) : Scalar.cmpi .ne (Scalar.extui b : BitVec 32) 0#32 = 1#1 ↔ b = 1#1 := by
  revert b; decide

theorem cond1_iff (i : grid0.Coords) : k0_cond1 i = 1#1 ↔ (i 0).val = 0 := by
  refine (ext_ne _).trans (IntOp.cmpi_eq.trans ?_)
  rw [← BitVec.toNat_inj, pt_toNat]; rfl

theorem lt_words {a n : BitVec 32} (ha : a.toNat < 2 ^ 31) (hn : n.toNat < 2 ^ 31) :
    Scalar.cmpi .slt a n = 1#1 ↔ a.toNat < n.toNat := by
  refine IntOp.cmpi_slt.trans ?_
  rw [BitVec.toInt_eq_toNat_of_lt (by omega), BitVec.toInt_eq_toNat_of_lt (by omega)]; omega

theorem next_half (i : grid0.Coords) (b : ℕ) (hb : b < 2) :
    Scalar.cmpi .eq (Scalar.remsi (Scalar.addi (BitVec.ofNat 32 (i 0).val) 1#32) 2#32) (BitVec.ofNat 32 b) = 1#1 ↔ ((i 0).val + 1) % 2 = b := by
  have := pt_lt i
  have h := IntOp.toNat_remsi .scalar (x := Scalar.addi (BitVec.ofNat 32 (i 0).val) 1#32) (by rw [pt_succ]; omega) 2 (by omega) (by omega)
  rw [pt_succ] at h
  refine IntOp.cmpi_eq.trans ?_
  rw [← BitVec.toNat_inj]
  have hb' : (BitVec.ofNat 32 b).toNat = b := by rw [BitVec.toNat_ofNat]; omega
  rw [hb']
  exact ⟨fun e => h.symm.trans e, fun e => h.trans e⟩

theorem cond2_iff (i : grid0.Coords) :
    k0_cond2 i = 1#1 ↔ (i 0).val + 1 < 256 ∧ ((i 0).val + 1) % 2 = 0 := by
  have := pt_lt i
  refine (ext_ne _).trans (IntOp.andi_eq_one.trans (and_congr ?_ (next_half i 0 (by omega))))
  refine (lt_words (by rw [pt_succ]; omega) (by decide)).trans ?_
  rw [pt_succ]; rfl

theorem cond3_iff (i : grid0.Coords) :
    k0_cond3 i = 1#1 ↔ (i 0).val + 1 < 256 ∧ ((i 0).val + 1) % 2 = 1 := by
  have := pt_lt i
  refine (ext_ne _).trans (IntOp.andi_eq_one.trans (and_congr ?_ (next_half i 1 (by omega))))
  refine (lt_words (by rw [pt_succ]; omega) (by decide)).trans ?_
  rw [pt_succ]; rfl

/-! ## What the offsets select -/

/-- The slot a word names. -/
def tkOf (x : S1x1x512.Idx → BitVec 32) (r : Fin 512) : Fin 147456 := Fin.ofNat 147456 (x (ix3 0 0 r)).toNat

theorem tkOf_val (x : S1x1x512.Idx → BitVec 32) (hx : ∀ r : Fin 512, (x (ix3 0 0 r)).toNat < 147456) (r : Fin 512) :
    (tkOf x r).val = (x (ix3 0 0 r)).toNat := Nat.mod_eq_of_lt (hx r)

theorem hrow_of_off (t : Fin 147456) {off : Fin 2 → ℕ} (h : off = ![t.val, 0]) (hi : ∀ a, off a + S1x1024.size a ≤ S147456x1024.size a) :
    hbM0_0.slice (Rect.unit (s := S147456x1024) off S1x1024.size hi) (fun _ => rfl) = hrow t := by
  subst h; rfl

theorem row_of_off (s : Fin 2) (r : Fin 512) {off : Fin 3 → ℕ} {off' : Fin 2 → ℕ} (h : off = ![s.val, 0, 0]) (h' : off' = ![r.val, 0])
    (hi : ∀ a, off a + S1x512x1024.size a ≤ S2x512x1024.size a) (hi' : ∀ a, off' a + S1x1024.size a ≤ S512x1024.size a) :
    ((scM0_0.slice (Rect.unit (s := S2x512x1024) off S1x512x1024.size hi) (fun _ => rfl)).squeeze S512x1024 squeezes_S1x512x1024_S512x1024).slice
      (Rect.unit (s := S512x1024) off' S1x1024.size hi') (fun _ => rfl) = row s r := by
  subst h h'; rfl

theorem sem_of_off (s : Fin 2) {off : Fin 1 → ℕ} (h : off = ![s.val]) (hi : ∀ a, off a + S1.size a ≤ S2.size a) :
    ((cc0_scratch1.slice (Rect.unit (s := S2) off S1.size hi)).squeeze S_ squeezes_S1_S_).sem = cell s := by
  subst h
  have key : ∀ z : (Rect.unit (s := S2) ![s.val] S1.size hi).shape.Idx, cc0_scratch1.ix ((Rect.unit (s := S2) ![s.val] S1.size hi).emb z) = cell s := by
    intro z
    have hz : (Rect.unit (s := S2) ![s.val] S1.size hi).emb z = (ix1 s : S2.Idx) := by
      have h0 : (z 0).val < 1 := (z 0).isLt
      funext a; apply Fin.ext
      fin_cases a
      show s.val + 1 * (z 0).val = s.val; omega
    refine (congrArg cc0_scratch1.ix hz).trans ?_
    apply Fin.ext
    show 14 + (S2.rowMajor (ix1 s : S2.Idx)).val = (cell s).val
    rw [show (S2.rowMajor (ix1 s : S2.Idx)).val = s.val from Shape.rowMajor_val_one _]
    revert s; decide
  exact key _

/-- A row of 1024 at an offset below 147456 lies in the experts' rows. -/
theorem row_fits {n : ℕ} (h : n < 147456) : ∀ a, (![n, 0] : Fin 2 → ℕ) a + S1x1024.size a ≤ S147456x1024.size a :=
  hrow_inb ⟨n, h⟩

/-- The one index of the unit rectangle at `![0, 0, r]`. -/
theorem word_emb (r : Fin 512) {off : Fin 3 → ℕ} (h : off = ![0, 0, r.val]) (hi : ∀ a, off a + S1x1x1.size a ≤ S1x1x512.size a)
    (z : (Rect.unit (s := S1x1x512) off S1x1x1.size hi).shape.Idx) :
    (Rect.unit (s := S1x1x512) off S1x1x1.size hi).emb z = (ix3 0 0 r : S1x1x512.Idx) := by
  subst h
  have h2 : (z 2).val = 0 := by have h : (z 2).val < 1 := (z 2).isLt; omega
  funext a; apply Fin.ext
  fin_cases a
  · have h : (z 0).val < 1 := (z 0).isLt
    show 0 + 1 * (z 0).val = 0; omega
  · have h : (z 1).val < 1 := (z 1).isLt
    show 0 + 1 * (z 1).val = 0; omega
  · show r.val + 1 * (z 2).val = r.val; omega

end Cert.Cmb.Hand

end
-- ==== Proof.CmbLoops.lean ====
/-
The combining kernel's counted loops, one trip each: the three that start a block's row copies, two a trip,
and the one that awaits them.
-/
module

public import proofs.«01_k».proof.Proof.CmbWords

@[expose] public section

set_option maxRecDepth 16384

noncomputable section

namespace Cert.Cmb.Hand

open Cert.Cmb Cert.Cmb.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## Loads of owned memrefs -/

/-- A load of a rectangle of an owned memref reads its contents there. -/
theorem wp_load_owns {α : Type} {cs : CoreSpace} {S : Shape} {e : EltTy} (c : Dev nD) (M : Memref sig .tc cs S e) (q : PosShare TreeShare) (x : S.Idx → Elt F e)
    (r : Rect S) {hl : M.view.LoadsAt r.toLoadRect} {k : (r.shape.Idx → Elt F e) → Prog (TpuEff nD τ sig (Elt F) Λ₀ .tc) α} {Q : α → sProp (MM F)} :
    (owns (c : Thread nD τ) M q x : sProp (MM F))
      ⊢ iprop((owns (c : Thread nD τ) M q x -∗ wp frame (wpE (defs₀ (F := F)) Variants.none (c : Thread nD τ) none) Set.univ (k fun z => x (r.emb z)) Q)
          -∗ wp frame (wpE (defs₀ (F := F)) Variants.none (c : Thread nD τ) none) Set.univ (.op (.load M r.toLoadRect hl) k) Q) := by
  unfold owns
  iintro ⟨%f, %hf, H⟩ Hk
  subst hf
  iapply (wp_load_rect Variants.none (c : Thread nD τ) none Set.univ (m := M) (r := r) (View.set_slice_subset _ r)) $$ H
  iintro H
  iapply Hk
  iexists f
  isplitr; · ipureintro; rfl
  iexact H

/-- A word loaded from an owned window of words. -/
theorem wp_word {α : Type} (c : Dev nD) (M : Memref sig .tc .smem S1x1x512 .i32) (q : PosShare TreeShare) (x : Vec F S1x1x512 .i32) (r : Fin 512)
    {off : Fin 3 → ℕ} (h : off = ![0, 0, r.val]) {hi : ∀ a, off a + S1x1x1.size a ≤ S1x1x512.size a} {h1 : (Rect.unit (s := S1x1x512) off S1x1x1.size hi).shape.numel = 1}
    {hp : EltTy.i32.packing = 1}
    {k : Elt F .i32 → Prog (TpuEff nD τ sig (Elt F) Λ₀ .tc) α} {Q : α → sProp (MM F)} :
    (owns (c : Thread nD τ) M q x : sProp (MM F))
      ⊢ iprop((owns (c : Thread nD τ) M q x -∗ wp frame (wpE (defs₀ (F := F)) Variants.none (c : Thread nD τ) none) Set.univ (k (x (ix3 0 0 r))) Q)
          -∗ wp frame (wpE (defs₀ (F := F)) Variants.none (c : Thread nD τ) none) Set.univ (smemLoad M (Rect.unit (s := S1x1x512) off S1x1x1.size hi) h1 hp >>= k) Q) := by
  have e : ∀ z, x ((Rect.unit (s := S1x1x512) off S1x1x1.size hi).emb z) = x (ix3 0 0 r) := fun z => congrArg x (word_emb r h hi z)
  rw [← e (Shape.Idx.first (h1.symm ▸ Nat.one_pos))]
  exact wp_load_owns c M q x (Rect.unit (s := S1x1x512) off S1x1x1.size hi)
    (k := fun f => (Prog.ret (f (Shape.Idx.first (h1.symm ▸ Nat.one_pos)))).bind k)

section Trips

variable (c : Dev nD) (i : grid0.Coords) (arg1 : Memref sig .tc .smem S1x1x512 .i32) (harg1 : arg1.IsWhole) (arg2 : Memref sig .tc .smem S1x1x512 .i32) (harg2 : arg2.IsWhole) (arg4 : Memref sig .tc .vmem S128x1024 .f32) (harg4 : arg4.IsWhole) (arg5 : Memref sig .tc .vmem S128x128 .f32) (harg5 : arg5.IsWhole) (arg6 : Memref sig .tc .vmem S128x256 .f32) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S128x1024 .f32) (harg9 : arg9.IsWhole)
variable (x : Vec F S1x1x512 .i32) (hx : ∀ r : Fin 512, (x (ix3 0 0 r) : BitVec 32).toNat < 147456) (hc : S147456x1024.Idx → Elt F .f32)

include hx

/-! ## Starting a block's copies -/

/-- A trip of loop 1 starts two rows' copies into half 0. -/
theorem issue1 (h1 : k0_cond1 i = 1#1) (k : Fin k0_t1_loop.trips) (acc : Unit) :
    (iprop(owns (c : Thread nD τ) arg1 fullShare x ∗ Started c 0 (tkOf x) hc (2 * k.val)) : sProp (MM F))
      ⊢ wp frame (wpE (defs₀ (F := F)) Variants.none (c : Thread nD τ) none) Set.univ (k0_t1_body i arg1 harg1 arg2 harg2 (Memref.whole main_arg1) (Memref.isWhole_whole _) arg4 harg4 arg5 harg5 arg6 harg6 arg7 harg7 arg8 harg8 arg9 harg9 scM0_0 (Memref.isWhole_whole _) cc0_scratch1 h1 k acc)
          (fun _ => iprop(owns (c : Thread nD τ) arg1 fullShare x ∗ Started c 0 (tkOf x) hc (2 * (k.val + 1)))) := by
  have hk : k.val < 256 := trips1 ▸ k.isLt
  have hw : ∀ r : Fin 512, (![(x (ix3 0 0 r) : BitVec 32).toNat, 0] : Fin 2 → ℕ) = ![(tkOf x r).val, 0] := fun r => by rw [tkOf_val x hx r]
  unfold k0_t1_body
  iintro ⟨Hx, HS⟩
  iapply (wp_word c arg1 fullShare x ⟨2 * k.val, by omega⟩ (off1_eq k)) $$ Hx
  iintro Hx
  iapply (wp_assume Variants.none (c : Thread nD τ) none Set.univ (fun _ => row_fits (hx ⟨2 * k.val, by omega⟩)))
  iapply (wp_start c 0 (tkOf x) hc (2 * k.val) (by omega) (hrow_of_off _ (hw _) _) (row_of_off 0 ⟨2 * k.val, by omega⟩ rfl (off2_eq k) _ _) (sem_of_off 0 rfl _)) $$ HS
  iintro HS
  simp only [ret_bind']
  iapply (wp_word c arg1 fullShare x ⟨2 * k.val + 1, by omega⟩ (off4_eq k)) $$ Hx
  iintro Hx
  iapply (wp_assume Variants.none (c : Thread nD τ) none Set.univ (fun _ => row_fits (hx ⟨2 * k.val + 1, by omega⟩)))
  iapply (wp_start c 0 (tkOf x) hc (2 * k.val + 1) (by omega) (hrow_of_off _ (hw _) _) (row_of_off 0 ⟨2 * k.val + 1, by omega⟩ rfl (off5_eq k) _ _) (sem_of_off 0 rfl _)) $$ HS
  iintro HS
  simp only [ret_bind', wp_pure]
  imodintro
  isplitl [Hx]; · iexact Hx
  iexact HS

/-- A trip of loop 2 starts two rows' copies into half 0. -/
theorem issue2 (h1 : k0_cond2 i = 1#1) (k : Fin k0_t2_loop.trips) (acc : Unit) :
    (iprop(owns (c : Thread nD τ) arg2 fullShare x ∗ Started c 0 (tkOf x) hc (2 * k.val)) : sProp (MM F))
      ⊢ wp frame (wpE (defs₀ (F := F)) Variants.none (c : Thread nD τ) none) Set.univ (k0_t2_body i arg1 harg1 arg2 harg2 (Memref.whole main_arg1) (Memref.isWhole_whole _) arg4 harg4 arg5 harg5 arg6 harg6 arg7 harg7 arg8 harg8 arg9 harg9 scM0_0 (Memref.isWhole_whole _) cc0_scratch1 h1 k acc)
          (fun _ => iprop(owns (c : Thread nD τ) arg2 fullShare x ∗ Started c 0 (tkOf x) hc (2 * (k.val + 1)))) := by
  have hk : k.val < 256 := trips2 ▸ k.isLt
  have hw : ∀ r : Fin 512, (![(x (ix3 0 0 r) : BitVec 32).toNat, 0] : Fin 2 → ℕ) = ![(tkOf x r).val, 0] := fun r => by rw [tkOf_val x hx r]
  unfold k0_t2_body
  iintro ⟨Hx, HS⟩
  iapply (wp_word c arg2 fullShare x ⟨2 * k.val, by omega⟩ (off7_eq k)) $$ Hx
  iintro Hx
  iapply (wp_assume Variants.none (c : Thread nD τ) none Set.univ (fun _ => row_fits (hx ⟨2 * k.val, by omega⟩)))
  iapply (wp_start c 0 (tkOf x) hc (2 * k.val) (by omega) (hrow_of_off _ (hw _) _) (row_of_off 0 ⟨2 * k.val, by omega⟩ rfl (off8_eq k) _ _) (sem_of_off 0 rfl _)) $$ HS
  iintro HS
  simp only [ret_bind']
  iapply (wp_word c arg2 fullShare x ⟨2 * k.val + 1, by omega⟩ (off10_eq k)) $$ Hx
  iintro Hx
  iapply (wp_assume Variants.none (c : Thread nD τ) none Set.univ (fun _ => row_fits (hx ⟨2 * k.val + 1, by omega⟩)))
  iapply (wp_start c 0 (tkOf x) hc (2 * k.val + 1) (by omega) (hrow_of_off _ (hw _) _) (row_of_off 0 ⟨2 * k.val + 1, by omega⟩ rfl (off11_eq k) _ _) (sem_of_off 0 rfl _)) $$ HS
  iintro HS
  simp only [ret_bind', wp_pure]
  imodintro
  isplitl [Hx]; · iexact Hx
  iexact HS

/-- A trip of loop 3 starts two rows' copies into half 1. -/
theorem issue3 (h1 : k0_cond3 i = 1#1) (k : Fin k0_t3_loop.trips) (acc : Unit) :
    (iprop(owns (c : Thread nD τ) arg2 fullShare x ∗ Started c 1 (tkOf x) hc (2 * k.val)) : sProp (MM F))
      ⊢ wp frame (wpE (defs₀ (F := F)) Variants.none (c : Thread nD τ) none) Set.univ (k0_t3_body i arg1 harg1 arg2 harg2 (Memref.whole main_arg1) (Memref.isWhole_whole _) arg4 harg4 arg5 harg5 arg6 harg6 arg7 harg7 arg8 harg8 arg9 harg9 scM0_0 (Memref.isWhole_whole _) cc0_scratch1 h1 k acc)
          (fun _ => iprop(owns (c : Thread nD τ) arg2 fullShare x ∗ Started c 1 (tkOf x) hc (2 * (k.val + 1)))) := by
  have hk : k.val < 256 := trips3 ▸ k.isLt
  have hw : ∀ r : Fin 512, (![(x (ix3 0 0 r) : BitVec 32).toNat, 0] : Fin 2 → ℕ) = ![(tkOf x r).val, 0] := fun r => by rw [tkOf_val x hx r]
  unfold k0_t3_body
  iintro ⟨Hx, HS⟩
  iapply (wp_word c arg2 fullShare x ⟨2 * k.val, by omega⟩ (off13_eq k)) $$ Hx
  iintro Hx
  iapply (wp_assume Variants.none (c : Thread nD τ) none Set.univ (fun _ => row_fits (hx ⟨2 * k.val, by omega⟩)))
  iapply (wp_start c 1 (tkOf x) hc (2 * k.val) (by omega) (hrow_of_off _ (hw _) _) (row_of_off 1 ⟨2 * k.val, by omega⟩ rfl (off14_eq k) _ _) (sem_of_off 1 rfl _)) $$ HS
  iintro HS
  simp only [ret_bind']
  iapply (wp_word c arg2 fullShare x ⟨2 * k.val + 1, by omega⟩ (off16_eq k)) $$ Hx
  iintro Hx
  iapply (wp_assume Variants.none (c : Thread nD τ) none Set.univ (fun _ => row_fits (hx ⟨2 * k.val + 1, by omega⟩)))
  iapply (wp_start c 1 (tkOf x) hc (2 * k.val + 1) (by omega) (hrow_of_off _ (hw _) _) (row_of_off 1 ⟨2 * k.val + 1, by omega⟩ rfl (off17_eq k) _ _) (sem_of_off 1 rfl _)) $$ HS
  iintro HS
  simp only [ret_bind', wp_pure]
  imodintro
  isplitl [Hx]; · iexact Hx
  iexact HS

/-! ## Awaiting a block's copies -/

/-- A trip of loop 4 awaits one row. -/
theorem await4 (s : Fin 2) (hs : s.val = (i 0).val % 2) (k : Fin k0_t4_loop.trips) (acc : Unit) :
    (iprop(owns (c : Thread nD τ) arg1 fullShare x ∗ ∃ W, Flying c s (tkOf x) hc (NN * k.val) ∗ owes (c : Thread nD τ) 0 W) : sProp (MM F))
      ⊢ wp frame (wpE (defs₀ (F := F)) Variants.none (c : Thread nD τ) none) Set.univ (k0_t4_body i arg1 harg1 arg2 harg2 (Memref.whole main_arg1) (Memref.isWhole_whole _) arg4 harg4 arg5 harg5 arg6 harg6 arg7 harg7 arg8 harg8 arg9 harg9 scM0_0 (Memref.isWhole_whole _) cc0_scratch1 k acc)
          (fun _ => iprop(owns (c : Thread nD τ) arg1 fullShare x ∗ ∃ W, Flying c s (tkOf x) hc (NN * (k.val + 1)) ∗ owes (c : Thread nD τ) 0 W)) := by
  have hk : k.val < 512 := trips4 ▸ k.isLt
  unfold k0_t4_body
  iintro ⟨Hx, %W, HS, HO⟩
  iapply (wp_word c arg1 fullShare x ⟨k.val, hk⟩ (off19_eq k)) $$ Hx
  iintro Hx
  iapply (wp_assume Variants.none (c : Thread nD τ) none Set.univ (row_fits (hx ⟨k.val, hk⟩)))
  iapply (wp_await c s (tkOf x) hc k.val hk (row_of_off s ⟨k.val, hk⟩ (by rw [hs]; exact off21_eq i) (off22_eq k) _ _) (sem_of_off s (by rw [hs]; exact off20_eq i) _)) $$ [HS HO]
  · isplitl [HS]; · iexact HS
    iexact HO
  iintro H
  simp only [ret_bind', wp_pure]
  imodintro
  isplitl [Hx]; · iexact Hx
  iexact H

end Trips

end Cert.Cmb.Hand

end
-- ==== Proof.CmbBody.lean ====
/-
The combining kernel's body at one grid point: the block's rows are in flight when it is entered (or it starts them,
at the first point), it starts the next block's into the other half of the scratch, awaits its own, and stores the
block's output.
-/
module

public import proofs.«01_k».proof.Proof.CmbLoops

@[expose] public section

set_option maxRecDepth 16384

noncomputable section

namespace Cert.Cmb.Hand

open Cert.Cmb Cert.Cmb.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## Whole loads and stores, and the load of a landed half -/

theorem emb_full {S : Shape} {off : Fin S.rank → ℕ} (h : ∀ a, off a = 0) (hi : ∀ a, off a + S.size a ≤ S.size a) (z : S.Idx) :
    (Rect.unit off S.size hi).emb z = z := by
  funext a; apply Fin.ext
  show off a + 1 * (z a).val = (z a).val
  rw [h]; omega

theorem wp_load_full {α : Type} {cs : CoreSpace} {S : Shape} {e : EltTy} (c : Dev nD) (M : Memref sig .tc cs S e) (q : PosShare TreeShare) (x : S.Idx → Elt F e)
    {off : Fin S.rank → ℕ} (h : ∀ a, off a = 0) {hi : ∀ a, off a + S.size a ≤ S.size a} {hl : M.view.LoadsAt (Rect.unit off S.size hi).toLoadRect}
    {k : (S.Idx → Elt F e) → Prog (TpuEff nD τ sig (Elt F) Λ₀ .tc) α} {Q : α → sProp (MM F)} :
    (owns (c : Thread nD τ) M q x : sProp (MM F))
      ⊢ iprop((owns (c : Thread nD τ) M q x -∗ wp frame (wpE (defs₀ (F := F)) Variants.none (c : Thread nD τ) none) Set.univ (k x) Q) -∗ wp frame (wpE (defs₀ (F := F)) Variants.none (c : Thread nD τ) none) Set.univ (.op (.load M (Rect.unit off S.size hi).toLoadRect hl) k) Q) :=
  (wp_load_owns c M q x (Rect.unit off S.size hi) (k := k)).trans (Entails.of_eq
    (congrArg (fun v : S.Idx → Elt F e => iprop((owns (c : Thread nD τ) M q x -∗ wp frame (wpE (defs₀ (F := F)) Variants.none (c : Thread nD τ) none) Set.univ (k v) Q)
      -∗ wp frame (wpE (defs₀ (F := F)) Variants.none (c : Thread nD τ) none) Set.univ (.op (.load M (Rect.unit off S.size hi).toLoadRect hl) k) Q))
      (funext fun z => congrArg x (emb_full h hi z))))

theorem wp_store_full {α : Type} {cs : CoreSpace} {S : Shape} {e : EltTy} (c : Dev nD) (M : Memref sig .tc cs S e) (x w : S.Idx → Elt F e)
    {off : Fin S.rank → ℕ} (h : ∀ a, off a = 0) {hi : ∀ a, off a + S.size a ≤ S.size a} {hx : (M.access (Rect.unit off S.size hi)).Stores Finset.univ}
    {hm : (Finset.univ : Finset (Rect.unit off S.size hi).shape.Idx) = Finset.univ ∨ ∀ a, (Rect.unit off S.size hi).stride a = 1}
    {k : PUnit.{1} → Prog (TpuEff nD τ sig (Elt F) Λ₀ .tc) α} {Q : α → sProp (MM F)} :
    (owns (c : Thread nD τ) M fullShare x : sProp (MM F))
      ⊢ iprop((owns (c : Thread nD τ) M fullShare w -∗ wp frame (wpE (defs₀ (F := F)) Variants.none (c : Thread nD τ) none) Set.univ (k ⟨⟩) Q) -∗ wp frame (wpE (defs₀ (F := F)) Variants.none (c : Thread nD τ) none) Set.univ (.op (.store M (Rect.unit off S.size hi) w Finset.univ hx hm) k) Q) := by
  unfold owns
  iintro ⟨%f, %hf, H⟩ Hk
  iapply (wp_store Variants.none (c : Thread nD τ) none Set.univ (m := M) (r := Rect.unit off S.size hi) (View.set_slice_subset _ _)) $$ H
  iintro H
  iapply Hk
  iexists _
  isplitr; swap; · iexact H
  ipureintro
  funext y
  have h1 := View.read_slice_write_emb (v := M.view) (Val := Elt F) (Rect.unit off S.size hi) f w (Finset.mem_univ y)
  exact (congrArg _ (emb_full h hi y).symm).trans h1

/-- Quarter `k` of a block's gathered rows, as the body loads it. -/
def Xb (k : Fin 4) (tk : Fin 512 → Fin 147456) (hc : S147456x1024.Idx → Elt F .f32) : Vec F S1x128x1024 .f32 :=
  fun y => hc (ix2 (tk ⟨128 * k.val + (y 1).val, by have h : (y 1).val < 128 := (y 1).isLt; omega⟩) (y 2))

theorem slab_emb (s : Fin 2) (k : Fin 4) {off : Fin 3 → ℕ} (h : off = ![s.val, 128 * k.val, 0]) (hi : ∀ a, off a + S1x128x1024.size a ≤ S2x512x1024.size a) (z : S1x128x1024.Idx) :
    (Rect.unit (s := S2x512x1024) off S1x128x1024.size hi).emb z
      = (ix3 s (⟨128 * k.val + (z 1).val, by have h : (z 1).val < 128 := (z 1).isLt; omega⟩ : Fin 512) (z 2) : S2x512x1024.Idx) := by
  subst h
  have h0 : (z 0).val = 0 := by have h : (z 0).val < 1 := (z 0).isLt; omega
  funext a; apply Fin.ext
  fin_cases a
  · show s.val + 1 * (z 0).val = s.val; omega
  · show 128 * k.val + 1 * (z 1).val = 128 * k.val + (z 1).val; omega
  · show 0 + 1 * (z 2).val = (z 2).val; omega

theorem wp_load_slab {α : Type} (c : Dev nD) (s : Fin 2) (kq : Fin 4) (tk : Fin 512 → Fin 147456) (hc : S147456x1024.Idx → Elt F .f32)
    {off : Fin 3 → ℕ} (h : off = ![s.val, 128 * kq.val, 0]) {hi : ∀ a, off a + S1x128x1024.size a ≤ S2x512x1024.size a}
    {hl : scM0_0.view.LoadsAt (Rect.unit (s := S2x512x1024) off S1x128x1024.size hi).toLoadRect}
    {k : Vec F S1x128x1024 .f32 → Prog (TpuEff nD τ sig (Elt F) Λ₀ .tc) α} {Q : α → sProp (MM F)} :
    ((scL c ↦[slabSet s]{fullShare} gath tk hc) : sProp (MM F))
      ⊢ iprop(((scL c ↦[slabSet s]{fullShare} gath tk hc) -∗ wp frame (wpE (defs₀ (F := F)) Variants.none (c : Thread nD τ) none) Set.univ (k (Xb kq tk hc)) Q)
        -∗ wp frame (wpE (defs₀ (F := F)) Variants.none (c : Thread nD τ) none) Set.univ (.op (.load scM0_0 (Rect.unit (s := S2x512x1024) off S1x128x1024.size hi).toLoadRect hl) k) Q) := by
  have hS : (scM0_0.access (Rect.unit (s := S2x512x1024) off S1x128x1024.size hi)).set ⊆ slabSet s := by
    intro y hy
    obtain ⟨z, -, hz⟩ := Finset.mem_map.mp hy
    rw [mem_slabSet, ← hz]
    exact congrFun (slab_emb s kq h hi z) 0
  refine (wp_load_rect Variants.none (c : Thread nD τ) none Set.univ (k := k) hS).trans (Entails.of_eq
    (congrArg (fun v : Vec F S1x128x1024 .f32 => iprop(((scL c ↦[slabSet s]{fullShare} gath tk hc) -∗ wp frame (wpE (defs₀ (F := F)) Variants.none (c : Thread nD τ) none) Set.univ (k v) Q)
        -∗ wp frame (wpE (defs₀ (F := F)) Variants.none (c : Thread nD τ) none) Set.univ (.op (.load scM0_0 (Rect.unit (s := S2x512x1024) off S1x128x1024.size hi).toLoadRect hl) k) Q)) ?_))
  funext z
  exact congrArg (gath tk hc) (slab_emb s kq h hi z)

/-- Half `s` of the scratch: flying with the tokens `tk` if `p`, otherwise at rest. -/
def Half (c : Dev nD) (s : Fin 2) (p : Prop) [Decidable p] (tk : Fin 512 → Fin 147456) (hc : S147456x1024.Idx → Elt F .f32) : sProp (MM F) :=
  if p then Flying c s tk hc 0 else Idle c s hc

theorem half_pos (c : Dev nD) (s : Fin 2) {p : Prop} [Decidable p] (h : p) (tk : Fin 512 → Fin 147456) (hc : S147456x1024.Idx → Elt F .f32) :
    (Half c s p tk hc : sProp (MM F)) = Flying c s tk hc 0 := if_pos h
theorem half_neg (c : Dev nD) (s : Fin 2) {p : Prop} [Decidable p] (h : ¬ p) (tk : Fin 512 → Fin 147456) (hc : S147456x1024.Idx → Elt F .f32) :
    (Half c s p tk hc : sProp (MM F)) = Idle c s hc := if_neg h

section Body

variable (c : Dev nD) (i : grid0.Coords) (arg1 : Memref sig .tc .smem S1x1x512 .i32) (harg1 : arg1.IsWhole) (arg2 : Memref sig .tc .smem S1x1x512 .i32) (harg2 : arg2.IsWhole) (arg4 : Memref sig .tc .vmem S128x1024 .f32) (harg4 : arg4.IsWhole) (arg5 : Memref sig .tc .vmem S128x128 .f32) (harg5 : arg5.IsWhole) (arg6 : Memref sig .tc .vmem S128x256 .f32) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S128x1024 .f32) (harg9 : arg9.IsWhole)
variable {α : Type} (kk : PUnit.{1} → Prog (TpuEff nD τ sig (Elt F) Λ₀ .tc) α)

/-! ## The body, stage by stage -/

def st1 : Prog (TpuEff nD τ sig (Elt F) Λ₀ .tc) α :=
  if h : k0_cond1 i = 1#1 then (k0_t1_loop.for (k0_t1_ok i h) ⟨⟩ (k0_t1_body i arg1 harg1 arg2 harg2 (Memref.whole main_arg1) (Memref.isWhole_whole _) arg4 harg4 arg5 harg5 arg6 harg6 arg7 harg7 arg8 harg8 arg9 harg9 scM0_0 (Memref.isWhole_whole _) cc0_scratch1 h)) >>= fun _ => kk ⟨⟩ else kk ⟨⟩

def st2 : Prog (TpuEff nD τ sig (Elt F) Λ₀ .tc) α :=
  if h : k0_cond2 i = 1#1 then (k0_t2_loop.for (k0_t2_ok i h) ⟨⟩ (k0_t2_body i arg1 harg1 arg2 harg2 (Memref.whole main_arg1) (Memref.isWhole_whole _) arg4 harg4 arg5 harg5 arg6 harg6 arg7 harg7 arg8 harg8 arg9 harg9 scM0_0 (Memref.isWhole_whole _) cc0_scratch1 h)) >>= fun _ => kk ⟨⟩ else kk ⟨⟩

def st3 : Prog (TpuEff nD τ sig (Elt F) Λ₀ .tc) α :=
  if h : k0_cond3 i = 1#1 then (k0_t3_loop.for (k0_t3_ok i h) ⟨⟩ (k0_t3_body i arg1 harg1 arg2 harg2 (Memref.whole main_arg1) (Memref.isWhole_whole _) arg4 harg4 arg5 harg5 arg6 harg6 arg7 harg7 arg8 harg8 arg9 harg9 scM0_0 (Memref.isWhole_whole _) cc0_scratch1 h)) >>= fun _ => kk ⟨⟩ else kk ⟨⟩

/-- The wait loop and the first loads. -/
def st4 : Prog (TpuEff nD τ sig (Elt F) Λ₀ .tc) (Σ' (v0 : BitVec 32) (v18 : Vec F S128x128 .f32) (v26 : FVec F S128x1024 .f32) (v27 : FVec F S128x1 .f32), FVec F S128x1024 .f32) := do
  Scf.Loop.for k0_t4_loop k0_t4_ok ⟨⟩ (k0_t4_body i arg1 harg1 arg2 harg2 (Memref.whole main_arg1) (Memref.isWhole_whole _) arg4 harg4 arg5 harg5 arg6 harg6 arg7 harg7 arg8 harg8 arg9 harg9 scM0_0 (Memref.isWhole_whole _) cc0_scratch1)
  let v18 : Vec F S128x128 .f32 ← Prog.lift (.load arg5 (Rect.unit (s := S128x128) ![0, 0] S128x128.size inb_S128x128_S128x128_0_0).toLoadRect (View.loadsAt_vmem h_S128x128))
  let v19 : Vec F S128x1024 .f32 ← Prog.lift (.load arg4 (Rect.unit (s := S128x1024) ![0, 0] S128x1024.size inb_S128x1024_S128x1024_0_0).toLoadRect (View.loadsAt_vmem h_S128x1024))
  let v22 : Vec F S1x128x1024 .f32 ← Prog.lift (.load scM0_0 (Rect.unit (s := S2x512x1024) (k0_off24 i) S1x128x1024.size (k0_off24_inb i)).toLoadRect (View.loadsAt_vmem h_S1x128x1024))
  let v29 : Vec F S1x128x1024 .f32 ← Prog.lift (.load scM0_0 (Rect.unit (s := S2x512x1024) (k0_off25 i) S1x128x1024.size (k0_off25_inb i)).toLoadRect (View.loadsAt_vmem h_S1x128x1024))
  pure ⟨Scalar.remsi (BitVec.ofNat 32 (i 0).val) 2#32, v18, k0_pay2 v18 v19 v22, k0_pay3 v18, k0_pay4 v29⟩

/-- The remaining loads and the store. -/
def st5 (p : (Σ' (v0 : BitVec 32) (v18 : Vec F S128x128 .f32) (v26 : FVec F S128x1024 .f32) (v27 : FVec F S128x1 .f32), FVec F S128x1024 .f32)) : Prog (TpuEff nD τ sig (Elt F) Λ₀ .tc) PUnit.{1} := do
  let v36 : Vec F S1x128x1024 .f32 ← Prog.lift (.load scM0_0 (Rect.unit (s := S2x512x1024) (k0_off26 i) S1x128x1024.size (k0_off26_inb i)).toLoadRect (View.loadsAt_vmem h_S1x128x1024))
  let v43 : Vec F S1x128x1024 .f32 ← Prog.lift (.load scM0_0 (Rect.unit (s := S2x512x1024) (k0_off27 i) S1x128x1024.size (k0_off27_inb i)).toLoadRect (View.loadsAt_vmem h_S1x128x1024))
  let v59 : Vec F S1024x1024 .bf16 ← Prog.lift (.load arg7 (Rect.unit (s := S1024x1024) ![0, 0] S1024x1024.size inb_S1024x1024_S1024x1024_0_0).toLoadRect (View.loadsAt_vmem h_S1024x1024))
  let v63 : Vec F S128x256 .f32 ← Prog.lift (.load arg6 (Rect.unit (s := S128x256) ![0, 0] S128x256.size inb_S128x256_S128x256_0_0).toLoadRect (View.loadsAt_vmem h_S128x256))
  let v65 : Vec F S256x1024 .bf16 ← Prog.lift (.load arg8 (Rect.unit (s := S256x1024) ![0, 0] S256x1024.size inb_S256x1024_S256x1024_0_0).toLoadRect (View.loadsAt_vmem h_S256x1024))
  let _ : Vec F S128x1024 .f32 ← Prog.lift (.load arg9 (Rect.unit (s := S128x1024) ![0, 0] S128x1024.size inb_S128x1024_S128x1024_0_0).toLoadRect (View.loadsAt_vmem h_S128x1024))
  Prog.lift (.store arg9 (Rect.unit (s := S128x1024) ![0, 0] S128x1024.size inb_S128x1024_S128x1024_0_0) (k0_pay1 p.2.1 p.2.2.1 p.2.2.2.1 p.2.2.2.2 v36 v43 v59 v63 v65) Finset.univ (View.stores_vmem_bits_univ h_S128x1024 rfl) (.inl rfl))
  pure ⟨⟩

/-- The body's first part is its first four stages. -/
theorem part1_stages : k0_part1 (F := F) i arg1 harg1 arg2 harg2 (Memref.whole main_arg1) (Memref.isWhole_whole _) arg4 harg4 arg5 harg5 arg6 harg6 arg7 harg7 arg8 harg8 arg9 harg9 scM0_0 (Memref.isWhole_whole _) cc0_scratch1
    = st1 (F := F) i arg1 harg1 arg2 harg2 arg4 harg4 arg5 harg5 arg6 harg6 arg7 harg7 arg8 harg8 arg9 harg9 (fun _ => st2 i arg1 harg1 arg2 harg2 arg4 harg4 arg5 harg5 arg6 harg6 arg7 harg7 arg8 harg8 arg9 harg9 (fun _ => st3 i arg1 harg1 arg2 harg2 arg4 harg4 arg5 harg5 arg6 harg6 arg7 harg7 arg8 harg8 arg9 harg9 (fun _ => st4 i arg1 harg1 arg2 harg2 arg4 harg4 arg5 harg5 arg6 harg6 arg7 harg7 arg8 harg8 arg9 harg9))) := rfl

/-- The body is its first part, then the last stage. -/
theorem body_stages : cc0_combine_ple (F := F) i arg1 harg1 arg2 harg2 (Memref.whole main_arg1) (Memref.isWhole_whole _) arg4 harg4 arg5 harg5 arg6 harg6 arg7 harg7 arg8 harg8 arg9 harg9 scM0_0 (Memref.isWhole_whole _) cc0_scratch1 = (k0_part1 (F := F) i arg1 harg1 arg2 harg2 (Memref.whole main_arg1) (Memref.isWhole_whole _) arg4 harg4 arg5 harg5 arg6 harg6 arg7 harg7 arg8 harg8 arg9 harg9 scM0_0 (Memref.isWhole_whole _) cc0_scratch1 >>= fun p => st5 i arg6 arg7 arg8 arg9 p) := rfl

variable (x0 x1 : Vec F S1x1x512 .i32) (hc : S147456x1024.Idx → Elt F .f32) {Q : α → sProp (MM F)}

/-- Loop 1 puts half 0's copies in flight. -/
theorem issues1 (x : Vec F S1x1x512 .i32) (hx : ∀ r : Fin 512, (x (ix3 0 0 r) : BitVec 32).toNat < 147456) (h : k0_cond1 i = 1#1) :
    (iprop(owns (c : Thread nD τ) arg1 fullShare x ∗ Idle c 0 hc) : sProp (MM F))
      ⊢ iprop((iprop(owns (c : Thread nD τ) arg1 fullShare x ∗ Flying c 0 (tkOf x) hc 0) -∗ wp frame (wpE (defs₀ (F := F)) Variants.none (c : Thread nD τ) none) Set.univ (kk ⟨⟩) Q)
        -∗ wp frame (wpE (defs₀ (F := F)) Variants.none (c : Thread nD τ) none) Set.univ ((k0_t1_loop.for (k0_t1_ok i h) ⟨⟩ (k0_t1_body i arg1 harg1 arg2 harg2 (Memref.whole main_arg1) (Memref.isWhole_whole _) arg4 harg4 arg5 harg5 arg6 harg6 arg7 harg7 arg8 harg8 arg9 harg9 scM0_0 (Memref.isWhole_whole _) cc0_scratch1 h)) >>= fun _ => kk ⟨⟩) Q) := by
  iintro ⟨Hx, HI⟩ Hk
  imod (start_begin c 0 (tkOf x) hc) $$ HI with HS
  iapply (Scf.wp_for_bind _ _ _ _ _ _ _ _ _ (fun k _ => iprop(owns (c : Thread nD τ) arg1 fullShare x ∗ Started c 0 (tkOf x) hc (2 * k)))
    (fun k acc => issue1 c i arg1 harg1 arg2 harg2 arg4 harg4 arg5 harg5 arg6 harg6 arg7 harg7 arg8 harg8 arg9 harg9 x hx hc h k acc)) $$ [Hx HS]
  · isplitl [Hx]; · iexact Hx
    iexact HS
  iintro %acc ⟨Hx, HS⟩
  iapply Hk
  isplitl [Hx]; · iexact Hx
  iapply (start_end c 0 (tkOf x) hc)
  iexact HS

/-- Loop 2 puts half 0's copies in flight. -/
theorem issues2 (x : Vec F S1x1x512 .i32) (hx : ∀ r : Fin 512, (x (ix3 0 0 r) : BitVec 32).toNat < 147456) (h : k0_cond2 i = 1#1) :
    (iprop(owns (c : Thread nD τ) arg2 fullShare x ∗ Idle c 0 hc) : sProp (MM F))
      ⊢ iprop((iprop(owns (c : Thread nD τ) arg2 fullShare x ∗ Flying c 0 (tkOf x) hc 0) -∗ wp frame (wpE (defs₀ (F := F)) Variants.none (c : Thread nD τ) none) Set.univ (kk ⟨⟩) Q)
        -∗ wp frame (wpE (defs₀ (F := F)) Variants.none (c : Thread nD τ) none) Set.univ ((k0_t2_loop.for (k0_t2_ok i h) ⟨⟩ (k0_t2_body i arg1 harg1 arg2 harg2 (Memref.whole main_arg1) (Memref.isWhole_whole _) arg4 harg4 arg5 harg5 arg6 harg6 arg7 harg7 arg8 harg8 arg9 harg9 scM0_0 (Memref.isWhole_whole _) cc0_scratch1 h)) >>= fun _ => kk ⟨⟩) Q) := by
  iintro ⟨Hx, HI⟩ Hk
  imod (start_begin c 0 (tkOf x) hc) $$ HI with HS
  iapply (Scf.wp_for_bind _ _ _ _ _ _ _ _ _ (fun k _ => iprop(owns (c : Thread nD τ) arg2 fullShare x ∗ Started c 0 (tkOf x) hc (2 * k)))
    (fun k acc => issue2 c i arg1 harg1 arg2 harg2 arg4 harg4 arg5 harg5 arg6 harg6 arg7 harg7 arg8 harg8 arg9 harg9 x hx hc h k acc)) $$ [Hx HS]
  · isplitl [Hx]; · iexact Hx
    iexact HS
  iintro %acc ⟨Hx, HS⟩
  iapply Hk
  isplitl [Hx]; · iexact Hx
  iapply (start_end c 0 (tkOf x) hc)
  iexact HS

/-- Loop 3 puts half 1's copies in flight. -/
theorem issues3 (x : Vec F S1x1x512 .i32) (hx : ∀ r : Fin 512, (x (ix3 0 0 r) : BitVec 32).toNat < 147456) (h : k0_cond3 i = 1#1) :
    (iprop(owns (c : Thread nD τ) arg2 fullShare x ∗ Idle c 1 hc) : sProp (MM F))
      ⊢ iprop((iprop(owns (c : Thread nD τ) arg2 fullShare x ∗ Flying c 1 (tkOf x) hc 0) -∗ wp frame (wpE (defs₀ (F := F)) Variants.none (c : Thread nD τ) none) Set.univ (kk ⟨⟩) Q)
        -∗ wp frame (wpE (defs₀ (F := F)) Variants.none (c : Thread nD τ) none) Set.univ ((k0_t3_loop.for (k0_t3_ok i h) ⟨⟩ (k0_t3_body i arg1 harg1 arg2 harg2 (Memref.whole main_arg1) (Memref.isWhole_whole _) arg4 harg4 arg5 harg5 arg6 harg6 arg7 harg7 arg8 harg8 arg9 harg9 scM0_0 (Memref.isWhole_whole _) cc0_scratch1 h)) >>= fun _ => kk ⟨⟩) Q) := by
  iintro ⟨Hx, HI⟩ Hk
  imod (start_begin c 1 (tkOf x) hc) $$ HI with HS
  iapply (Scf.wp_for_bind _ _ _ _ _ _ _ _ _ (fun k _ => iprop(owns (c : Thread nD τ) arg2 fullShare x ∗ Started c 1 (tkOf x) hc (2 * k)))
    (fun k acc => issue3 c i arg1 harg1 arg2 harg2 arg4 harg4 arg5 harg5 arg6 harg6 arg7 harg7 arg8 harg8 arg9 harg9 x hx hc h k acc)) $$ [Hx HS]
  · isplitl [Hx]; · iexact Hx
    iexact HS
  iintro %acc ⟨Hx, HS⟩
  iapply Hk
  isplitl [Hx]; · iexact Hx
  iapply (start_end c 1 (tkOf x) hc)
  iexact HS

/-- After the first stage the block's copies are in flight. -/
theorem wp_st1 (s : Fin 2) (hs : s.val = (i 0).val % 2)
    (hx : ∀ r : Fin 512, (x0 (ix3 0 0 r) : BitVec 32).toNat < 147456) :
    (iprop(owns (c : Thread nD τ) arg1 fullShare x0 ∗ Half c s (1 ≤ (i 0).val) (tkOf x0) hc) : sProp (MM F))
      ⊢ iprop((iprop(owns (c : Thread nD τ) arg1 fullShare x0 ∗ Flying c s (tkOf x0) hc 0) -∗ wp frame (wpE (defs₀ (F := F)) Variants.none (c : Thread nD τ) none) Set.univ (kk ⟨⟩) Q)
        -∗ wp frame (wpE (defs₀ (F := F)) Variants.none (c : Thread nD τ) none) Set.univ (st1 i arg1 harg1 arg2 harg2 arg4 harg4 arg5 harg5 arg6 harg6 arg7 harg7 arg8 harg8 arg9 harg9 kk) Q) := by
  unfold st1
  by_cases h : k0_cond1 i = 1#1
  · have h0 := (cond1_iff i).mp h
    obtain rfl : s = 0 := Fin.ext (by rw [hs, h0]; rfl)
    rw [dif_pos h, half_neg c 0 (by omega)]
    exact issues1 c i arg1 harg1 arg2 harg2 arg4 harg4 arg5 harg5 arg6 harg6 arg7 harg7 arg8 harg8 arg9 harg9 kk hc x0 hx h
  · have h0 : (i 0).val ≠ 0 := fun e => h ((cond1_iff i).mpr e)
    rw [dif_neg h, half_pos c s (by omega)]
    iintro H Hk
    iapply Hk
    iexact H

/-- After the next two stages the next block's copies are in flight, if there is a next block. -/
theorem wp_st23 (s : Fin 2) (hs : s.val = ((i 0).val + 1) % 2)
    (hx : ∀ r : Fin 512, (x1 (ix3 0 0 r) : BitVec 32).toNat < 147456) :
    (iprop(owns (c : Thread nD τ) arg2 fullShare x1 ∗ Idle c s hc) : sProp (MM F))
      ⊢ iprop((iprop(owns (c : Thread nD τ) arg2 fullShare x1 ∗ Half c s ((i 0).val + 1 < 256) (tkOf x1) hc) -∗ wp frame (wpE (defs₀ (F := F)) Variants.none (c : Thread nD τ) none) Set.univ (kk ⟨⟩) Q)
        -∗ wp frame (wpE (defs₀ (F := F)) Variants.none (c : Thread nD τ) none) Set.univ (st2 i arg1 harg1 arg2 harg2 arg4 harg4 arg5 harg5 arg6 harg6 arg7 harg7 arg8 harg8 arg9 harg9 (fun _ => st3 i arg1 harg1 arg2 harg2 arg4 harg4 arg5 harg5 arg6 harg6 arg7 harg7 arg8 harg8 arg9 harg9 kk)) Q) := by
  unfold st2 st3
  by_cases hl : (i 0).val + 1 < 256
  · rw [half_pos c s hl]
    rcases Nat.mod_two_eq_zero_or_one ((i 0).val + 1) with hm | hm
    · have h2 : k0_cond2 i = 1#1 := (cond2_iff i).mpr ⟨hl, hm⟩
      have h3 : ¬ k0_cond3 i = 1#1 := fun e => by have := ((cond3_iff i).mp e).2; omega
      obtain rfl : s = 0 := Fin.ext (by rw [hs, hm]; rfl)
      rw [dif_pos h2, dif_neg h3]
      exact issues2 c i arg1 harg1 arg2 harg2 arg4 harg4 arg5 harg5 arg6 harg6 arg7 harg7 arg8 harg8 arg9 harg9 kk hc x1 hx h2
    · have h3 : k0_cond3 i = 1#1 := (cond3_iff i).mpr ⟨hl, hm⟩
      have h2 : ¬ k0_cond2 i = 1#1 := fun e => by have := ((cond2_iff i).mp e).2; omega
      obtain rfl : s = 1 := Fin.ext (by rw [hs, hm]; rfl)
      rw [dif_neg h2, dif_pos h3]
      exact issues3 c i arg1 harg1 arg2 harg2 arg4 harg4 arg5 harg5 arg6 harg6 arg7 harg7 arg8 harg8 arg9 harg9 kk hc x1 hx h3
  · have h2 : ¬ k0_cond2 i = 1#1 := fun e => hl ((cond2_iff i).mp e).1
    have h3 : ¬ k0_cond3 i = 1#1 := fun e => hl ((cond3_iff i).mp e).1
    rw [half_neg c s hl, dif_neg h2, dif_neg h3]
    iintro H Hk
    iapply Hk
    iexact H

variable (x2 : Vec F S128x1024 .f32) (x3 : Vec F S128x128 .f32) (x4 : Vec F S128x256 .f32) (x5 : Vec F S1024x1024 .bf16) (x6 : Vec F S256x1024 .bf16)

/-- A block's output, from the four quarters of its gathered rows and its staged arrays. -/
def outB (X0 X1 X2 X3 : Vec F S1x128x1024 .f32) : Vec F S128x1024 .f32 :=
  k0_pay1 x3 (k0_pay2 x3 x2 X0) (k0_pay3 x3) (k0_pay4 X1) X2 X3 x5 x4 x6

/-- The body at one grid point. -/
theorem wp_body {Q : PUnit.{1} → sProp (MM F)} (s s' : Fin 2) (hs : s.val = (i 0).val % 2) (hs' : s'.val = ((i 0).val + 1) % 2)
    (hx0 : ∀ r : Fin 512, (x0 (ix3 0 0 r) : BitVec 32).toNat < 147456) (hx1 : ∀ r : Fin 512, (x1 (ix3 0 0 r) : BitVec 32).toNat < 147456) :
    (iprop(owns (c : Thread nD τ) arg1 fullShare x0 ∗ owns (c : Thread nD τ) arg2 fullShare x1
          ∗ owns (c : Thread nD τ) arg4 fullShare x2 ∗ owns (c : Thread nD τ) arg5 fullShare x3 ∗ owns (c : Thread nD τ) arg6 fullShare x4
          ∗ owns (c : Thread nD τ) arg7 fullShare x5 ∗ owns (c : Thread nD τ) arg8 fullShare x6 ∗ (∃ d, owns (c : Thread nD τ) arg9 fullShare d) ∗ (∃ W, owes (c : Thread nD τ) 0 W)
          ∗ Half c s (1 ≤ (i 0).val) (tkOf x0) hc ∗ Idle c s' hc) : sProp (MM F))
      ⊢ iprop((iprop(owns (c : Thread nD τ) arg1 fullShare x0 ∗ owns (c : Thread nD τ) arg2 fullShare x1
          ∗ owns (c : Thread nD τ) arg4 fullShare x2 ∗ owns (c : Thread nD τ) arg5 fullShare x3 ∗ owns (c : Thread nD τ) arg6 fullShare x4
          ∗ owns (c : Thread nD τ) arg7 fullShare x5 ∗ owns (c : Thread nD τ) arg8 fullShare x6
          ∗ owns (c : Thread nD τ) arg9 fullShare (outB x2 x3 x4 x5 x6 (Xb 0 (tkOf x0) hc) (Xb 1 (tkOf x0) hc) (Xb 2 (tkOf x0) hc) (Xb 3 (tkOf x0) hc)) ∗ (∃ W, owes (c : Thread nD τ) 0 W)
          ∗ Half c s' ((i 0).val + 1 < 256) (tkOf x1) hc ∗ Idle c s hc) -∗ Q ⟨⟩)
        -∗ wp frame (wpE (defs₀ (F := F)) Variants.none (c : Thread nD τ) none) Set.univ (cc0_combine_ple (F := F) i arg1 harg1 arg2 harg2 (Memref.whole main_arg1) (Memref.isWhole_whole _) arg4 harg4 arg5 harg5 arg6 harg6 arg7 harg7 arg8 harg8 arg9 harg9 scM0_0 (Memref.isWhole_whole _) cc0_scratch1) Q) := by
  rw [body_stages, part1_stages, wp_bind]
  iintro ⟨H1, H2, H4, H5, H6, H7, H8, ⟨%d, H9⟩, ⟨%W, HO⟩, HS, HS'⟩ Hk
  iapply (wp_st1 c i arg1 harg1 arg2 harg2 arg4 harg4 arg5 harg5 arg6 harg6 arg7 harg7 arg8 harg8 arg9 harg9 _ x0 hc s hs hx0) $$ [H1 HS]
  · isplitl [H1]; · iexact H1
    iexact HS
  iintro ⟨H1, HS⟩
  iapply (wp_st23 c i arg1 harg1 arg2 harg2 arg4 harg4 arg5 harg5 arg6 harg6 arg7 harg7 arg8 harg8 arg9 harg9 _ x1 hc s' hs' hx1) $$ [H2 HS']
  · isplitl [H2]; · iexact H2
    iexact HS'
  iintro ⟨H2, HS'⟩
  unfold st4
  iapply (Scf.wp_for_bind _ _ _ _ _ _ _ _ _ (fun k _ => iprop(owns (c : Thread nD τ) arg1 fullShare x0 ∗ ∃ W, Flying c s (tkOf x0) hc (NN * k) ∗ owes (c : Thread nD τ) 0 W))
    (fun k acc => await4 c i arg1 harg1 arg2 harg2 arg4 harg4 arg5 harg5 arg6 harg6 arg7 harg7 arg8 harg8 arg9 harg9 x0 hx0 hc s hs k acc)) $$ [H1 HS HO]
  · isplitl [H1]; · iexact H1
    iexists W
    isplitl [HS]; · iexact HS
    iexact HO
  iintro %acc ⟨H1, %W', HS, HO⟩
  imod (show (Flying c s (tkOf x0) hc (NN * k0_t4_loop.trips) : sProp (MM F)) ⊢ _ from land c s (tkOf x0) hc) $$ HS with HL
  unfold Landed
  icases HL with ⟨HS, Hq, Hh⟩
  iapply (wp_load_full c arg5 fullShare x3 (by decide)) $$ H5
  iintro H5
  iapply (wp_load_full c arg4 fullShare x2 (by decide)) $$ H4
  iintro H4
  iapply (wp_load_slab c s 0 (tkOf x0) hc (by rw [hs]; exact off24_eq i)) $$ HS
  iintro HS
  iapply (wp_load_slab c s 1 (tkOf x0) hc (by rw [hs]; exact off25_eq i)) $$ HS
  iintro HS
  simp only [ret_bind', wp_pure]
  imodintro
  unfold st5
  iapply (wp_load_slab c s 2 (tkOf x0) hc (by rw [hs]; exact off26_eq i)) $$ HS
  iintro HS
  iapply (wp_load_slab c s 3 (tkOf x0) hc (by rw [hs]; exact off27_eq i)) $$ HS
  iintro HS
  iapply (wp_load_full c arg7 fullShare x5 (by decide)) $$ H7
  iintro H7
  iapply (wp_load_full c arg6 fullShare x4 (by decide)) $$ H6
  iintro H6
  iapply (wp_load_full c arg8 fullShare x6 (by decide)) $$ H8
  iintro H8
  iapply (wp_load_full c arg9 fullShare d (by decide)) $$ H9
  iintro H9
  iapply (wp_store_full c arg9 d _ (by decide)) $$ H9
  iintro H9
  simp only [ret_bind', wp_pure]
  imodintro
  iapply Hk
  isplitl [H1]; · iexact H1
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [HO]; · iexists _; iexact HO
  isplitl [HS']; · iexact HS'
  iapply (landed_idle c s (tkOf x0) hc)
  unfold Landed
  isplitl [HS]; · iexact HS
  isplitl [Hq]; · iexact Hq
  iexact Hh

end Body

end Cert.Cmb.Hand

end
-- ==== Proof.CmbRun.lean ====
/-
The run of the mixture-of-experts call: what is in flight between the grid points (`Phi`), the body's triple at a
point of the grid, the launch, and the frame.
-/
module

public import proofs.«01_k».proof.Proof.CmbBody
public import Idealize.ShloMosaic.Lib.Claim

@[expose] public section

set_option maxRecDepth 16384

noncomputable section

namespace Cert.Cmb.Hand

open Cert.Cmb Cert.Cmb.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

variable (m : (ℓ : Loc nD τ sig) → Buf (Elt F) ℓ) (ρ : Dev nD → PrngReg)

/-! ## The words the kernel reads -/

/-- The words of block `b`, laid out as the kernel stages them. -/
def words (c : Dev nD) (b : Fin 256) : S1x1x512.Idx → BitVec 32 := fun y => (V m c main_v2 : S256x1x512.Idx → BitVec 32) (ix3 b 0 (y 2))

/-- The slots block `b` (modulo 256) gathers. -/
def tok (c : Dev nD) (b : ℕ) : Fin 512 → Fin 147456 := tkOf (words m c (Fin.ofNat 256 b))

/-- What the run asks of the launch memory: each slot within range. -/
structure Good : Prop where
  tok : ∀ (c : Dev nD) (b : Fin 256) (r : Fin 512), (words m c b (ix3 0 0 r)).toNat < 147456

theorem N_256 : grid0.N = 256 := by decide

theorem coord (t : Fin cfg0.N) : (grid0.coords t 0).val = t.val := by
  have hN : cfg0.N = 256 := N_256
  have h := Pipeline.Grid.coords_val (G := grid0) t 0 (S := 1) (B := 256) (by decide) rfl
  have ht := t.isLt
  rw [h]; omega

/-- Window 0 stages the point's own words. -/
theorem iblk0_words (c : Dev nD) (t : Fin cfg0.N) (r : Fin 512) :
    (iblk m c 0 t : S1x1x512.Idx → BitVec 32) (ix3 0 0 r) = words m c (Fin.ofNat 256 t.val) (ix3 0 0 r) := by
  have hN : cfg0.N = 256 := N_256
  have ht := t.isLt
  show (V m c main_v2 : S256x1x512.Idx → BitVec 32) (((cfg0.win 0).blk t).view.emb (ix3 0 0 r)) = (V m c main_v2 : S256x1x512.Idx → BitVec 32) (ix3 (Fin.ofNat 256 t.val) 0 r)
  refine congrArg (V m c main_v2 : S256x1x512.Idx → BitVec 32) ?_
  have h0 : (BitVec.ofNat 32 (grid0.coords t 0).val).toNat = t.val := by rw [pt_toNat, coord t]
  funext a; apply Fin.ext
  match a with
  | ⟨0, _⟩ => show (BitVec.ofNat 32 (grid0.coords t 0).val).toNat * 1 + 1 * 0 = t.val % 256; rw [h0]; omega
  | ⟨1, _⟩ => show 0 * 1 + 1 * 0 = 0; omega
  | ⟨2, _⟩ => show 0 * 512 + 1 * r.val = r.val; omega

/-- Window 1 stages the next point's words, the last point's at the last point. -/
theorem next_index (i : grid0.Coords) : cc0_transform_1 i 0 = min ((i 0).val + 1) 255 := by
  have hi := pt_lt i
  show (Scalar.minsi (Scalar.addi (BitVec.ofNat 32 (i 0).val) 1#32) 255#32).toNat = _
  have hs : Scalar.addi (BitVec.ofNat 32 (i 0).val) 1#32 = BitVec.ofNat 32 ((i 0).val + 1) := by
    apply BitVec.eq_of_toNat_eq
    show ((BitVec.ofNat 32 (i 0).val) + 1#32).toNat = _
    rw [BitVec.toNat_add, BitVec.toNat_ofNat, BitVec.toNat_ofNat, BitVec.toNat_ofNat]; omega
  rw [hs]
  generalize hk : (i 0).val + 1 = k
  have : k ≤ 256 := by omega
  clear hs hk hi
  have hall : ∀ k : Fin 257, (Scalar.minsi (BitVec.ofNat 32 k.val) 255#32).toNat = min k.val 255 := by decide
  exact hall ⟨k, by omega⟩

theorem iblk1_words (c : Dev nD) (t : Fin cfg0.N) (r : Fin 512) :
    (iblk m c 1 t : S1x1x512.Idx → BitVec 32) (ix3 0 0 r) = words m c (Fin.ofNat 256 (min (t.val + 1) 255)) (ix3 0 0 r) := by
  have hN : cfg0.N = 256 := N_256
  have ht := t.isLt
  show (V m c main_v2 : S256x1x512.Idx → BitVec 32) (((cfg0.win 1).blk t).view.emb (ix3 0 0 r)) = (V m c main_v2 : S256x1x512.Idx → BitVec 32) (ix3 (Fin.ofNat 256 (min (t.val + 1) 255)) 0 r)
  refine congrArg (V m c main_v2 : S256x1x512.Idx → BitVec 32) ?_
  have h0 : cc0_transform_1 (grid0.coords t) 0 = min (t.val + 1) 255 := by rw [next_index, coord t]
  funext a; apply Fin.ext
  match a with
  | ⟨0, _⟩ => show cc0_transform_1 (grid0.coords t) 0 * 1 + 1 * 0 = min (t.val + 1) 255 % 256; rw [h0]; omega
  | ⟨1, _⟩ => show 0 * 1 + 1 * 0 = 0; omega
  | ⟨2, _⟩ => show 0 * 512 + 1 * r.val = r.val; omega

theorem tkOf_congr {x y : S1x1x512.Idx → BitVec 32} (h : ∀ r : Fin 512, x (ix3 0 0 r) = y (ix3 0 0 r)) : tkOf x = tkOf y :=
  funext fun r => congrArg (fun w : BitVec 32 => Fin.ofNat 147456 w.toNat) (h r)

/-! ## The pipeline's proof data -/

/-- Between the points: the generator register, one half of the scratch in flight with the coming block's rows (if
    there is a coming block and a point has started them), the other at rest. -/
def Phi (c : Dev nD) (t : ℕ) : sProp (MM F) :=
  iprop((∃ r, prngReg c r)
    ∗ Half c ⟨t % 2, Nat.mod_lt _ Nat.two_pos⟩ (1 ≤ t ∧ t < 256) (tok m c t) (V m c main_arg1)
    ∗ Idle c ⟨(t + 1) % 2, Nat.mod_lt _ Nat.two_pos⟩ (V m c main_arg1))

/-- What point `t` leaves in the output's staging buffer. -/
def outAt (c : Dev nD) (t : Fin cfg0.N) : Vec F S128x1024 .f32 :=
  outB (iblk m c 2 t) (iblk m c 3 t) (iblk m c 4 t) (iblk m c 5 t) (iblk m c 6 t)
    (Xb 0 (tok m c t.val) (V m c main_arg1)) (Xb 1 (tok m c t.val) (V m c main_arg1)) (Xb 2 (tok m c t.val) (V m c main_arg1)) (Xb 3 (tok m c t.val) (V m c main_arg1))

/-- The arrays as the region finds them; after the body each input's buffer at its block and the output's at what the
    body leaves; the invariant `Phi`; nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]; try rfl
theorem after0_1 (c : Dev nD) (t : Fin cfg0.N) : (dats m 0 c).after 1 t = iblk m c 1 t := by dsimp only [dats]; try rfl
theorem after0_2 (c : Dev nD) (t : Fin cfg0.N) : (dats m 0 c).after 2 t = iblk m c 2 t := by dsimp only [dats]; try rfl
theorem after0_3 (c : Dev nD) (t : Fin cfg0.N) : (dats m 0 c).after 3 t = iblk m c 3 t := by dsimp only [dats]; try rfl
theorem after0_4 (c : Dev nD) (t : Fin cfg0.N) : (dats m 0 c).after 4 t = iblk m c 4 t := by dsimp only [dats]; try rfl
theorem after0_5 (c : Dev nD) (t : Fin cfg0.N) : (dats m 0 c).after 5 t = iblk m c 5 t := by dsimp only [dats]; try rfl
theorem after0_6 (c : Dev nD) (t : Fin cfg0.N) : (dats m 0 c).after 6 t = iblk m c 6 t := by dsimp only [dats]; try rfl
theorem after0_7 (c : Dev nD) (t : Fin cfg0.N) : (dats m 0 c).after 7 t = outAt m c t := by dsimp only [dats]; try rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem Phi_castSucc (c : Dev nD) (t : Fin cfg0.N) : (dats m 0 c).Φ t.castSucc = Phi m c t.val := by
  dsimp only [dats]; exact congrArg (Phi m c) (Fin.val_castSucc t)
theorem Phi_succ (c : Dev nD) (t : Fin cfg0.N) : (dats m 0 c).Φ t.succ = Phi m c (t.val + 1) := by
  dsimp only [dats]; exact congrArg (Phi m c) (Fin.val_succ t)

/-! ## The body obligation -/

/-- What the body is called with at point `t`. -/
def bodyPre (c : Dev nD) (t : Fin cfg0.N) : sProp (MM F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp (MM F) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

theorem half_congr (c : Dev nD) {s s' : Fin 2} {p p' : Prop} [Decidable p] [Decidable p'] {tk tk' : Fin 512 → Fin 147456} (hc : S147456x1024.Idx → Elt F .f32)
    (hs : s = s') (hp : p ↔ p') (ht : p → tk = tk') : (Half c s p tk hc : sProp (MM F)) = Half c s' p' tk' hc := by
  subst hs
  by_cases h : p
  · rw [half_pos c s h, half_pos c s (hp.mp h), ht h]
  · rw [half_neg c s h, half_neg c s (fun h' => h (hp.mpr h'))]

set_option maxHeartbeats 800000 in
/-- The body at any point of the grid. -/
theorem sound_body (hG : Good m) (c : Dev nD) (t : Fin cfg0.N) :
    bodyPre m c t ⊢ wp frame (wpE (defs₀ (F := F)) Variants.none c none) Set.univ (bodyAt0 t) (fun _ => bodyPost m c t) := by
  have hN : cfg0.N = 256 := N_256
  have ht := t.isLt
  have hct := coord t
  have e0 : tkOf (iblk m c 0 t : S1x1x512.Idx → BitVec 32) = tok m c t.val := tkOf_congr fun r => iblk0_words m c t r
  unfold bodyPre bodyPost bodyAt0
  simp only [before0_0, before0_1, before0_2, before0_3, before0_4, before0_5, before0_6]
  rw [Phi_castSucc, Phi_succ, after0_0, after0_1, after0_2, after0_3, after0_4, after0_5, after0_6, after0_7]
  unfold Phi Dat.owesAt Pipeline.owesWithin
  rw [show (dats m 0 c).owed t.castSucc = 0 from rfl, show (dats m 0 c).owed t.succ = 0 from rfl]
  iintro ⟨⟨Hg, HS, HS'⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (wp_body c (grid0.coords t) _ _ _ _ _ _ _ _ _ _ _ _ _ _ _ _ (iblk m c 0 t) (iblk m c 1 t) (V m c main_arg1)
    (iblk m c 2 t) (iblk m c 3 t) (iblk m c 4 t) (iblk m c 5 t) (iblk m c 6 t)
    ⟨t.val % 2, Nat.mod_lt _ Nat.two_pos⟩ ⟨(t.val + 1) % 2, Nat.mod_lt _ Nat.two_pos⟩ (by rw [hct]) (by rw [hct])
    (fun r => (congrArg BitVec.toNat (iblk0_words m c t r)).trans_lt (hG.tok c _ r))
    (fun r => (congrArg BitVec.toNat (iblk1_words m c t r)).trans_lt (hG.tok c _ r))) $$ [H0 H1 H2 H3 H4 H5 H6 H7 HW HS HS']
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HW]; · iexists _; iexact HW
    isplitl [HS]
    · iapply (Entails.of_eq (half_congr c (V m c main_arg1) rfl (by rw [hct]; exact ⟨fun h => h.1, fun h => ⟨h, by omega⟩⟩) (fun _ => e0.symm))) $$ HS
    iexact HS'
  iintro ⟨H0, H1, H2, H3, H4, H5, H6, H7, ⟨%W', HW'⟩, HS', HS⟩
  isplitl [Hg HS HS']
  · isplitl [Hg]; · iexact Hg
    isplitl [HS']
    · iapply (Entails.of_eq (half_congr c (V m c main_arg1) rfl (by rw [hct]; exact ⟨fun h => ⟨by omega, h⟩, fun h => h.2⟩)
        (fun h => (tkOf_congr fun r => iblk1_words m c t r).trans (by
          rw [hct] at h
          unfold tok; rw [Nat.min_eq_left (by omega)])))) $$ HS'
    rw [show (⟨(t.val + 1 + 1) % 2, Nat.mod_lt _ Nat.two_pos⟩ : Fin 2) = ⟨t.val % 2, Nat.mod_lt _ Nat.two_pos⟩ from Fin.ext (by show (t.val + 1 + 1) % 2 = t.val % 2; omega)]
    iexact HS
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  unfold outAt
  rw [e0]
  iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The result's block is written back at every point. -/
theorem flush7 (t : Fin cfg0.N) : (cfg0.win 7).flush t = true :=
  (Pipeline.Window.flush_reads (cfg0.win 7) rfl 0 (show 1 < grid0.bound 0 by decide) (show grid0.fixedAfter reads0_7 0 = true by decide)
    (Pipeline.Window.sep_of_coord cc0_transform_8 0 0 (fun _ => rfl) (by decide)) (P := 1) (m := 0) (show grid0.stride 0 = 1 by decide) rfl t).mpr (Nat.mod_one _)

/-- The body obligation, at every point. -/
theorem body_obligation (hG : Good m) (c : Dev nD) : BodyObligation (dats (F := F) m 0 c) (defs₀ (F := F)) Variants.none () Set.univ := fun t => by
  rw [bigSep_W0, bigSep_W0, defs₀_row]
  refine triple_restated (sound_body m hG c t) rfl .rfl fun _ => ?_
  iterate 9 refine sep_mono .rfl ?_
  exact Entails.of_eq rfl

/-! ## Into and out of the region -/

/-- The scratch split into its halves, the share of the experts' rows dealt between them. -/
theorem phi_in (c : Dev nD) :
    (Pipeline.ΦD osem0 spec0 H0 (V m) c : sProp (MM F)) ⊢ Phi m c 0 := by
  rw [PhiD0_eq]
  unfold Phi
  rw [half_neg c _ (show ¬ (1 ≤ 0 ∧ 0 < 256) by omega)]
  show _ ⊢ iprop(_ ∗ Idle c 0 (V m c main_arg1) ∗ Idle c 1 (V m c main_arg1))
  simp only [owns_whole]
  unfold Idle
  iintro ⟨⟨%d, Hd⟩, Hg, ⟨Hq0, Hq1⟩, Hh⟩
  ihave Hd' := (pointsTo_split_subset (ℓ := scL c) (Finset.subset_univ (slabSet 0))).1 $$ Hd
  icases Hd' with ⟨Hd0, Hd1⟩
  ihave Hh' := (pointsTo_share (ℓ := hL c) (PosShare.mem_left_op_right fullShare)).1 $$ Hh
  icases Hh' with ⟨Hh0, Hh1⟩
  isplitl [Hg]; · iexact Hg
  isplitl [Hd0 Hq0 Hh0]
  · isplitl [Hd0]; · iexists _; iexact Hd0
    isplitl [Hq0]; · iexact Hq0
    iexact Hh0
  rw [slabSet_compl]
  isplitl [Hd1]; · iexists _; iexact Hd1
  isplitl [Hq1]; · iexact Hq1
  iexact Hh1

/-- The halves joined again after the last point, where both are at rest. -/
theorem phi_out (c : Dev nD) :
    (Phi m c 256 : sProp (MM F)) ⊢ Pipeline.ΦD osem0 spec0 H0 (V m) c := by
  rw [PhiD0_eq]
  unfold Phi
  rw [half_neg c _ (show ¬ (1 ≤ 256 ∧ 256 < 256) by omega)]
  show iprop(_ ∗ Idle c 0 (V m c main_arg1) ∗ Idle c 1 (V m c main_arg1)) ⊢ _
  simp only [owns_whole]
  unfold Idle
  iintro ⟨Hg, ⟨⟨%f0, Hd0⟩, Hq0, Hh0⟩, ⟨⟨%f1, Hd1⟩, Hq1, Hh1⟩⟩
  isplitl [Hd0 Hd1]
  · iexists (fun y => if y ∈ slabSet 0 then f0 y else f1 y)
    iapply (pointsTo_split_subset (ℓ := scL c) (Finset.subset_univ (slabSet 0))).2
    rw [slabSet_compl]
    isplitl [Hd0]
    · iapply (Entails.of_eq (pointsTo_congr (ℓ := scL c) (q := fullShare) (fun y hy => (if_pos hy).symm))) $$ Hd0
    · iapply (Entails.of_eq (pointsTo_congr (ℓ := scL c) (q := fullShare) (fun y hy => (if_neg (by rw [← slabSet_compl] at hy; exact (Finset.mem_sdiff.mp hy).2)).symm))) $$ Hd1
  isplitl [Hg]; · iexact Hg
  isplitl [Hq0 Hq1]
  · isplitl [Hq0]; · iexact Hq0
    iexact Hq1
  iapply (pointsTo_share (ℓ := hL c) (PosShare.mem_left_op_right fullShare)).2
  isplitl [Hh0]; · iexact Hh0
  iexact Hh1

/-! ## The run and the frame -/

set_option backward.isDefEq.respectTransparency.types false in
/-- The launch: every array of the pipeline at what the proof data computes, every other unscoped buffer as the region
    found it, every counter at zero. -/
theorem run_main_quiescent (hG : Good m) : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m hG c).loose) (hq := fun _ _ _ => rfl)
    (howed := fun _ _ => rfl) (V := V m) (hmain := hmain m Variants.none) (hA := A_eq m) (hin := phi_in m) (hout := phi_out m)

theorem run_main (hG : Good m) : θ_run defs (onTc (τ := τ) (main (F := F))) (s₀ m ρ) (Pipeline.FramePost cfgs (dats m) 0 (V m)) :=
  (θ_run defs _ _).mono (fun _ h => h.1) (run_main_quiescent m ρ hG)

/-- The arguments end unchanged. -/
theorem unchanged (hG : Good m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) (run_main m ρ hG)

/-- The frame. -/
theorem frame_run (hG : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hG) ((θ_run defs _ _).mono (fun _ h => h.2) (run_main_quiescent m ρ hG))

/-- The result array and the arguments after the run. -/
theorem run_result (hG : Good m) : θ_run defs (onTc (τ := τ) (main (F := F))) ⟨m, fun _ => 0, ρ⟩ (fun r => ∀ c : Dev nD,
      r.2.mem ((c.tc : Thread nD τ).loc main_v5) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 7, h.2 c⟩) (θ_run_and (run_main m ρ hG) (unchanged m ρ hG))

end Cert.Cmb.Hand

end
-- ==== Proof.CmbPre.lean ====
/-
The arrays the launch prepares from the arguments, entry by entry, and what the run asks of the launch memory read off
a bound on the slots: each below 147456.
-/
module

public import proofs.«01_k».proof.Proof.CmbRun
public import Idealize.ShloMosaic.Lib.Affine
public import Idealize.ShloMosaic.Lib.Pipeline.Value

@[expose] public section

set_option maxRecDepth 16384

noncomputable section

namespace Cert.Cmb.Hand

open Cert.Cmb Cert.Cmb.Gen
open Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The slots of the tokens, as launched. -/
abbrev argS (c : Dev nD) : S32768x4.Idx → BitVec 32 := m ((c : Thread nD τ).loc main_arg0)

/-- Row `r` of block `b` holds token `128 b + r % 128`'s slot number `r / 128`. -/
theorem V_slots (c : Dev nD) (b : Fin 256) (r : Fin 512) :
    (V m c main_v2 : S256x1x512.Idx → BitVec 32) (ix3 b 0 r)
      = argS m c (ix2 ⟨128 * b.val + r.val % 128, by omega⟩ ⟨r.val / 128, by omega⟩) := by
  have e : V m c main_v2 = (shapeCast S256x1x512 (transpose S256x4x128 [0, 2, 1] (shapeCast S256x128x4 (argS m c) shapeCasts_S32768x4_S256x128x4)
      transposes_S256x128x4_S256x4x128_0_2_1) shapeCasts_S256x4x128_S256x1x512 : S256x1x512.Idx → BitVec 32) := by
    show StableHlo.after hostOps0 (fun b => m (c, b)) _ = _
    after_results
    rfl
  rw [e]
  refine (shapeCast_apply _ _ (ix3 b (0 : Fin 1) r) (ix3 b (⟨r.val / 128, by omega⟩ : Fin 4) (⟨r.val % 128, by omega⟩ : Fin 128)) ?_).trans ?_
  · rw [Shape.rowMajor_val_three, Shape.rowMajor_val_three]
    show (b.val * 4 + r.val / 128) * 128 + r.val % 128 = (b.val * 1 + 0) * 512 + r.val
    omega
  refine (transpose_apply _ _ _ _ (ix3 b (⟨r.val % 128, by omega⟩ : Fin 128) (⟨r.val / 128, by omega⟩ : Fin 4)) fun a => by fin_cases a <;> rfl).trans ?_
  refine shapeCast_apply _ _ _ _ ?_
  rw [Shape.rowMajor_val_two, Shape.rowMajor_val_three]
  show (128 * b.val + r.val % 128) * 4 + r.val / 128 = (b.val * 128 + r.val % 128) * 4 + r.val / 128
  omega

theorem words_eq (c : Dev nD) (b : Fin 256) (r : Fin 512) :
    words m c b (ix3 0 0 r) = argS m c (ix2 ⟨128 * b.val + r.val % 128, by omega⟩ ⟨r.val / 128, by omega⟩) := V_slots m c b r

/-- The bound gives what the run asks. -/
theorem good_of (c : Dev nD) (hS : ∀ (t : Fin 32768) (k : Fin 4), (argS m c (ix2 t k)).toNat < 147456) : Good m where
  tok := fun c' b r => by
    obtain rfl : c' = c := Subsingleton.elim _ _
    rw [words_eq]; exact hS _ _

end Cert.Cmb.Hand
-- ==== Proof.CmbFrame.lean ====
/-
Combining: the precondition read as a bound on the slots, and the frames of the three programs.
-/
module

public import proofs.«01_k».proof.Defs
public import proofs.«01_k».proof.Proof.CmbPre
public import proofs.«01_k».proof.Proof.Gen.CmbIdeal
public import proofs.«01_k».proof.Proof.Gen.CmbRefIdeal.Run
public import proofs.«01_k».proof.Proof.Gen.Pre_slots_in_range
public import Idealize.ShloMosaic.Lib.Affine
public import Idealize.ShloMosaic.Lib.Quiescent

@[expose] public section

set_option maxRecDepth 16384

noncomputable section

namespace Cert.Proof.Cmb

open Idealize.ShloMosaic Idealize.ShloMosaic.TcCoe Idealize.SL.Sem Idealize.ShloMosaic.ValueIdx

section
open Cert.Pre_slots_in_range

/-- A word at least 0 and below a bound, both compared as signed numbers, is below it as a natural number. -/
theorem below {x : BitVec 32} {n : ℕ} (hn : n < 2 ^ 31)
    (h : IntOp.andi (IntOp.cmpi .sge x 0#32) (IntOp.cmpi .slt x (BitVec.ofNat 32 n)) = 1#1) : x.toNat < n := by
  obtain ⟨h0, h1⟩ := IntOp.andi_eq_one.1 h
  have a := IntOp.cmpi_sge.1 h0
  have b := IntOp.cmpi_slt.1 h1
  have hx := x.isLt
  simp only [BitVec.toInt, BitVec.toNat_ofNat] at a b
  omega

/-- What the precondition's table of ones says. -/
theorem bounds {F : FTy → Type} [FloatOps F] (a0 : IVec S32768x4 32) (a1 : FVec F S147456x1024 .f32) (a2 : FVec F S32768x1024 .f32) (a3 : FVec F S32768x128 .f32)
    (a4 : FVec F S32768x256 .f32) (a5 : FVec F S1024x1024 .f32) (a6 : FVec F S256x1024 .f32)
    (h : fn (F := F) a0 a1 a2 a3 a4 a5 a6 = (fun _ => 1#1)) (t : Fin 32768) (k : Fin 4) : (a0 (ix2 t k)).toNat < 147456 :=
  below (by norm_num) (congrFun h (ix2 t k))
end

/-- The precondition gives what the kernel's run asks. -/
theorem good (m : (ℓ : Loc Cert.Cmb.nD Cert.Cmb.τ Cert.Cmb.sig) → Buf (Elt Bits) ℓ) (h : Cert.Pre_Cmb m) : Cert.Cmb.Hand.Good m :=
  Cert.Cmb.Hand.good_of m 0 (bounds _ _ _ _ _ _ _ (h 0))
/-- The same of the ideal program, whose memory is the same. -/
theorem good_ideal (m : (ℓ : Loc Cert.CmbIdeal.nD Cert.CmbIdeal.τ Cert.CmbIdeal.sig) → Buf (Elt Ideal) ℓ) (h : Cert.Pre_CmbIdeal m) : Cert.Cmb.Hand.Good (F := Ideal) m :=
  Cert.Cmb.Hand.good_of (F := Ideal) m 0 (bounds _ _ _ _ _ _ _ (h 0))

/-- The kernel's program terminates, leaving its arguments alone and every semaphore at zero. -/
theorem frame : Cert.quiescent_Cmb := fun m ρ h => Cert.Cmb.Hand.frame_run m ρ (good m h)

set_option maxRecDepth 65536 in
set_option maxHeartbeats 10000000 in
/-- The ideal program is the kernel's program at the extended reals. -/
theorem main_eq : Cert.CmbIdeal.main (F := Ideal) = Cert.Cmb.main (F := Ideal) := rfl

section
open Cert.Cmb
variable (i : grid0.Coords) (arg1 : Memref sig .tc .smem S1x1x512 .i32) (harg1 : arg1.IsWhole) (arg2 : Memref sig .tc .smem S1x1x512 .i32) (harg2 : arg2.IsWhole) (arg3 : Memref sig .tc .hbm S147456x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x256 .f32) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S128x1024 .f32) (harg9 : arg9.IsWhole) (arg10 : Memref sig .tc .vmem S2x512x1024 .f32) (harg10 : arg10.IsWhole) (arg11 : DmaSems sig S2)
set_option maxRecDepth 65536 in
set_option maxHeartbeats 4000000 in
/-- The first part of the ideal body is the kernel body's at the extended reals. -/
theorem part_eq : Cert.CmbIdeal.k0_part1 (F := Ideal) i arg1 harg1 arg2 harg2 arg3 harg3 arg4 harg4 arg5 harg5 arg6 harg6 arg7 harg7 arg8 harg8 arg9 harg9 arg10 harg10 arg11
  = Cert.Cmb.k0_part1 (F := Ideal) i arg1 harg1 arg2 harg2 arg3 harg3 arg4 harg4 arg5 harg5 arg6 harg6 arg7 harg7 arg8 harg8 arg9 harg9 arg10 harg10 arg11 := by
  delta Cert.CmbIdeal.k0_part1 Cert.Cmb.k0_part1
  rfl
set_option maxRecDepth 65536 in
set_option maxHeartbeats 4000000 in
/-- So is the whole body. -/
theorem kernel_eq : Cert.CmbIdeal.cc0_combine_ple (F := Ideal) i arg1 harg1 arg2 harg2 arg3 harg3 arg4 harg4 arg5 harg5 arg6 harg6 arg7 harg7 arg8 harg8 arg9 harg9 arg10 harg10 arg11
  = Cert.Cmb.cc0_combine_ple (F := Ideal) i arg1 harg1 arg2 harg2 arg3 harg3 arg4 harg4 arg5 harg5 arg6 harg6 arg7 harg7 arg8 harg8 arg9 harg9 arg10 harg10 arg11 := by
  have h := part_eq i arg1 harg1 arg2 harg2 arg3 harg3 arg4 harg4 arg5 harg5 arg6 harg6 arg7 harg7 arg8 harg8 arg9 harg9 arg10 harg10 arg11
  delta Cert.CmbIdeal.cc0_combine_ple Cert.Cmb.cc0_combine_ple
  refine (congrArg (fun p => p >>= _) h).trans ?_
  refine congrArg (_ >>= ·) (funext fun p => ?_)
  obtain ⟨v0, v18, v26, v27, v30⟩ := p
  rfl
end
set_option maxRecDepth 65536 in
set_option maxHeartbeats 4000000 in
/-- So is the table of bodies. -/
theorem defs₀_eq : Cert.CmbIdeal.defs₀ (F := Ideal) = Cert.Cmb.defs₀ (F := Ideal) := by
  delta Cert.CmbIdeal.defs₀ Cert.Cmb.defs₀
  refine congrArg Defs.onTc (funext fun l => ?_)
  match l with
  | ⟨0, _⟩ =>
    funext x
    obtain ⟨t, s⟩ := x
    exact kernel_eq _ _ _ _ _ _ _ _ _ _ _ _ _ _ _ _ _ _ _ _ _ _
set_option maxRecDepth 65536 in
set_option maxHeartbeats 4000000 in
/-- And so is the table of the regions' bodies. -/
theorem defs_eq : Cert.CmbIdeal.defs (F := Ideal) = Cert.Cmb.defs (F := Ideal) := by
  delta Cert.CmbIdeal.defs Cert.Cmb.defs
  exact congrArg (Pipeline.defs Cert.Cmb.pcfgs) defs₀_eq

/-- What holds of the kernel's run at the extended reals holds of the ideal program's run. -/
theorem transfer (s : MemSt Cert.Cmb.nD Cert.Cmb.τ Cert.Cmb.sig (Elt Ideal)) (Q : _ → Prop)
    (h : θ_run (Cert.Cmb.defs (F := Ideal)) (onTc (τ := Cert.Cmb.τ) (Cert.Cmb.main (F := Ideal))) s Q) :
    θ_run (Cert.CmbIdeal.defs (F := Ideal)) (onTc (τ := Cert.CmbIdeal.τ) (Cert.CmbIdeal.main (F := Ideal))) s Q :=
  Eq.mpr (congrArg₂ (fun d p => θ_run d (onTc (τ := Cert.Cmb.τ) p) s Q) defs_eq main_eq) h

/-- The ideal program terminates, leaving its arguments alone and every semaphore at zero. -/
theorem frame_ideal : Cert.quiescent_CmbIdeal := fun m ρ h => transfer _ _ (Cert.Cmb.Hand.frame_run (F := Ideal) m ρ (good_ideal m h))

/-- So does the reference, which uses no semaphore. -/
theorem frame_ref : Cert.quiescent_CmbRefIdeal := fun m ρ _ =>
  (θ_run Cert.CmbRefIdeal.defs _ _).mono (fun r h => ⟨fun c => (h c).2,
      Idealize.ShloMosaic.sem_eq_zero_of_no_sems (by decide) r.2⟩)
    (Cert.CmbRefIdeal.Value.run (F := Ideal) m ρ)
/-- In particular from the memories the precondition admits. -/
theorem frame_ref_pre : Cert.quiescent_CmbRefIdeal_pre_slots_in_range := fun m ρ _ => frame_ref m ρ trivial

end Cert.Proof.Cmb

end
-- ==== Proof.CmbMath.lean ====
/-
  The combination layer as functions of rows: a token's residual row plus its four gated rows, and the embedding's
  projection let through by the gate of the normalised sum.
-/
module

public import proofs.«01_k».proof.Proof.InOddArr
public import proofs.«01_k».proof.Proof.Gen.Cmb

@[expose] public section

set_option maxRecDepth 16384

noncomputable section

namespace Cert.Proof.Cmb

open Idealize.ShloMosaic Idealize.ShloMosaic.ValueIdx
open Cert.Cmb
open Cert.InOddIdeal.Rows (factor)

/-- The residual row plus the four rows times their gates. -/
def merged (h : Fin 1024 → EReal) (g : Fin 4 → EReal) (y : Fin 4 → Fin 1024 → EReal) (k : Fin 1024) : EReal :=
  h k + ∑ s : Fin 4, g s * y s k

/-- One row's result: the row plus the logistic of its gate product times the embedding's projection. -/
def rowOut (x : Fin 1024 → EReal) (p : Fin 256 → EReal) (w : Fin 1024 → Fin 1024 → EReal) (w' : Fin 256 → Fin 1024 → EReal) (j : Fin 1024) : EReal :=
  x j + Ideal.logistic (∑ k : Fin 1024, x k * factor x * w k j) * ∑ k : Fin 256, p k * w' k j

section
variable (s : S32768x4.Idx → BitVec 32) (y : S147456x1024.Idx → EReal) (h : S32768x1024.Idx → EReal) (g : S32768x128.Idx → EReal)

/-- A token's row after its four rows are added: row `s (t, q)` of the experts' results weighted by `g (t, q)`. -/
def row (t : Fin 32768) : Fin 1024 → EReal :=
  merged (fun k => h (ix2 t k)) (fun q => g (ix2 t (q.castLE (by omega)))) (fun q k => y (ix2 (Fin.ofNat 147456 (s (ix2 t q)).toNat) k))

/-- The whole result. -/
def layer (p : S32768x256.Idx → EReal) (w : S1024x1024.Idx → EReal) (w' : S256x1024.Idx → EReal) : S32768x1024.Idx → EReal := fun i =>
  rowOut (row s y h g (i 0)) (fun k => p (ix2 (i 0) k)) (fun k j => w (ix2 k j)) (fun k j => w' (ix2 k j)) (i 1)
end

end Cert.Proof.Cmb

end
-- ==== Proof.CmbPay.lean ====
/-
  What the combination kernel computes from its staged blocks, entry by entry.
-/
module

public import proofs.«01_k».proof.Proof.CmbMath
public import proofs.«01_k».proof.Proof.CmbBody
public import Idealize.ShloMosaic.Lib.MatmulPlain
public import Idealize.ShloMosaic.PureOps.Ideal.Laws

@[expose] public section

set_option maxRecDepth 16384

noncomputable section

namespace Cert.Cmb.Hand

open Cert.Cmb Cert.Cmb.Gen
open Idealize.ShloMosaic Idealize.ShloMosaic.ValueIdx
open Cert.Proof.Cmb
open Cert.InOddIdeal.Rows (factor)

/-- A quarter of the staged rows without its unit axis. -/
theorem rows_cast (X : S1x128x1024.Idx → EReal) (r : Fin 128) (k : Fin 1024) :
    (shapeCast S128x1024 X shapeCasts_S1x128x1024_S128x1024 : S128x1024.Idx → EReal) (ix2 r k) = X (ix3 (0 : Fin 1) r k) := by
  refine shapeCast_apply _ _ (ix2 r k) (ix3 (0 : Fin 1) r k) ?_
  rw [Shape.rowMajor_val_three, Shape.rowMajor_val_two]
  show (0 * 128 + r.val) * 1024 + k.val = r.val * 1024 + k.val
  omega

/-- A column of the gates spread over the rows. -/
theorem gate_col (x : S128x128.Idx → EReal) (o : Fin 128) (hs : S128x128.Slices ![0, o.val] S128x1) (r : Fin 128) (k : Fin 1024) :
    (broadcastTo S128x1024 (extractStridedSlice S128x1 ![0, o.val] x hs) broadcasts_S128x1_S128x1024 : S128x1024.Idx → EReal) (ix2 r k) = x (ix2 r o) := by
  refine (broadcastTo_apply _ _ (ix2 r k) (ix2 r (0 : Fin 1)) fun a => by fin_cases a <;> rfl).trans ?_
  refine extractStridedSlice_apply _ x _ (ix2 r (0 : Fin 1)) (ix2 r o) fun a => ?_
  match a with
  | ⟨0, _⟩ => exact (Nat.zero_add _).symm
  | ⟨1, _⟩ => rfl

/-- The sum of a row of 128. -/
theorem row_sum (v : S128x1024.Idx → EReal) (r : Fin 128) :
    (multiReduction (F := Ideal) (φ := .f32) .add [1] S128 v 0x00000000#32 reduces_S128x1024_S128 (.inl rfl) rfl : S128.Idx → EReal) (ix1 r)
      = ∑ l : Fin 1024, v (ix2 r l) := by
  refine (Ideal.multiReduction_add_single v _ reduces_S128x1024_S128 (.inl rfl) rfl (ix1 r)).trans ?_
  exact Finset.sum_congr rfl fun l _ => congrArg v (Shape.idx_ext₂ rfl rfl)

section
variable (x2 : S128x1024.Idx → EReal) (x3 : S128x128.Idx → EReal) (X0 X1 X2 X3 : S1x128x1024.Idx → EReal)

/-- The merged rows, as the body writes them. -/
abbrev kMerged : S128x1024.Idx → EReal :=
  addf (F := Ideal) (φ := .f32) (addf (F := Ideal) (φ := .f32) (addf (F := Ideal) (φ := .f32) (addf (F := Ideal) (φ := .f32) x2
    (mulf (F := Ideal) (φ := .f32) (broadcastTo S128x1024 (extractStridedSlice S128x1 ![0, 0] x3 slices_S128x128_o0_0_S128x1) broadcasts_S128x1_S128x1024)
      (shapeCast S128x1024 X0 shapeCasts_S1x128x1024_S128x1024)))
    (mulf (F := Ideal) (φ := .f32) (broadcastTo S128x1024 (extractStridedSlice S128x1 ![0, 1] x3 slices_S128x128_o0_1_S128x1) broadcasts_S128x1_S128x1024)
      (shapeCast S128x1024 X1 shapeCasts_S1x128x1024_S128x1024)))
    (mulf (F := Ideal) (φ := .f32) (broadcastTo S128x1024 (extractStridedSlice S128x1 ![0, 2] x3 slices_S128x128_o0_2_S128x1) broadcasts_S128x1_S128x1024)
      (shapeCast S128x1024 X2 shapeCasts_S1x128x1024_S128x1024)))
    (mulf (F := Ideal) (φ := .f32) (broadcastTo S128x1024 (extractStridedSlice S128x1 ![0, 3] x3 slices_S128x128_o0_3_S128x1) broadcasts_S128x1_S128x1024)
      (shapeCast S128x1024 X3 shapeCasts_S1x128x1024_S128x1024))

/-- The merged row of one staged token. -/
abbrev mrow (r : Fin 128) : Fin 1024 → EReal :=
  merged (fun k => x2 (ix2 r k)) (fun q => x3 (ix2 r (q.castLE (by omega)))) (fun q k => (![X0, X1, X2, X3] q) (ix3 (0 : Fin 1) r k))

theorem kMerged_apply (r : Fin 128) (k : Fin 1024) : kMerged x2 x3 X0 X1 X2 X3 (ix2 r k) = mrow x2 x3 X0 X1 X2 X3 r k := by
  have e : ∀ {a b c d a' b' c' d' x : EReal}, a = a' → b = b' → c = c' → d = d' → x + a + b + c + d = x + (a' + b' + c' + d') := by
    rintro a b c d _ _ _ _ x rfl rfl rfl rfl; simp only [add_assoc]
  refine Eq.trans ?_ (congrArg (x2 (ix2 r k) + ·) (Fin.sum_univ_four _).symm)
  exact e (congrArg₂ (· * ·) (gate_col x3 0 _ r k) (rows_cast X0 r k)) (congrArg₂ (· * ·) (gate_col x3 1 _ r k) (rows_cast X1 r k))
    (congrArg₂ (· * ·) (gate_col x3 2 _ r k) (rows_cast X2 r k)) (congrArg₂ (· * ·) (gate_col x3 3 _ r k) (rows_cast X3 r k))

/-- A block's rows, each normalised. -/
abbrev kNormed (x : S128x1024.Idx → EReal) : S128x1024.Idx → EReal :=
  mulf (F := Ideal) (φ := .f32) x
    (broadcastTo S128x1024 (rsqrt (F := Ideal) (φ := .f32) (addf (F := Ideal) (φ := .f32)
      (divf (F := Ideal) (φ := .f32) (shapeCast S128x1 (multiReduction (F := Ideal) (φ := .f32) .add [1] S128 (mulf (F := Ideal) (φ := .f32) x x)
          0x00000000#32 reduces_S128x1024_S128 (.inl rfl) rfl) shapeCasts_S128_S128x1)
        (broadcast S128x1 (Scalar.ofBits (F := Ideal) .f32 0x44800000#32)))
      (broadcast S128x1 (Scalar.ofBits (F := Ideal) .f32 0x358637BD#32)))) broadcasts_S128x1_S128x1024)

theorem kNormed_apply (x : S128x1024.Idx → EReal) (r : Fin 128) (k : Fin 1024) :
    kNormed x (ix2 r k) = x (ix2 r k) * factor (fun k => x (ix2 r k)) := by
  refine congrArg (x (ix2 r k) * ·) ?_
  refine (broadcastTo_apply _ _ (ix2 r k) (ix2 r (0 : Fin 1)) fun a => by fin_cases a <;> rfl).trans ?_
  refine congrArg (fun z => Ideal.rsqrt (Ideal.div z (Ideal.ofBits .f32 0x44800000#32) + Ideal.ofBits .f32 0x358637BD#32)) ?_
  refine (shapeCast_apply _ _ (ix2 r (0 : Fin 1)) (ix1 r) ?_).trans (row_sum _ r)
  rw [Shape.rowMajor_val_one, Shape.rowMajor_val_two]
  show r.val = r.val * 1 + 0
  omega

/-- The block the body stores: each staged token's row through the layer. -/
theorem outB_apply (x4 : S128x256.Idx → EReal) (x5 : S1024x1024.Idx → EReal) (x6 : S256x1024.Idx → EReal) (r : Fin 128) (j : Fin 1024) :
    (outB (F := Ideal) x2 x3 x4 x5 x6 X0 X1 X2 X3 : S128x1024.Idx → EReal) (ix2 r j)
      = rowOut (mrow x2 x3 X0 X1 X2 X3 r) (fun k => x4 (ix2 r k)) (fun k j => x5 (ix2 k j)) (fun k j => x6 (ix2 k j)) j := by
  unfold outB k0_pay1 k0_pay2 k0_pay3 k0_pay4
  refine congrArg₂ (· + ·) (kMerged_apply x2 x3 X0 X1 X2 X3 r j) (congrArg₂ (· * ·) (congrArg Ideal.logistic ?_) ?_)
  · refine (Ideal.matmul_plain_apply (M := 128) (K := 1024) (N := 1024) (φ₁ := .bf16) (φ₂ := .bf16) none (kNormed (kMerged x2 x3 X0 X1 X2 X3))
      (shapeCast S1024x1024 x5 shapeCasts_S1024x1024_S1024x1024) _ r j).trans ?_
    show Ideal.ofBits .f32 0x00000000#32 + _ = _
    rw [Ideal.ofBits_zero_f32, zero_add, shapeCast_self]
    refine Finset.sum_congr rfl fun k _ => congrArg (· * x5 (ix2 k j)) ?_
    rw [kNormed_apply, funext (kMerged_apply x2 x3 X0 X1 X2 X3 r), kMerged_apply]
  · refine (Ideal.matmul_plain_apply (M := 128) (K := 256) (N := 1024) (φ₁ := .bf16) (φ₂ := .bf16) none x4
      (shapeCast S256x1024 x6 shapeCasts_S256x1024_S256x1024) _ r j).trans ?_
    show Ideal.ofBits .f32 0x00000000#32 + _ = _
    rw [Ideal.ofBits_zero_f32, zero_add, shapeCast_self]
end

end Cert.Cmb.Hand

end
-- ==== Proof.CmbArr.lean ====
/-
  The combination's result array: each staged block read off its argument, what a grid point writes back, and the whole
  array after the run.
-/
module

public import proofs.«01_k».proof.Proof.CmbPay
public import proofs.«01_k».proof.Proof.CmbPre

@[expose] public section

set_option maxRecDepth 16384

noncomputable section

namespace Cert.Cmb.Hand

open Cert.Cmb Cert.Cmb.Gen
open Idealize.ShloMosaic Idealize.ShloMosaic.TcCoe Idealize.SL.Sem
open Idealize.ShloMosaic.ValueIdx
open Idealize.ShloMosaic.Pipeline (Dat)
open Cert.Proof.Cmb

variable (m : (ℓ : Loc nD τ sig) → Buf (Elt Ideal) ℓ) (ρ : Dev nD → PrngReg)

/-- The experts' rows as launched. -/
abbrev argY (c : Dev nD) : S147456x1024.Idx → EReal := m ((c : Thread nD τ).loc main_arg1)
/-- The residual rows as launched. -/
abbrev argH (c : Dev nD) : S32768x1024.Idx → EReal := m ((c : Thread nD τ).loc main_arg2)
/-- The gates of the slots as launched. -/
abbrev argG (c : Dev nD) : S32768x128.Idx → EReal := m ((c : Thread nD τ).loc main_arg3)
/-- The embeddings as launched. -/
abbrev argP (c : Dev nD) : S32768x256.Idx → EReal := m ((c : Thread nD τ).loc main_arg4)
/-- The gate's weight as launched. -/
abbrev argW (c : Dev nD) : S1024x1024.Idx → EReal := m ((c : Thread nD τ).loc main_arg5)
/-- The projection as launched. -/
abbrev argW' (c : Dev nD) : S256x1024.Idx → EReal := m ((c : Thread nD τ).loc main_arg6)

/-- The result array of the arguments as launched. -/
abbrev res (c : Dev nD) : S32768x1024.Idx → EReal :=
  layer (argS m c) (argY m c) (argH m c) (argG m c) (argP m c) (argW m c) (argW' m c)

/-! ## The arrays the launch prepares -/

theorem V_gate (c : Dev nD) (i : S1024x1024.Idx) : (V m c main_v3 : S1024x1024.Idx → EReal) i = argW m c i := by
  have e : V m c main_v3 = (truncf (s := S1024x1024) (φ := .f32) (F := Ideal) .bf16 (m ((c : Thread nD τ).loc main_arg5)) bitsLt_bf16_f32) := by
    show StableHlo.after hostOps0 (fun b => m (c, b)) _ = _
    after_results
  rw [e]
  rfl

theorem V_proj (c : Dev nD) (i : S256x1024.Idx) : (V m c main_v4 : S256x1024.Idx → EReal) i = argW' m c i := by
  have e : V m c main_v4 = (truncf (s := S256x1024) (φ := .f32) (F := Ideal) .bf16 (m ((c : Thread nD τ).loc main_arg6)) bitsLt_bf16_f32) := by
    show StableHlo.after hostOps0 (fun b => m (c, b)) _ = _
    after_results
  rw [e]
  rfl

/-! ## The staged blocks -/

section
variable (c : Dev nD) (t : Fin cfg0.N)

theorem point_lt : t.val < 256 := lt_of_lt_of_eq t.isLt (N_256 : cfg0.N = 256)

/-- Row `r` of a grid point's block as a row of the arrays. -/
abbrev rowOf (r : Fin 128) : Fin 32768 := ⟨128 * t.val + r.val, by have := point_lt t; omega⟩

/-- Where a point's block of rows sits. -/
theorem place : (BitVec.ofNat 32 (grid0.coords t 0).val).toNat = t.val := by rw [pt_toNat, coord t]

theorem stage_rows (r : Fin 128) (k : Fin 1024) : (iblk m c 2 t : S128x1024.Idx → EReal) (ix2 r k) = argH m c (ix2 (rowOf t r) k) := by
  show (V m c main_arg2 : S32768x1024.Idx → EReal) (((cfg0.win 2).blk t).view.emb (ix2 r k)) = _
  rw [V_main_arg2]
  refine congrArg (argH m c) (Shape.idx_ext₂ ?_ ?_)
  · show (BitVec.ofNat 32 (grid0.coords t 0).val).toNat * 128 + 1 * r.val = 128 * t.val + r.val
    rw [place]; omega
  · show 0 * 1024 + 1 * k.val = k.val; omega

theorem stage_gates (r : Fin 128) (k : Fin 128) : (iblk m c 3 t : S128x128.Idx → EReal) (ix2 r k) = argG m c (ix2 (rowOf t r) k) := by
  show (V m c main_arg3 : S32768x128.Idx → EReal) (((cfg0.win 3).blk t).view.emb (ix2 r k)) = _
  rw [V_main_arg3]
  refine congrArg (argG m c) (Shape.idx_ext₂ ?_ ?_)
  · show (BitVec.ofNat 32 (grid0.coords t 0).val).toNat * 128 + 1 * r.val = 128 * t.val + r.val
    rw [place]; omega
  · show 0 * 128 + 1 * k.val = k.val; omega

theorem stage_embeddings (r : Fin 128) (k : Fin 256) : (iblk m c 4 t : S128x256.Idx → EReal) (ix2 r k) = argP m c (ix2 (rowOf t r) k) := by
  show (V m c main_arg4 : S32768x256.Idx → EReal) (((cfg0.win 4).blk t).view.emb (ix2 r k)) = _
  rw [V_main_arg4]
  refine congrArg (argP m c) (Shape.idx_ext₂ ?_ ?_)
  · show (BitVec.ofNat 32 (grid0.coords t 0).val).toNat * 128 + 1 * r.val = 128 * t.val + r.val
    rw [place]; omega
  · show 0 * 256 + 1 * k.val = k.val; omega

theorem stage_gate (k : Fin 1024) (j : Fin 1024) : (iblk m c 5 t : S1024x1024.Idx → EReal) (ix2 k j) = argW m c (ix2 k j) := by
  rw [← V_gate m c]
  show (V m c main_v3 : S1024x1024.Idx → EReal) (((cfg0.win 5).blk t).view.emb (ix2 k j)) = _
  refine congrArg (V m c main_v3 : S1024x1024.Idx → EReal) (Shape.idx_ext₂ ?_ ?_)
  · show 0 * 1024 + 1 * k.val = k.val; omega
  · show 0 * 1024 + 1 * j.val = j.val; omega

theorem stage_proj (k : Fin 256) (j : Fin 1024) : (iblk m c 6 t : S256x1024.Idx → EReal) (ix2 k j) = argW' m c (ix2 k j) := by
  rw [← V_proj m c]
  show (V m c main_v4 : S256x1024.Idx → EReal) (((cfg0.win 6).blk t).view.emb (ix2 k j)) = _
  refine congrArg (V m c main_v4 : S256x1024.Idx → EReal) (Shape.idx_ext₂ ?_ ?_)
  · show 0 * 256 + 1 * k.val = k.val; omega
  · show 0 * 1024 + 1 * j.val = j.val; omega

/-- The gathered rows are the experts' rows the slots name. -/
theorem gathered (q : Fin 4) (r : Fin 128) (k : Fin 1024) :
    (Xb (F := Ideal) q (tok m c t.val) (V m c main_arg1) : S1x128x1024.Idx → EReal) (ix3 (0 : Fin 1) r k)
      = argY m c (ix2 (Fin.ofNat 147456 (argS m c (ix2 (rowOf t r) q)).toNat) k) := by
  have ht := point_lt t
  have hq := q.isLt
  have hr := r.isLt
  have h : 128 * q.val + r.val < 512 := by omega
  show (V m c main_arg1 : S147456x1024.Idx → EReal) (ix2 (Fin.ofNat 147456 (words m c (Fin.ofNat 256 t.val) (ix3 0 0 (⟨128 * q.val + r.val, h⟩ : Fin 512))).toNat) k) = _
  rw [words_eq, V_main_arg1]
  refine congrArg (fun z => argY m c (ix2 (Fin.ofNat 147456 (argS m c z).toNat) k)) (Shape.idx_ext₂ ?_ ?_)
  · show 128 * (t.val % 256) + (128 * q.val + r.val) % 128 = 128 * t.val + r.val
    omega
  · show (128 * q.val + r.val) / 128 = q.val
    omega

/-- What a grid point leaves in the output's staging buffer. -/
theorem outAt_apply (r : Fin 128) (j : Fin 1024) : (outAt m c t : S128x1024.Idx → EReal) (ix2 r j) = res m c (ix2 (rowOf t r) j) := by
  refine (outB_apply _ _ _ _ _ _ _ _ _ r j).trans ?_
  rw [funext (stage_embeddings m c t r), funext fun k => funext (stage_gate m c t k), funext fun k => funext (stage_proj m c t k)]
  refine congrArg (fun x => rowOut x _ _ _ j) (funext fun k => ?_)
  refine congrArg₂ (· + ·) (stage_rows m c t r k) (Finset.sum_congr rfl fun q _ => congrArg₂ (· * ·) (stage_gates m c t r _) ?_)
  refine Eq.trans ?_ (gathered m c t q r k)
  fin_cases q <;> rfl

/-! ## The whole array -/

/-- A grid point writes back its 128 rows of the result. -/
theorem flushed_eq : (dats m 0 c).flushed 7 t = ((cfg0.win 7).blk t).view.read (Elt Ideal) (res m c) := by
  show (cfg0.win 7).cut (cfg0.grid.coords t) ((dats m 0 c).after 7 t) = _
  rw [after0_7]
  refine funext (fun y : S128x1024.Idx => ?_)
  obtain ⟨r, j, rfl⟩ : ∃ (r : Fin 128) (j : Fin 1024), y = ix2 r j := ⟨y 0, y 1, Shape.idx_ext₂ rfl rfl⟩
  refine (outAt_apply m c t r j).trans (congrArg (res m c) (Shape.idx_ext₂ ?_ ?_))
  · show 128 * t.val + r.val = (BitVec.ofNat 32 (grid0.coords t 0).val).toNat * 128 + 1 * r.val
    rw [place]; omega
  · show j.val = 0 * 1024 + 1 * j.val; omega

/-- The point's block of the result is its 128 rows. -/
theorem mem_block (i : S32768x1024.Idx) (h0 : t.val * 128 ≤ (i 0).val) (h0' : (i 0).val < t.val * 128 + 128) :
    i ∈ ((cfg0.win 7).blk t).view.set := by
  have h1 : (i 1).val < 1024 := (i 1).isLt
  show i ∈ ((View.whole main_v5).slice ((cfg0.win 7).rect t)).set
  refine Eq.mpr (congrArg (fun S => i ∈ S) (View.set_slice_whole main_v5 ((cfg0.win 7).rect t))) ?_
  refine Rect.mem_set_unit.mpr fun a => ?_
  match a with
  | ⟨0, _⟩ =>
    show (BitVec.ofNat 32 (grid0.coords t 0).val).toNat * 128 ≤ (i 0).val ∧ (i 0).val < (BitVec.ofNat 32 (grid0.coords t 0).val).toNat * 128 + 128
    rw [place]; exact ⟨h0, h0'⟩
  | ⟨1, _⟩ =>
    show 0 * 1024 ≤ (i 1).val ∧ (i 1).val < 0 * 1024 + 1024
    omega
end

/-- Every entry is written: row `i` belongs to block `i / 128`. -/
theorem cover (i : S32768x1024.Idx) : ∃ t : Fin cfg0.N, (cfg0.win 7).flush t = true ∧ i ∈ ((cfg0.win 7).blk t).view.set := by
  have h0 : (i 0).val < 32768 := (i 0).isLt
  have hN : cfg0.N = 256 := N_256
  have ht : (i 0).val / 128 < cfg0.N := by omega
  exact ⟨⟨(i 0).val / 128, ht⟩, flush7 _, mem_block _ i (by dsimp only; omega) (by dsimp only; omega)⟩

/-- The result array after the run. -/
theorem final (c : Dev nD) : (dats m 0 c).arrAt 7 cfg0.N = res m c :=
  (dats m 0 c).arrAt_eq_of_cover 7 (res m c) (fun t _ => flushed_eq m c t) cover

end Cert.Cmb.Hand

end
-- ==== Proof.CmbRefArr.lean ====
/-
  The combination's reference, entry by entry: the experts' rows gathered by slot, weighted and summed onto the
  residual, the sum normalised and multiplied out, and the embedding's projection let through by the logistic of it.
-/
module

public import proofs.«01_k».proof.Proof.MoeGather
public import proofs.«01_k».proof.Proof.CmbMath
public import proofs.«01_k».proof.Proof.InOdd
public import proofs.«01_k».proof.Proof.Gen.CmbRefIdeal
public import Idealize.ShloMosaic.Lib.StackMember
public import Idealize.ShloMosaic.Lib.IdealHost

@[expose] public section

set_option maxRecDepth 16384

noncomputable section

namespace Cert.Proof.Cmb

open Idealize.ShloMosaic Idealize.ShloMosaic.TcCoe Idealize.SL.Sem Idealize.ShloMosaic.ValueIdx
open Cert.CmbRefIdeal Cert.CmbRefIdeal.Facts₀
open Cert.Proof.Moe (gather_rows signed_of_lt)
open Cert.InOddIdeal.Rows (factor)

variable (s : S32768x4.Idx → BitVec 32) (y : S147456x1024.Idx → EReal) (h : S32768x1024.Idx → EReal) (g : S32768x128.Idx → EReal)
  (p : S32768x256.Idx → EReal) (w : S1024x1024.Idx → EReal) (w' : S256x1024.Idx → EReal)

/-- The slots with a unit axis. -/
abbrev colS : S32768x4x1.Idx → BitVec 32 := broadcastInDim S32768x4x1 ![0, 1] bcast_S32768x4_S32768x4x1_0_1 s

theorem colS_apply (t : Fin 32768) (q : Fin 4) : colS s (ix3 t q (0 : Fin 1)) = s (ix2 t q) :=
  broadcastInDim_apply _ _ s (ix3 t q (0 : Fin 1)) (ix2 t q) fun a => by fin_cases a <;> rfl

/-- The gathered rows times their gates. -/
abbrev refParts : S32768x4x1024.Idx → EReal :=
  mulf (F := Ideal) (φ := .f32) (Host.gather gather_S147456x1024_S32768x4x1_S32768x4x1024_2_0_n_n_0_2_11024 y (colS s))
    (broadcastInDim S32768x4x1024 ![0, 1, 2] bcast_S32768x4x1_S32768x4x1024_0_1_2 (broadcastInDim S32768x4x1 ![0, 1] bcast_S32768x4_S32768x4x1_0_1
      (extractStridedSlice S32768x4 ![0, 0] g slices_S32768x128_S32768x4_0_0)))

theorem refParts_apply (hS : ∀ (t : Fin 32768) (q : Fin 4), (s (ix2 t q)).toNat < 147456) (t : Fin 32768) (q : Fin 4) (k : Fin 1024) :
    refParts s y g (ix3 t q k) = g (ix2 t (q.castLE (by omega))) * y (ix2 (Fin.ofNat 147456 (s (ix2 t q)).toNat) k) := by
  refine Eq.trans (congrArg₂ (· * ·) ?_ ?_) (mul_comm _ _)
  · refine gather_rows _ _ _ t q k (Fin.ofNat 147456 (s (ix2 t q)).toNat) ?_
    rw [colS_apply, signed_of_lt (by norm_num) (hS t q)]
    exact (Nat.mod_eq_of_lt (hS t q)).symm
  · refine (broadcastInDim_apply _ _ _ (ix3 t q k) (ix3 t q (0 : Fin 1)) fun a => by fin_cases a <;> rfl).trans ?_
    refine (broadcastInDim_apply _ _ _ (ix3 t q (0 : Fin 1)) (ix2 t q) fun a => by fin_cases a <;> rfl).trans ?_
    refine extractStridedSlice_apply _ g _ (ix2 t q) (ix2 t (q.castLE (by omega))) fun a => ?_
    match a with
    | ⟨0, _⟩ => exact (Nat.zero_add _).symm
    | ⟨1, _⟩ => exact (Nat.zero_add _).symm

/-- The merged rows. -/
abbrev refMerged : S32768x1024.Idx → EReal :=
  addf (F := Ideal) (φ := .f32) h (Host.reduceAdd (F := Ideal) (φ := .f32) (refParts s y g) (constant S_ .f32 0x00000000#32) reducesTo_S32768x4x1024_S32768x1024_d1 h_S_)

theorem refMerged_apply (hS : ∀ (t : Fin 32768) (q : Fin 4), (s (ix2 t q)).toNat < 147456) (t : Fin 32768) (k : Fin 1024) :
    refMerged s y h g (ix2 t k) = row s y h g t k := by
  refine congrArg (h (ix2 t k) + ·) ?_
  refine (Ideal.hostReduceAdd_single reducesTo_S32768x4x1024_S32768x1024_d1 (by decide : S32768x4x1024.Reduces [1] S32768x1024) (refParts s y g) _ (ix2 t k)).trans ?_
  show Ideal.ofBits .f32 0x00000000#32 + _ = _
  rw [Ideal.ofBits_zero_f32, zero_add]
  refine Finset.sum_congr rfl fun q _ => Eq.trans (congrArg (refParts s y g) ?_) (refParts_apply s y g hS t q k)
  funext a
  match a with
  | ⟨0, _⟩ => rfl
  | ⟨1, _⟩ => rfl
  | ⟨2, _⟩ => rfl

/-- The rows normalised. -/
abbrev refNormed (x : S32768x1024.Idx → EReal) : S32768x1024.Idx → EReal :=
  mulf (F := Ideal) (φ := .f32) x (broadcastInDim S32768x1024 ![0, 1] bcast_S32768x1_S32768x1024_0_1
      (Host.rsqrt (F := Ideal) (φ := .f32) (addf (F := Ideal) (φ := .f32) (Host.divf (F := Ideal) (φ := .f32) (broadcastInDim S32768x1 ![0] bcast_S32768_S32768x1_0
          (Host.reduceAdd (F := Ideal) (φ := .f32) (mulf (F := Ideal) (φ := .f32) x x) (constant S_ .f32 0x00000000#32) reducesTo_S32768x1024_S32768_d1 h_S_))
        (broadcastInDim S32768x1 ![] bcast_S_S32768x1 (constant (F := Ideal) S_ .f32 0x44800000#32)))
        (broadcastInDim S32768x1 ![] bcast_S_S32768x1 (constant (F := Ideal) S_ .f32 0x358637BD#32)))))

theorem refNormed_apply (x : S32768x1024.Idx → EReal) (r : Fin 32768) (k : Fin 1024) :
    refNormed x (ix2 r k) = x (ix2 r k) * factor (fun l => x (ix2 r l)) := by
  refine congrArg (x (ix2 r k) * ·) ?_
  refine (broadcastInDim_apply _ _ _ (ix2 r k) (ix2 r (0 : Fin 1)) fun a => by fin_cases a <;> rfl).trans ?_
  refine congrArg (fun z => Ideal.rsqrt (Ideal.div z (Ideal.ofBits .f32 0x44800000#32) + Ideal.ofBits .f32 0x358637BD#32)) ?_
  exact (broadcastInDim_apply _ _ _ (ix2 r (0 : Fin 1)) (ix1 r) fun a => by fin_cases a; rfl).trans (InOdd.ref_row_sum _ r)

/-- One in every place. -/
abbrev ones : S32768x1024.Idx → EReal := broadcastInDim S32768x1024 ![] bcast_S_S32768x1024 (constant (F := Ideal) S_ .f32 0x3F800000#32)

/-- The reference's whole term over the merged rows. -/
abbrev refTerm (x : S32768x1024.Idx → EReal) : S32768x1024.Idx → EReal :=
  addf (F := Ideal) (φ := .f32) x (mulf (F := Ideal) (φ := .f32)
    (Host.divf (F := Ideal) (φ := .f32) ones (addf (F := Ideal) (φ := .f32) ones (Host.exp (F := Ideal) (φ := .f32) (Host.negf (F := Ideal) (φ := .f32)
      (Host.dotGeneral (F := Ideal) dot_S32768x1024_S1024x1024_S32768x1024_1_0_0_1_n_n none (refNormed x) (φ₁ := .f32) (φ₂ := .f32) w)))))
    (Host.dotGeneral (F := Ideal) dot_S32768x256_S256x1024_S32768x1024_1_0_0_1_n_n none p (φ₁ := .f32) (φ₂ := .f32) w'))

theorem ref_apply (hS : ∀ (t : Fin 32768) (q : Fin 4), (s (ix2 t q)).toNat < 147456) (i : S32768x1024.Idx) :
    refTerm p w w' (refMerged s y h g) i = layer s y h g p w w' i := by
  obtain ⟨r, j, rfl⟩ : ∃ (r : Fin 32768) (j : Fin 1024), i = ix2 r j := ⟨i 0, i 1, Shape.idx_ext₂ rfl rfl⟩
  have e : (fun l => refMerged s y h g (ix2 r l)) = row s y h g r := funext (refMerged_apply s y h g hS r)
  have ed : (Host.dotGeneral (F := Ideal) dot_S32768x1024_S1024x1024_S32768x1024_1_0_0_1_n_n none (refNormed (refMerged s y h g)) (φ₁ := .f32) (φ₂ := .f32) w : S32768x1024.Idx → EReal) (ix2 r j)
      = ∑ k : Fin 1024, row s y h g r k * factor (row s y h g r) * w (ix2 k j) := by
    refine (StackMember.dotGeneral_plain_apply (m := 32768) (n := 1024) (k := 1024) (φ₁ := .f32) (φ₂ := .f32) none (refNormed (refMerged s y h g)) w r j).trans ?_
    refine Finset.sum_congr rfl fun k _ => congrArg (· * w (ix2 k j)) ((refNormed_apply _ r k).trans ?_)
    exact congrArg₂ (· * ·) (congrFun e k) (congrArg factor e)
  refine congrArg₂ (· + ·) (congrFun e j) (congrArg₂ (· * ·) ?_ ?_)
  · refine Eq.trans ?_ (congrArg Ideal.logistic ed)
    show Ideal.div (Ideal.ofBits .f32 0x3F800000#32) (Ideal.ofBits .f32 0x3F800000#32 + Ideal.exp (-_)) = _
    rw [Ideal.ofBits_one_f32]
    rfl
  · exact StackMember.dotGeneral_plain_apply (m := 32768) (n := 1024) (k := 256) (φ₁ := .f32) (φ₂ := .f32) none p w' r j

end Cert.Proof.Cmb

end
-- ==== Proof.Cmb.lean ====
/-
  The claim about the combination: from equal arguments the kernel that copies each slot's row and the reference that
  gathers whole arrays end with the same array.
-/
module

public import proofs.«01_k».proof.Proof.CmbFrame
public import proofs.«01_k».proof.Proof.CmbArr
public import proofs.«01_k».proof.Proof.CmbRefArr

@[expose] public section

set_option maxRecDepth 16384

noncomputable section

namespace Cert.Proof.Cmb

open Idealize.ShloMosaic Idealize.ShloMosaic.TcCoe Idealize.SL.Sem Idealize.ShloMosaic.ValueIdx
open Cert.Cmb.Hand (argS)

/-- What the precondition says of the slots. -/
theorem bounds_ideal (m : (ℓ : Loc Cert.CmbIdeal.nD Cert.CmbIdeal.τ Cert.CmbIdeal.sig) → Buf (Elt Ideal) ℓ) (h : Cert.Pre_CmbIdeal m) (c : Dev Cert.CmbIdeal.nD)
    (t : Fin 32768) (q : Fin 4) : (argS (F := Ideal) m c (ix2 t q)).toNat < 147456 := bounds _ _ _ _ _ _ _ (h c) t q

/-- From equal arguments the two programs end with equal results. -/
theorem algebraic : Cert.algebraic_CmbIdeal_CmbRefIdeal := by
  intro m ρ m' ρ' hp hag
  refine ⟨fun c => Cert.Cmb.Hand.res m c, transfer _ _ ((θ_run Cert.Cmb.defs _ _).mono
    (fun _ h c => ⟨(h c).1.trans (Cert.Cmb.Hand.final m c), (h c).2⟩) (Cert.Cmb.Hand.run_result (F := Ideal) m ρ (good_ideal m hp))), ?_⟩
  refine (θ_run Cert.CmbRefIdeal.defs _ _).mono (fun _ h c => ⟨(h c).1.trans ?_, (h c).2⟩)
    (Cert.CmbRefIdeal.Value.run (F := Ideal) m' ρ')
  obtain ⟨h0, h1, h2, h3, h4, h5, h6⟩ := hag c
  rw [h0, h1, h2, h3, h4, h5, h6]
  exact funext fun i => ref_apply _ _ _ _ _ _ _ (bounds_ideal m hp c) i

end Cert.Proof.Cmb

end
-- ==== Proof.CmpMath.lean ====
/-
  The compression of keys and values, entry by entry. Window `n` holds the 32 tokens from `16 n` on, the last window's
  second half being the first tokens again. Each window's 2048 entries of one head, with the positions' table added,
  are multiplied into 256 hidden units, let through by their own logistic, and multiplied into 64 features; the keys'
  features are then normalised and scaled. The kernel forms both heads at once from weights spread over a zero
  background: here is the sum that says that the background adds nothing.
-/
module

public import Idealize.ShloMosaic.Lib.ValueIdx
public import Idealize.ShloMosaic.PureOps.Ideal

@[expose] public section

noncomputable section

namespace Cert.Proof.Cmp

open Idealize.ShloMosaic Idealize.ShloMosaic.ValueIdx

/-- The projections: batch, token, feature of both heads. -/
abbrev Rows := (⟨3, ![16, 2048, 128]⟩ : Shape).Idx → EReal
/-- The positions' tables of keys and of values. -/
abbrev Pos := (⟨3, ![2, 32, 64]⟩ : Shape).Idx → EReal
/-- The first weights of keys and of values. -/
abbrev Wide := (⟨3, ![2, 2048, 256]⟩ : Shape).Idx → EReal
/-- The second weights of keys and of values. -/
abbrev Narrow := (⟨3, ![2, 256, 64]⟩ : Shape).Idx → EReal

/-- The token at place `l` of window `n`. -/
def tok (n : Fin 128) (l : Fin 32) : Fin 2048 := ⟨(16 * n.val + l.val) % 2048, Nat.mod_lt _ (by norm_num)⟩
/-- The feature `d` of head `g` among the features of both heads. -/
def lane (g : Fin 2) (d : Fin 64) : Fin 128 := ⟨g.val * 64 + d.val, by omega⟩
/-- The place in the window of entry `p`. -/
def place (p : Fin 2048) : Fin 32 := ⟨p.val / 64, by omega⟩
/-- The feature of entry `p`. -/
def feat (p : Fin 2048) : Fin 64 := ⟨p.val % 64, by omega⟩
/-- The head a feature belongs to. -/
def grp (c : Fin 128) : Fin 2 := ⟨c.val / 64, by omega⟩
/-- The feature within its head. -/
def sub (c : Fin 128) : Fin 64 := ⟨c.val % 64, by omega⟩

variable (T : Rows) (P : Pos) (w : Wide) (w' : Narrow) (kv : Fin 2) (b : Fin 16)

/-- Entry `p` of window `n` of head `g`. -/
def ent (n : Fin 128) (g : Fin 2) (p : Fin 2048) : EReal :=
  T (ix3 b (tok n (place p)) (lane g (feat p))) + P (ix3 kv (place p) (feat p))
/-- Hidden unit `u` of window `n` of head `g`. -/
def hid (n : Fin 128) (g : Fin 2) (u : Fin 256) : EReal := ∑ p : Fin 2048, ent T P kv b n g p * w (ix3 kv p u)
/-- A number times its logistic. -/
def act (h : EReal) : EReal := h * Ideal.logistic h
/-- Feature `e` of window `n` of head `g`. -/
def out (n : Fin 128) (g : Fin 2) (e : Fin 64) : EReal := ∑ u : Fin 256, act (hid T P w kv b n g u) * w' (ix3 kv u e)
/-- What the features of a row are multiplied by, from the sum of their squares. -/
def fac (s : EReal) : EReal := Ideal.rsqrt (Ideal.div s (Ideal.ofBits .f32 0x42800000#32) + Ideal.ofBits .f32 0x358637BD#32)
/-- The compressed keys. -/
def keys (k : (⟨1, ![64]⟩ : Shape).Idx → EReal) : (⟨3, ![16, 128, 128]⟩ : Shape).Idx → EReal := fun i =>
  out T P w w' 0 (i 0) (i 1) (grp (i 2)) (sub (i 2))
    * fac (∑ l, out T P w w' 0 (i 0) (i 1) (grp (i 2)) l * out T P w w' 0 (i 0) (i 1) (grp (i 2)) l) * k (ix1 (sub (i 2)))
/-- The compressed values. -/
def vals : (⟨3, ![16, 128, 128]⟩ : Shape).Idx → EReal := fun i => out T P w w' 1 (i 0) (i 1) (grp (i 2)) (sub (i 2))

/-- A sum whose terms vanish off the image of an injection is the sum over the injection's source. -/
theorem sum_pick {N M : ℕ} (f : Fin N → EReal) (e : Fin M → Fin N) (he : Function.Injective e)
    (h0 : ∀ k, (∀ p, e p ≠ k) → f k = 0) : ∑ k, f k = ∑ p, f (e p) := by
  refine (Finset.sum_of_injOn e he.injOn (fun _ _ => Finset.mem_coe.2 (Finset.mem_univ _)) (fun k _ hk => h0 k fun p hp => hk ?_) fun _ _ => rfl).symm
  exact ⟨p, Finset.mem_coe.2 (Finset.mem_univ _), hp⟩

/-- Entry `p` of a half window of head `g` among the entries of both heads. -/
def emb (g : Fin 2) (p : Fin 1024) : Fin 2048 := ⟨p.val / 64 * 128 + g.val * 64 + p.val % 64, by omega⟩

theorem emb_inj (g : Fin 2) : Function.Injective (emb g) := fun p q h => by
  have h' : p.val / 64 * 128 + g.val * 64 + p.val % 64 = q.val / 64 * 128 + g.val * 64 + q.val % 64 := congrArg Fin.val h
  exact Fin.ext (by omega)

theorem off_emb (g : Fin 2) (k : Fin 2048) (h : ∀ p, emb g p ≠ k) : k.val % 128 / 64 ≠ g.val := fun hg =>
  h ⟨k.val / 128 * 64 + k.val % 64, by omega⟩ (Fin.ext (by
    show (k.val / 128 * 64 + k.val % 64) / 64 * 128 + g.val * 64 + (k.val / 128 * 64 + k.val % 64) % 64 = k.val
    omega))

/-- Hidden unit `u` of head `g` among the units of both heads. -/
def unit (g : Fin 2) (u : Fin 256) : Fin 512 := ⟨g.val * 256 + u.val, by omega⟩

theorem unit_inj (g : Fin 2) : Function.Injective (unit g) := fun p q h => by
  have h' : g.val * 256 + p.val = g.val * 256 + q.val := congrArg Fin.val h
  exact Fin.ext (by omega)

theorem off_unit (g : Fin 2) (k : Fin 512) (h : ∀ p, unit g p ≠ k) : k.val / 256 ≠ g.val := fun hg =>
  h ⟨k.val % 256, by omega⟩ (Fin.ext (by
    show g.val * 256 + k.val % 256 = k.val
    omega))

/-- The window after window `n`, around the end. -/
def nxt (n : Fin 128) : Fin 128 := ⟨(n.val + 1) % 128, by omega⟩

/-- A half window multiplied by spread weights: `o` is 0 for the first half and 16 for the second, whose entries are
    the next window's first half. -/
theorem half_sum (o : ℕ) (ho : o = 0 ∨ o = 16) (n n' : Fin 128) (hn : (16 * n.val + o) % 2048 = 16 * n'.val) (g : Fin 2) (u : Fin 256)
    (X Q : Fin 2048 → EReal) (A : Fin 2048 → Fin 512 → EReal)
    (hX : ∀ (k r : Fin 2048) (l : Fin 128), r.val = 16 * n'.val + k.val / 128 → l.val = k.val % 128 → X k = T (ix3 b r l))
    (hQ : ∀ (k : Fin 2048) (l : Fin 32) (d : Fin 64), l.val = o + k.val / 128 → d.val = k.val % 64 → Q k = P (ix3 kv l d))
    (hA : ∀ (k : Fin 2048) (q : Fin 512) (p : Fin 2048) (v : Fin 256), k.val % 128 / 64 = q.val / 256 →
      p.val = (o + k.val / 128) * 64 + k.val % 64 → v.val = q.val % 256 → A k q = w (ix3 kv p v))
    (h0 : ∀ (k : Fin 2048) (q : Fin 512), k.val % 128 / 64 ≠ q.val / 256 → A k q = 0)
    (pl : Fin 1024 → Fin 2048) (hpl : ∀ p, (pl p).val = o * 64 + p.val) :
    ∑ k, (X k + Q k) * A k (unit g u) = ∑ p : Fin 1024, ent T P kv b n g (pl p) * w (ix3 kv (pl p) u) := by
  have hu : (unit g u).val = g.val * 256 + u.val := rfl
  refine (sum_pick _ (emb g) (emb_inj g) fun k hk => ?_).trans (Finset.sum_congr rfl fun p _ => ?_)
  · rw [h0 k _ (by have := off_emb g k hk; omega), mul_zero]
  · have he : (emb g p).val = p.val / 64 * 128 + g.val * 64 + p.val % 64 := rfl
    have hp := hpl p
    have hn' := n'.isLt
    refine congrArg₂ (· * ·) (congrArg₂ (· + ·) (hX _ _ _ ?_ ?_) (hQ _ _ _ ?_ ?_)) (hA _ _ _ _ ?_ ?_ ?_)
    · show (16 * n.val + (pl p).val / 64) % 2048 = _
      omega
    · show g.val * 64 + (pl p).val % 64 = _
      rcases ho with rfl | rfl <;> omega
    · show (pl p).val / 64 = _
      omega
    · show (pl p).val % 64 = _
      omega
    · omega
    · omega
    · omega

variable (X : Fin 128 → Fin 2048 → EReal) (Q₁ Q₂ : Fin 2048 → EReal) (A B : Fin 2048 → Fin 512 → EReal) (W : Fin 512 → Fin 128 → EReal)

/-- The hidden units of both heads as the kernel forms them. -/
def hidK (n : Fin 128) (q : Fin 512) : EReal := ∑ k, (X n k + Q₁ k) * A k q + ∑ k, (X (nxt n) k + Q₂ k) * B k q
/-- The features of both heads as the kernel forms them. -/
def outK (n c : Fin 128) : EReal := ∑ q, act (hidK X Q₁ Q₂ A B n q) * W q c

/-- The kernel's features are the features. -/
theorem outK_eq
    (hX : ∀ (n : Fin 128) (k r : Fin 2048) (l : Fin 128), r.val = 16 * n.val + k.val / 128 → l.val = k.val % 128 → X n k = T (ix3 b r l))
    (hQ₁ : ∀ (k : Fin 2048) (l : Fin 32) (d : Fin 64), l.val = 0 + k.val / 128 → d.val = k.val % 64 → Q₁ k = P (ix3 kv l d))
    (hQ₂ : ∀ (k : Fin 2048) (l : Fin 32) (d : Fin 64), l.val = 16 + k.val / 128 → d.val = k.val % 64 → Q₂ k = P (ix3 kv l d))
    (hA : ∀ (k : Fin 2048) (q : Fin 512) (p : Fin 2048) (v : Fin 256), k.val % 128 / 64 = q.val / 256 →
      p.val = (0 + k.val / 128) * 64 + k.val % 64 → v.val = q.val % 256 → A k q = w (ix3 kv p v))
    (hA0 : ∀ (k : Fin 2048) (q : Fin 512), k.val % 128 / 64 ≠ q.val / 256 → A k q = 0)
    (hB : ∀ (k : Fin 2048) (q : Fin 512) (p : Fin 2048) (v : Fin 256), k.val % 128 / 64 = q.val / 256 →
      p.val = (16 + k.val / 128) * 64 + k.val % 64 → v.val = q.val % 256 → B k q = w (ix3 kv p v))
    (hB0 : ∀ (k : Fin 2048) (q : Fin 512), k.val % 128 / 64 ≠ q.val / 256 → B k q = 0)
    (hW : ∀ (q : Fin 512) (c : Fin 128) (v : Fin 256) (e : Fin 64), q.val / 256 = c.val / 64 → v.val = q.val % 256 → e.val = c.val % 64 →
      W q c = w' (ix3 kv v e))
    (hW0 : ∀ (q : Fin 512) (c : Fin 128), q.val / 256 ≠ c.val / 64 → W q c = 0) (n c : Fin 128) :
    outK X Q₁ Q₂ A B W n c = out T P w w' kv b n (grp c) (sub c) := by
  have hg : (grp c).val = c.val / 64 := rfl
  refine (sum_pick _ (unit (grp c)) (unit_inj _) fun q hq => ?_).trans (Finset.sum_congr rfl fun u _ => ?_)
  · rw [hW0 q c (by have := off_unit _ q hq; omega), mul_zero]
  · have hu : (unit (grp c) u).val = (grp c).val * 256 + u.val := rfl
    refine congrArg₂ (fun x y => act x * y) ?_ (hW _ _ _ _ (by omega) (by omega) rfl)
    refine Eq.trans ?_ (Fin.sum_univ_add (a := 1024) (b := 1024) _).symm
    refine congrArg₂ (· + ·)
      (half_sum T P w kv b 0 (Or.inl rfl) n n (by omega) _ u _ _ A (hX n) hQ₁ hA hA0 _ fun p => (Nat.zero_add _).symm.trans rfl)
      (half_sum T P w kv b 16 (Or.inr rfl) n (nxt n) ?_ _ u _ _ B (hX (nxt n)) hQ₂ hB hB0 _ fun p => rfl)
    show _ = 16 * ((n.val + 1) % 128)
    omega

end Cert.Proof.Cmp

end
-- ==== Proof.CmpHost.lean ====
/-
  The arrays the compression's kernel is given, entry by entry: the first weights' halves and the second weights spread
  over both heads, zero where the heads differ; the positions' halves and the scale repeated for both heads; and the
  projections with sixteen tokens to a row.
-/
module

public import proofs.«01_k».proof.Proof.Gen.CmpIdeal
public import proofs.«01_k».proof.Proof.CmpMath
public import Idealize.ShloMosaic.Lib.Pipeline.Value
public import Idealize.ShloMosaic.Lib.ValueIdx

@[expose] public section

set_option maxRecDepth 16384

noncomputable section

namespace Cert.CmpIdeal.Rows

open Cert.CmpIdeal Cert.CmpIdeal.Gen Idealize.ShloMosaic Idealize.ShloMosaic.ValueIdx

/-- The row-major position of an index with eight coordinates. -/
theorem rowMajor_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- Two arrays side by side along a new axis. -/
abbrev stack (x y : S2x16x64x256.Idx → EReal) : S2x16x2x64x256.Idx → EReal :=
  concatenate S2x16x2x64x256 2 [⟨S2x16x1x64x256, broadcastInDim S2x16x1x64x256 ![0, 1, 3, 4] bcast_S2x16x64x256_S2x16x1x64x256_0_1_3_4 x⟩,
    ⟨S2x16x1x64x256, broadcastInDim S2x16x1x64x256 ![0, 1, 3, 4] bcast_S2x16x64x256_S2x16x1x64x256_0_1_3_4 y⟩]
    concatenates_S2x16x1x64x256_S2x16x1x64x256_S2x16x2x64x256_d2

theorem stack_apply (x y : S2x16x64x256.Idx → EReal) (a : Fin 2) (l : Fin 16) (g : Fin 2) (d : Fin 64) (u : Fin 256) :
    stack x y (ix5 a l g d u) = if g.val = 0 then x (ix4 a l d u) else y (ix4 a l d u) := by
  by_cases hg : g.val = 0
  · rw [if_pos hg]
    refine (concatenate_pair_apply_left (t := S2x16x2x64x256) (s₁ := S2x16x1x64x256) (s₂ := S2x16x1x64x256) 2 _ _ _ _ rfl (ix5 a l (0 : Fin 1) d u) ?_).trans ?_
    · intro b
      match b with
      | ⟨0, _⟩ => rfl
      | ⟨1, _⟩ => rfl
      | ⟨2, _⟩ => exact hg.symm
      | ⟨3, _⟩ => rfl
      | ⟨4, _⟩ => rfl
    · exact broadcastInDim_apply _ _ x _ (ix4 a l d u) fun b => by fin_cases b <;> rfl
  · rw [if_neg hg]
    refine (concatenate_pair_apply_right (t := S2x16x2x64x256) (s₁ := S2x16x1x64x256) (s₂ := S2x16x1x64x256) 2 _ _ _ _ rfl rfl (ix5 a l (0 : Fin 1) d u) ?_ ?_).trans ?_
    · intro b hb
      match b, hb with
      | ⟨0, _⟩, _ => rfl
      | ⟨1, _⟩, _ => rfl
      | ⟨2, _⟩, hb => exact absurd rfl hb
      | ⟨3, _⟩, _ => rfl
      | ⟨4, _⟩, _ => rfl
    · show 0 + 1 = g.val
      have := g.isLt
      omega
    · exact broadcastInDim_apply _ _ y _ (ix4 a l d u) fun b => by fin_cases b <;> rfl

/-- Half of the first weights spread over both heads. -/
abbrev spread (p z : S2x16x64x256.Idx → EReal) : S2x2048x512.Idx → EReal :=
  shapeCast S2x2048x512 (concatenate S2x16x2x64x512 4 [⟨S2x16x2x64x256, stack p z⟩, ⟨S2x16x2x64x256, stack z p⟩]
    concatenates_S2x16x2x64x256_S2x16x2x64x256_S2x16x2x64x512_d4) shapeCasts_S2x16x2x64x512_S2x2048x512

theorem spread_apply (p z : S2x16x64x256.Idx → EReal) (a : Fin 2) (k : Fin 2048) (q : Fin 512) :
    spread p z (ix3 a k q) = (if k.val % 128 / 64 = q.val / 256 then p else z)
      (ix4 a (⟨k.val / 128, by omega⟩ : Fin 16) (⟨k.val % 64, by omega⟩ : Fin 64) (⟨q.val % 256, by omega⟩ : Fin 256)) := by
  have hg : k.val % 128 / 64 < 2 := by omega
  refine (shapeCast_apply _ _ (ix3 a k q) (ix5 a (⟨k.val / 128, by omega⟩ : Fin 16) (⟨k.val % 128 / 64, hg⟩ : Fin 2) (⟨k.val % 64, by omega⟩ : Fin 64) q) ?_).trans ?_
  · rw [Shape.rowMajor_val_five, Shape.rowMajor_val_three]
    show (((a.val * 16 + k.val / 128) * 2 + k.val % 128 / 64) * 64 + k.val % 64) * 512 + q.val = (a.val * 2048 + k.val) * 512 + q.val
    omega
  · by_cases hq : q.val < 256
    · refine (concatenate_pair_apply_left (t := S2x16x2x64x512) (s₁ := S2x16x2x64x256) (s₂ := S2x16x2x64x256) 4 _ _ _ _ rfl
        (ix5 a (⟨k.val / 128, by omega⟩ : Fin 16) (⟨k.val % 128 / 64, hg⟩ : Fin 2) (⟨k.val % 64, by omega⟩ : Fin 64) (⟨q.val % 256, by omega⟩ : Fin 256)) ?_).trans ?_
      · intro b
        match b with
        | ⟨0, _⟩ => rfl
        | ⟨1, _⟩ => rfl
        | ⟨2, _⟩ => rfl
        | ⟨3, _⟩ => rfl
        | ⟨4, _⟩ => show q.val % 256 = q.val; omega
      · rw [stack_apply]
        by_cases h : k.val % 128 / 64 = 0
        · rw [if_pos h, if_pos (by omega)]
        · rw [if_neg h, if_neg (by omega)]
    · refine (concatenate_pair_apply_right (t := S2x16x2x64x512) (s₁ := S2x16x2x64x256) (s₂ := S2x16x2x64x256) 4 _ _ _ _ rfl rfl
        (ix5 a (⟨k.val / 128, by omega⟩ : Fin 16) (⟨k.val % 128 / 64, hg⟩ : Fin 2) (⟨k.val % 64, by omega⟩ : Fin 64) (⟨q.val % 256, by omega⟩ : Fin 256)) ?_ ?_).trans ?_
      · intro b hb
        match b, hb with
        | ⟨0, _⟩, _ => rfl
        | ⟨1, _⟩, _ => rfl
        | ⟨2, _⟩, _ => rfl
        | ⟨3, _⟩, _ => rfl
        | ⟨4, _⟩, hb => exact absurd rfl hb
      · show q.val % 256 + 256 = q.val
        omega
      · rw [stack_apply]
        by_cases h : k.val % 128 / 64 = 0
        · rw [if_pos h, if_neg (by omega)]
        · rw [if_neg h, if_pos (by omega)]

/-- Half of the first weights, from place `o` on. -/
theorem half_apply (o : ℕ) (h : S2x32x64x256.Slices ![0, o, 0, 0] S2x16x64x256) (w : S2x2048x256.Idx → EReal) (a : Fin 2) (l : Fin 16) (d : Fin 64) (u : Fin 256)
    (p : Fin 2048) (hp : p.val = (o + l.val) * 64 + d.val) :
    (extractStridedSlice S2x16x64x256 ![0, o, 0, 0] (shapeCast S2x32x64x256 w shapeCasts_S2x2048x256_S2x32x64x256) h : S2x16x64x256.Idx → EReal) (ix4 a l d u)
      = w (ix3 a p u) := by
  refine (extractStridedSlice_apply _ _ _ (ix4 a l d u) (ix4 a (⟨o + l.val, by omega⟩ : Fin 32) d u) ?_).trans ?_
  · intro b
    match b with
    | ⟨0, _⟩ => exact (Nat.zero_add _).symm
    | ⟨1, _⟩ => rfl
    | ⟨2, _⟩ => exact (Nat.zero_add _).symm
    | ⟨3, _⟩ => exact (Nat.zero_add _).symm
  · refine shapeCast_apply _ _ _ (ix3 a p u) ?_
    rw [Shape.rowMajor_val_three, Shape.rowMajor_val_four]
    show (a.val * 2048 + p.val) * 256 + u.val = ((a.val * 32 + (o + l.val)) * 64 + d.val) * 256 + u.val
    omega

/-- Two arrays side by side along the last axis. -/
abbrev pair (x y : S2x256x64.Idx → EReal) : S2x256x128.Idx → EReal :=
  concatenate S2x256x128 2 [⟨S2x256x64, x⟩, ⟨S2x256x64, y⟩] concatenates_S2x256x64_S2x256x64_S2x256x128_d2

theorem pair_apply (x y : S2x256x64.Idx → EReal) (a : Fin 2) (u : Fin 256) (c : Fin 128) :
    pair x y (ix3 a u c) = (if c.val / 64 = 0 then x else y) (ix3 a u (⟨c.val % 64, by omega⟩ : Fin 64)) := by
  by_cases h : c.val / 64 = 0
  · rw [if_pos h]
    refine concatenate_pair_apply_left (t := S2x256x128) (s₁ := S2x256x64) (s₂ := S2x256x64) 2 _ _ _ _ rfl (ix3 a u (⟨c.val % 64, by omega⟩ : Fin 64)) ?_
    intro b
    match b with
    | ⟨0, _⟩ => rfl
    | ⟨1, _⟩ => rfl
    | ⟨2, _⟩ => show c.val % 64 = c.val; omega
  · rw [if_neg h]
    refine concatenate_pair_apply_right (t := S2x256x128) (s₁ := S2x256x64) (s₂ := S2x256x64) 2 _ _ _ _ rfl rfl (ix3 a u (⟨c.val % 64, by omega⟩ : Fin 64)) ?_ ?_
    · intro b hb
      match b, hb with
      | ⟨0, _⟩, _ => rfl
      | ⟨1, _⟩, _ => rfl
      | ⟨2, _⟩, hb => exact absurd rfl hb
    · show c.val % 64 + 64 = c.val
      omega

/-- The second weights spread over both heads. -/
abbrev both (x z : S2x256x64.Idx → EReal) : S2x512x128.Idx → EReal :=
  concatenate S2x512x128 1 [⟨S2x256x128, pair x z⟩, ⟨S2x256x128, pair z x⟩] concatenates_S2x256x128_S2x256x128_S2x512x128_d1

theorem both_apply (x z : S2x256x64.Idx → EReal) (a : Fin 2) (q : Fin 512) (c : Fin 128) :
    both x z (ix3 a q c) = (if q.val / 256 = c.val / 64 then x else z) (ix3 a (⟨q.val % 256, by omega⟩ : Fin 256) (⟨c.val % 64, by omega⟩ : Fin 64)) := by
  by_cases hq : q.val < 256
  · refine (concatenate_pair_apply_left (t := S2x512x128) (s₁ := S2x256x128) (s₂ := S2x256x128) 1 _ _ _ _ rfl (ix3 a (⟨q.val % 256, by omega⟩ : Fin 256) c) ?_).trans ?_
    · intro b
      match b with
      | ⟨0, _⟩ => rfl
      | ⟨1, _⟩ => show q.val % 256 = q.val; omega
      | ⟨2, _⟩ => rfl
    · rw [pair_apply]
      by_cases h : c.val / 64 = 0
      · rw [if_pos h, if_pos (by omega)]
      · rw [if_neg h, if_neg (by omega)]
  · refine (concatenate_pair_apply_right (t := S2x512x128) (s₁ := S2x256x128) (s₂ := S2x256x128) 1 _ _ _ _ rfl rfl (ix3 a (⟨q.val % 256, by omega⟩ : Fin 256) c) ?_ ?_).trans ?_
    · intro b hb
      match b, hb with
      | ⟨0, _⟩, _ => rfl
      | ⟨1, _⟩, hb => exact absurd rfl hb
      | ⟨2, _⟩, _ => rfl
    · show q.val % 256 + 256 = q.val
      omega
    · rw [pair_apply]
      by_cases h : c.val / 64 = 0
      · rw [if_pos h, if_neg (by omega)]
      · rw [if_neg h, if_pos (by omega)]

/-- An index of the array with eight axes. -/
abbrev at8 {n0 n1 n2 n3 n4 n5 n6 n7 : Nat} (a : Fin n0) (b : Fin n1) (c : Fin n2) (d : Fin n3) (e : Fin n4) (f : Fin n5) (g : Fin n6) (h : Fin n7) :
    (⟨8, ![n0, n1, n2, n3, n4, n5, n6, n7]⟩ : Shape).Idx :=
  fun i => match i with | ⟨0, _⟩ => a | ⟨1, _⟩ => b | ⟨2, _⟩ => c | ⟨3, _⟩ => d | ⟨4, _⟩ => e | ⟨5, _⟩ => f | ⟨6, _⟩ => g | ⟨7, _⟩ => h

/-- Half of the positions' tables, repeated for both heads. -/
abbrev tiled (P : S2x16x64.Idx → EReal) : S2x1x2048.Idx → EReal :=
  shapeCast S2x1x2048 (shapeCast S2x16x2x64 (broadcastInDim S1x2x1x16x2x1x1x64 ![0, 1, 2, 3, 4, 5, 6, 7] bcast_S1x2x1x16x1x1x1x64_S1x2x1x16x2x1x1x64_0_1_2_3_4_5_6_7
    (shapeCast S1x2x1x16x1x1x1x64 (broadcastInDim S2x16x1x64 ![0, 1, 3] bcast_S2x16x64_S2x16x1x64_0_1_3 P) shapeCasts_S2x16x1x64_S1x2x1x16x1x1x1x64))
    shapeCasts_S1x2x1x16x2x1x1x64_S2x16x2x64) shapeCasts_S2x16x2x64_S2x1x2048

theorem tiled_apply (P : S2x16x64.Idx → EReal) (a : Fin 2) (k : Fin 2048) :
    tiled P (ix3 a (0 : Fin 1) k) = P (ix3 a (⟨k.val / 128, by omega⟩ : Fin 16) (⟨k.val % 64, by omega⟩ : Fin 64)) := by
  have hl : k.val / 128 < 16 := by omega
  have hg : k.val % 128 / 64 < 2 := by omega
  have hd : k.val % 64 < 64 := by omega
  refine (shapeCast_apply _ _ (ix3 a (0 : Fin 1) k) (ix4 a (⟨k.val / 128, hl⟩ : Fin 16) (⟨k.val % 128 / 64, hg⟩ : Fin 2) (⟨k.val % 64, hd⟩ : Fin 64)) ?_).trans ?_
  · rw [Shape.rowMajor_val_four, Shape.rowMajor_val_three]
    show ((a.val * 16 + k.val / 128) * 2 + k.val % 128 / 64) * 64 + k.val % 64 = (a.val * 1 + 0) * 2048 + k.val
    omega
  refine (shapeCast_apply _ _ _ (at8 (0 : Fin 1) a (0 : Fin 1) (⟨k.val / 128, hl⟩ : Fin 16) (⟨k.val % 128 / 64, hg⟩ : Fin 2) (0 : Fin 1) (0 : Fin 1) (⟨k.val % 64, hd⟩ : Fin 64)) ?_).trans ?_
  · rw [rowMajor_eight, Shape.rowMajor_val_four]
    show ((((((0 * 2 + a.val) * 1 + 0) * 16 + k.val / 128) * 2 + k.val % 128 / 64) * 1 + 0) * 1 + 0) * 64 + k.val % 64
      = ((a.val * 16 + k.val / 128) * 2 + k.val % 128 / 64) * 64 + k.val % 64
    omega
  refine (broadcastInDim_apply _ _ _ _ (at8 (0 : Fin 1) a (0 : Fin 1) (⟨k.val / 128, hl⟩ : Fin 16) (0 : Fin 1) (0 : Fin 1) (0 : Fin 1) (⟨k.val % 64, hd⟩ : Fin 64)) fun b => by fin_cases b <;> rfl).trans ?_
  refine (shapeCast_apply _ _ _ (ix4 a (⟨k.val / 128, hl⟩ : Fin 16) (0 : Fin 1) (⟨k.val % 64, hd⟩ : Fin 64)) ?_).trans ?_
  · rw [rowMajor_eight, Shape.rowMajor_val_four]
    show ((a.val * 16 + k.val / 128) * 1 + 0) * 64 + k.val % 64
      = ((((((0 * 2 + a.val) * 1 + 0) * 16 + k.val / 128) * 1 + 0) * 1 + 0) * 1 + 0) * 64 + k.val % 64
    omega
  exact broadcastInDim_apply _ _ P _ _ fun b => by fin_cases b <;> rfl

/-- Half of the positions' tables, from place `o` on. -/
theorem posHalf_apply (o : ℕ) (h : S2x32x64.Slices ![0, o, 0] S2x16x64) (P : S2x32x64.Idx → EReal) (a : Fin 2) (l : Fin 16) (d : Fin 64)
    (l' : Fin 32) (hl : l'.val = o + l.val) :
    (extractStridedSlice S2x16x64 ![0, o, 0] P h : S2x16x64.Idx → EReal) (ix3 a l d) = P (ix3 a l' d) := by
  refine extractStridedSlice_apply _ _ _ (ix3 a l d) (ix3 a l' d) ?_
  intro b
  match b with
  | ⟨0, _⟩ => exact (Nat.zero_add _).symm
  | ⟨1, _⟩ => exact hl
  | ⟨2, _⟩ => exact (Nat.zero_add _).symm

/-- The scale repeated for both heads. -/
abbrev twice (g : S64.Idx → EReal) : S1x128.Idx → EReal :=
  shapeCast S1x128 (shapeCast S128 (broadcastInDim S2x64 ![0, 1] bcast_S1x64_S2x64_0_1 (shapeCast S1x64 g shapeCasts_S64_S1x64)) shapeCasts_S2x64_S128) shapeCasts_S128_S1x128

theorem twice_apply (g : S64.Idx → EReal) (c : Fin 128) : twice g (ix2 (0 : Fin 1) c) = g (ix1 (⟨c.val % 64, by omega⟩ : Fin 64)) := by
  have hd : c.val % 64 < 64 := by omega
  refine (shapeCast_apply _ _ _ (ix1 c) ?_).trans ?_
  · rw [Shape.rowMajor_val_one, Shape.rowMajor_val_two]
    show c.val = 0 * 128 + c.val
    omega
  refine (shapeCast_apply _ _ _ (ix2 (⟨c.val / 64, by omega⟩ : Fin 2) (⟨c.val % 64, hd⟩ : Fin 64)) ?_).trans ?_
  · rw [Shape.rowMajor_val_one, Shape.rowMajor_val_two]
    show c.val / 64 * 64 + c.val % 64 = c.val
    omega
  refine (broadcastInDim_apply _ _ _ _ (ix2 (0 : Fin 1) (⟨c.val % 64, hd⟩ : Fin 64)) fun b => by fin_cases b <;> rfl).trans ?_
  refine shapeCast_apply _ _ _ (ix1 (⟨c.val % 64, hd⟩ : Fin 64)) ?_
  rw [Shape.rowMajor_val_one, Shape.rowMajor_val_two]
  show c.val % 64 = 0 * 64 + c.val % 64
  omega

/-- The projections with sixteen tokens to a row. -/
theorem packed_apply (T : S16x2048x128.Idx → EReal) (b : Fin 16) (n : Fin 128) (k r : Fin 2048) (l : Fin 128)
    (hr : r.val = 16 * n.val + k.val / 128) (hl : l.val = k.val % 128) :
    (shapeCast S16x128x2048 T shapeCasts_S16x2048x128_S16x128x2048 : S16x128x2048.Idx → EReal) (ix3 b n k) = T (ix3 b r l) := by
  refine shapeCast_apply _ _ _ (ix3 b r l) ?_
  rw [Shape.rowMajor_val_three, Shape.rowMajor_val_three]
  show (b.val * 2048 + r.val) * 128 + l.val = (b.val * 128 + n.val) * 2048 + k.val
  omega

end Cert.CmpIdeal.Rows

end
-- ==== Proof.CmpV.lean ====
/-
  What the compression's kernel finds in the arrays prepared before it, as functions of the arguments.
-/
module

public import proofs.«01_k».proof.Proof.Gen.CmpIdeal.Value
public import proofs.«01_k».proof.Proof.CmpHost

@[expose] public section

set_option maxRecDepth 16384

noncomputable section

namespace Cert.CmpIdeal.Rows

open Cert.CmpIdeal Cert.CmpIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The keys' projections as launched. -/
abbrev argK (c : Dev nD) : S16x2048x128.Idx → EReal := m ((c : Thread nD τ).loc main_arg0)
/-- The values' projections as launched. -/
abbrev argV (c : Dev nD) : S16x2048x128.Idx → EReal := m ((c : Thread nD τ).loc main_arg1)
/-- The positions' tables as launched. -/
abbrev argP (c : Dev nD) : S2x32x64.Idx → EReal := m ((c : Thread nD τ).loc main_arg2)
/-- The first weights as launched. -/
abbrev argW (c : Dev nD) : S2x2048x256.Idx → EReal := m ((c : Thread nD τ).loc main_arg3)
/-- The second weights as launched. -/
abbrev argU (c : Dev nD) : S2x256x64.Idx → EReal := m ((c : Thread nD τ).loc main_arg4)
/-- The keys' scale as launched. -/
abbrev argG (c : Dev nD) : S64.Idx → EReal := m ((c : Thread nD τ).loc main_arg5)

/-- Zero in every place, over which the first weights are spread. -/
abbrev zerosW : S2x16x64x256.Idx → EReal := broadcastInDim S2x16x64x256 ![] bcast_S_S2x16x64x256 (constant (F := Ideal) S_ .f32 0x00000000#32)
/-- Zero in every place, over which the second weights are spread. -/
abbrev zerosU : S2x256x64.Idx → EReal := broadcastInDim S2x256x64 ![] bcast_S_S2x256x64 (constant (F := Ideal) S_ .f32 0x00000000#32)

/-- The first weights of the window's own half, spread. -/
theorem V_wt (c : Dev nD) : (V m c main_v11 : S2x2048x512.Idx → EReal)
    = spread (extractStridedSlice S2x16x64x256 ![0, 0, 0, 0] (shapeCast S2x32x64x256 (argW m c) shapeCasts_S2x2048x256_S2x32x64x256) slices_S2x32x64x256_S2x16x64x256_0_0_0_0) zerosW := by
  have e : V m c main_v11 = (truncf (s := S2x2048x512) (φ := .f32) (F := Ideal) .bf16
      (spread (extractStridedSlice S2x16x64x256 ![0, 0, 0, 0] (shapeCast S2x32x64x256 (m ((c : Thread nD τ).loc main_arg3)) shapeCasts_S2x2048x256_S2x32x64x256) slices_S2x32x64x256_S2x16x64x256_0_0_0_0) zerosW) bitsLt_bf16_f32) := by
    show StableHlo.after hostOps0 (fun b => m (c, b)) _ = _
    after_results
    rfl
  exact e

/-- The first weights of the next half, spread. -/
theorem V_wb (c : Dev nD) : (V m c main_v21 : S2x2048x512.Idx → EReal)
    = spread (extractStridedSlice S2x16x64x256 ![0, 16, 0, 0] (shapeCast S2x32x64x256 (argW m c) shapeCasts_S2x2048x256_S2x32x64x256) slices_S2x32x64x256_S2x16x64x256_0_16_0_0) zerosW := by
  have e : V m c main_v21 = (truncf (s := S2x2048x512) (φ := .f32) (F := Ideal) .bf16
      (spread (extractStridedSlice S2x16x64x256 ![0, 16, 0, 0] (shapeCast S2x32x64x256 (m ((c : Thread nD τ).loc main_arg3)) shapeCasts_S2x2048x256_S2x32x64x256) slices_S2x32x64x256_S2x16x64x256_0_16_0_0) zerosW) bitsLt_bf16_f32) := by
    show StableHlo.after hostOps0 (fun b => m (c, b)) _ = _
    after_results
    rfl
  exact e

/-- The second weights, spread. -/
theorem V_w2 (c : Dev nD) : (V m c main_v26 : S2x512x128.Idx → EReal) = both (argU m c) zerosU := by
  have e : V m c main_v26 = (truncf (s := S2x512x128) (φ := .f32) (F := Ideal) .bf16 (both (m ((c : Thread nD τ).loc main_arg4)) zerosU) bitsLt_bf16_f32) := by
    show StableHlo.after hostOps0 (fun b => m (c, b)) _ = _
    after_results
  exact e

/-- The positions of the own half. -/
theorem V_pt (c : Dev nD) : (V m c main_v32 : S2x1x2048.Idx → EReal)
    = tiled (extractStridedSlice S2x16x64 ![0, 0, 0] (argP m c) slices_S2x32x64_S2x16x64_0_0_0) := by
  show StableHlo.after hostOps0 (fun b => m (c, b)) _ = _
  after_results
  rfl

/-- The positions of the next half. -/
theorem V_pb (c : Dev nD) : (V m c main_v38 : S2x1x2048.Idx → EReal)
    = tiled (extractStridedSlice S2x16x64 ![0, 16, 0] (argP m c) slices_S2x32x64_S2x16x64_0_16_0) := by
  show StableHlo.after hostOps0 (fun b => m (c, b)) _ = _
  after_results
  rfl

/-- The scale. -/
theorem V_g (c : Dev nD) : (V m c main_v42 : S1x128.Idx → EReal) = twice (argG m c) := by
  show StableHlo.after hostOps0 (fun b => m (c, b)) _ = _
  after_results
  rfl

/-- The keys, sixteen tokens to a row. -/
theorem V_k (c : Dev nD) : (V m c main_v43 : S16x128x2048.Idx → EReal) = shapeCast S16x128x2048 (argK m c) shapeCasts_S16x2048x128_S16x128x2048 := by
  show StableHlo.after hostOps0 (fun b => m (c, b)) _ = _
  after_results
  rfl

/-- The values, sixteen tokens to a row. -/
theorem V_v (c : Dev nD) : (V m c main_v44 : S16x128x2048.Idx → EReal) = shapeCast S16x128x2048 (argV m c) shapeCasts_S16x2048x128_S16x128x2048 := by
  show StableHlo.after hostOps0 (fun b => m (c, b)) _ = _
  after_results
  rfl

end Cert.CmpIdeal.Rows

end
-- ==== Proof.CmpPay.lean ====
/-
  What the compression's kernel computes from its staged blocks, entry by entry: the features of both heads from the
  rows and the next rows, and for the keys the features times the factor of their own head's sum of squares.
-/
module

public import proofs.«01_k».proof.Proof.Gen.CmpIdeal.Skeleton
public import proofs.«01_k».proof.Proof.CmpMath
public import Idealize.ShloMosaic.Lib.ValueIdx
public import Idealize.ShloMosaic.Lib.MatmulPlain
public import Idealize.ShloMosaic.Lib.KernelVsHost

@[expose] public section

set_option maxRecDepth 16384

noncomputable section

namespace Cert.CmpIdeal.Rows

open Cert.CmpIdeal Cert.CmpIdeal.Gen Idealize.ShloMosaic Idealize.ShloMosaic.ValueIdx
open Cert.Proof.Cmp (nxt hidK outK act fac grp lane sum_pick)

/-- The first product, entry by entry. -/
theorem mm1 (x : S128x2048.Idx → EReal) (w : S2048x512.Idx → EReal) (r : Fin 128) (j : Fin 512) :
    (matmul (F := Ideal) dot_S128x2048_S2048x512_S128x512_1_0_0_1_n_n none (φ₁ := .bf16) (φ₂ := .bf16) x w
        (constant (F := Ideal) S128x512 .f32 0x00000000#32) : S128x512.Idx → EReal) (ix2 r j)
      = ∑ k : Fin 2048, x (ix2 r k) * w (ix2 k j) := by
  refine (Ideal.matmul_plain_apply (M := 128) (K := 2048) (N := 512) none x w _ r j).trans ?_
  show Ideal.ofBits .f32 0x00000000#32 + _ = _
  rw [Ideal.ofBits_zero_f32, zero_add]

/-- The second product, entry by entry. -/
theorem mm2 (x : S128x512.Idx → EReal) (w : S512x128.Idx → EReal) (r : Fin 128) (j : Fin 128) :
    (matmul (F := Ideal) dot_S128x512_S512x128_S128x128_1_0_0_1_n_n none (φ₁ := .bf16) (φ₂ := .bf16) x w
        (constant (F := Ideal) S128x128 .f32 0x00000000#32) : S128x128.Idx → EReal) (ix2 r j)
      = ∑ k : Fin 512, x (ix2 r k) * w (ix2 k j) := by
  refine (Ideal.matmul_plain_apply (M := 128) (K := 512) (N := 128) none x w _ r j).trans ?_
  show Ideal.ofBits .f32 0x00000000#32 + _ = _
  rw [Ideal.ofBits_zero_f32, zero_add]

/-- Rotating by 127 of 128 rows brings the next row. -/
theorem rot_apply (y : S128x512.Idx → EReal) (n : Fin 128) (q : Fin 512) :
    dynamicRotate 0 127#32 none y rotates_S128x512_d0 (ix2 n q) = y (ix2 (nxt n) q) := by
  refine dynamicRotate_apply _ _ _ _ (ix2 n q) (ix2 (nxt n) q) fun b => ?_
  match b with
  | ⟨0, _⟩ =>
    show (n.val + 1) % 128 = (n.val + 128 - 127 % 128) % 128
    omega
  | ⟨1, _⟩ => rfl

/-- Rows with a row of positions added. -/
abbrev moved (x : S1x128x2048.Idx → EReal) (p : S1x1x2048.Idx → EReal) : S128x2048.Idx → EReal :=
  addf (F := Ideal) (φ := .f32) (shapeCast S128x2048 x shapeCasts_S1x128x2048_S128x2048)
    (broadcastTo S128x2048 (shapeCast S1x2048 p shapeCasts_S1x1x2048_S1x2048) broadcasts_S1x2048_S128x2048)

theorem moved_apply (x : S1x128x2048.Idx → EReal) (p : S1x1x2048.Idx → EReal) (n : Fin 128) (k : Fin 2048) :
    moved x p (ix2 n k) = x (ix3 (0 : Fin 1) n k) + p (ix3 (0 : Fin 1) (0 : Fin 1) k) := by
  refine congrArg₂ (· + ·) ?_ ?_
  · refine shapeCast_apply _ _ _ (ix3 (0 : Fin 1) n k) ?_
    rw [Shape.rowMajor_val_three, Shape.rowMajor_val_two]
    show (0 * 128 + n.val) * 2048 + k.val = n.val * 2048 + k.val
    omega
  · refine (broadcastTo_apply _ _ (ix2 n k) (ix2 (0 : Fin 1) k) fun a => by fin_cases a <;> rfl).trans ?_
    refine shapeCast_apply _ _ _ (ix3 (0 : Fin 1) (0 : Fin 1) k) ?_
    rw [Shape.rowMajor_val_three, Shape.rowMajor_val_two]
    show (0 * 1 + 0) * 2048 + k.val = 0 * 2048 + k.val
    omega

/-- One half's product. -/
abbrev halfProd (x : S1x128x2048.Idx → EReal) (p : S1x1x2048.Idx → EReal) (w : S1x2048x512.Idx → EReal) : S128x512.Idx → EReal :=
  matmul (F := Ideal) dot_S128x2048_S2048x512_S128x512_1_0_0_1_n_n none (φ₁ := .bf16) (φ₂ := .bf16) (moved x p)
    (shapeCast S2048x512 w shapeCasts_S1x2048x512_S2048x512) (constant (F := Ideal) S128x512 .f32 0x00000000#32)

theorem halfProd_apply (x : S1x128x2048.Idx → EReal) (p : S1x1x2048.Idx → EReal) (w : S1x2048x512.Idx → EReal) (n : Fin 128) (q : Fin 512) :
    halfProd x p w (ix2 n q) = ∑ k : Fin 2048, (x (ix3 (0 : Fin 1) n k) + p (ix3 (0 : Fin 1) (0 : Fin 1) k)) * w (ix3 (0 : Fin 1) k q) := by
  refine (mm1 _ _ n q).trans (Finset.sum_congr rfl fun k _ => congrArg₂ (· * ·) (moved_apply x p n k) ?_)
  refine shapeCast_apply _ _ _ (ix3 (0 : Fin 1) k q) ?_
  rw [Shape.rowMajor_val_three, Shape.rowMajor_val_two]
  show (0 * 2048 + k.val) * 512 + q.val = k.val * 512 + q.val
  omega

section
variable (x : S1x128x2048.Idx → EReal) (p₁ : S1x1x2048.Idx → EReal) (a : S1x2048x512.Idx → EReal) (p₂ : S1x1x2048.Idx → EReal)
  (b : S1x2048x512.Idx → EReal) (w : S1x512x128.Idx → EReal)

/-- The hidden units of both heads. -/
abbrev hidPay : S128x512.Idx → EReal :=
  addf (F := Ideal) (φ := .f32) (halfProd x p₁ a) (dynamicRotate 0 127#32 none (halfProd x p₂ b) rotates_S128x512_d0)

theorem pay2_apply (n c : Fin 128) :
    (k0_pay2 (F := Ideal) x p₁ a p₂ b w : S128x128.Idx → EReal) (ix2 n c)
      = outK (fun n k => x (ix3 (0 : Fin 1) n k)) (fun k => p₁ (ix3 (0 : Fin 1) (0 : Fin 1) k)) (fun k => p₂ (ix3 (0 : Fin 1) (0 : Fin 1) k))
          (fun k q => a (ix3 (0 : Fin 1) k q)) (fun k q => b (ix3 (0 : Fin 1) k q)) (fun q c => w (ix3 (0 : Fin 1) q c)) n c := by
  have e : (k0_pay2 (F := Ideal) x p₁ a p₂ b w : S128x128.Idx → EReal)
      = matmul (F := Ideal) dot_S128x512_S512x128_S128x128_1_0_0_1_n_n none (φ₁ := .bf16) (φ₂ := .bf16)
          (mulf (F := Ideal) (φ := .f32) (hidPay x p₁ a p₂ b) (logistic (F := Ideal) (φ := .f32) (hidPay x p₁ a p₂ b)))
          (shapeCast S512x128 w shapeCasts_S1x512x128_S512x128) (constant (F := Ideal) S128x128 .f32 0x00000000#32) := rfl
  rw [e]
  refine (mm2 _ _ n c).trans (Finset.sum_congr rfl fun q _ => congrArg₂ (· * ·) ?_ ?_)
  · show act (hidPay x p₁ a p₂ b (ix2 n q)) = _
    refine congrArg act (congrArg₂ (· + ·) (halfProd_apply x p₁ a n q) ?_)
    exact (rot_apply _ n q).trans (halfProd_apply x p₂ b (nxt n) q)
  · refine shapeCast_apply _ _ _ (ix3 (0 : Fin 1) q c) ?_
    rw [Shape.rowMajor_val_three, Shape.rowMajor_val_two]
    show (0 * 512 + q.val) * 128 + c.val = q.val * 128 + c.val
    omega

/-- The values' block: the features. -/
theorem pay1_apply (n c : Fin 128) :
    (k0_pay1 (F := Ideal) (k0_pay7 x) (k0_pay8 x p₁) a p₂ b w : S1x128x128.Idx → EReal) (ix3 (0 : Fin 1) n c)
      = (k0_pay2 (F := Ideal) x p₁ a p₂ b w : S128x128.Idx → EReal) (ix2 n c) := by
  have e : (k0_pay1 (F := Ideal) (k0_pay7 x) (k0_pay8 x p₁) a p₂ b w : S1x128x128.Idx → EReal)
      = shapeCast S1x128x128 (k0_pay2 (F := Ideal) x p₁ a p₂ b w : S128x128.Idx → EReal) shapeCasts_S128x128_S1x128x128 := rfl
  rw [e]
  refine shapeCast_apply _ _ _ (ix2 n c) ?_
  rw [Shape.rowMajor_val_three, Shape.rowMajor_val_two]
  show n.val * 128 + c.val = (0 * 128 + n.val) * 128 + c.val
  omega

end

/-- The mask holds at the second head's features. -/
theorem mask_apply : ∀ c : Fin 128, k0_pay4 (ix2 (0 : Fin 1) c) = if 64 ≤ c.val then 1#1 else 0#1 := by decide +kernel

/-- The mask over every row. -/
abbrev mask : S128x128.Idx → BitVec 1 := broadcastTo S128x128 (shapeCast S1x128 k0_pay4 shapeCasts_S1x128_S1x128) broadcasts_S1x128_S128x128

theorem pick_apply (x y : S128x128.Idx → EReal) (n c : Fin 128) :
    (select mask x y : S128x128.Idx → EReal) (ix2 n c) = if 64 ≤ c.val then x (ix2 n c) else y (ix2 n c) := by
  have e : mask (ix2 n c) = if 64 ≤ c.val then 1#1 else 0#1 := by
    refine (broadcastTo_apply _ _ (ix2 n c) (ix2 (0 : Fin 1) c) fun a => by fin_cases a <;> rfl).trans ?_
    rw [shapeCast_self]
    exact mask_apply c
  show Scalar.select (mask (ix2 n c)) (x (ix2 n c)) (y (ix2 n c)) = _
  rw [e]
  by_cases h : 64 ≤ c.val
  · rw [if_pos h, if_pos h]; rfl
  · rw [if_neg h, if_neg h]; rfl

/-- The sum of a row, as the reduction over the second axis takes it. -/
theorem row_sum (v : S128x128.Idx → EReal) (r : Fin 128) :
    (multiReduction (F := Ideal) (φ := .f32) .add [1] S128 v 0x00000000#32 reduces_S128x128_S128 (.inl rfl) rfl : S128.Idx → EReal) (ix1 r)
      = ∑ l : Fin 128, v (ix2 r l) := by
  refine (Ideal.multiReduction_add_single v _ reduces_S128x128_S128 (.inl rfl) rfl (ix1 r)).trans ?_
  exact Finset.sum_congr rfl fun l _ => congrArg v (Shape.idx_ext₂ rfl rfl)

/-- A sum over one head's features. -/
theorem head_sum (f : Fin 128 → EReal) (g : Fin 2) (h : ∀ c : Fin 128, c.val / 64 ≠ g.val → f c = 0) : ∑ c, f c = ∑ l, f (lane g l) := by
  refine sum_pick f (lane g) (fun p q e => ?_) fun k hk => h k fun hg => ?_
  · have e' : g.val * 64 + p.val = g.val * 64 + q.val := congrArg Fin.val e
    exact Fin.ext (by omega)
  · refine hk ⟨k.val % 64, by omega⟩ (Fin.ext ?_)
    show g.val * 64 + k.val % 64 = k.val
    omega

/-- The factor of each row from its sum of squares. -/
abbrev facRow (s : S128x128.Idx → EReal) : S128x1.Idx → EReal :=
  rsqrt (F := Ideal) (φ := .f32) (addf (F := Ideal) (φ := .f32) (divf (F := Ideal) (φ := .f32)
    (shapeCast S128x1 (multiReduction (F := Ideal) (φ := .f32) .add [1] S128 s 0x00000000#32 reduces_S128x128_S128 (.inl rfl) rfl) shapeCasts_S128_S128x1)
    (broadcast S128x1 (Scalar.ofBits (F := Ideal) .f32 0x42800000#32))) (broadcast S128x1 (Scalar.ofBits (F := Ideal) .f32 0x358637BD#32)))

theorem facRow_apply (s : S128x128.Idx → EReal) (n c : Fin 128) :
    (broadcastTo S128x128 (shapeCast S128x1 (facRow s) shapeCasts_S128x1_S128x1) broadcasts_S128x1_S128x128 : S128x128.Idx → EReal) (ix2 n c)
      = fac (∑ l, s (ix2 n l)) := by
  rw [shapeCast_self]
  refine (broadcastTo_apply _ _ (ix2 n c) (ix2 n (0 : Fin 1)) fun a => by fin_cases a <;> rfl).trans ?_
  show fac ((shapeCast S128x1 _ shapeCasts_S128_S128x1 : S128x1.Idx → EReal) (ix2 n (0 : Fin 1))) = _
  refine congrArg fac ((shapeCast_apply _ _ (ix2 n (0 : Fin 1)) (ix1 n) ?_).trans (row_sum s n))
  rw [Shape.rowMajor_val_one, Shape.rowMajor_val_two]
  show n.val = n.val * 1 + 0
  omega

/-- The keys' block: the features times their head's factor times the scale. -/
theorem pay6_apply (v : S128x128.Idx → EReal) (g : S1x128.Idx → EReal) (n c : Fin 128) :
    (k0_pay6 (F := Ideal) v (k0_pay3 g) k0_pay4 (mulf (F := Ideal) (φ := .f32) v v) (Scalar.ofBits (F := Ideal) .f32 0x00000000#32) : S1x128x128.Idx → EReal)
        (ix3 (0 : Fin 1) n c)
      = v (ix2 n c) * fac (∑ l : Fin 64, v (ix2 n (lane (grp c) l)) * v (ix2 n (lane (grp c) l))) * g (ix2 (0 : Fin 1) c) := by
  let z : S128x128.Idx → EReal := broadcast S128x128 (Scalar.ofBits (F := Ideal) .f32 0x00000000#32)
  have hz : ∀ i, z i = 0 := fun i => Ideal.ofBits_zero_f32
  let q : S128x128.Idx → EReal := mulf (F := Ideal) (φ := .f32) v v
  have e : (k0_pay6 (F := Ideal) v (k0_pay3 g) k0_pay4 q (Scalar.ofBits (F := Ideal) .f32 0x00000000#32) : S1x128x128.Idx → EReal)
      = shapeCast S1x128x128 (mulf (F := Ideal) (φ := .f32) (mulf (F := Ideal) (φ := .f32) v
          (select mask (broadcastTo S128x128 (shapeCast S128x1 (facRow (select mask q z)) shapeCasts_S128x1_S128x1) broadcasts_S128x1_S128x128)
            (broadcastTo S128x128 (shapeCast S128x1 (facRow (select mask z q)) shapeCasts_S128x1_S128x1) broadcasts_S128x1_S128x128)))
          (broadcastTo S128x128 (shapeCast S1x128 g shapeCasts_S1x128_S1x128) broadcasts_S1x128_S128x128)) shapeCasts_S128x128_S1x128x128 := rfl
  refine (congrFun e _).trans ((shapeCast_apply _ _ _ (ix2 n c) ?_).trans ?_)
  · rw [Shape.rowMajor_val_three, Shape.rowMajor_val_two]
    show n.val * 128 + c.val = (0 * 128 + n.val) * 128 + c.val
    omega
  refine congrArg₂ (· * ·) (congrArg (v (ix2 n c) * ·) ?_) ?_
  · refine (pick_apply _ _ n c).trans ?_
    rw [facRow_apply, facRow_apply]
    have hg : (grp c).val = c.val / 64 := rfl
    by_cases h : 64 ≤ c.val
    · rw [if_pos h]
      refine congrArg fac ((head_sum _ (grp c) fun k hk => ?_).trans (Finset.sum_congr rfl fun l _ => ?_))
      · rw [pick_apply, if_neg (by omega), hz]
      · rw [pick_apply, if_pos (by show 64 ≤ c.val / 64 * 64 + l.val; omega)]
        rfl
    · rw [if_neg h]
      refine congrArg fac ((head_sum _ (grp c) fun k hk => ?_).trans (Finset.sum_congr rfl fun l _ => ?_))
      · rw [pick_apply, if_pos (by omega), hz]
      · rw [pick_apply, if_neg (by show ¬ 64 ≤ c.val / 64 * 64 + l.val; omega)]
        rfl
  · rw [shapeCast_self]
    exact broadcastTo_apply _ _ (ix2 n c) (ix2 (0 : Fin 1) c) fun a => by fin_cases a <;> rfl

end Cert.CmpIdeal.Rows

end
-- ==== Proof.CmpRow.lean ====
/-
  What the compression's kernel finds staged at each grid point: that batch's keys and values, sixteen tokens to a row,
  and every weight whole.
-/
module

public import proofs.«01_k».proof.Proof.CmpV
public import proofs.«01_k».proof.Proof.CmpPay

@[expose] public section

set_option maxRecDepth 16384

noncomputable section

namespace Cert.CmpIdeal.Rows

open Cert.CmpIdeal Cert.CmpIdeal.Gen Idealize.ShloMosaic Idealize.ShloMosaic.TcCoe Idealize.SL.Sem
open Idealize.ShloMosaic.ValueIdx
open Idealize.ShloMosaic.Pipeline (Dat)
open Cert.Proof.Cmp (outK outK_eq out fac grp sub lane keys vals)

variable (m : (ℓ : Loc nD τ sig) → Buf (Elt Ideal) ℓ) (ρ : Dev nD → PrngReg)

/-- Where each window's block sits: keys, values and results move with the grid point, the others stay. -/
theorem places : ∀ t : Fin cfg0.N,
    ((win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0))
    ∧ ((∀ a : Fin 3, win0_2.index t a = 0) ∧ (∀ a : Fin 3, win0_3.index t a = 0) ∧ (∀ a : Fin 3, win0_4.index t a = 0)
    ∧ (∀ a : Fin 3, win0_5.index t a = 0) ∧ (∀ a : Fin 3, win0_6.index t a = 0) ∧ (∀ a : Fin 2, win0_7.index t a = 0))
    ∧ ((win0_8.index t (0 : Fin 3) = t.val ∧ win0_8.index t (1 : Fin 3) = 0 ∧ win0_8.index t (2 : Fin 3) = 0)
    ∧ (win0_9.index t (0 : Fin 3) = t.val ∧ win0_9.index t (1 : Fin 3) = 0 ∧ win0_9.index t (2 : Fin 3) = 0)) :=
  (by decide +kernel : ∀ t : Fin grid0.N, _)

theorem zeros3 : (![0, 0, 0] : Fin 3 → Nat) = fun _ => 0 := funext fun a => by fin_cases a <;> rfl
theorem zeros2 : (![0, 0] : Fin 2 → Nat) = fun _ => 0 := funext fun a => by fin_cases a <;> rfl

/-- Two indices with three axes agree when their coordinates do. -/
theorem ext3 {s : Shape} (h : s.rank = 3) (i j : s.Idx) (e : ∀ a, (i a).val = (j a).val) : i = j := funext fun a => Fin.ext (e a)

/-- The staged keys at point `t` are batch `t` of the argument, sixteen tokens to a row. -/
theorem rows_k (c : Dev nD) (t : Fin cfg0.N) (b : Fin 16) (hb : b.val = t.val) (n : Fin 128) (k r : Fin 2048) (l : Fin 128)
    (hr : r.val = 16 * n.val + k.val / 128) (hl : l.val = k.val % 128) :
    (iblk m c 0 t : S1x128x2048.Idx → EReal) (ix3 (0 : Fin 1) n k) = argK m c (ix3 b r l) := by
  obtain ⟨⟨⟨e0, e1, e2⟩, -⟩, -⟩ := places t
  refine Eq.trans ?_ ((congrFun (V_k m c) _).trans (packed_apply (argK m c) b n k r l hr hl))
  show (V m c main_v43 : S16x128x2048.Idx → EReal) (((cfg0.win 0).blk t).view.emb (ix3 (0 : Fin 1) n k)) = _
  refine congrArg (V m c main_v43 : S16x128x2048.Idx → EReal) (ext3 rfl _ _ fun a => ?_)
  match a with
  | ⟨0, _⟩ =>
    show win0_0.index t (0 : Fin 3) * 1 + 1 * 0 = b.val
    rw [e0]; omega
  | ⟨1, _⟩ =>
    show win0_0.index t (1 : Fin 3) * 128 + 1 * n.val = n.val
    rw [e1]; omega
  | ⟨2, _⟩ =>
    show win0_0.index t (2 : Fin 3) * 2048 + 1 * k.val = k.val
    rw [e2]; omega

/-- The staged values likewise. -/
theorem rows_v (c : Dev nD) (t : Fin cfg0.N) (b : Fin 16) (hb : b.val = t.val) (n : Fin 128) (k r : Fin 2048) (l : Fin 128)
    (hr : r.val = 16 * n.val + k.val / 128) (hl : l.val = k.val % 128) :
    (iblk m c 1 t : S1x128x2048.Idx → EReal) (ix3 (0 : Fin 1) n k) = argV m c (ix3 b r l) := by
  obtain ⟨⟨-, ⟨e0, e1, e2⟩⟩, -⟩ := places t
  refine Eq.trans ?_ ((congrFun (V_v m c) _).trans (packed_apply (argV m c) b n k r l hr hl))
  show (V m c main_v44 : S16x128x2048.Idx → EReal) (((cfg0.win 1).blk t).view.emb (ix3 (0 : Fin 1) n k)) = _
  refine congrArg (V m c main_v44 : S16x128x2048.Idx → EReal) (ext3 rfl _ _ fun a => ?_)
  match a with
  | ⟨0, _⟩ =>
    show win0_1.index t (0 : Fin 3) * 1 + 1 * 0 = b.val
    rw [e0]; omega
  | ⟨1, _⟩ =>
    show win0_1.index t (1 : Fin 3) * 128 + 1 * n.val = n.val
    rw [e1]; omega
  | ⟨2, _⟩ =>
    show win0_1.index t (2 : Fin 3) * 2048 + 1 * k.val = k.val
    rw [e2]; omega

/-- A block as large as its array, at the array's start, is the array. -/
theorem whole_pt (c : Dev nD) (t : Fin cfg0.N) : (iblk m c 2 t : S2x1x2048.Idx → EReal) = V m c main_v32 := by
  obtain ⟨-, ⟨e, -⟩, -⟩ := places t
  funext i
  refine congrArg (V m c main_v32 : S2x1x2048.Idx → EReal) (ext3 rfl _ i fun a => ?_)
  show win0_2.index t a * _ + 1 * (i a).val = (i a).val
  rw [e a]; omega
theorem whole_pb (c : Dev nD) (t : Fin cfg0.N) : (iblk m c 3 t : S2x1x2048.Idx → EReal) = V m c main_v38 := by
  obtain ⟨-, ⟨-, e, -⟩, -⟩ := places t
  funext i
  refine congrArg (V m c main_v38 : S2x1x2048.Idx → EReal) (ext3 rfl _ i fun a => ?_)
  show win0_3.index t a * _ + 1 * (i a).val = (i a).val
  rw [e a]; omega
theorem whole_wt (c : Dev nD) (t : Fin cfg0.N) : (iblk m c 4 t : S2x2048x512.Idx → EReal) = V m c main_v11 := by
  obtain ⟨-, ⟨-, -, e, -⟩, -⟩ := places t
  funext i
  refine congrArg (V m c main_v11 : S2x2048x512.Idx → EReal) (ext3 rfl _ i fun a => ?_)
  show win0_4.index t a * _ + 1 * (i a).val = (i a).val
  rw [e a]; omega
theorem whole_wb (c : Dev nD) (t : Fin cfg0.N) : (iblk m c 5 t : S2x2048x512.Idx → EReal) = V m c main_v21 := by
  obtain ⟨-, ⟨-, -, -, e, -⟩, -⟩ := places t
  funext i
  refine congrArg (V m c main_v21 : S2x2048x512.Idx → EReal) (ext3 rfl _ i fun a => ?_)
  show win0_5.index t a * _ + 1 * (i a).val = (i a).val
  rw [e a]; omega
theorem whole_w2 (c : Dev nD) (t : Fin cfg0.N) : (iblk m c 6 t : S2x512x128.Idx → EReal) = V m c main_v26 := by
  obtain ⟨-, ⟨-, -, -, -, e, -⟩, -⟩ := places t
  funext i
  refine congrArg (V m c main_v26 : S2x512x128.Idx → EReal) (ext3 rfl _ i fun a => ?_)
  show win0_6.index t a * _ + 1 * (i a).val = (i a).val
  rw [e a]; omega
theorem whole_g (c : Dev nD) (t : Fin cfg0.N) : (iblk m c 7 t : S1x128.Idx → EReal) = V m c main_v42 := by
  obtain ⟨-, ⟨-, -, -, -, -, e⟩, -⟩ := places t
  funext i
  refine congrArg (V m c main_v42 : S1x128.Idx → EReal) (funext fun a => Fin.ext ?_)
  show win0_7.index t a * _ + 1 * (i a).val = (i a).val
  rw [e a]; omega

end Cert.CmpIdeal.Rows

end
-- ==== Proof.CmpFeat.lean ====
/-
  The features the compression's kernel forms from weights spread over both heads are the features of one head.
-/
module

public import proofs.«01_k».proof.Proof.CmpRow
public import proofs.«01_k».proof.Proof.CmpPay

@[expose] public section

set_option maxRecDepth 16384

noncomputable section

namespace Cert.CmpIdeal.Rows

open Cert.CmpIdeal Cert.CmpIdeal.Gen Idealize.ShloMosaic Idealize.ShloMosaic.TcCoe Idealize.SL.Sem
open Idealize.ShloMosaic.ValueIdx
open Idealize.ShloMosaic.Pipeline (Dat)
open Cert.Proof.Cmp (outK outK_eq out fac grp sub lane keys vals)

variable (m : (ℓ : Loc nD τ sig) → Buf (Elt Ideal) ℓ) (ρ : Dev nD → PrngReg)

theorem zerosW_apply (i : S2x16x64x256.Idx) : zerosW i = 0 := Ideal.ofBits_zero_f32
theorem zerosU_apply (i : S2x256x64.Idx) : zerosU i = 0 := Ideal.ofBits_zero_f32

/-- The first weights' half from place `o` on, spread: the weight where the heads agree. -/
theorem spread_same (o : ℕ) (h : S2x32x64x256.Slices ![0, o, 0, 0] S2x16x64x256) (w : S2x2048x256.Idx → EReal) (a : Fin 2) (k : Fin 2048) (q : Fin 512)
    (p : Fin 2048) (v : Fin 256) (hg : k.val % 128 / 64 = q.val / 256) (hp : p.val = (o + k.val / 128) * 64 + k.val % 64) (hv : v.val = q.val % 256) :
    spread (extractStridedSlice S2x16x64x256 ![0, o, 0, 0] (shapeCast S2x32x64x256 w shapeCasts_S2x2048x256_S2x32x64x256) h) zerosW (ix3 a k q)
      = w (ix3 a p v) := by
  rw [spread_apply, if_pos hg]
  exact (half_apply o h w a (⟨k.val / 128, by omega⟩ : Fin 16) (⟨k.val % 64, by omega⟩ : Fin 64) (⟨q.val % 256, by omega⟩ : Fin 256) p hp).trans
    (congrArg (fun z => w (ix3 a p z)) (Fin.ext hv.symm))
/-- And zero where they differ. -/
theorem spread_diff (p : S2x16x64x256.Idx → EReal) (a : Fin 2) (k : Fin 2048) (q : Fin 512)
    (hg : k.val % 128 / 64 ≠ q.val / 256) : spread p zerosW (ix3 a k q) = 0 := by
  rw [spread_apply, if_neg hg]
  exact zerosW_apply _

/-- The features the kernel forms from a staged batch, whose rows `X` are those of `T`, with the weights of keys
    (`a = 0`) or of values (`a = 1`), are the features. -/
theorem feats (c : Dev nD) (a : Fin 2) (T : S16x2048x128.Idx → EReal) (b : Fin 16) (X : Fin 128 → Fin 2048 → EReal)
    (hX : ∀ (n : Fin 128) (k r : Fin 2048) (l : Fin 128), r.val = 16 * n.val + k.val / 128 → l.val = k.val % 128 → X n k = T (ix3 b r l)) (n e : Fin 128) :
    outK X (fun k => (V m c main_v32 : S2x1x2048.Idx → EReal) (ix3 a (0 : Fin 1) k)) (fun k => (V m c main_v38 : S2x1x2048.Idx → EReal) (ix3 a (0 : Fin 1) k))
        (fun k q => (V m c main_v11 : S2x2048x512.Idx → EReal) (ix3 a k q)) (fun k q => (V m c main_v21 : S2x2048x512.Idx → EReal) (ix3 a k q))
        (fun q l => (V m c main_v26 : S2x512x128.Idx → EReal) (ix3 a q l)) n e
      = out T (argP m c) (argW m c) (argU m c) a b n (grp e) (sub e) := by
  rw [V_pt, V_pb, V_wt, V_wb, V_w2]
  refine outK_eq T (argP m c) (argW m c) (argU m c) a b _ _ _ _ _ _ hX ?_ ?_ ?_ ?_ ?_ ?_ ?_ ?_ n e
  · intro k l d hl hd
    obtain rfl : d = ⟨k.val % 64, Nat.mod_lt _ (by norm_num)⟩ := Fin.ext hd
    exact (tiled_apply _ a k).trans (posHalf_apply 0 _ _ a (⟨k.val / 128, by omega⟩ : Fin 16) _ l hl)
  · intro k l d hl hd
    obtain rfl : d = ⟨k.val % 64, Nat.mod_lt _ (by norm_num)⟩ := Fin.ext hd
    exact (tiled_apply _ a k).trans (posHalf_apply 16 _ _ a (⟨k.val / 128, by omega⟩ : Fin 16) _ l hl)
  · exact fun k q p v hg hp hv => spread_same 0 _ _ a k q p v hg hp hv
  · exact fun k q hg => spread_diff _ a k q hg
  · exact fun k q p v hg hp hv => spread_same 16 _ _ a k q p v hg hp hv
  · exact fun k q hg => spread_diff _ a k q hg
  · intro q l v d hg hv hd
    obtain rfl : v = ⟨q.val % 256, Nat.mod_lt _ (by norm_num)⟩ := Fin.ext hv
    obtain rfl : d = ⟨l.val % 64, Nat.mod_lt _ (by norm_num)⟩ := Fin.ext hd
    exact (both_apply _ _ a q l).trans (by rw [if_pos hg])
  · intro q l hg
    exact (both_apply _ _ a q l).trans (by rw [if_neg hg]; exact zerosU_apply _)

/-- The compressed keys of the arguments. -/
abbrev resK (c : Dev nD) : S16x128x128.Idx → EReal := keys (argK m c) (argP m c) (argW m c) (argU m c) (argG m c)
/-- The compressed values of the arguments. -/
abbrev resV (c : Dev nD) : S16x128x128.Idx → EReal := vals (argV m c) (argP m c) (argW m c) (argU m c)

/-- The half of a two-part array a load takes: part `a`. -/
theorem part_apply {A B : ℕ} (x : (⟨3, ![2, A, B]⟩ : Shape).Idx → EReal) (o : ℕ) (a : Fin 2) (ha : a.val = o)
    (h : ∀ d, (![o, 0, 0] : Fin 3 → ℕ) d + (⟨3, ![1, A, B]⟩ : Shape).size d ≤ (⟨3, ![2, A, B]⟩ : Shape).size d) (i : Fin A) (j : Fin B) :
    x ((Rect.unit (s := ⟨3, ![2, A, B]⟩) ![o, 0, 0] (⟨3, ![1, A, B]⟩ : Shape).size h).emb (ix3 (0 : Fin 1) i j)) = x (ix3 a i j) := by
  refine congrArg x (funext fun d => Fin.ext ?_)
  match d with
  | ⟨0, _⟩ => show o + 1 * 0 = a.val; omega
  | ⟨1, _⟩ => show 0 + 1 * i.val = i.val; omega
  | ⟨2, _⟩ => show 0 + 1 * j.val = j.val; omega

/-- The features from equal parts are equal. -/
theorem outK_congr {X : Fin 128 → Fin 2048 → EReal} {Q₁ Q₂ Q₁' Q₂' : Fin 2048 → EReal} {A B A' B' : Fin 2048 → Fin 512 → EReal} {W W' : Fin 512 → Fin 128 → EReal}
    (h₁ : ∀ k, Q₁ k = Q₁' k) (h₂ : ∀ k, Q₂ k = Q₂' k) (hA : ∀ k q, A k q = A' k q) (hB : ∀ k q, B k q = B' k q) (hW : ∀ q l, W q l = W' q l) (n l : Fin 128) :
    outK X Q₁ Q₂ A B W n l = outK X Q₁' Q₂' A' B' W' n l := by
  obtain rfl : Q₁ = Q₁' := funext h₁
  obtain rfl : Q₂ = Q₂' := funext h₂
  obtain rfl : A = A' := funext fun k => funext (hA k)
  obtain rfl : B = B' := funext fun k => funext (hB k)
  obtain rfl : W = W' := funext fun q => funext (hW q)
  rfl

end Cert.CmpIdeal.Rows

end
-- ==== Proof.CmpArr.lean ====
/-
  The compression of keys and values: the whole result arrays of the kernel. Each of the 16 grid points stages one
  batch's keys and values and every weight, and writes back that batch's compressed keys and values.
-/
module

public import proofs.«01_k».proof.Proof.CmpFeat
public import proofs.«01_k».proof.Proof.CmpPay

@[expose] public section

set_option maxRecDepth 16384

noncomputable section

namespace Cert.CmpIdeal.Rows

open Cert.CmpIdeal Cert.CmpIdeal.Gen Idealize.ShloMosaic Idealize.ShloMosaic.TcCoe Idealize.SL.Sem
open Idealize.ShloMosaic.ValueIdx
open Idealize.ShloMosaic.Pipeline (Dat)
open Cert.Proof.Cmp (outK outK_eq out fac grp sub lane keys vals)

variable (m : (ℓ : Loc nD τ sig) → Buf (Elt Ideal) ℓ) (ρ : Dev nD → PrngReg)

/-- What point `t` computes from the staged keys. -/
theorem feats_k (c : Dev nD) (t : Fin cfg0.N) (b : Fin 16) (hb : b.val = t.val) (n l : Fin 128) :
    (k0_pay2 (F := Ideal) (iblk m c 0 t) (View.ld (iblk m c 2 t) r0_1) (View.ld (iblk m c 4 t) r0_2) (View.ld (iblk m c 3 t) r0_1)
        (View.ld (iblk m c 5 t) r0_2) (View.ld (iblk m c 6 t) r0_3) : S128x128.Idx → EReal) (ix2 n l)
      = out (argK m c) (argP m c) (argW m c) (argU m c) 0 b n (grp l) (sub l) := by
  refine (pay2_apply _ _ _ _ _ _ n l).trans (Eq.trans (outK_congr ?_ ?_ ?_ ?_ ?_ n l) (feats m c 0 (argK m c) b _ (rows_k m c t b hb) n l))
  · exact fun k => (part_apply (A := 1) (B := 2048) (iblk m c 2 t) 0 0 rfl _ (0 : Fin 1) k).trans (congrFun (whole_pt m c t) _)
  · exact fun k => (part_apply (A := 1) (B := 2048) (iblk m c 3 t) 0 0 rfl _ (0 : Fin 1) k).trans (congrFun (whole_pb m c t) _)
  · exact fun k q => (part_apply (A := 2048) (B := 512) (iblk m c 4 t) 0 0 rfl _ k q).trans (congrFun (whole_wt m c t) _)
  · exact fun k q => (part_apply (A := 2048) (B := 512) (iblk m c 5 t) 0 0 rfl _ k q).trans (congrFun (whole_wb m c t) _)
  · exact fun q j => (part_apply (A := 512) (B := 128) (iblk m c 6 t) 0 0 rfl _ q j).trans (congrFun (whole_w2 m c t) _)

/-- What point `t` computes from the staged values. -/
theorem feats_v (c : Dev nD) (t : Fin cfg0.N) (b : Fin 16) (hb : b.val = t.val) (n l : Fin 128) :
    (k0_pay2 (F := Ideal) (iblk m c 1 t) (View.ld (iblk m c 2 t) r0_6) (View.ld (iblk m c 4 t) r0_7) (View.ld (iblk m c 3 t) r0_6)
        (View.ld (iblk m c 5 t) r0_7) (View.ld (iblk m c 6 t) r0_8) : S128x128.Idx → EReal) (ix2 n l)
      = out (argV m c) (argP m c) (argW m c) (argU m c) 1 b n (grp l) (sub l) := by
  refine (pay2_apply _ _ _ _ _ _ n l).trans (Eq.trans (outK_congr ?_ ?_ ?_ ?_ ?_ n l) (feats m c 1 (argV m c) b _ (rows_v m c t b hb) n l))
  · exact fun k => (part_apply (A := 1) (B := 2048) (iblk m c 2 t) 1 1 rfl _ (0 : Fin 1) k).trans (congrFun (whole_pt m c t) _)
  · exact fun k => (part_apply (A := 1) (B := 2048) (iblk m c 3 t) 1 1 rfl _ (0 : Fin 1) k).trans (congrFun (whole_pb m c t) _)
  · exact fun k q => (part_apply (A := 2048) (B := 512) (iblk m c 4 t) 1 1 rfl _ k q).trans (congrFun (whole_wt m c t) _)
  · exact fun k q => (part_apply (A := 2048) (B := 512) (iblk m c 5 t) 1 1 rfl _ k q).trans (congrFun (whole_wb m c t) _)
  · exact fun q j => (part_apply (A := 512) (B := 128) (iblk m c 6 t) 1 1 rfl _ q j).trans (congrFun (whole_w2 m c t) _)

theorem grp_lane (g : Fin 2) (l : Fin 64) : grp (lane g l) = g := Fin.ext (by show (g.val * 64 + l.val) / 64 = g.val; omega)
theorem sub_lane (g : Fin 2) (l : Fin 64) : sub (lane g l) = l := Fin.ext (by show (g.val * 64 + l.val) % 64 = l.val; omega)

/-- Where an index of a block of results lies. -/
theorem block_idx (y : S1x128x128.Idx) : ∃ n j : Fin 128, y = ix3 (0 : Fin 1) n j := by
  refine ⟨y 1, y 2, ext3 rfl _ _ fun a => ?_⟩
  match a with
  | ⟨0, _⟩ =>
    have : (y 0).val < 1 := (y 0).isLt
    show (y 0).val = 0
    omega
  | ⟨1, _⟩ => rfl
  | ⟨2, _⟩ => rfl

/-- Point `t` writes back batch `t` of the compressed keys. -/
theorem flushed_k (c : Dev nD) (t : Fin cfg0.N) : (dats m 0 c).flushed 8 t = (win0_8.blk t).view.read (Elt Ideal) (resK m c) := by
  rw [Value.flushed8]
  unfold out0_8
  rw [View.canon_unit_zero zeros3, View.ld_unit_zero zeros3, View.ld_unit_zero zeros2]
  funext y
  obtain ⟨n, j, rfl⟩ := block_idx y
  have hN : t.val < 16 := lt_of_lt_of_eq t.isLt N_0
  obtain ⟨-, -, ⟨e0, e1, e2⟩, -⟩ := places t
  have hi : ((win0_8.blk t).view.emb (ix3 (0 : Fin 1) n j) : S16x128x128.Idx) = ix3 (⟨t.val, hN⟩ : Fin 16) n j := by
    refine ext3 rfl _ _ fun a => ?_
    match a with
    | ⟨0, _⟩ => show win0_8.index t (0 : Fin 3) * 1 + 1 * 0 = t.val; rw [e0]; omega
    | ⟨1, _⟩ => show win0_8.index t (1 : Fin 3) * 128 + 1 * n.val = n.val; rw [e1]; omega
    | ⟨2, _⟩ => show win0_8.index t (2 : Fin 3) * 128 + 1 * j.val = j.val; rw [e2]; omega
  show _ = resK m c ((win0_8.blk t).view.emb (ix3 (0 : Fin 1) n j))
  rw [hi]
  refine (pay6_apply _ _ n j).trans ?_
  refine congrArg₂ (· * ·) (congrArg₂ (fun x y => x * fac y) (feats_k m c t ⟨t.val, hN⟩ rfl n j) (Finset.sum_congr rfl fun l _ => ?_)) ?_
  · have e := feats_k m c t ⟨t.val, hN⟩ rfl n (lane (grp j) l)
    rw [grp_lane, sub_lane] at e
    exact congrArg₂ (· * ·) e e
  · exact (congrFun (whole_g m c t) _).trans ((congrFun (V_g m c) _).trans (twice_apply _ j))

/-- Point `t` writes back batch `t` of the compressed values. -/
theorem flushed_v (c : Dev nD) (t : Fin cfg0.N) : (dats m 0 c).flushed 9 t = (win0_9.blk t).view.read (Elt Ideal) (resV m c) := by
  rw [Value.flushed9]
  unfold out0_9
  rw [View.canon_unit_zero zeros3, View.ld_unit_zero zeros3]
  funext y
  obtain ⟨n, j, rfl⟩ := block_idx y
  have hN : t.val < 16 := lt_of_lt_of_eq t.isLt N_0
  obtain ⟨-, -, -, ⟨e0, e1, e2⟩⟩ := places t
  have hi : ((win0_9.blk t).view.emb (ix3 (0 : Fin 1) n j) : S16x128x128.Idx) = ix3 (⟨t.val, hN⟩ : Fin 16) n j := by
    refine ext3 rfl _ _ fun a => ?_
    match a with
    | ⟨0, _⟩ => show win0_9.index t (0 : Fin 3) * 1 + 1 * 0 = t.val; rw [e0]; omega
    | ⟨1, _⟩ => show win0_9.index t (1 : Fin 3) * 128 + 1 * n.val = n.val; rw [e1]; omega
    | ⟨2, _⟩ => show win0_9.index t (2 : Fin 3) * 128 + 1 * j.val = j.val; rw [e2]; omega
  show _ = resV m c ((win0_9.blk t).view.emb (ix3 (0 : Fin 1) n j))
  rw [hi]
  exact (pay1_apply _ _ _ _ _ _ n j).trans (feats_v m c t ⟨t.val, hN⟩ rfl n j)

/-- Point `t`'s block of the keys is batch `t`. -/
theorem mem_k (t : Fin cfg0.N) (i : S16x128x128.Idx) (h : (i 0).val = t.val) : i ∈ ((cfg0.win 8).blk t).view.set := by
  have h1 : (i 1).val < 128 := (i 1).isLt
  have h2 : (i 2).val < 128 := (i 2).isLt
  obtain ⟨-, -, ⟨e0, e1, e2⟩, -⟩ := places t
  show i ∈ ((View.whole main_v45_0).slice (win0_8.rect t)).set
  rw [View.set_slice_whole, Rect.mem_set_unit]
  intro a
  match a with
  | ⟨0, _⟩ =>
    show win0_8.index t (0 : Fin 3) * 1 ≤ (i 0).val ∧ (i 0).val < win0_8.index t (0 : Fin 3) * 1 + 1
    rw [e0]; omega
  | ⟨1, _⟩ =>
    show win0_8.index t (1 : Fin 3) * 128 ≤ (i 1).val ∧ (i 1).val < win0_8.index t (1 : Fin 3) * 128 + 128
    rw [e1]; omega
  | ⟨2, _⟩ =>
    show win0_8.index t (2 : Fin 3) * 128 ≤ (i 2).val ∧ (i 2).val < win0_8.index t (2 : Fin 3) * 128 + 128
    rw [e2]; omega

/-- Point `t`'s block of the values is batch `t`. -/
theorem mem_v (t : Fin cfg0.N) (i : S16x128x128.Idx) (h : (i 0).val = t.val) : i ∈ ((cfg0.win 9).blk t).view.set := by
  have h1 : (i 1).val < 128 := (i 1).isLt
  have h2 : (i 2).val < 128 := (i 2).isLt
  obtain ⟨-, -, -, ⟨e0, e1, e2⟩⟩ := places t
  show i ∈ ((View.whole main_v45_1).slice (win0_9.rect t)).set
  rw [View.set_slice_whole, Rect.mem_set_unit]
  intro a
  match a with
  | ⟨0, _⟩ =>
    show win0_9.index t (0 : Fin 3) * 1 ≤ (i 0).val ∧ (i 0).val < win0_9.index t (0 : Fin 3) * 1 + 1
    rw [e0]; omega
  | ⟨1, _⟩ =>
    show win0_9.index t (1 : Fin 3) * 128 ≤ (i 1).val ∧ (i 1).val < win0_9.index t (1 : Fin 3) * 128 + 128
    rw [e1]; omega
  | ⟨2, _⟩ =>
    show win0_9.index t (2 : Fin 3) * 128 ≤ (i 2).val ∧ (i 2).val < win0_9.index t (2 : Fin 3) * 128 + 128
    rw [e2]; omega

/-- The keys' array after the run. -/
theorem final_k (c : Dev nD) : (dats m 0 c).arrAt 8 cfg0.N = resK m c :=
  (dats m 0 c).arrAt_eq_of_cover 8 (resK m c) (fun t _ => flushed_k m c t) fun i =>
    ⟨⟨(i 0).val, lt_of_lt_of_eq (i 0).isLt N_0.symm⟩, flush0_8 _, mem_k _ i rfl⟩

/-- The values' array after the run. -/
theorem final_v (c : Dev nD) : (dats m 0 c).arrAt 9 cfg0.N = resV m c :=
  (dats m 0 c).arrAt_eq_of_cover 9 (resV m c) (fun t _ => flushed_v m c t) fun i =>
    ⟨⟨(i 0).val, lt_of_lt_of_eq (i 0).isLt N_0.symm⟩, flush0_9 _, mem_v _ i rfl⟩

/-- The run: the results are the compressed keys and values of the arguments, which stay as they were. -/
theorem run : θ_run defs (onTc (τ := τ) (main (F := Ideal))) ⟨m, fun _ => 0, ρ⟩ fun r => ∀ c : Dev nD,
      r.2.mem ((c : Thread nD τ).loc main_v45_0) = resK m c
      ∧ r.2.mem ((c : Thread nD τ).loc main_v45_1) = resV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final_k m c), (h c).2.1.trans (final_v m c), (h c).2.2⟩) (Value.run_blocks m ρ)

end Cert.CmpIdeal.Rows

end
-- ==== Proof.CmpRefIdx.lean ====
/-
  The compression's reference: which token each place of each window holds, the gather that fetches it, and the product
  of a four-axis array by a matrix.
-/
module

public import proofs.«01_k».proof.Proof.Gen.CmpRefIdeal
public import proofs.«01_k».proof.Proof.CmpMath
public import Idealize.ShloMosaic.Lib.StackMember
public import Idealize.ShloMosaic.Lib.IdealHost
public import Idealize.ShloMosaic.Lib.Pipeline.Value

@[expose] public section

set_option maxRecDepth 16384

noncomputable section

namespace Cert.Proof.Cmp

open Idealize.ShloMosaic Idealize.ShloMosaic.ValueIdx
open Cert.CmpRefIdeal Cert.CmpRefIdeal.Facts₀

/-- The number of tokens, or one if it were zero. -/
abbrev span : S_.Idx → BitVec 32 := select (cmpi .eq (id (constantI S_ 32 2048#32)) (constantI S_ 32 0#32)) (constantI S_ 32 1#32) (id (constantI S_ 32 2048#32))
/-- The remainders of the places' tokens. -/
abbrev rests : S128x32.Idx → BitVec 32 :=
  Host.remsi (addi (broadcastInDim S128x32 ![0, 1] bcast_S128x1_S128x32_0_1 (muli (broadcastInDim S128x1 ![0] bcast_S128_S128x1_0 (iotaInDim S128 32 0)) (broadcastInDim S128x1 ![] bcast_S_S128x1 (constantI S_ 32 16#32)))) (broadcastInDim S128x32 ![0, 1] bcast_S1x32_S128x32_0_1 (broadcastInDim S1x32 ![1] bcast_S32_S1x32_1 (iotaInDim S32 32 0)))) (broadcastInDim S128x32 ![] bcast_S_S128x32 span)
/-- The tokens. -/
abbrev toks : S128x32.Idx → BitVec 32 :=
  select (andi (cmpi .ne (cmpi .slt rests (broadcastInDim S128x32 ![] bcast_S_S128x32 (constantI S_ 32 0#32))) (broadcastInDim S128x32 ![] bcast_S_S128x32 (cmpi .slt span (constantI S_ 32 0#32))))
    (cmpi .ne rests (broadcastInDim S128x32 ![] bcast_S_S128x32 (constantI S_ 32 0#32)))) (addi rests (broadcastInDim S128x32 ![] bcast_S_S128x32 span)) rests

/-- The token at place `l` of window `n`. -/
theorem toks_apply : ∀ (n : Fin 128) (l : Fin 32), (toks (ix2 n l)).toInt.toNat = (16 * n.val + l.val) % 2048 := by decide +kernel

variable {α : Type}

/-- Entry `(b, n, l, g, d)` of the gathered windows. -/
theorem gather_toks (x : S16x2048x2x64.Idx → α) (idx : IVec S128x32x1 32) (b : Fin 16) (n : Fin 128) (l : Fin 32) (g : Fin 2) (d : Fin 64) (t : Fin 2048)
    (ht : (idx (ix3 n l (0 : Fin 1))).toInt.toNat = t.val) :
    Host.gather gather_S16x2048x2x64_S128x32x1_S16x128x32x2x64_034_1_n_n_1_2_161264 x idx (ix5 b n l g d) = x (ix4 b t g d) := by
  unfold Host.gather
  refine congrArg x (funext fun a => Fin.ext ?_)
  show GatherDims.start gather_S16x2048x2x64_S128x32x1_S16x128x32x2x64_034_1_n_n_1_2_161264 (ix5 b n l g d) idx a
      + GatherDims.batchCoord gather_S16x2048x2x64_S128x32x1_S16x128x32x2x64_034_1_n_n_1_2_161264 (ix5 b n l g d) a
      + GatherDims.offCoord gather_S16x2048x2x64_S128x32x1_S16x128x32x2x64_034_1_n_n_1_2_161264 (ix5 b n l g d) a = _
  rw [GatherDims.batchCoord_eq_zero _ _ _ List.not_mem_nil, Nat.add_zero]
  have other : ∀ a : Fin 4, a ≠ 1 → GatherDims.start gather_S16x2048x2x64_S128x32x1_S16x128x32x2x64_034_1_n_n_1_2_161264 (ix5 b n l g d) idx a = 0 := fun a ha => by
    unfold GatherDims.start
    exact dif_neg fun h => absurd (List.mem_singleton.mp h) ha
  have kept : ∀ a : Fin 4, a ≠ 1 → a ∈ GatherDims.sKept gather_S16x2048x2x64_S128x32x1_S16x128x32x2x64_034_1_n_n_1_2_161264 := fun a ha =>
    (GatherDims.mem_sKept _ _).mpr ⟨fun h => absurd (List.mem_singleton.mp h) ha, List.not_mem_nil⟩
  have h : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h with rfl | rfl | rfl | rfl
  · refine (congrArg₂ (· + ·) (other 0 (by decide)) ?_).trans (Nat.zero_add _)
    unfold GatherDims.offCoord
    rw [dif_pos (kept 0 (by decide))]
    rfl
  · refine (congrArg (_ + ·) (GatherDims.offCoord_eq_zero _ _ _ (fun h => ((GatherDims.mem_sKept _ _).mp h).1 (List.mem_singleton.mpr rfl)))).trans ?_
    rw [Nat.add_zero]
    unfold GatherDims.start
    rw [dif_pos (show (1 : Fin 4) ∈ GatherDims.startIndexMap gather_S16x2048x2x64_S128x32x1_S16x128x32x2x64_034_1_n_n_1_2_161264 from List.mem_singleton.mpr rfl)]
    have hsi : GatherDims.siIdx gather_S16x2048x2x64_S128x32x1_S16x128x32x2x64_034_1_n_n_1_2_161264 (ix5 b n l g d)
        ⟨List.idxOf (1 : Fin 4) (GatherDims.startIndexMap gather_S16x2048x2x64_S128x32x1_S16x128x32x2x64_034_1_n_n_1_2_161264),
        List.idxOf_lt_length_iff.2 (List.mem_singleton.mpr rfl)⟩ = ix3 n l (0 : Fin 1) := by
      funext a; refine Fin.ext ?_
      match a with
      | ⟨0, _⟩ => rfl
      | ⟨1, _⟩ => rfl
      | ⟨2, _⟩ => rfl
    refine (congrArg (fun z => min (idx z).toInt.toNat (2048 - 1)) hsi).trans ?_
    dsimp only
    rw [ht]
    have := t.isLt
    show min t.val (2048 - 1) = t.val
    omega
  · refine (congrArg₂ (· + ·) (other 2 (by decide)) ?_).trans (Nat.zero_add _)
    unfold GatherDims.offCoord
    rw [dif_pos (kept 2 (by decide))]
    rfl
  · refine (congrArg₂ (· + ·) (other 3 (by decide)) ?_).trans (Nat.zero_add _)
    unfold GatherDims.offCoord
    rw [dif_pos (kept 3 (by decide))]
    rfl

/-- The product of an array with four axes by a matrix, read at an index. -/
theorem dot_four {A B C K N : ℕ} {φ₁ φ₂ : FTy} (w : DotDims.WF ⟨4, ![A, B, C, K]⟩ ⟨2, ![K, N]⟩ ⟨4, ![A, B, C, N]⟩ [3] [0] [0, 1, 2] [1] [] [])
    (prec : Option ContractPrecision) (x : FVec Ideal ⟨4, ![A, B, C, K]⟩ φ₁) (y : FVec Ideal ⟨2, ![K, N]⟩ φ₂) (a : Fin A) (b : Fin B) (c : Fin C) (n : Fin N) :
    Host.dotGeneral (⟨[3], [0], [0, 1, 2], [1], [], [], w⟩ : DotDims _ _ _) prec x y (ix4 a b c n) = ∑ k : Fin K, x (ix4 a b c k) * y (ix2 k n) := by
  show FloatOps.dotGeneral _ prec _ x y (ix4 a b c n) = _
  rw [Ideal.dotGeneral_apply, ← Equiv.sum_comp (contrEquiv1 (⟨[3], [0], [0, 1, 2], [1], [], [], w⟩ : DotDims ⟨4, ![A, B, C, K]⟩ ⟨2, ![K, N]⟩ ⟨4, ![A, B, C, N]⟩) K rfl rfl).symm]
  refine Finset.sum_congr rfl fun k _ => ?_
  have hk := contrEquiv1_symm_val (⟨[3], [0], [0, 1, 2], [1], [], [], w⟩ : DotDims ⟨4, ![A, B, C, K]⟩ ⟨2, ![K, N]⟩ ⟨4, ![A, B, C, N]⟩) K rfl rfl k
  refine congrArg₂ (· * ·) (congrArg x (funext fun ax => Fin.ext ?_)) (congrArg y (funext fun ax => Fin.ext ?_))
  · match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact hk
  · match ax with
    | ⟨0, _⟩ => simp [DotDims.rhsIdx]; exact hk
    | ⟨1, _⟩ => simp [DotDims.rhsIdx]; rfl

end Cert.Proof.Cmp

end
-- ==== Proof.CmpRefArr.lean ====
/-
  The compression's reference, entry by entry: the gathered windows with the positions added, the hidden units, each let
  through by its own logistic, the features, and the keys' features normalised and scaled.
-/
module

public import proofs.«01_k».proof.Proof.CmpRefIdx

@[expose] public section

set_option maxRecDepth 16384

noncomputable section

namespace Cert.Proof.Cmp

open Idealize.ShloMosaic Idealize.ShloMosaic.ValueIdx
open Cert.CmpRefIdeal Cert.CmpRefIdeal.Facts₀

/-- One of the two members of a table. -/
theorem member {A B : ℕ} (x : (⟨3, ![2, A, B]⟩ : Shape).Idx → EReal) (o : ℕ) (kv : Fin 2) (ho : kv.val = o)
    (h : (⟨3, ![2, A, B]⟩ : Shape).Slices ![o, 0, 0] ⟨3, ![1, A, B]⟩) (hs : (⟨3, ![1, A, B]⟩ : Shape).ShapeCasts ⟨2, ![A, B]⟩) (i : Fin A) (j : Fin B) :
    shapeCast ⟨2, ![A, B]⟩ (extractStridedSlice ⟨3, ![1, A, B]⟩ ![o, 0, 0] x h) hs (ix2 i j) = x (ix3 kv i j) := by
  refine (shapeCast_apply _ _ (ix2 i j) (ix3 (0 : Fin 1) i j) ?_).trans ?_
  · rw [Shape.rowMajor_val_three, Shape.rowMajor_val_two]
    show (0 * A + i.val) * B + j.val = i.val * B + j.val
    rw [Nat.zero_mul, Nat.zero_add]
  · refine extractStridedSlice_apply _ x _ (ix3 (0 : Fin 1) i j) (ix3 kv i j) fun a => ?_
    match a with
    | ⟨0, _⟩ => show kv.val = o + 0; omega
    | ⟨1, _⟩ => exact (Nat.zero_add _).symm
    | ⟨2, _⟩ => exact (Nat.zero_add _).symm

/-- The windows of tokens with the positions added. -/
abbrev refWins (T : S16x2048x128.Idx → EReal) (P : S32x64.Idx → EReal) : S16x128x32x2x64.Idx → EReal :=
  addf (F := Ideal) (φ := .f32) (Host.gather gather_S16x2048x2x64_S128x32x1_S16x128x32x2x64_034_1_n_n_1_2_161264
      (shapeCast S16x2048x2x64 T shapeCasts_S16x2048x128_S16x2048x2x64) (broadcastInDim S128x32x1 ![0, 1] bcast_S128x32_S128x32x1_0_1 toks))
    (broadcastInDim S16x128x32x2x64 ![0, 1, 2, 3, 4] bcast_S1x1x32x1x64_S16x128x32x2x64_0_1_2_3_4 (broadcastInDim S1x1x32x1x64 ![2, 4] bcast_S32x64_S1x1x32x1x64_2_4 P))

theorem refWins_apply (T : S16x2048x128.Idx → EReal) (P : S32x64.Idx → EReal) (b : Fin 16) (n : Fin 128) (l : Fin 32) (g : Fin 2) (d : Fin 64) :
    refWins T P (ix5 b n l g d) = T (ix3 b (tok n l) (lane g d)) + P (ix2 l d) := by
  refine congrArg₂ (· + ·) ?_ ?_
  · refine (gather_toks _ _ b n l g d (tok n l) ?_).trans ?_
    · have e : broadcastInDim S128x32x1 ![0, 1] bcast_S128x32_S128x32x1_0_1 toks (ix3 n l (0 : Fin 1)) = toks (ix2 n l) :=
        broadcastInDim_apply _ _ toks (ix3 n l (0 : Fin 1)) (ix2 n l) fun a => by fin_cases a <;> rfl
      exact (congrArg (fun z => z.toInt.toNat) e).trans (toks_apply n l)
    · refine shapeCast_apply _ _ (ix4 b (tok n l) g d) (ix3 b (tok n l) (lane g d)) ?_
      rw [Shape.rowMajor_val_three, Shape.rowMajor_val_four]
      show (b.val * 2048 + (tok n l).val) * 128 + (g.val * 64 + d.val) = ((b.val * 2048 + (tok n l).val) * 2 + g.val) * 64 + d.val
      omega
  · refine (broadcastInDim_apply _ _ _ (ix5 b n l g d) (ix5 (0 : Fin 1) (0 : Fin 1) l (0 : Fin 1) d) fun a => by fin_cases a <;> rfl).trans ?_
    exact broadcastInDim_apply _ _ P (ix5 (0 : Fin 1) (0 : Fin 1) l (0 : Fin 1) d) (ix2 l d) fun a => by fin_cases a <;> rfl

/-- The windows head by head. -/
abbrev refFlat (T : S16x2048x128.Idx → EReal) (P : S32x64.Idx → EReal) : S16x128x2x2048.Idx → EReal :=
  shapeCast S16x128x2x2048 (transpose S16x128x2x32x64 [0, 1, 3, 2, 4] (refWins T P) transposes_S16x128x32x2x64_S16x128x2x32x64_0_1_3_2_4) shapeCasts_S16x128x2x32x64_S16x128x2x2048

theorem refFlat_apply (T : S16x2048x128.Idx → EReal) (P : S32x64.Idx → EReal) (b : Fin 16) (n : Fin 128) (g : Fin 2) (p : Fin 2048) :
    refFlat T P (ix4 b n g p) = T (ix3 b (tok n (place p)) (lane g (feat p))) + P (ix2 (place p) (feat p)) := by
  refine (shapeCast_apply _ _ (ix4 b n g p) (ix5 b n g (place p) (feat p)) ?_).trans ?_
  · rw [Shape.rowMajor_val_five, Shape.rowMajor_val_four]
    show (((b.val * 128 + n.val) * 2 + g.val) * 32 + p.val / 64) * 64 + p.val % 64 = ((b.val * 128 + n.val) * 2 + g.val) * 2048 + p.val
    omega
  · refine (transpose_apply _ _ _ (ix5 b n g (place p) (feat p)) (ix5 b n (place p) g (feat p)) fun a => by fin_cases a <;> rfl).trans ?_
    exact refWins_apply T P b n (place p) g (feat p)

/-- The hidden units. -/
abbrev refHid (T : S16x2048x128.Idx → EReal) (P : S32x64.Idx → EReal) (W : S2048x256.Idx → EReal) : S16x128x2x256.Idx → EReal :=
  Host.dotGeneral (F := Ideal) dot_S16x128x2x2048_S2048x256_S16x128x2x256_3_0_012_1_n_n none (refFlat T P) (φ₁ := .f32) (φ₂ := .f32) W
/-- One in every place. -/
abbrev ones : S16x128x2x256.Idx → EReal := broadcastInDim S16x128x2x256 ![] bcast_S_S16x128x2x256 (constant (F := Ideal) S_ .f32 0x3F800000#32)
/-- The hidden units let through. -/
abbrev refAct (H : S16x128x2x256.Idx → EReal) : S16x128x2x256.Idx → EReal :=
  mulf (F := Ideal) (φ := .f32) H (Host.divf (F := Ideal) (φ := .f32) ones (addf (F := Ideal) (φ := .f32) ones (Host.exp (F := Ideal) (φ := .f32) (Host.negf (F := Ideal) (φ := .f32) H))))
/-- The features. -/
abbrev refOut (T : S16x2048x128.Idx → EReal) (P : S32x64.Idx → EReal) (W : S2048x256.Idx → EReal) (U : S256x64.Idx → EReal) : S16x128x2x64.Idx → EReal :=
  Host.dotGeneral (F := Ideal) dot_S16x128x2x256_S256x64_S16x128x2x64_3_0_012_1_n_n none (refAct (refHid T P W)) (φ₁ := .f32) (φ₂ := .f32) U

theorem refAct_apply (H : S16x128x2x256.Idx → EReal) (i : S16x128x2x256.Idx) : refAct H i = act (H i) := by
  refine congrArg (H i * ·) ?_
  show Ideal.div (Ideal.ofBits .f32 0x3F800000#32) (Ideal.ofBits .f32 0x3F800000#32 + Ideal.exp (-_)) = _
  rw [Ideal.ofBits_one_f32]
  rfl

variable (T : Rows) (P : Pos) (w : Wide) (w' : Narrow) (k : S64.Idx → EReal)

/-- The features, entry by entry, from the members of the tables. -/
theorem refOut_apply (kv : Fin 2) (P' : S32x64.Idx → EReal) (W : S2048x256.Idx → EReal) (U : S256x64.Idx → EReal)
    (hP : ∀ l d, P' (ix2 l d) = P (ix3 kv l d)) (hW : ∀ p u, W (ix2 p u) = w (ix3 kv p u)) (hU : ∀ u e, U (ix2 u e) = w' (ix3 kv u e))
    (b : Fin 16) (n : Fin 128) (g : Fin 2) (e : Fin 64) : refOut T P' W U (ix4 b n g e) = out T P w w' kv b n g e := by
  refine (dot_four (A := 16) (B := 128) (C := 2) (K := 256) (N := 64) (φ₁ := .f32) (φ₂ := .f32) _ none (refAct (refHid T P' W)) U b n g e).trans ?_
  refine Finset.sum_congr rfl fun u _ => congrArg₂ (· * ·) ((refAct_apply _ _).trans (congrArg act ?_)) (hU u e)
  refine (dot_four (A := 16) (B := 128) (C := 2) (K := 2048) (N := 256) (φ₁ := .f32) (φ₂ := .f32) _ none (refFlat T P') W b n g u).trans ?_
  exact Finset.sum_congr rfl fun p _ => congrArg₂ (· * ·) ((refFlat_apply T P' b n g p).trans (congrArg (_ + ·) (hP _ _))) (hW p u)

/-- The features normalised and scaled. -/
abbrev refNorm (O : S16x128x2x64.Idx → EReal) (k : S64.Idx → EReal) : S16x128x2x64.Idx → EReal :=
  mulf (F := Ideal) (φ := .f32) (mulf (F := Ideal) (φ := .f32) O (broadcastInDim S16x128x2x64 ![0, 1, 2, 3] bcast_S16x128x2x1_S16x128x2x64_0_1_2_3
      (Host.rsqrt (F := Ideal) (φ := .f32) (addf (F := Ideal) (φ := .f32) (Host.divf (F := Ideal) (φ := .f32) (broadcastInDim S16x128x2x1 ![0, 1, 2] bcast_S16x128x2_S16x128x2x1_0_1_2
          (Host.reduceAdd (F := Ideal) (φ := .f32) (mulf (F := Ideal) (φ := .f32) O O) (constant S_ .f32 0x00000000#32) reducesTo_S16x128x2x64_S16x128x2_d3 h_S_))
        (broadcastInDim S16x128x2x1 ![] bcast_S_S16x128x2x1 (constant (F := Ideal) S_ .f32 0x42800000#32)))
        (broadcastInDim S16x128x2x1 ![] bcast_S_S16x128x2x1 (constant (F := Ideal) S_ .f32 0x358637BD#32))))))
    (broadcastInDim S16x128x2x64 ![0, 1, 2, 3] bcast_S1x1x1x64_S16x128x2x64_0_1_2_3 (broadcastInDim S1x1x1x64 ![3] bcast_S64_S1x1x1x64_3 k))

theorem refNorm_apply (O : S16x128x2x64.Idx → EReal) (k : S64.Idx → EReal) (b : Fin 16) (n : Fin 128) (g : Fin 2) (e : Fin 64) :
    refNorm O k (ix4 b n g e) = O (ix4 b n g e) * fac (∑ l : Fin 64, O (ix4 b n g l) * O (ix4 b n g l)) * k (ix1 e) := by
  refine congrArg₂ (· * ·) (congrArg (O (ix4 b n g e) * ·) ?_) ?_
  · refine (broadcastInDim_apply _ _ _ (ix4 b n g e) (ix4 b n g (0 : Fin 1)) fun a => by fin_cases a <;> rfl).trans ?_
    refine congrArg fac ?_
    refine (broadcastInDim_apply _ _ _ (ix4 b n g (0 : Fin 1)) (ix3 b n g) fun a => by fin_cases a <;> rfl).trans ?_
    refine (Ideal.hostReduceAdd_single reducesTo_S16x128x2x64_S16x128x2_d3 (by decide : S16x128x2x64.Reduces [3] S16x128x2) _ _ (ix3 b n g)).trans ?_
    show Ideal.ofBits .f32 0x00000000#32 + _ = _
    rw [Ideal.ofBits_zero_f32, zero_add]
    refine Finset.sum_congr rfl fun l _ => congrArg (fun i => O i * O i) ?_
    funext a
    match a with
    | ⟨0, _⟩ => rfl
    | ⟨1, _⟩ => rfl
    | ⟨2, _⟩ => rfl
    | ⟨3, _⟩ => rfl
  · refine (broadcastInDim_apply _ _ _ (ix4 b n g e) (ix4 (0 : Fin 1) (0 : Fin 1) (0 : Fin 1) e) fun a => by fin_cases a <;> rfl).trans ?_
    exact broadcastInDim_apply _ _ k (ix4 (0 : Fin 1) (0 : Fin 1) (0 : Fin 1) e) (ix1 e) fun a => by fin_cases a; rfl

/-- Both heads' features side by side. -/
theorem side (O : S16x128x2x64.Idx → EReal) (b : Fin 16) (n : Fin 128) (c : Fin 128) :
    shapeCast S16x128x128 O shapeCasts_S16x128x2x64_S16x128x128 (ix3 b n c) = O (ix4 b n (grp c) (sub c)) := by
  refine shapeCast_apply _ _ (ix3 b n c) (ix4 b n (grp c) (sub c)) ?_
  rw [Shape.rowMajor_val_three, Shape.rowMajor_val_four]
  show ((b.val * 128 + n.val) * 2 + c.val / 64) * 64 + c.val % 64 = (b.val * 128 + n.val) * 128 + c.val
  omega

/-- The member `o` of the positions' tables. -/
abbrev posAt (o : ℕ) (h : S2x32x64.Slices ![o, 0, 0] S1x32x64) : S32x64.Idx → EReal := shapeCast S32x64 (extractStridedSlice S1x32x64 ![o, 0, 0] P h) shapeCasts_S1x32x64_S32x64
/-- The member `o` of the first weights. -/
abbrev wideAt (o : ℕ) (h : S2x2048x256.Slices ![o, 0, 0] S1x2048x256) : S2048x256.Idx → EReal := shapeCast S2048x256 (extractStridedSlice S1x2048x256 ![o, 0, 0] w h) shapeCasts_S1x2048x256_S2048x256
/-- The member `o` of the second weights. -/
abbrev narrowAt (o : ℕ) (h : S2x256x64.Slices ![o, 0, 0] S1x256x64) : S256x64.Idx → EReal := shapeCast S256x64 (extractStridedSlice S1x256x64 ![o, 0, 0] w' h) shapeCasts_S1x256x64_S256x64

/-- The features of member `kv`, entry by entry. -/
theorem refOut_member (o : ℕ) (kv : Fin 2) (ho : kv.val = o) (h₁ : S2x32x64.Slices ![o, 0, 0] S1x32x64) (h₂ : S2x2048x256.Slices ![o, 0, 0] S1x2048x256)
    (h₃ : S2x256x64.Slices ![o, 0, 0] S1x256x64) (b : Fin 16) (n : Fin 128) (g : Fin 2) (e : Fin 64) :
    refOut T (posAt P o h₁) (wideAt w o h₂) (narrowAt w' o h₃) (ix4 b n g e) = out T P w w' kv b n g e :=
  refOut_apply T P w w' kv _ _ _ (fun l d => member (A := 32) (B := 64) P o kv ho h₁ _ l d) (fun p u => member (A := 2048) (B := 256) w o kv ho h₂ _ p u)
    (fun u e => member (A := 256) (B := 64) w' o kv ho h₃ _ u e) b n g e

/-- The reference's values. -/
theorem refVals_apply (i : S16x128x128.Idx) :
    shapeCast S16x128x128 (refOut T (posAt P 1 slices_S2x32x64_S1x32x64_1_0_0) (wideAt w 1 slices_S2x2048x256_S1x2048x256_1_0_0)
      (narrowAt w' 1 slices_S2x256x64_S1x256x64_1_0_0)) shapeCasts_S16x128x2x64_S16x128x128 i = vals T P w w' i := by
  obtain ⟨b, n, c, rfl⟩ : ∃ (b : Fin 16) (n c : Fin 128), i = ix3 b n c := ⟨i 0, i 1, i 2, eq_ix3 i⟩
  exact (side _ b n c).trans (refOut_member T P w w' 1 1 rfl _ _ _ b n (grp c) (sub c))

/-- The reference's keys. -/
theorem refKeys_apply (i : S16x128x128.Idx) :
    shapeCast S16x128x128 (refNorm (refOut T (posAt P 0 slices_S2x32x64_S1x32x64_0_0_0) (wideAt w 0 slices_S2x2048x256_S1x2048x256_0_0_0)
      (narrowAt w' 0 slices_S2x256x64_S1x256x64_0_0_0)) k) shapeCasts_S16x128x2x64_S16x128x128 i = keys T P w w' k i := by
  obtain ⟨b, n, c, rfl⟩ : ∃ (b : Fin 16) (n c : Fin 128), i = ix3 b n c := ⟨i 0, i 1, i 2, eq_ix3 i⟩
  refine (side _ b n c).trans ((refNorm_apply _ k b n (grp c) (sub c)).trans ?_)
  have e := fun l => refOut_member T P w w' 0 0 rfl slices_S2x32x64_S1x32x64_0_0_0 slices_S2x2048x256_S1x2048x256_0_0_0 slices_S2x256x64_S1x256x64_0_0_0 b n (grp c) l
  exact congrArg (· * k (ix1 (sub c))) (congrArg₂ (fun x y => x * fac y) (e (sub c)) (Finset.sum_congr rfl fun l _ => congrArg₂ (· * ·) (e l) (e l)))

end Cert.Proof.Cmp

end
-- ==== Proof.Cmp.lean ====
/-
  The claims about the compression of keys and values: the kernel that forms both heads at once and the plain reference
  that gathers the windows end with the same two arrays, and both leave their arguments alone.
-/
module

public import proofs.«01_k».proof.Defs
public import proofs.«01_k».proof.Proof.CmpArr
public import proofs.«01_k».proof.Proof.CmpRefArr
public import proofs.«01_k».proof.Proof.Gen.Cmp.Frame
public import proofs.«01_k».proof.Proof.Gen.CmpRefIdeal.Run
public import Idealize.ShloMosaic.Lib.Quiescent

@[expose] public section

set_option maxRecDepth 16384

noncomputable section

namespace Cert.Proof.Cmp

open Idealize.ShloMosaic Idealize.ShloMosaic.TcCoe Idealize.SL.Sem Idealize.ShloMosaic.ValueIdx

/-- The kernel's program terminates, leaving its arguments alone and every semaphore at zero. -/
theorem frame : Cert.quiescent_Cmp := fun m ρ _ => Cert.Cmp.Gen.frame m ρ
/-- So does its ideal program. -/
theorem frame_ideal : Cert.quiescent_CmpIdeal := fun m ρ _ => Cert.CmpIdeal.Gen.frame m ρ
/-- So does the reference, which uses no semaphore. -/
theorem frame_ref : Cert.quiescent_CmpRefIdeal := fun m ρ _ =>
  (θ_run Cert.CmpRefIdeal.defs _ _).mono (fun r h => ⟨fun c => (h c).2.2,
      Idealize.ShloMosaic.sem_eq_zero_of_no_sems (by decide) r.2⟩)
    (Cert.CmpRefIdeal.Value.run (F := Ideal) m ρ)

/-- From equal arguments the two programs end with equal keys and equal values. -/
theorem algebraic : Cert.algebraic_CmpIdeal_CmpRefIdeal := by
  intro m ρ m' ρ' _ hag
  refine ⟨fun c => Cert.CmpIdeal.Rows.resK m c, fun c => Cert.CmpIdeal.Rows.resV m c, Cert.CmpIdeal.Rows.run m ρ, ?_⟩
  refine (θ_run Cert.CmpRefIdeal.defs _ _).mono (fun _ h c => ⟨(h c).1.trans ?_, (h c).2.1.trans ?_, (h c).2.2⟩)
    (Cert.CmpRefIdeal.Value.run (F := Ideal) m' ρ')
  · obtain ⟨h0, h1, h2, h3, h4, h5⟩ := hag c
    unfold Cert.CmpRefIdeal.Value.res_main_v58
    rw [h0, h2, h3, h4, h5]
    exact funext fun i => refKeys_apply _ _ _ _ _ i
  · obtain ⟨h0, h1, h2, h3, h4, h5⟩ := hag c
    unfold Cert.CmpRefIdeal.Value.res_main_v60
    rw [h1, h2, h3, h4]
    exact funext fun i => refVals_apply _ _ _ _ i

end Cert.Proof.Cmp

end
-- ==== Proof.lean ====
module

public import proofs.«01_k».proof.Defs
public import proofs.«01_k».proof.Proof.Gen.Moe
public import proofs.«01_k».proof.Proof.Gen.Moe.Skeleton
public import proofs.«01_k».proof.Proof.Gen.Moe.Loops
public import proofs.«01_k».proof.Proof.Gen.Moe.Launch
public import proofs.«01_k».proof.Proof.Gen.Cmp.Frame
public import proofs.«01_k».proof.Proof.Gen.CmpIdeal.Value
public import proofs.«01_k».proof.Proof.Gen.CmpRefIdeal.Run
public import proofs.«01_k».proof.Proof.Gen.MoeIdeal
public import proofs.«01_k».proof.Proof.Gen.MoeIdeal.Skeleton
public import proofs.«01_k».proof.Proof.Gen.MoeIdeal.Loops
public import proofs.«01_k».proof.Proof.Gen.MoeIdeal.Launch
public import proofs.«01_k».proof.Proof.Gen.MoeRefIdeal
public import proofs.«01_k».proof.Proof.Gen.MoeRefIdeal.Run
public import proofs.«01_k».proof.Proof.Gen.Pre_tables_in_range
public import proofs.«01_k».proof.Proof.Gen.Cmb
public import proofs.«01_k».proof.Proof.Gen.Cmb.Skeleton
public import proofs.«01_k».proof.Proof.Gen.Cmb.Loops
public import proofs.«01_k».proof.Proof.Gen.Cmb.Launch
public import proofs.«01_k».proof.Proof.Gen.CmbIdeal
public import proofs.«01_k».proof.Proof.Gen.CmbIdeal.Skeleton
public import proofs.«01_k».proof.Proof.Gen.CmbIdeal.Loops
public import proofs.«01_k».proof.Proof.Gen.CmbIdeal.Launch
public import proofs.«01_k».proof.Proof.Gen.CmbRefIdeal
public import proofs.«01_k».proof.Proof.Gen.CmbRefIdeal.Run
public import proofs.«01_k».proof.Proof.Gen.Pre_slots_in_range
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetIdeal.Value
public import proofs.«01_k».proof.Proof.Gen.RetRefIdeal
public import proofs.«01_k».proof.Proof.Gen.RetRefIdeal.Run
public import proofs.«01_k».proof.Proof.Gen.InOdd
public import proofs.«01_k».proof.Proof.Gen.InOdd.Skeleton
public import proofs.«01_k».proof.Proof.Gen.InOdd.Launch
public import proofs.«01_k».proof.Proof.Gen.InOdd.Points
public import proofs.«01_k».proof.Proof.Gen.InOdd.Frame
public import proofs.«01_k».proof.Proof.Gen.InOddIdeal
public import proofs.«01_k».proof.Proof.Gen.InOddIdeal.Skeleton
public import proofs.«01_k».proof.Proof.Gen.InOddIdeal.Launch
public import proofs.«01_k».proof.Proof.Gen.InOddIdeal.Points
public import proofs.«01_k».proof.Proof.Gen.InOddIdeal.Frame
public import proofs.«01_k».proof.Proof.Gen.InOddIdeal.Value
public import proofs.«01_k».proof.Proof.Gen.InOddRefIdeal
public import proofs.«01_k».proof.Proof.Gen.InOddRefIdeal.Run
public import proofs.«01_k».proof.Proof.Gen.InEven
public import proofs.«01_k».proof.Proof.Gen.InEven.Skeleton
public import proofs.«01_k».proof.Proof.Gen.InEven.Launch
public import proofs.«01_k».proof.Proof.Gen.InEven.Points
public import proofs.«01_k».proof.Proof.Gen.InEven.Frame
public import proofs.«01_k».proof.Proof.Gen.InEvenIdeal
public import proofs.«01_k».proof.Proof.Gen.InEvenIdeal.Skeleton
public import proofs.«01_k».proof.Proof.Gen.InEvenIdeal.Launch
public import proofs.«01_k».proof.Proof.Gen.InEvenIdeal.Points
public import proofs.«01_k».proof.Proof.Gen.InEvenIdeal.Frame
public import proofs.«01_k».proof.Proof.Gen.InEvenIdeal.Value
public import proofs.«01_k».proof.Proof.Gen.InEvenRefIdeal
public import proofs.«01_k».proof.Proof.Gen.InEvenRefIdeal.Run
public import proofs.«01_k».proof.Proof.Gen.OutOdd
public import proofs.«01_k».proof.Proof.Gen.OutOdd.Skeleton
public import proofs.«01_k».proof.Proof.Gen.OutOdd.Launch
public import proofs.«01_k».proof.Proof.Gen.OutOdd.Points
public import proofs.«01_k».proof.Proof.Gen.OutOdd.Frame
public import proofs.«01_k».proof.Proof.Gen.OutOddIdeal
public import proofs.«01_k».proof.Proof.Gen.OutOddIdeal.Skeleton
public import proofs.«01_k».proof.Proof.Gen.OutOddIdeal.Launch
public import proofs.«01_k».proof.Proof.Gen.OutOddIdeal.Points
public import proofs.«01_k».proof.Proof.Gen.OutOddIdeal.Frame
public import proofs.«01_k».proof.Proof.Gen.OutOddIdeal.Value
public import proofs.«01_k».proof.Proof.Gen.OutOddRefIdeal
public import proofs.«01_k».proof.Proof.Gen.OutOddRefIdeal.Run
public import proofs.«01_k».proof.Proof.Gen.OutEven
public import proofs.«01_k».proof.Proof.Gen.OutEven.Skeleton
public import proofs.«01_k».proof.Proof.Gen.OutEven.Launch
public import proofs.«01_k».proof.Proof.Gen.OutEven.Points
public import proofs.«01_k».proof.Proof.Gen.OutEven.Frame
public import proofs.«01_k».proof.Proof.Gen.OutEvenIdeal
public import proofs.«01_k».proof.Proof.Gen.OutEvenIdeal.Skeleton
public import proofs.«01_k».proof.Proof.Gen.OutEvenIdeal.Launch
public import proofs.«01_k».proof.Proof.Gen.OutEvenIdeal.Points
public import proofs.«01_k».proof.Proof.Gen.OutEvenIdeal.Frame
public import proofs.«01_k».proof.Proof.Gen.OutEvenIdeal.Value
public import proofs.«01_k».proof.Proof.Gen.OutEvenRefIdeal
public import proofs.«01_k».proof.Proof.Gen.OutEvenRefIdeal.Run
public import proofs.«01_k».proof.Proof.Ret
public import proofs.«01_k».proof.Proof.RetPre
public import proofs.«01_k».proof.Proof.InOdd
public import proofs.«01_k».proof.Proof.InEven
public import proofs.«01_k».proof.Proof.OutOdd
public import proofs.«01_k».proof.Proof.OutEven
public import proofs.«01_k».proof.Proof.Moe
public import proofs.«01_k».proof.Proof.Cmb
public import proofs.«01_k».proof.Proof.Cmp
public import Idealize.ShloMosaic.Adequacy
public import Idealize.ShloMosaic.Init

@[expose] public section

noncomputable section

namespace Cert.Proof

open Idealize.ShloMosaic Idealize.SL.Sem Cert.Ret

/-- Every claim: the frames of the twenty-four programs, then what each ideal program is and computes. -/
theorem claim : Cert.Claim := ⟨Cert.Ret.Gen.facts, Cert.RetIdeal.Gen.facts, Cert.RetRefIdeal.Gen.facts, Cert.InOdd.Gen.facts, Cert.InOddIdeal.Gen.facts, Cert.InOddRefIdeal.Gen.facts, Cert.InEven.Gen.facts, Cert.InEvenIdeal.Gen.facts, Cert.InEvenRefIdeal.Gen.facts, Cert.OutOdd.Gen.facts, Cert.OutOddIdeal.Gen.facts, Cert.OutOddRefIdeal.Gen.facts, Cert.OutEven.Gen.facts, Cert.OutEvenIdeal.Gen.facts, Cert.OutEvenRefIdeal.Gen.facts,
  Cert.Moe.Gen.facts, Cert.MoeIdeal.Gen.facts, Cert.MoeRefIdeal.Gen.facts,
  Cert.Cmb.Gen.facts, Cert.CmbIdeal.Gen.facts, Cert.CmbRefIdeal.Gen.facts,
  Cert.Cmp.Gen.facts, Cert.CmpIdeal.Gen.facts, Cert.CmpRefIdeal.Gen.facts, Cert.Pre_tables_in_range.Gen.facts, Cert.Pre_slots_in_range.Gen.facts,
  Ret.frame, Ret.frame_ideal, Ret.frame_ref,
  InOdd.frame, InOdd.frame_ideal, InOdd.frame_ref,
  InEven.frame, InEven.frame_ideal, InEven.frame_ref,
  OutOdd.frame, OutOdd.frame_ideal, OutOdd.frame_ref,
  OutEven.frame, OutEven.frame_ideal, OutEven.frame_ref,
  Moe.frame, Moe.frame_ideal, Moe.frame_ref, Moe.frame_ref_pre,
  Cmb.frame, Cmb.frame_ideal, Cmb.frame_ref, Cmb.frame_ref_pre,
  Cmp.frame, Cmp.frame_ideal, Cmp.frame_ref,
  Ret.preserves, Ret.algebraic, trivial, InOdd.algebraic, trivial, InEven.algebraic, trivial, OutOdd.algebraic, trivial, OutEven.algebraic, trivial, Moe.algebraic, trivial, Cmb.algebraic, trivial, Cmp.algebraic⟩

end Cert.Proof

end
